-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S32x8192x128 : Shape := ⟨3, ![32, 8192, 128]⟩
abbrev S32x256 : Shape := ⟨2, ![32, 256]⟩
abbrev S64x256 : Shape := ⟨2, ![64, 256]⟩
abbrev S64 : Shape := ⟨1, ![64]⟩
abbrev S64x64 : Shape := ⟨2, ![64, 64]⟩
abbrev S_ : Shape := ⟨0, ![]⟩
abbrev S1x256 : Shape := ⟨2, ![1, 256]⟩
abbrev S256 : Shape := ⟨1, ![256]⟩

class Facts : Prop where
  bcast_S_S32x256 : S_.BroadcastsInDim S32x256 (![] : Fin 0 → Fin S32x256.rank)
  reducesTo_S32x256_S_d0_1 : S32x256.ReducesTo [0, 1] S_
  h_S_ : 0 < S_.numel
  slices_S32x256_S1x256_31_0 : S32x256.Slices ![31, 0] S1x256
  shapeCasts_S1x256_S256 : S1x256.ShapeCasts S256
  bcast_S_S256 : S_.BroadcastsInDim S256 (![] : Fin 0 → Fin S256.rank)
  reducesTo_S256_S_d0 : S256.ReducesTo [0] S_

variable [Facts]

def fn_part1 {F : FTy → Type} [FloatOps F] (main_arg2 : IVec S32x256 32) (main_v14 : IVec S_ 1) (main_v15 : IVec S1x256 32) : IVec S_ 1 :=
  let main_v16 : IVec S256 32 := shapeCast S256 main_v15 shapeCasts_S1x256_S256
  let main_c_7 : IVec S_ 32 := constantI S_ 32 8184#32
  let main_v17 : IVec S256 32 := broadcastInDim S256 ![] bcast_S_S256 main_c_7
  let main_v18 : IVec S256 1 := cmpi .slt main_v16 main_v17
  let main_v19 : IVec S1x256 32 := (extractStridedSlice S1x256 ![31, 0] · slices_S32x256_S1x256_31_0) main_arg2
  let main_v20 : IVec S256 32 := shapeCast S256 main_v19 shapeCasts_S1x256_S256
  let main_c_8 : IVec S_ 32 := constantI S_ 32 112#32
  let main_v21 : IVec S256 32 := broadcastInDim S256 ![] bcast_S_S256 main_c_8
  let main_v22 : IVec S256 1 := cmpi .slt main_v20 main_v21
  let main_v23 : IVec S256 1 := ori main_v18 main_v22
  let main_c_9 : IVec S_ 1 := constantI S_ 1 1#1
  let main_v24 : IVec S_ 1 := (fun x v => Host.reduce IntOp.andi x v reducesTo_S256_S_d0 h_S_) main_v23 main_c_9
  let main_v25 : IVec S_ 1 := andi main_v14 main_v24
  main_v25

def fn {F : FTy → Type} [FloatOps F] (main_arg0 : FVec F S32x8192x128 .f32) (main_arg1 : IVec S32x256 32) (main_arg2 : IVec S32x256 32) (main_arg3 : FVec F S64x256 .f32) (main_arg4 : FVec F S64 .f32) (main_arg5 : FVec F S64x64 .f32) (main_arg6 : FVec F S64 .f32) : IVec S_ 1 :=
  let main_c : IVec S_ 32 := constantI S_ 32 0#32
  let main_v0 : IVec S32x256 32 := broadcastInDim S32x256 ![] bcast_S_S32x256 main_c
  let main_v1 : IVec S32x256 1 := cmpi .sge main_arg1 main_v0
  let main_c_0 : IVec S_ 1 := constantI S_ 1 1#1
  let main_v2 : IVec S_ 1 := (fun x v => Host.reduce IntOp.andi x v reducesTo_S32x256_S_d0_1 h_S_) main_v1 main_c_0
  let main_c_1 : IVec S_ 32 := constantI S_ 32 8184#32
  let main_v3 : IVec S32x256 32 := broadcastInDim S32x256 ![] bcast_S_S32x256 main_c_1
  let main_v4 : IVec S32x256 1 := cmpi .sle main_arg1 main_v3
  let main_c_2 : IVec S_ 1 := constantI S_ 1 1#1
  let main_v5 : IVec S_ 1 := (fun x v => Host.reduce IntOp.andi x v reducesTo_S32x256_S_d0_1 h_S_) main_v4 main_c_2
  let main_v6 : IVec S_ 1 := andi main_v2 main_v5
  let main_c_3 : IVec S_ 32 := constantI S_ 32 0#32
  let main_v7 : IVec S32x256 32 := broadcastInDim S32x256 ![] bcast_S_S32x256 main_c_3
  let main_v8 : IVec S32x256 1 := cmpi .sge main_arg2 main_v7
  let main_c_4 : IVec S_ 1 := constantI S_ 1 1#1
  let main_v9 : IVec S_ 1 := (fun x v => Host.reduce IntOp.andi x v reducesTo_S32x256_S_d0_1 h_S_) main_v8 main_c_4
  let main_v10 : IVec S_ 1 := andi main_v6 main_v9
  let main_c_5 : IVec S_ 32 := constantI S_ 32 112#32
  let main_v11 : IVec S32x256 32 := broadcastInDim S32x256 ![] bcast_S_S32x256 main_c_5
  let main_v12 : IVec S32x256 1 := cmpi .sle main_arg2 main_v11
  let main_c_6 : IVec S_ 1 := constantI S_ 1 1#1
  let main_v13 : IVec S_ 1 := (fun x v => Host.reduce IntOp.andi x v reducesTo_S32x256_S_d0_1 h_S_) main_v12 main_c_6
  let main_v14 : IVec S_ 1 := andi main_v10 main_v13
  let main_v15 : IVec S1x256 32 := (extractStridedSlice S1x256 ![31, 0] · slices_S32x256_S1x256_31_0) main_arg1
  fn_part1 (F := F) main_arg2 main_v14 main_v15
-- ==== Kernel.lean ====
abbrev S32x8192x128 : Shape := ⟨3, ![32, 8192, 128]⟩
abbrev S32x256 : Shape := ⟨2, ![32, 256]⟩
abbrev S64x256 : Shape := ⟨2, ![64, 256]⟩
abbrev S64 : Shape := ⟨1, ![64]⟩
abbrev S64x64 : Shape := ⟨2, ![64, 64]⟩
abbrev S2097152x16 : Shape := ⟨2, ![2097152, 16]⟩
abbrev S8192 : Shape := ⟨1, ![8192]⟩
abbrev S16384 : Shape := ⟨1, ![16384]⟩
abbrev S136x8192 : Shape := ⟨2, ![136, 8192]⟩
abbrev S256 : Shape := ⟨1, ![256]⟩
abbrev S32x128 : Shape := ⟨2, ![32, 128]⟩
abbrev S4096x16 : Shape := ⟨2, ![4096, 16]⟩
abbrev S136x256 : Shape := ⟨2, ![136, 256]⟩
abbrev S_ : Shape := ⟨0, ![]⟩
abbrev S16 : Shape := ⟨1, ![16]⟩
abbrev S1x16 : Shape := ⟨2, ![1, 16]⟩
abbrev S128x16 : Shape := ⟨2, ![128, 16]⟩
abbrev S1x128 : Shape := ⟨2, ![1, 128]⟩
abbrev S128 : Shape := ⟨1, ![128]⟩
abbrev S64x8x32 : Shape := ⟨3, ![64, 8, 32]⟩
abbrev S64x8x16 : Shape := ⟨3, ![64, 8, 16]⟩
abbrev S64x128 : Shape := ⟨2, ![64, 128]⟩
abbrev S64x8 : Shape := ⟨2, ![64, 8]⟩
abbrev S64x136 : Shape := ⟨2, ![64, 136]⟩
abbrev S136x64 : Shape := ⟨2, ![136, 64]⟩
abbrev S1x64 : Shape := ⟨2, ![1, 64]⟩
abbrev S32x256x64 : Shape := ⟨3, ![32, 256, 64]⟩
abbrev S8192x64 : Shape := ⟨2, ![8192, 64]⟩

abbrev nBuf : Table → Nat
  | .hbm => 24
  | .local .tc .vmem => 6
  | .local .scVector .vmem => 5
  | _ => 0

abbrev bufTy : (tb : Table) → Fin (nBuf tb) → BufTy
  | .hbm, ⟨0, _⟩ => ⟨S32x8192x128, .f32⟩
  | .hbm, ⟨1, _⟩ => ⟨S32x256, .i32⟩
  | .hbm, ⟨2, _⟩ => ⟨S32x256, .i32⟩
  | .hbm, ⟨3, _⟩ => ⟨S64x256, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S2097152x16, .f32⟩
  | .hbm, ⟨8, _⟩ => ⟨S8192, .i32⟩
  | .hbm, ⟨9, _⟩ => ⟨S8192, .i32⟩
  | .hbm, ⟨10, _⟩ => ⟨S16384, .i32⟩
  | .hbm, ⟨11, _⟩ => ⟨S136x8192, .f32⟩
  | .hbm, ⟨12, _⟩ => ⟨S64x8x32, .f32⟩
  | .hbm, ⟨13, _⟩ => ⟨S64x8x16, .f32⟩
  | .hbm, ⟨14, _⟩ => ⟨S64x128, .f32⟩
  | .hbm, ⟨15, _⟩ => ⟨S64x8x16, .f32⟩
  | .hbm, ⟨16, _⟩ => ⟨S_, .f32⟩
  | .hbm, ⟨17, _⟩ => ⟨S64x8, .f32⟩
  | .hbm, ⟨18, _⟩ => ⟨S64x136, .f32⟩
  | .hbm, ⟨19, _⟩ => ⟨S136x64, .f32⟩
  | .hbm, ⟨20, _⟩ => ⟨S64x64, .f32⟩
  | .hbm, ⟨21, _⟩ => ⟨S1x64, .f32⟩
  | .hbm, ⟨22, _⟩ => ⟨S1x64, .f32⟩
  | .hbm, ⟨23, _⟩ => ⟨S32x256x64, .f32⟩
  | .local .tc .vmem, ⟨0, _⟩ => ⟨S136x8192, .f32⟩
  | .local .tc .vmem, ⟨1, _⟩ => ⟨S136x64, .f32⟩
  | .local .tc .vmem, ⟨2, _⟩ => ⟨S1x64, .f32⟩
  | .local .tc .vmem, ⟨3, _⟩ => ⟨S64x64, .f32⟩
  | .local .tc .vmem, ⟨4, _⟩ => ⟨S1x64, .f32⟩
  | .local .tc .vmem, ⟨5, _⟩ => ⟨S32x256x64, .f32⟩
  | .local .scVector .vmem, ⟨0, _⟩ => ⟨S256, .i32⟩
  | .local .scVector .vmem, ⟨1, _⟩ => ⟨S256, .i32⟩
  | .local .scVector .vmem, ⟨2, _⟩ => ⟨S32x128, .i32⟩
  | .local .scVector .vmem, ⟨3, _⟩ => ⟨S4096x16, .f32⟩
  | .local .scVector .vmem, ⟨4, _⟩ => ⟨S136x256, .f32⟩
  | _, _ => ⟨S32x8192x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v0_scv : Ref sig .scVector := ⟨.hbm, 7, rfl⟩
abbrev main_v3_scv : Ref sig .scVector := ⟨.hbm, 10, rfl⟩
abbrev main_v4_scv : Ref sig .scVector := ⟨.hbm, 11, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
def k0_off2 (i : grid0.Coords) : Fin 1 → Nat :=
  let c8192_i32 : BitVec 32 := 8192#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32_0 : BitVec 32 := 256#32
  let v3 : BitVec 32 := Scalar.muli v1 c256_i32_0
  let v4 : BitVec 32 := Scalar.addi c8192_i32 v3
  ![v4.toNat]
@[reducible] def k0_t1_loop : Scf.Loop 32 :=
  let c0_i32_1 : BitVec 32 := 0#32
  let c8_i32 : BitVec 32 := 8#32
  let v6 : BitVec 32 := Scalar.addi c0_i32_1 c8_i32
  let c1_i32 : BitVec 32 := 1#32
  ⟨c0_i32_1, v6, c1_i32⟩
def k0_off3 (k0_t1 : Fin k0_t1_loop.trips) : Fin 1 → Nat :=
  let c0_i32_1 : BitVec 32 := 0#32
  let c1_i32 : BitVec 32 := 1#32
  let arg12 : BitVec 32 := Scf.iv c0_i32_1 c1_i32 k0_t1
  let c16_i32_345 : BitVec 32 := 16#32
  let v271 : BitVec 32 := Scalar.muli arg12 c16_i32_345
  let v272 : Index := Scalar.indexCast v271
  ![v272.toNat]
def k0_off4 (k0_t1 : Fin k0_t1_loop.trips) (c0_i32_364 : BitVec 32) : Fin 2 → Nat :=
  let c0_i32_1 : BitVec 32 := 0#32
  let c1_i32 : BitVec 32 := 1#32
  let arg12 : BitVec 32 := Scf.iv c0_i32_1 c1_i32 k0_t1
  let c0_i32_357 : BitVec 32 := 0#32
  let v296 : BitVec 1 := Scalar.cmpi .sgt arg12 c0_i32_357
  let v297 : BitVec 32 := Scalar.extui v296
  let c0_i32_358 : BitVec 32 := 0#32
  let v298 : BitVec 1 := Scalar.cmpi .slt arg12 c0_i32_358
  let v299 : BitVec 32 := Scalar.extui v298
  let v300 : BitVec 32 := Scalar.subi v297 v299
  let c8_i32_356 : BitVec 32 := 8#32
  let c0_i32_359 : BitVec 32 := 0#32
  let v301 : BitVec 1 := Scalar.cmpi .sgt c8_i32_356 c0_i32_359
  let v302 : BitVec 32 := Scalar.extui v301
  let c0_i32_360 : BitVec 32 := 0#32
  let v303 : BitVec 1 := Scalar.cmpi .slt c8_i32_356 c0_i32_360
  let v304 : BitVec 32 := Scalar.extui v303
  let v305 : BitVec 32 := Scalar.subi v302 v304
  let v306 : BitVec 1 := Scalar.cmpi .ne v300 v305
  let v307 : BitVec 32 := Scalar.remsi arg12 c8_i32_356
  let c0_i32_361 : BitVec 32 := 0#32
  let v308 : BitVec 1 := Scalar.cmpi .ne v307 c0_i32_361
  let v309 : BitVec 1 := Scalar.andi v306 v308
  let v295 : BitVec 32 := Scalar.divsi arg12 c8_i32_356
  let c1_i32_362 : BitVec 32 := 1#32
  let v310 : BitVec 32 := Scalar.subi v295 c1_i32_362
  let v311 : BitVec 32 := Scalar.select v309 v310 v295
  let v314 : BitVec 32 := Scalar.addi c0_i32_364 v311
  let v315 : Index := Scalar.indexCast v314
  let c8_i32_349 : BitVec 32 := 8#32
  let c0_i32_350 : BitVec 32 := 0#32
  let v284 : BitVec 1 := Scalar.cmpi .eq c8_i32_349 c0_i32_350
  let c1_i32_351 : BitVec 32 := 1#32
  let v285 : BitVec 32 := Scalar.select v284 c1_i32_351 c8_i32_349
  let v286 : BitVec 32 := Scalar.remsi arg12 v285
  let c0_i32_353 : BitVec 32 := 0#32
  let v288 : BitVec 1 := Scalar.cmpi .slt v286 c0_i32_353
  let c0_i32_354 : BitVec 32 := 0#32
  let v289 : BitVec 1 := Scalar.cmpi .slt v285 c0_i32_354
  let v290 : BitVec 1 := Scalar.xori v288 v289
  let c0_i32_352 : BitVec 32 := 0#32
  let v287 : BitVec 1 := Scalar.cmpi .ne v286 c0_i32_352
  let v291 : BitVec 1 := Scalar.andi v290 v287
  let v292 : BitVec 32 := Scalar.addi v286 v285
  let v293 : BitVec 32 := Scalar.select v291 v292 v286
  let c16_i32_355 : BitVec 32 := 16#32
  let v294 : BitVec 32 := Scalar.muli v293 c16_i32_355
  let v316 : Index := Scalar.indexCast v294
  ![v315.toNat, v316.toNat]
def k0_off5 (k0_t1 : Fin k0_t1_loop.trips) : Fin 2 → Nat :=
  let c128_i32_389 : BitVec 32 := 128#32
  let v414 : Index := Scalar.indexCast c128_i32_389
  let c0_i32_1 : BitVec 32 := 0#32
  let c1_i32 : BitVec 32 := 1#32
  let arg12 : BitVec 32 := Scf.iv c0_i32_1 c1_i32 k0_t1
  let c16_i32_388 : BitVec 32 := 16#32
  let v413 : BitVec 32 := Scalar.muli arg12 c16_i32_388
  let v415 : Index := Scalar.indexCast v413
  ![128, v415.toNat]
def k0_off6 (k0_t1 : Fin k0_t1_loop.trips) : Fin 2 → Nat :=
  let c129_i32 : BitVec 32 := 129#32
  let v422 : Index := Scalar.indexCast c129_i32
  let c0_i32_1 : BitVec 32 := 0#32
  let c1_i32 : BitVec 32 := 1#32
  let arg12 : BitVec 32 := Scf.iv c0_i32_1 c1_i32 k0_t1
  let c16_i32_392 : BitVec 32 := 16#32
  let v421 : BitVec 32 := Scalar.muli arg12 c16_i32_392
  let v423 : Index := Scalar.indexCast v421
  ![129, v423.toNat]
def k0_off7 (k0_t1 : Fin k0_t1_loop.trips) : Fin 2 → Nat :=
  let c130_i32 : BitVec 32 := 130#32
  let v430 : Index := Scalar.indexCast c130_i32
  let c0_i32_1 : BitVec 32 := 0#32
  let c1_i32 : BitVec 32 := 1#32
  let arg12 : BitVec 32 := Scf.iv c0_i32_1 c1_i32 k0_t1
  let c16_i32_395 : BitVec 32 := 16#32
  let v429 : BitVec 32 := Scalar.muli arg12 c16_i32_395
  let v431 : Index := Scalar.indexCast v429
  ![130, v431.toNat]
def k0_off8 (k0_t1 : Fin k0_t1_loop.trips) : Fin 2 → Nat :=
  let c131_i32 : BitVec 32 := 131#32
  let v438 : Index := Scalar.indexCast c131_i32
  let c0_i32_1 : BitVec 32 := 0#32
  let c1_i32 : BitVec 32 := 1#32
  let arg12 : BitVec 32 := Scf.iv c0_i32_1 c1_i32 k0_t1
  let c16_i32_398 : BitVec 32 := 16#32
  let v437 : BitVec 32 := Scalar.muli arg12 c16_i32_398
  let v439 : Index := Scalar.indexCast v437
  ![131, v439.toNat]
def k0_off9 (k0_t1 : Fin k0_t1_loop.trips) : Fin 2 → Nat :=
  let c132_i32 : BitVec 32 := 132#32
  let v446 : Index := Scalar.indexCast c132_i32
  let c0_i32_1 : BitVec 32 := 0#32
  let c1_i32 : BitVec 32 := 1#32
  let arg12 : BitVec 32 := Scf.iv c0_i32_1 c1_i32 k0_t1
  let c16_i32_401 : BitVec 32 := 16#32
  let v445 : BitVec 32 := Scalar.muli arg12 c16_i32_401
  let v447 : Index := Scalar.indexCast v445
  ![132, v447.toNat]
def k0_off10 (k0_t1 : Fin k0_t1_loop.trips) : Fin 2 → Nat :=
  let c133_i32 : BitVec 32 := 133#32
  let v454 : Index := Scalar.indexCast c133_i32
  let c0_i32_1 : BitVec 32 := 0#32
  let c1_i32 : BitVec 32 := 1#32
  let arg12 : BitVec 32 := Scf.iv c0_i32_1 c1_i32 k0_t1
  let c16_i32_404 : BitVec 32 := 16#32
  let v453 : BitVec 32 := Scalar.muli arg12 c16_i32_404
  let v455 : Index := Scalar.indexCast v453
  ![133, v455.toNat]
def k0_off11 (k0_t1 : Fin k0_t1_loop.trips) : Fin 2 → Nat :=
  let c134_i32 : BitVec 32 := 134#32
  let v462 : Index := Scalar.indexCast c134_i32
  let c0_i32_1 : BitVec 32 := 0#32
  let c1_i32 : BitVec 32 := 1#32
  let arg12 : BitVec 32 := Scf.iv c0_i32_1 c1_i32 k0_t1
  let c16_i32_407 : BitVec 32 := 16#32
  let v461 : BitVec 32 := Scalar.muli arg12 c16_i32_407
  let v463 : Index := Scalar.indexCast v461
  ![134, v463.toNat]
def k0_off12 (k0_t1 : Fin k0_t1_loop.trips) : Fin 2 → Nat :=
  let c135_i32 : BitVec 32 := 135#32
  let v470 : Index := Scalar.indexCast c135_i32
  let c0_i32_1 : BitVec 32 := 0#32
  let c1_i32 : BitVec 32 := 1#32
  let arg12 : BitVec 32 := Scf.iv c0_i32_1 c1_i32 k0_t1
  let c16_i32_410 : BitVec 32 := 16#32
  let v469 : BitVec 32 := Scalar.muli arg12 c16_i32_410
  let v471 : Index := Scalar.indexCast v469
  ![135, v471.toNat]
@[reducible] def k0_t2_loop : Scf.Loop 32 :=
  let c8_i32_73 : BitVec 32 := 8#32
  let c8_i32_74 : BitVec 32 := 8#32
  let v72 : BitVec 32 := Scalar.addi c8_i32_73 c8_i32_74
  let c1_i32_75 : BitVec 32 := 1#32
  ⟨c8_i32_73, v72, c1_i32_75⟩
def k0_off13 (k0_t2 : Fin k0_t2_loop.trips) : Fin 1 → Nat :=
  let c8_i32_73 : BitVec 32 := 8#32
  let c1_i32_75 : BitVec 32 := 1#32
  let arg12 : BitVec 32 := Scf.iv c8_i32_73 c1_i32_75 k0_t2
  let c16_i32_345 : BitVec 32 := 16#32
  let v271 : BitVec 32 := Scalar.muli arg12 c16_i32_345
  let v272 : Index := Scalar.indexCast v271
  ![v272.toNat]
def k0_off14 (k0_t2 : Fin k0_t2_loop.trips) (c0_i32_364 : BitVec 32) : Fin 2 → Nat :=
  let c8_i32_73 : BitVec 32 := 8#32
  let c1_i32_75 : BitVec 32 := 1#32
  let arg12 : BitVec 32 := Scf.iv c8_i32_73 c1_i32_75 k0_t2
  let c0_i32_357 : BitVec 32 := 0#32
  let v296 : BitVec 1 := Scalar.cmpi .sgt arg12 c0_i32_357
  let v297 : BitVec 32 := Scalar.extui v296
  let c0_i32_358 : BitVec 32 := 0#32
  let v298 : BitVec 1 := Scalar.cmpi .slt arg12 c0_i32_358
  let v299 : BitVec 32 := Scalar.extui v298
  let v300 : BitVec 32 := Scalar.subi v297 v299
  let c8_i32_356 : BitVec 32 := 8#32
  let c0_i32_359 : BitVec 32 := 0#32
  let v301 : BitVec 1 := Scalar.cmpi .sgt c8_i32_356 c0_i32_359
  let v302 : BitVec 32 := Scalar.extui v301
  let c0_i32_360 : BitVec 32 := 0#32
  let v303 : BitVec 1 := Scalar.cmpi .slt c8_i32_356 c0_i32_360
  let v304 : BitVec 32 := Scalar.extui v303
  let v305 : BitVec 32 := Scalar.subi v302 v304
  let v306 : BitVec 1 := Scalar.cmpi .ne v300 v305
  let v307 : BitVec 32 := Scalar.remsi arg12 c8_i32_356
  let c0_i32_361 : BitVec 32 := 0#32
  let v308 : BitVec 1 := Scalar.cmpi .ne v307 c0_i32_361
  let v309 : BitVec 1 := Scalar.andi v306 v308
  let v295 : BitVec 32 := Scalar.divsi arg12 c8_i32_356
  let c1_i32_362 : BitVec 32 := 1#32
  let v310 : BitVec 32 := Scalar.subi v295 c1_i32_362
  let v311 : BitVec 32 := Scalar.select v309 v310 v295
  let v314 : BitVec 32 := Scalar.addi c0_i32_364 v311
  let v315 : Index := Scalar.indexCast v314
  let c8_i32_349 : BitVec 32 := 8#32
  let c0_i32_350 : BitVec 32 := 0#32
  let v284 : BitVec 1 := Scalar.cmpi .eq c8_i32_349 c0_i32_350
  let c1_i32_351 : BitVec 32 := 1#32
  let v285 : BitVec 32 := Scalar.select v284 c1_i32_351 c8_i32_349
  let v286 : BitVec 32 := Scalar.remsi arg12 v285
  let c0_i32_353 : BitVec 32 := 0#32
  let v288 : BitVec 1 := Scalar.cmpi .slt v286 c0_i32_353
  let c0_i32_354 : BitVec 32 := 0#32
  let v289 : BitVec 1 := Scalar.cmpi .slt v285 c0_i32_354
  let v290 : BitVec 1 := Scalar.xori v288 v289
  let c0_i32_352 : BitVec 32 := 0#32
  let v287 : BitVec 1 := Scalar.cmpi .ne v286 c0_i32_352
  let v291 : BitVec 1 := Scalar.andi v290 v287
  let v292 : BitVec 32 := Scalar.addi v286 v285
  let v293 : BitVec 32 := Scalar.select v291 v292 v286
  let c16_i32_355 : BitVec 32 := 16#32
  let v294 : BitVec 32 := Scalar.muli v293 c16_i32_355
  let v316 : Index := Scalar.indexCast v294
  ![v315.toNat, v316.toNat]
def k0_off15 (k0_t2 : Fin k0_t2_loop.trips) : Fin 2 → Nat :=
  let c128_i32_389 : BitVec 32 := 128#32
  let v414 : Index := Scalar.indexCast c128_i32_389
  let c8_i32_73 : BitVec 32 := 8#32
  let c1_i32_75 : BitVec 32 := 1#32
  let arg12 : BitVec 32 := Scf.iv c8_i32_73 c1_i32_75 k0_t2
  let c16_i32_388 : BitVec 32 := 16#32
  let v413 : BitVec 32 := Scalar.muli arg12 c16_i32_388
  let v415 : Index := Scalar.indexCast v413
  ![128, v415.toNat]
def k0_off16 (k0_t2 : Fin k0_t2_loop.trips) : Fin 2 → Nat :=
  let c129_i32 : BitVec 32 := 129#32
  let v422 : Index := Scalar.indexCast c129_i32
  let c8_i32_73 : BitVec 32 := 8#32
  let c1_i32_75 : BitVec 32 := 1#32
  let arg12 : BitVec 32 := Scf.iv c8_i32_73 c1_i32_75 k0_t2
  let c16_i32_392 : BitVec 32 := 16#32
  let v421 : BitVec 32 := Scalar.muli arg12 c16_i32_392
  let v423 : Index := Scalar.indexCast v421
  ![129, v423.toNat]
def k0_off17 (k0_t2 : Fin k0_t2_loop.trips) : Fin 2 → Nat :=
  let c130_i32 : BitVec 32 := 130#32
  let v430 : Index := Scalar.indexCast c130_i32
  let c8_i32_73 : BitVec 32 := 8#32
  let c1_i32_75 : BitVec 32 := 1#32
  let arg12 : BitVec 32 := Scf.iv c8_i32_73 c1_i32_75 k0_t2
  let c16_i32_395 : BitVec 32 := 16#32
  let v429 : BitVec 32 := Scalar.muli arg12 c16_i32_395
  let v431 : Index := Scalar.indexCast v429
  ![130, v431.toNat]
def k0_off18 (k0_t2 : Fin k0_t2_loop.trips) : Fin 2 → Nat :=
  let c131_i32 : BitVec 32 := 131#32
  let v438 : Index := Scalar.indexCast c131_i32
  let c8_i32_73 : BitVec 32 := 8#32
  let c1_i32_75 : BitVec 32 := 1#32
  let arg12 : BitVec 32 := Scf.iv c8_i32_73 c1_i32_75 k0_t2
  let c16_i32_398 : BitVec 32 := 16#32
  let v437 : BitVec 32 := Scalar.muli arg12 c16_i32_398
  let v439 : Index := Scalar.indexCast v437
  ![131, v439.toNat]
def k0_off19 (k0_t2 : Fin k0_t2_loop.trips) : Fin 2 → Nat :=
  let c132_i32 : BitVec 32 := 132#32
  let v446 : Index := Scalar.indexCast c132_i32
  let c8_i32_73 : BitVec 32 := 8#32
  let c1_i32_75 : BitVec 32 := 1#32
  let arg12 : BitVec 32 := Scf.iv c8_i32_73 c1_i32_75 k0_t2
  let c16_i32_401 : BitVec 32 := 16#32
  let v445 : BitVec 32 := Scalar.muli arg12 c16_i32_401
  let v447 : Index := Scalar.indexCast v445
  ![132, v447.toNat]
def k0_off20 (k0_t2 : Fin k0_t2_loop.trips) : Fin 2 → Nat :=
  let c133_i32 : BitVec 32 := 133#32
  let v454 : Index := Scalar.indexCast c133_i32
  let c8_i32_73 : BitVec 32 := 8#32
  let c1_i32_75 : BitVec 32 := 1#32
  let arg12 : BitVec 32 := Scf.iv c8_i32_73 c1_i32_75 k0_t2
  let c16_i32_404 : BitVec 32 := 16#32
  let v453 : BitVec 32 := Scalar.muli arg12 c16_i32_404
  let v455 : Index := Scalar.indexCast v453
  ![133, v455.toNat]
def k0_off21 (k0_t2 : Fin k0_t2_loop.trips) : Fin 2 → Nat :=
  let c134_i32 : BitVec 32 := 134#32
  let v462 : Index := Scalar.indexCast c134_i32
  let c8_i32_73 : BitVec 32 := 8#32
  let c1_i32_75 : BitVec 32 := 1#32
  let arg12 : BitVec 32 := Scf.iv c8_i32_73 c1_i32_75 k0_t2
  let c16_i32_407 : BitVec 32 := 16#32
  let v461 : BitVec 32 := Scalar.muli arg12 c16_i32_407
  let v463 : Index := Scalar.indexCast v461
  ![134, v463.toNat]
def k0_off22 (k0_t2 : Fin k0_t2_loop.trips) : Fin 2 → Nat :=
  let c135_i32 : BitVec 32 := 135#32
  let v470 : Index := Scalar.indexCast c135_i32
  let c8_i32_73 : BitVec 32 := 8#32
  let c1_i32_75 : BitVec 32 := 1#32
  let arg12 : BitVec 32 := Scf.iv c8_i32_73 c1_i32_75 k0_t2
  let c16_i32_410 : BitVec 32 := 16#32
  let v469 : BitVec 32 := Scalar.muli arg12 c16_i32_410
  let v471 : Index := Scalar.indexCast v469
  ![135, v471.toNat]
@[reducible] def k0_t3_loop : Scf.Loop 32 :=
  let c0_i32_239 : BitVec 32 := 0#32
  let c8_i32_240 : BitVec 32 := 8#32
  let v202 : BitVec 32 := Scalar.addi c0_i32_239 c8_i32_240
  let c1_i32_241 : BitVec 32 := 1#32
  ⟨c0_i32_239, v202, c1_i32_241⟩
def k0_off23 (k0_t3 : Fin k0_t3_loop.trips) : Fin 1 → Nat :=
  let c0_i32_239 : BitVec 32 := 0#32
  let c1_i32_241 : BitVec 32 := 1#32
  let arg12 : BitVec 32 := Scf.iv c0_i32_239 c1_i32_241 k0_t3
  let c16_i32_345 : BitVec 32 := 16#32
  let v271 : BitVec 32 := Scalar.muli arg12 c16_i32_345
  let v272 : Index := Scalar.indexCast v271
  ![v272.toNat]

def k0_chk1 (v288 : IVec S16 32) (v290 : IVec S16 32) : Prop :=
  (∀ a x, ((![v288, v290] : Fin 2 → IVec S16 32) a x).toNat < S4096x16.size a)
theorem k0_idx1_inb : ∀ (v288 : IVec S16 32) (v290 : IVec S16 32) (k0_hw1 : k0_chk1 v288 v290), ∀ a x, ((![v288, v290] : Fin 2 → IVec S16 32) a x).toNat < S4096x16.size a := fun v288 v290 k0_hw1 => k0_hw1
def k0_off24 (k0_t3 : Fin k0_t3_loop.trips) : Fin 2 → Nat :=
  let c0_i32_354 : BitVec 32 := 0#32
  let v293 : Index := Scalar.indexCast c0_i32_354
  let c0_i32_239 : BitVec 32 := 0#32
  let c1_i32_241 : BitVec 32 := 1#32
  let arg12 : BitVec 32 := Scf.iv c0_i32_239 c1_i32_241 k0_t3
  let c16_i32_353 : BitVec 32 := 16#32
  let v292 : BitVec 32 := Scalar.muli arg12 c16_i32_353
  let v294 : Index := Scalar.indexCast v292
  ![0, v294.toNat]

def k0_chk2 (v302 : IVec S16 32) (v304 : IVec S16 32) : Prop :=
  (∀ a x, ((![v302, v304] : Fin 2 → IVec S16 32) a x).toNat < S4096x16.size a)
theorem k0_idx2_inb : ∀ (v302 : IVec S16 32) (v304 : IVec S16 32) (k0_hw2 : k0_chk2 v302 v304), ∀ a x, ((![v302, v304] : Fin 2 → IVec S16 32) a x).toNat < S4096x16.size a := fun v302 v304 k0_hw2 => k0_hw2
def k0_off25 (k0_t3 : Fin k0_t3_loop.trips) : Fin 2 → Nat :=
  let c1_i32_360 : BitVec 32 := 1#32
  let v307 : Index := Scalar.indexCast c1_i32_360
  let c0_i32_239 : BitVec 32 := 0#32
  let c1_i32_241 : BitVec 32 := 1#32
  let arg12 : BitVec 32 := Scf.iv c0_i32_239 c1_i32_241 k0_t3
  let c16_i32_359 : BitVec 32 := 16#32
  let v306 : BitVec 32 := Scalar.muli arg12 c16_i32_359
  let v308 : Index := Scalar.indexCast v306
  ![1, v308.toNat]

def k0_chk3 (v316 : IVec S16 32) (v318 : IVec S16 32) : Prop :=
  (∀ a x, ((![v316, v318] : Fin 2 → IVec S16 32) a x).toNat < S4096x16.size a)
theorem k0_idx3_inb : ∀ (v316 : IVec S16 32) (v318 : IVec S16 32) (k0_hw3 : k0_chk3 v316 v318), ∀ a x, ((![v316, v318] : Fin 2 → IVec S16 32) a x).toNat < S4096x16.size a := fun v316 v318 k0_hw3 => k0_hw3
def k0_off26 (k0_t3 : Fin k0_t3_loop.trips) : Fin 2 → Nat :=
  let c2_i32_366 : BitVec 32 := 2#32
  let v321 : Index := Scalar.indexCast c2_i32_366
  let c0_i32_239 : BitVec 32 := 0#32
  let c1_i32_241 : BitVec 32 := 1#32
  let arg12 : BitVec 32 := Scf.iv c0_i32_239 c1_i32_241 k0_t3
  let c16_i32_365 : BitVec 32 := 16#32
  let v320 : BitVec 32 := Scalar.muli arg12 c16_i32_365
  let v322 : Index := Scalar.indexCast v320
  ![2, v322.toNat]

def k0_chk4 (v330 : IVec S16 32) (v332 : IVec S16 32) : Prop :=
  (∀ a x, ((![v330, v332] : Fin 2 → IVec S16 32) a x).toNat < S4096x16.size a)
theorem k0_idx4_inb : ∀ (v330 : IVec S16 32) (v332 : IVec S16 32) (k0_hw4 : k0_chk4 v330 v332), ∀ a x, ((![v330, v332] : Fin 2 → IVec S16 32) a x).toNat < S4096x16.size a := fun v330 v332 k0_hw4 => k0_hw4
def k0_off27 (k0_t3 : Fin k0_t3_loop.trips) : Fin 2 → Nat :=
  let c3_i32_372 : BitVec 32 := 3#32
  let v335 : Index := Scalar.indexCast c3_i32_372
  let c0_i32_239 : BitVec 32 := 0#32
  let c1_i32_241 : BitVec 32 := 1#32
  let arg12 : BitVec 32 := Scf.iv c0_i32_239 c1_i32_241 k0_t3
  let c16_i32_371 : BitVec 32 := 16#32
  let v334 : BitVec 32 := Scalar.muli arg12 c16_i32_371
  let v336 : Index := Scalar.indexCast v334
  ![3, v336.toNat]

def k0_chk5 (v344 : IVec S16 32) (v346 : IVec S16 32) : Prop :=
  (∀ a x, ((![v344, v346] : Fin 2 → IVec S16 32) a x).toNat < S4096x16.size a)
theorem k0_idx5_inb : ∀ (v344 : IVec S16 32) (v346 : IVec S16 32) (k0_hw5 : k0_chk5 v344 v346), ∀ a x, ((![v344, v346] : Fin 2 → IVec S16 32) a x).toNat < S4096x16.size a := fun v344 v346 k0_hw5 => k0_hw5
def k0_off28 (k0_t3 : Fin k0_t3_loop.trips) : Fin 2 → Nat :=
  let c4_i32_378 : BitVec 32 := 4#32
  let v349 : Index := Scalar.indexCast c4_i32_378
  let c0_i32_239 : BitVec 32 := 0#32
  let c1_i32_241 : BitVec 32 := 1#32
  let arg12 : BitVec 32 := Scf.iv c0_i32_239 c1_i32_241 k0_t3
  let c16_i32_377 : BitVec 32 := 16#32
  let v348 : BitVec 32 := Scalar.muli arg12 c16_i32_377
  let v350 : Index := Scalar.indexCast v348
  ![4, v350.toNat]

def k0_chk6 (v358 : IVec S16 32) (v360 : IVec S16 32) : Prop :=
  (∀ a x, ((![v358, v360] : Fin 2 → IVec S16 32) a x).toNat < S4096x16.size a)
theorem k0_idx6_inb : ∀ (v358 : IVec S16 32) (v360 : IVec S16 32) (k0_hw6 : k0_chk6 v358 v360), ∀ a x, ((![v358, v360] : Fin 2 → IVec S16 32) a x).toNat < S4096x16.size a := fun v358 v360 k0_hw6 => k0_hw6
def k0_off29 (k0_t3 : Fin k0_t3_loop.trips) : Fin 2 → Nat :=
  let c5_i32_384 : BitVec 32 := 5#32
  let v363 : Index := Scalar.indexCast c5_i32_384
  let c0_i32_239 : BitVec 32 := 0#32
  let c1_i32_241 : BitVec 32 := 1#32
  let arg12 : BitVec 32 := Scf.iv c0_i32_239 c1_i32_241 k0_t3
  let c16_i32_383 : BitVec 32 := 16#32
  let v362 : BitVec 32 := Scalar.muli arg12 c16_i32_383
  let v364 : Index := Scalar.indexCast v362
  ![5, v364.toNat]

def k0_chk7 (v372 : IVec S16 32) (v374 : IVec S16 32) : Prop :=
  (∀ a x, ((![v372, v374] : Fin 2 → IVec S16 32) a x).toNat < S4096x16.size a)
theorem k0_idx7_inb : ∀ (v372 : IVec S16 32) (v374 : IVec S16 32) (k0_hw7 : k0_chk7 v372 v374), ∀ a x, ((![v372, v374] : Fin 2 → IVec S16 32) a x).toNat < S4096x16.size a := fun v372 v374 k0_hw7 => k0_hw7
def k0_off30 (k0_t3 : Fin k0_t3_loop.trips) : Fin 2 → Nat :=
  let c6_i32_390 : BitVec 32 := 6#32
  let v377 : Index := Scalar.indexCast c6_i32_390
  let c0_i32_239 : BitVec 32 := 0#32
  let c1_i32_241 : BitVec 32 := 1#32
  let arg12 : BitVec 32 := Scf.iv c0_i32_239 c1_i32_241 k0_t3
  let c16_i32_389 : BitVec 32 := 16#32
  let v376 : BitVec 32 := Scalar.muli arg12 c16_i32_389
  let v378 : Index := Scalar.indexCast v376
  ![6, v378.toNat]

def k0_chk8 (v386 : IVec S16 32) (v388 : IVec S16 32) : Prop :=
  (∀ a x, ((![v386, v388] : Fin 2 → IVec S16 32) a x).toNat < S4096x16.size a)
theorem k0_idx8_inb : ∀ (v386 : IVec S16 32) (v388 : IVec S16 32) (k0_hw8 : k0_chk8 v386 v388), ∀ a x, ((![v386, v388] : Fin 2 → IVec S16 32) a x).toNat < S4096x16.size a := fun v386 v388 k0_hw8 => k0_hw8
def k0_off31 (k0_t3 : Fin k0_t3_loop.trips) : Fin 2 → Nat :=
  let c7_i32_396 : BitVec 32 := 7#32
  let v391 : Index := Scalar.indexCast c7_i32_396
  let c0_i32_239 : BitVec 32 := 0#32
  let c1_i32_241 : BitVec 32 := 1#32
  let arg12 : BitVec 32 := Scf.iv c0_i32_239 c1_i32_241 k0_t3
  let c16_i32_395 : BitVec 32 := 16#32
  let v390 : BitVec 32 := Scalar.muli arg12 c16_i32_395
  let v392 : Index := Scalar.indexCast v390
  ![7, v392.toNat]

def k0_chk9 (v400 : IVec S16 32) (v402 : IVec S16 32) : Prop :=
  (∀ a x, ((![v400, v402] : Fin 2 → IVec S16 32) a x).toNat < S4096x16.size a)
theorem k0_idx9_inb : ∀ (v400 : IVec S16 32) (v402 : IVec S16 32) (k0_hw9 : k0_chk9 v400 v402), ∀ a x, ((![v400, v402] : Fin 2 → IVec S16 32) a x).toNat < S4096x16.size a := fun v400 v402 k0_hw9 => k0_hw9
def k0_off32 (k0_t3 : Fin k0_t3_loop.trips) : Fin 2 → Nat :=
  let c8_i32_402 : BitVec 32 := 8#32
  let v405 : Index := Scalar.indexCast c8_i32_402
  let c0_i32_239 : BitVec 32 := 0#32
  let c1_i32_241 : BitVec 32 := 1#32
  let arg12 : BitVec 32 := Scf.iv c0_i32_239 c1_i32_241 k0_t3
  let c16_i32_401 : BitVec 32 := 16#32
  let v404 : BitVec 32 := Scalar.muli arg12 c16_i32_401
  let v406 : Index := Scalar.indexCast v404
  ![8, v406.toNat]

def k0_chk10 (v414 : IVec S16 32) (v416 : IVec S16 32) : Prop :=
  (∀ a x, ((![v414, v416] : Fin 2 → IVec S16 32) a x).toNat < S4096x16.size a)
theorem k0_idx10_inb : ∀ (v414 : IVec S16 32) (v416 : IVec S16 32) (k0_hw10 : k0_chk10 v414 v416), ∀ a x, ((![v414, v416] : Fin 2 → IVec S16 32) a x).toNat < S4096x16.size a := fun v414 v416 k0_hw10 => k0_hw10
def k0_off33 (k0_t3 : Fin k0_t3_loop.trips) : Fin 2 → Nat :=
  let c9_i32_408 : BitVec 32 := 9#32
  let v419 : Index := Scalar.indexCast c9_i32_408
  let c0_i32_239 : BitVec 32 := 0#32
  let c1_i32_241 : BitVec 32 := 1#32
  let arg12 : BitVec 32 := Scf.iv c0_i32_239 c1_i32_241 k0_t3
  let c16_i32_407 : BitVec 32 := 16#32
  let v418 : BitVec 32 := Scalar.muli arg12 c16_i32_407
  let v420 : Index := Scalar.indexCast v418
  ![9, v420.toNat]

def k0_chk11 (v428 : IVec S16 32) (v430 : IVec S16 32) : Prop :=
  (∀ a x, ((![v428, v430] : Fin 2 → IVec S16 32) a x).toNat < S4096x16.size a)
theorem k0_idx11_inb : ∀ (v428 : IVec S16 32) (v430 : IVec S16 32) (k0_hw11 : k0_chk11 v428 v430), ∀ a x, ((![v428, v430] : Fin 2 → IVec S16 32) a x).toNat < S4096x16.size a := fun v428 v430 k0_hw11 => k0_hw11
def k0_off34 (k0_t3 : Fin k0_t3_loop.trips) : Fin 2 → Nat :=
  let c10_i32_414 : BitVec 32 := 10#32
  let v433 : Index := Scalar.indexCast c10_i32_414
  let c0_i32_239 : BitVec 32 := 0#32
  let c1_i32_241 : BitVec 32 := 1#32
  let arg12 : BitVec 32 := Scf.iv c0_i32_239 c1_i32_241 k0_t3
  let c16_i32_413 : BitVec 32 := 16#32
  let v432 : BitVec 32 := Scalar.muli arg12 c16_i32_413
  let v434 : Index := Scalar.indexCast v432
  ![10, v434.toNat]

def k0_chk12 (v442 : IVec S16 32) (v444 : IVec S16 32) : Prop :=
  (∀ a x, ((![v442, v444] : Fin 2 → IVec S16 32) a x).toNat < S4096x16.size a)
theorem k0_idx12_inb : ∀ (v442 : IVec S16 32) (v444 : IVec S16 32) (k0_hw12 : k0_chk12 v442 v444), ∀ a x, ((![v442, v444] : Fin 2 → IVec S16 32) a x).toNat < S4096x16.size a := fun v442 v444 k0_hw12 => k0_hw12
def k0_off35 (k0_t3 : Fin k0_t3_loop.trips) : Fin 2 → Nat :=
  let c11_i32_420 : BitVec 32 := 11#32
  let v447 : Index := Scalar.indexCast c11_i32_420
  let c0_i32_239 : BitVec 32 := 0#32
  let c1_i32_241 : BitVec 32 := 1#32
  let arg12 : BitVec 32 := Scf.iv c0_i32_239 c1_i32_241 k0_t3
  let c16_i32_419 : BitVec 32 := 16#32
  let v446 : BitVec 32 := Scalar.muli arg12 c16_i32_419
  let v448 : Index := Scalar.indexCast v446
  ![11, v448.toNat]

def k0_chk13 (v456 : IVec S16 32) (v458 : IVec S16 32) : Prop :=
  (∀ a x, ((![v456, v458] : Fin 2 → IVec S16 32) a x).toNat < S4096x16.size a)
theorem k0_idx13_inb : ∀ (v456 : IVec S16 32) (v458 : IVec S16 32) (k0_hw13 : k0_chk13 v456 v458), ∀ a x, ((![v456, v458] : Fin 2 → IVec S16 32) a x).toNat < S4096x16.size a := fun v456 v458 k0_hw13 => k0_hw13
def k0_off36 (k0_t3 : Fin k0_t3_loop.trips) : Fin 2 → Nat :=
  let c12_i32_426 : BitVec 32 := 12#32
  let v461 : Index := Scalar.indexCast c12_i32_426
  let c0_i32_239 : BitVec 32 := 0#32
  let c1_i32_241 : BitVec 32 := 1#32
  let arg12 : BitVec 32 := Scf.iv c0_i32_239 c1_i32_241 k0_t3
  let c16_i32_425 : BitVec 32 := 16#32
  let v460 : BitVec 32 := Scalar.muli arg12 c16_i32_425
  let v462 : Index := Scalar.indexCast v460
  ![12, v462.toNat]

def k0_chk14 (v470 : IVec S16 32) (v472 : IVec S16 32) : Prop :=
  (∀ a x, ((![v470, v472] : Fin 2 → IVec S16 32) a x).toNat < S4096x16.size a)
theorem k0_idx14_inb : ∀ (v470 : IVec S16 32) (v472 : IVec S16 32) (k0_hw14 : k0_chk14 v470 v472), ∀ a x, ((![v470, v472] : Fin 2 → IVec S16 32) a x).toNat < S4096x16.size a := fun v470 v472 k0_hw14 => k0_hw14
def k0_off37 (k0_t3 : Fin k0_t3_loop.trips) : Fin 2 → Nat :=
  let c13_i32_432 : BitVec 32 := 13#32
  let v475 : Index := Scalar.indexCast c13_i32_432
  let c0_i32_239 : BitVec 32 := 0#32
  let c1_i32_241 : BitVec 32 := 1#32
  let arg12 : BitVec 32 := Scf.iv c0_i32_239 c1_i32_241 k0_t3
  let c16_i32_431 : BitVec 32 := 16#32
  let v474 : BitVec 32 := Scalar.muli arg12 c16_i32_431
  let v476 : Index := Scalar.indexCast v474
  ![13, v476.toNat]

def k0_chk15 (v484 : IVec S16 32) (v486 : IVec S16 32) : Prop :=
  (∀ a x, ((![v484, v486] : Fin 2 → IVec S16 32) a x).toNat < S4096x16.size a)
theorem k0_idx15_inb : ∀ (v484 : IVec S16 32) (v486 : IVec S16 32) (k0_hw15 : k0_chk15 v484 v486), ∀ a x, ((![v484, v486] : Fin 2 → IVec S16 32) a x).toNat < S4096x16.size a := fun v484 v486 k0_hw15 => k0_hw15
def k0_off38 (k0_t3 : Fin k0_t3_loop.trips) : Fin 2 → Nat :=
  let c14_i32_438 : BitVec 32 := 14#32
  let v489 : Index := Scalar.indexCast c14_i32_438
  let c0_i32_239 : BitVec 32 := 0#32
  let c1_i32_241 : BitVec 32 := 1#32
  let arg12 : BitVec 32 := Scf.iv c0_i32_239 c1_i32_241 k0_t3
  let c16_i32_437 : BitVec 32 := 16#32
  let v488 : BitVec 32 := Scalar.muli arg12 c16_i32_437
  let v490 : Index := Scalar.indexCast v488
  ![14, v490.toNat]

def k0_chk16 (v498 : IVec S16 32) (v500 : IVec S16 32) : Prop :=
  (∀ a x, ((![v498, v500] : Fin 2 → IVec S16 32) a x).toNat < S4096x16.size a)
theorem k0_idx16_inb : ∀ (v498 : IVec S16 32) (v500 : IVec S16 32) (k0_hw16 : k0_chk16 v498 v500), ∀ a x, ((![v498, v500] : Fin 2 → IVec S16 32) a x).toNat < S4096x16.size a := fun v498 v500 k0_hw16 => k0_hw16
def k0_off39 (k0_t3 : Fin k0_t3_loop.trips) : Fin 2 → Nat :=
  let c15_i32_444 : BitVec 32 := 15#32
  let v503 : Index := Scalar.indexCast c15_i32_444
  let c0_i32_239 : BitVec 32 := 0#32
  let c1_i32_241 : BitVec 32 := 1#32
  let arg12 : BitVec 32 := Scf.iv c0_i32_239 c1_i32_241 k0_t3
  let c16_i32_443 : BitVec 32 := 16#32
  let v502 : BitVec 32 := Scalar.muli arg12 c16_i32_443
  let v504 : Index := Scalar.indexCast v502
  ![15, v504.toNat]

def k0_chk17 (v514 : IVec S16 32) (v516 : IVec S16 32) : Prop :=
  (∀ a x, ((![v514, v516] : Fin 2 → IVec S16 32) a x).toNat < S4096x16.size a)
theorem k0_idx17_inb : ∀ (v514 : IVec S16 32) (v516 : IVec S16 32) (k0_hw17 : k0_chk17 v514 v516), ∀ a x, ((![v514, v516] : Fin 2 → IVec S16 32) a x).toNat < S4096x16.size a := fun v514 v516 k0_hw17 => k0_hw17
def k0_off40 (k0_t3 : Fin k0_t3_loop.trips) : Fin 2 → Nat :=
  let c16_i32_451 : BitVec 32 := 16#32
  let v519 : Index := Scalar.indexCast c16_i32_451
  let c0_i32_239 : BitVec 32 := 0#32
  let c1_i32_241 : BitVec 32 := 1#32
  let arg12 : BitVec 32 := Scf.iv c0_i32_239 c1_i32_241 k0_t3
  let c16_i32_450 : BitVec 32 := 16#32
  let v518 : BitVec 32 := Scalar.muli arg12 c16_i32_450
  let v520 : Index := Scalar.indexCast v518
  ![16, v520.toNat]

def k0_chk18 (v528 : IVec S16 32) (v530 : IVec S16 32) : Prop :=
  (∀ a x, ((![v528, v530] : Fin 2 → IVec S16 32) a x).toNat < S4096x16.size a)
theorem k0_idx18_inb : ∀ (v528 : IVec S16 32) (v530 : IVec S16 32) (k0_hw18 : k0_chk18 v528 v530), ∀ a x, ((![v528, v530] : Fin 2 → IVec S16 32) a x).toNat < S4096x16.size a := fun v528 v530 k0_hw18 => k0_hw18
def k0_off41 (k0_t3 : Fin k0_t3_loop.trips) : Fin 2 → Nat :=
  let c17_i32_457 : BitVec 32 := 17#32
  let v533 : Index := Scalar.indexCast c17_i32_457
  let c0_i32_239 : BitVec 32 := 0#32
  let c1_i32_241 : BitVec 32 := 1#32
  let arg12 : BitVec 32 := Scf.iv c0_i32_239 c1_i32_241 k0_t3
  let c16_i32_456 : BitVec 32 := 16#32
  let v532 : BitVec 32 := Scalar.muli arg12 c16_i32_456
  let v534 : Index := Scalar.indexCast v532
  ![17, v534.toNat]

def k0_chk19 (v542 : IVec S16 32) (v544 : IVec S16 32) : Prop :=
  (∀ a x, ((![v542, v544] : Fin 2 → IVec S16 32) a x).toNat < S4096x16.size a)
theorem k0_idx19_inb : ∀ (v542 : IVec S16 32) (v544 : IVec S16 32) (k0_hw19 : k0_chk19 v542 v544), ∀ a x, ((![v542, v544] : Fin 2 → IVec S16 32) a x).toNat < S4096x16.size a := fun v542 v544 k0_hw19 => k0_hw19
def k0_off42 (k0_t3 : Fin k0_t3_loop.trips) : Fin 2 → Nat :=
  let c18_i32_463 : BitVec 32 := 18#32
  let v547 : Index := Scalar.indexCast c18_i32_463
  let c0_i32_239 : BitVec 32 := 0#32
  let c1_i32_241 : BitVec 32 := 1#32
  let arg12 : BitVec 32 := Scf.iv c0_i32_239 c1_i32_241 k0_t3
  let c16_i32_462 : BitVec 32 := 16#32
  let v546 : BitVec 32 := Scalar.muli arg12 c16_i32_462
  let v548 : Index := Scalar.indexCast v546
  ![18, v548.toNat]

def k0_chk20 (v556 : IVec S16 32) (v558 : IVec S16 32) : Prop :=
  (∀ a x, ((![v556, v558] : Fin 2 → IVec S16 32) a x).toNat < S4096x16.size a)
theorem k0_idx20_inb : ∀ (v556 : IVec S16 32) (v558 : IVec S16 32) (k0_hw20 : k0_chk20 v556 v558), ∀ a x, ((![v556, v558] : Fin 2 → IVec S16 32) a x).toNat < S4096x16.size a := fun v556 v558 k0_hw20 => k0_hw20
def k0_off43 (k0_t3 : Fin k0_t3_loop.trips) : Fin 2 → Nat :=
  let c19_i32_469 : BitVec 32 := 19#32
  let v561 : Index := Scalar.indexCast c19_i32_469
  let c0_i32_239 : BitVec 32 := 0#32
  let c1_i32_241 : BitVec 32 := 1#32
  let arg12 : BitVec 32 := Scf.iv c0_i32_239 c1_i32_241 k0_t3
  let c16_i32_468 : BitVec 32 := 16#32
  let v560 : BitVec 32 := Scalar.muli arg12 c16_i32_468
  let v562 : Index := Scalar.indexCast v560
  ![19, v562.toNat]

def k0_chk21 (v570 : IVec S16 32) (v572 : IVec S16 32) : Prop :=
  (∀ a x, ((![v570, v572] : Fin 2 → IVec S16 32) a x).toNat < S4096x16.size a)
theorem k0_idx21_inb : ∀ (v570 : IVec S16 32) (v572 : IVec S16 32) (k0_hw21 : k0_chk21 v570 v572), ∀ a x, ((![v570, v572] : Fin 2 → IVec S16 32) a x).toNat < S4096x16.size a := fun v570 v572 k0_hw21 => k0_hw21
def k0_off44 (k0_t3 : Fin k0_t3_loop.trips) : Fin 2 → Nat :=
  let c20_i32_475 : BitVec 32 := 20#32
  let v575 : Index := Scalar.indexCast c20_i32_475
  let c0_i32_239 : BitVec 32 := 0#32
  let c1_i32_241 : BitVec 32 := 1#32
  let arg12 : BitVec 32 := Scf.iv c0_i32_239 c1_i32_241 k0_t3
  let c16_i32_474 : BitVec 32 := 16#32
  let v574 : BitVec 32 := Scalar.muli arg12 c16_i32_474
  let v576 : Index := Scalar.indexCast v574
  ![20, v576.toNat]

def k0_chk22 (v584 : IVec S16 32) (v586 : IVec S16 32) : Prop :=
  (∀ a x, ((![v584, v586] : Fin 2 → IVec S16 32) a x).toNat < S4096x16.size a)
theorem k0_idx22_inb : ∀ (v584 : IVec S16 32) (v586 : IVec S16 32) (k0_hw22 : k0_chk22 v584 v586), ∀ a x, ((![v584, v586] : Fin 2 → IVec S16 32) a x).toNat < S4096x16.size a := fun v584 v586 k0_hw22 => k0_hw22
def k0_off45 (k0_t3 : Fin k0_t3_loop.trips) : Fin 2 → Nat :=
  let c21_i32_481 : BitVec 32 := 21#32
  let v589 : Index := Scalar.indexCast c21_i32_481
  let c0_i32_239 : BitVec 32 := 0#32
  let c1_i32_241 : BitVec 32 := 1#32
  let arg12 : BitVec 32 := Scf.iv c0_i32_239 c1_i32_241 k0_t3
  let c16_i32_480 : BitVec 32 := 16#32
  let v588 : BitVec 32 := Scalar.muli arg12 c16_i32_480
  let v590 : Index := Scalar.indexCast v588
  ![21, v590.toNat]

def k0_chk23 (v598 : IVec S16 32) (v600 : IVec S16 32) : Prop :=
  (∀ a x, ((![v598, v600] : Fin 2 → IVec S16 32) a x).toNat < S4096x16.size a)
theorem k0_idx23_inb : ∀ (v598 : IVec S16 32) (v600 : IVec S16 32) (k0_hw23 : k0_chk23 v598 v600), ∀ a x, ((![v598, v600] : Fin 2 → IVec S16 32) a x).toNat < S4096x16.size a := fun v598 v600 k0_hw23 => k0_hw23
def k0_off46 (k0_t3 : Fin k0_t3_loop.trips) : Fin 2 → Nat :=
  let c22_i32_487 : BitVec 32 := 22#32
  let v603 : Index := Scalar.indexCast c22_i32_487
  let c0_i32_239 : BitVec 32 := 0#32
  let c1_i32_241 : BitVec 32 := 1#32
  let arg12 : BitVec 32 := Scf.iv c0_i32_239 c1_i32_241 k0_t3
  let c16_i32_486 : BitVec 32 := 16#32
  let v602 : BitVec 32 := Scalar.muli arg12 c16_i32_486
  let v604 : Index := Scalar.indexCast v602
  ![22, v604.toNat]

def k0_chk24 (v612 : IVec S16 32) (v614 : IVec S16 32) : Prop :=
  (∀ a x, ((![v612, v614] : Fin 2 → IVec S16 32) a x).toNat < S4096x16.size a)
theorem k0_idx24_inb : ∀ (v612 : IVec S16 32) (v614 : IVec S16 32) (k0_hw24 : k0_chk24 v612 v614), ∀ a x, ((![v612, v614] : Fin 2 → IVec S16 32) a x).toNat < S4096x16.size a := fun v612 v614 k0_hw24 => k0_hw24
def k0_off47 (k0_t3 : Fin k0_t3_loop.trips) : Fin 2 → Nat :=
  let c23_i32_493 : BitVec 32 := 23#32
  let v617 : Index := Scalar.indexCast c23_i32_493
  let c0_i32_239 : BitVec 32 := 0#32
  let c1_i32_241 : BitVec 32 := 1#32
  let arg12 : BitVec 32 := Scf.iv c0_i32_239 c1_i32_241 k0_t3
  let c16_i32_492 : BitVec 32 := 16#32
  let v616 : BitVec 32 := Scalar.muli arg12 c16_i32_492
  let v618 : Index := Scalar.indexCast v616
  ![23, v618.toNat]

def k0_chk25 (v626 : IVec S16 32) (v628 : IVec S16 32) : Prop :=
  (∀ a x, ((![v626, v628] : Fin 2 → IVec S16 32) a x).toNat < S4096x16.size a)
theorem k0_idx25_inb : ∀ (v626 : IVec S16 32) (v628 : IVec S16 32) (k0_hw25 : k0_chk25 v626 v628), ∀ a x, ((![v626, v628] : Fin 2 → IVec S16 32) a x).toNat < S4096x16.size a := fun v626 v628 k0_hw25 => k0_hw25
def k0_off48 (k0_t3 : Fin k0_t3_loop.trips) : Fin 2 → Nat :=
  let c24_i32_499 : BitVec 32 := 24#32
  let v631 : Index := Scalar.indexCast c24_i32_499
  let c0_i32_239 : BitVec 32 := 0#32
  let c1_i32_241 : BitVec 32 := 1#32
  let arg12 : BitVec 32 := Scf.iv c0_i32_239 c1_i32_241 k0_t3
  let c16_i32_498 : BitVec 32 := 16#32
  let v630 : BitVec 32 := Scalar.muli arg12 c16_i32_498
  let v632 : Index := Scalar.indexCast v630
  ![24, v632.toNat]

def k0_chk26 (v640 : IVec S16 32) (v642 : IVec S16 32) : Prop :=
  (∀ a x, ((![v640, v642] : Fin 2 → IVec S16 32) a x).toNat < S4096x16.size a)
theorem k0_idx26_inb : ∀ (v640 : IVec S16 32) (v642 : IVec S16 32) (k0_hw26 : k0_chk26 v640 v642), ∀ a x, ((![v640, v642] : Fin 2 → IVec S16 32) a x).toNat < S4096x16.size a := fun v640 v642 k0_hw26 => k0_hw26
def k0_off49 (k0_t3 : Fin k0_t3_loop.trips) : Fin 2 → Nat :=
  let c25_i32_505 : BitVec 32 := 25#32
  let v645 : Index := Scalar.indexCast c25_i32_505
  let c0_i32_239 : BitVec 32 := 0#32
  let c1_i32_241 : BitVec 32 := 1#32
  let arg12 : BitVec 32 := Scf.iv c0_i32_239 c1_i32_241 k0_t3
  let c16_i32_504 : BitVec 32 := 16#32
  let v644 : BitVec 32 := Scalar.muli arg12 c16_i32_504
  let v646 : Index := Scalar.indexCast v644
  ![25, v646.toNat]

def k0_chk27 (v654 : IVec S16 32) (v656 : IVec S16 32) : Prop :=
  (∀ a x, ((![v654, v656] : Fin 2 → IVec S16 32) a x).toNat < S4096x16.size a)
theorem k0_idx27_inb : ∀ (v654 : IVec S16 32) (v656 : IVec S16 32) (k0_hw27 : k0_chk27 v654 v656), ∀ a x, ((![v654, v656] : Fin 2 → IVec S16 32) a x).toNat < S4096x16.size a := fun v654 v656 k0_hw27 => k0_hw27
def k0_off50 (k0_t3 : Fin k0_t3_loop.trips) : Fin 2 → Nat :=
  let c26_i32_511 : BitVec 32 := 26#32
  let v659 : Index := Scalar.indexCast c26_i32_511
  let c0_i32_239 : BitVec 32 := 0#32
  let c1_i32_241 : BitVec 32 := 1#32
  let arg12 : BitVec 32 := Scf.iv c0_i32_239 c1_i32_241 k0_t3
  let c16_i32_510 : BitVec 32 := 16#32
  let v658 : BitVec 32 := Scalar.muli arg12 c16_i32_510
  let v660 : Index := Scalar.indexCast v658
  ![26, v660.toNat]

def k0_chk28 (v668 : IVec S16 32) (v670 : IVec S16 32) : Prop :=
  (∀ a x, ((![v668, v670] : Fin 2 → IVec S16 32) a x).toNat < S4096x16.size a)
theorem k0_idx28_inb : ∀ (v668 : IVec S16 32) (v670 : IVec S16 32) (k0_hw28 : k0_chk28 v668 v670), ∀ a x, ((![v668, v670] : Fin 2 → IVec S16 32) a x).toNat < S4096x16.size a := fun v668 v670 k0_hw28 => k0_hw28
def k0_off51 (k0_t3 : Fin k0_t3_loop.trips) : Fin 2 → Nat :=
  let c27_i32_517 : BitVec 32 := 27#32
  let v673 : Index := Scalar.indexCast c27_i32_517
  let c0_i32_239 : BitVec 32 := 0#32
  let c1_i32_241 : BitVec 32 := 1#32
  let arg12 : BitVec 32 := Scf.iv c0_i32_239 c1_i32_241 k0_t3
  let c16_i32_516 : BitVec 32 := 16#32
  let v672 : BitVec 32 := Scalar.muli arg12 c16_i32_516
  let v674 : Index := Scalar.indexCast v672
  ![27, v674.toNat]

def k0_chk29 (v682 : IVec S16 32) (v684 : IVec S16 32) : Prop :=
  (∀ a x, ((![v682, v684] : Fin 2 → IVec S16 32) a x).toNat < S4096x16.size a)
theorem k0_idx29_inb : ∀ (v682 : IVec S16 32) (v684 : IVec S16 32) (k0_hw29 : k0_chk29 v682 v684), ∀ a x, ((![v682, v684] : Fin 2 → IVec S16 32) a x).toNat < S4096x16.size a := fun v682 v684 k0_hw29 => k0_hw29
def k0_off52 (k0_t3 : Fin k0_t3_loop.trips) : Fin 2 → Nat :=
  let c28_i32_523 : BitVec 32 := 28#32
  let v687 : Index := Scalar.indexCast c28_i32_523
  let c0_i32_239 : BitVec 32 := 0#32
  let c1_i32_241 : BitVec 32 := 1#32
  let arg12 : BitVec 32 := Scf.iv c0_i32_239 c1_i32_241 k0_t3
  let c16_i32_522 : BitVec 32 := 16#32
  let v686 : BitVec 32 := Scalar.muli arg12 c16_i32_522
  let v688 : Index := Scalar.indexCast v686
  ![28, v688.toNat]

def k0_chk30 (v696 : IVec S16 32) (v698 : IVec S16 32) : Prop :=
  (∀ a x, ((![v696, v698] : Fin 2 → IVec S16 32) a x).toNat < S4096x16.size a)
theorem k0_idx30_inb : ∀ (v696 : IVec S16 32) (v698 : IVec S16 32) (k0_hw30 : k0_chk30 v696 v698), ∀ a x, ((![v696, v698] : Fin 2 → IVec S16 32) a x).toNat < S4096x16.size a := fun v696 v698 k0_hw30 => k0_hw30
def k0_off53 (k0_t3 : Fin k0_t3_loop.trips) : Fin 2 → Nat :=
  let c29_i32_529 : BitVec 32 := 29#32
  let v701 : Index := Scalar.indexCast c29_i32_529
  let c0_i32_239 : BitVec 32 := 0#32
  let c1_i32_241 : BitVec 32 := 1#32
  let arg12 : BitVec 32 := Scf.iv c0_i32_239 c1_i32_241 k0_t3
  let c16_i32_528 : BitVec 32 := 16#32
  let v700 : BitVec 32 := Scalar.muli arg12 c16_i32_528
  let v702 : Index := Scalar.indexCast v700
  ![29, v702.toNat]

def k0_chk31 (v710 : IVec S16 32) (v712 : IVec S16 32) : Prop :=
  (∀ a x, ((![v710, v712] : Fin 2 → IVec S16 32) a x).toNat < S4096x16.size a)
theorem k0_idx31_inb : ∀ (v710 : IVec S16 32) (v712 : IVec S16 32) (k0_hw31 : k0_chk31 v710 v712), ∀ a x, ((![v710, v712] : Fin 2 → IVec S16 32) a x).toNat < S4096x16.size a := fun v710 v712 k0_hw31 => k0_hw31
def k0_off54 (k0_t3 : Fin k0_t3_loop.trips) : Fin 2 → Nat :=
  let c30_i32_535 : BitVec 32 := 30#32
  let v715 : Index := Scalar.indexCast c30_i32_535
  let c0_i32_239 : BitVec 32 := 0#32
  let c1_i32_241 : BitVec 32 := 1#32
  let arg12 : BitVec 32 := Scf.iv c0_i32_239 c1_i32_241 k0_t3
  let c16_i32_534 : BitVec 32 := 16#32
  let v714 : BitVec 32 := Scalar.muli arg12 c16_i32_534
  let v716 : Index := Scalar.indexCast v714
  ![30, v716.toNat]

def k0_chk32 (v724 : IVec S16 32) (v726 : IVec S16 32) : Prop :=
  (∀ a x, ((![v724, v726] : Fin 2 → IVec S16 32) a x).toNat < S4096x16.size a)
theorem k0_idx32_inb : ∀ (v724 : IVec S16 32) (v726 : IVec S16 32) (k0_hw32 : k0_chk32 v724 v726), ∀ a x, ((![v724, v726] : Fin 2 → IVec S16 32) a x).toNat < S4096x16.size a := fun v724 v726 k0_hw32 => k0_hw32
def k0_off55 (k0_t3 : Fin k0_t3_loop.trips) : Fin 2 → Nat :=
  let c31_i32_541 : BitVec 32 := 31#32
  let v729 : Index := Scalar.indexCast c31_i32_541
  let c0_i32_239 : BitVec 32 := 0#32
  let c1_i32_241 : BitVec 32 := 1#32
  let arg12 : BitVec 32 := Scf.iv c0_i32_239 c1_i32_241 k0_t3
  let c16_i32_540 : BitVec 32 := 16#32
  let v728 : BitVec 32 := Scalar.muli arg12 c16_i32_540
  let v730 : Index := Scalar.indexCast v728
  ![31, v730.toNat]

def k0_chk33 (v740 : IVec S16 32) (v742 : IVec S16 32) : Prop :=
  (∀ a x, ((![v740, v742] : Fin 2 → IVec S16 32) a x).toNat < S4096x16.size a)
theorem k0_idx33_inb : ∀ (v740 : IVec S16 32) (v742 : IVec S16 32) (k0_hw33 : k0_chk33 v740 v742), ∀ a x, ((![v740, v742] : Fin 2 → IVec S16 32) a x).toNat < S4096x16.size a := fun v740 v742 k0_hw33 => k0_hw33
def k0_off56 (k0_t3 : Fin k0_t3_loop.trips) : Fin 2 → Nat :=
  let c32_i32 : BitVec 32 := 32#32
  let v745 : Index := Scalar.indexCast c32_i32
  let c0_i32_239 : BitVec 32 := 0#32
  let c1_i32_241 : BitVec 32 := 1#32
  let arg12 : BitVec 32 := Scf.iv c0_i32_239 c1_i32_241 k0_t3
  let c16_i32_547 : BitVec 32 := 16#32
  let v744 : BitVec 32 := Scalar.muli arg12 c16_i32_547
  let v746 : Index := Scalar.indexCast v744
  ![32, v746.toNat]

def k0_chk34 (v754 : IVec S16 32) (v756 : IVec S16 32) : Prop :=
  (∀ a x, ((![v754, v756] : Fin 2 → IVec S16 32) a x).toNat < S4096x16.size a)
theorem k0_idx34_inb : ∀ (v754 : IVec S16 32) (v756 : IVec S16 32) (k0_hw34 : k0_chk34 v754 v756), ∀ a x, ((![v754, v756] : Fin 2 → IVec S16 32) a x).toNat < S4096x16.size a := fun v754 v756 k0_hw34 => k0_hw34
def k0_off57 (k0_t3 : Fin k0_t3_loop.trips) : Fin 2 → Nat :=
  let c33_i32 : BitVec 32 := 33#32
  let v759 : Index := Scalar.indexCast c33_i32
  let c0_i32_239 : BitVec 32 := 0#32
  let c1_i32_241 : BitVec 32 := 1#32
  let arg12 : BitVec 32 := Scf.iv c0_i32_239 c1_i32_241 k0_t3
  let c16_i32_552 : BitVec 32 := 16#32
  let v758 : BitVec 32 := Scalar.muli arg12 c16_i32_552
  let v760 : Index := Scalar.indexCast v758
  ![33, v760.toNat]

def k0_chk35 (v768 : IVec S16 32) (v770 : IVec S16 32) : Prop :=
  (∀ a x, ((![v768, v770] : Fin 2 → IVec S16 32) a x).toNat < S4096x16.size a)
theorem k0_idx35_inb : ∀ (v768 : IVec S16 32) (v770 : IVec S16 32) (k0_hw35 : k0_chk35 v768 v770), ∀ a x, ((![v768, v770] : Fin 2 → IVec S16 32) a x).toNat < S4096x16.size a := fun v768 v770 k0_hw35 => k0_hw35
def k0_off58 (k0_t3 : Fin k0_t3_loop.trips) : Fin 2 → Nat :=
  let c34_i32 : BitVec 32 := 34#32
  let v773 : Index := Scalar.indexCast c34_i32
  let c0_i32_239 : BitVec 32 := 0#32
  let c1_i32_241 : BitVec 32 := 1#32
  let arg12 : BitVec 32 := Scf.iv c0_i32_239 c1_i32_241 k0_t3
  let c16_i32_557 : BitVec 32 := 16#32
  let v772 : BitVec 32 := Scalar.muli arg12 c16_i32_557
  let v774 : Index := Scalar.indexCast v772
  ![34, v774.toNat]

def k0_chk36 (v782 : IVec S16 32) (v784 : IVec S16 32) : Prop :=
  (∀ a x, ((![v782, v784] : Fin 2 → IVec S16 32) a x).toNat < S4096x16.size a)
theorem k0_idx36_inb : ∀ (v782 : IVec S16 32) (v784 : IVec S16 32) (k0_hw36 : k0_chk36 v782 v784), ∀ a x, ((![v782, v784] : Fin 2 → IVec S16 32) a x).toNat < S4096x16.size a := fun v782 v784 k0_hw36 => k0_hw36
def k0_off59 (k0_t3 : Fin k0_t3_loop.trips) : Fin 2 → Nat :=
  let c35_i32 : BitVec 32 := 35#32
  let v787 : Index := Scalar.indexCast c35_i32
  let c0_i32_239 : BitVec 32 := 0#32
  let c1_i32_241 : BitVec 32 := 1#32
  let arg12 : BitVec 32 := Scf.iv c0_i32_239 c1_i32_241 k0_t3
  let c16_i32_562 : BitVec 32 := 16#32
  let v786 : BitVec 32 := Scalar.muli arg12 c16_i32_562
  let v788 : Index := Scalar.indexCast v786
  ![35, v788.toNat]

def k0_chk37 (v796 : IVec S16 32) (v798 : IVec S16 32) : Prop :=
  (∀ a x, ((![v796, v798] : Fin 2 → IVec S16 32) a x).toNat < S4096x16.size a)
theorem k0_idx37_inb : ∀ (v796 : IVec S16 32) (v798 : IVec S16 32) (k0_hw37 : k0_chk37 v796 v798), ∀ a x, ((![v796, v798] : Fin 2 → IVec S16 32) a x).toNat < S4096x16.size a := fun v796 v798 k0_hw37 => k0_hw37
def k0_off60 (k0_t3 : Fin k0_t3_loop.trips) : Fin 2 → Nat :=
  let c36_i32 : BitVec 32 := 36#32
  let v801 : Index := Scalar.indexCast c36_i32
  let c0_i32_239 : BitVec 32 := 0#32
  let c1_i32_241 : BitVec 32 := 1#32
  let arg12 : BitVec 32 := Scf.iv c0_i32_239 c1_i32_241 k0_t3
  let c16_i32_567 : BitVec 32 := 16#32
  let v800 : BitVec 32 := Scalar.muli arg12 c16_i32_567
  let v802 : Index := Scalar.indexCast v800
  ![36, v802.toNat]

def k0_chk38 (v810 : IVec S16 32) (v812 : IVec S16 32) : Prop :=
  (∀ a x, ((![v810, v812] : Fin 2 → IVec S16 32) a x).toNat < S4096x16.size a)
theorem k0_idx38_inb : ∀ (v810 : IVec S16 32) (v812 : IVec S16 32) (k0_hw38 : k0_chk38 v810 v812), ∀ a x, ((![v810, v812] : Fin 2 → IVec S16 32) a x).toNat < S4096x16.size a := fun v810 v812 k0_hw38 => k0_hw38
def k0_off61 (k0_t3 : Fin k0_t3_loop.trips) : Fin 2 → Nat :=
  let c37_i32 : BitVec 32 := 37#32
  let v815 : Index := Scalar.indexCast c37_i32
  let c0_i32_239 : BitVec 32 := 0#32
  let c1_i32_241 : BitVec 32 := 1#32
  let arg12 : BitVec 32 := Scf.iv c0_i32_239 c1_i32_241 k0_t3
  let c16_i32_572 : BitVec 32 := 16#32
  let v814 : BitVec 32 := Scalar.muli arg12 c16_i32_572
  let v816 : Index := Scalar.indexCast v814
  ![37, v816.toNat]

def k0_chk39 (v824 : IVec S16 32) (v826 : IVec S16 32) : Prop :=
  (∀ a x, ((![v824, v826] : Fin 2 → IVec S16 32) a x).toNat < S4096x16.size a)
theorem k0_idx39_inb : ∀ (v824 : IVec S16 32) (v826 : IVec S16 32) (k0_hw39 : k0_chk39 v824 v826), ∀ a x, ((![v824, v826] : Fin 2 → IVec S16 32) a x).toNat < S4096x16.size a := fun v824 v826 k0_hw39 => k0_hw39
def k0_off62 (k0_t3 : Fin k0_t3_loop.trips) : Fin 2 → Nat :=
  let c38_i32 : BitVec 32 := 38#32
  let v829 : Index := Scalar.indexCast c38_i32
  let c0_i32_239 : BitVec 32 := 0#32
  let c1_i32_241 : BitVec 32 := 1#32
  let arg12 : BitVec 32 := Scf.iv c0_i32_239 c1_i32_241 k0_t3
  let c16_i32_577 : BitVec 32 := 16#32
  let v828 : BitVec 32 := Scalar.muli arg12 c16_i32_577
  let v830 : Index := Scalar.indexCast v828
  ![38, v830.toNat]

def k0_chk40 (v838 : IVec S16 32) (v840 : IVec S16 32) : Prop :=
  (∀ a x, ((![v838, v840] : Fin 2 → IVec S16 32) a x).toNat < S4096x16.size a)
theorem k0_idx40_inb : ∀ (v838 : IVec S16 32) (v840 : IVec S16 32) (k0_hw40 : k0_chk40 v838 v840), ∀ a x, ((![v838, v840] : Fin 2 → IVec S16 32) a x).toNat < S4096x16.size a := fun v838 v840 k0_hw40 => k0_hw40
def k0_off63 (k0_t3 : Fin k0_t3_loop.trips) : Fin 2 → Nat :=
  let c39_i32 : BitVec 32 := 39#32
  let v843 : Index := Scalar.indexCast c39_i32
  let c0_i32_239 : BitVec 32 := 0#32
  let c1_i32_241 : BitVec 32 := 1#32
  let arg12 : BitVec 32 := Scf.iv c0_i32_239 c1_i32_241 k0_t3
  let c16_i32_582 : BitVec 32 := 16#32
  let v842 : BitVec 32 := Scalar.muli arg12 c16_i32_582
  let v844 : Index := Scalar.indexCast v842
  ![39, v844.toNat]

def k0_chk41 (v852 : IVec S16 32) (v854 : IVec S16 32) : Prop :=
  (∀ a x, ((![v852, v854] : Fin 2 → IVec S16 32) a x).toNat < S4096x16.size a)
theorem k0_idx41_inb : ∀ (v852 : IVec S16 32) (v854 : IVec S16 32) (k0_hw41 : k0_chk41 v852 v854), ∀ a x, ((![v852, v854] : Fin 2 → IVec S16 32) a x).toNat < S4096x16.size a := fun v852 v854 k0_hw41 => k0_hw41
def k0_off64 (k0_t3 : Fin k0_t3_loop.trips) : Fin 2 → Nat :=
  let c40_i32 : BitVec 32 := 40#32
  let v857 : Index := Scalar.indexCast c40_i32
  let c0_i32_239 : BitVec 32 := 0#32
  let c1_i32_241 : BitVec 32 := 1#32
  let arg12 : BitVec 32 := Scf.iv c0_i32_239 c1_i32_241 k0_t3
  let c16_i32_587 : BitVec 32 := 16#32
  let v856 : BitVec 32 := Scalar.muli arg12 c16_i32_587
  let v858 : Index := Scalar.indexCast v856
  ![40, v858.toNat]

def k0_chk42 (v866 : IVec S16 32) (v868 : IVec S16 32) : Prop :=
  (∀ a x, ((![v866, v868] : Fin 2 → IVec S16 32) a x).toNat < S4096x16.size a)
theorem k0_idx42_inb : ∀ (v866 : IVec S16 32) (v868 : IVec S16 32) (k0_hw42 : k0_chk42 v866 v868), ∀ a x, ((![v866, v868] : Fin 2 → IVec S16 32) a x).toNat < S4096x16.size a := fun v866 v868 k0_hw42 => k0_hw42
def k0_off65 (k0_t3 : Fin k0_t3_loop.trips) : Fin 2 → Nat :=
  let c41_i32 : BitVec 32 := 41#32
  let v871 : Index := Scalar.indexCast c41_i32
  let c0_i32_239 : BitVec 32 := 0#32
  let c1_i32_241 : BitVec 32 := 1#32
  let arg12 : BitVec 32 := Scf.iv c0_i32_239 c1_i32_241 k0_t3
  let c16_i32_592 : BitVec 32 := 16#32
  let v870 : BitVec 32 := Scalar.muli arg12 c16_i32_592
  let v872 : Index := Scalar.indexCast v870
  ![41, v872.toNat]

def k0_chk43 (v880 : IVec S16 32) (v882 : IVec S16 32) : Prop :=
  (∀ a x, ((![v880, v882] : Fin 2 → IVec S16 32) a x).toNat < S4096x16.size a)
theorem k0_idx43_inb : ∀ (v880 : IVec S16 32) (v882 : IVec S16 32) (k0_hw43 : k0_chk43 v880 v882), ∀ a x, ((![v880, v882] : Fin 2 → IVec S16 32) a x).toNat < S4096x16.size a := fun v880 v882 k0_hw43 => k0_hw43
def k0_off66 (k0_t3 : Fin k0_t3_loop.trips) : Fin 2 → Nat :=
  let c42_i32 : BitVec 32 := 42#32
  let v885 : Index := Scalar.indexCast c42_i32
  let c0_i32_239 : BitVec 32 := 0#32
  let c1_i32_241 : BitVec 32 := 1#32
  let arg12 : BitVec 32 := Scf.iv c0_i32_239 c1_i32_241 k0_t3
  let c16_i32_597 : BitVec 32 := 16#32
  let v884 : BitVec 32 := Scalar.muli arg12 c16_i32_597
  let v886 : Index := Scalar.indexCast v884
  ![42, v886.toNat]

def k0_chk44 (v894 : IVec S16 32) (v896 : IVec S16 32) : Prop :=
  (∀ a x, ((![v894, v896] : Fin 2 → IVec S16 32) a x).toNat < S4096x16.size a)
theorem k0_idx44_inb : ∀ (v894 : IVec S16 32) (v896 : IVec S16 32) (k0_hw44 : k0_chk44 v894 v896), ∀ a x, ((![v894, v896] : Fin 2 → IVec S16 32) a x).toNat < S4096x16.size a := fun v894 v896 k0_hw44 => k0_hw44
def k0_off67 (k0_t3 : Fin k0_t3_loop.trips) : Fin 2 → Nat :=
  let c43_i32 : BitVec 32 := 43#32
  let v899 : Index := Scalar.indexCast c43_i32
  let c0_i32_239 : BitVec 32 := 0#32
  let c1_i32_241 : BitVec 32 := 1#32
  let arg12 : BitVec 32 := Scf.iv c0_i32_239 c1_i32_241 k0_t3
  let c16_i32_602 : BitVec 32 := 16#32
  let v898 : BitVec 32 := Scalar.muli arg12 c16_i32_602
  let v900 : Index := Scalar.indexCast v898
  ![43, v900.toNat]

def k0_chk45 (v908 : IVec S16 32) (v910 : IVec S16 32) : Prop :=
  (∀ a x, ((![v908, v910] : Fin 2 → IVec S16 32) a x).toNat < S4096x16.size a)
theorem k0_idx45_inb : ∀ (v908 : IVec S16 32) (v910 : IVec S16 32) (k0_hw45 : k0_chk45 v908 v910), ∀ a x, ((![v908, v910] : Fin 2 → IVec S16 32) a x).toNat < S4096x16.size a := fun v908 v910 k0_hw45 => k0_hw45
def k0_off68 (k0_t3 : Fin k0_t3_loop.trips) : Fin 2 → Nat :=
  let c44_i32 : BitVec 32 := 44#32
  let v913 : Index := Scalar.indexCast c44_i32
  let c0_i32_239 : BitVec 32 := 0#32
  let c1_i32_241 : BitVec 32 := 1#32
  let arg12 : BitVec 32 := Scf.iv c0_i32_239 c1_i32_241 k0_t3
  let c16_i32_607 : BitVec 32 := 16#32
  let v912 : BitVec 32 := Scalar.muli arg12 c16_i32_607
  let v914 : Index := Scalar.indexCast v912
  ![44, v914.toNat]

def k0_chk46 (v922 : IVec S16 32) (v924 : IVec S16 32) : Prop :=
  (∀ a x, ((![v922, v924] : Fin 2 → IVec S16 32) a x).toNat < S4096x16.size a)
theorem k0_idx46_inb : ∀ (v922 : IVec S16 32) (v924 : IVec S16 32) (k0_hw46 : k0_chk46 v922 v924), ∀ a x, ((![v922, v924] : Fin 2 → IVec S16 32) a x).toNat < S4096x16.size a := fun v922 v924 k0_hw46 => k0_hw46
def k0_off69 (k0_t3 : Fin k0_t3_loop.trips) : Fin 2 → Nat :=
  let c45_i32 : BitVec 32 := 45#32
  let v927 : Index := Scalar.indexCast c45_i32
  let c0_i32_239 : BitVec 32 := 0#32
  let c1_i32_241 : BitVec 32 := 1#32
  let arg12 : BitVec 32 := Scf.iv c0_i32_239 c1_i32_241 k0_t3
  let c16_i32_612 : BitVec 32 := 16#32
  let v926 : BitVec 32 := Scalar.muli arg12 c16_i32_612
  let v928 : Index := Scalar.indexCast v926
  ![45, v928.toNat]

def k0_chk47 (v936 : IVec S16 32) (v938 : IVec S16 32) : Prop :=
  (∀ a x, ((![v936, v938] : Fin 2 → IVec S16 32) a x).toNat < S4096x16.size a)
theorem k0_idx47_inb : ∀ (v936 : IVec S16 32) (v938 : IVec S16 32) (k0_hw47 : k0_chk47 v936 v938), ∀ a x, ((![v936, v938] : Fin 2 → IVec S16 32) a x).toNat < S4096x16.size a := fun v936 v938 k0_hw47 => k0_hw47
def k0_off70 (k0_t3 : Fin k0_t3_loop.trips) : Fin 2 → Nat :=
  let c46_i32 : BitVec 32 := 46#32
  let v941 : Index := Scalar.indexCast c46_i32
  let c0_i32_239 : BitVec 32 := 0#32
  let c1_i32_241 : BitVec 32 := 1#32
  let arg12 : BitVec 32 := Scf.iv c0_i32_239 c1_i32_241 k0_t3
  let c16_i32_617 : BitVec 32 := 16#32
  let v940 : BitVec 32 := Scalar.muli arg12 c16_i32_617
  let v942 : Index := Scalar.indexCast v940
  ![46, v942.toNat]

def k0_chk48 (v950 : IVec S16 32) (v952 : IVec S16 32) : Prop :=
  (∀ a x, ((![v950, v952] : Fin 2 → IVec S16 32) a x).toNat < S4096x16.size a)
theorem k0_idx48_inb : ∀ (v950 : IVec S16 32) (v952 : IVec S16 32) (k0_hw48 : k0_chk48 v950 v952), ∀ a x, ((![v950, v952] : Fin 2 → IVec S16 32) a x).toNat < S4096x16.size a := fun v950 v952 k0_hw48 => k0_hw48
def k0_off71 (k0_t3 : Fin k0_t3_loop.trips) : Fin 2 → Nat :=
  let c47_i32 : BitVec 32 := 47#32
  let v955 : Index := Scalar.indexCast c47_i32
  let c0_i32_239 : BitVec 32 := 0#32
  let c1_i32_241 : BitVec 32 := 1#32
  let arg12 : BitVec 32 := Scf.iv c0_i32_239 c1_i32_241 k0_t3
  let c16_i32_622 : BitVec 32 := 16#32
  let v954 : BitVec 32 := Scalar.muli arg12 c16_i32_622
  let v956 : Index := Scalar.indexCast v954
  ![47, v956.toNat]

def k0_chk49 (v966 : IVec S16 32) (v968 : IVec S16 32) : Prop :=
  (∀ a x, ((![v966, v968] : Fin 2 → IVec S16 32) a x).toNat < S4096x16.size a)
theorem k0_idx49_inb : ∀ (v966 : IVec S16 32) (v968 : IVec S16 32) (k0_hw49 : k0_chk49 v966 v968), ∀ a x, ((![v966, v968] : Fin 2 → IVec S16 32) a x).toNat < S4096x16.size a := fun v966 v968 k0_hw49 => k0_hw49
def k0_off72 (k0_t3 : Fin k0_t3_loop.trips) : Fin 2 → Nat :=
  let c48_i32 : BitVec 32 := 48#32
  let v971 : Index := Scalar.indexCast c48_i32
  let c0_i32_239 : BitVec 32 := 0#32
  let c1_i32_241 : BitVec 32 := 1#32
  let arg12 : BitVec 32 := Scf.iv c0_i32_239 c1_i32_241 k0_t3
  let c16_i32_628 : BitVec 32 := 16#32
  let v970 : BitVec 32 := Scalar.muli arg12 c16_i32_628
  let v972 : Index := Scalar.indexCast v970
  ![48, v972.toNat]

def k0_chk50 (v980 : IVec S16 32) (v982 : IVec S16 32) : Prop :=
  (∀ a x, ((![v980, v982] : Fin 2 → IVec S16 32) a x).toNat < S4096x16.size a)
theorem k0_idx50_inb : ∀ (v980 : IVec S16 32) (v982 : IVec S16 32) (k0_hw50 : k0_chk50 v980 v982), ∀ a x, ((![v980, v982] : Fin 2 → IVec S16 32) a x).toNat < S4096x16.size a := fun v980 v982 k0_hw50 => k0_hw50
def k0_off73 (k0_t3 : Fin k0_t3_loop.trips) : Fin 2 → Nat :=
  let c49_i32 : BitVec 32 := 49#32
  let v985 : Index := Scalar.indexCast c49_i32
  let c0_i32_239 : BitVec 32 := 0#32
  let c1_i32_241 : BitVec 32 := 1#32
  let arg12 : BitVec 32 := Scf.iv c0_i32_239 c1_i32_241 k0_t3
  let c16_i32_633 : BitVec 32 := 16#32
  let v984 : BitVec 32 := Scalar.muli arg12 c16_i32_633
  let v986 : Index := Scalar.indexCast v984
  ![49, v986.toNat]

def k0_chk51 (v994 : IVec S16 32) (v996 : IVec S16 32) : Prop :=
  (∀ a x, ((![v994, v996] : Fin 2 → IVec S16 32) a x).toNat < S4096x16.size a)
theorem k0_idx51_inb : ∀ (v994 : IVec S16 32) (v996 : IVec S16 32) (k0_hw51 : k0_chk51 v994 v996), ∀ a x, ((![v994, v996] : Fin 2 → IVec S16 32) a x).toNat < S4096x16.size a := fun v994 v996 k0_hw51 => k0_hw51
def k0_off74 (k0_t3 : Fin k0_t3_loop.trips) : Fin 2 → Nat :=
  let c50_i32 : BitVec 32 := 50#32
  let v999 : Index := Scalar.indexCast c50_i32
  let c0_i32_239 : BitVec 32 := 0#32
  let c1_i32_241 : BitVec 32 := 1#32
  let arg12 : BitVec 32 := Scf.iv c0_i32_239 c1_i32_241 k0_t3
  let c16_i32_638 : BitVec 32 := 16#32
  let v998 : BitVec 32 := Scalar.muli arg12 c16_i32_638
  let v1000 : Index := Scalar.indexCast v998
  ![50, v1000.toNat]

def k0_chk52 (v1008 : IVec S16 32) (v1010 : IVec S16 32) : Prop :=
  (∀ a x, ((![v1008, v1010] : Fin 2 → IVec S16 32) a x).toNat < S4096x16.size a)
theorem k0_idx52_inb : ∀ (v1008 : IVec S16 32) (v1010 : IVec S16 32) (k0_hw52 : k0_chk52 v1008 v1010), ∀ a x, ((![v1008, v1010] : Fin 2 → IVec S16 32) a x).toNat < S4096x16.size a := fun v1008 v1010 k0_hw52 => k0_hw52
def k0_off75 (k0_t3 : Fin k0_t3_loop.trips) : Fin 2 → Nat :=
  let c51_i32 : BitVec 32 := 51#32
  let v1013 : Index := Scalar.indexCast c51_i32
  let c0_i32_239 : BitVec 32 := 0#32
  let c1_i32_241 : BitVec 32 := 1#32
  let arg12 : BitVec 32 := Scf.iv c0_i32_239 c1_i32_241 k0_t3
  let c16_i32_643 : BitVec 32 := 16#32
  let v1012 : BitVec 32 := Scalar.muli arg12 c16_i32_643
  let v1014 : Index := Scalar.indexCast v1012
  ![51, v1014.toNat]

def k0_chk53 (v1022 : IVec S16 32) (v1024 : IVec S16 32) : Prop :=
  (∀ a x, ((![v1022, v1024] : Fin 2 → IVec S16 32) a x).toNat < S4096x16.size a)
theorem k0_idx53_inb : ∀ (v1022 : IVec S16 32) (v1024 : IVec S16 32) (k0_hw53 : k0_chk53 v1022 v1024), ∀ a x, ((![v1022, v1024] : Fin 2 → IVec S16 32) a x).toNat < S4096x16.size a := fun v1022 v1024 k0_hw53 => k0_hw53
def k0_off76 (k0_t3 : Fin k0_t3_loop.trips) : Fin 2 → Nat :=
  let c52_i32 : BitVec 32 := 52#32
  let v1027 : Index := Scalar.indexCast c52_i32
  let c0_i32_239 : BitVec 32 := 0#32
  let c1_i32_241 : BitVec 32 := 1#32
  let arg12 : BitVec 32 := Scf.iv c0_i32_239 c1_i32_241 k0_t3
  let c16_i32_648 : BitVec 32 := 16#32
  let v1026 : BitVec 32 := Scalar.muli arg12 c16_i32_648
  let v1028 : Index := Scalar.indexCast v1026
  ![52, v1028.toNat]

def k0_chk54 (v1036 : IVec S16 32) (v1038 : IVec S16 32) : Prop :=
  (∀ a x, ((![v1036, v1038] : Fin 2 → IVec S16 32) a x).toNat < S4096x16.size a)
theorem k0_idx54_inb : ∀ (v1036 : IVec S16 32) (v1038 : IVec S16 32) (k0_hw54 : k0_chk54 v1036 v1038), ∀ a x, ((![v1036, v1038] : Fin 2 → IVec S16 32) a x).toNat < S4096x16.size a := fun v1036 v1038 k0_hw54 => k0_hw54
def k0_off77 (k0_t3 : Fin k0_t3_loop.trips) : Fin 2 → Nat :=
  let c53_i32 : BitVec 32 := 53#32
  let v1041 : Index := Scalar.indexCast c53_i32
  let c0_i32_239 : BitVec 32 := 0#32
  let c1_i32_241 : BitVec 32 := 1#32
  let arg12 : BitVec 32 := Scf.iv c0_i32_239 c1_i32_241 k0_t3
  let c16_i32_653 : BitVec 32 := 16#32
  let v1040 : BitVec 32 := Scalar.muli arg12 c16_i32_653
  let v1042 : Index := Scalar.indexCast v1040
  ![53, v1042.toNat]

def k0_chk55 (v1050 : IVec S16 32) (v1052 : IVec S16 32) : Prop :=
  (∀ a x, ((![v1050, v1052] : Fin 2 → IVec S16 32) a x).toNat < S4096x16.size a)
theorem k0_idx55_inb : ∀ (v1050 : IVec S16 32) (v1052 : IVec S16 32) (k0_hw55 : k0_chk55 v1050 v1052), ∀ a x, ((![v1050, v1052] : Fin 2 → IVec S16 32) a x).toNat < S4096x16.size a := fun v1050 v1052 k0_hw55 => k0_hw55
def k0_off78 (k0_t3 : Fin k0_t3_loop.trips) : Fin 2 → Nat :=
  let c54_i32 : BitVec 32 := 54#32
  let v1055 : Index := Scalar.indexCast c54_i32
  let c0_i32_239 : BitVec 32 := 0#32
  let c1_i32_241 : BitVec 32 := 1#32
  let arg12 : BitVec 32 := Scf.iv c0_i32_239 c1_i32_241 k0_t3
  let c16_i32_658 : BitVec 32 := 16#32
  let v1054 : BitVec 32 := Scalar.muli arg12 c16_i32_658
  let v1056 : Index := Scalar.indexCast v1054
  ![54, v1056.toNat]

def k0_chk56 (v1064 : IVec S16 32) (v1066 : IVec S16 32) : Prop :=
  (∀ a x, ((![v1064, v1066] : Fin 2 → IVec S16 32) a x).toNat < S4096x16.size a)
theorem k0_idx56_inb : ∀ (v1064 : IVec S16 32) (v1066 : IVec S16 32) (k0_hw56 : k0_chk56 v1064 v1066), ∀ a x, ((![v1064, v1066] : Fin 2 → IVec S16 32) a x).toNat < S4096x16.size a := fun v1064 v1066 k0_hw56 => k0_hw56
def k0_off79 (k0_t3 : Fin k0_t3_loop.trips) : Fin 2 → Nat :=
  let c55_i32 : BitVec 32 := 55#32
  let v1069 : Index := Scalar.indexCast c55_i32
  let c0_i32_239 : BitVec 32 := 0#32
  let c1_i32_241 : BitVec 32 := 1#32
  let arg12 : BitVec 32 := Scf.iv c0_i32_239 c1_i32_241 k0_t3
  let c16_i32_663 : BitVec 32 := 16#32
  let v1068 : BitVec 32 := Scalar.muli arg12 c16_i32_663
  let v1070 : Index := Scalar.indexCast v1068
  ![55, v1070.toNat]

def k0_chk57 (v1078 : IVec S16 32) (v1080 : IVec S16 32) : Prop :=
  (∀ a x, ((![v1078, v1080] : Fin 2 → IVec S16 32) a x).toNat < S4096x16.size a)
theorem k0_idx57_inb : ∀ (v1078 : IVec S16 32) (v1080 : IVec S16 32) (k0_hw57 : k0_chk57 v1078 v1080), ∀ a x, ((![v1078, v1080] : Fin 2 → IVec S16 32) a x).toNat < S4096x16.size a := fun v1078 v1080 k0_hw57 => k0_hw57
def k0_off80 (k0_t3 : Fin k0_t3_loop.trips) : Fin 2 → Nat :=
  let c56_i32 : BitVec 32 := 56#32
  let v1083 : Index := Scalar.indexCast c56_i32
  let c0_i32_239 : BitVec 32 := 0#32
  let c1_i32_241 : BitVec 32 := 1#32
  let arg12 : BitVec 32 := Scf.iv c0_i32_239 c1_i32_241 k0_t3
  let c16_i32_668 : BitVec 32 := 16#32
  let v1082 : BitVec 32 := Scalar.muli arg12 c16_i32_668
  let v1084 : Index := Scalar.indexCast v1082
  ![56, v1084.toNat]

def k0_chk58 (v1092 : IVec S16 32) (v1094 : IVec S16 32) : Prop :=
  (∀ a x, ((![v1092, v1094] : Fin 2 → IVec S16 32) a x).toNat < S4096x16.size a)
theorem k0_idx58_inb : ∀ (v1092 : IVec S16 32) (v1094 : IVec S16 32) (k0_hw58 : k0_chk58 v1092 v1094), ∀ a x, ((![v1092, v1094] : Fin 2 → IVec S16 32) a x).toNat < S4096x16.size a := fun v1092 v1094 k0_hw58 => k0_hw58
def k0_off81 (k0_t3 : Fin k0_t3_loop.trips) : Fin 2 → Nat :=
  let c57_i32 : BitVec 32 := 57#32
  let v1097 : Index := Scalar.indexCast c57_i32
  let c0_i32_239 : BitVec 32 := 0#32
  let c1_i32_241 : BitVec 32 := 1#32
  let arg12 : BitVec 32 := Scf.iv c0_i32_239 c1_i32_241 k0_t3
  let c16_i32_673 : BitVec 32 := 16#32
  let v1096 : BitVec 32 := Scalar.muli arg12 c16_i32_673
  let v1098 : Index := Scalar.indexCast v1096
  ![57, v1098.toNat]

def k0_chk59 (v1106 : IVec S16 32) (v1108 : IVec S16 32) : Prop :=
  (∀ a x, ((![v1106, v1108] : Fin 2 → IVec S16 32) a x).toNat < S4096x16.size a)
theorem k0_idx59_inb : ∀ (v1106 : IVec S16 32) (v1108 : IVec S16 32) (k0_hw59 : k0_chk59 v1106 v1108), ∀ a x, ((![v1106, v1108] : Fin 2 → IVec S16 32) a x).toNat < S4096x16.size a := fun v1106 v1108 k0_hw59 => k0_hw59
def k0_off82 (k0_t3 : Fin k0_t3_loop.trips) : Fin 2 → Nat :=
  let c58_i32 : BitVec 32 := 58#32
  let v1111 : Index := Scalar.indexCast c58_i32
  let c0_i32_239 : BitVec 32 := 0#32
  let c1_i32_241 : BitVec 32 := 1#32
  let arg12 : BitVec 32 := Scf.iv c0_i32_239 c1_i32_241 k0_t3
  let c16_i32_678 : BitVec 32 := 16#32
  let v1110 : BitVec 32 := Scalar.muli arg12 c16_i32_678
  let v1112 : Index := Scalar.indexCast v1110
  ![58, v1112.toNat]

def k0_chk60 (v1120 : IVec S16 32) (v1122 : IVec S16 32) : Prop :=
  (∀ a x, ((![v1120, v1122] : Fin 2 → IVec S16 32) a x).toNat < S4096x16.size a)
theorem k0_idx60_inb : ∀ (v1120 : IVec S16 32) (v1122 : IVec S16 32) (k0_hw60 : k0_chk60 v1120 v1122), ∀ a x, ((![v1120, v1122] : Fin 2 → IVec S16 32) a x).toNat < S4096x16.size a := fun v1120 v1122 k0_hw60 => k0_hw60
def k0_off83 (k0_t3 : Fin k0_t3_loop.trips) : Fin 2 → Nat :=
  let c59_i32 : BitVec 32 := 59#32
  let v1125 : Index := Scalar.indexCast c59_i32
  let c0_i32_239 : BitVec 32 := 0#32
  let c1_i32_241 : BitVec 32 := 1#32
  let arg12 : BitVec 32 := Scf.iv c0_i32_239 c1_i32_241 k0_t3
  let c16_i32_683 : BitVec 32 := 16#32
  let v1124 : BitVec 32 := Scalar.muli arg12 c16_i32_683
  let v1126 : Index := Scalar.indexCast v1124
  ![59, v1126.toNat]

def k0_chk61 (v1134 : IVec S16 32) (v1136 : IVec S16 32) : Prop :=
  (∀ a x, ((![v1134, v1136] : Fin 2 → IVec S16 32) a x).toNat < S4096x16.size a)
theorem k0_idx61_inb : ∀ (v1134 : IVec S16 32) (v1136 : IVec S16 32) (k0_hw61 : k0_chk61 v1134 v1136), ∀ a x, ((![v1134, v1136] : Fin 2 → IVec S16 32) a x).toNat < S4096x16.size a := fun v1134 v1136 k0_hw61 => k0_hw61
def k0_off84 (k0_t3 : Fin k0_t3_loop.trips) : Fin 2 → Nat :=
  let c60_i32 : BitVec 32 := 60#32
  let v1139 : Index := Scalar.indexCast c60_i32
  let c0_i32_239 : BitVec 32 := 0#32
  let c1_i32_241 : BitVec 32 := 1#32
  let arg12 : BitVec 32 := Scf.iv c0_i32_239 c1_i32_241 k0_t3
  let c16_i32_688 : BitVec 32 := 16#32
  let v1138 : BitVec 32 := Scalar.muli arg12 c16_i32_688
  let v1140 : Index := Scalar.indexCast v1138
  ![60, v1140.toNat]

def k0_chk62 (v1148 : IVec S16 32) (v1150 : IVec S16 32) : Prop :=
  (∀ a x, ((![v1148, v1150] : Fin 2 → IVec S16 32) a x).toNat < S4096x16.size a)
theorem k0_idx62_inb : ∀ (v1148 : IVec S16 32) (v1150 : IVec S16 32) (k0_hw62 : k0_chk62 v1148 v1150), ∀ a x, ((![v1148, v1150] : Fin 2 → IVec S16 32) a x).toNat < S4096x16.size a := fun v1148 v1150 k0_hw62 => k0_hw62
def k0_off85 (k0_t3 : Fin k0_t3_loop.trips) : Fin 2 → Nat :=
  let c61_i32 : BitVec 32 := 61#32
  let v1153 : Index := Scalar.indexCast c61_i32
  let c0_i32_239 : BitVec 32 := 0#32
  let c1_i32_241 : BitVec 32 := 1#32
  let arg12 : BitVec 32 := Scf.iv c0_i32_239 c1_i32_241 k0_t3
  let c16_i32_693 : BitVec 32 := 16#32
  let v1152 : BitVec 32 := Scalar.muli arg12 c16_i32_693
  let v1154 : Index := Scalar.indexCast v1152
  ![61, v1154.toNat]

def k0_chk63 (v1162 : IVec S16 32) (v1164 : IVec S16 32) : Prop :=
  (∀ a x, ((![v1162, v1164] : Fin 2 → IVec S16 32) a x).toNat < S4096x16.size a)
theorem k0_idx63_inb : ∀ (v1162 : IVec S16 32) (v1164 : IVec S16 32) (k0_hw63 : k0_chk63 v1162 v1164), ∀ a x, ((![v1162, v1164] : Fin 2 → IVec S16 32) a x).toNat < S4096x16.size a := fun v1162 v1164 k0_hw63 => k0_hw63
def k0_off86 (k0_t3 : Fin k0_t3_loop.trips) : Fin 2 → Nat :=
  let c62_i32 : BitVec 32 := 62#32
  let v1167 : Index := Scalar.indexCast c62_i32
  let c0_i32_239 : BitVec 32 := 0#32
  let c1_i32_241 : BitVec 32 := 1#32
  let arg12 : BitVec 32 := Scf.iv c0_i32_239 c1_i32_241 k0_t3
  let c16_i32_698 : BitVec 32 := 16#32
  let v1166 : BitVec 32 := Scalar.muli arg12 c16_i32_698
  let v1168 : Index := Scalar.indexCast v1166
  ![62, v1168.toNat]

def k0_chk64 (v1176 : IVec S16 32) (v1178 : IVec S16 32) : Prop :=
  (∀ a x, ((![v1176, v1178] : Fin 2 → IVec S16 32) a x).toNat < S4096x16.size a)
theorem k0_idx64_inb : ∀ (v1176 : IVec S16 32) (v1178 : IVec S16 32) (k0_hw64 : k0_chk64 v1176 v1178), ∀ a x, ((![v1176, v1178] : Fin 2 → IVec S16 32) a x).toNat < S4096x16.size a := fun v1176 v1178 k0_hw64 => k0_hw64
def k0_off87 (k0_t3 : Fin k0_t3_loop.trips) : Fin 2 → Nat :=
  let c63_i32 : BitVec 32 := 63#32
  let v1181 : Index := Scalar.indexCast c63_i32
  let c0_i32_239 : BitVec 32 := 0#32
  let c1_i32_241 : BitVec 32 := 1#32
  let arg12 : BitVec 32 := Scf.iv c0_i32_239 c1_i32_241 k0_t3
  let c16_i32_703 : BitVec 32 := 16#32
  let v1180 : BitVec 32 := Scalar.muli arg12 c16_i32_703
  let v1182 : Index := Scalar.indexCast v1180
  ![63, v1182.toNat]

def k0_chk65 (v1192 : IVec S16 32) (v1194 : IVec S16 32) : Prop :=
  (∀ a x, ((![v1192, v1194] : Fin 2 → IVec S16 32) a x).toNat < S4096x16.size a)
theorem k0_idx65_inb : ∀ (v1192 : IVec S16 32) (v1194 : IVec S16 32) (k0_hw65 : k0_chk65 v1192 v1194), ∀ a x, ((![v1192, v1194] : Fin 2 → IVec S16 32) a x).toNat < S4096x16.size a := fun v1192 v1194 k0_hw65 => k0_hw65
def k0_off88 (k0_t3 : Fin k0_t3_loop.trips) : Fin 2 → Nat :=
  let c64_i32 : BitVec 32 := 64#32
  let v1197 : Index := Scalar.indexCast c64_i32
  let c0_i32_239 : BitVec 32 := 0#32
  let c1_i32_241 : BitVec 32 := 1#32
  let arg12 : BitVec 32 := Scf.iv c0_i32_239 c1_i32_241 k0_t3
  let c16_i32_709 : BitVec 32 := 16#32
  let v1196 : BitVec 32 := Scalar.muli arg12 c16_i32_709
  let v1198 : Index := Scalar.indexCast v1196
  ![64, v1198.toNat]

def k0_chk66 (v1206 : IVec S16 32) (v1208 : IVec S16 32) : Prop :=
  (∀ a x, ((![v1206, v1208] : Fin 2 → IVec S16 32) a x).toNat < S4096x16.size a)
theorem k0_idx66_inb : ∀ (v1206 : IVec S16 32) (v1208 : IVec S16 32) (k0_hw66 : k0_chk66 v1206 v1208), ∀ a x, ((![v1206, v1208] : Fin 2 → IVec S16 32) a x).toNat < S4096x16.size a := fun v1206 v1208 k0_hw66 => k0_hw66
def k0_off89 (k0_t3 : Fin k0_t3_loop.trips) : Fin 2 → Nat :=
  let c65_i32 : BitVec 32 := 65#32
  let v1211 : Index := Scalar.indexCast c65_i32
  let c0_i32_239 : BitVec 32 := 0#32
  let c1_i32_241 : BitVec 32 := 1#32
  let arg12 : BitVec 32 := Scf.iv c0_i32_239 c1_i32_241 k0_t3
  let c16_i32_714 : BitVec 32 := 16#32
  let v1210 : BitVec 32 := Scalar.muli arg12 c16_i32_714
  let v1212 : Index := Scalar.indexCast v1210
  ![65, v1212.toNat]

def k0_chk67 (v1220 : IVec S16 32) (v1222 : IVec S16 32) : Prop :=
  (∀ a x, ((![v1220, v1222] : Fin 2 → IVec S16 32) a x).toNat < S4096x16.size a)
theorem k0_idx67_inb : ∀ (v1220 : IVec S16 32) (v1222 : IVec S16 32) (k0_hw67 : k0_chk67 v1220 v1222), ∀ a x, ((![v1220, v1222] : Fin 2 → IVec S16 32) a x).toNat < S4096x16.size a := fun v1220 v1222 k0_hw67 => k0_hw67
def k0_off90 (k0_t3 : Fin k0_t3_loop.trips) : Fin 2 → Nat :=
  let c66_i32 : BitVec 32 := 66#32
  let v1225 : Index := Scalar.indexCast c66_i32
  let c0_i32_239 : BitVec 32 := 0#32
  let c1_i32_241 : BitVec 32 := 1#32
  let arg12 : BitVec 32 := Scf.iv c0_i32_239 c1_i32_241 k0_t3
  let c16_i32_719 : BitVec 32 := 16#32
  let v1224 : BitVec 32 := Scalar.muli arg12 c16_i32_719
  let v1226 : Index := Scalar.indexCast v1224
  ![66, v1226.toNat]

def k0_chk68 (v1234 : IVec S16 32) (v1236 : IVec S16 32) : Prop :=
  (∀ a x, ((![v1234, v1236] : Fin 2 → IVec S16 32) a x).toNat < S4096x16.size a)
theorem k0_idx68_inb : ∀ (v1234 : IVec S16 32) (v1236 : IVec S16 32) (k0_hw68 : k0_chk68 v1234 v1236), ∀ a x, ((![v1234, v1236] : Fin 2 → IVec S16 32) a x).toNat < S4096x16.size a := fun v1234 v1236 k0_hw68 => k0_hw68
def k0_off91 (k0_t3 : Fin k0_t3_loop.trips) : Fin 2 → Nat :=
  let c67_i32 : BitVec 32 := 67#32
  let v1239 : Index := Scalar.indexCast c67_i32
  let c0_i32_239 : BitVec 32 := 0#32
  let c1_i32_241 : BitVec 32 := 1#32
  let arg12 : BitVec 32 := Scf.iv c0_i32_239 c1_i32_241 k0_t3
  let c16_i32_724 : BitVec 32 := 16#32
  let v1238 : BitVec 32 := Scalar.muli arg12 c16_i32_724
  let v1240 : Index := Scalar.indexCast v1238
  ![67, v1240.toNat]

def k0_chk69 (v1248 : IVec S16 32) (v1250 : IVec S16 32) : Prop :=
  (∀ a x, ((![v1248, v1250] : Fin 2 → IVec S16 32) a x).toNat < S4096x16.size a)
theorem k0_idx69_inb : ∀ (v1248 : IVec S16 32) (v1250 : IVec S16 32) (k0_hw69 : k0_chk69 v1248 v1250), ∀ a x, ((![v1248, v1250] : Fin 2 → IVec S16 32) a x).toNat < S4096x16.size a := fun v1248 v1250 k0_hw69 => k0_hw69
def k0_off92 (k0_t3 : Fin k0_t3_loop.trips) : Fin 2 → Nat :=
  let c68_i32 : BitVec 32 := 68#32
  let v1253 : Index := Scalar.indexCast c68_i32
  let c0_i32_239 : BitVec 32 := 0#32
  let c1_i32_241 : BitVec 32 := 1#32
  let arg12 : BitVec 32 := Scf.iv c0_i32_239 c1_i32_241 k0_t3
  let c16_i32_729 : BitVec 32 := 16#32
  let v1252 : BitVec 32 := Scalar.muli arg12 c16_i32_729
  let v1254 : Index := Scalar.indexCast v1252
  ![68, v1254.toNat]

def k0_chk70 (v1262 : IVec S16 32) (v1264 : IVec S16 32) : Prop :=
  (∀ a x, ((![v1262, v1264] : Fin 2 → IVec S16 32) a x).toNat < S4096x16.size a)
theorem k0_idx70_inb : ∀ (v1262 : IVec S16 32) (v1264 : IVec S16 32) (k0_hw70 : k0_chk70 v1262 v1264), ∀ a x, ((![v1262, v1264] : Fin 2 → IVec S16 32) a x).toNat < S4096x16.size a := fun v1262 v1264 k0_hw70 => k0_hw70
def k0_off93 (k0_t3 : Fin k0_t3_loop.trips) : Fin 2 → Nat :=
  let c69_i32 : BitVec 32 := 69#32
  let v1267 : Index := Scalar.indexCast c69_i32
  let c0_i32_239 : BitVec 32 := 0#32
  let c1_i32_241 : BitVec 32 := 1#32
  let arg12 : BitVec 32 := Scf.iv c0_i32_239 c1_i32_241 k0_t3
  let c16_i32_734 : BitVec 32 := 16#32
  let v1266 : BitVec 32 := Scalar.muli arg12 c16_i32_734
  let v1268 : Index := Scalar.indexCast v1266
  ![69, v1268.toNat]

def k0_chk71 (v1276 : IVec S16 32) (v1278 : IVec S16 32) : Prop :=
  (∀ a x, ((![v1276, v1278] : Fin 2 → IVec S16 32) a x).toNat < S4096x16.size a)
theorem k0_idx71_inb : ∀ (v1276 : IVec S16 32) (v1278 : IVec S16 32) (k0_hw71 : k0_chk71 v1276 v1278), ∀ a x, ((![v1276, v1278] : Fin 2 → IVec S16 32) a x).toNat < S4096x16.size a := fun v1276 v1278 k0_hw71 => k0_hw71
def k0_off94 (k0_t3 : Fin k0_t3_loop.trips) : Fin 2 → Nat :=
  let c70_i32 : BitVec 32 := 70#32
  let v1281 : Index := Scalar.indexCast c70_i32
  let c0_i32_239 : BitVec 32 := 0#32
  let c1_i32_241 : BitVec 32 := 1#32
  let arg12 : BitVec 32 := Scf.iv c0_i32_239 c1_i32_241 k0_t3
  let c16_i32_739 : BitVec 32 := 16#32
  let v1280 : BitVec 32 := Scalar.muli arg12 c16_i32_739
  let v1282 : Index := Scalar.indexCast v1280
  ![70, v1282.toNat]

def k0_chk72 (v1290 : IVec S16 32) (v1292 : IVec S16 32) : Prop :=
  (∀ a x, ((![v1290, v1292] : Fin 2 → IVec S16 32) a x).toNat < S4096x16.size a)
theorem k0_idx72_inb : ∀ (v1290 : IVec S16 32) (v1292 : IVec S16 32) (k0_hw72 : k0_chk72 v1290 v1292), ∀ a x, ((![v1290, v1292] : Fin 2 → IVec S16 32) a x).toNat < S4096x16.size a := fun v1290 v1292 k0_hw72 => k0_hw72
def k0_off95 (k0_t3 : Fin k0_t3_loop.trips) : Fin 2 → Nat :=
  let c71_i32 : BitVec 32 := 71#32
  let v1295 : Index := Scalar.indexCast c71_i32
  let c0_i32_239 : BitVec 32 := 0#32
  let c1_i32_241 : BitVec 32 := 1#32
  let arg12 : BitVec 32 := Scf.iv c0_i32_239 c1_i32_241 k0_t3
  let c16_i32_744 : BitVec 32 := 16#32
  let v1294 : BitVec 32 := Scalar.muli arg12 c16_i32_744
  let v1296 : Index := Scalar.indexCast v1294
  ![71, v1296.toNat]

def k0_chk73 (v1304 : IVec S16 32) (v1306 : IVec S16 32) : Prop :=
  (∀ a x, ((![v1304, v1306] : Fin 2 → IVec S16 32) a x).toNat < S4096x16.size a)
theorem k0_idx73_inb : ∀ (v1304 : IVec S16 32) (v1306 : IVec S16 32) (k0_hw73 : k0_chk73 v1304 v1306), ∀ a x, ((![v1304, v1306] : Fin 2 → IVec S16 32) a x).toNat < S4096x16.size a := fun v1304 v1306 k0_hw73 => k0_hw73
def k0_off96 (k0_t3 : Fin k0_t3_loop.trips) : Fin 2 → Nat :=
  let c72_i32 : BitVec 32 := 72#32
  let v1309 : Index := Scalar.indexCast c72_i32
  let c0_i32_239 : BitVec 32 := 0#32
  let c1_i32_241 : BitVec 32 := 1#32
  let arg12 : BitVec 32 := Scf.iv c0_i32_239 c1_i32_241 k0_t3
  let c16_i32_749 : BitVec 32 := 16#32
  let v1308 : BitVec 32 := Scalar.muli arg12 c16_i32_749
  let v1310 : Index := Scalar.indexCast v1308
  ![72, v1310.toNat]

def k0_chk74 (v1318 : IVec S16 32) (v1320 : IVec S16 32) : Prop :=
  (∀ a x, ((![v1318, v1320] : Fin 2 → IVec S16 32) a x).toNat < S4096x16.size a)
theorem k0_idx74_inb : ∀ (v1318 : IVec S16 32) (v1320 : IVec S16 32) (k0_hw74 : k0_chk74 v1318 v1320), ∀ a x, ((![v1318, v1320] : Fin 2 → IVec S16 32) a x).toNat < S4096x16.size a := fun v1318 v1320 k0_hw74 => k0_hw74
def k0_off97 (k0_t3 : Fin k0_t3_loop.trips) : Fin 2 → Nat :=
  let c73_i32 : BitVec 32 := 73#32
  let v1323 : Index := Scalar.indexCast c73_i32
  let c0_i32_239 : BitVec 32 := 0#32
  let c1_i32_241 : BitVec 32 := 1#32
  let arg12 : BitVec 32 := Scf.iv c0_i32_239 c1_i32_241 k0_t3
  let c16_i32_754 : BitVec 32 := 16#32
  let v1322 : BitVec 32 := Scalar.muli arg12 c16_i32_754
  let v1324 : Index := Scalar.indexCast v1322
  ![73, v1324.toNat]

def k0_chk75 (v1332 : IVec S16 32) (v1334 : IVec S16 32) : Prop :=
  (∀ a x, ((![v1332, v1334] : Fin 2 → IVec S16 32) a x).toNat < S4096x16.size a)
theorem k0_idx75_inb : ∀ (v1332 : IVec S16 32) (v1334 : IVec S16 32) (k0_hw75 : k0_chk75 v1332 v1334), ∀ a x, ((![v1332, v1334] : Fin 2 → IVec S16 32) a x).toNat < S4096x16.size a := fun v1332 v1334 k0_hw75 => k0_hw75
def k0_off98 (k0_t3 : Fin k0_t3_loop.trips) : Fin 2 → Nat :=
  let c74_i32 : BitVec 32 := 74#32
  let v1337 : Index := Scalar.indexCast c74_i32
  let c0_i32_239 : BitVec 32 := 0#32
  let c1_i32_241 : BitVec 32 := 1#32
  let arg12 : BitVec 32 := Scf.iv c0_i32_239 c1_i32_241 k0_t3
  let c16_i32_759 : BitVec 32 := 16#32
  let v1336 : BitVec 32 := Scalar.muli arg12 c16_i32_759
  let v1338 : Index := Scalar.indexCast v1336
  ![74, v1338.toNat]

def k0_chk76 (v1346 : IVec S16 32) (v1348 : IVec S16 32) : Prop :=
  (∀ a x, ((![v1346, v1348] : Fin 2 → IVec S16 32) a x).toNat < S4096x16.size a)
theorem k0_idx76_inb : ∀ (v1346 : IVec S16 32) (v1348 : IVec S16 32) (k0_hw76 : k0_chk76 v1346 v1348), ∀ a x, ((![v1346, v1348] : Fin 2 → IVec S16 32) a x).toNat < S4096x16.size a := fun v1346 v1348 k0_hw76 => k0_hw76
def k0_off99 (k0_t3 : Fin k0_t3_loop.trips) : Fin 2 → Nat :=
  let c75_i32 : BitVec 32 := 75#32
  let v1351 : Index := Scalar.indexCast c75_i32
  let c0_i32_239 : BitVec 32 := 0#32
  let c1_i32_241 : BitVec 32 := 1#32
  let arg12 : BitVec 32 := Scf.iv c0_i32_239 c1_i32_241 k0_t3
  let c16_i32_764 : BitVec 32 := 16#32
  let v1350 : BitVec 32 := Scalar.muli arg12 c16_i32_764
  let v1352 : Index := Scalar.indexCast v1350
  ![75, v1352.toNat]

def k0_chk77 (v1360 : IVec S16 32) (v1362 : IVec S16 32) : Prop :=
  (∀ a x, ((![v1360, v1362] : Fin 2 → IVec S16 32) a x).toNat < S4096x16.size a)
theorem k0_idx77_inb : ∀ (v1360 : IVec S16 32) (v1362 : IVec S16 32) (k0_hw77 : k0_chk77 v1360 v1362), ∀ a x, ((![v1360, v1362] : Fin 2 → IVec S16 32) a x).toNat < S4096x16.size a := fun v1360 v1362 k0_hw77 => k0_hw77
def k0_off100 (k0_t3 : Fin k0_t3_loop.trips) : Fin 2 → Nat :=
  let c76_i32 : BitVec 32 := 76#32
  let v1365 : Index := Scalar.indexCast c76_i32
  let c0_i32_239 : BitVec 32 := 0#32
  let c1_i32_241 : BitVec 32 := 1#32
  let arg12 : BitVec 32 := Scf.iv c0_i32_239 c1_i32_241 k0_t3
  let c16_i32_769 : BitVec 32 := 16#32
  let v1364 : BitVec 32 := Scalar.muli arg12 c16_i32_769
  let v1366 : Index := Scalar.indexCast v1364
  ![76, v1366.toNat]

def k0_chk78 (v1374 : IVec S16 32) (v1376 : IVec S16 32) : Prop :=
  (∀ a x, ((![v1374, v1376] : Fin 2 → IVec S16 32) a x).toNat < S4096x16.size a)
theorem k0_idx78_inb : ∀ (v1374 : IVec S16 32) (v1376 : IVec S16 32) (k0_hw78 : k0_chk78 v1374 v1376), ∀ a x, ((![v1374, v1376] : Fin 2 → IVec S16 32) a x).toNat < S4096x16.size a := fun v1374 v1376 k0_hw78 => k0_hw78
def k0_off101 (k0_t3 : Fin k0_t3_loop.trips) : Fin 2 → Nat :=
  let c77_i32 : BitVec 32 := 77#32
  let v1379 : Index := Scalar.indexCast c77_i32
  let c0_i32_239 : BitVec 32 := 0#32
  let c1_i32_241 : BitVec 32 := 1#32
  let arg12 : BitVec 32 := Scf.iv c0_i32_239 c1_i32_241 k0_t3
  let c16_i32_774 : BitVec 32 := 16#32
  let v1378 : BitVec 32 := Scalar.muli arg12 c16_i32_774
  let v1380 : Index := Scalar.indexCast v1378
  ![77, v1380.toNat]

def k0_chk79 (v1388 : IVec S16 32) (v1390 : IVec S16 32) : Prop :=
  (∀ a x, ((![v1388, v1390] : Fin 2 → IVec S16 32) a x).toNat < S4096x16.size a)
theorem k0_idx79_inb : ∀ (v1388 : IVec S16 32) (v1390 : IVec S16 32) (k0_hw79 : k0_chk79 v1388 v1390), ∀ a x, ((![v1388, v1390] : Fin 2 → IVec S16 32) a x).toNat < S4096x16.size a := fun v1388 v1390 k0_hw79 => k0_hw79
def k0_off102 (k0_t3 : Fin k0_t3_loop.trips) : Fin 2 → Nat :=
  let c78_i32 : BitVec 32 := 78#32
  let v1393 : Index := Scalar.indexCast c78_i32
  let c0_i32_239 : BitVec 32 := 0#32
  let c1_i32_241 : BitVec 32 := 1#32
  let arg12 : BitVec 32 := Scf.iv c0_i32_239 c1_i32_241 k0_t3
  let c16_i32_779 : BitVec 32 := 16#32
  let v1392 : BitVec 32 := Scalar.muli arg12 c16_i32_779
  let v1394 : Index := Scalar.indexCast v1392
  ![78, v1394.toNat]

def k0_chk80 (v1402 : IVec S16 32) (v1404 : IVec S16 32) : Prop :=
  (∀ a x, ((![v1402, v1404] : Fin 2 → IVec S16 32) a x).toNat < S4096x16.size a)
theorem k0_idx80_inb : ∀ (v1402 : IVec S16 32) (v1404 : IVec S16 32) (k0_hw80 : k0_chk80 v1402 v1404), ∀ a x, ((![v1402, v1404] : Fin 2 → IVec S16 32) a x).toNat < S4096x16.size a := fun v1402 v1404 k0_hw80 => k0_hw80
def k0_off103 (k0_t3 : Fin k0_t3_loop.trips) : Fin 2 → Nat :=
  let c79_i32 : BitVec 32 := 79#32
  let v1407 : Index := Scalar.indexCast c79_i32
  let c0_i32_239 : BitVec 32 := 0#32
  let c1_i32_241 : BitVec 32 := 1#32
  let arg12 : BitVec 32 := Scf.iv c0_i32_239 c1_i32_241 k0_t3
  let c16_i32_784 : BitVec 32 := 16#32
  let v1406 : BitVec 32 := Scalar.muli arg12 c16_i32_784
  let v1408 : Index := Scalar.indexCast v1406
  ![79, v1408.toNat]

def k0_chk81 (v1418 : IVec S16 32) (v1420 : IVec S16 32) : Prop :=
  (∀ a x, ((![v1418, v1420] : Fin 2 → IVec S16 32) a x).toNat < S4096x16.size a)
theorem k0_idx81_inb : ∀ (v1418 : IVec S16 32) (v1420 : IVec S16 32) (k0_hw81 : k0_chk81 v1418 v1420), ∀ a x, ((![v1418, v1420] : Fin 2 → IVec S16 32) a x).toNat < S4096x16.size a := fun v1418 v1420 k0_hw81 => k0_hw81
def k0_off104 (k0_t3 : Fin k0_t3_loop.trips) : Fin 2 → Nat :=
  let c80_i32 : BitVec 32 := 80#32
  let v1423 : Index := Scalar.indexCast c80_i32
  let c0_i32_239 : BitVec 32 := 0#32
  let c1_i32_241 : BitVec 32 := 1#32
  let arg12 : BitVec 32 := Scf.iv c0_i32_239 c1_i32_241 k0_t3
  let c16_i32_790 : BitVec 32 := 16#32
  let v1422 : BitVec 32 := Scalar.muli arg12 c16_i32_790
  let v1424 : Index := Scalar.indexCast v1422
  ![80, v1424.toNat]

def k0_chk82 (v1432 : IVec S16 32) (v1434 : IVec S16 32) : Prop :=
  (∀ a x, ((![v1432, v1434] : Fin 2 → IVec S16 32) a x).toNat < S4096x16.size a)
theorem k0_idx82_inb : ∀ (v1432 : IVec S16 32) (v1434 : IVec S16 32) (k0_hw82 : k0_chk82 v1432 v1434), ∀ a x, ((![v1432, v1434] : Fin 2 → IVec S16 32) a x).toNat < S4096x16.size a := fun v1432 v1434 k0_hw82 => k0_hw82
def k0_off105 (k0_t3 : Fin k0_t3_loop.trips) : Fin 2 → Nat :=
  let c81_i32 : BitVec 32 := 81#32
  let v1437 : Index := Scalar.indexCast c81_i32
  let c0_i32_239 : BitVec 32 := 0#32
  let c1_i32_241 : BitVec 32 := 1#32
  let arg12 : BitVec 32 := Scf.iv c0_i32_239 c1_i32_241 k0_t3
  let c16_i32_795 : BitVec 32 := 16#32
  let v1436 : BitVec 32 := Scalar.muli arg12 c16_i32_795
  let v1438 : Index := Scalar.indexCast v1436
  ![81, v1438.toNat]

def k0_chk83 (v1446 : IVec S16 32) (v1448 : IVec S16 32) : Prop :=
  (∀ a x, ((![v1446, v1448] : Fin 2 → IVec S16 32) a x).toNat < S4096x16.size a)
theorem k0_idx83_inb : ∀ (v1446 : IVec S16 32) (v1448 : IVec S16 32) (k0_hw83 : k0_chk83 v1446 v1448), ∀ a x, ((![v1446, v1448] : Fin 2 → IVec S16 32) a x).toNat < S4096x16.size a := fun v1446 v1448 k0_hw83 => k0_hw83
def k0_off106 (k0_t3 : Fin k0_t3_loop.trips) : Fin 2 → Nat :=
  let c82_i32 : BitVec 32 := 82#32
  let v1451 : Index := Scalar.indexCast c82_i32
  let c0_i32_239 : BitVec 32 := 0#32
  let c1_i32_241 : BitVec 32 := 1#32
  let arg12 : BitVec 32 := Scf.iv c0_i32_239 c1_i32_241 k0_t3
  let c16_i32_800 : BitVec 32 := 16#32
  let v1450 : BitVec 32 := Scalar.muli arg12 c16_i32_800
  let v1452 : Index := Scalar.indexCast v1450
  ![82, v1452.toNat]

def k0_chk84 (v1460 : IVec S16 32) (v1462 : IVec S16 32) : Prop :=
  (∀ a x, ((![v1460, v1462] : Fin 2 → IVec S16 32) a x).toNat < S4096x16.size a)
theorem k0_idx84_inb : ∀ (v1460 : IVec S16 32) (v1462 : IVec S16 32) (k0_hw84 : k0_chk84 v1460 v1462), ∀ a x, ((![v1460, v1462] : Fin 2 → IVec S16 32) a x).toNat < S4096x16.size a := fun v1460 v1462 k0_hw84 => k0_hw84
def k0_off107 (k0_t3 : Fin k0_t3_loop.trips) : Fin 2 → Nat :=
  let c83_i32 : BitVec 32 := 83#32
  let v1465 : Index := Scalar.indexCast c83_i32
  let c0_i32_239 : BitVec 32 := 0#32
  let c1_i32_241 : BitVec 32 := 1#32
  let arg12 : BitVec 32 := Scf.iv c0_i32_239 c1_i32_241 k0_t3
  let c16_i32_805 : BitVec 32 := 16#32
  let v1464 : BitVec 32 := Scalar.muli arg12 c16_i32_805
  let v1466 : Index := Scalar.indexCast v1464
  ![83, v1466.toNat]

def k0_chk85 (v1474 : IVec S16 32) (v1476 : IVec S16 32) : Prop :=
  (∀ a x, ((![v1474, v1476] : Fin 2 → IVec S16 32) a x).toNat < S4096x16.size a)
theorem k0_idx85_inb : ∀ (v1474 : IVec S16 32) (v1476 : IVec S16 32) (k0_hw85 : k0_chk85 v1474 v1476), ∀ a x, ((![v1474, v1476] : Fin 2 → IVec S16 32) a x).toNat < S4096x16.size a := fun v1474 v1476 k0_hw85 => k0_hw85
def k0_off108 (k0_t3 : Fin k0_t3_loop.trips) : Fin 2 → Nat :=
  let c84_i32 : BitVec 32 := 84#32
  let v1479 : Index := Scalar.indexCast c84_i32
  let c0_i32_239 : BitVec 32 := 0#32
  let c1_i32_241 : BitVec 32 := 1#32
  let arg12 : BitVec 32 := Scf.iv c0_i32_239 c1_i32_241 k0_t3
  let c16_i32_810 : BitVec 32 := 16#32
  let v1478 : BitVec 32 := Scalar.muli arg12 c16_i32_810
  let v1480 : Index := Scalar.indexCast v1478
  ![84, v1480.toNat]

def k0_chk86 (v1488 : IVec S16 32) (v1490 : IVec S16 32) : Prop :=
  (∀ a x, ((![v1488, v1490] : Fin 2 → IVec S16 32) a x).toNat < S4096x16.size a)
theorem k0_idx86_inb : ∀ (v1488 : IVec S16 32) (v1490 : IVec S16 32) (k0_hw86 : k0_chk86 v1488 v1490), ∀ a x, ((![v1488, v1490] : Fin 2 → IVec S16 32) a x).toNat < S4096x16.size a := fun v1488 v1490 k0_hw86 => k0_hw86
def k0_off109 (k0_t3 : Fin k0_t3_loop.trips) : Fin 2 → Nat :=
  let c85_i32 : BitVec 32 := 85#32
  let v1493 : Index := Scalar.indexCast c85_i32
  let c0_i32_239 : BitVec 32 := 0#32
  let c1_i32_241 : BitVec 32 := 1#32
  let arg12 : BitVec 32 := Scf.iv c0_i32_239 c1_i32_241 k0_t3
  let c16_i32_815 : BitVec 32 := 16#32
  let v1492 : BitVec 32 := Scalar.muli arg12 c16_i32_815
  let v1494 : Index := Scalar.indexCast v1492
  ![85, v1494.toNat]

def k0_chk87 (v1502 : IVec S16 32) (v1504 : IVec S16 32) : Prop :=
  (∀ a x, ((![v1502, v1504] : Fin 2 → IVec S16 32) a x).toNat < S4096x16.size a)
theorem k0_idx87_inb : ∀ (v1502 : IVec S16 32) (v1504 : IVec S16 32) (k0_hw87 : k0_chk87 v1502 v1504), ∀ a x, ((![v1502, v1504] : Fin 2 → IVec S16 32) a x).toNat < S4096x16.size a := fun v1502 v1504 k0_hw87 => k0_hw87
def k0_off110 (k0_t3 : Fin k0_t3_loop.trips) : Fin 2 → Nat :=
  let c86_i32 : BitVec 32 := 86#32
  let v1507 : Index := Scalar.indexCast c86_i32
  let c0_i32_239 : BitVec 32 := 0#32
  let c1_i32_241 : BitVec 32 := 1#32
  let arg12 : BitVec 32 := Scf.iv c0_i32_239 c1_i32_241 k0_t3
  let c16_i32_820 : BitVec 32 := 16#32
  let v1506 : BitVec 32 := Scalar.muli arg12 c16_i32_820
  let v1508 : Index := Scalar.indexCast v1506
  ![86, v1508.toNat]

def k0_chk88 (v1516 : IVec S16 32) (v1518 : IVec S16 32) : Prop :=
  (∀ a x, ((![v1516, v1518] : Fin 2 → IVec S16 32) a x).toNat < S4096x16.size a)
theorem k0_idx88_inb : ∀ (v1516 : IVec S16 32) (v1518 : IVec S16 32) (k0_hw88 : k0_chk88 v1516 v1518), ∀ a x, ((![v1516, v1518] : Fin 2 → IVec S16 32) a x).toNat < S4096x16.size a := fun v1516 v1518 k0_hw88 => k0_hw88
def k0_off111 (k0_t3 : Fin k0_t3_loop.trips) : Fin 2 → Nat :=
  let c87_i32 : BitVec 32 := 87#32
  let v1521 : Index := Scalar.indexCast c87_i32
  let c0_i32_239 : BitVec 32 := 0#32
  let c1_i32_241 : BitVec 32 := 1#32
  let arg12 : BitVec 32 := Scf.iv c0_i32_239 c1_i32_241 k0_t3
  let c16_i32_825 : BitVec 32 := 16#32
  let v1520 : BitVec 32 := Scalar.muli arg12 c16_i32_825
  let v1522 : Index := Scalar.indexCast v1520
  ![87, v1522.toNat]

def k0_chk89 (v1530 : IVec S16 32) (v1532 : IVec S16 32) : Prop :=
  (∀ a x, ((![v1530, v1532] : Fin 2 → IVec S16 32) a x).toNat < S4096x16.size a)
theorem k0_idx89_inb : ∀ (v1530 : IVec S16 32) (v1532 : IVec S16 32) (k0_hw89 : k0_chk89 v1530 v1532), ∀ a x, ((![v1530, v1532] : Fin 2 → IVec S16 32) a x).toNat < S4096x16.size a := fun v1530 v1532 k0_hw89 => k0_hw89
def k0_off112 (k0_t3 : Fin k0_t3_loop.trips) : Fin 2 → Nat :=
  let c88_i32 : BitVec 32 := 88#32
  let v1535 : Index := Scalar.indexCast c88_i32
  let c0_i32_239 : BitVec 32 := 0#32
  let c1_i32_241 : BitVec 32 := 1#32
  let arg12 : BitVec 32 := Scf.iv c0_i32_239 c1_i32_241 k0_t3
  let c16_i32_830 : BitVec 32 := 16#32
  let v1534 : BitVec 32 := Scalar.muli arg12 c16_i32_830
  let v1536 : Index := Scalar.indexCast v1534
  ![88, v1536.toNat]

def k0_chk90 (v1544 : IVec S16 32) (v1546 : IVec S16 32) : Prop :=
  (∀ a x, ((![v1544, v1546] : Fin 2 → IVec S16 32) a x).toNat < S4096x16.size a)
theorem k0_idx90_inb : ∀ (v1544 : IVec S16 32) (v1546 : IVec S16 32) (k0_hw90 : k0_chk90 v1544 v1546), ∀ a x, ((![v1544, v1546] : Fin 2 → IVec S16 32) a x).toNat < S4096x16.size a := fun v1544 v1546 k0_hw90 => k0_hw90
def k0_off113 (k0_t3 : Fin k0_t3_loop.trips) : Fin 2 → Nat :=
  let c89_i32 : BitVec 32 := 89#32
  let v1549 : Index := Scalar.indexCast c89_i32
  let c0_i32_239 : BitVec 32 := 0#32
  let c1_i32_241 : BitVec 32 := 1#32
  let arg12 : BitVec 32 := Scf.iv c0_i32_239 c1_i32_241 k0_t3
  let c16_i32_835 : BitVec 32 := 16#32
  let v1548 : BitVec 32 := Scalar.muli arg12 c16_i32_835
  let v1550 : Index := Scalar.indexCast v1548
  ![89, v1550.toNat]

def k0_chk91 (v1558 : IVec S16 32) (v1560 : IVec S16 32) : Prop :=
  (∀ a x, ((![v1558, v1560] : Fin 2 → IVec S16 32) a x).toNat < S4096x16.size a)
theorem k0_idx91_inb : ∀ (v1558 : IVec S16 32) (v1560 : IVec S16 32) (k0_hw91 : k0_chk91 v1558 v1560), ∀ a x, ((![v1558, v1560] : Fin 2 → IVec S16 32) a x).toNat < S4096x16.size a := fun v1558 v1560 k0_hw91 => k0_hw91
def k0_off114 (k0_t3 : Fin k0_t3_loop.trips) : Fin 2 → Nat :=
  let c90_i32 : BitVec 32 := 90#32
  let v1563 : Index := Scalar.indexCast c90_i32
  let c0_i32_239 : BitVec 32 := 0#32
  let c1_i32_241 : BitVec 32 := 1#32
  let arg12 : BitVec 32 := Scf.iv c0_i32_239 c1_i32_241 k0_t3
  let c16_i32_840 : BitVec 32 := 16#32
  let v1562 : BitVec 32 := Scalar.muli arg12 c16_i32_840
  let v1564 : Index := Scalar.indexCast v1562
  ![90, v1564.toNat]

def k0_chk92 (v1572 : IVec S16 32) (v1574 : IVec S16 32) : Prop :=
  (∀ a x, ((![v1572, v1574] : Fin 2 → IVec S16 32) a x).toNat < S4096x16.size a)
theorem k0_idx92_inb : ∀ (v1572 : IVec S16 32) (v1574 : IVec S16 32) (k0_hw92 : k0_chk92 v1572 v1574), ∀ a x, ((![v1572, v1574] : Fin 2 → IVec S16 32) a x).toNat < S4096x16.size a := fun v1572 v1574 k0_hw92 => k0_hw92
def k0_off115 (k0_t3 : Fin k0_t3_loop.trips) : Fin 2 → Nat :=
  let c91_i32 : BitVec 32 := 91#32
  let v1577 : Index := Scalar.indexCast c91_i32
  let c0_i32_239 : BitVec 32 := 0#32
  let c1_i32_241 : BitVec 32 := 1#32
  let arg12 : BitVec 32 := Scf.iv c0_i32_239 c1_i32_241 k0_t3
  let c16_i32_845 : BitVec 32 := 16#32
  let v1576 : BitVec 32 := Scalar.muli arg12 c16_i32_845
  let v1578 : Index := Scalar.indexCast v1576
  ![91, v1578.toNat]

def k0_chk93 (v1586 : IVec S16 32) (v1588 : IVec S16 32) : Prop :=
  (∀ a x, ((![v1586, v1588] : Fin 2 → IVec S16 32) a x).toNat < S4096x16.size a)
theorem k0_idx93_inb : ∀ (v1586 : IVec S16 32) (v1588 : IVec S16 32) (k0_hw93 : k0_chk93 v1586 v1588), ∀ a x, ((![v1586, v1588] : Fin 2 → IVec S16 32) a x).toNat < S4096x16.size a := fun v1586 v1588 k0_hw93 => k0_hw93
def k0_off116 (k0_t3 : Fin k0_t3_loop.trips) : Fin 2 → Nat :=
  let c92_i32 : BitVec 32 := 92#32
  let v1591 : Index := Scalar.indexCast c92_i32
  let c0_i32_239 : BitVec 32 := 0#32
  let c1_i32_241 : BitVec 32 := 1#32
  let arg12 : BitVec 32 := Scf.iv c0_i32_239 c1_i32_241 k0_t3
  let c16_i32_850 : BitVec 32 := 16#32
  let v1590 : BitVec 32 := Scalar.muli arg12 c16_i32_850
  let v1592 : Index := Scalar.indexCast v1590
  ![92, v1592.toNat]

def k0_chk94 (v1600 : IVec S16 32) (v1602 : IVec S16 32) : Prop :=
  (∀ a x, ((![v1600, v1602] : Fin 2 → IVec S16 32) a x).toNat < S4096x16.size a)
theorem k0_idx94_inb : ∀ (v1600 : IVec S16 32) (v1602 : IVec S16 32) (k0_hw94 : k0_chk94 v1600 v1602), ∀ a x, ((![v1600, v1602] : Fin 2 → IVec S16 32) a x).toNat < S4096x16.size a := fun v1600 v1602 k0_hw94 => k0_hw94
def k0_off117 (k0_t3 : Fin k0_t3_loop.trips) : Fin 2 → Nat :=
  let c93_i32 : BitVec 32 := 93#32
  let v1605 : Index := Scalar.indexCast c93_i32
  let c0_i32_239 : BitVec 32 := 0#32
  let c1_i32_241 : BitVec 32 := 1#32
  let arg12 : BitVec 32 := Scf.iv c0_i32_239 c1_i32_241 k0_t3
  let c16_i32_855 : BitVec 32 := 16#32
  let v1604 : BitVec 32 := Scalar.muli arg12 c16_i32_855
  let v1606 : Index := Scalar.indexCast v1604
  ![93, v1606.toNat]

def k0_chk95 (v1614 : IVec S16 32) (v1616 : IVec S16 32) : Prop :=
  (∀ a x, ((![v1614, v1616] : Fin 2 → IVec S16 32) a x).toNat < S4096x16.size a)
theorem k0_idx95_inb : ∀ (v1614 : IVec S16 32) (v1616 : IVec S16 32) (k0_hw95 : k0_chk95 v1614 v1616), ∀ a x, ((![v1614, v1616] : Fin 2 → IVec S16 32) a x).toNat < S4096x16.size a := fun v1614 v1616 k0_hw95 => k0_hw95
def k0_off118 (k0_t3 : Fin k0_t3_loop.trips) : Fin 2 → Nat :=
  let c94_i32 : BitVec 32 := 94#32
  let v1619 : Index := Scalar.indexCast c94_i32
  let c0_i32_239 : BitVec 32 := 0#32
  let c1_i32_241 : BitVec 32 := 1#32
  let arg12 : BitVec 32 := Scf.iv c0_i32_239 c1_i32_241 k0_t3
  let c16_i32_860 : BitVec 32 := 16#32
  let v1618 : BitVec 32 := Scalar.muli arg12 c16_i32_860
  let v1620 : Index := Scalar.indexCast v1618
  ![94, v1620.toNat]

def k0_chk96 (v1628 : IVec S16 32) (v1630 : IVec S16 32) : Prop :=
  (∀ a x, ((![v1628, v1630] : Fin 2 → IVec S16 32) a x).toNat < S4096x16.size a)
theorem k0_idx96_inb : ∀ (v1628 : IVec S16 32) (v1630 : IVec S16 32) (k0_hw96 : k0_chk96 v1628 v1630), ∀ a x, ((![v1628, v1630] : Fin 2 → IVec S16 32) a x).toNat < S4096x16.size a := fun v1628 v1630 k0_hw96 => k0_hw96
def k0_off119 (k0_t3 : Fin k0_t3_loop.trips) : Fin 2 → Nat :=
  let c95_i32 : BitVec 32 := 95#32
  let v1633 : Index := Scalar.indexCast c95_i32
  let c0_i32_239 : BitVec 32 := 0#32
  let c1_i32_241 : BitVec 32 := 1#32
  let arg12 : BitVec 32 := Scf.iv c0_i32_239 c1_i32_241 k0_t3
  let c16_i32_865 : BitVec 32 := 16#32
  let v1632 : BitVec 32 := Scalar.muli arg12 c16_i32_865
  let v1634 : Index := Scalar.indexCast v1632
  ![95, v1634.toNat]

def k0_chk97 (v1644 : IVec S16 32) (v1646 : IVec S16 32) : Prop :=
  (∀ a x, ((![v1644, v1646] : Fin 2 → IVec S16 32) a x).toNat < S4096x16.size a)
theorem k0_idx97_inb : ∀ (v1644 : IVec S16 32) (v1646 : IVec S16 32) (k0_hw97 : k0_chk97 v1644 v1646), ∀ a x, ((![v1644, v1646] : Fin 2 → IVec S16 32) a x).toNat < S4096x16.size a := fun v1644 v1646 k0_hw97 => k0_hw97
def k0_off120 (k0_t3 : Fin k0_t3_loop.trips) : Fin 2 → Nat :=
  let c96_i32 : BitVec 32 := 96#32
  let v1649 : Index := Scalar.indexCast c96_i32
  let c0_i32_239 : BitVec 32 := 0#32
  let c1_i32_241 : BitVec 32 := 1#32
  let arg12 : BitVec 32 := Scf.iv c0_i32_239 c1_i32_241 k0_t3
  let c16_i32_871 : BitVec 32 := 16#32
  let v1648 : BitVec 32 := Scalar.muli arg12 c16_i32_871
  let v1650 : Index := Scalar.indexCast v1648
  ![96, v1650.toNat]

def k0_chk98 (v1658 : IVec S16 32) (v1660 : IVec S16 32) : Prop :=
  (∀ a x, ((![v1658, v1660] : Fin 2 → IVec S16 32) a x).toNat < S4096x16.size a)
theorem k0_idx98_inb : ∀ (v1658 : IVec S16 32) (v1660 : IVec S16 32) (k0_hw98 : k0_chk98 v1658 v1660), ∀ a x, ((![v1658, v1660] : Fin 2 → IVec S16 32) a x).toNat < S4096x16.size a := fun v1658 v1660 k0_hw98 => k0_hw98
def k0_off121 (k0_t3 : Fin k0_t3_loop.trips) : Fin 2 → Nat :=
  let c97_i32 : BitVec 32 := 97#32
  let v1663 : Index := Scalar.indexCast c97_i32
  let c0_i32_239 : BitVec 32 := 0#32
  let c1_i32_241 : BitVec 32 := 1#32
  let arg12 : BitVec 32 := Scf.iv c0_i32_239 c1_i32_241 k0_t3
  let c16_i32_876 : BitVec 32 := 16#32
  let v1662 : BitVec 32 := Scalar.muli arg12 c16_i32_876
  let v1664 : Index := Scalar.indexCast v1662
  ![97, v1664.toNat]

def k0_chk99 (v1672 : IVec S16 32) (v1674 : IVec S16 32) : Prop :=
  (∀ a x, ((![v1672, v1674] : Fin 2 → IVec S16 32) a x).toNat < S4096x16.size a)
theorem k0_idx99_inb : ∀ (v1672 : IVec S16 32) (v1674 : IVec S16 32) (k0_hw99 : k0_chk99 v1672 v1674), ∀ a x, ((![v1672, v1674] : Fin 2 → IVec S16 32) a x).toNat < S4096x16.size a := fun v1672 v1674 k0_hw99 => k0_hw99
def k0_off122 (k0_t3 : Fin k0_t3_loop.trips) : Fin 2 → Nat :=
  let c98_i32 : BitVec 32 := 98#32
  let v1677 : Index := Scalar.indexCast c98_i32
  let c0_i32_239 : BitVec 32 := 0#32
  let c1_i32_241 : BitVec 32 := 1#32
  let arg12 : BitVec 32 := Scf.iv c0_i32_239 c1_i32_241 k0_t3
  let c16_i32_881 : BitVec 32 := 16#32
  let v1676 : BitVec 32 := Scalar.muli arg12 c16_i32_881
  let v1678 : Index := Scalar.indexCast v1676
  ![98, v1678.toNat]

def k0_chk100 (v1686 : IVec S16 32) (v1688 : IVec S16 32) : Prop :=
  (∀ a x, ((![v1686, v1688] : Fin 2 → IVec S16 32) a x).toNat < S4096x16.size a)
theorem k0_idx100_inb : ∀ (v1686 : IVec S16 32) (v1688 : IVec S16 32) (k0_hw100 : k0_chk100 v1686 v1688), ∀ a x, ((![v1686, v1688] : Fin 2 → IVec S16 32) a x).toNat < S4096x16.size a := fun v1686 v1688 k0_hw100 => k0_hw100
def k0_off123 (k0_t3 : Fin k0_t3_loop.trips) : Fin 2 → Nat :=
  let c99_i32 : BitVec 32 := 99#32
  let v1691 : Index := Scalar.indexCast c99_i32
  let c0_i32_239 : BitVec 32 := 0#32
  let c1_i32_241 : BitVec 32 := 1#32
  let arg12 : BitVec 32 := Scf.iv c0_i32_239 c1_i32_241 k0_t3
  let c16_i32_886 : BitVec 32 := 16#32
  let v1690 : BitVec 32 := Scalar.muli arg12 c16_i32_886
  let v1692 : Index := Scalar.indexCast v1690
  ![99, v1692.toNat]

def k0_chk101 (v1700 : IVec S16 32) (v1702 : IVec S16 32) : Prop :=
  (∀ a x, ((![v1700, v1702] : Fin 2 → IVec S16 32) a x).toNat < S4096x16.size a)
theorem k0_idx101_inb : ∀ (v1700 : IVec S16 32) (v1702 : IVec S16 32) (k0_hw101 : k0_chk101 v1700 v1702), ∀ a x, ((![v1700, v1702] : Fin 2 → IVec S16 32) a x).toNat < S4096x16.size a := fun v1700 v1702 k0_hw101 => k0_hw101
def k0_off124 (k0_t3 : Fin k0_t3_loop.trips) : Fin 2 → Nat :=
  let c100_i32 : BitVec 32 := 100#32
  let v1705 : Index := Scalar.indexCast c100_i32
  let c0_i32_239 : BitVec 32 := 0#32
  let c1_i32_241 : BitVec 32 := 1#32
  let arg12 : BitVec 32 := Scf.iv c0_i32_239 c1_i32_241 k0_t3
  let c16_i32_891 : BitVec 32 := 16#32
  let v1704 : BitVec 32 := Scalar.muli arg12 c16_i32_891
  let v1706 : Index := Scalar.indexCast v1704
  ![100, v1706.toNat]

def k0_chk102 (v1714 : IVec S16 32) (v1716 : IVec S16 32) : Prop :=
  (∀ a x, ((![v1714, v1716] : Fin 2 → IVec S16 32) a x).toNat < S4096x16.size a)
theorem k0_idx102_inb : ∀ (v1714 : IVec S16 32) (v1716 : IVec S16 32) (k0_hw102 : k0_chk102 v1714 v1716), ∀ a x, ((![v1714, v1716] : Fin 2 → IVec S16 32) a x).toNat < S4096x16.size a := fun v1714 v1716 k0_hw102 => k0_hw102
def k0_off125 (k0_t3 : Fin k0_t3_loop.trips) : Fin 2 → Nat :=
  let c101_i32 : BitVec 32 := 101#32
  let v1719 : Index := Scalar.indexCast c101_i32
  let c0_i32_239 : BitVec 32 := 0#32
  let c1_i32_241 : BitVec 32 := 1#32
  let arg12 : BitVec 32 := Scf.iv c0_i32_239 c1_i32_241 k0_t3
  let c16_i32_896 : BitVec 32 := 16#32
  let v1718 : BitVec 32 := Scalar.muli arg12 c16_i32_896
  let v1720 : Index := Scalar.indexCast v1718
  ![101, v1720.toNat]

def k0_chk103 (v1728 : IVec S16 32) (v1730 : IVec S16 32) : Prop :=
  (∀ a x, ((![v1728, v1730] : Fin 2 → IVec S16 32) a x).toNat < S4096x16.size a)
theorem k0_idx103_inb : ∀ (v1728 : IVec S16 32) (v1730 : IVec S16 32) (k0_hw103 : k0_chk103 v1728 v1730), ∀ a x, ((![v1728, v1730] : Fin 2 → IVec S16 32) a x).toNat < S4096x16.size a := fun v1728 v1730 k0_hw103 => k0_hw103
def k0_off126 (k0_t3 : Fin k0_t3_loop.trips) : Fin 2 → Nat :=
  let c102_i32 : BitVec 32 := 102#32
  let v1733 : Index := Scalar.indexCast c102_i32
  let c0_i32_239 : BitVec 32 := 0#32
  let c1_i32_241 : BitVec 32 := 1#32
  let arg12 : BitVec 32 := Scf.iv c0_i32_239 c1_i32_241 k0_t3
  let c16_i32_901 : BitVec 32 := 16#32
  let v1732 : BitVec 32 := Scalar.muli arg12 c16_i32_901
  let v1734 : Index := Scalar.indexCast v1732
  ![102, v1734.toNat]

def k0_chk104 (v1742 : IVec S16 32) (v1744 : IVec S16 32) : Prop :=
  (∀ a x, ((![v1742, v1744] : Fin 2 → IVec S16 32) a x).toNat < S4096x16.size a)
theorem k0_idx104_inb : ∀ (v1742 : IVec S16 32) (v1744 : IVec S16 32) (k0_hw104 : k0_chk104 v1742 v1744), ∀ a x, ((![v1742, v1744] : Fin 2 → IVec S16 32) a x).toNat < S4096x16.size a := fun v1742 v1744 k0_hw104 => k0_hw104
def k0_off127 (k0_t3 : Fin k0_t3_loop.trips) : Fin 2 → Nat :=
  let c103_i32 : BitVec 32 := 103#32
  let v1747 : Index := Scalar.indexCast c103_i32
  let c0_i32_239 : BitVec 32 := 0#32
  let c1_i32_241 : BitVec 32 := 1#32
  let arg12 : BitVec 32 := Scf.iv c0_i32_239 c1_i32_241 k0_t3
  let c16_i32_906 : BitVec 32 := 16#32
  let v1746 : BitVec 32 := Scalar.muli arg12 c16_i32_906
  let v1748 : Index := Scalar.indexCast v1746
  ![103, v1748.toNat]

def k0_chk105 (v1756 : IVec S16 32) (v1758 : IVec S16 32) : Prop :=
  (∀ a x, ((![v1756, v1758] : Fin 2 → IVec S16 32) a x).toNat < S4096x16.size a)
theorem k0_idx105_inb : ∀ (v1756 : IVec S16 32) (v1758 : IVec S16 32) (k0_hw105 : k0_chk105 v1756 v1758), ∀ a x, ((![v1756, v1758] : Fin 2 → IVec S16 32) a x).toNat < S4096x16.size a := fun v1756 v1758 k0_hw105 => k0_hw105
def k0_off128 (k0_t3 : Fin k0_t3_loop.trips) : Fin 2 → Nat :=
  let c104_i32 : BitVec 32 := 104#32
  let v1761 : Index := Scalar.indexCast c104_i32
  let c0_i32_239 : BitVec 32 := 0#32
  let c1_i32_241 : BitVec 32 := 1#32
  let arg12 : BitVec 32 := Scf.iv c0_i32_239 c1_i32_241 k0_t3
  let c16_i32_911 : BitVec 32 := 16#32
  let v1760 : BitVec 32 := Scalar.muli arg12 c16_i32_911
  let v1762 : Index := Scalar.indexCast v1760
  ![104, v1762.toNat]

def k0_chk106 (v1770 : IVec S16 32) (v1772 : IVec S16 32) : Prop :=
  (∀ a x, ((![v1770, v1772] : Fin 2 → IVec S16 32) a x).toNat < S4096x16.size a)
theorem k0_idx106_inb : ∀ (v1770 : IVec S16 32) (v1772 : IVec S16 32) (k0_hw106 : k0_chk106 v1770 v1772), ∀ a x, ((![v1770, v1772] : Fin 2 → IVec S16 32) a x).toNat < S4096x16.size a := fun v1770 v1772 k0_hw106 => k0_hw106
def k0_off129 (k0_t3 : Fin k0_t3_loop.trips) : Fin 2 → Nat :=
  let c105_i32 : BitVec 32 := 105#32
  let v1775 : Index := Scalar.indexCast c105_i32
  let c0_i32_239 : BitVec 32 := 0#32
  let c1_i32_241 : BitVec 32 := 1#32
  let arg12 : BitVec 32 := Scf.iv c0_i32_239 c1_i32_241 k0_t3
  let c16_i32_916 : BitVec 32 := 16#32
  let v1774 : BitVec 32 := Scalar.muli arg12 c16_i32_916
  let v1776 : Index := Scalar.indexCast v1774
  ![105, v1776.toNat]

def k0_chk107 (v1784 : IVec S16 32) (v1786 : IVec S16 32) : Prop :=
  (∀ a x, ((![v1784, v1786] : Fin 2 → IVec S16 32) a x).toNat < S4096x16.size a)
theorem k0_idx107_inb : ∀ (v1784 : IVec S16 32) (v1786 : IVec S16 32) (k0_hw107 : k0_chk107 v1784 v1786), ∀ a x, ((![v1784, v1786] : Fin 2 → IVec S16 32) a x).toNat < S4096x16.size a := fun v1784 v1786 k0_hw107 => k0_hw107
def k0_off130 (k0_t3 : Fin k0_t3_loop.trips) : Fin 2 → Nat :=
  let c106_i32 : BitVec 32 := 106#32
  let v1789 : Index := Scalar.indexCast c106_i32
  let c0_i32_239 : BitVec 32 := 0#32
  let c1_i32_241 : BitVec 32 := 1#32
  let arg12 : BitVec 32 := Scf.iv c0_i32_239 c1_i32_241 k0_t3
  let c16_i32_921 : BitVec 32 := 16#32
  let v1788 : BitVec 32 := Scalar.muli arg12 c16_i32_921
  let v1790 : Index := Scalar.indexCast v1788
  ![106, v1790.toNat]

def k0_chk108 (v1798 : IVec S16 32) (v1800 : IVec S16 32) : Prop :=
  (∀ a x, ((![v1798, v1800] : Fin 2 → IVec S16 32) a x).toNat < S4096x16.size a)
theorem k0_idx108_inb : ∀ (v1798 : IVec S16 32) (v1800 : IVec S16 32) (k0_hw108 : k0_chk108 v1798 v1800), ∀ a x, ((![v1798, v1800] : Fin 2 → IVec S16 32) a x).toNat < S4096x16.size a := fun v1798 v1800 k0_hw108 => k0_hw108
def k0_off131 (k0_t3 : Fin k0_t3_loop.trips) : Fin 2 → Nat :=
  let c107_i32 : BitVec 32 := 107#32
  let v1803 : Index := Scalar.indexCast c107_i32
  let c0_i32_239 : BitVec 32 := 0#32
  let c1_i32_241 : BitVec 32 := 1#32
  let arg12 : BitVec 32 := Scf.iv c0_i32_239 c1_i32_241 k0_t3
  let c16_i32_926 : BitVec 32 := 16#32
  let v1802 : BitVec 32 := Scalar.muli arg12 c16_i32_926
  let v1804 : Index := Scalar.indexCast v1802
  ![107, v1804.toNat]

def k0_chk109 (v1812 : IVec S16 32) (v1814 : IVec S16 32) : Prop :=
  (∀ a x, ((![v1812, v1814] : Fin 2 → IVec S16 32) a x).toNat < S4096x16.size a)
theorem k0_idx109_inb : ∀ (v1812 : IVec S16 32) (v1814 : IVec S16 32) (k0_hw109 : k0_chk109 v1812 v1814), ∀ a x, ((![v1812, v1814] : Fin 2 → IVec S16 32) a x).toNat < S4096x16.size a := fun v1812 v1814 k0_hw109 => k0_hw109
def k0_off132 (k0_t3 : Fin k0_t3_loop.trips) : Fin 2 → Nat :=
  let c108_i32 : BitVec 32 := 108#32
  let v1817 : Index := Scalar.indexCast c108_i32
  let c0_i32_239 : BitVec 32 := 0#32
  let c1_i32_241 : BitVec 32 := 1#32
  let arg12 : BitVec 32 := Scf.iv c0_i32_239 c1_i32_241 k0_t3
  let c16_i32_931 : BitVec 32 := 16#32
  let v1816 : BitVec 32 := Scalar.muli arg12 c16_i32_931
  let v1818 : Index := Scalar.indexCast v1816
  ![108, v1818.toNat]

def k0_chk110 (v1826 : IVec S16 32) (v1828 : IVec S16 32) : Prop :=
  (∀ a x, ((![v1826, v1828] : Fin 2 → IVec S16 32) a x).toNat < S4096x16.size a)
theorem k0_idx110_inb : ∀ (v1826 : IVec S16 32) (v1828 : IVec S16 32) (k0_hw110 : k0_chk110 v1826 v1828), ∀ a x, ((![v1826, v1828] : Fin 2 → IVec S16 32) a x).toNat < S4096x16.size a := fun v1826 v1828 k0_hw110 => k0_hw110
def k0_off133 (k0_t3 : Fin k0_t3_loop.trips) : Fin 2 → Nat :=
  let c109_i32 : BitVec 32 := 109#32
  let v1831 : Index := Scalar.indexCast c109_i32
  let c0_i32_239 : BitVec 32 := 0#32
  let c1_i32_241 : BitVec 32 := 1#32
  let arg12 : BitVec 32 := Scf.iv c0_i32_239 c1_i32_241 k0_t3
  let c16_i32_936 : BitVec 32 := 16#32
  let v1830 : BitVec 32 := Scalar.muli arg12 c16_i32_936
  let v1832 : Index := Scalar.indexCast v1830
  ![109, v1832.toNat]

def k0_chk111 (v1840 : IVec S16 32) (v1842 : IVec S16 32) : Prop :=
  (∀ a x, ((![v1840, v1842] : Fin 2 → IVec S16 32) a x).toNat < S4096x16.size a)
theorem k0_idx111_inb : ∀ (v1840 : IVec S16 32) (v1842 : IVec S16 32) (k0_hw111 : k0_chk111 v1840 v1842), ∀ a x, ((![v1840, v1842] : Fin 2 → IVec S16 32) a x).toNat < S4096x16.size a := fun v1840 v1842 k0_hw111 => k0_hw111
def k0_off134 (k0_t3 : Fin k0_t3_loop.trips) : Fin 2 → Nat :=
  let c110_i32 : BitVec 32 := 110#32
  let v1845 : Index := Scalar.indexCast c110_i32
  let c0_i32_239 : BitVec 32 := 0#32
  let c1_i32_241 : BitVec 32 := 1#32
  let arg12 : BitVec 32 := Scf.iv c0_i32_239 c1_i32_241 k0_t3
  let c16_i32_941 : BitVec 32 := 16#32
  let v1844 : BitVec 32 := Scalar.muli arg12 c16_i32_941
  let v1846 : Index := Scalar.indexCast v1844
  ![110, v1846.toNat]

def k0_chk112 (v1854 : IVec S16 32) (v1856 : IVec S16 32) : Prop :=
  (∀ a x, ((![v1854, v1856] : Fin 2 → IVec S16 32) a x).toNat < S4096x16.size a)
theorem k0_idx112_inb : ∀ (v1854 : IVec S16 32) (v1856 : IVec S16 32) (k0_hw112 : k0_chk112 v1854 v1856), ∀ a x, ((![v1854, v1856] : Fin 2 → IVec S16 32) a x).toNat < S4096x16.size a := fun v1854 v1856 k0_hw112 => k0_hw112
def k0_off135 (k0_t3 : Fin k0_t3_loop.trips) : Fin 2 → Nat :=
  let c111_i32 : BitVec 32 := 111#32
  let v1859 : Index := Scalar.indexCast c111_i32
  let c0_i32_239 : BitVec 32 := 0#32
  let c1_i32_241 : BitVec 32 := 1#32
  let arg12 : BitVec 32 := Scf.iv c0_i32_239 c1_i32_241 k0_t3
  let c16_i32_946 : BitVec 32 := 16#32
  let v1858 : BitVec 32 := Scalar.muli arg12 c16_i32_946
  let v1860 : Index := Scalar.indexCast v1858
  ![111, v1860.toNat]

def k0_chk113 (v1870 : IVec S16 32) (v1872 : IVec S16 32) : Prop :=
  (∀ a x, ((![v1870, v1872] : Fin 2 → IVec S16 32) a x).toNat < S4096x16.size a)
theorem k0_idx113_inb : ∀ (v1870 : IVec S16 32) (v1872 : IVec S16 32) (k0_hw113 : k0_chk113 v1870 v1872), ∀ a x, ((![v1870, v1872] : Fin 2 → IVec S16 32) a x).toNat < S4096x16.size a := fun v1870 v1872 k0_hw113 => k0_hw113
def k0_off136 (k0_t3 : Fin k0_t3_loop.trips) : Fin 2 → Nat :=
  let c112_i32 : BitVec 32 := 112#32
  let v1875 : Index := Scalar.indexCast c112_i32
  let c0_i32_239 : BitVec 32 := 0#32
  let c1_i32_241 : BitVec 32 := 1#32
  let arg12 : BitVec 32 := Scf.iv c0_i32_239 c1_i32_241 k0_t3
  let c16_i32_952 : BitVec 32 := 16#32
  let v1874 : BitVec 32 := Scalar.muli arg12 c16_i32_952
  let v1876 : Index := Scalar.indexCast v1874
  ![112, v1876.toNat]

def k0_chk114 (v1884 : IVec S16 32) (v1886 : IVec S16 32) : Prop :=
  (∀ a x, ((![v1884, v1886] : Fin 2 → IVec S16 32) a x).toNat < S4096x16.size a)
theorem k0_idx114_inb : ∀ (v1884 : IVec S16 32) (v1886 : IVec S16 32) (k0_hw114 : k0_chk114 v1884 v1886), ∀ a x, ((![v1884, v1886] : Fin 2 → IVec S16 32) a x).toNat < S4096x16.size a := fun v1884 v1886 k0_hw114 => k0_hw114
def k0_off137 (k0_t3 : Fin k0_t3_loop.trips) : Fin 2 → Nat :=
  let c113_i32 : BitVec 32 := 113#32
  let v1889 : Index := Scalar.indexCast c113_i32
  let c0_i32_239 : BitVec 32 := 0#32
  let c1_i32_241 : BitVec 32 := 1#32
  let arg12 : BitVec 32 := Scf.iv c0_i32_239 c1_i32_241 k0_t3
  let c16_i32_957 : BitVec 32 := 16#32
  let v1888 : BitVec 32 := Scalar.muli arg12 c16_i32_957
  let v1890 : Index := Scalar.indexCast v1888
  ![113, v1890.toNat]

def k0_chk115 (v1898 : IVec S16 32) (v1900 : IVec S16 32) : Prop :=
  (∀ a x, ((![v1898, v1900] : Fin 2 → IVec S16 32) a x).toNat < S4096x16.size a)
theorem k0_idx115_inb : ∀ (v1898 : IVec S16 32) (v1900 : IVec S16 32) (k0_hw115 : k0_chk115 v1898 v1900), ∀ a x, ((![v1898, v1900] : Fin 2 → IVec S16 32) a x).toNat < S4096x16.size a := fun v1898 v1900 k0_hw115 => k0_hw115
def k0_off138 (k0_t3 : Fin k0_t3_loop.trips) : Fin 2 → Nat :=
  let c114_i32 : BitVec 32 := 114#32
  let v1903 : Index := Scalar.indexCast c114_i32
  let c0_i32_239 : BitVec 32 := 0#32
  let c1_i32_241 : BitVec 32 := 1#32
  let arg12 : BitVec 32 := Scf.iv c0_i32_239 c1_i32_241 k0_t3
  let c16_i32_962 : BitVec 32 := 16#32
  let v1902 : BitVec 32 := Scalar.muli arg12 c16_i32_962
  let v1904 : Index := Scalar.indexCast v1902
  ![114, v1904.toNat]

def k0_chk116 (v1912 : IVec S16 32) (v1914 : IVec S16 32) : Prop :=
  (∀ a x, ((![v1912, v1914] : Fin 2 → IVec S16 32) a x).toNat < S4096x16.size a)
theorem k0_idx116_inb : ∀ (v1912 : IVec S16 32) (v1914 : IVec S16 32) (k0_hw116 : k0_chk116 v1912 v1914), ∀ a x, ((![v1912, v1914] : Fin 2 → IVec S16 32) a x).toNat < S4096x16.size a := fun v1912 v1914 k0_hw116 => k0_hw116
def k0_off139 (k0_t3 : Fin k0_t3_loop.trips) : Fin 2 → Nat :=
  let c115_i32 : BitVec 32 := 115#32
  let v1917 : Index := Scalar.indexCast c115_i32
  let c0_i32_239 : BitVec 32 := 0#32
  let c1_i32_241 : BitVec 32 := 1#32
  let arg12 : BitVec 32 := Scf.iv c0_i32_239 c1_i32_241 k0_t3
  let c16_i32_967 : BitVec 32 := 16#32
  let v1916 : BitVec 32 := Scalar.muli arg12 c16_i32_967
  let v1918 : Index := Scalar.indexCast v1916
  ![115, v1918.toNat]

def k0_chk117 (v1926 : IVec S16 32) (v1928 : IVec S16 32) : Prop :=
  (∀ a x, ((![v1926, v1928] : Fin 2 → IVec S16 32) a x).toNat < S4096x16.size a)
theorem k0_idx117_inb : ∀ (v1926 : IVec S16 32) (v1928 : IVec S16 32) (k0_hw117 : k0_chk117 v1926 v1928), ∀ a x, ((![v1926, v1928] : Fin 2 → IVec S16 32) a x).toNat < S4096x16.size a := fun v1926 v1928 k0_hw117 => k0_hw117
def k0_off140 (k0_t3 : Fin k0_t3_loop.trips) : Fin 2 → Nat :=
  let c116_i32 : BitVec 32 := 116#32
  let v1931 : Index := Scalar.indexCast c116_i32
  let c0_i32_239 : BitVec 32 := 0#32
  let c1_i32_241 : BitVec 32 := 1#32
  let arg12 : BitVec 32 := Scf.iv c0_i32_239 c1_i32_241 k0_t3
  let c16_i32_972 : BitVec 32 := 16#32
  let v1930 : BitVec 32 := Scalar.muli arg12 c16_i32_972
  let v1932 : Index := Scalar.indexCast v1930
  ![116, v1932.toNat]

def k0_chk118 (v1940 : IVec S16 32) (v1942 : IVec S16 32) : Prop :=
  (∀ a x, ((![v1940, v1942] : Fin 2 → IVec S16 32) a x).toNat < S4096x16.size a)
theorem k0_idx118_inb : ∀ (v1940 : IVec S16 32) (v1942 : IVec S16 32) (k0_hw118 : k0_chk118 v1940 v1942), ∀ a x, ((![v1940, v1942] : Fin 2 → IVec S16 32) a x).toNat < S4096x16.size a := fun v1940 v1942 k0_hw118 => k0_hw118
def k0_off141 (k0_t3 : Fin k0_t3_loop.trips) : Fin 2 → Nat :=
  let c117_i32 : BitVec 32 := 117#32
  let v1945 : Index := Scalar.indexCast c117_i32
  let c0_i32_239 : BitVec 32 := 0#32
  let c1_i32_241 : BitVec 32 := 1#32
  let arg12 : BitVec 32 := Scf.iv c0_i32_239 c1_i32_241 k0_t3
  let c16_i32_977 : BitVec 32 := 16#32
  let v1944 : BitVec 32 := Scalar.muli arg12 c16_i32_977
  let v1946 : Index := Scalar.indexCast v1944
  ![117, v1946.toNat]

def k0_chk119 (v1954 : IVec S16 32) (v1956 : IVec S16 32) : Prop :=
  (∀ a x, ((![v1954, v1956] : Fin 2 → IVec S16 32) a x).toNat < S4096x16.size a)
theorem k0_idx119_inb : ∀ (v1954 : IVec S16 32) (v1956 : IVec S16 32) (k0_hw119 : k0_chk119 v1954 v1956), ∀ a x, ((![v1954, v1956] : Fin 2 → IVec S16 32) a x).toNat < S4096x16.size a := fun v1954 v1956 k0_hw119 => k0_hw119
def k0_off142 (k0_t3 : Fin k0_t3_loop.trips) : Fin 2 → Nat :=
  let c118_i32 : BitVec 32 := 118#32
  let v1959 : Index := Scalar.indexCast c118_i32
  let c0_i32_239 : BitVec 32 := 0#32
  let c1_i32_241 : BitVec 32 := 1#32
  let arg12 : BitVec 32 := Scf.iv c0_i32_239 c1_i32_241 k0_t3
  let c16_i32_982 : BitVec 32 := 16#32
  let v1958 : BitVec 32 := Scalar.muli arg12 c16_i32_982
  let v1960 : Index := Scalar.indexCast v1958
  ![118, v1960.toNat]

def k0_chk120 (v1968 : IVec S16 32) (v1970 : IVec S16 32) : Prop :=
  (∀ a x, ((![v1968, v1970] : Fin 2 → IVec S16 32) a x).toNat < S4096x16.size a)
theorem k0_idx120_inb : ∀ (v1968 : IVec S16 32) (v1970 : IVec S16 32) (k0_hw120 : k0_chk120 v1968 v1970), ∀ a x, ((![v1968, v1970] : Fin 2 → IVec S16 32) a x).toNat < S4096x16.size a := fun v1968 v1970 k0_hw120 => k0_hw120
def k0_off143 (k0_t3 : Fin k0_t3_loop.trips) : Fin 2 → Nat :=
  let c119_i32 : BitVec 32 := 119#32
  let v1973 : Index := Scalar.indexCast c119_i32
  let c0_i32_239 : BitVec 32 := 0#32
  let c1_i32_241 : BitVec 32 := 1#32
  let arg12 : BitVec 32 := Scf.iv c0_i32_239 c1_i32_241 k0_t3
  let c16_i32_987 : BitVec 32 := 16#32
  let v1972 : BitVec 32 := Scalar.muli arg12 c16_i32_987
  let v1974 : Index := Scalar.indexCast v1972
  ![119, v1974.toNat]

def k0_chk121 (v1982 : IVec S16 32) (v1984 : IVec S16 32) : Prop :=
  (∀ a x, ((![v1982, v1984] : Fin 2 → IVec S16 32) a x).toNat < S4096x16.size a)
theorem k0_idx121_inb : ∀ (v1982 : IVec S16 32) (v1984 : IVec S16 32) (k0_hw121 : k0_chk121 v1982 v1984), ∀ a x, ((![v1982, v1984] : Fin 2 → IVec S16 32) a x).toNat < S4096x16.size a := fun v1982 v1984 k0_hw121 => k0_hw121
def k0_off144 (k0_t3 : Fin k0_t3_loop.trips) : Fin 2 → Nat :=
  let c120_i32 : BitVec 32 := 120#32
  let v1987 : Index := Scalar.indexCast c120_i32
  let c0_i32_239 : BitVec 32 := 0#32
  let c1_i32_241 : BitVec 32 := 1#32
  let arg12 : BitVec 32 := Scf.iv c0_i32_239 c1_i32_241 k0_t3
  let c16_i32_992 : BitVec 32 := 16#32
  let v1986 : BitVec 32 := Scalar.muli arg12 c16_i32_992
  let v1988 : Index := Scalar.indexCast v1986
  ![120, v1988.toNat]

def k0_chk122 (v1996 : IVec S16 32) (v1998 : IVec S16 32) : Prop :=
  (∀ a x, ((![v1996, v1998] : Fin 2 → IVec S16 32) a x).toNat < S4096x16.size a)
theorem k0_idx122_inb : ∀ (v1996 : IVec S16 32) (v1998 : IVec S16 32) (k0_hw122 : k0_chk122 v1996 v1998), ∀ a x, ((![v1996, v1998] : Fin 2 → IVec S16 32) a x).toNat < S4096x16.size a := fun v1996 v1998 k0_hw122 => k0_hw122
def k0_off145 (k0_t3 : Fin k0_t3_loop.trips) : Fin 2 → Nat :=
  let c121_i32 : BitVec 32 := 121#32
  let v2001 : Index := Scalar.indexCast c121_i32
  let c0_i32_239 : BitVec 32 := 0#32
  let c1_i32_241 : BitVec 32 := 1#32
  let arg12 : BitVec 32 := Scf.iv c0_i32_239 c1_i32_241 k0_t3
  let c16_i32_997 : BitVec 32 := 16#32
  let v2000 : BitVec 32 := Scalar.muli arg12 c16_i32_997
  let v2002 : Index := Scalar.indexCast v2000
  ![121, v2002.toNat]

def k0_chk123 (v2010 : IVec S16 32) (v2012 : IVec S16 32) : Prop :=
  (∀ a x, ((![v2010, v2012] : Fin 2 → IVec S16 32) a x).toNat < S4096x16.size a)
theorem k0_idx123_inb : ∀ (v2010 : IVec S16 32) (v2012 : IVec S16 32) (k0_hw123 : k0_chk123 v2010 v2012), ∀ a x, ((![v2010, v2012] : Fin 2 → IVec S16 32) a x).toNat < S4096x16.size a := fun v2010 v2012 k0_hw123 => k0_hw123
def k0_off146 (k0_t3 : Fin k0_t3_loop.trips) : Fin 2 → Nat :=
  let c122_i32 : BitVec 32 := 122#32
  let v2015 : Index := Scalar.indexCast c122_i32
  let c0_i32_239 : BitVec 32 := 0#32
  let c1_i32_241 : BitVec 32 := 1#32
  let arg12 : BitVec 32 := Scf.iv c0_i32_239 c1_i32_241 k0_t3
  let c16_i32_1002 : BitVec 32 := 16#32
  let v2014 : BitVec 32 := Scalar.muli arg12 c16_i32_1002
  let v2016 : Index := Scalar.indexCast v2014
  ![122, v2016.toNat]

def k0_chk124 (v2024 : IVec S16 32) (v2026 : IVec S16 32) : Prop :=
  (∀ a x, ((![v2024, v2026] : Fin 2 → IVec S16 32) a x).toNat < S4096x16.size a)
theorem k0_idx124_inb : ∀ (v2024 : IVec S16 32) (v2026 : IVec S16 32) (k0_hw124 : k0_chk124 v2024 v2026), ∀ a x, ((![v2024, v2026] : Fin 2 → IVec S16 32) a x).toNat < S4096x16.size a := fun v2024 v2026 k0_hw124 => k0_hw124
def k0_off147 (k0_t3 : Fin k0_t3_loop.trips) : Fin 2 → Nat :=
  let c123_i32 : BitVec 32 := 123#32
  let v2029 : Index := Scalar.indexCast c123_i32
  let c0_i32_239 : BitVec 32 := 0#32
  let c1_i32_241 : BitVec 32 := 1#32
  let arg12 : BitVec 32 := Scf.iv c0_i32_239 c1_i32_241 k0_t3
  let c16_i32_1007 : BitVec 32 := 16#32
  let v2028 : BitVec 32 := Scalar.muli arg12 c16_i32_1007
  let v2030 : Index := Scalar.indexCast v2028
  ![123, v2030.toNat]

def k0_chk125 (v2038 : IVec S16 32) (v2040 : IVec S16 32) : Prop :=
  (∀ a x, ((![v2038, v2040] : Fin 2 → IVec S16 32) a x).toNat < S4096x16.size a)
theorem k0_idx125_inb : ∀ (v2038 : IVec S16 32) (v2040 : IVec S16 32) (k0_hw125 : k0_chk125 v2038 v2040), ∀ a x, ((![v2038, v2040] : Fin 2 → IVec S16 32) a x).toNat < S4096x16.size a := fun v2038 v2040 k0_hw125 => k0_hw125
def k0_off148 (k0_t3 : Fin k0_t3_loop.trips) : Fin 2 → Nat :=
  let c124_i32 : BitVec 32 := 124#32
  let v2043 : Index := Scalar.indexCast c124_i32
  let c0_i32_239 : BitVec 32 := 0#32
  let c1_i32_241 : BitVec 32 := 1#32
  let arg12 : BitVec 32 := Scf.iv c0_i32_239 c1_i32_241 k0_t3
  let c16_i32_1012 : BitVec 32 := 16#32
  let v2042 : BitVec 32 := Scalar.muli arg12 c16_i32_1012
  let v2044 : Index := Scalar.indexCast v2042
  ![124, v2044.toNat]

def k0_chk126 (v2052 : IVec S16 32) (v2054 : IVec S16 32) : Prop :=
  (∀ a x, ((![v2052, v2054] : Fin 2 → IVec S16 32) a x).toNat < S4096x16.size a)
theorem k0_idx126_inb : ∀ (v2052 : IVec S16 32) (v2054 : IVec S16 32) (k0_hw126 : k0_chk126 v2052 v2054), ∀ a x, ((![v2052, v2054] : Fin 2 → IVec S16 32) a x).toNat < S4096x16.size a := fun v2052 v2054 k0_hw126 => k0_hw126
def k0_off149 (k0_t3 : Fin k0_t3_loop.trips) : Fin 2 → Nat :=
  let c125_i32 : BitVec 32 := 125#32
  let v2057 : Index := Scalar.indexCast c125_i32
  let c0_i32_239 : BitVec 32 := 0#32
  let c1_i32_241 : BitVec 32 := 1#32
  let arg12 : BitVec 32 := Scf.iv c0_i32_239 c1_i32_241 k0_t3
  let c16_i32_1017 : BitVec 32 := 16#32
  let v2056 : BitVec 32 := Scalar.muli arg12 c16_i32_1017
  let v2058 : Index := Scalar.indexCast v2056
  ![125, v2058.toNat]

def k0_chk127 (v2066 : IVec S16 32) (v2068 : IVec S16 32) : Prop :=
  (∀ a x, ((![v2066, v2068] : Fin 2 → IVec S16 32) a x).toNat < S4096x16.size a)
theorem k0_idx127_inb : ∀ (v2066 : IVec S16 32) (v2068 : IVec S16 32) (k0_hw127 : k0_chk127 v2066 v2068), ∀ a x, ((![v2066, v2068] : Fin 2 → IVec S16 32) a x).toNat < S4096x16.size a := fun v2066 v2068 k0_hw127 => k0_hw127
def k0_off150 (k0_t3 : Fin k0_t3_loop.trips) : Fin 2 → Nat :=
  let c126_i32 : BitVec 32 := 126#32
  let v2071 : Index := Scalar.indexCast c126_i32
  let c0_i32_239 : BitVec 32 := 0#32
  let c1_i32_241 : BitVec 32 := 1#32
  let arg12 : BitVec 32 := Scf.iv c0_i32_239 c1_i32_241 k0_t3
  let c16_i32_1022 : BitVec 32 := 16#32
  let v2070 : BitVec 32 := Scalar.muli arg12 c16_i32_1022
  let v2072 : Index := Scalar.indexCast v2070
  ![126, v2072.toNat]

def k0_chk128 (v2080 : IVec S16 32) (v2082 : IVec S16 32) : Prop :=
  (∀ a x, ((![v2080, v2082] : Fin 2 → IVec S16 32) a x).toNat < S4096x16.size a)
theorem k0_idx128_inb : ∀ (v2080 : IVec S16 32) (v2082 : IVec S16 32) (k0_hw128 : k0_chk128 v2080 v2082), ∀ a x, ((![v2080, v2082] : Fin 2 → IVec S16 32) a x).toNat < S4096x16.size a := fun v2080 v2082 k0_hw128 => k0_hw128
def k0_off151 (k0_t3 : Fin k0_t3_loop.trips) : Fin 2 → Nat :=
  let c127_i32 : BitVec 32 := 127#32
  let v2085 : Index := Scalar.indexCast c127_i32
  let c0_i32_239 : BitVec 32 := 0#32
  let c1_i32_241 : BitVec 32 := 1#32
  let arg12 : BitVec 32 := Scf.iv c0_i32_239 c1_i32_241 k0_t3
  let c16_i32_1027 : BitVec 32 := 16#32
  let v2084 : BitVec 32 := Scalar.muli arg12 c16_i32_1027
  let v2086 : Index := Scalar.indexCast v2084
  ![127, v2086.toNat]
@[reducible] def k0_t4_loop : Scf.Loop 32 :=
  let c8_i32_340 : BitVec 32 := 8#32
  let c8_i32_341 : BitVec 32 := 8#32
  let v268 : BitVec 32 := Scalar.addi c8_i32_340 c8_i32_341
  let c1_i32_342 : BitVec 32 := 1#32
  ⟨c8_i32_340, v268, c1_i32_342⟩
def k0_off152 (k0_t4 : Fin k0_t4_loop.trips) : Fin 1 → Nat :=
  let c8_i32_340 : BitVec 32 := 8#32
  let c1_i32_342 : BitVec 32 := 1#32
  let arg12 : BitVec 32 := Scf.iv c8_i32_340 c1_i32_342 k0_t4
  let c16_i32_345 : BitVec 32 := 16#32
  let v271 : BitVec 32 := Scalar.muli arg12 c16_i32_345
  let v272 : Index := Scalar.indexCast v271
  ![v272.toNat]

def k0_chk129 (v288 : IVec S16 32) (v290 : IVec S16 32) : Prop :=
  (∀ a x, ((![v288, v290] : Fin 2 → IVec S16 32) a x).toNat < S4096x16.size a)
theorem k0_idx129_inb : ∀ (v288 : IVec S16 32) (v290 : IVec S16 32) (k0_hw129 : k0_chk129 v288 v290), ∀ a x, ((![v288, v290] : Fin 2 → IVec S16 32) a x).toNat < S4096x16.size a := fun v288 v290 k0_hw129 => k0_hw129
def k0_off153 (k0_t4 : Fin k0_t4_loop.trips) : Fin 2 → Nat :=
  let c0_i32_354 : BitVec 32 := 0#32
  let v293 : Index := Scalar.indexCast c0_i32_354
  let c8_i32_340 : BitVec 32 := 8#32
  let c1_i32_342 : BitVec 32 := 1#32
  let arg12 : BitVec 32 := Scf.iv c8_i32_340 c1_i32_342 k0_t4
  let c16_i32_353 : BitVec 32 := 16#32
  let v292 : BitVec 32 := Scalar.muli arg12 c16_i32_353
  let v294 : Index := Scalar.indexCast v292
  ![0, v294.toNat]

def k0_chk130 (v302 : IVec S16 32) (v304 : IVec S16 32) : Prop :=
  (∀ a x, ((![v302, v304] : Fin 2 → IVec S16 32) a x).toNat < S4096x16.size a)
theorem k0_idx130_inb : ∀ (v302 : IVec S16 32) (v304 : IVec S16 32) (k0_hw130 : k0_chk130 v302 v304), ∀ a x, ((![v302, v304] : Fin 2 → IVec S16 32) a x).toNat < S4096x16.size a := fun v302 v304 k0_hw130 => k0_hw130
def k0_off154 (k0_t4 : Fin k0_t4_loop.trips) : Fin 2 → Nat :=
  let c1_i32_360 : BitVec 32 := 1#32
  let v307 : Index := Scalar.indexCast c1_i32_360
  let c8_i32_340 : BitVec 32 := 8#32
  let c1_i32_342 : BitVec 32 := 1#32
  let arg12 : BitVec 32 := Scf.iv c8_i32_340 c1_i32_342 k0_t4
  let c16_i32_359 : BitVec 32 := 16#32
  let v306 : BitVec 32 := Scalar.muli arg12 c16_i32_359
  let v308 : Index := Scalar.indexCast v306
  ![1, v308.toNat]

def k0_chk131 (v316 : IVec S16 32) (v318 : IVec S16 32) : Prop :=
  (∀ a x, ((![v316, v318] : Fin 2 → IVec S16 32) a x).toNat < S4096x16.size a)
theorem k0_idx131_inb : ∀ (v316 : IVec S16 32) (v318 : IVec S16 32) (k0_hw131 : k0_chk131 v316 v318), ∀ a x, ((![v316, v318] : Fin 2 → IVec S16 32) a x).toNat < S4096x16.size a := fun v316 v318 k0_hw131 => k0_hw131
def k0_off155 (k0_t4 : Fin k0_t4_loop.trips) : Fin 2 → Nat :=
  let c2_i32_366 : BitVec 32 := 2#32
  let v321 : Index := Scalar.indexCast c2_i32_366
  let c8_i32_340 : BitVec 32 := 8#32
  let c1_i32_342 : BitVec 32 := 1#32
  let arg12 : BitVec 32 := Scf.iv c8_i32_340 c1_i32_342 k0_t4
  let c16_i32_365 : BitVec 32 := 16#32
  let v320 : BitVec 32 := Scalar.muli arg12 c16_i32_365
  let v322 : Index := Scalar.indexCast v320
  ![2, v322.toNat]

def k0_chk132 (v330 : IVec S16 32) (v332 : IVec S16 32) : Prop :=
  (∀ a x, ((![v330, v332] : Fin 2 → IVec S16 32) a x).toNat < S4096x16.size a)
theorem k0_idx132_inb : ∀ (v330 : IVec S16 32) (v332 : IVec S16 32) (k0_hw132 : k0_chk132 v330 v332), ∀ a x, ((![v330, v332] : Fin 2 → IVec S16 32) a x).toNat < S4096x16.size a := fun v330 v332 k0_hw132 => k0_hw132
def k0_off156 (k0_t4 : Fin k0_t4_loop.trips) : Fin 2 → Nat :=
  let c3_i32_372 : BitVec 32 := 3#32
  let v335 : Index := Scalar.indexCast c3_i32_372
  let c8_i32_340 : BitVec 32 := 8#32
  let c1_i32_342 : BitVec 32 := 1#32
  let arg12 : BitVec 32 := Scf.iv c8_i32_340 c1_i32_342 k0_t4
  let c16_i32_371 : BitVec 32 := 16#32
  let v334 : BitVec 32 := Scalar.muli arg12 c16_i32_371
  let v336 : Index := Scalar.indexCast v334
  ![3, v336.toNat]

def k0_chk133 (v344 : IVec S16 32) (v346 : IVec S16 32) : Prop :=
  (∀ a x, ((![v344, v346] : Fin 2 → IVec S16 32) a x).toNat < S4096x16.size a)
theorem k0_idx133_inb : ∀ (v344 : IVec S16 32) (v346 : IVec S16 32) (k0_hw133 : k0_chk133 v344 v346), ∀ a x, ((![v344, v346] : Fin 2 → IVec S16 32) a x).toNat < S4096x16.size a := fun v344 v346 k0_hw133 => k0_hw133
def k0_off157 (k0_t4 : Fin k0_t4_loop.trips) : Fin 2 → Nat :=
  let c4_i32_378 : BitVec 32 := 4#32
  let v349 : Index := Scalar.indexCast c4_i32_378
  let c8_i32_340 : BitVec 32 := 8#32
  let c1_i32_342 : BitVec 32 := 1#32
  let arg12 : BitVec 32 := Scf.iv c8_i32_340 c1_i32_342 k0_t4
  let c16_i32_377 : BitVec 32 := 16#32
  let v348 : BitVec 32 := Scalar.muli arg12 c16_i32_377
  let v350 : Index := Scalar.indexCast v348
  ![4, v350.toNat]

def k0_chk134 (v358 : IVec S16 32) (v360 : IVec S16 32) : Prop :=
  (∀ a x, ((![v358, v360] : Fin 2 → IVec S16 32) a x).toNat < S4096x16.size a)
theorem k0_idx134_inb : ∀ (v358 : IVec S16 32) (v360 : IVec S16 32) (k0_hw134 : k0_chk134 v358 v360), ∀ a x, ((![v358, v360] : Fin 2 → IVec S16 32) a x).toNat < S4096x16.size a := fun v358 v360 k0_hw134 => k0_hw134
def k0_off158 (k0_t4 : Fin k0_t4_loop.trips) : Fin 2 → Nat :=
  let c5_i32_384 : BitVec 32 := 5#32
  let v363 : Index := Scalar.indexCast c5_i32_384
  let c8_i32_340 : BitVec 32 := 8#32
  let c1_i32_342 : BitVec 32 := 1#32
  let arg12 : BitVec 32 := Scf.iv c8_i32_340 c1_i32_342 k0_t4
  let c16_i32_383 : BitVec 32 := 16#32
  let v362 : BitVec 32 := Scalar.muli arg12 c16_i32_383
  let v364 : Index := Scalar.indexCast v362
  ![5, v364.toNat]

def k0_chk135 (v372 : IVec S16 32) (v374 : IVec S16 32) : Prop :=
  (∀ a x, ((![v372, v374] : Fin 2 → IVec S16 32) a x).toNat < S4096x16.size a)
theorem k0_idx135_inb : ∀ (v372 : IVec S16 32) (v374 : IVec S16 32) (k0_hw135 : k0_chk135 v372 v374), ∀ a x, ((![v372, v374] : Fin 2 → IVec S16 32) a x).toNat < S4096x16.size a := fun v372 v374 k0_hw135 => k0_hw135
def k0_off159 (k0_t4 : Fin k0_t4_loop.trips) : Fin 2 → Nat :=
  let c6_i32_390 : BitVec 32 := 6#32
  let v377 : Index := Scalar.indexCast c6_i32_390
  let c8_i32_340 : BitVec 32 := 8#32
  let c1_i32_342 : BitVec 32 := 1#32
  let arg12 : BitVec 32 := Scf.iv c8_i32_340 c1_i32_342 k0_t4
  let c16_i32_389 : BitVec 32 := 16#32
  let v376 : BitVec 32 := Scalar.muli arg12 c16_i32_389
  let v378 : Index := Scalar.indexCast v376
  ![6, v378.toNat]

def k0_chk136 (v386 : IVec S16 32) (v388 : IVec S16 32) : Prop :=
  (∀ a x, ((![v386, v388] : Fin 2 → IVec S16 32) a x).toNat < S4096x16.size a)
theorem k0_idx136_inb : ∀ (v386 : IVec S16 32) (v388 : IVec S16 32) (k0_hw136 : k0_chk136 v386 v388), ∀ a x, ((![v386, v388] : Fin 2 → IVec S16 32) a x).toNat < S4096x16.size a := fun v386 v388 k0_hw136 => k0_hw136
def k0_off160 (k0_t4 : Fin k0_t4_loop.trips) : Fin 2 → Nat :=
  let c7_i32_396 : BitVec 32 := 7#32
  let v391 : Index := Scalar.indexCast c7_i32_396
  let c8_i32_340 : BitVec 32 := 8#32
  let c1_i32_342 : BitVec 32 := 1#32
  let arg12 : BitVec 32 := Scf.iv c8_i32_340 c1_i32_342 k0_t4
  let c16_i32_395 : BitVec 32 := 16#32
  let v390 : BitVec 32 := Scalar.muli arg12 c16_i32_395
  let v392 : Index := Scalar.indexCast v390
  ![7, v392.toNat]

def k0_chk137 (v400 : IVec S16 32) (v402 : IVec S16 32) : Prop :=
  (∀ a x, ((![v400, v402] : Fin 2 → IVec S16 32) a x).toNat < S4096x16.size a)
theorem k0_idx137_inb : ∀ (v400 : IVec S16 32) (v402 : IVec S16 32) (k0_hw137 : k0_chk137 v400 v402), ∀ a x, ((![v400, v402] : Fin 2 → IVec S16 32) a x).toNat < S4096x16.size a := fun v400 v402 k0_hw137 => k0_hw137
def k0_off161 (k0_t4 : Fin k0_t4_loop.trips) : Fin 2 → Nat :=
  let c8_i32_402 : BitVec 32 := 8#32
  let v405 : Index := Scalar.indexCast c8_i32_402
  let c8_i32_340 : BitVec 32 := 8#32
  let c1_i32_342 : BitVec 32 := 1#32
  let arg12 : BitVec 32 := Scf.iv c8_i32_340 c1_i32_342 k0_t4
  let c16_i32_401 : BitVec 32 := 16#32
  let v404 : BitVec 32 := Scalar.muli arg12 c16_i32_401
  let v406 : Index := Scalar.indexCast v404
  ![8, v406.toNat]

def k0_chk138 (v414 : IVec S16 32) (v416 : IVec S16 32) : Prop :=
  (∀ a x, ((![v414, v416] : Fin 2 → IVec S16 32) a x).toNat < S4096x16.size a)
theorem k0_idx138_inb : ∀ (v414 : IVec S16 32) (v416 : IVec S16 32) (k0_hw138 : k0_chk138 v414 v416), ∀ a x, ((![v414, v416] : Fin 2 → IVec S16 32) a x).toNat < S4096x16.size a := fun v414 v416 k0_hw138 => k0_hw138
def k0_off162 (k0_t4 : Fin k0_t4_loop.trips) : Fin 2 → Nat :=
  let c9_i32_408 : BitVec 32 := 9#32
  let v419 : Index := Scalar.indexCast c9_i32_408
  let c8_i32_340 : BitVec 32 := 8#32
  let c1_i32_342 : BitVec 32 := 1#32
  let arg12 : BitVec 32 := Scf.iv c8_i32_340 c1_i32_342 k0_t4
  let c16_i32_407 : BitVec 32 := 16#32
  let v418 : BitVec 32 := Scalar.muli arg12 c16_i32_407
  let v420 : Index := Scalar.indexCast v418
  ![9, v420.toNat]

def k0_chk139 (v428 : IVec S16 32) (v430 : IVec S16 32) : Prop :=
  (∀ a x, ((![v428, v430] : Fin 2 → IVec S16 32) a x).toNat < S4096x16.size a)
theorem k0_idx139_inb : ∀ (v428 : IVec S16 32) (v430 : IVec S16 32) (k0_hw139 : k0_chk139 v428 v430), ∀ a x, ((![v428, v430] : Fin 2 → IVec S16 32) a x).toNat < S4096x16.size a := fun v428 v430 k0_hw139 => k0_hw139
def k0_off163 (k0_t4 : Fin k0_t4_loop.trips) : Fin 2 → Nat :=
  let c10_i32_414 : BitVec 32 := 10#32
  let v433 : Index := Scalar.indexCast c10_i32_414
  let c8_i32_340 : BitVec 32 := 8#32
  let c1_i32_342 : BitVec 32 := 1#32
  let arg12 : BitVec 32 := Scf.iv c8_i32_340 c1_i32_342 k0_t4
  let c16_i32_413 : BitVec 32 := 16#32
  let v432 : BitVec 32 := Scalar.muli arg12 c16_i32_413
  let v434 : Index := Scalar.indexCast v432
  ![10, v434.toNat]

def k0_chk140 (v442 : IVec S16 32) (v444 : IVec S16 32) : Prop :=
  (∀ a x, ((![v442, v444] : Fin 2 → IVec S16 32) a x).toNat < S4096x16.size a)
theorem k0_idx140_inb : ∀ (v442 : IVec S16 32) (v444 : IVec S16 32) (k0_hw140 : k0_chk140 v442 v444), ∀ a x, ((![v442, v444] : Fin 2 → IVec S16 32) a x).toNat < S4096x16.size a := fun v442 v444 k0_hw140 => k0_hw140
def k0_off164 (k0_t4 : Fin k0_t4_loop.trips) : Fin 2 → Nat :=
  let c11_i32_420 : BitVec 32 := 11#32
  let v447 : Index := Scalar.indexCast c11_i32_420
  let c8_i32_340 : BitVec 32 := 8#32
  let c1_i32_342 : BitVec 32 := 1#32
  let arg12 : BitVec 32 := Scf.iv c8_i32_340 c1_i32_342 k0_t4
  let c16_i32_419 : BitVec 32 := 16#32
  let v446 : BitVec 32 := Scalar.muli arg12 c16_i32_419
  let v448 : Index := Scalar.indexCast v446
  ![11, v448.toNat]

def k0_chk141 (v456 : IVec S16 32) (v458 : IVec S16 32) : Prop :=
  (∀ a x, ((![v456, v458] : Fin 2 → IVec S16 32) a x).toNat < S4096x16.size a)
theorem k0_idx141_inb : ∀ (v456 : IVec S16 32) (v458 : IVec S16 32) (k0_hw141 : k0_chk141 v456 v458), ∀ a x, ((![v456, v458] : Fin 2 → IVec S16 32) a x).toNat < S4096x16.size a := fun v456 v458 k0_hw141 => k0_hw141
def k0_off165 (k0_t4 : Fin k0_t4_loop.trips) : Fin 2 → Nat :=
  let c12_i32_426 : BitVec 32 := 12#32
  let v461 : Index := Scalar.indexCast c12_i32_426
  let c8_i32_340 : BitVec 32 := 8#32
  let c1_i32_342 : BitVec 32 := 1#32
  let arg12 : BitVec 32 := Scf.iv c8_i32_340 c1_i32_342 k0_t4
  let c16_i32_425 : BitVec 32 := 16#32
  let v460 : BitVec 32 := Scalar.muli arg12 c16_i32_425
  let v462 : Index := Scalar.indexCast v460
  ![12, v462.toNat]

def k0_chk142 (v470 : IVec S16 32) (v472 : IVec S16 32) : Prop :=
  (∀ a x, ((![v470, v472] : Fin 2 → IVec S16 32) a x).toNat < S4096x16.size a)
theorem k0_idx142_inb : ∀ (v470 : IVec S16 32) (v472 : IVec S16 32) (k0_hw142 : k0_chk142 v470 v472), ∀ a x, ((![v470, v472] : Fin 2 → IVec S16 32) a x).toNat < S4096x16.size a := fun v470 v472 k0_hw142 => k0_hw142
def k0_off166 (k0_t4 : Fin k0_t4_loop.trips) : Fin 2 → Nat :=
  let c13_i32_432 : BitVec 32 := 13#32
  let v475 : Index := Scalar.indexCast c13_i32_432
  let c8_i32_340 : BitVec 32 := 8#32
  let c1_i32_342 : BitVec 32 := 1#32
  let arg12 : BitVec 32 := Scf.iv c8_i32_340 c1_i32_342 k0_t4
  let c16_i32_431 : BitVec 32 := 16#32
  let v474 : BitVec 32 := Scalar.muli arg12 c16_i32_431
  let v476 : Index := Scalar.indexCast v474
  ![13, v476.toNat]

def k0_chk143 (v484 : IVec S16 32) (v486 : IVec S16 32) : Prop :=
  (∀ a x, ((![v484, v486] : Fin 2 → IVec S16 32) a x).toNat < S4096x16.size a)
theorem k0_idx143_inb : ∀ (v484 : IVec S16 32) (v486 : IVec S16 32) (k0_hw143 : k0_chk143 v484 v486), ∀ a x, ((![v484, v486] : Fin 2 → IVec S16 32) a x).toNat < S4096x16.size a := fun v484 v486 k0_hw143 => k0_hw143
def k0_off167 (k0_t4 : Fin k0_t4_loop.trips) : Fin 2 → Nat :=
  let c14_i32_438 : BitVec 32 := 14#32
  let v489 : Index := Scalar.indexCast c14_i32_438
  let c8_i32_340 : BitVec 32 := 8#32
  let c1_i32_342 : BitVec 32 := 1#32
  let arg12 : BitVec 32 := Scf.iv c8_i32_340 c1_i32_342 k0_t4
  let c16_i32_437 : BitVec 32 := 16#32
  let v488 : BitVec 32 := Scalar.muli arg12 c16_i32_437
  let v490 : Index := Scalar.indexCast v488
  ![14, v490.toNat]

def k0_chk144 (v498 : IVec S16 32) (v500 : IVec S16 32) : Prop :=
  (∀ a x, ((![v498, v500] : Fin 2 → IVec S16 32) a x).toNat < S4096x16.size a)
theorem k0_idx144_inb : ∀ (v498 : IVec S16 32) (v500 : IVec S16 32) (k0_hw144 : k0_chk144 v498 v500), ∀ a x, ((![v498, v500] : Fin 2 → IVec S16 32) a x).toNat < S4096x16.size a := fun v498 v500 k0_hw144 => k0_hw144
def k0_off168 (k0_t4 : Fin k0_t4_loop.trips) : Fin 2 → Nat :=
  let c15_i32_444 : BitVec 32 := 15#32
  let v503 : Index := Scalar.indexCast c15_i32_444
  let c8_i32_340 : BitVec 32 := 8#32
  let c1_i32_342 : BitVec 32 := 1#32
  let arg12 : BitVec 32 := Scf.iv c8_i32_340 c1_i32_342 k0_t4
  let c16_i32_443 : BitVec 32 := 16#32
  let v502 : BitVec 32 := Scalar.muli arg12 c16_i32_443
  let v504 : Index := Scalar.indexCast v502
  ![15, v504.toNat]

def k0_chk145 (v514 : IVec S16 32) (v516 : IVec S16 32) : Prop :=
  (∀ a x, ((![v514, v516] : Fin 2 → IVec S16 32) a x).toNat < S4096x16.size a)
theorem k0_idx145_inb : ∀ (v514 : IVec S16 32) (v516 : IVec S16 32) (k0_hw145 : k0_chk145 v514 v516), ∀ a x, ((![v514, v516] : Fin 2 → IVec S16 32) a x).toNat < S4096x16.size a := fun v514 v516 k0_hw145 => k0_hw145
def k0_off169 (k0_t4 : Fin k0_t4_loop.trips) : Fin 2 → Nat :=
  let c16_i32_451 : BitVec 32 := 16#32
  let v519 : Index := Scalar.indexCast c16_i32_451
  let c8_i32_340 : BitVec 32 := 8#32
  let c1_i32_342 : BitVec 32 := 1#32
  let arg12 : BitVec 32 := Scf.iv c8_i32_340 c1_i32_342 k0_t4
  let c16_i32_450 : BitVec 32 := 16#32
  let v518 : BitVec 32 := Scalar.muli arg12 c16_i32_450
  let v520 : Index := Scalar.indexCast v518
  ![16, v520.toNat]

def k0_chk146 (v528 : IVec S16 32) (v530 : IVec S16 32) : Prop :=
  (∀ a x, ((![v528, v530] : Fin 2 → IVec S16 32) a x).toNat < S4096x16.size a)
theorem k0_idx146_inb : ∀ (v528 : IVec S16 32) (v530 : IVec S16 32) (k0_hw146 : k0_chk146 v528 v530), ∀ a x, ((![v528, v530] : Fin 2 → IVec S16 32) a x).toNat < S4096x16.size a := fun v528 v530 k0_hw146 => k0_hw146
def k0_off170 (k0_t4 : Fin k0_t4_loop.trips) : Fin 2 → Nat :=
  let c17_i32_457 : BitVec 32 := 17#32
  let v533 : Index := Scalar.indexCast c17_i32_457
  let c8_i32_340 : BitVec 32 := 8#32
  let c1_i32_342 : BitVec 32 := 1#32
  let arg12 : BitVec 32 := Scf.iv c8_i32_340 c1_i32_342 k0_t4
  let c16_i32_456 : BitVec 32 := 16#32
  let v532 : BitVec 32 := Scalar.muli arg12 c16_i32_456
  let v534 : Index := Scalar.indexCast v532
  ![17, v534.toNat]

def k0_chk147 (v542 : IVec S16 32) (v544 : IVec S16 32) : Prop :=
  (∀ a x, ((![v542, v544] : Fin 2 → IVec S16 32) a x).toNat < S4096x16.size a)
theorem k0_idx147_inb : ∀ (v542 : IVec S16 32) (v544 : IVec S16 32) (k0_hw147 : k0_chk147 v542 v544), ∀ a x, ((![v542, v544] : Fin 2 → IVec S16 32) a x).toNat < S4096x16.size a := fun v542 v544 k0_hw147 => k0_hw147
def k0_off171 (k0_t4 : Fin k0_t4_loop.trips) : Fin 2 → Nat :=
  let c18_i32_463 : BitVec 32 := 18#32
  let v547 : Index := Scalar.indexCast c18_i32_463
  let c8_i32_340 : BitVec 32 := 8#32
  let c1_i32_342 : BitVec 32 := 1#32
  let arg12 : BitVec 32 := Scf.iv c8_i32_340 c1_i32_342 k0_t4
  let c16_i32_462 : BitVec 32 := 16#32
  let v546 : BitVec 32 := Scalar.muli arg12 c16_i32_462
  let v548 : Index := Scalar.indexCast v546
  ![18, v548.toNat]

def k0_chk148 (v556 : IVec S16 32) (v558 : IVec S16 32) : Prop :=
  (∀ a x, ((![v556, v558] : Fin 2 → IVec S16 32) a x).toNat < S4096x16.size a)
theorem k0_idx148_inb : ∀ (v556 : IVec S16 32) (v558 : IVec S16 32) (k0_hw148 : k0_chk148 v556 v558), ∀ a x, ((![v556, v558] : Fin 2 → IVec S16 32) a x).toNat < S4096x16.size a := fun v556 v558 k0_hw148 => k0_hw148
def k0_off172 (k0_t4 : Fin k0_t4_loop.trips) : Fin 2 → Nat :=
  let c19_i32_469 : BitVec 32 := 19#32
  let v561 : Index := Scalar.indexCast c19_i32_469
  let c8_i32_340 : BitVec 32 := 8#32
  let c1_i32_342 : BitVec 32 := 1#32
  let arg12 : BitVec 32 := Scf.iv c8_i32_340 c1_i32_342 k0_t4
  let c16_i32_468 : BitVec 32 := 16#32
  let v560 : BitVec 32 := Scalar.muli arg12 c16_i32_468
  let v562 : Index := Scalar.indexCast v560
  ![19, v562.toNat]

def k0_chk149 (v570 : IVec S16 32) (v572 : IVec S16 32) : Prop :=
  (∀ a x, ((![v570, v572] : Fin 2 → IVec S16 32) a x).toNat < S4096x16.size a)
theorem k0_idx149_inb : ∀ (v570 : IVec S16 32) (v572 : IVec S16 32) (k0_hw149 : k0_chk149 v570 v572), ∀ a x, ((![v570, v572] : Fin 2 → IVec S16 32) a x).toNat < S4096x16.size a := fun v570 v572 k0_hw149 => k0_hw149
def k0_off173 (k0_t4 : Fin k0_t4_loop.trips) : Fin 2 → Nat :=
  let c20_i32_475 : BitVec 32 := 20#32
  let v575 : Index := Scalar.indexCast c20_i32_475
  let c8_i32_340 : BitVec 32 := 8#32
  let c1_i32_342 : BitVec 32 := 1#32
  let arg12 : BitVec 32 := Scf.iv c8_i32_340 c1_i32_342 k0_t4
  let c16_i32_474 : BitVec 32 := 16#32
  let v574 : BitVec 32 := Scalar.muli arg12 c16_i32_474
  let v576 : Index := Scalar.indexCast v574
  ![20, v576.toNat]

def k0_chk150 (v584 : IVec S16 32) (v586 : IVec S16 32) : Prop :=
  (∀ a x, ((![v584, v586] : Fin 2 → IVec S16 32) a x).toNat < S4096x16.size a)
theorem k0_idx150_inb : ∀ (v584 : IVec S16 32) (v586 : IVec S16 32) (k0_hw150 : k0_chk150 v584 v586), ∀ a x, ((![v584, v586] : Fin 2 → IVec S16 32) a x).toNat < S4096x16.size a := fun v584 v586 k0_hw150 => k0_hw150
def k0_off174 (k0_t4 : Fin k0_t4_loop.trips) : Fin 2 → Nat :=
  let c21_i32_481 : BitVec 32 := 21#32
  let v589 : Index := Scalar.indexCast c21_i32_481
  let c8_i32_340 : BitVec 32 := 8#32
  let c1_i32_342 : BitVec 32 := 1#32
  let arg12 : BitVec 32 := Scf.iv c8_i32_340 c1_i32_342 k0_t4
  let c16_i32_480 : BitVec 32 := 16#32
  let v588 : BitVec 32 := Scalar.muli arg12 c16_i32_480
  let v590 : Index := Scalar.indexCast v588
  ![21, v590.toNat]

def k0_chk151 (v598 : IVec S16 32) (v600 : IVec S16 32) : Prop :=
  (∀ a x, ((![v598, v600] : Fin 2 → IVec S16 32) a x).toNat < S4096x16.size a)
theorem k0_idx151_inb : ∀ (v598 : IVec S16 32) (v600 : IVec S16 32) (k0_hw151 : k0_chk151 v598 v600), ∀ a x, ((![v598, v600] : Fin 2 → IVec S16 32) a x).toNat < S4096x16.size a := fun v598 v600 k0_hw151 => k0_hw151
def k0_off175 (k0_t4 : Fin k0_t4_loop.trips) : Fin 2 → Nat :=
  let c22_i32_487 : BitVec 32 := 22#32
  let v603 : Index := Scalar.indexCast c22_i32_487
  let c8_i32_340 : BitVec 32 := 8#32
  let c1_i32_342 : BitVec 32 := 1#32
  let arg12 : BitVec 32 := Scf.iv c8_i32_340 c1_i32_342 k0_t4
  let c16_i32_486 : BitVec 32 := 16#32
  let v602 : BitVec 32 := Scalar.muli arg12 c16_i32_486
  let v604 : Index := Scalar.indexCast v602
  ![22, v604.toNat]

def k0_chk152 (v612 : IVec S16 32) (v614 : IVec S16 32) : Prop :=
  (∀ a x, ((![v612, v614] : Fin 2 → IVec S16 32) a x).toNat < S4096x16.size a)
theorem k0_idx152_inb : ∀ (v612 : IVec S16 32) (v614 : IVec S16 32) (k0_hw152 : k0_chk152 v612 v614), ∀ a x, ((![v612, v614] : Fin 2 → IVec S16 32) a x).toNat < S4096x16.size a := fun v612 v614 k0_hw152 => k0_hw152
def k0_off176 (k0_t4 : Fin k0_t4_loop.trips) : Fin 2 → Nat :=
  let c23_i32_493 : BitVec 32 := 23#32
  let v617 : Index := Scalar.indexCast c23_i32_493
  let c8_i32_340 : BitVec 32 := 8#32
  let c1_i32_342 : BitVec 32 := 1#32
  let arg12 : BitVec 32 := Scf.iv c8_i32_340 c1_i32_342 k0_t4
  let c16_i32_492 : BitVec 32 := 16#32
  let v616 : BitVec 32 := Scalar.muli arg12 c16_i32_492
  let v618 : Index := Scalar.indexCast v616
  ![23, v618.toNat]

def k0_chk153 (v626 : IVec S16 32) (v628 : IVec S16 32) : Prop :=
  (∀ a x, ((![v626, v628] : Fin 2 → IVec S16 32) a x).toNat < S4096x16.size a)
theorem k0_idx153_inb : ∀ (v626 : IVec S16 32) (v628 : IVec S16 32) (k0_hw153 : k0_chk153 v626 v628), ∀ a x, ((![v626, v628] : Fin 2 → IVec S16 32) a x).toNat < S4096x16.size a := fun v626 v628 k0_hw153 => k0_hw153
def k0_off177 (k0_t4 : Fin k0_t4_loop.trips) : Fin 2 → Nat :=
  let c24_i32_499 : BitVec 32 := 24#32
  let v631 : Index := Scalar.indexCast c24_i32_499
  let c8_i32_340 : BitVec 32 := 8#32
  let c1_i32_342 : BitVec 32 := 1#32
  let arg12 : BitVec 32 := Scf.iv c8_i32_340 c1_i32_342 k0_t4
  let c16_i32_498 : BitVec 32 := 16#32
  let v630 : BitVec 32 := Scalar.muli arg12 c16_i32_498
  let v632 : Index := Scalar.indexCast v630
  ![24, v632.toNat]

def k0_chk154 (v640 : IVec S16 32) (v642 : IVec S16 32) : Prop :=
  (∀ a x, ((![v640, v642] : Fin 2 → IVec S16 32) a x).toNat < S4096x16.size a)
theorem k0_idx154_inb : ∀ (v640 : IVec S16 32) (v642 : IVec S16 32) (k0_hw154 : k0_chk154 v640 v642), ∀ a x, ((![v640, v642] : Fin 2 → IVec S16 32) a x).toNat < S4096x16.size a := fun v640 v642 k0_hw154 => k0_hw154
def k0_off178 (k0_t4 : Fin k0_t4_loop.trips) : Fin 2 → Nat :=
  let c25_i32_505 : BitVec 32 := 25#32
  let v645 : Index := Scalar.indexCast c25_i32_505
  let c8_i32_340 : BitVec 32 := 8#32
  let c1_i32_342 : BitVec 32 := 1#32
  let arg12 : BitVec 32 := Scf.iv c8_i32_340 c1_i32_342 k0_t4
  let c16_i32_504 : BitVec 32 := 16#32
  let v644 : BitVec 32 := Scalar.muli arg12 c16_i32_504
  let v646 : Index := Scalar.indexCast v644
  ![25, v646.toNat]

def k0_chk155 (v654 : IVec S16 32) (v656 : IVec S16 32) : Prop :=
  (∀ a x, ((![v654, v656] : Fin 2 → IVec S16 32) a x).toNat < S4096x16.size a)
theorem k0_idx155_inb : ∀ (v654 : IVec S16 32) (v656 : IVec S16 32) (k0_hw155 : k0_chk155 v654 v656), ∀ a x, ((![v654, v656] : Fin 2 → IVec S16 32) a x).toNat < S4096x16.size a := fun v654 v656 k0_hw155 => k0_hw155
def k0_off179 (k0_t4 : Fin k0_t4_loop.trips) : Fin 2 → Nat :=
  let c26_i32_511 : BitVec 32 := 26#32
  let v659 : Index := Scalar.indexCast c26_i32_511
  let c8_i32_340 : BitVec 32 := 8#32
  let c1_i32_342 : BitVec 32 := 1#32
  let arg12 : BitVec 32 := Scf.iv c8_i32_340 c1_i32_342 k0_t4
  let c16_i32_510 : BitVec 32 := 16#32
  let v658 : BitVec 32 := Scalar.muli arg12 c16_i32_510
  let v660 : Index := Scalar.indexCast v658
  ![26, v660.toNat]

def k0_chk156 (v668 : IVec S16 32) (v670 : IVec S16 32) : Prop :=
  (∀ a x, ((![v668, v670] : Fin 2 → IVec S16 32) a x).toNat < S4096x16.size a)
theorem k0_idx156_inb : ∀ (v668 : IVec S16 32) (v670 : IVec S16 32) (k0_hw156 : k0_chk156 v668 v670), ∀ a x, ((![v668, v670] : Fin 2 → IVec S16 32) a x).toNat < S4096x16.size a := fun v668 v670 k0_hw156 => k0_hw156
def k0_off180 (k0_t4 : Fin k0_t4_loop.trips) : Fin 2 → Nat :=
  let c27_i32_517 : BitVec 32 := 27#32
  let v673 : Index := Scalar.indexCast c27_i32_517
  let c8_i32_340 : BitVec 32 := 8#32
  let c1_i32_342 : BitVec 32 := 1#32
  let arg12 : BitVec 32 := Scf.iv c8_i32_340 c1_i32_342 k0_t4
  let c16_i32_516 : BitVec 32 := 16#32
  let v672 : BitVec 32 := Scalar.muli arg12 c16_i32_516
  let v674 : Index := Scalar.indexCast v672
  ![27, v674.toNat]

def k0_chk157 (v682 : IVec S16 32) (v684 : IVec S16 32) : Prop :=
  (∀ a x, ((![v682, v684] : Fin 2 → IVec S16 32) a x).toNat < S4096x16.size a)
theorem k0_idx157_inb : ∀ (v682 : IVec S16 32) (v684 : IVec S16 32) (k0_hw157 : k0_chk157 v682 v684), ∀ a x, ((![v682, v684] : Fin 2 → IVec S16 32) a x).toNat < S4096x16.size a := fun v682 v684 k0_hw157 => k0_hw157
def k0_off181 (k0_t4 : Fin k0_t4_loop.trips) : Fin 2 → Nat :=
  let c28_i32_523 : BitVec 32 := 28#32
  let v687 : Index := Scalar.indexCast c28_i32_523
  let c8_i32_340 : BitVec 32 := 8#32
  let c1_i32_342 : BitVec 32 := 1#32
  let arg12 : BitVec 32 := Scf.iv c8_i32_340 c1_i32_342 k0_t4
  let c16_i32_522 : BitVec 32 := 16#32
  let v686 : BitVec 32 := Scalar.muli arg12 c16_i32_522
  let v688 : Index := Scalar.indexCast v686
  ![28, v688.toNat]

def k0_chk158 (v696 : IVec S16 32) (v698 : IVec S16 32) : Prop :=
  (∀ a x, ((![v696, v698] : Fin 2 → IVec S16 32) a x).toNat < S4096x16.size a)
theorem k0_idx158_inb : ∀ (v696 : IVec S16 32) (v698 : IVec S16 32) (k0_hw158 : k0_chk158 v696 v698), ∀ a x, ((![v696, v698] : Fin 2 → IVec S16 32) a x).toNat < S4096x16.size a := fun v696 v698 k0_hw158 => k0_hw158
def k0_off182 (k0_t4 : Fin k0_t4_loop.trips) : Fin 2 → Nat :=
  let c29_i32_529 : BitVec 32 := 29#32
  let v701 : Index := Scalar.indexCast c29_i32_529
  let c8_i32_340 : BitVec 32 := 8#32
  let c1_i32_342 : BitVec 32 := 1#32
  let arg12 : BitVec 32 := Scf.iv c8_i32_340 c1_i32_342 k0_t4
  let c16_i32_528 : BitVec 32 := 16#32
  let v700 : BitVec 32 := Scalar.muli arg12 c16_i32_528
  let v702 : Index := Scalar.indexCast v700
  ![29, v702.toNat]

def k0_chk159 (v710 : IVec S16 32) (v712 : IVec S16 32) : Prop :=
  (∀ a x, ((![v710, v712] : Fin 2 → IVec S16 32) a x).toNat < S4096x16.size a)
theorem k0_idx159_inb : ∀ (v710 : IVec S16 32) (v712 : IVec S16 32) (k0_hw159 : k0_chk159 v710 v712), ∀ a x, ((![v710, v712] : Fin 2 → IVec S16 32) a x).toNat < S4096x16.size a := fun v710 v712 k0_hw159 => k0_hw159
def k0_off183 (k0_t4 : Fin k0_t4_loop.trips) : Fin 2 → Nat :=
  let c30_i32_535 : BitVec 32 := 30#32
  let v715 : Index := Scalar.indexCast c30_i32_535
  let c8_i32_340 : BitVec 32 := 8#32
  let c1_i32_342 : BitVec 32 := 1#32
  let arg12 : BitVec 32 := Scf.iv c8_i32_340 c1_i32_342 k0_t4
  let c16_i32_534 : BitVec 32 := 16#32
  let v714 : BitVec 32 := Scalar.muli arg12 c16_i32_534
  let v716 : Index := Scalar.indexCast v714
  ![30, v716.toNat]

def k0_chk160 (v724 : IVec S16 32) (v726 : IVec S16 32) : Prop :=
  (∀ a x, ((![v724, v726] : Fin 2 → IVec S16 32) a x).toNat < S4096x16.size a)
theorem k0_idx160_inb : ∀ (v724 : IVec S16 32) (v726 : IVec S16 32) (k0_hw160 : k0_chk160 v724 v726), ∀ a x, ((![v724, v726] : Fin 2 → IVec S16 32) a x).toNat < S4096x16.size a := fun v724 v726 k0_hw160 => k0_hw160
def k0_off184 (k0_t4 : Fin k0_t4_loop.trips) : Fin 2 → Nat :=
  let c31_i32_541 : BitVec 32 := 31#32
  let v729 : Index := Scalar.indexCast c31_i32_541
  let c8_i32_340 : BitVec 32 := 8#32
  let c1_i32_342 : BitVec 32 := 1#32
  let arg12 : BitVec 32 := Scf.iv c8_i32_340 c1_i32_342 k0_t4
  let c16_i32_540 : BitVec 32 := 16#32
  let v728 : BitVec 32 := Scalar.muli arg12 c16_i32_540
  let v730 : Index := Scalar.indexCast v728
  ![31, v730.toNat]

def k0_chk161 (v740 : IVec S16 32) (v742 : IVec S16 32) : Prop :=
  (∀ a x, ((![v740, v742] : Fin 2 → IVec S16 32) a x).toNat < S4096x16.size a)
theorem k0_idx161_inb : ∀ (v740 : IVec S16 32) (v742 : IVec S16 32) (k0_hw161 : k0_chk161 v740 v742), ∀ a x, ((![v740, v742] : Fin 2 → IVec S16 32) a x).toNat < S4096x16.size a := fun v740 v742 k0_hw161 => k0_hw161
def k0_off185 (k0_t4 : Fin k0_t4_loop.trips) : Fin 2 → Nat :=
  let c32_i32 : BitVec 32 := 32#32
  let v745 : Index := Scalar.indexCast c32_i32
  let c8_i32_340 : BitVec 32 := 8#32
  let c1_i32_342 : BitVec 32 := 1#32
  let arg12 : BitVec 32 := Scf.iv c8_i32_340 c1_i32_342 k0_t4
  let c16_i32_547 : BitVec 32 := 16#32
  let v744 : BitVec 32 := Scalar.muli arg12 c16_i32_547
  let v746 : Index := Scalar.indexCast v744
  ![32, v746.toNat]

def k0_chk162 (v754 : IVec S16 32) (v756 : IVec S16 32) : Prop :=
  (∀ a x, ((![v754, v756] : Fin 2 → IVec S16 32) a x).toNat < S4096x16.size a)
theorem k0_idx162_inb : ∀ (v754 : IVec S16 32) (v756 : IVec S16 32) (k0_hw162 : k0_chk162 v754 v756), ∀ a x, ((![v754, v756] : Fin 2 → IVec S16 32) a x).toNat < S4096x16.size a := fun v754 v756 k0_hw162 => k0_hw162
def k0_off186 (k0_t4 : Fin k0_t4_loop.trips) : Fin 2 → Nat :=
  let c33_i32 : BitVec 32 := 33#32
  let v759 : Index := Scalar.indexCast c33_i32
  let c8_i32_340 : BitVec 32 := 8#32
  let c1_i32_342 : BitVec 32 := 1#32
  let arg12 : BitVec 32 := Scf.iv c8_i32_340 c1_i32_342 k0_t4
  let c16_i32_552 : BitVec 32 := 16#32
  let v758 : BitVec 32 := Scalar.muli arg12 c16_i32_552
  let v760 : Index := Scalar.indexCast v758
  ![33, v760.toNat]

def k0_chk163 (v768 : IVec S16 32) (v770 : IVec S16 32) : Prop :=
  (∀ a x, ((![v768, v770] : Fin 2 → IVec S16 32) a x).toNat < S4096x16.size a)
theorem k0_idx163_inb : ∀ (v768 : IVec S16 32) (v770 : IVec S16 32) (k0_hw163 : k0_chk163 v768 v770), ∀ a x, ((![v768, v770] : Fin 2 → IVec S16 32) a x).toNat < S4096x16.size a := fun v768 v770 k0_hw163 => k0_hw163
def k0_off187 (k0_t4 : Fin k0_t4_loop.trips) : Fin 2 → Nat :=
  let c34_i32 : BitVec 32 := 34#32
  let v773 : Index := Scalar.indexCast c34_i32
  let c8_i32_340 : BitVec 32 := 8#32
  let c1_i32_342 : BitVec 32 := 1#32
  let arg12 : BitVec 32 := Scf.iv c8_i32_340 c1_i32_342 k0_t4
  let c16_i32_557 : BitVec 32 := 16#32
  let v772 : BitVec 32 := Scalar.muli arg12 c16_i32_557
  let v774 : Index := Scalar.indexCast v772
  ![34, v774.toNat]

def k0_chk164 (v782 : IVec S16 32) (v784 : IVec S16 32) : Prop :=
  (∀ a x, ((![v782, v784] : Fin 2 → IVec S16 32) a x).toNat < S4096x16.size a)
theorem k0_idx164_inb : ∀ (v782 : IVec S16 32) (v784 : IVec S16 32) (k0_hw164 : k0_chk164 v782 v784), ∀ a x, ((![v782, v784] : Fin 2 → IVec S16 32) a x).toNat < S4096x16.size a := fun v782 v784 k0_hw164 => k0_hw164
def k0_off188 (k0_t4 : Fin k0_t4_loop.trips) : Fin 2 → Nat :=
  let c35_i32 : BitVec 32 := 35#32
  let v787 : Index := Scalar.indexCast c35_i32
  let c8_i32_340 : BitVec 32 := 8#32
  let c1_i32_342 : BitVec 32 := 1#32
  let arg12 : BitVec 32 := Scf.iv c8_i32_340 c1_i32_342 k0_t4
  let c16_i32_562 : BitVec 32 := 16#32
  let v786 : BitVec 32 := Scalar.muli arg12 c16_i32_562
  let v788 : Index := Scalar.indexCast v786
  ![35, v788.toNat]

def k0_chk165 (v796 : IVec S16 32) (v798 : IVec S16 32) : Prop :=
  (∀ a x, ((![v796, v798] : Fin 2 → IVec S16 32) a x).toNat < S4096x16.size a)
theorem k0_idx165_inb : ∀ (v796 : IVec S16 32) (v798 : IVec S16 32) (k0_hw165 : k0_chk165 v796 v798), ∀ a x, ((![v796, v798] : Fin 2 → IVec S16 32) a x).toNat < S4096x16.size a := fun v796 v798 k0_hw165 => k0_hw165
def k0_off189 (k0_t4 : Fin k0_t4_loop.trips) : Fin 2 → Nat :=
  let c36_i32 : BitVec 32 := 36#32
  let v801 : Index := Scalar.indexCast c36_i32
  let c8_i32_340 : BitVec 32 := 8#32
  let c1_i32_342 : BitVec 32 := 1#32
  let arg12 : BitVec 32 := Scf.iv c8_i32_340 c1_i32_342 k0_t4
  let c16_i32_567 : BitVec 32 := 16#32
  let v800 : BitVec 32 := Scalar.muli arg12 c16_i32_567
  let v802 : Index := Scalar.indexCast v800
  ![36, v802.toNat]

def k0_chk166 (v810 : IVec S16 32) (v812 : IVec S16 32) : Prop :=
  (∀ a x, ((![v810, v812] : Fin 2 → IVec S16 32) a x).toNat < S4096x16.size a)
theorem k0_idx166_inb : ∀ (v810 : IVec S16 32) (v812 : IVec S16 32) (k0_hw166 : k0_chk166 v810 v812), ∀ a x, ((![v810, v812] : Fin 2 → IVec S16 32) a x).toNat < S4096x16.size a := fun v810 v812 k0_hw166 => k0_hw166
def k0_off190 (k0_t4 : Fin k0_t4_loop.trips) : Fin 2 → Nat :=
  let c37_i32 : BitVec 32 := 37#32
  let v815 : Index := Scalar.indexCast c37_i32
  let c8_i32_340 : BitVec 32 := 8#32
  let c1_i32_342 : BitVec 32 := 1#32
  let arg12 : BitVec 32 := Scf.iv c8_i32_340 c1_i32_342 k0_t4
  let c16_i32_572 : BitVec 32 := 16#32
  let v814 : BitVec 32 := Scalar.muli arg12 c16_i32_572
  let v816 : Index := Scalar.indexCast v814
  ![37, v816.toNat]

def k0_chk167 (v824 : IVec S16 32) (v826 : IVec S16 32) : Prop :=
  (∀ a x, ((![v824, v826] : Fin 2 → IVec S16 32) a x).toNat < S4096x16.size a)
theorem k0_idx167_inb : ∀ (v824 : IVec S16 32) (v826 : IVec S16 32) (k0_hw167 : k0_chk167 v824 v826), ∀ a x, ((![v824, v826] : Fin 2 → IVec S16 32) a x).toNat < S4096x16.size a := fun v824 v826 k0_hw167 => k0_hw167
def k0_off191 (k0_t4 : Fin k0_t4_loop.trips) : Fin 2 → Nat :=
  let c38_i32 : BitVec 32 := 38#32
  let v829 : Index := Scalar.indexCast c38_i32
  let c8_i32_340 : BitVec 32 := 8#32
  let c1_i32_342 : BitVec 32 := 1#32
  let arg12 : BitVec 32 := Scf.iv c8_i32_340 c1_i32_342 k0_t4
  let c16_i32_577 : BitVec 32 := 16#32
  let v828 : BitVec 32 := Scalar.muli arg12 c16_i32_577
  let v830 : Index := Scalar.indexCast v828
  ![38, v830.toNat]

def k0_chk168 (v838 : IVec S16 32) (v840 : IVec S16 32) : Prop :=
  (∀ a x, ((![v838, v840] : Fin 2 → IVec S16 32) a x).toNat < S4096x16.size a)
theorem k0_idx168_inb : ∀ (v838 : IVec S16 32) (v840 : IVec S16 32) (k0_hw168 : k0_chk168 v838 v840), ∀ a x, ((![v838, v840] : Fin 2 → IVec S16 32) a x).toNat < S4096x16.size a := fun v838 v840 k0_hw168 => k0_hw168
def k0_off192 (k0_t4 : Fin k0_t4_loop.trips) : Fin 2 → Nat :=
  let c39_i32 : BitVec 32 := 39#32
  let v843 : Index := Scalar.indexCast c39_i32
  let c8_i32_340 : BitVec 32 := 8#32
  let c1_i32_342 : BitVec 32 := 1#32
  let arg12 : BitVec 32 := Scf.iv c8_i32_340 c1_i32_342 k0_t4
  let c16_i32_582 : BitVec 32 := 16#32
  let v842 : BitVec 32 := Scalar.muli arg12 c16_i32_582
  let v844 : Index := Scalar.indexCast v842
  ![39, v844.toNat]

def k0_chk169 (v852 : IVec S16 32) (v854 : IVec S16 32) : Prop :=
  (∀ a x, ((![v852, v854] : Fin 2 → IVec S16 32) a x).toNat < S4096x16.size a)
theorem k0_idx169_inb : ∀ (v852 : IVec S16 32) (v854 : IVec S16 32) (k0_hw169 : k0_chk169 v852 v854), ∀ a x, ((![v852, v854] : Fin 2 → IVec S16 32) a x).toNat < S4096x16.size a := fun v852 v854 k0_hw169 => k0_hw169
def k0_off193 (k0_t4 : Fin k0_t4_loop.trips) : Fin 2 → Nat :=
  let c40_i32 : BitVec 32 := 40#32
  let v857 : Index := Scalar.indexCast c40_i32
  let c8_i32_340 : BitVec 32 := 8#32
  let c1_i32_342 : BitVec 32 := 1#32
  let arg12 : BitVec 32 := Scf.iv c8_i32_340 c1_i32_342 k0_t4
  let c16_i32_587 : BitVec 32 := 16#32
  let v856 : BitVec 32 := Scalar.muli arg12 c16_i32_587
  let v858 : Index := Scalar.indexCast v856
  ![40, v858.toNat]

def k0_chk170 (v866 : IVec S16 32) (v868 : IVec S16 32) : Prop :=
  (∀ a x, ((![v866, v868] : Fin 2 → IVec S16 32) a x).toNat < S4096x16.size a)
theorem k0_idx170_inb : ∀ (v866 : IVec S16 32) (v868 : IVec S16 32) (k0_hw170 : k0_chk170 v866 v868), ∀ a x, ((![v866, v868] : Fin 2 → IVec S16 32) a x).toNat < S4096x16.size a := fun v866 v868 k0_hw170 => k0_hw170
def k0_off194 (k0_t4 : Fin k0_t4_loop.trips) : Fin 2 → Nat :=
  let c41_i32 : BitVec 32 := 41#32
  let v871 : Index := Scalar.indexCast c41_i32
  let c8_i32_340 : BitVec 32 := 8#32
  let c1_i32_342 : BitVec 32 := 1#32
  let arg12 : BitVec 32 := Scf.iv c8_i32_340 c1_i32_342 k0_t4
  let c16_i32_592 : BitVec 32 := 16#32
  let v870 : BitVec 32 := Scalar.muli arg12 c16_i32_592
  let v872 : Index := Scalar.indexCast v870
  ![41, v872.toNat]

def k0_chk171 (v880 : IVec S16 32) (v882 : IVec S16 32) : Prop :=
  (∀ a x, ((![v880, v882] : Fin 2 → IVec S16 32) a x).toNat < S4096x16.size a)
theorem k0_idx171_inb : ∀ (v880 : IVec S16 32) (v882 : IVec S16 32) (k0_hw171 : k0_chk171 v880 v882), ∀ a x, ((![v880, v882] : Fin 2 → IVec S16 32) a x).toNat < S4096x16.size a := fun v880 v882 k0_hw171 => k0_hw171
def k0_off195 (k0_t4 : Fin k0_t4_loop.trips) : Fin 2 → Nat :=
  let c42_i32 : BitVec 32 := 42#32
  let v885 : Index := Scalar.indexCast c42_i32
  let c8_i32_340 : BitVec 32 := 8#32
  let c1_i32_342 : BitVec 32 := 1#32
  let arg12 : BitVec 32 := Scf.iv c8_i32_340 c1_i32_342 k0_t4
  let c16_i32_597 : BitVec 32 := 16#32
  let v884 : BitVec 32 := Scalar.muli arg12 c16_i32_597
  let v886 : Index := Scalar.indexCast v884
  ![42, v886.toNat]

def k0_chk172 (v894 : IVec S16 32) (v896 : IVec S16 32) : Prop :=
  (∀ a x, ((![v894, v896] : Fin 2 → IVec S16 32) a x).toNat < S4096x16.size a)
theorem k0_idx172_inb : ∀ (v894 : IVec S16 32) (v896 : IVec S16 32) (k0_hw172 : k0_chk172 v894 v896), ∀ a x, ((![v894, v896] : Fin 2 → IVec S16 32) a x).toNat < S4096x16.size a := fun v894 v896 k0_hw172 => k0_hw172
def k0_off196 (k0_t4 : Fin k0_t4_loop.trips) : Fin 2 → Nat :=
  let c43_i32 : BitVec 32 := 43#32
  let v899 : Index := Scalar.indexCast c43_i32
  let c8_i32_340 : BitVec 32 := 8#32
  let c1_i32_342 : BitVec 32 := 1#32
  let arg12 : BitVec 32 := Scf.iv c8_i32_340 c1_i32_342 k0_t4
  let c16_i32_602 : BitVec 32 := 16#32
  let v898 : BitVec 32 := Scalar.muli arg12 c16_i32_602
  let v900 : Index := Scalar.indexCast v898
  ![43, v900.toNat]

def k0_chk173 (v908 : IVec S16 32) (v910 : IVec S16 32) : Prop :=
  (∀ a x, ((![v908, v910] : Fin 2 → IVec S16 32) a x).toNat < S4096x16.size a)
theorem k0_idx173_inb : ∀ (v908 : IVec S16 32) (v910 : IVec S16 32) (k0_hw173 : k0_chk173 v908 v910), ∀ a x, ((![v908, v910] : Fin 2 → IVec S16 32) a x).toNat < S4096x16.size a := fun v908 v910 k0_hw173 => k0_hw173
def k0_off197 (k0_t4 : Fin k0_t4_loop.trips) : Fin 2 → Nat :=
  let c44_i32 : BitVec 32 := 44#32
  let v913 : Index := Scalar.indexCast c44_i32
  let c8_i32_340 : BitVec 32 := 8#32
  let c1_i32_342 : BitVec 32 := 1#32
  let arg12 : BitVec 32 := Scf.iv c8_i32_340 c1_i32_342 k0_t4
  let c16_i32_607 : BitVec 32 := 16#32
  let v912 : BitVec 32 := Scalar.muli arg12 c16_i32_607
  let v914 : Index := Scalar.indexCast v912
  ![44, v914.toNat]

def k0_chk174 (v922 : IVec S16 32) (v924 : IVec S16 32) : Prop :=
  (∀ a x, ((![v922, v924] : Fin 2 → IVec S16 32) a x).toNat < S4096x16.size a)
theorem k0_idx174_inb : ∀ (v922 : IVec S16 32) (v924 : IVec S16 32) (k0_hw174 : k0_chk174 v922 v924), ∀ a x, ((![v922, v924] : Fin 2 → IVec S16 32) a x).toNat < S4096x16.size a := fun v922 v924 k0_hw174 => k0_hw174
def k0_off198 (k0_t4 : Fin k0_t4_loop.trips) : Fin 2 → Nat :=
  let c45_i32 : BitVec 32 := 45#32
  let v927 : Index := Scalar.indexCast c45_i32
  let c8_i32_340 : BitVec 32 := 8#32
  let c1_i32_342 : BitVec 32 := 1#32
  let arg12 : BitVec 32 := Scf.iv c8_i32_340 c1_i32_342 k0_t4
  let c16_i32_612 : BitVec 32 := 16#32
  let v926 : BitVec 32 := Scalar.muli arg12 c16_i32_612
  let v928 : Index := Scalar.indexCast v926
  ![45, v928.toNat]

def k0_chk175 (v936 : IVec S16 32) (v938 : IVec S16 32) : Prop :=
  (∀ a x, ((![v936, v938] : Fin 2 → IVec S16 32) a x).toNat < S4096x16.size a)
theorem k0_idx175_inb : ∀ (v936 : IVec S16 32) (v938 : IVec S16 32) (k0_hw175 : k0_chk175 v936 v938), ∀ a x, ((![v936, v938] : Fin 2 → IVec S16 32) a x).toNat < S4096x16.size a := fun v936 v938 k0_hw175 => k0_hw175
def k0_off199 (k0_t4 : Fin k0_t4_loop.trips) : Fin 2 → Nat :=
  let c46_i32 : BitVec 32 := 46#32
  let v941 : Index := Scalar.indexCast c46_i32
  let c8_i32_340 : BitVec 32 := 8#32
  let c1_i32_342 : BitVec 32 := 1#32
  let arg12 : BitVec 32 := Scf.iv c8_i32_340 c1_i32_342 k0_t4
  let c16_i32_617 : BitVec 32 := 16#32
  let v940 : BitVec 32 := Scalar.muli arg12 c16_i32_617
  let v942 : Index := Scalar.indexCast v940
  ![46, v942.toNat]

def k0_chk176 (v950 : IVec S16 32) (v952 : IVec S16 32) : Prop :=
  (∀ a x, ((![v950, v952] : Fin 2 → IVec S16 32) a x).toNat < S4096x16.size a)
theorem k0_idx176_inb : ∀ (v950 : IVec S16 32) (v952 : IVec S16 32) (k0_hw176 : k0_chk176 v950 v952), ∀ a x, ((![v950, v952] : Fin 2 → IVec S16 32) a x).toNat < S4096x16.size a := fun v950 v952 k0_hw176 => k0_hw176
def k0_off200 (k0_t4 : Fin k0_t4_loop.trips) : Fin 2 → Nat :=
  let c47_i32 : BitVec 32 := 47#32
  let v955 : Index := Scalar.indexCast c47_i32
  let c8_i32_340 : BitVec 32 := 8#32
  let c1_i32_342 : BitVec 32 := 1#32
  let arg12 : BitVec 32 := Scf.iv c8_i32_340 c1_i32_342 k0_t4
  let c16_i32_622 : BitVec 32 := 16#32
  let v954 : BitVec 32 := Scalar.muli arg12 c16_i32_622
  let v956 : Index := Scalar.indexCast v954
  ![47, v956.toNat]

def k0_chk177 (v966 : IVec S16 32) (v968 : IVec S16 32) : Prop :=
  (∀ a x, ((![v966, v968] : Fin 2 → IVec S16 32) a x).toNat < S4096x16.size a)
theorem k0_idx177_inb : ∀ (v966 : IVec S16 32) (v968 : IVec S16 32) (k0_hw177 : k0_chk177 v966 v968), ∀ a x, ((![v966, v968] : Fin 2 → IVec S16 32) a x).toNat < S4096x16.size a := fun v966 v968 k0_hw177 => k0_hw177
def k0_off201 (k0_t4 : Fin k0_t4_loop.trips) : Fin 2 → Nat :=
  let c48_i32 : BitVec 32 := 48#32
  let v971 : Index := Scalar.indexCast c48_i32
  let c8_i32_340 : BitVec 32 := 8#32
  let c1_i32_342 : BitVec 32 := 1#32
  let arg12 : BitVec 32 := Scf.iv c8_i32_340 c1_i32_342 k0_t4
  let c16_i32_628 : BitVec 32 := 16#32
  let v970 : BitVec 32 := Scalar.muli arg12 c16_i32_628
  let v972 : Index := Scalar.indexCast v970
  ![48, v972.toNat]

def k0_chk178 (v980 : IVec S16 32) (v982 : IVec S16 32) : Prop :=
  (∀ a x, ((![v980, v982] : Fin 2 → IVec S16 32) a x).toNat < S4096x16.size a)
theorem k0_idx178_inb : ∀ (v980 : IVec S16 32) (v982 : IVec S16 32) (k0_hw178 : k0_chk178 v980 v982), ∀ a x, ((![v980, v982] : Fin 2 → IVec S16 32) a x).toNat < S4096x16.size a := fun v980 v982 k0_hw178 => k0_hw178
def k0_off202 (k0_t4 : Fin k0_t4_loop.trips) : Fin 2 → Nat :=
  let c49_i32 : BitVec 32 := 49#32
  let v985 : Index := Scalar.indexCast c49_i32
  let c8_i32_340 : BitVec 32 := 8#32
  let c1_i32_342 : BitVec 32 := 1#32
  let arg12 : BitVec 32 := Scf.iv c8_i32_340 c1_i32_342 k0_t4
  let c16_i32_633 : BitVec 32 := 16#32
  let v984 : BitVec 32 := Scalar.muli arg12 c16_i32_633
  let v986 : Index := Scalar.indexCast v984
  ![49, v986.toNat]

def k0_chk179 (v994 : IVec S16 32) (v996 : IVec S16 32) : Prop :=
  (∀ a x, ((![v994, v996] : Fin 2 → IVec S16 32) a x).toNat < S4096x16.size a)
theorem k0_idx179_inb : ∀ (v994 : IVec S16 32) (v996 : IVec S16 32) (k0_hw179 : k0_chk179 v994 v996), ∀ a x, ((![v994, v996] : Fin 2 → IVec S16 32) a x).toNat < S4096x16.size a := fun v994 v996 k0_hw179 => k0_hw179
def k0_off203 (k0_t4 : Fin k0_t4_loop.trips) : Fin 2 → Nat :=
  let c50_i32 : BitVec 32 := 50#32
  let v999 : Index := Scalar.indexCast c50_i32
  let c8_i32_340 : BitVec 32 := 8#32
  let c1_i32_342 : BitVec 32 := 1#32
  let arg12 : BitVec 32 := Scf.iv c8_i32_340 c1_i32_342 k0_t4
  let c16_i32_638 : BitVec 32 := 16#32
  let v998 : BitVec 32 := Scalar.muli arg12 c16_i32_638
  let v1000 : Index := Scalar.indexCast v998
  ![50, v1000.toNat]

def k0_chk180 (v1008 : IVec S16 32) (v1010 : IVec S16 32) : Prop :=
  (∀ a x, ((![v1008, v1010] : Fin 2 → IVec S16 32) a x).toNat < S4096x16.size a)
theorem k0_idx180_inb : ∀ (v1008 : IVec S16 32) (v1010 : IVec S16 32) (k0_hw180 : k0_chk180 v1008 v1010), ∀ a x, ((![v1008, v1010] : Fin 2 → IVec S16 32) a x).toNat < S4096x16.size a := fun v1008 v1010 k0_hw180 => k0_hw180
def k0_off204 (k0_t4 : Fin k0_t4_loop.trips) : Fin 2 → Nat :=
  let c51_i32 : BitVec 32 := 51#32
  let v1013 : Index := Scalar.indexCast c51_i32
  let c8_i32_340 : BitVec 32 := 8#32
  let c1_i32_342 : BitVec 32 := 1#32
  let arg12 : BitVec 32 := Scf.iv c8_i32_340 c1_i32_342 k0_t4
  let c16_i32_643 : BitVec 32 := 16#32
  let v1012 : BitVec 32 := Scalar.muli arg12 c16_i32_643
  let v1014 : Index := Scalar.indexCast v1012
  ![51, v1014.toNat]

def k0_chk181 (v1022 : IVec S16 32) (v1024 : IVec S16 32) : Prop :=
  (∀ a x, ((![v1022, v1024] : Fin 2 → IVec S16 32) a x).toNat < S4096x16.size a)
theorem k0_idx181_inb : ∀ (v1022 : IVec S16 32) (v1024 : IVec S16 32) (k0_hw181 : k0_chk181 v1022 v1024), ∀ a x, ((![v1022, v1024] : Fin 2 → IVec S16 32) a x).toNat < S4096x16.size a := fun v1022 v1024 k0_hw181 => k0_hw181
def k0_off205 (k0_t4 : Fin k0_t4_loop.trips) : Fin 2 → Nat :=
  let c52_i32 : BitVec 32 := 52#32
  let v1027 : Index := Scalar.indexCast c52_i32
  let c8_i32_340 : BitVec 32 := 8#32
  let c1_i32_342 : BitVec 32 := 1#32
  let arg12 : BitVec 32 := Scf.iv c8_i32_340 c1_i32_342 k0_t4
  let c16_i32_648 : BitVec 32 := 16#32
  let v1026 : BitVec 32 := Scalar.muli arg12 c16_i32_648
  let v1028 : Index := Scalar.indexCast v1026
  ![52, v1028.toNat]

def k0_chk182 (v1036 : IVec S16 32) (v1038 : IVec S16 32) : Prop :=
  (∀ a x, ((![v1036, v1038] : Fin 2 → IVec S16 32) a x).toNat < S4096x16.size a)
theorem k0_idx182_inb : ∀ (v1036 : IVec S16 32) (v1038 : IVec S16 32) (k0_hw182 : k0_chk182 v1036 v1038), ∀ a x, ((![v1036, v1038] : Fin 2 → IVec S16 32) a x).toNat < S4096x16.size a := fun v1036 v1038 k0_hw182 => k0_hw182
def k0_off206 (k0_t4 : Fin k0_t4_loop.trips) : Fin 2 → Nat :=
  let c53_i32 : BitVec 32 := 53#32
  let v1041 : Index := Scalar.indexCast c53_i32
  let c8_i32_340 : BitVec 32 := 8#32
  let c1_i32_342 : BitVec 32 := 1#32
  let arg12 : BitVec 32 := Scf.iv c8_i32_340 c1_i32_342 k0_t4
  let c16_i32_653 : BitVec 32 := 16#32
  let v1040 : BitVec 32 := Scalar.muli arg12 c16_i32_653
  let v1042 : Index := Scalar.indexCast v1040
  ![53, v1042.toNat]

def k0_chk183 (v1050 : IVec S16 32) (v1052 : IVec S16 32) : Prop :=
  (∀ a x, ((![v1050, v1052] : Fin 2 → IVec S16 32) a x).toNat < S4096x16.size a)
theorem k0_idx183_inb : ∀ (v1050 : IVec S16 32) (v1052 : IVec S16 32) (k0_hw183 : k0_chk183 v1050 v1052), ∀ a x, ((![v1050, v1052] : Fin 2 → IVec S16 32) a x).toNat < S4096x16.size a := fun v1050 v1052 k0_hw183 => k0_hw183
def k0_off207 (k0_t4 : Fin k0_t4_loop.trips) : Fin 2 → Nat :=
  let c54_i32 : BitVec 32 := 54#32
  let v1055 : Index := Scalar.indexCast c54_i32
  let c8_i32_340 : BitVec 32 := 8#32
  let c1_i32_342 : BitVec 32 := 1#32
  let arg12 : BitVec 32 := Scf.iv c8_i32_340 c1_i32_342 k0_t4
  let c16_i32_658 : BitVec 32 := 16#32
  let v1054 : BitVec 32 := Scalar.muli arg12 c16_i32_658
  let v1056 : Index := Scalar.indexCast v1054
  ![54, v1056.toNat]

def k0_chk184 (v1064 : IVec S16 32) (v1066 : IVec S16 32) : Prop :=
  (∀ a x, ((![v1064, v1066] : Fin 2 → IVec S16 32) a x).toNat < S4096x16.size a)
theorem k0_idx184_inb : ∀ (v1064 : IVec S16 32) (v1066 : IVec S16 32) (k0_hw184 : k0_chk184 v1064 v1066), ∀ a x, ((![v1064, v1066] : Fin 2 → IVec S16 32) a x).toNat < S4096x16.size a := fun v1064 v1066 k0_hw184 => k0_hw184
def k0_off208 (k0_t4 : Fin k0_t4_loop.trips) : Fin 2 → Nat :=
  let c55_i32 : BitVec 32 := 55#32
  let v1069 : Index := Scalar.indexCast c55_i32
  let c8_i32_340 : BitVec 32 := 8#32
  let c1_i32_342 : BitVec 32 := 1#32
  let arg12 : BitVec 32 := Scf.iv c8_i32_340 c1_i32_342 k0_t4
  let c16_i32_663 : BitVec 32 := 16#32
  let v1068 : BitVec 32 := Scalar.muli arg12 c16_i32_663
  let v1070 : Index := Scalar.indexCast v1068
  ![55, v1070.toNat]

def k0_chk185 (v1078 : IVec S16 32) (v1080 : IVec S16 32) : Prop :=
  (∀ a x, ((![v1078, v1080] : Fin 2 → IVec S16 32) a x).toNat < S4096x16.size a)
theorem k0_idx185_inb : ∀ (v1078 : IVec S16 32) (v1080 : IVec S16 32) (k0_hw185 : k0_chk185 v1078 v1080), ∀ a x, ((![v1078, v1080] : Fin 2 → IVec S16 32) a x).toNat < S4096x16.size a := fun v1078 v1080 k0_hw185 => k0_hw185
def k0_off209 (k0_t4 : Fin k0_t4_loop.trips) : Fin 2 → Nat :=
  let c56_i32 : BitVec 32 := 56#32
  let v1083 : Index := Scalar.indexCast c56_i32
  let c8_i32_340 : BitVec 32 := 8#32
  let c1_i32_342 : BitVec 32 := 1#32
  let arg12 : BitVec 32 := Scf.iv c8_i32_340 c1_i32_342 k0_t4
  let c16_i32_668 : BitVec 32 := 16#32
  let v1082 : BitVec 32 := Scalar.muli arg12 c16_i32_668
  let v1084 : Index := Scalar.indexCast v1082
  ![56, v1084.toNat]

def k0_chk186 (v1092 : IVec S16 32) (v1094 : IVec S16 32) : Prop :=
  (∀ a x, ((![v1092, v1094] : Fin 2 → IVec S16 32) a x).toNat < S4096x16.size a)
theorem k0_idx186_inb : ∀ (v1092 : IVec S16 32) (v1094 : IVec S16 32) (k0_hw186 : k0_chk186 v1092 v1094), ∀ a x, ((![v1092, v1094] : Fin 2 → IVec S16 32) a x).toNat < S4096x16.size a := fun v1092 v1094 k0_hw186 => k0_hw186
def k0_off210 (k0_t4 : Fin k0_t4_loop.trips) : Fin 2 → Nat :=
  let c57_i32 : BitVec 32 := 57#32
  let v1097 : Index := Scalar.indexCast c57_i32
  let c8_i32_340 : BitVec 32 := 8#32
  let c1_i32_342 : BitVec 32 := 1#32
  let arg12 : BitVec 32 := Scf.iv c8_i32_340 c1_i32_342 k0_t4
  let c16_i32_673 : BitVec 32 := 16#32
  let v1096 : BitVec 32 := Scalar.muli arg12 c16_i32_673
  let v1098 : Index := Scalar.indexCast v1096
  ![57, v1098.toNat]

def k0_chk187 (v1106 : IVec S16 32) (v1108 : IVec S16 32) : Prop :=
  (∀ a x, ((![v1106, v1108] : Fin 2 → IVec S16 32) a x).toNat < S4096x16.size a)
theorem k0_idx187_inb : ∀ (v1106 : IVec S16 32) (v1108 : IVec S16 32) (k0_hw187 : k0_chk187 v1106 v1108), ∀ a x, ((![v1106, v1108] : Fin 2 → IVec S16 32) a x).toNat < S4096x16.size a := fun v1106 v1108 k0_hw187 => k0_hw187
def k0_off211 (k0_t4 : Fin k0_t4_loop.trips) : Fin 2 → Nat :=
  let c58_i32 : BitVec 32 := 58#32
  let v1111 : Index := Scalar.indexCast c58_i32
  let c8_i32_340 : BitVec 32 := 8#32
  let c1_i32_342 : BitVec 32 := 1#32
  let arg12 : BitVec 32 := Scf.iv c8_i32_340 c1_i32_342 k0_t4
  let c16_i32_678 : BitVec 32 := 16#32
  let v1110 : BitVec 32 := Scalar.muli arg12 c16_i32_678
  let v1112 : Index := Scalar.indexCast v1110
  ![58, v1112.toNat]

def k0_chk188 (v1120 : IVec S16 32) (v1122 : IVec S16 32) : Prop :=
  (∀ a x, ((![v1120, v1122] : Fin 2 → IVec S16 32) a x).toNat < S4096x16.size a)
theorem k0_idx188_inb : ∀ (v1120 : IVec S16 32) (v1122 : IVec S16 32) (k0_hw188 : k0_chk188 v1120 v1122), ∀ a x, ((![v1120, v1122] : Fin 2 → IVec S16 32) a x).toNat < S4096x16.size a := fun v1120 v1122 k0_hw188 => k0_hw188
def k0_off212 (k0_t4 : Fin k0_t4_loop.trips) : Fin 2 → Nat :=
  let c59_i32 : BitVec 32 := 59#32
  let v1125 : Index := Scalar.indexCast c59_i32
  let c8_i32_340 : BitVec 32 := 8#32
  let c1_i32_342 : BitVec 32 := 1#32
  let arg12 : BitVec 32 := Scf.iv c8_i32_340 c1_i32_342 k0_t4
  let c16_i32_683 : BitVec 32 := 16#32
  let v1124 : BitVec 32 := Scalar.muli arg12 c16_i32_683
  let v1126 : Index := Scalar.indexCast v1124
  ![59, v1126.toNat]

def k0_chk189 (v1134 : IVec S16 32) (v1136 : IVec S16 32) : Prop :=
  (∀ a x, ((![v1134, v1136] : Fin 2 → IVec S16 32) a x).toNat < S4096x16.size a)
theorem k0_idx189_inb : ∀ (v1134 : IVec S16 32) (v1136 : IVec S16 32) (k0_hw189 : k0_chk189 v1134 v1136), ∀ a x, ((![v1134, v1136] : Fin 2 → IVec S16 32) a x).toNat < S4096x16.size a := fun v1134 v1136 k0_hw189 => k0_hw189
def k0_off213 (k0_t4 : Fin k0_t4_loop.trips) : Fin 2 → Nat :=
  let c60_i32 : BitVec 32 := 60#32
  let v1139 : Index := Scalar.indexCast c60_i32
  let c8_i32_340 : BitVec 32 := 8#32
  let c1_i32_342 : BitVec 32 := 1#32
  let arg12 : BitVec 32 := Scf.iv c8_i32_340 c1_i32_342 k0_t4
  let c16_i32_688 : BitVec 32 := 16#32
  let v1138 : BitVec 32 := Scalar.muli arg12 c16_i32_688
  let v1140 : Index := Scalar.indexCast v1138
  ![60, v1140.toNat]

def k0_chk190 (v1148 : IVec S16 32) (v1150 : IVec S16 32) : Prop :=
  (∀ a x, ((![v1148, v1150] : Fin 2 → IVec S16 32) a x).toNat < S4096x16.size a)
theorem k0_idx190_inb : ∀ (v1148 : IVec S16 32) (v1150 : IVec S16 32) (k0_hw190 : k0_chk190 v1148 v1150), ∀ a x, ((![v1148, v1150] : Fin 2 → IVec S16 32) a x).toNat < S4096x16.size a := fun v1148 v1150 k0_hw190 => k0_hw190
def k0_off214 (k0_t4 : Fin k0_t4_loop.trips) : Fin 2 → Nat :=
  let c61_i32 : BitVec 32 := 61#32
  let v1153 : Index := Scalar.indexCast c61_i32
  let c8_i32_340 : BitVec 32 := 8#32
  let c1_i32_342 : BitVec 32 := 1#32
  let arg12 : BitVec 32 := Scf.iv c8_i32_340 c1_i32_342 k0_t4
  let c16_i32_693 : BitVec 32 := 16#32
  let v1152 : BitVec 32 := Scalar.muli arg12 c16_i32_693
  let v1154 : Index := Scalar.indexCast v1152
  ![61, v1154.toNat]

def k0_chk191 (v1162 : IVec S16 32) (v1164 : IVec S16 32) : Prop :=
  (∀ a x, ((![v1162, v1164] : Fin 2 → IVec S16 32) a x).toNat < S4096x16.size a)
theorem k0_idx191_inb : ∀ (v1162 : IVec S16 32) (v1164 : IVec S16 32) (k0_hw191 : k0_chk191 v1162 v1164), ∀ a x, ((![v1162, v1164] : Fin 2 → IVec S16 32) a x).toNat < S4096x16.size a := fun v1162 v1164 k0_hw191 => k0_hw191
def k0_off215 (k0_t4 : Fin k0_t4_loop.trips) : Fin 2 → Nat :=
  let c62_i32 : BitVec 32 := 62#32
  let v1167 : Index := Scalar.indexCast c62_i32
  let c8_i32_340 : BitVec 32 := 8#32
  let c1_i32_342 : BitVec 32 := 1#32
  let arg12 : BitVec 32 := Scf.iv c8_i32_340 c1_i32_342 k0_t4
  let c16_i32_698 : BitVec 32 := 16#32
  let v1166 : BitVec 32 := Scalar.muli arg12 c16_i32_698
  let v1168 : Index := Scalar.indexCast v1166
  ![62, v1168.toNat]

def k0_chk192 (v1176 : IVec S16 32) (v1178 : IVec S16 32) : Prop :=
  (∀ a x, ((![v1176, v1178] : Fin 2 → IVec S16 32) a x).toNat < S4096x16.size a)
theorem k0_idx192_inb : ∀ (v1176 : IVec S16 32) (v1178 : IVec S16 32) (k0_hw192 : k0_chk192 v1176 v1178), ∀ a x, ((![v1176, v1178] : Fin 2 → IVec S16 32) a x).toNat < S4096x16.size a := fun v1176 v1178 k0_hw192 => k0_hw192
def k0_off216 (k0_t4 : Fin k0_t4_loop.trips) : Fin 2 → Nat :=
  let c63_i32 : BitVec 32 := 63#32
  let v1181 : Index := Scalar.indexCast c63_i32
  let c8_i32_340 : BitVec 32 := 8#32
  let c1_i32_342 : BitVec 32 := 1#32
  let arg12 : BitVec 32 := Scf.iv c8_i32_340 c1_i32_342 k0_t4
  let c16_i32_703 : BitVec 32 := 16#32
  let v1180 : BitVec 32 := Scalar.muli arg12 c16_i32_703
  let v1182 : Index := Scalar.indexCast v1180
  ![63, v1182.toNat]

def k0_chk193 (v1192 : IVec S16 32) (v1194 : IVec S16 32) : Prop :=
  (∀ a x, ((![v1192, v1194] : Fin 2 → IVec S16 32) a x).toNat < S4096x16.size a)
theorem k0_idx193_inb : ∀ (v1192 : IVec S16 32) (v1194 : IVec S16 32) (k0_hw193 : k0_chk193 v1192 v1194), ∀ a x, ((![v1192, v1194] : Fin 2 → IVec S16 32) a x).toNat < S4096x16.size a := fun v1192 v1194 k0_hw193 => k0_hw193
def k0_off217 (k0_t4 : Fin k0_t4_loop.trips) : Fin 2 → Nat :=
  let c64_i32 : BitVec 32 := 64#32
  let v1197 : Index := Scalar.indexCast c64_i32
  let c8_i32_340 : BitVec 32 := 8#32
  let c1_i32_342 : BitVec 32 := 1#32
  let arg12 : BitVec 32 := Scf.iv c8_i32_340 c1_i32_342 k0_t4
  let c16_i32_709 : BitVec 32 := 16#32
  let v1196 : BitVec 32 := Scalar.muli arg12 c16_i32_709
  let v1198 : Index := Scalar.indexCast v1196
  ![64, v1198.toNat]

def k0_chk194 (v1206 : IVec S16 32) (v1208 : IVec S16 32) : Prop :=
  (∀ a x, ((![v1206, v1208] : Fin 2 → IVec S16 32) a x).toNat < S4096x16.size a)
theorem k0_idx194_inb : ∀ (v1206 : IVec S16 32) (v1208 : IVec S16 32) (k0_hw194 : k0_chk194 v1206 v1208), ∀ a x, ((![v1206, v1208] : Fin 2 → IVec S16 32) a x).toNat < S4096x16.size a := fun v1206 v1208 k0_hw194 => k0_hw194
def k0_off218 (k0_t4 : Fin k0_t4_loop.trips) : Fin 2 → Nat :=
  let c65_i32 : BitVec 32 := 65#32
  let v1211 : Index := Scalar.indexCast c65_i32
  let c8_i32_340 : BitVec 32 := 8#32
  let c1_i32_342 : BitVec 32 := 1#32
  let arg12 : BitVec 32 := Scf.iv c8_i32_340 c1_i32_342 k0_t4
  let c16_i32_714 : BitVec 32 := 16#32
  let v1210 : BitVec 32 := Scalar.muli arg12 c16_i32_714
  let v1212 : Index := Scalar.indexCast v1210
  ![65, v1212.toNat]

def k0_chk195 (v1220 : IVec S16 32) (v1222 : IVec S16 32) : Prop :=
  (∀ a x, ((![v1220, v1222] : Fin 2 → IVec S16 32) a x).toNat < S4096x16.size a)
theorem k0_idx195_inb : ∀ (v1220 : IVec S16 32) (v1222 : IVec S16 32) (k0_hw195 : k0_chk195 v1220 v1222), ∀ a x, ((![v1220, v1222] : Fin 2 → IVec S16 32) a x).toNat < S4096x16.size a := fun v1220 v1222 k0_hw195 => k0_hw195
def k0_off219 (k0_t4 : Fin k0_t4_loop.trips) : Fin 2 → Nat :=
  let c66_i32 : BitVec 32 := 66#32
  let v1225 : Index := Scalar.indexCast c66_i32
  let c8_i32_340 : BitVec 32 := 8#32
  let c1_i32_342 : BitVec 32 := 1#32
  let arg12 : BitVec 32 := Scf.iv c8_i32_340 c1_i32_342 k0_t4
  let c16_i32_719 : BitVec 32 := 16#32
  let v1224 : BitVec 32 := Scalar.muli arg12 c16_i32_719
  let v1226 : Index := Scalar.indexCast v1224
  ![66, v1226.toNat]

def k0_chk196 (v1234 : IVec S16 32) (v1236 : IVec S16 32) : Prop :=
  (∀ a x, ((![v1234, v1236] : Fin 2 → IVec S16 32) a x).toNat < S4096x16.size a)
theorem k0_idx196_inb : ∀ (v1234 : IVec S16 32) (v1236 : IVec S16 32) (k0_hw196 : k0_chk196 v1234 v1236), ∀ a x, ((![v1234, v1236] : Fin 2 → IVec S16 32) a x).toNat < S4096x16.size a := fun v1234 v1236 k0_hw196 => k0_hw196
def k0_off220 (k0_t4 : Fin k0_t4_loop.trips) : Fin 2 → Nat :=
  let c67_i32 : BitVec 32 := 67#32
  let v1239 : Index := Scalar.indexCast c67_i32
  let c8_i32_340 : BitVec 32 := 8#32
  let c1_i32_342 : BitVec 32 := 1#32
  let arg12 : BitVec 32 := Scf.iv c8_i32_340 c1_i32_342 k0_t4
  let c16_i32_724 : BitVec 32 := 16#32
  let v1238 : BitVec 32 := Scalar.muli arg12 c16_i32_724
  let v1240 : Index := Scalar.indexCast v1238
  ![67, v1240.toNat]

def k0_chk197 (v1248 : IVec S16 32) (v1250 : IVec S16 32) : Prop :=
  (∀ a x, ((![v1248, v1250] : Fin 2 → IVec S16 32) a x).toNat < S4096x16.size a)
theorem k0_idx197_inb : ∀ (v1248 : IVec S16 32) (v1250 : IVec S16 32) (k0_hw197 : k0_chk197 v1248 v1250), ∀ a x, ((![v1248, v1250] : Fin 2 → IVec S16 32) a x).toNat < S4096x16.size a := fun v1248 v1250 k0_hw197 => k0_hw197
def k0_off221 (k0_t4 : Fin k0_t4_loop.trips) : Fin 2 → Nat :=
  let c68_i32 : BitVec 32 := 68#32
  let v1253 : Index := Scalar.indexCast c68_i32
  let c8_i32_340 : BitVec 32 := 8#32
  let c1_i32_342 : BitVec 32 := 1#32
  let arg12 : BitVec 32 := Scf.iv c8_i32_340 c1_i32_342 k0_t4
  let c16_i32_729 : BitVec 32 := 16#32
  let v1252 : BitVec 32 := Scalar.muli arg12 c16_i32_729
  let v1254 : Index := Scalar.indexCast v1252
  ![68, v1254.toNat]

def k0_chk198 (v1262 : IVec S16 32) (v1264 : IVec S16 32) : Prop :=
  (∀ a x, ((![v1262, v1264] : Fin 2 → IVec S16 32) a x).toNat < S4096x16.size a)
theorem k0_idx198_inb : ∀ (v1262 : IVec S16 32) (v1264 : IVec S16 32) (k0_hw198 : k0_chk198 v1262 v1264), ∀ a x, ((![v1262, v1264] : Fin 2 → IVec S16 32) a x).toNat < S4096x16.size a := fun v1262 v1264 k0_hw198 => k0_hw198
def k0_off222 (k0_t4 : Fin k0_t4_loop.trips) : Fin 2 → Nat :=
  let c69_i32 : BitVec 32 := 69#32
  let v1267 : Index := Scalar.indexCast c69_i32
  let c8_i32_340 : BitVec 32 := 8#32
  let c1_i32_342 : BitVec 32 := 1#32
  let arg12 : BitVec 32 := Scf.iv c8_i32_340 c1_i32_342 k0_t4
  let c16_i32_734 : BitVec 32 := 16#32
  let v1266 : BitVec 32 := Scalar.muli arg12 c16_i32_734
  let v1268 : Index := Scalar.indexCast v1266
  ![69, v1268.toNat]

def k0_chk199 (v1276 : IVec S16 32) (v1278 : IVec S16 32) : Prop :=
  (∀ a x, ((![v1276, v1278] : Fin 2 → IVec S16 32) a x).toNat < S4096x16.size a)
theorem k0_idx199_inb : ∀ (v1276 : IVec S16 32) (v1278 : IVec S16 32) (k0_hw199 : k0_chk199 v1276 v1278), ∀ a x, ((![v1276, v1278] : Fin 2 → IVec S16 32) a x).toNat < S4096x16.size a := fun v1276 v1278 k0_hw199 => k0_hw199
def k0_off223 (k0_t4 : Fin k0_t4_loop.trips) : Fin 2 → Nat :=
  let c70_i32 : BitVec 32 := 70#32
  let v1281 : Index := Scalar.indexCast c70_i32
  let c8_i32_340 : BitVec 32 := 8#32
  let c1_i32_342 : BitVec 32 := 1#32
  let arg12 : BitVec 32 := Scf.iv c8_i32_340 c1_i32_342 k0_t4
  let c16_i32_739 : BitVec 32 := 16#32
  let v1280 : BitVec 32 := Scalar.muli arg12 c16_i32_739
  let v1282 : Index := Scalar.indexCast v1280
  ![70, v1282.toNat]

def k0_chk200 (v1290 : IVec S16 32) (v1292 : IVec S16 32) : Prop :=
  (∀ a x, ((![v1290, v1292] : Fin 2 → IVec S16 32) a x).toNat < S4096x16.size a)
theorem k0_idx200_inb : ∀ (v1290 : IVec S16 32) (v1292 : IVec S16 32) (k0_hw200 : k0_chk200 v1290 v1292), ∀ a x, ((![v1290, v1292] : Fin 2 → IVec S16 32) a x).toNat < S4096x16.size a := fun v1290 v1292 k0_hw200 => k0_hw200
def k0_off224 (k0_t4 : Fin k0_t4_loop.trips) : Fin 2 → Nat :=
  let c71_i32 : BitVec 32 := 71#32
  let v1295 : Index := Scalar.indexCast c71_i32
  let c8_i32_340 : BitVec 32 := 8#32
  let c1_i32_342 : BitVec 32 := 1#32
  let arg12 : BitVec 32 := Scf.iv c8_i32_340 c1_i32_342 k0_t4
  let c16_i32_744 : BitVec 32 := 16#32
  let v1294 : BitVec 32 := Scalar.muli arg12 c16_i32_744
  let v1296 : Index := Scalar.indexCast v1294
  ![71, v1296.toNat]

def k0_chk201 (v1304 : IVec S16 32) (v1306 : IVec S16 32) : Prop :=
  (∀ a x, ((![v1304, v1306] : Fin 2 → IVec S16 32) a x).toNat < S4096x16.size a)
theorem k0_idx201_inb : ∀ (v1304 : IVec S16 32) (v1306 : IVec S16 32) (k0_hw201 : k0_chk201 v1304 v1306), ∀ a x, ((![v1304, v1306] : Fin 2 → IVec S16 32) a x).toNat < S4096x16.size a := fun v1304 v1306 k0_hw201 => k0_hw201
def k0_off225 (k0_t4 : Fin k0_t4_loop.trips) : Fin 2 → Nat :=
  let c72_i32 : BitVec 32 := 72#32
  let v1309 : Index := Scalar.indexCast c72_i32
  let c8_i32_340 : BitVec 32 := 8#32
  let c1_i32_342 : BitVec 32 := 1#32
  let arg12 : BitVec 32 := Scf.iv c8_i32_340 c1_i32_342 k0_t4
  let c16_i32_749 : BitVec 32 := 16#32
  let v1308 : BitVec 32 := Scalar.muli arg12 c16_i32_749
  let v1310 : Index := Scalar.indexCast v1308
  ![72, v1310.toNat]

def k0_chk202 (v1318 : IVec S16 32) (v1320 : IVec S16 32) : Prop :=
  (∀ a x, ((![v1318, v1320] : Fin 2 → IVec S16 32) a x).toNat < S4096x16.size a)
theorem k0_idx202_inb : ∀ (v1318 : IVec S16 32) (v1320 : IVec S16 32) (k0_hw202 : k0_chk202 v1318 v1320), ∀ a x, ((![v1318, v1320] : Fin 2 → IVec S16 32) a x).toNat < S4096x16.size a := fun v1318 v1320 k0_hw202 => k0_hw202
def k0_off226 (k0_t4 : Fin k0_t4_loop.trips) : Fin 2 → Nat :=
  let c73_i32 : BitVec 32 := 73#32
  let v1323 : Index := Scalar.indexCast c73_i32
  let c8_i32_340 : BitVec 32 := 8#32
  let c1_i32_342 : BitVec 32 := 1#32
  let arg12 : BitVec 32 := Scf.iv c8_i32_340 c1_i32_342 k0_t4
  let c16_i32_754 : BitVec 32 := 16#32
  let v1322 : BitVec 32 := Scalar.muli arg12 c16_i32_754
  let v1324 : Index := Scalar.indexCast v1322
  ![73, v1324.toNat]

def k0_chk203 (v1332 : IVec S16 32) (v1334 : IVec S16 32) : Prop :=
  (∀ a x, ((![v1332, v1334] : Fin 2 → IVec S16 32) a x).toNat < S4096x16.size a)
theorem k0_idx203_inb : ∀ (v1332 : IVec S16 32) (v1334 : IVec S16 32) (k0_hw203 : k0_chk203 v1332 v1334), ∀ a x, ((![v1332, v1334] : Fin 2 → IVec S16 32) a x).toNat < S4096x16.size a := fun v1332 v1334 k0_hw203 => k0_hw203
def k0_off227 (k0_t4 : Fin k0_t4_loop.trips) : Fin 2 → Nat :=
  let c74_i32 : BitVec 32 := 74#32
  let v1337 : Index := Scalar.indexCast c74_i32
  let c8_i32_340 : BitVec 32 := 8#32
  let c1_i32_342 : BitVec 32 := 1#32
  let arg12 : BitVec 32 := Scf.iv c8_i32_340 c1_i32_342 k0_t4
  let c16_i32_759 : BitVec 32 := 16#32
  let v1336 : BitVec 32 := Scalar.muli arg12 c16_i32_759
  let v1338 : Index := Scalar.indexCast v1336
  ![74, v1338.toNat]

def k0_chk204 (v1346 : IVec S16 32) (v1348 : IVec S16 32) : Prop :=
  (∀ a x, ((![v1346, v1348] : Fin 2 → IVec S16 32) a x).toNat < S4096x16.size a)
theorem k0_idx204_inb : ∀ (v1346 : IVec S16 32) (v1348 : IVec S16 32) (k0_hw204 : k0_chk204 v1346 v1348), ∀ a x, ((![v1346, v1348] : Fin 2 → IVec S16 32) a x).toNat < S4096x16.size a := fun v1346 v1348 k0_hw204 => k0_hw204
def k0_off228 (k0_t4 : Fin k0_t4_loop.trips) : Fin 2 → Nat :=
  let c75_i32 : BitVec 32 := 75#32
  let v1351 : Index := Scalar.indexCast c75_i32
  let c8_i32_340 : BitVec 32 := 8#32
  let c1_i32_342 : BitVec 32 := 1#32
  let arg12 : BitVec 32 := Scf.iv c8_i32_340 c1_i32_342 k0_t4
  let c16_i32_764 : BitVec 32 := 16#32
  let v1350 : BitVec 32 := Scalar.muli arg12 c16_i32_764
  let v1352 : Index := Scalar.indexCast v1350
  ![75, v1352.toNat]

def k0_chk205 (v1360 : IVec S16 32) (v1362 : IVec S16 32) : Prop :=
  (∀ a x, ((![v1360, v1362] : Fin 2 → IVec S16 32) a x).toNat < S4096x16.size a)
theorem k0_idx205_inb : ∀ (v1360 : IVec S16 32) (v1362 : IVec S16 32) (k0_hw205 : k0_chk205 v1360 v1362), ∀ a x, ((![v1360, v1362] : Fin 2 → IVec S16 32) a x).toNat < S4096x16.size a := fun v1360 v1362 k0_hw205 => k0_hw205
def k0_off229 (k0_t4 : Fin k0_t4_loop.trips) : Fin 2 → Nat :=
  let c76_i32 : BitVec 32 := 76#32
  let v1365 : Index := Scalar.indexCast c76_i32
  let c8_i32_340 : BitVec 32 := 8#32
  let c1_i32_342 : BitVec 32 := 1#32
  let arg12 : BitVec 32 := Scf.iv c8_i32_340 c1_i32_342 k0_t4
  let c16_i32_769 : BitVec 32 := 16#32
  let v1364 : BitVec 32 := Scalar.muli arg12 c16_i32_769
  let v1366 : Index := Scalar.indexCast v1364
  ![76, v1366.toNat]

def k0_chk206 (v1374 : IVec S16 32) (v1376 : IVec S16 32) : Prop :=
  (∀ a x, ((![v1374, v1376] : Fin 2 → IVec S16 32) a x).toNat < S4096x16.size a)
theorem k0_idx206_inb : ∀ (v1374 : IVec S16 32) (v1376 : IVec S16 32) (k0_hw206 : k0_chk206 v1374 v1376), ∀ a x, ((![v1374, v1376] : Fin 2 → IVec S16 32) a x).toNat < S4096x16.size a := fun v1374 v1376 k0_hw206 => k0_hw206
def k0_off230 (k0_t4 : Fin k0_t4_loop.trips) : Fin 2 → Nat :=
  let c77_i32 : BitVec 32 := 77#32
  let v1379 : Index := Scalar.indexCast c77_i32
  let c8_i32_340 : BitVec 32 := 8#32
  let c1_i32_342 : BitVec 32 := 1#32
  let arg12 : BitVec 32 := Scf.iv c8_i32_340 c1_i32_342 k0_t4
  let c16_i32_774 : BitVec 32 := 16#32
  let v1378 : BitVec 32 := Scalar.muli arg12 c16_i32_774
  let v1380 : Index := Scalar.indexCast v1378
  ![77, v1380.toNat]

def k0_chk207 (v1388 : IVec S16 32) (v1390 : IVec S16 32) : Prop :=
  (∀ a x, ((![v1388, v1390] : Fin 2 → IVec S16 32) a x).toNat < S4096x16.size a)
theorem k0_idx207_inb : ∀ (v1388 : IVec S16 32) (v1390 : IVec S16 32) (k0_hw207 : k0_chk207 v1388 v1390), ∀ a x, ((![v1388, v1390] : Fin 2 → IVec S16 32) a x).toNat < S4096x16.size a := fun v1388 v1390 k0_hw207 => k0_hw207
def k0_off231 (k0_t4 : Fin k0_t4_loop.trips) : Fin 2 → Nat :=
  let c78_i32 : BitVec 32 := 78#32
  let v1393 : Index := Scalar.indexCast c78_i32
  let c8_i32_340 : BitVec 32 := 8#32
  let c1_i32_342 : BitVec 32 := 1#32
  let arg12 : BitVec 32 := Scf.iv c8_i32_340 c1_i32_342 k0_t4
  let c16_i32_779 : BitVec 32 := 16#32
  let v1392 : BitVec 32 := Scalar.muli arg12 c16_i32_779
  let v1394 : Index := Scalar.indexCast v1392
  ![78, v1394.toNat]

def k0_chk208 (v1402 : IVec S16 32) (v1404 : IVec S16 32) : Prop :=
  (∀ a x, ((![v1402, v1404] : Fin 2 → IVec S16 32) a x).toNat < S4096x16.size a)
theorem k0_idx208_inb : ∀ (v1402 : IVec S16 32) (v1404 : IVec S16 32) (k0_hw208 : k0_chk208 v1402 v1404), ∀ a x, ((![v1402, v1404] : Fin 2 → IVec S16 32) a x).toNat < S4096x16.size a := fun v1402 v1404 k0_hw208 => k0_hw208
def k0_off232 (k0_t4 : Fin k0_t4_loop.trips) : Fin 2 → Nat :=
  let c79_i32 : BitVec 32 := 79#32
  let v1407 : Index := Scalar.indexCast c79_i32
  let c8_i32_340 : BitVec 32 := 8#32
  let c1_i32_342 : BitVec 32 := 1#32
  let arg12 : BitVec 32 := Scf.iv c8_i32_340 c1_i32_342 k0_t4
  let c16_i32_784 : BitVec 32 := 16#32
  let v1406 : BitVec 32 := Scalar.muli arg12 c16_i32_784
  let v1408 : Index := Scalar.indexCast v1406
  ![79, v1408.toNat]

def k0_chk209 (v1418 : IVec S16 32) (v1420 : IVec S16 32) : Prop :=
  (∀ a x, ((![v1418, v1420] : Fin 2 → IVec S16 32) a x).toNat < S4096x16.size a)
theorem k0_idx209_inb : ∀ (v1418 : IVec S16 32) (v1420 : IVec S16 32) (k0_hw209 : k0_chk209 v1418 v1420), ∀ a x, ((![v1418, v1420] : Fin 2 → IVec S16 32) a x).toNat < S4096x16.size a := fun v1418 v1420 k0_hw209 => k0_hw209
def k0_off233 (k0_t4 : Fin k0_t4_loop.trips) : Fin 2 → Nat :=
  let c80_i32 : BitVec 32 := 80#32
  let v1423 : Index := Scalar.indexCast c80_i32
  let c8_i32_340 : BitVec 32 := 8#32
  let c1_i32_342 : BitVec 32 := 1#32
  let arg12 : BitVec 32 := Scf.iv c8_i32_340 c1_i32_342 k0_t4
  let c16_i32_790 : BitVec 32 := 16#32
  let v1422 : BitVec 32 := Scalar.muli arg12 c16_i32_790
  let v1424 : Index := Scalar.indexCast v1422
  ![80, v1424.toNat]

def k0_chk210 (v1432 : IVec S16 32) (v1434 : IVec S16 32) : Prop :=
  (∀ a x, ((![v1432, v1434] : Fin 2 → IVec S16 32) a x).toNat < S4096x16.size a)
theorem k0_idx210_inb : ∀ (v1432 : IVec S16 32) (v1434 : IVec S16 32) (k0_hw210 : k0_chk210 v1432 v1434), ∀ a x, ((![v1432, v1434] : Fin 2 → IVec S16 32) a x).toNat < S4096x16.size a := fun v1432 v1434 k0_hw210 => k0_hw210
def k0_off234 (k0_t4 : Fin k0_t4_loop.trips) : Fin 2 → Nat :=
  let c81_i32 : BitVec 32 := 81#32
  let v1437 : Index := Scalar.indexCast c81_i32
  let c8_i32_340 : BitVec 32 := 8#32
  let c1_i32_342 : BitVec 32 := 1#32
  let arg12 : BitVec 32 := Scf.iv c8_i32_340 c1_i32_342 k0_t4
  let c16_i32_795 : BitVec 32 := 16#32
  let v1436 : BitVec 32 := Scalar.muli arg12 c16_i32_795
  let v1438 : Index := Scalar.indexCast v1436
  ![81, v1438.toNat]

def k0_chk211 (v1446 : IVec S16 32) (v1448 : IVec S16 32) : Prop :=
  (∀ a x, ((![v1446, v1448] : Fin 2 → IVec S16 32) a x).toNat < S4096x16.size a)
theorem k0_idx211_inb : ∀ (v1446 : IVec S16 32) (v1448 : IVec S16 32) (k0_hw211 : k0_chk211 v1446 v1448), ∀ a x, ((![v1446, v1448] : Fin 2 → IVec S16 32) a x).toNat < S4096x16.size a := fun v1446 v1448 k0_hw211 => k0_hw211
def k0_off235 (k0_t4 : Fin k0_t4_loop.trips) : Fin 2 → Nat :=
  let c82_i32 : BitVec 32 := 82#32
  let v1451 : Index := Scalar.indexCast c82_i32
  let c8_i32_340 : BitVec 32 := 8#32
  let c1_i32_342 : BitVec 32 := 1#32
  let arg12 : BitVec 32 := Scf.iv c8_i32_340 c1_i32_342 k0_t4
  let c16_i32_800 : BitVec 32 := 16#32
  let v1450 : BitVec 32 := Scalar.muli arg12 c16_i32_800
  let v1452 : Index := Scalar.indexCast v1450
  ![82, v1452.toNat]

def k0_chk212 (v1460 : IVec S16 32) (v1462 : IVec S16 32) : Prop :=
  (∀ a x, ((![v1460, v1462] : Fin 2 → IVec S16 32) a x).toNat < S4096x16.size a)
theorem k0_idx212_inb : ∀ (v1460 : IVec S16 32) (v1462 : IVec S16 32) (k0_hw212 : k0_chk212 v1460 v1462), ∀ a x, ((![v1460, v1462] : Fin 2 → IVec S16 32) a x).toNat < S4096x16.size a := fun v1460 v1462 k0_hw212 => k0_hw212
def k0_off236 (k0_t4 : Fin k0_t4_loop.trips) : Fin 2 → Nat :=
  let c83_i32 : BitVec 32 := 83#32
  let v1465 : Index := Scalar.indexCast c83_i32
  let c8_i32_340 : BitVec 32 := 8#32
  let c1_i32_342 : BitVec 32 := 1#32
  let arg12 : BitVec 32 := Scf.iv c8_i32_340 c1_i32_342 k0_t4
  let c16_i32_805 : BitVec 32 := 16#32
  let v1464 : BitVec 32 := Scalar.muli arg12 c16_i32_805
  let v1466 : Index := Scalar.indexCast v1464
  ![83, v1466.toNat]

def k0_chk213 (v1474 : IVec S16 32) (v1476 : IVec S16 32) : Prop :=
  (∀ a x, ((![v1474, v1476] : Fin 2 → IVec S16 32) a x).toNat < S4096x16.size a)
theorem k0_idx213_inb : ∀ (v1474 : IVec S16 32) (v1476 : IVec S16 32) (k0_hw213 : k0_chk213 v1474 v1476), ∀ a x, ((![v1474, v1476] : Fin 2 → IVec S16 32) a x).toNat < S4096x16.size a := fun v1474 v1476 k0_hw213 => k0_hw213
def k0_off237 (k0_t4 : Fin k0_t4_loop.trips) : Fin 2 → Nat :=
  let c84_i32 : BitVec 32 := 84#32
  let v1479 : Index := Scalar.indexCast c84_i32
  let c8_i32_340 : BitVec 32 := 8#32
  let c1_i32_342 : BitVec 32 := 1#32
  let arg12 : BitVec 32 := Scf.iv c8_i32_340 c1_i32_342 k0_t4
  let c16_i32_810 : BitVec 32 := 16#32
  let v1478 : BitVec 32 := Scalar.muli arg12 c16_i32_810
  let v1480 : Index := Scalar.indexCast v1478
  ![84, v1480.toNat]

def k0_chk214 (v1488 : IVec S16 32) (v1490 : IVec S16 32) : Prop :=
  (∀ a x, ((![v1488, v1490] : Fin 2 → IVec S16 32) a x).toNat < S4096x16.size a)
theorem k0_idx214_inb : ∀ (v1488 : IVec S16 32) (v1490 : IVec S16 32) (k0_hw214 : k0_chk214 v1488 v1490), ∀ a x, ((![v1488, v1490] : Fin 2 → IVec S16 32) a x).toNat < S4096x16.size a := fun v1488 v1490 k0_hw214 => k0_hw214
def k0_off238 (k0_t4 : Fin k0_t4_loop.trips) : Fin 2 → Nat :=
  let c85_i32 : BitVec 32 := 85#32
  let v1493 : Index := Scalar.indexCast c85_i32
  let c8_i32_340 : BitVec 32 := 8#32
  let c1_i32_342 : BitVec 32 := 1#32
  let arg12 : BitVec 32 := Scf.iv c8_i32_340 c1_i32_342 k0_t4
  let c16_i32_815 : BitVec 32 := 16#32
  let v1492 : BitVec 32 := Scalar.muli arg12 c16_i32_815
  let v1494 : Index := Scalar.indexCast v1492
  ![85, v1494.toNat]

def k0_chk215 (v1502 : IVec S16 32) (v1504 : IVec S16 32) : Prop :=
  (∀ a x, ((![v1502, v1504] : Fin 2 → IVec S16 32) a x).toNat < S4096x16.size a)
theorem k0_idx215_inb : ∀ (v1502 : IVec S16 32) (v1504 : IVec S16 32) (k0_hw215 : k0_chk215 v1502 v1504), ∀ a x, ((![v1502, v1504] : Fin 2 → IVec S16 32) a x).toNat < S4096x16.size a := fun v1502 v1504 k0_hw215 => k0_hw215
def k0_off239 (k0_t4 : Fin k0_t4_loop.trips) : Fin 2 → Nat :=
  let c86_i32 : BitVec 32 := 86#32
  let v1507 : Index := Scalar.indexCast c86_i32
  let c8_i32_340 : BitVec 32 := 8#32
  let c1_i32_342 : BitVec 32 := 1#32
  let arg12 : BitVec 32 := Scf.iv c8_i32_340 c1_i32_342 k0_t4
  let c16_i32_820 : BitVec 32 := 16#32
  let v1506 : BitVec 32 := Scalar.muli arg12 c16_i32_820
  let v1508 : Index := Scalar.indexCast v1506
  ![86, v1508.toNat]

def k0_chk216 (v1516 : IVec S16 32) (v1518 : IVec S16 32) : Prop :=
  (∀ a x, ((![v1516, v1518] : Fin 2 → IVec S16 32) a x).toNat < S4096x16.size a)
theorem k0_idx216_inb : ∀ (v1516 : IVec S16 32) (v1518 : IVec S16 32) (k0_hw216 : k0_chk216 v1516 v1518), ∀ a x, ((![v1516, v1518] : Fin 2 → IVec S16 32) a x).toNat < S4096x16.size a := fun v1516 v1518 k0_hw216 => k0_hw216
def k0_off240 (k0_t4 : Fin k0_t4_loop.trips) : Fin 2 → Nat :=
  let c87_i32 : BitVec 32 := 87#32
  let v1521 : Index := Scalar.indexCast c87_i32
  let c8_i32_340 : BitVec 32 := 8#32
  let c1_i32_342 : BitVec 32 := 1#32
  let arg12 : BitVec 32 := Scf.iv c8_i32_340 c1_i32_342 k0_t4
  let c16_i32_825 : BitVec 32 := 16#32
  let v1520 : BitVec 32 := Scalar.muli arg12 c16_i32_825
  let v1522 : Index := Scalar.indexCast v1520
  ![87, v1522.toNat]

def k0_chk217 (v1530 : IVec S16 32) (v1532 : IVec S16 32) : Prop :=
  (∀ a x, ((![v1530, v1532] : Fin 2 → IVec S16 32) a x).toNat < S4096x16.size a)
theorem k0_idx217_inb : ∀ (v1530 : IVec S16 32) (v1532 : IVec S16 32) (k0_hw217 : k0_chk217 v1530 v1532), ∀ a x, ((![v1530, v1532] : Fin 2 → IVec S16 32) a x).toNat < S4096x16.size a := fun v1530 v1532 k0_hw217 => k0_hw217
def k0_off241 (k0_t4 : Fin k0_t4_loop.trips) : Fin 2 → Nat :=
  let c88_i32 : BitVec 32 := 88#32
  let v1535 : Index := Scalar.indexCast c88_i32
  let c8_i32_340 : BitVec 32 := 8#32
  let c1_i32_342 : BitVec 32 := 1#32
  let arg12 : BitVec 32 := Scf.iv c8_i32_340 c1_i32_342 k0_t4
  let c16_i32_830 : BitVec 32 := 16#32
  let v1534 : BitVec 32 := Scalar.muli arg12 c16_i32_830
  let v1536 : Index := Scalar.indexCast v1534
  ![88, v1536.toNat]

def k0_chk218 (v1544 : IVec S16 32) (v1546 : IVec S16 32) : Prop :=
  (∀ a x, ((![v1544, v1546] : Fin 2 → IVec S16 32) a x).toNat < S4096x16.size a)
theorem k0_idx218_inb : ∀ (v1544 : IVec S16 32) (v1546 : IVec S16 32) (k0_hw218 : k0_chk218 v1544 v1546), ∀ a x, ((![v1544, v1546] : Fin 2 → IVec S16 32) a x).toNat < S4096x16.size a := fun v1544 v1546 k0_hw218 => k0_hw218
def k0_off242 (k0_t4 : Fin k0_t4_loop.trips) : Fin 2 → Nat :=
  let c89_i32 : BitVec 32 := 89#32
  let v1549 : Index := Scalar.indexCast c89_i32
  let c8_i32_340 : BitVec 32 := 8#32
  let c1_i32_342 : BitVec 32 := 1#32
  let arg12 : BitVec 32 := Scf.iv c8_i32_340 c1_i32_342 k0_t4
  let c16_i32_835 : BitVec 32 := 16#32
  let v1548 : BitVec 32 := Scalar.muli arg12 c16_i32_835
  let v1550 : Index := Scalar.indexCast v1548
  ![89, v1550.toNat]

def k0_chk219 (v1558 : IVec S16 32) (v1560 : IVec S16 32) : Prop :=
  (∀ a x, ((![v1558, v1560] : Fin 2 → IVec S16 32) a x).toNat < S4096x16.size a)
theorem k0_idx219_inb : ∀ (v1558 : IVec S16 32) (v1560 : IVec S16 32) (k0_hw219 : k0_chk219 v1558 v1560), ∀ a x, ((![v1558, v1560] : Fin 2 → IVec S16 32) a x).toNat < S4096x16.size a := fun v1558 v1560 k0_hw219 => k0_hw219
def k0_off243 (k0_t4 : Fin k0_t4_loop.trips) : Fin 2 → Nat :=
  let c90_i32 : BitVec 32 := 90#32
  let v1563 : Index := Scalar.indexCast c90_i32
  let c8_i32_340 : BitVec 32 := 8#32
  let c1_i32_342 : BitVec 32 := 1#32
  let arg12 : BitVec 32 := Scf.iv c8_i32_340 c1_i32_342 k0_t4
  let c16_i32_840 : BitVec 32 := 16#32
  let v1562 : BitVec 32 := Scalar.muli arg12 c16_i32_840
  let v1564 : Index := Scalar.indexCast v1562
  ![90, v1564.toNat]

def k0_chk220 (v1572 : IVec S16 32) (v1574 : IVec S16 32) : Prop :=
  (∀ a x, ((![v1572, v1574] : Fin 2 → IVec S16 32) a x).toNat < S4096x16.size a)
theorem k0_idx220_inb : ∀ (v1572 : IVec S16 32) (v1574 : IVec S16 32) (k0_hw220 : k0_chk220 v1572 v1574), ∀ a x, ((![v1572, v1574] : Fin 2 → IVec S16 32) a x).toNat < S4096x16.size a := fun v1572 v1574 k0_hw220 => k0_hw220
def k0_off244 (k0_t4 : Fin k0_t4_loop.trips) : Fin 2 → Nat :=
  let c91_i32 : BitVec 32 := 91#32
  let v1577 : Index := Scalar.indexCast c91_i32
  let c8_i32_340 : BitVec 32 := 8#32
  let c1_i32_342 : BitVec 32 := 1#32
  let arg12 : BitVec 32 := Scf.iv c8_i32_340 c1_i32_342 k0_t4
  let c16_i32_845 : BitVec 32 := 16#32
  let v1576 : BitVec 32 := Scalar.muli arg12 c16_i32_845
  let v1578 : Index := Scalar.indexCast v1576
  ![91, v1578.toNat]

def k0_chk221 (v1586 : IVec S16 32) (v1588 : IVec S16 32) : Prop :=
  (∀ a x, ((![v1586, v1588] : Fin 2 → IVec S16 32) a x).toNat < S4096x16.size a)
theorem k0_idx221_inb : ∀ (v1586 : IVec S16 32) (v1588 : IVec S16 32) (k0_hw221 : k0_chk221 v1586 v1588), ∀ a x, ((![v1586, v1588] : Fin 2 → IVec S16 32) a x).toNat < S4096x16.size a := fun v1586 v1588 k0_hw221 => k0_hw221
def k0_off245 (k0_t4 : Fin k0_t4_loop.trips) : Fin 2 → Nat :=
  let c92_i32 : BitVec 32 := 92#32
  let v1591 : Index := Scalar.indexCast c92_i32
  let c8_i32_340 : BitVec 32 := 8#32
  let c1_i32_342 : BitVec 32 := 1#32
  let arg12 : BitVec 32 := Scf.iv c8_i32_340 c1_i32_342 k0_t4
  let c16_i32_850 : BitVec 32 := 16#32
  let v1590 : BitVec 32 := Scalar.muli arg12 c16_i32_850
  let v1592 : Index := Scalar.indexCast v1590
  ![92, v1592.toNat]

def k0_chk222 (v1600 : IVec S16 32) (v1602 : IVec S16 32) : Prop :=
  (∀ a x, ((![v1600, v1602] : Fin 2 → IVec S16 32) a x).toNat < S4096x16.size a)
theorem k0_idx222_inb : ∀ (v1600 : IVec S16 32) (v1602 : IVec S16 32) (k0_hw222 : k0_chk222 v1600 v1602), ∀ a x, ((![v1600, v1602] : Fin 2 → IVec S16 32) a x).toNat < S4096x16.size a := fun v1600 v1602 k0_hw222 => k0_hw222
def k0_off246 (k0_t4 : Fin k0_t4_loop.trips) : Fin 2 → Nat :=
  let c93_i32 : BitVec 32 := 93#32
  let v1605 : Index := Scalar.indexCast c93_i32
  let c8_i32_340 : BitVec 32 := 8#32
  let c1_i32_342 : BitVec 32 := 1#32
  let arg12 : BitVec 32 := Scf.iv c8_i32_340 c1_i32_342 k0_t4
  let c16_i32_855 : BitVec 32 := 16#32
  let v1604 : BitVec 32 := Scalar.muli arg12 c16_i32_855
  let v1606 : Index := Scalar.indexCast v1604
  ![93, v1606.toNat]

def k0_chk223 (v1614 : IVec S16 32) (v1616 : IVec S16 32) : Prop :=
  (∀ a x, ((![v1614, v1616] : Fin 2 → IVec S16 32) a x).toNat < S4096x16.size a)
theorem k0_idx223_inb : ∀ (v1614 : IVec S16 32) (v1616 : IVec S16 32) (k0_hw223 : k0_chk223 v1614 v1616), ∀ a x, ((![v1614, v1616] : Fin 2 → IVec S16 32) a x).toNat < S4096x16.size a := fun v1614 v1616 k0_hw223 => k0_hw223
def k0_off247 (k0_t4 : Fin k0_t4_loop.trips) : Fin 2 → Nat :=
  let c94_i32 : BitVec 32 := 94#32
  let v1619 : Index := Scalar.indexCast c94_i32
  let c8_i32_340 : BitVec 32 := 8#32
  let c1_i32_342 : BitVec 32 := 1#32
  let arg12 : BitVec 32 := Scf.iv c8_i32_340 c1_i32_342 k0_t4
  let c16_i32_860 : BitVec 32 := 16#32
  let v1618 : BitVec 32 := Scalar.muli arg12 c16_i32_860
  let v1620 : Index := Scalar.indexCast v1618
  ![94, v1620.toNat]

def k0_chk224 (v1628 : IVec S16 32) (v1630 : IVec S16 32) : Prop :=
  (∀ a x, ((![v1628, v1630] : Fin 2 → IVec S16 32) a x).toNat < S4096x16.size a)
theorem k0_idx224_inb : ∀ (v1628 : IVec S16 32) (v1630 : IVec S16 32) (k0_hw224 : k0_chk224 v1628 v1630), ∀ a x, ((![v1628, v1630] : Fin 2 → IVec S16 32) a x).toNat < S4096x16.size a := fun v1628 v1630 k0_hw224 => k0_hw224
def k0_off248 (k0_t4 : Fin k0_t4_loop.trips) : Fin 2 → Nat :=
  let c95_i32 : BitVec 32 := 95#32
  let v1633 : Index := Scalar.indexCast c95_i32
  let c8_i32_340 : BitVec 32 := 8#32
  let c1_i32_342 : BitVec 32 := 1#32
  let arg12 : BitVec 32 := Scf.iv c8_i32_340 c1_i32_342 k0_t4
  let c16_i32_865 : BitVec 32 := 16#32
  let v1632 : BitVec 32 := Scalar.muli arg12 c16_i32_865
  let v1634 : Index := Scalar.indexCast v1632
  ![95, v1634.toNat]

def k0_chk225 (v1644 : IVec S16 32) (v1646 : IVec S16 32) : Prop :=
  (∀ a x, ((![v1644, v1646] : Fin 2 → IVec S16 32) a x).toNat < S4096x16.size a)
theorem k0_idx225_inb : ∀ (v1644 : IVec S16 32) (v1646 : IVec S16 32) (k0_hw225 : k0_chk225 v1644 v1646), ∀ a x, ((![v1644, v1646] : Fin 2 → IVec S16 32) a x).toNat < S4096x16.size a := fun v1644 v1646 k0_hw225 => k0_hw225
def k0_off249 (k0_t4 : Fin k0_t4_loop.trips) : Fin 2 → Nat :=
  let c96_i32 : BitVec 32 := 96#32
  let v1649 : Index := Scalar.indexCast c96_i32
  let c8_i32_340 : BitVec 32 := 8#32
  let c1_i32_342 : BitVec 32 := 1#32
  let arg12 : BitVec 32 := Scf.iv c8_i32_340 c1_i32_342 k0_t4
  let c16_i32_871 : BitVec 32 := 16#32
  let v1648 : BitVec 32 := Scalar.muli arg12 c16_i32_871
  let v1650 : Index := Scalar.indexCast v1648
  ![96, v1650.toNat]

def k0_chk226 (v1658 : IVec S16 32) (v1660 : IVec S16 32) : Prop :=
  (∀ a x, ((![v1658, v1660] : Fin 2 → IVec S16 32) a x).toNat < S4096x16.size a)
theorem k0_idx226_inb : ∀ (v1658 : IVec S16 32) (v1660 : IVec S16 32) (k0_hw226 : k0_chk226 v1658 v1660), ∀ a x, ((![v1658, v1660] : Fin 2 → IVec S16 32) a x).toNat < S4096x16.size a := fun v1658 v1660 k0_hw226 => k0_hw226
def k0_off250 (k0_t4 : Fin k0_t4_loop.trips) : Fin 2 → Nat :=
  let c97_i32 : BitVec 32 := 97#32
  let v1663 : Index := Scalar.indexCast c97_i32
  let c8_i32_340 : BitVec 32 := 8#32
  let c1_i32_342 : BitVec 32 := 1#32
  let arg12 : BitVec 32 := Scf.iv c8_i32_340 c1_i32_342 k0_t4
  let c16_i32_876 : BitVec 32 := 16#32
  let v1662 : BitVec 32 := Scalar.muli arg12 c16_i32_876
  let v1664 : Index := Scalar.indexCast v1662
  ![97, v1664.toNat]

def k0_chk227 (v1672 : IVec S16 32) (v1674 : IVec S16 32) : Prop :=
  (∀ a x, ((![v1672, v1674] : Fin 2 → IVec S16 32) a x).toNat < S4096x16.size a)
theorem k0_idx227_inb : ∀ (v1672 : IVec S16 32) (v1674 : IVec S16 32) (k0_hw227 : k0_chk227 v1672 v1674), ∀ a x, ((![v1672, v1674] : Fin 2 → IVec S16 32) a x).toNat < S4096x16.size a := fun v1672 v1674 k0_hw227 => k0_hw227
def k0_off251 (k0_t4 : Fin k0_t4_loop.trips) : Fin 2 → Nat :=
  let c98_i32 : BitVec 32 := 98#32
  let v1677 : Index := Scalar.indexCast c98_i32
  let c8_i32_340 : BitVec 32 := 8#32
  let c1_i32_342 : BitVec 32 := 1#32
  let arg12 : BitVec 32 := Scf.iv c8_i32_340 c1_i32_342 k0_t4
  let c16_i32_881 : BitVec 32 := 16#32
  let v1676 : BitVec 32 := Scalar.muli arg12 c16_i32_881
  let v1678 : Index := Scalar.indexCast v1676
  ![98, v1678.toNat]

def k0_chk228 (v1686 : IVec S16 32) (v1688 : IVec S16 32) : Prop :=
  (∀ a x, ((![v1686, v1688] : Fin 2 → IVec S16 32) a x).toNat < S4096x16.size a)
theorem k0_idx228_inb : ∀ (v1686 : IVec S16 32) (v1688 : IVec S16 32) (k0_hw228 : k0_chk228 v1686 v1688), ∀ a x, ((![v1686, v1688] : Fin 2 → IVec S16 32) a x).toNat < S4096x16.size a := fun v1686 v1688 k0_hw228 => k0_hw228
def k0_off252 (k0_t4 : Fin k0_t4_loop.trips) : Fin 2 → Nat :=
  let c99_i32 : BitVec 32 := 99#32
  let v1691 : Index := Scalar.indexCast c99_i32
  let c8_i32_340 : BitVec 32 := 8#32
  let c1_i32_342 : BitVec 32 := 1#32
  let arg12 : BitVec 32 := Scf.iv c8_i32_340 c1_i32_342 k0_t4
  let c16_i32_886 : BitVec 32 := 16#32
  let v1690 : BitVec 32 := Scalar.muli arg12 c16_i32_886
  let v1692 : Index := Scalar.indexCast v1690
  ![99, v1692.toNat]

def k0_chk229 (v1700 : IVec S16 32) (v1702 : IVec S16 32) : Prop :=
  (∀ a x, ((![v1700, v1702] : Fin 2 → IVec S16 32) a x).toNat < S4096x16.size a)
theorem k0_idx229_inb : ∀ (v1700 : IVec S16 32) (v1702 : IVec S16 32) (k0_hw229 : k0_chk229 v1700 v1702), ∀ a x, ((![v1700, v1702] : Fin 2 → IVec S16 32) a x).toNat < S4096x16.size a := fun v1700 v1702 k0_hw229 => k0_hw229
def k0_off253 (k0_t4 : Fin k0_t4_loop.trips) : Fin 2 → Nat :=
  let c100_i32 : BitVec 32 := 100#32
  let v1705 : Index := Scalar.indexCast c100_i32
  let c8_i32_340 : BitVec 32 := 8#32
  let c1_i32_342 : BitVec 32 := 1#32
  let arg12 : BitVec 32 := Scf.iv c8_i32_340 c1_i32_342 k0_t4
  let c16_i32_891 : BitVec 32 := 16#32
  let v1704 : BitVec 32 := Scalar.muli arg12 c16_i32_891
  let v1706 : Index := Scalar.indexCast v1704
  ![100, v1706.toNat]

def k0_chk230 (v1714 : IVec S16 32) (v1716 : IVec S16 32) : Prop :=
  (∀ a x, ((![v1714, v1716] : Fin 2 → IVec S16 32) a x).toNat < S4096x16.size a)
theorem k0_idx230_inb : ∀ (v1714 : IVec S16 32) (v1716 : IVec S16 32) (k0_hw230 : k0_chk230 v1714 v1716), ∀ a x, ((![v1714, v1716] : Fin 2 → IVec S16 32) a x).toNat < S4096x16.size a := fun v1714 v1716 k0_hw230 => k0_hw230
def k0_off254 (k0_t4 : Fin k0_t4_loop.trips) : Fin 2 → Nat :=
  let c101_i32 : BitVec 32 := 101#32
  let v1719 : Index := Scalar.indexCast c101_i32
  let c8_i32_340 : BitVec 32 := 8#32
  let c1_i32_342 : BitVec 32 := 1#32
  let arg12 : BitVec 32 := Scf.iv c8_i32_340 c1_i32_342 k0_t4
  let c16_i32_896 : BitVec 32 := 16#32
  let v1718 : BitVec 32 := Scalar.muli arg12 c16_i32_896
  let v1720 : Index := Scalar.indexCast v1718
  ![101, v1720.toNat]

def k0_chk231 (v1728 : IVec S16 32) (v1730 : IVec S16 32) : Prop :=
  (∀ a x, ((![v1728, v1730] : Fin 2 → IVec S16 32) a x).toNat < S4096x16.size a)
theorem k0_idx231_inb : ∀ (v1728 : IVec S16 32) (v1730 : IVec S16 32) (k0_hw231 : k0_chk231 v1728 v1730), ∀ a x, ((![v1728, v1730] : Fin 2 → IVec S16 32) a x).toNat < S4096x16.size a := fun v1728 v1730 k0_hw231 => k0_hw231
def k0_off255 (k0_t4 : Fin k0_t4_loop.trips) : Fin 2 → Nat :=
  let c102_i32 : BitVec 32 := 102#32
  let v1733 : Index := Scalar.indexCast c102_i32
  let c8_i32_340 : BitVec 32 := 8#32
  let c1_i32_342 : BitVec 32 := 1#32
  let arg12 : BitVec 32 := Scf.iv c8_i32_340 c1_i32_342 k0_t4
  let c16_i32_901 : BitVec 32 := 16#32
  let v1732 : BitVec 32 := Scalar.muli arg12 c16_i32_901
  let v1734 : Index := Scalar.indexCast v1732
  ![102, v1734.toNat]

def k0_chk232 (v1742 : IVec S16 32) (v1744 : IVec S16 32) : Prop :=
  (∀ a x, ((![v1742, v1744] : Fin 2 → IVec S16 32) a x).toNat < S4096x16.size a)
theorem k0_idx232_inb : ∀ (v1742 : IVec S16 32) (v1744 : IVec S16 32) (k0_hw232 : k0_chk232 v1742 v1744), ∀ a x, ((![v1742, v1744] : Fin 2 → IVec S16 32) a x).toNat < S4096x16.size a := fun v1742 v1744 k0_hw232 => k0_hw232
def k0_off256 (k0_t4 : Fin k0_t4_loop.trips) : Fin 2 → Nat :=
  let c103_i32 : BitVec 32 := 103#32
  let v1747 : Index := Scalar.indexCast c103_i32
  let c8_i32_340 : BitVec 32 := 8#32
  let c1_i32_342 : BitVec 32 := 1#32
  let arg12 : BitVec 32 := Scf.iv c8_i32_340 c1_i32_342 k0_t4
  let c16_i32_906 : BitVec 32 := 16#32
  let v1746 : BitVec 32 := Scalar.muli arg12 c16_i32_906
  let v1748 : Index := Scalar.indexCast v1746
  ![103, v1748.toNat]

def k0_chk233 (v1756 : IVec S16 32) (v1758 : IVec S16 32) : Prop :=
  (∀ a x, ((![v1756, v1758] : Fin 2 → IVec S16 32) a x).toNat < S4096x16.size a)
theorem k0_idx233_inb : ∀ (v1756 : IVec S16 32) (v1758 : IVec S16 32) (k0_hw233 : k0_chk233 v1756 v1758), ∀ a x, ((![v1756, v1758] : Fin 2 → IVec S16 32) a x).toNat < S4096x16.size a := fun v1756 v1758 k0_hw233 => k0_hw233
def k0_off257 (k0_t4 : Fin k0_t4_loop.trips) : Fin 2 → Nat :=
  let c104_i32 : BitVec 32 := 104#32
  let v1761 : Index := Scalar.indexCast c104_i32
  let c8_i32_340 : BitVec 32 := 8#32
  let c1_i32_342 : BitVec 32 := 1#32
  let arg12 : BitVec 32 := Scf.iv c8_i32_340 c1_i32_342 k0_t4
  let c16_i32_911 : BitVec 32 := 16#32
  let v1760 : BitVec 32 := Scalar.muli arg12 c16_i32_911
  let v1762 : Index := Scalar.indexCast v1760
  ![104, v1762.toNat]

def k0_chk234 (v1770 : IVec S16 32) (v1772 : IVec S16 32) : Prop :=
  (∀ a x, ((![v1770, v1772] : Fin 2 → IVec S16 32) a x).toNat < S4096x16.size a)
theorem k0_idx234_inb : ∀ (v1770 : IVec S16 32) (v1772 : IVec S16 32) (k0_hw234 : k0_chk234 v1770 v1772), ∀ a x, ((![v1770, v1772] : Fin 2 → IVec S16 32) a x).toNat < S4096x16.size a := fun v1770 v1772 k0_hw234 => k0_hw234
def k0_off258 (k0_t4 : Fin k0_t4_loop.trips) : Fin 2 → Nat :=
  let c105_i32 : BitVec 32 := 105#32
  let v1775 : Index := Scalar.indexCast c105_i32
  let c8_i32_340 : BitVec 32 := 8#32
  let c1_i32_342 : BitVec 32 := 1#32
  let arg12 : BitVec 32 := Scf.iv c8_i32_340 c1_i32_342 k0_t4
  let c16_i32_916 : BitVec 32 := 16#32
  let v1774 : BitVec 32 := Scalar.muli arg12 c16_i32_916
  let v1776 : Index := Scalar.indexCast v1774
  ![105, v1776.toNat]

def k0_chk235 (v1784 : IVec S16 32) (v1786 : IVec S16 32) : Prop :=
  (∀ a x, ((![v1784, v1786] : Fin 2 → IVec S16 32) a x).toNat < S4096x16.size a)
theorem k0_idx235_inb : ∀ (v1784 : IVec S16 32) (v1786 : IVec S16 32) (k0_hw235 : k0_chk235 v1784 v1786), ∀ a x, ((![v1784, v1786] : Fin 2 → IVec S16 32) a x).toNat < S4096x16.size a := fun v1784 v1786 k0_hw235 => k0_hw235
def k0_off259 (k0_t4 : Fin k0_t4_loop.trips) : Fin 2 → Nat :=
  let c106_i32 : BitVec 32 := 106#32
  let v1789 : Index := Scalar.indexCast c106_i32
  let c8_i32_340 : BitVec 32 := 8#32
  let c1_i32_342 : BitVec 32 := 1#32
  let arg12 : BitVec 32 := Scf.iv c8_i32_340 c1_i32_342 k0_t4
  let c16_i32_921 : BitVec 32 := 16#32
  let v1788 : BitVec 32 := Scalar.muli arg12 c16_i32_921
  let v1790 : Index := Scalar.indexCast v1788
  ![106, v1790.toNat]

def k0_chk236 (v1798 : IVec S16 32) (v1800 : IVec S16 32) : Prop :=
  (∀ a x, ((![v1798, v1800] : Fin 2 → IVec S16 32) a x).toNat < S4096x16.size a)
theorem k0_idx236_inb : ∀ (v1798 : IVec S16 32) (v1800 : IVec S16 32) (k0_hw236 : k0_chk236 v1798 v1800), ∀ a x, ((![v1798, v1800] : Fin 2 → IVec S16 32) a x).toNat < S4096x16.size a := fun v1798 v1800 k0_hw236 => k0_hw236
def k0_off260 (k0_t4 : Fin k0_t4_loop.trips) : Fin 2 → Nat :=
  let c107_i32 : BitVec 32 := 107#32
  let v1803 : Index := Scalar.indexCast c107_i32
  let c8_i32_340 : BitVec 32 := 8#32
  let c1_i32_342 : BitVec 32 := 1#32
  let arg12 : BitVec 32 := Scf.iv c8_i32_340 c1_i32_342 k0_t4
  let c16_i32_926 : BitVec 32 := 16#32
  let v1802 : BitVec 32 := Scalar.muli arg12 c16_i32_926
  let v1804 : Index := Scalar.indexCast v1802
  ![107, v1804.toNat]

def k0_chk237 (v1812 : IVec S16 32) (v1814 : IVec S16 32) : Prop :=
  (∀ a x, ((![v1812, v1814] : Fin 2 → IVec S16 32) a x).toNat < S4096x16.size a)
theorem k0_idx237_inb : ∀ (v1812 : IVec S16 32) (v1814 : IVec S16 32) (k0_hw237 : k0_chk237 v1812 v1814), ∀ a x, ((![v1812, v1814] : Fin 2 → IVec S16 32) a x).toNat < S4096x16.size a := fun v1812 v1814 k0_hw237 => k0_hw237
def k0_off261 (k0_t4 : Fin k0_t4_loop.trips) : Fin 2 → Nat :=
  let c108_i32 : BitVec 32 := 108#32
  let v1817 : Index := Scalar.indexCast c108_i32
  let c8_i32_340 : BitVec 32 := 8#32
  let c1_i32_342 : BitVec 32 := 1#32
  let arg12 : BitVec 32 := Scf.iv c8_i32_340 c1_i32_342 k0_t4
  let c16_i32_931 : BitVec 32 := 16#32
  let v1816 : BitVec 32 := Scalar.muli arg12 c16_i32_931
  let v1818 : Index := Scalar.indexCast v1816
  ![108, v1818.toNat]

def k0_chk238 (v1826 : IVec S16 32) (v1828 : IVec S16 32) : Prop :=
  (∀ a x, ((![v1826, v1828] : Fin 2 → IVec S16 32) a x).toNat < S4096x16.size a)
theorem k0_idx238_inb : ∀ (v1826 : IVec S16 32) (v1828 : IVec S16 32) (k0_hw238 : k0_chk238 v1826 v1828), ∀ a x, ((![v1826, v1828] : Fin 2 → IVec S16 32) a x).toNat < S4096x16.size a := fun v1826 v1828 k0_hw238 => k0_hw238
def k0_off262 (k0_t4 : Fin k0_t4_loop.trips) : Fin 2 → Nat :=
  let c109_i32 : BitVec 32 := 109#32
  let v1831 : Index := Scalar.indexCast c109_i32
  let c8_i32_340 : BitVec 32 := 8#32
  let c1_i32_342 : BitVec 32 := 1#32
  let arg12 : BitVec 32 := Scf.iv c8_i32_340 c1_i32_342 k0_t4
  let c16_i32_936 : BitVec 32 := 16#32
  let v1830 : BitVec 32 := Scalar.muli arg12 c16_i32_936
  let v1832 : Index := Scalar.indexCast v1830
  ![109, v1832.toNat]

def k0_chk239 (v1840 : IVec S16 32) (v1842 : IVec S16 32) : Prop :=
  (∀ a x, ((![v1840, v1842] : Fin 2 → IVec S16 32) a x).toNat < S4096x16.size a)
theorem k0_idx239_inb : ∀ (v1840 : IVec S16 32) (v1842 : IVec S16 32) (k0_hw239 : k0_chk239 v1840 v1842), ∀ a x, ((![v1840, v1842] : Fin 2 → IVec S16 32) a x).toNat < S4096x16.size a := fun v1840 v1842 k0_hw239 => k0_hw239
def k0_off263 (k0_t4 : Fin k0_t4_loop.trips) : Fin 2 → Nat :=
  let c110_i32 : BitVec 32 := 110#32
  let v1845 : Index := Scalar.indexCast c110_i32
  let c8_i32_340 : BitVec 32 := 8#32
  let c1_i32_342 : BitVec 32 := 1#32
  let arg12 : BitVec 32 := Scf.iv c8_i32_340 c1_i32_342 k0_t4
  let c16_i32_941 : BitVec 32 := 16#32
  let v1844 : BitVec 32 := Scalar.muli arg12 c16_i32_941
  let v1846 : Index := Scalar.indexCast v1844
  ![110, v1846.toNat]

def k0_chk240 (v1854 : IVec S16 32) (v1856 : IVec S16 32) : Prop :=
  (∀ a x, ((![v1854, v1856] : Fin 2 → IVec S16 32) a x).toNat < S4096x16.size a)
theorem k0_idx240_inb : ∀ (v1854 : IVec S16 32) (v1856 : IVec S16 32) (k0_hw240 : k0_chk240 v1854 v1856), ∀ a x, ((![v1854, v1856] : Fin 2 → IVec S16 32) a x).toNat < S4096x16.size a := fun v1854 v1856 k0_hw240 => k0_hw240
def k0_off264 (k0_t4 : Fin k0_t4_loop.trips) : Fin 2 → Nat :=
  let c111_i32 : BitVec 32 := 111#32
  let v1859 : Index := Scalar.indexCast c111_i32
  let c8_i32_340 : BitVec 32 := 8#32
  let c1_i32_342 : BitVec 32 := 1#32
  let arg12 : BitVec 32 := Scf.iv c8_i32_340 c1_i32_342 k0_t4
  let c16_i32_946 : BitVec 32 := 16#32
  let v1858 : BitVec 32 := Scalar.muli arg12 c16_i32_946
  let v1860 : Index := Scalar.indexCast v1858
  ![111, v1860.toNat]

def k0_chk241 (v1870 : IVec S16 32) (v1872 : IVec S16 32) : Prop :=
  (∀ a x, ((![v1870, v1872] : Fin 2 → IVec S16 32) a x).toNat < S4096x16.size a)
theorem k0_idx241_inb : ∀ (v1870 : IVec S16 32) (v1872 : IVec S16 32) (k0_hw241 : k0_chk241 v1870 v1872), ∀ a x, ((![v1870, v1872] : Fin 2 → IVec S16 32) a x).toNat < S4096x16.size a := fun v1870 v1872 k0_hw241 => k0_hw241
def k0_off265 (k0_t4 : Fin k0_t4_loop.trips) : Fin 2 → Nat :=
  let c112_i32 : BitVec 32 := 112#32
  let v1875 : Index := Scalar.indexCast c112_i32
  let c8_i32_340 : BitVec 32 := 8#32
  let c1_i32_342 : BitVec 32 := 1#32
  let arg12 : BitVec 32 := Scf.iv c8_i32_340 c1_i32_342 k0_t4
  let c16_i32_952 : BitVec 32 := 16#32
  let v1874 : BitVec 32 := Scalar.muli arg12 c16_i32_952
  let v1876 : Index := Scalar.indexCast v1874
  ![112, v1876.toNat]

def k0_chk242 (v1884 : IVec S16 32) (v1886 : IVec S16 32) : Prop :=
  (∀ a x, ((![v1884, v1886] : Fin 2 → IVec S16 32) a x).toNat < S4096x16.size a)
theorem k0_idx242_inb : ∀ (v1884 : IVec S16 32) (v1886 : IVec S16 32) (k0_hw242 : k0_chk242 v1884 v1886), ∀ a x, ((![v1884, v1886] : Fin 2 → IVec S16 32) a x).toNat < S4096x16.size a := fun v1884 v1886 k0_hw242 => k0_hw242
def k0_off266 (k0_t4 : Fin k0_t4_loop.trips) : Fin 2 → Nat :=
  let c113_i32 : BitVec 32 := 113#32
  let v1889 : Index := Scalar.indexCast c113_i32
  let c8_i32_340 : BitVec 32 := 8#32
  let c1_i32_342 : BitVec 32 := 1#32
  let arg12 : BitVec 32 := Scf.iv c8_i32_340 c1_i32_342 k0_t4
  let c16_i32_957 : BitVec 32 := 16#32
  let v1888 : BitVec 32 := Scalar.muli arg12 c16_i32_957
  let v1890 : Index := Scalar.indexCast v1888
  ![113, v1890.toNat]

def k0_chk243 (v1898 : IVec S16 32) (v1900 : IVec S16 32) : Prop :=
  (∀ a x, ((![v1898, v1900] : Fin 2 → IVec S16 32) a x).toNat < S4096x16.size a)
theorem k0_idx243_inb : ∀ (v1898 : IVec S16 32) (v1900 : IVec S16 32) (k0_hw243 : k0_chk243 v1898 v1900), ∀ a x, ((![v1898, v1900] : Fin 2 → IVec S16 32) a x).toNat < S4096x16.size a := fun v1898 v1900 k0_hw243 => k0_hw243
def k0_off267 (k0_t4 : Fin k0_t4_loop.trips) : Fin 2 → Nat :=
  let c114_i32 : BitVec 32 := 114#32
  let v1903 : Index := Scalar.indexCast c114_i32
  let c8_i32_340 : BitVec 32 := 8#32
  let c1_i32_342 : BitVec 32 := 1#32
  let arg12 : BitVec 32 := Scf.iv c8_i32_340 c1_i32_342 k0_t4
  let c16_i32_962 : BitVec 32 := 16#32
  let v1902 : BitVec 32 := Scalar.muli arg12 c16_i32_962
  let v1904 : Index := Scalar.indexCast v1902
  ![114, v1904.toNat]

def k0_chk244 (v1912 : IVec S16 32) (v1914 : IVec S16 32) : Prop :=
  (∀ a x, ((![v1912, v1914] : Fin 2 → IVec S16 32) a x).toNat < S4096x16.size a)
theorem k0_idx244_inb : ∀ (v1912 : IVec S16 32) (v1914 : IVec S16 32) (k0_hw244 : k0_chk244 v1912 v1914), ∀ a x, ((![v1912, v1914] : Fin 2 → IVec S16 32) a x).toNat < S4096x16.size a := fun v1912 v1914 k0_hw244 => k0_hw244
def k0_off268 (k0_t4 : Fin k0_t4_loop.trips) : Fin 2 → Nat :=
  let c115_i32 : BitVec 32 := 115#32
  let v1917 : Index := Scalar.indexCast c115_i32
  let c8_i32_340 : BitVec 32 := 8#32
  let c1_i32_342 : BitVec 32 := 1#32
  let arg12 : BitVec 32 := Scf.iv c8_i32_340 c1_i32_342 k0_t4
  let c16_i32_967 : BitVec 32 := 16#32
  let v1916 : BitVec 32 := Scalar.muli arg12 c16_i32_967
  let v1918 : Index := Scalar.indexCast v1916
  ![115, v1918.toNat]

def k0_chk245 (v1926 : IVec S16 32) (v1928 : IVec S16 32) : Prop :=
  (∀ a x, ((![v1926, v1928] : Fin 2 → IVec S16 32) a x).toNat < S4096x16.size a)
theorem k0_idx245_inb : ∀ (v1926 : IVec S16 32) (v1928 : IVec S16 32) (k0_hw245 : k0_chk245 v1926 v1928), ∀ a x, ((![v1926, v1928] : Fin 2 → IVec S16 32) a x).toNat < S4096x16.size a := fun v1926 v1928 k0_hw245 => k0_hw245
def k0_off269 (k0_t4 : Fin k0_t4_loop.trips) : Fin 2 → Nat :=
  let c116_i32 : BitVec 32 := 116#32
  let v1931 : Index := Scalar.indexCast c116_i32
  let c8_i32_340 : BitVec 32 := 8#32
  let c1_i32_342 : BitVec 32 := 1#32
  let arg12 : BitVec 32 := Scf.iv c8_i32_340 c1_i32_342 k0_t4
  let c16_i32_972 : BitVec 32 := 16#32
  let v1930 : BitVec 32 := Scalar.muli arg12 c16_i32_972
  let v1932 : Index := Scalar.indexCast v1930
  ![116, v1932.toNat]

def k0_chk246 (v1940 : IVec S16 32) (v1942 : IVec S16 32) : Prop :=
  (∀ a x, ((![v1940, v1942] : Fin 2 → IVec S16 32) a x).toNat < S4096x16.size a)
theorem k0_idx246_inb : ∀ (v1940 : IVec S16 32) (v1942 : IVec S16 32) (k0_hw246 : k0_chk246 v1940 v1942), ∀ a x, ((![v1940, v1942] : Fin 2 → IVec S16 32) a x).toNat < S4096x16.size a := fun v1940 v1942 k0_hw246 => k0_hw246
def k0_off270 (k0_t4 : Fin k0_t4_loop.trips) : Fin 2 → Nat :=
  let c117_i32 : BitVec 32 := 117#32
  let v1945 : Index := Scalar.indexCast c117_i32
  let c8_i32_340 : BitVec 32 := 8#32
  let c1_i32_342 : BitVec 32 := 1#32
  let arg12 : BitVec 32 := Scf.iv c8_i32_340 c1_i32_342 k0_t4
  let c16_i32_977 : BitVec 32 := 16#32
  let v1944 : BitVec 32 := Scalar.muli arg12 c16_i32_977
  let v1946 : Index := Scalar.indexCast v1944
  ![117, v1946.toNat]

def k0_chk247 (v1954 : IVec S16 32) (v1956 : IVec S16 32) : Prop :=
  (∀ a x, ((![v1954, v1956] : Fin 2 → IVec S16 32) a x).toNat < S4096x16.size a)
theorem k0_idx247_inb : ∀ (v1954 : IVec S16 32) (v1956 : IVec S16 32) (k0_hw247 : k0_chk247 v1954 v1956), ∀ a x, ((![v1954, v1956] : Fin 2 → IVec S16 32) a x).toNat < S4096x16.size a := fun v1954 v1956 k0_hw247 => k0_hw247
def k0_off271 (k0_t4 : Fin k0_t4_loop.trips) : Fin 2 → Nat :=
  let c118_i32 : BitVec 32 := 118#32
  let v1959 : Index := Scalar.indexCast c118_i32
  let c8_i32_340 : BitVec 32 := 8#32
  let c1_i32_342 : BitVec 32 := 1#32
  let arg12 : BitVec 32 := Scf.iv c8_i32_340 c1_i32_342 k0_t4
  let c16_i32_982 : BitVec 32 := 16#32
  let v1958 : BitVec 32 := Scalar.muli arg12 c16_i32_982
  let v1960 : Index := Scalar.indexCast v1958
  ![118, v1960.toNat]

def k0_chk248 (v1968 : IVec S16 32) (v1970 : IVec S16 32) : Prop :=
  (∀ a x, ((![v1968, v1970] : Fin 2 → IVec S16 32) a x).toNat < S4096x16.size a)
theorem k0_idx248_inb : ∀ (v1968 : IVec S16 32) (v1970 : IVec S16 32) (k0_hw248 : k0_chk248 v1968 v1970), ∀ a x, ((![v1968, v1970] : Fin 2 → IVec S16 32) a x).toNat < S4096x16.size a := fun v1968 v1970 k0_hw248 => k0_hw248
def k0_off272 (k0_t4 : Fin k0_t4_loop.trips) : Fin 2 → Nat :=
  let c119_i32 : BitVec 32 := 119#32
  let v1973 : Index := Scalar.indexCast c119_i32
  let c8_i32_340 : BitVec 32 := 8#32
  let c1_i32_342 : BitVec 32 := 1#32
  let arg12 : BitVec 32 := Scf.iv c8_i32_340 c1_i32_342 k0_t4
  let c16_i32_987 : BitVec 32 := 16#32
  let v1972 : BitVec 32 := Scalar.muli arg12 c16_i32_987
  let v1974 : Index := Scalar.indexCast v1972
  ![119, v1974.toNat]

def k0_chk249 (v1982 : IVec S16 32) (v1984 : IVec S16 32) : Prop :=
  (∀ a x, ((![v1982, v1984] : Fin 2 → IVec S16 32) a x).toNat < S4096x16.size a)
theorem k0_idx249_inb : ∀ (v1982 : IVec S16 32) (v1984 : IVec S16 32) (k0_hw249 : k0_chk249 v1982 v1984), ∀ a x, ((![v1982, v1984] : Fin 2 → IVec S16 32) a x).toNat < S4096x16.size a := fun v1982 v1984 k0_hw249 => k0_hw249
def k0_off273 (k0_t4 : Fin k0_t4_loop.trips) : Fin 2 → Nat :=
  let c120_i32 : BitVec 32 := 120#32
  let v1987 : Index := Scalar.indexCast c120_i32
  let c8_i32_340 : BitVec 32 := 8#32
  let c1_i32_342 : BitVec 32 := 1#32
  let arg12 : BitVec 32 := Scf.iv c8_i32_340 c1_i32_342 k0_t4
  let c16_i32_992 : BitVec 32 := 16#32
  let v1986 : BitVec 32 := Scalar.muli arg12 c16_i32_992
  let v1988 : Index := Scalar.indexCast v1986
  ![120, v1988.toNat]

def k0_chk250 (v1996 : IVec S16 32) (v1998 : IVec S16 32) : Prop :=
  (∀ a x, ((![v1996, v1998] : Fin 2 → IVec S16 32) a x).toNat < S4096x16.size a)
theorem k0_idx250_inb : ∀ (v1996 : IVec S16 32) (v1998 : IVec S16 32) (k0_hw250 : k0_chk250 v1996 v1998), ∀ a x, ((![v1996, v1998] : Fin 2 → IVec S16 32) a x).toNat < S4096x16.size a := fun v1996 v1998 k0_hw250 => k0_hw250
def k0_off274 (k0_t4 : Fin k0_t4_loop.trips) : Fin 2 → Nat :=
  let c121_i32 : BitVec 32 := 121#32
  let v2001 : Index := Scalar.indexCast c121_i32
  let c8_i32_340 : BitVec 32 := 8#32
  let c1_i32_342 : BitVec 32 := 1#32
  let arg12 : BitVec 32 := Scf.iv c8_i32_340 c1_i32_342 k0_t4
  let c16_i32_997 : BitVec 32 := 16#32
  let v2000 : BitVec 32 := Scalar.muli arg12 c16_i32_997
  let v2002 : Index := Scalar.indexCast v2000
  ![121, v2002.toNat]

def k0_chk251 (v2010 : IVec S16 32) (v2012 : IVec S16 32) : Prop :=
  (∀ a x, ((![v2010, v2012] : Fin 2 → IVec S16 32) a x).toNat < S4096x16.size a)
theorem k0_idx251_inb : ∀ (v2010 : IVec S16 32) (v2012 : IVec S16 32) (k0_hw251 : k0_chk251 v2010 v2012), ∀ a x, ((![v2010, v2012] : Fin 2 → IVec S16 32) a x).toNat < S4096x16.size a := fun v2010 v2012 k0_hw251 => k0_hw251
def k0_off275 (k0_t4 : Fin k0_t4_loop.trips) : Fin 2 → Nat :=
  let c122_i32 : BitVec 32 := 122#32
  let v2015 : Index := Scalar.indexCast c122_i32
  let c8_i32_340 : BitVec 32 := 8#32
  let c1_i32_342 : BitVec 32 := 1#32
  let arg12 : BitVec 32 := Scf.iv c8_i32_340 c1_i32_342 k0_t4
  let c16_i32_1002 : BitVec 32 := 16#32
  let v2014 : BitVec 32 := Scalar.muli arg12 c16_i32_1002
  let v2016 : Index := Scalar.indexCast v2014
  ![122, v2016.toNat]

def k0_chk252 (v2024 : IVec S16 32) (v2026 : IVec S16 32) : Prop :=
  (∀ a x, ((![v2024, v2026] : Fin 2 → IVec S16 32) a x).toNat < S4096x16.size a)
theorem k0_idx252_inb : ∀ (v2024 : IVec S16 32) (v2026 : IVec S16 32) (k0_hw252 : k0_chk252 v2024 v2026), ∀ a x, ((![v2024, v2026] : Fin 2 → IVec S16 32) a x).toNat < S4096x16.size a := fun v2024 v2026 k0_hw252 => k0_hw252
def k0_off276 (k0_t4 : Fin k0_t4_loop.trips) : Fin 2 → Nat :=
  let c123_i32 : BitVec 32 := 123#32
  let v2029 : Index := Scalar.indexCast c123_i32
  let c8_i32_340 : BitVec 32 := 8#32
  let c1_i32_342 : BitVec 32 := 1#32
  let arg12 : BitVec 32 := Scf.iv c8_i32_340 c1_i32_342 k0_t4
  let c16_i32_1007 : BitVec 32 := 16#32
  let v2028 : BitVec 32 := Scalar.muli arg12 c16_i32_1007
  let v2030 : Index := Scalar.indexCast v2028
  ![123, v2030.toNat]

def k0_chk253 (v2038 : IVec S16 32) (v2040 : IVec S16 32) : Prop :=
  (∀ a x, ((![v2038, v2040] : Fin 2 → IVec S16 32) a x).toNat < S4096x16.size a)
theorem k0_idx253_inb : ∀ (v2038 : IVec S16 32) (v2040 : IVec S16 32) (k0_hw253 : k0_chk253 v2038 v2040), ∀ a x, ((![v2038, v2040] : Fin 2 → IVec S16 32) a x).toNat < S4096x16.size a := fun v2038 v2040 k0_hw253 => k0_hw253
def k0_off277 (k0_t4 : Fin k0_t4_loop.trips) : Fin 2 → Nat :=
  let c124_i32 : BitVec 32 := 124#32
  let v2043 : Index := Scalar.indexCast c124_i32
  let c8_i32_340 : BitVec 32 := 8#32
  let c1_i32_342 : BitVec 32 := 1#32
  let arg12 : BitVec 32 := Scf.iv c8_i32_340 c1_i32_342 k0_t4
  let c16_i32_1012 : BitVec 32 := 16#32
  let v2042 : BitVec 32 := Scalar.muli arg12 c16_i32_1012
  let v2044 : Index := Scalar.indexCast v2042
  ![124, v2044.toNat]

def k0_chk254 (v2052 : IVec S16 32) (v2054 : IVec S16 32) : Prop :=
  (∀ a x, ((![v2052, v2054] : Fin 2 → IVec S16 32) a x).toNat < S4096x16.size a)
theorem k0_idx254_inb : ∀ (v2052 : IVec S16 32) (v2054 : IVec S16 32) (k0_hw254 : k0_chk254 v2052 v2054), ∀ a x, ((![v2052, v2054] : Fin 2 → IVec S16 32) a x).toNat < S4096x16.size a := fun v2052 v2054 k0_hw254 => k0_hw254
def k0_off278 (k0_t4 : Fin k0_t4_loop.trips) : Fin 2 → Nat :=
  let c125_i32 : BitVec 32 := 125#32
  let v2057 : Index := Scalar.indexCast c125_i32
  let c8_i32_340 : BitVec 32 := 8#32
  let c1_i32_342 : BitVec 32 := 1#32
  let arg12 : BitVec 32 := Scf.iv c8_i32_340 c1_i32_342 k0_t4
  let c16_i32_1017 : BitVec 32 := 16#32
  let v2056 : BitVec 32 := Scalar.muli arg12 c16_i32_1017
  let v2058 : Index := Scalar.indexCast v2056
  ![125, v2058.toNat]

def k0_chk255 (v2066 : IVec S16 32) (v2068 : IVec S16 32) : Prop :=
  (∀ a x, ((![v2066, v2068] : Fin 2 → IVec S16 32) a x).toNat < S4096x16.size a)
theorem k0_idx255_inb : ∀ (v2066 : IVec S16 32) (v2068 : IVec S16 32) (k0_hw255 : k0_chk255 v2066 v2068), ∀ a x, ((![v2066, v2068] : Fin 2 → IVec S16 32) a x).toNat < S4096x16.size a := fun v2066 v2068 k0_hw255 => k0_hw255
def k0_off279 (k0_t4 : Fin k0_t4_loop.trips) : Fin 2 → Nat :=
  let c126_i32 : BitVec 32 := 126#32
  let v2071 : Index := Scalar.indexCast c126_i32
  let c8_i32_340 : BitVec 32 := 8#32
  let c1_i32_342 : BitVec 32 := 1#32
  let arg12 : BitVec 32 := Scf.iv c8_i32_340 c1_i32_342 k0_t4
  let c16_i32_1022 : BitVec 32 := 16#32
  let v2070 : BitVec 32 := Scalar.muli arg12 c16_i32_1022
  let v2072 : Index := Scalar.indexCast v2070
  ![126, v2072.toNat]

def k0_chk256 (v2080 : IVec S16 32) (v2082 : IVec S16 32) : Prop :=
  (∀ a x, ((![v2080, v2082] : Fin 2 → IVec S16 32) a x).toNat < S4096x16.size a)
theorem k0_idx256_inb : ∀ (v2080 : IVec S16 32) (v2082 : IVec S16 32) (k0_hw256 : k0_chk256 v2080 v2082), ∀ a x, ((![v2080, v2082] : Fin 2 → IVec S16 32) a x).toNat < S4096x16.size a := fun v2080 v2082 k0_hw256 => k0_hw256
def k0_off280 (k0_t4 : Fin k0_t4_loop.trips) : Fin 2 → Nat :=
  let c127_i32 : BitVec 32 := 127#32
  let v2085 : Index := Scalar.indexCast c127_i32
  let c8_i32_340 : BitVec 32 := 8#32
  let c1_i32_342 : BitVec 32 := 1#32
  let arg12 : BitVec 32 := Scf.iv c8_i32_340 c1_i32_342 k0_t4
  let c16_i32_1027 : BitVec 32 := 16#32
  let v2084 : BitVec 32 := Scalar.muli arg12 c16_i32_1027
  let v2086 : Index := Scalar.indexCast v2084
  ![127, v2086.toNat]
def k0_off281 (i : grid0.Coords) : Fin 2 → Nat :=
  let c0_i32_345_r2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32_344 : BitVec 32 := 256#32
  let v270 : BitVec 32 := Scalar.muli v1 c256_i32_344
  ![0, v270.toNat]
abbrev grid1 : Pipeline.Grid := .none

abbrev stage1_0 : Fin 1 → Memref sig .tc .vmem S136x8192 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S136x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S32x256x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x8192x128 : Shape := ⟨3, ![32, 8192, 128]⟩
abbrev S32x256 : Shape := ⟨2, ![32, 256]⟩
abbrev S64x256 : Shape := ⟨2, ![64, 256]⟩
abbrev S64 : Shape := ⟨1, ![64]⟩
abbrev S64x64 : Shape := ⟨2, ![64, 64]⟩
abbrev S8192 : Shape := ⟨1, ![8192]⟩
abbrev S_ : Shape := ⟨0, ![]⟩
abbrev S1x8192 : Shape := ⟨2, ![1, 8192]⟩
abbrev S32x8192 : Shape := ⟨2, ![32, 8192]⟩
abbrev S8 : Shape := ⟨1, ![8]⟩
abbrev S16 : Shape := ⟨1, ![16]⟩
abbrev S32x256x1 : Shape := ⟨3, ![32, 256, 1]⟩
abbrev S1x1x8 : Shape := ⟨3, ![1, 1, 8]⟩
abbrev S32x256x8 : Shape := ⟨3, ![32, 256, 8]⟩
abbrev S1x1x16 : Shape := ⟨3, ![1, 1, 16]⟩
abbrev S32x256x16 : Shape := ⟨3, ![32, 256, 16]⟩
abbrev S32 : Shape := ⟨1, ![32]⟩
abbrev S32x1x1x1 : Shape := ⟨4, ![32, 1, 1, 1]⟩
abbrev S32x256x8x1 : Shape := ⟨4, ![32, 256, 8, 1]⟩
abbrev S32x256x1x16 : Shape := ⟨4, ![32, 256, 1, 16]⟩
abbrev S32x256x8x16 : Shape := ⟨4, ![32, 256, 8, 16]⟩
abbrev S32x256x8x16x1 : Shape := ⟨5, ![32, 256, 8, 16, 1]⟩
abbrev S32x256x8x16x3 : Shape := ⟨5, ![32, 256, 8, 16, 3]⟩
abbrev S32x1x1 : Shape := ⟨3, ![32, 1, 1]⟩
abbrev S32x256x8x2 : Shape := ⟨4, ![32, 256, 8, 2]⟩
abbrev S32x256x8x32 : Shape := ⟨4, ![32, 256, 8, 32]⟩
abbrev S32x256x256 : Shape := ⟨3, ![32, 256, 256]⟩
abbrev S256x64 : Shape := ⟨2, ![256, 64]⟩
abbrev S32x256x64 : Shape := ⟨3, ![32, 256, 64]⟩
abbrev S1x1x64 : Shape := ⟨3, ![1, 1, 64]⟩

abbrev nBuf : Space → Nat
  | .hbm => 146
  | .vmem => 0
  | .smem => 0
  | _ => 0

abbrev hbmTy0_0 (i : Nat) : BufTy := match i % 128 with
  | 0 => ⟨S32x8192x128, .f32⟩
  | 1 => ⟨S32x256, .i32⟩
  | 2 => ⟨S32x256, .i32⟩
  | 3 => ⟨S64x256, .f32⟩
  | 4 => ⟨S64, .f32⟩
  | 5 => ⟨S64x64, .f32⟩
  | 6 => ⟨S64, .f32⟩
  | 7 => ⟨S8192, .f32⟩
  | 8 => ⟨S_, .f32⟩
  | 9 => ⟨S8192, .f32⟩
  | 10 => ⟨S8192, .f32⟩
  | 11 => ⟨S1x8192, .f32⟩
  | 12 => ⟨S32x8192, .f32⟩
  | 13 => ⟨S8, .i32⟩
  | 14 => ⟨S16, .i32⟩
  | 15 => ⟨S32x256x1, .i32⟩
  | 16 => ⟨S1x1x8, .i32⟩
  | 17 => ⟨S32x256x8, .i32⟩
  | 18 => ⟨S32x256x8, .i32⟩
  | 19 => ⟨S32x256x8, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S32x256x8, .i32⟩
  | 27 => ⟨S32x256x8, .i32⟩
  | 28 => ⟨S_, .i32⟩
  | 29 => ⟨S32x256x8, .i32⟩
  | 30 => ⟨S32x256x8, .i1⟩
  | 31 => ⟨S_, .i32⟩
  | 32 => ⟨S32x256x8, .i32⟩
  | 33 => ⟨S32x256x8, .i1⟩
  | 34 => ⟨S_, .i32⟩
  | 35 => ⟨S_, .i1⟩
  | 36 => ⟨S32x256x8, .i1⟩
  | 37 => ⟨S32x256x8, .i1⟩
  | 38 => ⟨S32x256x8, .i1⟩
  | 39 => ⟨S32x256x8, .i32⟩
  | 40 => ⟨S32x256x8, .i32⟩
  | 41 => ⟨S32x256x8, .i32⟩
  | 42 => ⟨S32x256x1, .i32⟩
  | 43 => ⟨S1x1x16, .i32⟩
  | 44 => ⟨S32x256x16, .i32⟩
  | 45 => ⟨S32x256x16, .i32⟩
  | 46 => ⟨S32x256x16, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S32x256x16, .i32⟩
  | 54 => ⟨S32x256x16, .i32⟩
  | 55 => ⟨S_, .i32⟩
  | 56 => ⟨S32x256x16, .i32⟩
  | 57 => ⟨S32x256x16, .i1⟩
  | 58 => ⟨S_, .i32⟩
  | 59 => ⟨S32x256x16, .i32⟩
  | 60 => ⟨S32x256x16, .i1⟩
  | 61 => ⟨S_, .i32⟩
  | 62 => ⟨S_, .i1⟩
  | 63 => ⟨S32x256x16, .i1⟩
  | 64 => ⟨S32x256x16, .i1⟩
  | 65 => ⟨S32x256x16, .i1⟩
  | 66 => ⟨S32x256x16, .i32⟩
  | 67 => ⟨S32x256x16, .i32⟩
  | 68 => ⟨S32x256x16, .i32⟩
  | 69 => ⟨S32, .i32⟩
  | 70 => ⟨S32x1x1x1, .i32⟩
  | 71 => ⟨S32x256x8x1, .i32⟩
  | 72 => ⟨S32x256x1x16, .i32⟩
  | 73 => ⟨S_, .i32⟩
  | 74 => ⟨S32x1x1x1, .i32⟩
  | 75 => ⟨S32x1x1x1, .i1⟩
  | 76 => ⟨S_, .i32⟩
  | 77 => ⟨S32x1x1x1, .i32⟩
  | 78 => ⟨S32x1x1x1, .i32⟩
  | 79 => ⟨S32x1x1x1, .i32⟩
  | 80 => ⟨S_, .i32⟩
  | 81 => ⟨S32x256x8x1, .i32⟩
  | 82 => ⟨S32x256x8x1, .i1⟩
  | 83 => ⟨S_, .i32⟩
  | 84 => ⟨S32x256x8x1, .i32⟩
  | 85 => ⟨S32x256x8x1, .i32⟩
  | 86 => ⟨S32x256x8x1, .i32⟩
  | 87 => ⟨S_, .i32⟩
  | 88 => ⟨S32x256x1x16, .i32⟩
  | 89 => ⟨S32x256x1x16, .i1⟩
  | 90 => ⟨S_, .i32⟩
  | 91 => ⟨S32x256x1x16, .i32⟩
  | 92 => ⟨S32x256x1x16, .i32⟩
  | 93 => ⟨S32x256x1x16, .i32⟩
  | 94 => ⟨S32x256x8x16, .i32⟩
  | 95 => ⟨S32x256x8x16, .i32⟩
  | 96 => ⟨S32x256x8x16, .i32⟩
  | 97 => ⟨S32x256x8x16x1, .i32⟩
  | 98 => ⟨S32x256x8x16x1, .i32⟩
  | 99 => ⟨S32x256x8x16x1, .i32⟩
  | 100 => ⟨S32x256x8x16x3, .i32⟩
  | 101 => ⟨S32x256x8x16, .f32⟩
  | 102 => ⟨S32, .i32⟩
  | 103 => ⟨S32x1x1, .i32⟩
  | 104 => ⟨S_, .i32⟩
  | 105 => ⟨S32x1x1, .i32⟩
  | 106 => ⟨S32x1x1, .i1⟩
  | 107 => ⟨S_, .i32⟩
  | 108 => ⟨S32x1x1, .i32⟩
  | 109 => ⟨S32x1x1, .i32⟩
  | 110 => ⟨S32x1x1, .i32⟩
  | 111 => ⟨S_, .i32⟩
  | 112 => ⟨S32x256x8, .i32⟩
  | 113 => ⟨S32x256x8, .i1⟩
  | 114 => ⟨S_, .i32⟩
  | 115 => ⟨S32x256x8, .i32⟩
  | 116 => ⟨S32x256x8, .i32⟩
  | 117 => ⟨S32x256x8, .i32⟩
  | 118 => ⟨S32x256x8, .i32⟩
  | 119 => ⟨S32x256x8x1, .i32⟩
  | 120 => ⟨S32x256x8x1, .i32⟩
  | 121 => ⟨S32x256x8x2, .i32⟩
  | 122 => ⟨S32x256x8, .f32⟩
  | 123 => ⟨S32x256x8x1, .f32⟩
  | 124 => ⟨S32x256x8x16, .f32⟩
  | 125 => ⟨S32x256x8x32, .f32⟩
  | 126 => ⟨S32x256x256, .f32⟩
  | 127 => ⟨S256x64, .f32⟩
  | _ => ⟨S32x8192x128, .f32⟩

abbrev hbmTy0_1 (i : Nat) : BufTy := match i % 128 with
  | 0 => ⟨S32x256x64, .f32⟩
  | 1 => ⟨S1x1x64, .f32⟩
  | 2 => ⟨S32x256x64, .f32⟩
  | 3 => ⟨S32x256x64, .f32⟩
  | 4 => ⟨S32x256x64, .f32⟩
  | 5 => ⟨S32x256x64, .f32⟩
  | 6 => ⟨S_, .f32⟩
  | 7 => ⟨S32x256x64, .f32⟩
  | 8 => ⟨S32x256x64, .f32⟩
  | 9 => ⟨S_, .f32⟩
  | 10 => ⟨S32x256x64, .f32⟩
  | 11 => ⟨S32x256x64, .f32⟩
  | 12 => ⟨S32x256x64, .f32⟩
  | 13 => ⟨S64x64, .f32⟩
  | 14 => ⟨S32x256x64, .f32⟩
  | 15 => ⟨S1x1x64, .f32⟩
  | 16 => ⟨S32x256x64, .f32⟩
  | 17 => ⟨S32x256x64, .f32⟩
  | _ => ⟨S32x8192x128, .f32⟩

abbrev hbmTy (i : Nat) : BufTy := match i / 128 with
  | 0 => hbmTy0_0 i
  | 1 => hbmTy0_1 i
  | _ => ⟨S32x8192x128, .f32⟩

abbrev bufTy : (tb : Table) → Fin (tcTables nBuf tb) → BufTy
  | .hbm, ⟨i, _⟩ => hbmTy i
  | _, _ => ⟨S32x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_1 : Ref sig .tc := ⟨.hbm, 28, rfl⟩
abbrev main_call0_v5 : Ref sig .tc := ⟨.hbm, 29, rfl⟩
abbrev main_call0_v6 : Ref sig .tc := ⟨.hbm, 30, rfl⟩
abbrev main_call0_c_2 : Ref sig .tc := ⟨.hbm, 31, rfl⟩
abbrev main_call0_v7 : Ref sig .tc := ⟨.hbm, 32, rfl⟩
abbrev main_call0_v8 : Ref sig .tc := ⟨.hbm, 33, rfl⟩
abbrev main_call0_c_3 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c_0 : Ref sig .tc := ⟨.hbm, 47, rfl⟩
abbrev main_call1_v0 : Ref sig .tc := ⟨.hbm, 48, rfl⟩
abbrev main_call1_c : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_c_1 : Ref sig .tc := ⟨.hbm, 55, rfl⟩
abbrev main_call1_v5 : Ref sig .tc := ⟨.hbm, 56, rfl⟩
abbrev main_call1_v6 : Ref sig .tc := ⟨.hbm, 57, rfl⟩
abbrev main_call1_c_2 : Ref sig .tc := ⟨.hbm, 58, rfl⟩
abbrev main_call1_v7 : Ref sig .tc := ⟨.hbm, 59, rfl⟩
abbrev main_call1_v8 : Ref sig .tc := ⟨.hbm, 60, rfl⟩
abbrev main_call1_c_3 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_c_1 : Ref sig .tc := ⟨.hbm, 73, rfl⟩
abbrev main_v23 : Ref sig .tc := ⟨.hbm, 74, rfl⟩
abbrev main_v24 : Ref sig .tc := ⟨.hbm, 75, rfl⟩
abbrev main_c_2 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_c_3 : Ref sig .tc := ⟨.hbm, 80, rfl⟩
abbrev main_v28 : Ref sig .tc := ⟨.hbm, 81, rfl⟩
abbrev main_v29 : Ref sig .tc := ⟨.hbm, 82, rfl⟩
abbrev main_c_4 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_c_5 : Ref sig .tc := ⟨.hbm, 87, rfl⟩
abbrev main_v33 : Ref sig .tc := ⟨.hbm, 88, rfl⟩
abbrev main_v34 : Ref sig .tc := ⟨.hbm, 89, rfl⟩
abbrev main_c_6 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_c_7 : Ref sig .tc := ⟨.hbm, 104, rfl⟩
abbrev main_v48 : Ref sig .tc := ⟨.hbm, 105, rfl⟩
abbrev main_v49 : Ref sig .tc := ⟨.hbm, 106, rfl⟩
abbrev main_c_8 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_c_9 : Ref sig .tc := ⟨.hbm, 111, rfl⟩
abbrev main_v53 : Ref sig .tc := ⟨.hbm, 112, rfl⟩
abbrev main_v54 : Ref sig .tc := ⟨.hbm, 113, rfl⟩
abbrev main_c_10 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_call2_v0 : Ref sig .tc := ⟨.hbm, 132, rfl⟩
abbrev main_call2_v1 : Ref sig .tc := ⟨.hbm, 133, rfl⟩
abbrev main_call2_cst : Ref sig .tc := ⟨.hbm, 134, rfl⟩
abbrev main_call2_v2 : Ref sig .tc := ⟨.hbm, 135, rfl⟩
abbrev main_call2_v3 : Ref sig .tc := ⟨.hbm, 136, rfl⟩
abbrev main_call2_cst_0 : Ref sig .tc := ⟨.hbm, 137, rfl⟩
abbrev main_call2_v4 : Ref sig .tc := ⟨.hbm, 138, rfl⟩
abbrev main_call2_v5 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩

abbrev nD : Nat := 1
abbrev τ : Topo := Topo.v7x

variable {F : FTy → Type} [FloatOps F]
-- ==== Proof.Streams.lean ====
/-
  Several indexed copies outstanding on one semaphore: the issue of one of them into a counted batch whose
  transfers are the single rows of all of them. What a row's transfer takes (`Pre`) and what it leaves
  (`Pst`) are the caller's, so the rows may be written in write mode while others read elsewhere in the buffer.
-/
module

public import Idealize.ShloMosaic.Lib.SparseCore.Stream
public import Idealize.ShloMosaic.Lib.Batch
public import Idealize.ShloMosaic.Lib.WriteMode

@[expose] public section

noncomputable section

namespace Cert.Proof.Streams

open Idealize.ShloMosaic Idealize.ShloMosaic.SparseCore
open Idealize.SL.BI (sProp Storable bigSep)
open scoped Idealize.SL.BI
open Idealize.SL.BI.BIBase Idealize.SL.BI.Laws Idealize.SL.Sem Idealize.SL.ProofMode
open Idealize.SL.RA Idealize.SL

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- The index `k + j` among `n`. -/
def shiftE {n : ℕ} (k o : ℕ) (h : k + o ≤ n) : Fin o ↪ Fin n where
  toFun j := ⟨k + j.val, by omega⟩
  inj' := fun x y hxy => Fin.ext (Nat.add_left_cancel (congrArg Fin.val hxy))

/-- The next `o` of a family that is pending from `k`, and the rest. -/
theorem bigSep_pending_split {n : ℕ} (Φ : Fin n → sProp 𝕄) (k : ℕ)
    (o : ℕ) (h : k + o ≤ n) : bigSep (Transfers.pending k) Φ
      = iprop((bigSep Finset.univ fun j : Fin o => Φ ⟨k + j.val, by omega⟩) ∗ bigSep (Transfers.pending (k + o)) Φ) := by
  have hm : ∀ t : Fin n, t ∈ Finset.univ.map (shiftE k o h) ↔ k ≤ t.val ∧ t.val < k + o := fun t => by
    rw [Finset.mem_map]
    constructor
    · rintro ⟨j, -, rfl⟩
      change k ≤ k + j.val ∧ k + j.val < k + o
      omega
    · intro ht
      exact ⟨⟨t.val - k, by omega⟩, Finset.mem_univ _, Fin.ext (by change k + (t.val - k) = t.val; omega)⟩
  have hp : ∀ (k' : ℕ) (t : Fin n), t ∈ Transfers.pending (n := n) k' ↔ k' ≤ t.val := fun k' t => by
    unfold Transfers.pending; rw [Finset.mem_filter]; exact and_iff_right (Finset.mem_univ _)
  have hu : Transfers.pending (n := n) k = (Finset.univ.map (shiftE k o h)) ∪ Transfers.pending (k + o) := by
    ext t; rw [Finset.mem_union, hm, hp, hp]; omega
  have hd : Disjoint (Finset.univ.map (shiftE k o h)) (Transfers.pending (n := n) (k + o)) := by
    rw [Finset.disjoint_left]; intro t; rw [hm, hp]; omega
  rw [hu, BI.bigSep_union hd, BI.bigSep_map]; rfl

/-- An indexed copy issued into a batch: its rows are the batch's next transfers. -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fo : Buf (Elt F) (offs.view.loc c)}
    (ι : Ix) (N : ℕ) (hN : ∀ j, (dst.slice (s.rowRect hg.axis' j) (s.stride_rowRect hg.axis' j)).view.dmaCredit = N)
    (hs : 0 < s.numel) (hin : ∀ x, (offs.view.read (Elt F) fo x).toNat < s₀.size hg.axis)
    {n : ℕ} (R : sProp 𝕄) [BI.Persistent R] (Pre Pst : Fin n → sProp 𝕄) (k₀ : ℕ) (hk : k₀ + s.size hg.axis' ≤ n)
    (hpre : ∀ j : Fin (s.size hg.axis'), iprop(R ∗ Pre ⟨k₀ + j.val, by omega⟩) ⊢
      iprop((offs.view.loc c ↦[{offs.view.emb (si.rowMajor.symm (j.cast hn.symm))}]{qo} fo)
        ∗ ((offs.view.loc c ↦[{offs.view.emb (si.rowMajor.symm (j.cast hn.symm))}]{qo} fo) -∗
            writeUpdate c (dst.view.slice (s.rowRect hg.axis' j))
              (fun i => src.view.read (Elt F) fs (hg.rowIdx (rows (offs.view.read (Elt F) fo) hn hin j) i)) (Pst ⟨k₀ + j.val, by omega⟩)))) :
    iprop(R ∗ (src.view.loc c ↦[src.view.set]{q} fs) ∗ bigSep (Transfers.pending k₀) Pre ∗ Transfers.Batch EC c (.dma sem) ι N Pst k₀ 0)
      ⊢ iprop((iprop(bigSep (Transfers.pending (k₀ + s.size hg.axis')) Pre
                ∗ Transfers.Batch EC c (.dma sem) ι N Pst (k₀ + s.size hg.axis') 0)
              -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  have ho : 0 < s.size hg.axis' := Shape.size_pos_of_numel_pos hs _
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  let qk : Fin (s.size hg.axis') → PosShare TreeShare := pieceOf q _ ho
  let w : (j : Fin (s.size hg.axis')) → (s.rowShape hg.axis').Idx → Elt F e := fun j i => src.view.read (Elt F) fs (hg.rowIdx (r j) i)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hsum : ∑ j : Fin (s.size hg.axis'), (dst.slice (s.rowRect hg.axis' j) (s.stride_rowRect hg.axis' j)).view.dmaCredit = s.size hg.axis' * N := by
    rw [Finset.sum_congr rfl fun j _ => hN j, Finset.sum_const, Finset.card_univ, Fintype.card_fin, smul_eq_mul]
  unfold Transfers.Batch
  iintro ⟨#HR, Hs, Hpre, %γ, %γ₀, %κ, #Hinv, HI, H0, Hcred⟩ Hk
  ihave HI' := (Entails.of_eq (bigSep_pending_split (fun t => count EC (γ t) 0) k₀ (s.size hg.axis') hk)) $$ HI
  ihave Hpre' := (Entails.of_eq (bigSep_pending_split Pre k₀ (s.size hg.axis') hk)) $$ Hpre
  icases HI' with ⟨HIn, HIr⟩
  icases Hpre' with ⟨Hpn, Hpr⟩
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd hsum) $$ [Hpn Hs' HIn]
  · have hrow : ∀ j : Fin (s.size hg.axis'), iprop(iprop(R ∗ inv κ (Transfers.batchBody EC (c, SemLoc.dma sem) N Pst γ γ₀))
          ∗ ((Pre ⟨k₀ + j.val, by omega⟩ ∗ (src.view.loc c ↦[src.view.set]{qk j} fs)) ∗ count EC (γ ⟨k₀ + j.val, by omega⟩) 0))
        ⊢ iprop(S.heldEntry qo fo j ∗ (S.heldEntry qo fo j -∗ rowRes c (rd j))) := fun j => by
      iintro ⟨⟨#HR, #Hinv⟩, ⟨Hp, Hsq⟩, Hγj⟩
      ihave H := (hpre j) $$ [Hp]
      · isplitr; · iexact HR
        iexact Hp
      icases H with ⟨He, Hw⟩
      isplitl [He]; · iexact He
      iintro He
      unfold rowRes
      iexists qk j, fs, Pst ⟨k₀ + j.val, by omega⟩
      isplitl [Hsq]; · iexact Hsq
      isplitl [Hw He]
      · iapply Hw; iexact He
      · have hcu := Transfers.batch_creditUpdate EC (g := (c, SemLoc.dma sem)) (N := N) (D := Pst) (γ := γ) (γ₀ := γ₀) (ι := κ)
          (⟨k₀ + j.val, by omega⟩ : Fin n) (R₀ := iprop(Pst ⟨k₀ + j.val, by omega⟩ ∗ (src.view.loc c ↦[src.view.set]{qk j} fs))) sep_elim_left
        rw [show (rd j).dst.view.amount (SemLoc.dma sem) = N from hN j]
        iapply hcu
        isplitr; · iexact Hinv
        iexact Hγj
    unfold Stream.res
    ihave H2 := Transfers.bigSep_sep_in _ _ _ $$ [Hpn Hs']; · isplitl [Hpn] <;> iassumption
    ihave H3 := Transfers.bigSep_sep_in _ _ _ $$ [H2 HIn]; · isplitl [H2] <;> iassumption
    iapply (Transfers.bigSep_mono_pers Finset.univ _ _ _ fun j _ => hrow j)
    isplitr
    · isplitr; · iexact HR
      iexact Hinv
    iexact H3
  · iintro Hc
    iapply Hk
    isplitl [Hpr]; · iexact Hpr
    iexists γ, γ₀, κ
    isplitr; · iexact Hinv
    isplitl [HIr]; · iexact HIr
    isplitl [H0]; · iexact H0
    rw [Nat.sub_zero, Nat.sub_zero, Nat.add_mul, ← tallyAt_add]
    iapply (cred_add _ _).2
    isplitl [Hcred] <;> iassumption

end Cert.Proof.Streams

end
-- ==== Proof.KEnv.lean ====
/-
  The setting of the kernel's proof: the program as the launch sees it, the algebra, the memory views of one
  task, and what a task computes as functions of plain numbers.
-/
module

public import proofs.«01_k».proof.Defs
public import proofs.«01_k».proof.Proof.Streams
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.Kernel
public import proofs.«01_k».proof.Proof.Gen.Kernel.Skeleton

@[expose] public section

noncomputable section

namespace Cert.Kernel.Tile

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The algebra: the handshakes' rounds, the pipeline's rounds, write mode, the transfers' counters -/

abbrev UH : Type := URounds (GSem nD τ sig) ℕ
/-- The rounds of the TensorCore call's own copies. -/
abbrev UP : Type := URounds (GSem nD τ sig) Unit
abbrev UU (F : FTy → Type) : Type := UH × (UP × (WmRA nD τ sig (Elt F) × Counters))

local notation "𝕄" => MT nD τ sig (HIx 1) (Elt F) ℕ (UU F) ℕ

abbrev EH : Emb UH (MT nD τ sig (HIx 1) (Elt F) ℕ (UU F) ℕ) := embL
/-- Write mode's component of the algebra. -/
abbrev EW : UEmb (WmRA nD τ sig (Elt F)) (UU F) := UEmb.inl.trans (UEmb.inr.trans UEmb.inr)

/-! ## A task's memory -/

local notation "xV" => (Memref.whole Cert.Kernel.main_v0_scv : Memref Cert.Kernel.sig Kind.scVector Space.hbm Cert.Kernel.S2097152x16 EltTy.f32)
local notation "zV" => (Memref.whole Cert.Kernel.main_v3_scv : Memref Cert.Kernel.sig Kind.scVector Space.hbm Cert.Kernel.S16384 EltTy.i32)
local notation "oV" => (Memref.whole Cert.Kernel.main_v4_scv : Memref Cert.Kernel.sig Kind.scVector Space.hbm Cert.Kernel.S136x8192 EltTy.f32)
local notation "slV" => (Memref.whole Cert.Kernel.cc0_scratch0 : Memref Cert.Kernel.sig Kind.scVector Space.vmem Cert.Kernel.S256 EltTy.i32)
local notation "scV" => (Memref.whole Cert.Kernel.cc0_scratch1 : Memref Cert.Kernel.sig Kind.scVector Space.vmem Cert.Kernel.S256 EltTy.i32)
local notation "gV" => (Memref.whole Cert.Kernel.cc0_scratch2 : Memref Cert.Kernel.sig Kind.scVector Space.vmem Cert.Kernel.S32x128 EltTy.i32)
local notation "rV" => (Memref.whole Cert.Kernel.cc0_scratch3 : Memref Cert.Kernel.sig Kind.scVector Space.vmem Cert.Kernel.S4096x16 EltTy.f32)
local notation "pV" => (Memref.whole Cert.Kernel.cc0_scratch4 : Memref Cert.Kernel.sig Kind.scVector Space.vmem Cert.Kernel.S136x256 EltTy.f32)

abbrev cV (L : grid0.Coords) : Fin τ.nSC := (L 0).castLE hcore0
abbrev jV (L : grid0.Coords) : Fin τ.nSub := (L 1).castLE hsub0
/-- The thread of vector subcore `(L 0, L 1)` of device `d`. -/
abbrev thr (d : Dev nD) (L : grid0.Coords) : Thread nD τ := V d (cV L) (jV L)

/-! ## What a task computes -/

/-- The number of the task on vector subcore `(L 0, L 1)`: the batch it handles. -/
def wid (L : grid0.Coords) : ℕ := 2 * (L 1).val + (L 0).val

/-- Word `n` of the patch starts laid out in one row. -/
def zAt (Z : Vec F S16384 .i32) (n : ℕ) : BitVec 32 := Z (fun | 0 => (⟨n % 16384, Nat.mod_lt _ (by decide)⟩ : Fin 16384))
/-- Element `e` of row `n` of the gathered table. -/
def xAt (X : Vec F S2097152x16 .f32) (n e : ℕ) : F .f32 :=
  X (fun | 0 => (⟨n % 2097152, Nat.mod_lt _ (by decide)⟩ : Fin 2097152) | 1 => (⟨e % 16, Nat.mod_lt _ (by decide)⟩ : Fin 16))

/-- One task's inputs: the table, and the two starts of each of its patches. -/
structure In (F : FTy → Type) where
  X : Vec F S2097152x16 .f32
  w : ℕ
  sl : ℕ → BitVec 32
  sc : ℕ → BitVec 32

/-- The input of task `w`. -/
def inOf (X : Vec F S2097152x16 .f32) (Z : Vec F S16384 .i32) (w : ℕ) : In F :=
  ⟨X, w, fun p => zAt Z (256 * w + p), fun p => zAt Z (8192 + 256 * w + p)⟩

/-- The table's row that holds the first element of patch `p`. -/
def gb (I : In F) (p : ℕ) : BitVec 32 :=
  ((BitVec.ofNat 32 I.w * 1048576#32) + I.sl p * 128#32 + I.sc p).sshiftRight 4
/-- The `k`-th table row of patch `p`. -/
def gw (I : In F) (k p : ℕ) : BitVec 32 := gb I p + BitVec.ofNat 32 (8 * (k / 2) + k % 2)
/-- Element `e` of row `r` of the gathered rows. -/
def gt (I : In F) (r e : ℕ) : F .f32 := xAt I.X (gw I (r / 256) (r % 256)).toNat e
/-- Where in its table row patch `p` starts. -/
def po (I : In F) (p : ℕ) : ℕ := (I.sc p).toNat % 16

/-- Element `u` of patch `p` as gathered. -/
def pg (I : In F) (u p : ℕ) : F .f32 :=
  gt I (256 * (2 * (u / 16) + (po I p + u % 16) / 16) + p) ((po I p + u % 16) % 16)

variable [FloatOps F]

/-- The eight constants added to the start. -/
def tcst (u : ℕ) : BitVec 32 :=
  match u with
  | 128 => 0x00000000#32 | 129 => 0x3F800000#32 | 130 => 0x40000000#32 | 131 => 0x40400000#32
  | 132 => 0x40800000#32 | 133 => 0x40A00000#32 | 134 => 0x40C00000#32 | _ => 0x40E00000#32

/-- The time of row `u - 128` of patch `p`. -/
def pt (I : In F) (u p : ℕ) : F .f32 :=
  FloatOps.mulf (FloatOps.addf (FloatOps.sitofp .f32 (I.sl p)) (Scalar.ofBits .f32 (tcst u))) (Scalar.ofBits .f32 0x3C23D70A#32)

/-- Entry `(u, p)` of a task's block of patches. -/
def PT (I : In F) (u p : ℕ) : F .f32 := if u < 128 then pg I u p else pt I u p

end Cert.Kernel.Tile
-- ==== Proof.KStep.lean ====
/-
  The single steps of a task: a store into the patches or into the list of table rows, a load whose value is not
  used, an indexed load of the gathered rows, each as a rule from one state of the task to the next.
-/
module

public import proofs.«01_k».proof.Proof.KEnv

@[expose] public section

noncomputable section

namespace Cert.Kernel.Tile

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ (UU F) ℕ
local notation "slV" => (Memref.whole Cert.Kernel.cc0_scratch0 : Memref Cert.Kernel.sig Kind.scVector Space.vmem Cert.Kernel.S256 EltTy.i32)
local notation "scV" => (Memref.whole Cert.Kernel.cc0_scratch1 : Memref Cert.Kernel.sig Kind.scVector Space.vmem Cert.Kernel.S256 EltTy.i32)
local notation "gV" => (Memref.whole Cert.Kernel.cc0_scratch2 : Memref Cert.Kernel.sig Kind.scVector Space.vmem Cert.Kernel.S32x128 EltTy.i32)
local notation "rV" => (Memref.whole Cert.Kernel.cc0_scratch3 : Memref Cert.Kernel.sig Kind.scVector Space.vmem Cert.Kernel.S4096x16 EltTy.f32)
local notation "pV" => (Memref.whole Cert.Kernel.cc0_scratch4 : Memref Cert.Kernel.sig Kind.scVector Space.vmem Cert.Kernel.S136x256 EltTy.f32)

/-- A weakest precondition in the task's setting. -/
abbrev wpk (t : Thread nD τ) {α : Type} (p : Prog (TpuEff nD τ sig (Elt F) Λ₀ t.2) α) (Q : α → sProp 𝕄) : sProp 𝕄 :=
  wp frame (wpE (defs₀ (F := F)) 𝒱₀ t none) Set.univ p Q

section Basic
variable {t : Thread nD τ} {α β : Type} {A B : sProp (MT nD τ sig (HIx 1) (Elt F) ℕ (UU F) ℕ)} {Q : α → sProp (MT nD τ sig (HIx 1) (Elt F) ℕ (UU F) ℕ)}

theorem tr {A B C : sProp (MT nD τ sig (HIx 1) (Elt F) ℕ (UU F) ℕ)} (h₁ : A ⊢ B) (h₂ : B ⊢ C) : A ⊢ C := h₁.trans h₂

theorem step_pure {a : α} (h : A ⊢ Q a) : A ⊢ wpk t (pure a) Q := by
  show A ⊢ wp _ _ _ (Prog.ret a) Q
  rw [wp_ret]
  iintro H; imodintro; iapply h $$ H

theorem step_bind {p : Prog (TpuEff nD τ sig (Elt F) Λ₀ t.2) β} {k : β → Prog (TpuEff nD τ sig (Elt F) Λ₀ t.2) α}
    (h : A ⊢ wpk t p fun b => wpk t (k b) Q) : A ⊢ wpk t (p >>= k) Q := by
  unfold wpk; rw [wp_bind]; exact h

theorem step_chk {P : Prop} {dP : Decidable P} {k : PLift P → Prog (TpuEff nD τ sig (Elt F) Λ₀ t.2) α} (h : P)
    (hk : A ⊢ wpk t (k ⟨h⟩) Q) : A ⊢ wpk t (Prog.lift (TpuEff.assume P dP) >>= k) Q :=
  hk.trans (wp_assume 𝒱₀ t none Set.univ h)

/-- A load from a buffer that is held, whatever is done with what it reads. -/
theorem step_load {cs : CoreSpace} {s : Shape} {e : EltTy} {m : Memref sig t.2.kind cs s e} {r : LoadRect s} {hl : m.view.LoadsAt r}
    {k : (r.shape.Idx → Elt F e) → Prog (TpuEff nD τ sig (Elt F) Λ₀ t.2) α} {S : Finset (Idx (m.view.loc t))} {q : PosShare TreeShare} {f : Buf (Elt F) (m.view.loc t)}
    (hS : m.view.setOn r.set ⊆ S)
    (hk : iprop((m.view.loc t ↦[S]{q} f) ∗ A) ⊢ wpk t (k (m.view.readAt (Elt F) r f)) Q) :
    iprop((m.view.loc t ↦[S]{q} f) ∗ A) ⊢ wpk t (Prog.lift (.load m r hl) >>= k) Q := by
  iintro ⟨H, HA⟩
  iapply (wp_load 𝒱₀ t none Set.univ (m := m) (hl := hl) (k := k) (Q := Q) hS) $$ H
  iintro H
  iapply hk; isplitl [H] <;> iassumption

theorem step_store {cs : CoreSpace} {s : Shape} {e : EltTy} {m : Memref sig t.2.kind cs s e} {r : Rect s} {w : r.shape.Idx → Elt F e}
    {Mk : Finset r.shape.Idx} {hx : (m.access r).Stores Mk} {hm : Mk = Finset.univ ∨ ∀ a, r.stride a = 1}
    {k : PUnit → Prog (TpuEff nD τ sig (Elt F) Λ₀ t.2) α} {S : Finset (Idx ((m.access r).loc t))} {f : Buf (Elt F) ((m.access r).loc t)}
    (hS : (m.access r).setOn Mk ⊆ S)
    (hk : iprop(((m.access r).loc t ↦[S]{fullShare} ((m.access r).write (Elt F) f w Mk)) ∗ A) ⊢ wpk t (k ⟨⟩) Q) :
    iprop(((m.access r).loc t ↦[S]{fullShare} f) ∗ A) ⊢ wpk t (Prog.lift (.store m r w Mk hx hm) >>= k) Q := by
  iintro ⟨H, HA⟩
  iapply (wp_store 𝒱₀ t none Set.univ (m := m) (hx := hx) (hm := hm) (k := k) (Q := Q) hS) $$ H
  iintro H
  iapply hk; isplitl [H] <;> iassumption

end Basic

/-! ## The patches -/

/-- The patches, right at the entries whose row and column block `P` names. -/
def Pat (d : Dev nD) (L : grid0.Coords) (I : In F) (P : ℕ → ℕ → Prop) : sProp 𝕄 :=
  iprop(∃ f : Vec F S136x256 .f32, ⌜∀ x : S136x256.Idx, P (x 0).val ((x 1).val / 16) → f x = PT I (x 0).val (x 1).val⌝
    ∗ (pV).view.loc (thr d L) ↦{fullShare} f)

/-- The list of table rows, at the rows of parity `h`, right at the entries whose row and column block `P` names. -/
def Gix (d : Dev nD) (L : grid0.Coords) (I : In F) (h : ℕ) (P : ℕ → ℕ → Prop) : sProp 𝕄 :=
  iprop(∃ f : Vec F S32x128 .i32, ⌜∀ x : S32x128.Idx, (x 0).val % 2 = h → P (x 0).val ((x 1).val / 16) →
        f x = gw I ((x 0).val / 2) ((x 0).val % 2 * 128 + (x 1).val)⌝
    ∗ (gV).view.loc (thr d L) ↦[Finset.univ.filter fun x : S32x128.Idx => (x 0).val % 2 = h]{fullShare} f)

/-- The one row of sixteen that a step stores. -/
def lane (l : ℕ) (h : l < 16) : S16.Idx := fun | 0 => (⟨l, h⟩ : Fin 16)

theorem lane_eq (x : S16.Idx) : x = lane (x 0).val (x 0).isLt := by
  funext a; match a with | 0 => rfl

theorem cast_row {α : Type} (v : S16.Idx → α) (y : S1x16.Idx) :
    shapeCast S1x16 v shapeCasts_S16_S1x16 y = v (lane (y 1).val (y 1).isLt) := by
  unfold shapeCast; congr 1
  revert y; decide +revert

/-! ## The steps on the patches and on the list of table rows -/

/-- A row of sixteen stored into the patches at `(u, 16 c)`: there the stored values, elsewhere the old ones. -/
theorem pat_write {off : Fin 2 → ℕ} {inb} (u c : ℕ) (ho : off = ![u, 16 * c]) (f : Vec F S136x256 .f32) (v : S16.Idx → F .f32) (x : S136x256.Idx) :
    ((pV).access (Rect.unit (s := S136x256) off S1x16.size inb)).write (Elt F) f (shapeCast S1x16 v shapeCasts_S16_S1x16) Finset.univ x
      = if (x 0).val = u ∧ (x 1).val / 16 = c then v (lane ((x 1).val % 16) (Nat.mod_lt _ (by decide))) else f x := by
  subst ho
  by_cases hin : (x 0).val = u ∧ (x 1).val / 16 = c
  · rw [if_pos hin]
    obtain ⟨h0, h1⟩ := hin
    have hlt : (x 1).val % 16 < 16 := Nat.mod_lt _ (by decide)
    let y : S1x16.Idx := fun | 0 => (⟨0, by decide⟩ : Fin 1) | 1 => (⟨(x 1).val % 16, hlt⟩ : Fin 16)
    have hy : ((pV).access (Rect.unit (s := S136x256) ![u, 16 * c] S1x16.size inb)).emb y = x := by
      funext a; apply Fin.ext
      match a with
      | 0 => show u + 1 * 0 = (x 0).val; omega
      | 1 => show 16 * c + 1 * ((x 1).val % 16) = (x 1).val; omega
    have h2 := View.write_emb_of_mem (v := (pV).access (Rect.unit (s := S136x256) ![u, 16 * c] S1x16.size inb)) (Val := Elt F)
      f (shapeCast S1x16 v shapeCasts_S16_S1x16) (M := Finset.univ) (Finset.mem_univ y)
    rw [hy, cast_eq, cast_row] at h2
    exact h2
  · rw [if_neg hin]
    apply View.write_of_not_mem
    intro hm
    rw [View.setOn_univ] at hm
    have hm' : x ∈ (Rect.unit (s := S136x256) ![u, 16 * c] S1x16.size inb).set :=
      (View.set_slice_whole (Cert.Kernel.cc0_scratch4) (Rect.unit (s := S136x256) ![u, 16 * c] S1x16.size inb)) ▸ hm
    rw [Rect.mem_set_unit] at hm'
    have e0 : u ≤ (x 0).val ∧ (x 0).val < u + 1 := hm' 0
    have e1 : 16 * c ≤ (x 1).val ∧ (x 1).val < 16 * c + 16 := hm' 1
    exact hin ⟨by omega, by omega⟩

/-- A row of sixteen stored into the list of table rows at `(u, 16 c)`. -/
theorem gix_write {off : Fin 2 → ℕ} {inb} (u c : ℕ) (ho : off = ![u, 16 * c]) (f : Vec F S32x128 .i32) (v : S16.Idx → BitVec 32) (x : S32x128.Idx) :
    ((gV).access (Rect.unit (s := S32x128) off S1x16.size inb)).write (Elt F) f (shapeCast S1x16 v shapeCasts_S16_S1x16) Finset.univ x
      = if (x 0).val = u ∧ (x 1).val / 16 = c then v (lane ((x 1).val % 16) (Nat.mod_lt _ (by decide))) else f x := by
  subst ho
  by_cases hin : (x 0).val = u ∧ (x 1).val / 16 = c
  · rw [if_pos hin]
    obtain ⟨h0, h1⟩ := hin
    have hlt : (x 1).val % 16 < 16 := Nat.mod_lt _ (by decide)
    let y : S1x16.Idx := fun | 0 => (⟨0, by decide⟩ : Fin 1) | 1 => (⟨(x 1).val % 16, hlt⟩ : Fin 16)
    have hy : ((gV).access (Rect.unit (s := S32x128) ![u, 16 * c] S1x16.size inb)).emb y = x := by
      funext a; apply Fin.ext
      match a with
      | 0 => show u + 1 * 0 = (x 0).val; omega
      | 1 => show 16 * c + 1 * ((x 1).val % 16) = (x 1).val; omega
    have h2 := View.write_emb_of_mem (v := (gV).access (Rect.unit (s := S32x128) ![u, 16 * c] S1x16.size inb)) (Val := Elt F)
      f (shapeCast S1x16 v shapeCasts_S16_S1x16) (M := Finset.univ) (Finset.mem_univ y)
    rw [hy, cast_eq, cast_row] at h2
    exact h2
  · rw [if_neg hin]
    apply View.write_of_not_mem
    intro hm
    rw [View.setOn_univ] at hm
    have hm' : x ∈ (Rect.unit (s := S32x128) ![u, 16 * c] S1x16.size inb).set :=
      (View.set_slice_whole (Cert.Kernel.cc0_scratch2) (Rect.unit (s := S32x128) ![u, 16 * c] S1x16.size inb)) ▸ hm
    rw [Rect.mem_set_unit] at hm'
    have e0 : u ≤ (x 0).val ∧ (x 0).val < u + 1 := hm' 0
    have e1 : 16 * c ≤ (x 1).val ∧ (x 1).val < 16 * c + 16 := hm' 1
    exact hin ⟨by omega, by omega⟩

theorem gix_sub {off : Fin 2 → ℕ} {inb} (u c h : ℕ) (hu : u % 2 = h) (ho : off = ![u, 16 * c]) :
    (Rect.unit (s := S32x128) off S1x16.size inb).set ⊆ Finset.univ.filter fun x : S32x128.Idx => (x 0).val % 2 = h := by
  subst ho
  intro x hx
  rw [Rect.mem_set_unit] at hx
  have e0 : u ≤ (x 0).val ∧ (x 0).val < u + 1 := hx 0
  rw [Finset.mem_filter]
  exact ⟨Finset.mem_univ _, by rw [show (x 0).val = u by omega]; exact hu⟩

section Steps
variable {d : Dev nD} {L : grid0.Coords} {α : Type} {I : In F}

theorem pat_load {A : sProp 𝕄} {Q : α → sProp 𝕄} {P : ℕ → ℕ → Prop} {r : LoadRect S136x256} {hl : (pV).view.LoadsAt r}
    {k : (r.shape.Idx → Elt F .f32) → Prog (TpuEff nD τ sig (Elt F) Λ₀ (thr d L).2) α}
    (hk : ∀ v, iprop(A ∗ Pat d L I P) ⊢ wpk (thr d L) (k v) Q) :
    iprop(A ∗ Pat d L I P) ⊢ wpk (thr d L) (Prog.lift (.load pV r hl) >>= k) Q := by
  refine tr (B := iprop(∃ f : Vec F S136x256 .f32, ((pV).view.loc (thr d L) ↦{fullShare} f)
      ∗ (⌜∀ x : S136x256.Idx, P (x 0).val ((x 1).val / 16) → f x = PT I (x 0).val (x 1).val⌝ ∗ A))) ?_ ?_
  · unfold Pat
    iintro ⟨HA, %f, %hf, H⟩
    iexists f; isplitl [H]; · iexact H
    isplitr; · ipureintro; exact hf
    iexact HA
  · refine exists_elim fun f => step_load (t := thr d L) (m := pV) (hl := hl) (S := Finset.univ) (Finset.subset_univ _) ?_
    refine tr ?_ (hk _)
    unfold Pat
    iintro ⟨H, %hf, HA⟩
    isplitl [HA]; · iexact HA
    iexists f; isplitr; · ipureintro; exact hf
    iexact H

theorem pat_store {A : sProp 𝕄} {Q : α → sProp 𝕄} {P P' : ℕ → ℕ → Prop} (u c : ℕ) {off : Fin 2 → ℕ} {inb} {v : S16.Idx → F .f32}
    {hx} {hm} {k : PUnit → Prog (TpuEff nD τ sig (Elt F) Λ₀ (thr d L).2) α}
    (ho : off = ![u, 16 * c]) (hv : ∀ x, v x = PT I u (16 * c + (x 0).val))
    (hP : ∀ r c', P' r c' → P r c' ∨ (r = u ∧ c' = c))
    (hk : iprop(A ∗ Pat d L I P') ⊢ wpk (thr d L) (k ⟨⟩) Q) :
    iprop(A ∗ Pat d L I P) ⊢ wpk (thr d L) (Prog.lift (.store pV (Rect.unit (s := S136x256) off S1x16.size inb)
      (shapeCast S1x16 v shapeCasts_S16_S1x16) Finset.univ hx hm) >>= k) Q := by
  refine tr (B := iprop(∃ f : Vec F S136x256 .f32, ((pV).view.loc (thr d L) ↦{fullShare} f)
      ∗ (⌜∀ x : S136x256.Idx, P (x 0).val ((x 1).val / 16) → f x = PT I (x 0).val (x 1).val⌝ ∗ A))) ?_ ?_
  · unfold Pat
    iintro ⟨HA, %f, %hf, H⟩
    iexists f; isplitl [H]; · iexact H
    isplitr; · ipureintro; exact hf
    iexact HA
  · refine exists_elim fun f => step_store (t := thr d L) (m := pV) (hx := hx) (hm := hm) (S := Finset.univ) (f := f) (Finset.subset_univ _) ?_
    refine tr ?_ hk
    unfold Pat
    iintro ⟨H, %hf, HA⟩
    isplitl [HA]; · iexact HA
    iexists _; isplitr
    swap; · iexact H
    ipureintro; intro x hx'
    refine (pat_write u c ho f v x).trans ?_
    split
    · next hin =>
      obtain ⟨h0, h1⟩ := hin
      rw [hv, h0]; congr 1
      show 16 * c + (x 1).val % 16 = (x 1).val; omega
    · next hin => exact hf x ((hP _ _ hx').resolve_right hin)

theorem gix_load {A : sProp 𝕄} {Q : α → sProp 𝕄} {P : ℕ → ℕ → Prop} {h : ℕ} (u c : ℕ) {off : Fin 2 → ℕ} {inb}
    {hl : (gV).view.LoadsAt (Rect.unit (s := S32x128) off S1x16.size inb).toLoadRect}
    {k : (S1x16.Idx → Elt F .i32) → Prog (TpuEff nD τ sig (Elt F) Λ₀ (thr d L).2) α}
    (hu : u % 2 = h) (ho : off = ![u, 16 * c])
    (hk : ∀ v, iprop(A ∗ Gix d L I h P) ⊢ wpk (thr d L) (k v) Q) :
    iprop(A ∗ Gix d L I h P) ⊢ wpk (thr d L) (Prog.lift (.load gV (Rect.unit (s := S32x128) off S1x16.size inb).toLoadRect hl) >>= k) Q := by
  refine tr (B := iprop(∃ f : Vec F S32x128 .i32, ((gV).view.loc (thr d L) ↦[Finset.univ.filter fun x : S32x128.Idx => (x 0).val % 2 = h]{fullShare} f)
      ∗ (⌜∀ x : S32x128.Idx, (x 0).val % 2 = h → P (x 0).val ((x 1).val / 16) →
        f x = gw I ((x 0).val / 2) ((x 0).val % 2 * 128 + (x 1).val)⌝ ∗ A))) ?_ ?_
  · unfold Gix
    iintro ⟨HA, %f, %hf, H⟩
    iexists f; isplitl [H]; · iexact H
    isplitr; · ipureintro; exact hf
    iexact HA
  · refine exists_elim fun f => step_load (t := thr d L) (m := gV) (hl := hl) (S := Finset.univ.filter fun x : S32x128.Idx => (x 0).val % 2 = h) ?_ ?_
    · show ((Rect.unit (s := S32x128) off S1x16.size inb).set).map _ ⊆ _
      exact (Finset.map_refl (s := (Rect.unit (s := S32x128) off S1x16.size inb).set)).le.trans (gix_sub u c h hu ho)
    refine tr ?_ (hk _)
    unfold Gix
    iintro ⟨H, %hf, HA⟩
    isplitl [HA]; · iexact HA
    iexists f; isplitr; · ipureintro; exact hf
    iexact H

theorem gix_store {A : sProp 𝕄} {Q : α → sProp 𝕄} {P P' : ℕ → ℕ → Prop} {h : ℕ} (u c : ℕ) {off : Fin 2 → ℕ} {inb} {v : S16.Idx → BitVec 32}
    {hx} {hm} {k : PUnit → Prog (TpuEff nD τ sig (Elt F) Λ₀ (thr d L).2) α}
    (hu : u % 2 = h) (ho : off = ![u, 16 * c]) (hv : ∀ x, v x = gw I (u / 2) (h * 128 + 16 * c + (x 0).val))
    (hP : ∀ r c', P' r c' → P r c' ∨ (r = u ∧ c' = c))
    (hk : iprop(A ∗ Gix d L I h P') ⊢ wpk (thr d L) (k ⟨⟩) Q) :
    iprop(A ∗ Gix d L I h P) ⊢ wpk (thr d L) (Prog.lift (.store gV (Rect.unit (s := S32x128) off S1x16.size inb)
      (shapeCast S1x16 v shapeCasts_S16_S1x16) Finset.univ hx hm) >>= k) Q := by
  refine tr (B := iprop(∃ f : Vec F S32x128 .i32, ((gV).view.loc (thr d L) ↦[Finset.univ.filter fun x : S32x128.Idx => (x 0).val % 2 = h]{fullShare} f)
      ∗ (⌜∀ x : S32x128.Idx, (x 0).val % 2 = h → P (x 0).val ((x 1).val / 16) →
        f x = gw I ((x 0).val / 2) ((x 0).val % 2 * 128 + (x 1).val)⌝ ∗ A))) ?_ ?_
  · unfold Gix
    iintro ⟨HA, %f, %hf, H⟩
    iexists f; isplitl [H]; · iexact H
    isplitr; · ipureintro; exact hf
    iexact HA
  · refine exists_elim fun f => step_store (t := thr d L) (m := gV) (hx := hx) (hm := hm)
      (S := Finset.univ.filter fun x : S32x128.Idx => (x 0).val % 2 = h) (f := f) ?_ ?_
    · rw [View.setOn_univ]
      exact (View.set_slice_whole (Cert.Kernel.cc0_scratch2) (Rect.unit (s := S32x128) off S1x16.size inb)).le.trans (gix_sub u c h hu ho)
    refine tr ?_ hk
    unfold Gix
    iintro ⟨H, %hf, HA⟩
    isplitl [HA]; · iexact HA
    iexists _; isplitr
    swap; · iexact H
    ipureintro; intro x hp hx'
    refine (gix_write u c ho f v x).trans ?_
    split
    · next hin =>
      obtain ⟨h0, h1⟩ := hin
      rw [hv, h0, hu]; congr 1
      show h * 128 + 16 * c + (x 1).val % 16 = h * 128 + (x 1).val; omega
    · next hin => exact hf x hp ((hP _ _ hx').resolve_right hin)

/-! ## The step on the gathered rows -/

/-- The gathered rows in write mode, at some share, those at `W` known to hold what the streams bring. -/
def Row (d : Dev nD) (L : grid0.Coords) (I : In F) (ι : ℕ) (q : PosShare TreeShare) (f : Vec F S4096x16 .f32) (W : Finset S4096x16.Idx) : sProp 𝕄 :=
  iprop(wmInv (Ix := HIx 1) (Lvl := ℕ) (EW (F := F)) ι
    ∗ willBeTo (Ix := HIx 1) (Name := ℕ) (Lvl := ℕ) (EW (F := F)) ((rV).view.loc (thr d L)) Finset.univ q f
        (fun x : S4096x16.Idx => some (gt I (x 0).val (x 1).val)) W)

/-- An indexed load of the gathered rows, at rows known to be there. -/
theorem row_gather {A : sProp 𝕄} {Q : α → sProp 𝕄} {ι : ℕ} {q : PosShare TreeShare} {f : Vec F S4096x16 .f32} {W : Finset S4096x16.Idx}
    {a b : IVec S16 32} {h : ∀ z x, ((![a, b] : Fin 2 → IVec S16 32) z x).toNat < S4096x16.size z} {hl : (rV).view.Loads}
    {k : Vec F S16 .f32 → Prog (TpuEff nD τ sig (Elt F) Λ₀ (thr d L).2) α}
    (hW : ∀ y : S4096x16.Idx, ∀ x, (y 0).val = (a x).toNat → y ∈ W)
    (v : Vec F S16 .f32) (hv : ∀ x, v x = gt I (a x).toNat (b x).toNat)
    (hk : iprop(Row d L I ι q f W ∗ A) ⊢ wpk (thr d L) (k v) Q) :
    iprop(Row d L I ι q f W ∗ A) ⊢ wpk (thr d L) (SparseCore.vectorLoadIdx rV ![a, b] h hl >>= k) Q := by
  change _ ⊢ wp frame (wpE (defs₀ (F := F)) 𝒱₀ (thr d L) none) Set.univ
    (.op (.load rV (Rect.whole S4096x16).toLoadRect (View.loadsAt_whole hl)) fun g => k (loadIdx g ![a, b] h)) Q
  unfold Row
  iintro ⟨⟨#Hi, Hw⟩, HA⟩
  iapply (wp_load_willBeTo 𝒱₀ (thr d L) none Set.univ (m := rV) (r := (Rect.whole S4096x16).toLoadRect) (ιwm := ι) (emb := EW (F := F)) (S := Finset.univ)
    (Finset.subset_univ _)) $$ [Hw]
  · isplitr; · iexact Hi
    iexact Hw
  iintro %cur %W' %hc Hw
  have e : loadIdx (F := F) ((rV).view.readAt (Elt F) (Rect.whole S4096x16).toLoadRect cur) ![a, b] h = v := by
    funext x
    have hrd : (rV).view.readAt (Elt F) (Rect.whole S4096x16).toLoadRect cur = cur := by
      funext y
      show cur _ = cur y
      congr 1
      funext z; apply Fin.ext
      show 0 + 1 * (y z).val = (y z).val
      omega
    rw [hrd, hv x]
    exact (hc.2 (idxAt ![a, b] h x) (Finset.mem_univ _)).2 (hc.1 (hW (idxAt ![a, b] h x) x rfl)) _ rfl
  rw [e]
  iapply hk
  unfold Row
  isplitl [Hw]
  · isplitr; · iexact Hi
    iexact Hw
  iexact HA

end Steps

end Cert.Kernel.Tile
-- ==== Proof.KExt.lean ====
/-
  The extraction of the patches out of the gathered rows: the state between two steps, and the rules of a step.
-/
module

public import proofs.«01_k».proof.Proof.KStep

@[expose] public section

noncomputable section

namespace Cert.Kernel.Tile

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ (UU F) ℕ
local notation "slV" => (Memref.whole Cert.Kernel.cc0_scratch0 : Memref Cert.Kernel.sig Kind.scVector Space.vmem Cert.Kernel.S256 EltTy.i32)
local notation "scV" => (Memref.whole Cert.Kernel.cc0_scratch1 : Memref Cert.Kernel.sig Kind.scVector Space.vmem Cert.Kernel.S256 EltTy.i32)
local notation "gV" => (Memref.whole Cert.Kernel.cc0_scratch2 : Memref Cert.Kernel.sig Kind.scVector Space.vmem Cert.Kernel.S32x128 EltTy.i32)
local notation "rV" => (Memref.whole Cert.Kernel.cc0_scratch3 : Memref Cert.Kernel.sig Kind.scVector Space.vmem Cert.Kernel.S4096x16 EltTy.f32)
local notation "pV" => (Memref.whole Cert.Kernel.cc0_scratch4 : Memref Cert.Kernel.sig Kind.scVector Space.vmem Cert.Kernel.S136x256 EltTy.f32)

theorem pureL {φ : Prop} {A B : sProp (MT nD τ sig (HIx 1) (Elt F) ℕ (UU F) ℕ)} (h : φ → A ⊢ B) : iprop(⌜φ⌝ ∗ A) ⊢ B := by
  iintro ⟨%hf, H⟩
  iapply (h hf)
  iexact H

/-- What stays fixed while one block of sixteen patches is extracted: the task, its inputs, the gathered rows' write
    mode, which of them are there, what else is held, and the block's number. -/
structure Ctx (F : FTy → Type) where
  d : Dev nD
  L : grid0.Coords
  I : In F
  ι : ℕ
  q : PosShare TreeShare
  f : Vec F S4096x16 .f32
  W : Finset S4096x16.Idx
  Fr : sProp (MT nD τ sig (HIx 1) (Elt F) ℕ (UU F) ℕ)
  c : ℕ

/-- The entries of the patches that are right once the blocks before `c` are extracted and, of block `c`, the rows before `u`. -/
def EX (c u r c' : ℕ) : Prop := 128 ≤ r ∨ c' < c ∨ (c' = c ∧ r < u)

/-- The second starts as a task holds them. -/
def Scv (d : Dev nD) (L : grid0.Coords) (I : In F) : sProp 𝕄 :=
  iprop(∃ f : Vec F S256 .i32, ⌜∀ x : S256.Idx, f x = I.sc (x 0).val⌝ ∗ (scV).view.loc (thr d L) ↦{fullShare} f)

/-- The state between two steps: rows before `u` of block `c` extracted. -/
def St (C : Ctx F) (u : ℕ) : sProp 𝕄 :=
  iprop(Row C.d C.L C.I C.ι C.q C.f C.W ∗ (Scv C.d C.L C.I ∗ C.Fr) ∗ Pat C.d C.L C.I (EX C.c u))

/-- Sixteen entries of row `u` of the patches. -/
def RV (C : Ctx F) (u : ℕ) : Vec F S16 .f32 := fun x => PT C.I u (16 * C.c + (x 0).val)

/-- The row indices of an indexed load. -/
def I0 (pv o : IVec S16 32) (i j : ℕ) : IVec S16 32 :=
  addi (addi pv (broadcast S16 (BitVec.ofNat 32 (512 * i)))) (muli (shrsi (addi o (broadcast S16 (BitVec.ofNat 32 j))) (broadcast S16 4#32)) (broadcast S16 256#32))
/-- The column indices of an indexed load. -/
def I1 (o : IVec S16 32) (j : ℕ) : IVec S16 32 := andi (addi o (broadcast S16 (BitVec.ofNat 32 j))) (broadcast S16 15#32)

/-- The patch numbers and the places in a table row, as the block's vectors hold them. -/
structure Ok (C : Ctx F) (o pv : IVec S16 32) : Prop where
  hp : ∀ x, (pv x).toNat = 16 * C.c + (x 0).val
  ho : ∀ x, (o x).toNat = po C.I (16 * C.c + (x 0).val)
  hc : C.c < 16
  hW : ∀ y : S4096x16.Idx, (y 0).val % 256 / 16 = C.c → y ∈ C.W

theorem shr4 (b : BitVec 32) (h : b.toNat < 2 ^ 31) : (b.sshiftRight 4).toNat = b.toNat / 16 := by
  rw [BitVec.toNat_sshiftRight_of_msb_false, Nat.shiftRight_eq_div_pow]
  rw [BitVec.msb_eq_decide, decide_eq_false_iff_not]; omega

theorem I0_toNat {C : Ctx F} {o pv : IVec S16 32} (ok : Ok C o pv) (i j : ℕ) (hi : i < 8) (hj : j < 16) (x : S16.Idx) :
    (I0 pv o i j x).toNat = 256 * (2 * i + (po C.I (16 * C.c + (x 0).val) + j) / 16) + (16 * C.c + (x 0).val) := by
  have h0 := ok.hp x; have h1 := ok.ho x; have hc := ok.hc
  have hx : (x 0).val < 16 := (x 0).isLt
  have hpo : po C.I (16 * C.c + (x 0).val) < 16 := Nat.mod_lt _ (by decide)
  generalize po C.I (16 * C.c + (x 0).val) = p at *
  show ((pv x + BitVec.ofNat 32 (512 * i)) + (((o x + BitVec.ofNat 32 j).sshiftRight (4#32 : BitVec 32).toNat) * 256#32)).toNat = _
  have e : (o x + BitVec.ofNat 32 j).toNat = p + j := by
    rw [BitVec.toNat_add, h1, BitVec.toNat_ofNat]; omega
  have e2 : ((o x + BitVec.ofNat 32 j).sshiftRight (4#32 : BitVec 32).toNat).toNat = (p + j) / 16 := by
    rw [← e]; exact shr4 _ (by rw [e]; omega)
  rw [BitVec.toNat_add, BitVec.toNat_add, BitVec.toNat_mul, e2, h0, BitVec.toNat_ofNat]
  have : (p + j) / 16 ≤ 1 := by omega
  show ((16 * C.c + (x 0).val + 512 * i % 2 ^ 32) % 2 ^ 32 + (p + j) / 16 * 256 % 2 ^ 32) % 2 ^ 32 = _
  omega

theorem I1_toNat {C : Ctx F} {o pv : IVec S16 32} (ok : Ok C o pv) (j : ℕ) (hj : j < 16) (x : S16.Idx) :
    (I1 o j x).toNat = (po C.I (16 * C.c + (x 0).val) + j) % 16 := by
  have h1 := ok.ho x
  have hpo : po C.I (16 * C.c + (x 0).val) < 16 := Nat.mod_lt _ (by decide)
  generalize po C.I (16 * C.c + (x 0).val) = p at *
  show ((o x + BitVec.ofNat 32 j) &&& 15#32).toNat = _
  rw [BitVec.toNat_and, BitVec.toNat_add, h1, BitVec.toNat_ofNat]
  rw [show (15#32 : BitVec 32).toNat = 2 ^ 4 - 1 from rfl, Nat.and_two_pow_sub_one_eq_mod]
  omega

theorem Ok.chk {C : Ctx F} {o pv : IVec S16 32} (ok : Ok C o pv) (u : ℕ) (hu : u < 128) :
    ∀ z x, ((![I0 pv o (u / 16) (u % 16), I1 o (u % 16)] : Fin 2 → IVec S16 32) z x).toNat < S4096x16.size z := by
  intro z x
  have hj : u % 16 < 16 := Nat.mod_lt _ (by decide)
  have hx : (x 0).val < 16 := (x 0).isLt
  have hc := ok.hc
  match z with
  | 0 =>
    show (I0 pv o (u / 16) (u % 16) x).toNat < 4096
    rw [I0_toNat ok _ _ (by omega) hj]
    have hpo : po C.I (16 * C.c + (x 0).val) < 16 := Nat.mod_lt _ (by decide)
    omega
  | 1 =>
    show (I1 o (u % 16) x).toNat < 16
    rw [I1_toNat ok _ hj]; omega

/-- The gathered rows a block reads are there. -/
def Hok (C : Ctx F) : Prop := ∀ y : S4096x16.Idx, (y 0).val % 256 / 16 = C.c → y ∈ C.W

theorem pv3 : ∀ (t : Fin k0_t3_loop.trips) (x : S16.Idx), (k0_pay54 0#32 1#32 t x).toNat = 16 * t.val + (x 0).val := by
  decide +kernel
theorem pv4 : ∀ (t : Fin k0_t4_loop.trips) (x : S16.Idx), (k0_pay456 8#32 1#32 t x).toNat = 16 * t.val + 128 + (x 0).val := by
  decide +kernel

theorem and15 (b : BitVec 32) : (b &&& 15#32).toNat = b.toNat % 16 := by
  rw [BitVec.toNat_and, show (15#32 : BitVec 32).toNat = 2 ^ 4 - 1 from rfl, Nat.and_two_pow_sub_one_eq_mod]

theorem ok_of3 {C : Ctx F} (hok : Hok C) (t : Fin k0_t3_loop.trips) (hn : 16 * t.val = 16 * C.c) (hc : C.c < 16) {v : Vec F S16 .i32}
    (hv : ∀ x, v x = C.I.sc (16 * C.c + (x 0).val)) : Ok C (k0_pay53 (F := F) v) (k0_pay54 0#32 1#32 t) where
  hp x := by rw [pv3, hn]
  ho x := by
    show (v x &&& 15#32).toNat = _
    rw [and15, hv]; rfl
  hc := hc
  hW := hok

theorem ok_of4 {C : Ctx F} (hok : Hok C) (t : Fin k0_t4_loop.trips) (hn : 16 * t.val + 128 = 16 * C.c) (hc : C.c < 16) {v : Vec F S16 .i32}
    (hv : ∀ x, v x = C.I.sc (16 * C.c + (x 0).val)) : Ok C (k0_pay455 (F := F) v) (k0_pay456 8#32 1#32 t) where
  hp x := by rw [pv4, hn]
  ho x := by
    show (v x &&& 15#32).toNat = _
    rw [and15, hv]; rfl
  hc := hc
  hW := hok

section
variable {α : Type}

theorem ex_gather {C : Ctx F} {o pv : IVec S16 32} {Q : α → sProp 𝕄} (ok : Ok C o pv) (u : ℕ) (hu : u < 128) {P : ℕ} {a b : IVec S16 32}
    {h : ∀ z x, ((![a, b] : Fin 2 → IVec S16 32) z x).toNat < S4096x16.size z} {hl : (rV).view.Loads}
    {k : Vec F S16 .f32 → Prog (TpuEff nD τ sig (Elt F) Λ₀ (thr C.d C.L).2) α}
    (ha : a = I0 pv o (u / 16) (u % 16)) (hb : b = I1 o (u % 16))
    (hk : St C P ⊢ wpk (thr C.d C.L) (k (RV C u)) Q) :
    St C P ⊢ wpk (thr C.d C.L) (SparseCore.vectorLoadIdx rV ![a, b] h hl >>= k) Q := by
  subst ha; subst hb
  have hj : u % 16 < 16 := Nat.mod_lt _ (by decide)
  refine row_gather ?_ (RV C u) ?_ hk
  · intro y x hy
    rw [I0_toNat ok _ _ (by omega) hj] at hy
    apply ok.hW
    have hc := ok.hc
    have hx : (x 0).val < 16 := (x 0).isLt
    omega
  · intro x
    rw [I0_toNat ok _ _ (by omega) hj, I1_toNat ok _ hj]
    show PT C.I u _ = _
    rw [PT, if_pos hu]; rfl

theorem ex_gatherE {C : Ctx F} {o pv : IVec S16 32} {Q : Vec F S16 .f32 → sProp 𝕄} (ok : Ok C o pv) (u : ℕ) (hu : u < 128) {P : ℕ} {a b : IVec S16 32}
    {h : ∀ z x, ((![a, b] : Fin 2 → IVec S16 32) z x).toNat < S4096x16.size z} {hl : (rV).view.Loads}
    (ha : a = I0 pv o (u / 16) (u % 16)) (hb : b = I1 o (u % 16)) (hk : St C P ⊢ Q (RV C u)) :
    St C P ⊢ wpk (thr C.d C.L) (SparseCore.vectorLoadIdx rV ![a, b] h hl) Q := by
  have e := ex_gather (α := Vec F S16 .f32) (C := C) (Q := Q) (k := fun v => pure v) ok u hu (P := P) (h := h) (hl := hl) ha hb (step_pure hk)
  exact e

theorem ex_load {C : Ctx F} {Q : α → sProp 𝕄} {u : ℕ} {r : LoadRect S136x256} {hl : (pV).view.LoadsAt r}
    {k : (r.shape.Idx → Elt F .f32) → Prog (TpuEff nD τ sig (Elt F) Λ₀ (thr C.d C.L).2) α}
    (hk : ∀ v, St C u ⊢ wpk (thr C.d C.L) (k v) Q) :
    St C u ⊢ wpk (thr C.d C.L) (Prog.lift (.load pV r hl) >>= k) Q := by
  refine tr (Laws.sep_assoc).2 (pat_load fun v => tr (Laws.sep_assoc).1 (hk v))

theorem ex_store {C : Ctx F} {Q : α → sProp 𝕄} (u : ℕ) {n : ℕ} {off : Fin 2 → ℕ} {inb} {hx} {hm}
    {k : PUnit → Prog (TpuEff nD τ sig (Elt F) Λ₀ (thr C.d C.L).2) α}
    (ho : off = ![u, n]) (hn : n = 16 * C.c)
    (hk : St C (u + 1) ⊢ wpk (thr C.d C.L) (k ⟨⟩) Q) :
    St C u ⊢ wpk (thr C.d C.L) (Prog.lift (.store pV (Rect.unit (s := S136x256) off S1x16.size inb)
      (shapeCast S1x16 (RV C u) shapeCasts_S16_S1x16) Finset.univ hx hm) >>= k) Q := by
  subst hn
  refine tr (Laws.sep_assoc).2 (pat_store (P' := EX C.c (u + 1)) u C.c ho (fun x => rfl) ?_ (tr (Laws.sep_assoc).1 hk))
  intro r c' h
  unfold EX at h ⊢
  omega

theorem ex_loadsc {C : Ctx F} {Q : α → sProp 𝕄} {u n : ℕ} {off : Fin 1 → ℕ} {inb}
    {hl : (scV).view.LoadsAt (Rect.unit (s := S256) off S16.size inb).toLoadRect}
    {k : Vec F S16 .i32 → Prog (TpuEff nD τ sig (Elt F) Λ₀ (thr C.d C.L).2) α}
    (ho : off = ![n]) (hn : n = 16 * C.c)
    (hk : ∀ v : Vec F S16 .i32, (∀ x, v x = C.I.sc (16 * C.c + (x 0).val)) → St C u ⊢ wpk (thr C.d C.L) (k v) Q) :
    St C u ⊢ wpk (thr C.d C.L) (Prog.lift (.load scV (Rect.unit (s := S256) off S16.size inb).toLoadRect hl) >>= k) Q := by
  subst hn; subst ho
  refine tr (B := iprop(∃ f : Vec F S256 .i32, ⌜∀ x : S256.Idx, f x = C.I.sc (x 0).val⌝ ∗ (((scV).view.loc (thr C.d C.L) ↦{fullShare} f)
      ∗ (Row C.d C.L C.I C.ι C.q C.f C.W ∗ C.Fr ∗ Pat C.d C.L C.I (EX C.c u))))) ?_ ?_
  · unfold St Scv
    iintro ⟨HR, ⟨⟨%f, %hf, H⟩, HF⟩, HP⟩
    iexists f; isplitr; · ipureintro; exact hf
    isplitl [H]; · iexact H
    isplitl [HR]; · iexact HR
    isplitl [HF] <;> iassumption
  · refine exists_elim fun f => ?_
    refine pureL fun hf => ?_
    refine step_load (t := thr C.d C.L) (m := scV) (hl := hl) (S := Finset.univ) (f := f) (Finset.subset_univ _) ?_
    refine tr ?_ (hk _ ?_)
    · unfold St Scv
      iintro ⟨H, HR, HF, HP⟩
      isplitl [HR]; · iexact HR
      isplitl [H HF]
      · isplitl [H]
        · iexists f; isplitr; · ipureintro; exact hf
          iexact H
        · iexact HF
      · iexact HP
    · intro x
      refine (hf _).trans ?_
      congr 1
      show 16 * C.c + 1 * (x 0).val = _
      omega

end

end Cert.Kernel.Tile
-- ==== Proof.KStream.lean ====
module

public import proofs.«01_k».proof.Proof.KExt

@[expose] public section

noncomputable section

namespace Cert.Kernel.Tile

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ (UU F) ℕ
local notation "slV" => (Memref.whole Cert.Kernel.cc0_scratch0 : Memref Cert.Kernel.sig Kind.scVector Space.vmem Cert.Kernel.S256 EltTy.i32)
local notation "scV" => (Memref.whole Cert.Kernel.cc0_scratch1 : Memref Cert.Kernel.sig Kind.scVector Space.vmem Cert.Kernel.S256 EltTy.i32)
local notation "gV" => (Memref.whole Cert.Kernel.cc0_scratch2 : Memref Cert.Kernel.sig Kind.scVector Space.vmem Cert.Kernel.S32x128 EltTy.i32)
local notation "rV" => (Memref.whole Cert.Kernel.cc0_scratch3 : Memref Cert.Kernel.sig Kind.scVector Space.vmem Cert.Kernel.S4096x16 EltTy.f32)
local notation "pV" => (Memref.whole Cert.Kernel.cc0_scratch4 : Memref Cert.Kernel.sig Kind.scVector Space.vmem Cert.Kernel.S136x256 EltTy.f32)

local notation "xV" => (Memref.whole Cert.Kernel.main_v0_scv : Memref Cert.Kernel.sig Kind.scVector Space.hbm Cert.Kernel.S2097152x16 EltTy.f32)

/-! ## The streams: where each of a half's 2048 rows comes from and goes -/

/-- The list of table rows, complete. -/
def gF (I : In F) : Vec F S32x128 .i32 := fun x => gw I ((x 0).val / 2) ((x 0).val % 2 * 128 + (x 1).val)
/-- The gathered rows, complete. -/
def gT (I : In F) : Vec F S4096x16 .f32 := fun x => gt I (x 0).val (x 1).val
/-- The row of the rows buffer that transfer `t` of half `h` fills. -/
def rT (h t : ℕ) : ℕ := 128 * (2 * (t / 128) + h) + t % 128
def rowS (r : ℕ) : Finset S4096x16.Idx := Finset.univ.filter fun x => (x 0).val = r
/-- The word of the list that transfer `t` of half `h` is led by. -/
def elS (h t : ℕ) : Finset S32x128.Idx := Finset.univ.filter fun x => (x 0).val = 2 * (t / 128) + h ∧ (x 1).val = t % 128

/-- What is fixed while the streams run. -/
structure SC (F : FTy → Type) where
  d : Dev nD
  L : grid0.Coords
  I : In F
  h : ℕ
  ι : ℕ
  q : PosShare TreeShare
  f : Vec F S4096x16 .f32
  hh : h < 2
  hin : ∀ k p, k < 16 → p < 256 → (gw I k p).toNat < 2097152

/-- Row `r` of the rows buffer in write mode. -/
def RW (C : SC F) (r : ℕ) (W : Finset S4096x16.Idx) : sProp 𝕄 :=
  willBeTo (Ix := HIx 1) (Name := ℕ) (Lvl := ℕ) (EW (F := F)) ((rV).view.loc (thr C.d C.L)) (rowS r) C.q C.f
        (fun x : S4096x16.Idx => some (gT C.I x)) W
def GE (C : SC F) (t : ℕ) : sProp 𝕄 := iprop((gV).view.loc (thr C.d C.L) ↦[elS C.h t]{fullShare} (gF C.I : Vec F S32x128 .i32))
def PreT (C : SC F) (t : Fin 2048) : sProp 𝕄 := iprop(RW C (rT C.h t.val) ∅ ∗ GE C t.val)
def PstT (C : SC F) (t : Fin 2048) : sProp 𝕄 := iprop(RW C (rT C.h t.val) (rowS (rT C.h t.val)) ∗ GE C t.val)

instance (C : SC F) (t : Fin 2048) : BI.Storable (upEmb : UEmb _ 𝕄) (PstT C t) := by unfold PstT RW GE; infer_instance

def XS (C : SC F) : sProp 𝕄 := iprop(∃ q : PosShare TreeShare, (xV).view.loc (thr C.d C.L) ↦{q} (C.I.X : Vec F S2097152x16 .f32))
def WI (C : SC F) : sProp 𝕄 := wmInv (Ix := HIx 1) (Lvl := ℕ) (EW (F := F)) C.ι

instance (C : SC F) : BI.Persistent (WI C) := by unfold WI; infer_instance

/-- The streams' state once `k` of a half are issued. -/
def Sm (C : SC F) (sem : DmaSem sig) (k : ℕ) : sProp 𝕄 :=
  iprop(WI C ∗ XS C ∗ bigSep (Transfers.pending (128 * k)) (PreT C)
    ∗ Transfers.Batch countersEmb (thr C.d C.L) (.dma sem) (default : HIx 1) 512 (PstT C) (128 * k) 0)

theorem sq_idx (j : Fin 128) : Shape.reshapeEquiv squeezes_S1x128_S128.numel_eq (S128.rowMajor.symm j) = Shape.pair (d := S1x128.size) (0 : Fin 1) j := by
  apply Shape.reshapeEquiv_eq_of_rowMajor
  refine (Shape.rowMajor_pair_val (d := S1x128.size) (0 : Fin 1) j).trans ?_
  refine Eq.trans ?_ (congrArg Fin.val (Equiv.apply_symm_apply S128.rowMajor j)).symm
  show 0 * 128 + j.val = j.val; omega

section Issue
variable {C : SC F} {sem : DmaSem sig}

/-- The whole-row view of one row of a stream's destination. -/
theorem row_set (n r : ℕ) {inb : ∀ a, (![n, 0] : Fin 2 → ℕ) a + S128x16.size a ≤ S4096x16.size a} (h0) (j : Fin 128) (hr : r = n + j.val) :
    ((((rV).slice (Rect.unit (s := S4096x16) ![n, 0] S128x16.size inb) h0).view).slice (S128x16.rowRect 0 j)).set = rowS r := by
  subst hr
  ext x
  unfold rowS View.set
  rw [Finset.mem_map, Finset.mem_filter]
  constructor
  · rintro ⟨y, -, rfl⟩
    refine ⟨Finset.mem_univ _, ?_⟩
    have hy : (y 0).val < 1 := (y 0).isLt
    show n + 1 * (j.val + 1 * (y 0).val) = n + j.val
    omega
  · rintro ⟨-, hx⟩
    refine ⟨(fun | 0 => (⟨0, Nat.one_pos⟩ : Fin 1) | 1 => (⟨(x 1).val, (x 1).isLt⟩ : Fin 16)), Finset.mem_univ _, ?_⟩
    funext a; apply Fin.ext
    match a with
    | 0 => show n + 1 * (j.val + 1 * 0) = (x 0).val; omega
    | 1 => show 0 + 1 * (0 + 1 * (x 1).val) = (x 1).val; omega

/-- The word of a stream's list that leads its `j`-th row. -/
theorem el_emb (m : ℕ) {inb : ∀ a, (![m, 0] : Fin 2 → ℕ) a + S1x128.size a ≤ S32x128.size a} (h0) (j : Fin 128) (hm : m < 32) :
    (((gV).slice (Rect.unit (s := S32x128) ![m, 0] S1x128.size inb) h0).squeeze S128 squeezes_S1x128_S128).view.emb (S128.rowMajor.symm j)
      = (Shape.pair (d := S32x128.size) (⟨m, hm⟩ : Fin 32) j : S32x128.Idx) := by
  have e : (((gV).slice (Rect.unit (s := S32x128) ![m, 0] S1x128.size inb) h0).squeeze S128 squeezes_S1x128_S128).view.emb (S128.rowMajor.symm j)
      = ((gV).slice (Rect.unit (s := S32x128) ![m, 0] S1x128.size inb) h0).view.emb (Shape.reshapeEquiv squeezes_S1x128_S128.numel_eq (S128.rowMajor.symm j)) := rfl
  rw [e, sq_idx]
  funext a; apply Fin.ext
  match a with
  | 0 => show m + 1 * 0 = m; omega
  | 1 => show 0 + 1 * j.val = j.val; omega

theorem el_set (h t m : ℕ) (hm : m < 32) (j : Fin 128) (e0 : m = 2 * (t / 128) + h) (e1 : j.val = t % 128) :
    ({(Shape.pair (d := S32x128.size) (⟨m, hm⟩ : Fin 32) j : S32x128.Idx)} : Finset S32x128.Idx) = elS h t := by
  ext x
  unfold elS
  rw [Finset.mem_singleton, Finset.mem_filter]
  constructor
  · rintro rfl; exact ⟨Finset.mem_univ _, e0, e1⟩
  · rintro ⟨-, h0, h1⟩
    funext a; apply Fin.ext
    match a with
    | 0 => show (x 0).val = m; omega
    | 1 => show (x 1).val = j.val; omega

theorem gF_pair (I : In F) (m : ℕ) (hm : m < 32) (j : Fin 128) :
    gF I (Shape.pair (d := S32x128.size) (⟨m, hm⟩ : Fin 32) j : S32x128.Idx) = gw I (m / 2) (m % 2 * 128 + j.val) := rfl

theorem numel_pos : 0 < S128x16.numel := by decide +kernel

theorem row_credit (n : ℕ) {inb : ∀ a, (![n, 0] : Fin 2 → ℕ) a + S128x16.size a ≤ S4096x16.size a} (h0)
    (j : Fin (S128x16.size gathers_S2097152x16_S128x16.axis')) :
    ((((rV).slice (Rect.unit (s := S4096x16) ![n, 0] S128x16.size inb) h0).slice (S128x16.rowRect gathers_S2097152x16_S128x16.axis' j) (S128x16.stride_rowRect gathers_S2097152x16_S128x16.axis' j))).view.dmaCredit = 512 := rfl

theorem st_issue {α : Type} {A : sProp 𝕄} {Q : α → sProp 𝕄} (k n m : ℕ) (hk : k < 16) (hm : m = 2 * k + C.h) (hn : n = 128 * (2 * k + C.h))
    {i0 : ∀ a, (![0, 0] : Fin 2 → ℕ) a + S2097152x16.size a ≤ S2097152x16.size a} {h0}
    {i1 : ∀ a, (![n, 0] : Fin 2 → ℕ) a + S128x16.size a ≤ S4096x16.size a} {h1}
    {i2 : ∀ a, (![m, 0] : Fin 2 → ℕ) a + S1x128.size a ≤ S32x128.size a} {h2} {hp} {hne} {hw} {he} {hsp} {hr}
    {kont : PUnit → Prog (TpuEff nD τ sig (Elt F) Λ₀ (thr C.d C.L).2) α}
    (hkont : iprop(Sm C sem (k + 1) ∗ A) ⊢ wpk (thr C.d C.L) (kont ⟨⟩) Q) :
    iprop(Sm C sem k ∗ A) ⊢ wpk (thr C.d C.L)
      (SparseCore.enqueueIndirectGather hp ((xV).slice (Rect.unit (s := S2097152x16) ![0, 0] S2097152x16.size i0) h0)
        ((rV).slice (Rect.unit (s := S4096x16) ![n, 0] S128x16.size i1) h1) gathers_S2097152x16_S128x16
        (((gV).slice (Rect.unit (s := S32x128) ![m, 0] S1x128.size i2) h2).squeeze S128 squeezes_S1x128_S128) hne sem hw he hsp hr >>= kont) Q := by
  have hC := C.hh
  have hm32 : m < 32 := by omega
  have hfo : ∀ j : Fin 128, ((((gV).slice (Rect.unit (s := S32x128) ![m, 0] S1x128.size i2) h2).squeeze S128 squeezes_S1x128_S128).view.read (Elt F) (gF C.I)
      (S128.rowMajor.symm j)) = gw C.I (m / 2) (m % 2 * 128 + j.val) := fun j => by
    rw [View.read_apply]
    exact (congrArg (gF C.I) (el_emb m h2 j hm32)).trans (gF_pair C.I m hm32 j)
  have hin : ∀ x, ((((gV).slice (Rect.unit (s := S32x128) ![m, 0] S1x128.size i2) h2).squeeze S128 squeezes_S1x128_S128).view.read (Elt F) (gF C.I) x).toNat
      < S2097152x16.size gathers_S2097152x16_S128x16.axis := fun x => by
    have hx := hfo (S128.rowMajor x)
    rw [Equiv.symm_apply_apply] at hx
    rw [hx]
    refine C.hin _ _ (by omega) ?_
    have := (S128.rowMajor x).isLt
    have h128 : (S128.rowMajor x).val < 128 := this
    omega
  have hpre : ∀ j : Fin 128, iprop(WI C ∗ PreT C ⟨128 * k + j.val, by omega⟩) ⊢
      iprop(((((gV).slice (Rect.unit (s := S32x128) ![m, 0] S1x128.size i2) h2).squeeze S128 squeezes_S1x128_S128).view.loc (thr C.d C.L)
          ↦[{(((gV).slice (Rect.unit (s := S32x128) ![m, 0] S1x128.size i2) h2).squeeze S128 squeezes_S1x128_S128).view.emb (S128.rowMajor.symm (j.cast hne.symm))}]{fullShare} (gF C.I))
        ∗ (((((gV).slice (Rect.unit (s := S32x128) ![m, 0] S1x128.size i2) h2).squeeze S128 squeezes_S1x128_S128).view.loc (thr C.d C.L)
          ↦[{(((gV).slice (Rect.unit (s := S32x128) ![m, 0] S1x128.size i2) h2).squeeze S128 squeezes_S1x128_S128).view.emb (S128.rowMajor.symm (j.cast hne.symm))}]{fullShare} (gF C.I)) -∗
            writeUpdate (thr C.d C.L) (((rV).slice (Rect.unit (s := S4096x16) ![n, 0] S128x16.size i1) h1).view.slice (S128x16.rowRect gathers_S2097152x16_S128x16.axis' j))
              (fun i => ((xV).slice (Rect.unit (s := S2097152x16) ![0, 0] S2097152x16.size i0) h0).view.read (Elt F) C.I.X (gathers_S2097152x16_S128x16.rowIdx
                (SparseCore.rows ((((gV).slice (Rect.unit (s := S32x128) ![m, 0] S1x128.size i2) h2).squeeze S128 squeezes_S1x128_S128).view.read (Elt F) (gF C.I)) hne hin j) i))
              (PstT C ⟨128 * k + j.val, by omega⟩))) := fun j => by
    have ej : (((gV).slice (Rect.unit (s := S32x128) ![m, 0] S1x128.size i2) h2).squeeze S128 squeezes_S1x128_S128).view.emb (S128.rowMajor.symm (j.cast hne.symm))
        = (Shape.pair (d := S32x128.size) (⟨m, hm32⟩ : Fin 32) j : S32x128.Idx) := el_emb m h2 j hm32
    have es := el_set C.h (128 * k + j.val) m hm32 j (by omega) (by omega)
    have er := row_set n (rT C.h (128 * k + j.val)) h1 j (by unfold rT; omega)
    rw [ej, es]
    unfold PreT PstT GE RW WI
    iintro ⟨#HI, Hw, Hg⟩
    isplitl [Hg]; · iexact Hg
    iintro Hg
    have hadm : (((rV).slice (Rect.unit (s := S4096x16) ![n, 0] S128x16.size i1) h1).view.slice (S128x16.rowRect gathers_S2097152x16_S128x16.axis' j)).Admitted (Elt F)
        (fun x : S4096x16.Idx => some (gT C.I x))
        (fun i => ((xV).slice (Rect.unit (s := S2097152x16) ![0, 0] S2097152x16.size i0) h0).view.read (Elt F) C.I.X (gathers_S2097152x16_S128x16.rowIdx
          (SparseCore.rows ((((gV).slice (Rect.unit (s := S32x128) ![m, 0] S1x128.size i2) h2).squeeze S128 squeezes_S1x128_S128).view.read (Elt F) (gF C.I)) hne hin j) i))
        Finset.univ := by
      intro x _ u hu
      have hx0 : (x 0).val < 1 := (x 0).isLt
      have hu' : some (gt C.I (n + 1 * (j.val + 1 * (x 0).val)) (0 + 1 * (0 + 1 * (x 1).val))) = some u := hu
      refine Eq.trans ?_ (Option.some.inj hu')
      have hfj := hfo j
      have hl := hin (S128.rowMajor.symm (j.cast hne.symm))
      have hlt : (gw C.I (m / 2) (m % 2 * 128 + j.val)).toNat < 2097152 := by rw [← hfj]; exact hl
      have en : (n + 1 * (j.val + 1 * (x 0).val)) / 256 = m / 2 := by omega
      have ep : (n + 1 * (j.val + 1 * (x 0).val)) % 256 = m % 2 * 128 + j.val := by omega
      unfold gt xAt
      rw [en, ep]
      show C.I.X _ = C.I.X _
      congr 1
      funext a; apply Fin.ext
      match a with
      | 0 =>
        show 0 + 1 * (((((gV).slice (Rect.unit (s := S32x128) ![m, 0] S1x128.size i2) h2).squeeze S128 squeezes_S1x128_S128).view.read (Elt F) (gF C.I))
          (S128.rowMajor.symm j)).toNat = (gw C.I (m / 2) (m % 2 * 128 + j.val)).toNat % 2097152
        rw [hfj, Nat.mod_eq_of_lt hlt]; omega
      | 1 =>
        have h16 : (x 1).val < 16 := (x 1).isLt
        show 0 + 1 * (x 1).val = (0 + 1 * (0 + 1 * (x 1).val)) % 16
        omega
    have hwu := willBeTo_writeUpdate (Ix := HIx 1) (Name := ℕ) (Lvl := ℕ) (emb := EW (F := F)) (ιwm := C.ι) (thr C.d C.L)
      (v := ((rV).slice (Rect.unit (s := S4096x16) ![n, 0] S128x16.size i1) h1).view.slice (S128x16.rowRect gathers_S2097152x16_S128x16.axis' j)) (q := C.q) (f := C.f)
      (W := (∅ : Finset S4096x16.Idx)) (S := (rowS (rT C.h (128 * k + j.val)) : Finset S4096x16.Idx)) er.le hadm
    have er' : ((((rV).slice (Rect.unit (s := S4096x16) ![n, 0] S128x16.size i1) h1).view.slice (S128x16.rowRect gathers_S2097152x16_S128x16.axis' j))).set = rowS (rT C.h (128 * k + j.val)) := er
    rw [er', Finset.empty_union] at hwu
    iapply (writeUpdate_frame (thr C.d C.L))
    isplitl [Hw]
    · iapply hwu
      isplitr; · iexact HI
      iexact Hw
    iexact Hg
  refine tr (B := iprop((∃ q : PosShare TreeShare, ((xV).slice (Rect.unit (s := S2097152x16) ![0, 0] S2097152x16.size i0) h0).view.loc (thr C.d C.L) ↦[((xV).slice (Rect.unit (s := S2097152x16) ![0, 0] S2097152x16.size i0) h0).view.set]{q} (C.I.X : Vec F S2097152x16 .f32))
      ∗ (Sm C sem k ∗ A))) ?_ ?_
  · unfold Sm XS
    iintro ⟨⟨#HI, ⟨%q, HX⟩, HP, HB⟩, HA⟩
    ihave HX' := (pointsTo_share (PosShare.mem_left_op_right q)).1 $$ HX
    icases HX' with ⟨Ha, Hb⟩
    isplitl [Ha]
    · iexists q.left
      ihave Ha' := (pointsTo_split_subset (Finset.subset_univ (((xV).slice (Rect.unit (s := S2097152x16) ![0, 0] S2097152x16.size i0) h0).view.set : Finset S2097152x16.Idx))).1 $$ Ha
      icases Ha' with ⟨Ha, -⟩
      iexact Ha
    isplitr [HA]
    · isplitr; · iexact HI
      isplitl [Hb]; · iexists q.right; iexact Hb
      isplitl [HP] <;> iassumption
    iexact HA
  iintro ⟨⟨%q, Hx⟩, HS, HA⟩
  have key := Cert.Proof.Streams.wp_gatherBatch (defs := defs₀ (F := F)) countersEmb 𝒱₀ (thr C.d C.L) none
    (src := (xV).slice (Rect.unit (s := S2097152x16) ![0, 0] S2097152x16.size i0) h0)
    (dst := (rV).slice (Rect.unit (s := S4096x16) ![n, 0] S128x16.size i1) h1) (hg := gathers_S2097152x16_S128x16)
    (offs := ((gV).slice (Rect.unit (s := S32x128) ![m, 0] S1x128.size i2) h2).squeeze S128 squeezes_S1x128_S128)
    (hn := hne) (sem := sem) (hp := hp) (hsrc := hw) (he := he) (hsp := hsp) (hr := hr) (k := kont) (Q := Q)
    (q := q) (qo := fullShare) (fs := C.I.X) (fo := gF C.I) (default : HIx 1) 512 (row_credit n h1) numel_pos hin
    (WI C) (PreT C) (PstT C) (128 * k) (by show 128 * k + 128 ≤ 2048; omega)
    (fun j => hpre j)
  unfold Sm
  icases HS with ⟨#HI, HX, HP, HB⟩
  iapply key $$ [Hx HP HB]
  · isplitr; · iexact HI
    isplitl [Hx]; · iexact Hx
    isplitl [HP] <;> iassumption
  iintro ⟨HP, HB⟩
  iapply hkont
  isplitr [HA]
  · unfold Sm
    isplitr; · iexact HI
    isplitl [HX]; · iexact HX
    isplitl [HP]; · iexact HP
    iexact HB
  iexact HA

end Issue

end Cert.Kernel.Tile
-- ==== Proof.KMode.lean ====
module

public import proofs.«01_k».proof.Proof.KStream

@[expose] public section

noncomputable section

namespace Cert.Kernel.Tile

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ (UU F) ℕ
local notation "slV" => (Memref.whole Cert.Kernel.cc0_scratch0 : Memref Cert.Kernel.sig Kind.scVector Space.vmem Cert.Kernel.S256 EltTy.i32)
local notation "scV" => (Memref.whole Cert.Kernel.cc0_scratch1 : Memref Cert.Kernel.sig Kind.scVector Space.vmem Cert.Kernel.S256 EltTy.i32)
local notation "gV" => (Memref.whole Cert.Kernel.cc0_scratch2 : Memref Cert.Kernel.sig Kind.scVector Space.vmem Cert.Kernel.S32x128 EltTy.i32)
local notation "rV" => (Memref.whole Cert.Kernel.cc0_scratch3 : Memref Cert.Kernel.sig Kind.scVector Space.vmem Cert.Kernel.S4096x16 EltTy.f32)
local notation "pV" => (Memref.whole Cert.Kernel.cc0_scratch4 : Memref Cert.Kernel.sig Kind.scVector Space.vmem Cert.Kernel.S136x256 EltTy.f32)

/-! ## The rows buffer in write mode: shares and pieces -/

/-- A piece of the rows buffer in write mode. -/
def RWS (d : Dev nD) (L : grid0.Coords) (I : In F) (f : Vec F S4096x16 .f32) (S : Finset S4096x16.Idx) (q : PosShare TreeShare) (W : Finset S4096x16.Idx) : sProp 𝕄 :=
  willBeTo (Ix := HIx 1) (Name := ℕ) (Lvl := ℕ) (EW (F := F)) ((rV).view.loc (thr d L)) S q f
        (fun x : S4096x16.Idx => some (gT I x)) W

def ev (h : ℕ) : Finset S4096x16.Idx := Finset.univ.filter fun x => (x 0).val / 128 % 2 = h

theorem eqv {A B : sProp (MT nD τ sig (HIx 1) (Elt F) ℕ (UU F) ℕ)} (h : A ⊢ B) (h' : B ⊢ A) : A = B := BI.equiv_iff.mp ⟨h, h'⟩
theorem asc (A B C : sProp (MT nD τ sig (HIx 1) (Elt F) ℕ (UU F) ℕ)) : iprop(A ∗ B ∗ C) = iprop((A ∗ B) ∗ C) := eqv (Laws.sep_assoc).2 (Laws.sep_assoc).1
theorem cmm (A B : sProp (MT nD τ sig (HIx 1) (Elt F) ℕ (UU F) ℕ)) : iprop(A ∗ B) = iprop(B ∗ A) := eqv sep_comm.1 sep_comm.1

section Mode
variable {d : Dev nD} {L : grid0.Coords} {I : In F} {f : Vec F S4096x16 .f32} {q : PosShare TreeShare} {S S' W W₁ W₂ : Finset S4096x16.Idx}

theorem rws_congr (h : ∀ i ∈ S, (i ∈ W ↔ i ∈ W₁)) : (RWS d L I f S q W : sProp 𝕄) = RWS d L I f S q W₁ :=
  BI.Region.willBe_congr (fun _ _ => rfl) (fun _ _ => rfl) h

theorem rws_share (h : ∀ i ∈ S, (i ∈ W ↔ i ∈ W₁ ∨ i ∈ W₂)) :
    (RWS d L I f S q W : sProp 𝕄) = iprop(RWS d L I f S q.left W₁ ∗ RWS d L I f S q.right W₂) := by
  have hz : ∀ i ∈ S, Idealize.SL.RA.Region.WB.mk (f i) (some (gT I i) : Option (Elt F .f32)) (decide (i ∈ W)) ∈ PCS.op (Idealize.SL.RA.Region.WB.mk (f i) (some (gT I i)) (decide (i ∈ W₁))) (Idealize.SL.RA.Region.WB.mk (f i) (some (gT I i)) (decide (i ∈ W₂))) := fun i hi => by
    have e : decide (i ∈ W) = (decide (i ∈ W₁) || decide (i ∈ W₂)) := by
      rw [← Bool.decide_or]; exact decide_eq_decide.mpr (h i hi)
    rw [e]
    exact Idealize.SL.RA.Region.WB.mem_mk_op_mk _ _ _ _
  have hs := BI.Region.held_share (ι := (wmEmb (nD := nD) (τ := τ) (sig := sig) (Name := ℕ) (Lvl := ℕ) (HIx 1) (EW (F := F))).toEmb) (k := (rV).view.loc (thr d L)) (I := S)
    (PosShare.mem_left_op_right q) hz
  exact eqv hs.1 hs.2

theorem rws_union (h : Disjoint S S') :
    (RWS d L I f (S ∪ S') q W : sProp 𝕄) = iprop(RWS d L I f S q W ∗ RWS d L I f S' q W) :=
  have hs := BI.Region.held_union (ι := (wmEmb (nD := nD) (τ := τ) (sig := sig) (Name := ℕ) (Lvl := ℕ) (HIx 1) (EW (F := F))).toEmb) (k := (rV).view.loc (thr d L)) (q := q)
    (x := fun i => Idealize.SL.RA.Region.WB.mk (f i) (some (gT I i) : Option (Elt F .f32)) (decide (i ∈ W))) (I := S) (J := S') h
  eqv hs.1 hs.2

theorem rws_empty : (RWS d L I f ∅ q W : sProp 𝕄) = iprop(emp) := by
  unfold RWS willBeTo BI.Region.willBe BI.Region.held Region.part
  rw [Region.cells_empty, IProd.single_one, Auth.frag_one]
  exact BI.own_one

theorem rws_biUnion {T : Type} [DecidableEq T] (U : Finset T) (K : T → Finset S4096x16.Idx) (h : ∀ t ∈ U, ∀ t' ∈ U, t ≠ t' → Disjoint (K t) (K t')) :
    (RWS d L I f (U.biUnion K) q W : sProp 𝕄) = bigSep U fun t => RWS d L I f (K t) q W := by
  induction U using Finset.induction_on with
  | empty => rw [Finset.biUnion_empty, rws_empty, bigSep_empty]; rfl
  | insert t U ht ih =>
    rw [Finset.biUnion_insert, bigSep_insert ht, rws_union ?_, ih fun a ha b hb => h a (Finset.mem_insert_of_mem ha) b (Finset.mem_insert_of_mem hb)]
    · rfl
    exact (Finset.disjoint_biUnion_right _ _ _).mpr fun t' ht' =>
        h t (Finset.mem_insert_self _ _) t' (Finset.mem_insert_of_mem ht') (fun e => ht (e ▸ ht'))

theorem ev_rows (h : ℕ) (hh : h < 2) : ev h = (Finset.univ : Finset (Fin 2048)).biUnion fun t => rowS (rT h t.val) := by
  ext x
  unfold ev rowS rT
  simp only [Finset.mem_filter, Finset.mem_univ, true_and, Finset.mem_biUnion]
  have hx : (x 0).val < 4096 := (x 0).isLt
  constructor
  · intro hm
    exact ⟨⟨128 * ((x 0).val / 256) + (x 0).val % 128, by omega⟩, by show (x 0).val = 128 * (2 * ((128 * ((x 0).val / 256) + (x 0).val % 128) / 128) + h) + (128 * ((x 0).val / 256) + (x 0).val % 128) % 128; omega⟩
  · rintro ⟨t, ht⟩; omega

theorem rws_fam (h : ℕ) (hh : h < 2) :
    (bigSep (Finset.univ : Finset (Fin 2048)) fun t => RWS d L I f (rowS (rT h t.val)) q W) = (RWS d L I f (ev h) q W : sProp 𝕄) := by
  rw [ev_rows h hh, rws_biUnion]
  intro t _ t' _ hne
  rw [Finset.disjoint_left]
  intro x hx hx'
  unfold rowS at hx hx'
  rw [Finset.mem_filter] at hx hx'
  refine hne (Fin.ext ?_)
  have h1 := hx.2; have h2 := hx'.2
  unfold rT at h1 h2
  omega

theorem ev_univ : (ev 0 ∪ ev 1) = Finset.univ := by
  ext x; unfold ev
  simp only [Finset.mem_union, Finset.mem_filter, Finset.mem_univ, true_and, iff_true]
  omega
theorem ev_disj : Disjoint (ev 0) (ev 1) := by
  rw [Finset.disjoint_left]; intro x hx hx'
  unfold ev at hx hx'
  rw [Finset.mem_filter] at hx hx'
  omega

/-- At the start: the reader's share of the whole, and the writers' of the two halves. -/
theorem rws_open : (RWS d L I f Finset.univ q ∅ : sProp 𝕄)
    = iprop(RWS d L I f Finset.univ q.right ∅ ∗ RWS d L I f (ev 0) q.left ∅ ∗ RWS d L I f (ev 1) q.left ∅) := by
  rw [rws_share (W₁ := ∅) (W₂ := ∅) (fun i _ => by simp), ← rws_union ev_disj, ev_univ]
  exact cmm _ _

/-- Once the first half's rows are there, the reader knows so. -/
theorem rws_even : (iprop(RWS d L I f (ev 0) q.left (ev 0) ∗ RWS d L I f Finset.univ q.right ∅) : sProp 𝕄)
    = iprop(RWS d L I f (ev 0) q.left (ev 0) ∗ RWS d L I f Finset.univ q.right (ev 0)) := by
  rw [← ev_univ, rws_union ev_disj, rws_union ev_disj,
    asc, asc (RWS d L I f (ev 0) q.left (ev 0)),
    ← rws_share (W := ev 0) (W₁ := ev 0) (W₂ := ∅) (fun i _ => by simp), ← rws_share (W := ev 0) (W₁ := ev 0) (W₂ := ev 0) (fun i _ => by simp),
    rws_congr (S := ev 1) (W := ∅) (W₁ := ev 0) fun i hi => ⟨fun h => absurd h (Finset.notMem_empty _), fun h => absurd hi (Finset.disjoint_left.mp ev_disj h)⟩]

/-- Once all rows are there, the whole is one again. -/
theorem rws_close : (iprop(RWS d L I f (ev 0) q.left (ev 0) ∗ RWS d L I f (ev 1) q.left (ev 1) ∗ RWS d L I f Finset.univ q.right (ev 0)) : sProp 𝕄)
    = RWS d L I f Finset.univ q Finset.univ := by
  rw [rws_congr (S := ev 0) (W := ev 0) (W₁ := Finset.univ) (fun i hi => ⟨fun _ => Finset.mem_univ _, fun _ => hi⟩),
    rws_congr (S := ev 1) (W := ev 1) (W₁ := Finset.univ) (fun i hi => ⟨fun _ => Finset.mem_univ _, fun _ => hi⟩),
    asc, ← rws_union ev_disj, ev_univ,
    ← rws_share (W := Finset.univ) (fun i _ => by simp)]

end Mode
end Cert.Kernel.Tile
-- ==== Proof.KBuild.lean ====
/-
  The building of the index table and of the time rows: the state between two steps, the rules of a step, the two loops' bodies.
-/
module

public import proofs.«01_k».proof.Proof.KExt

@[expose] public section

noncomputable section

namespace Cert.Kernel.Tile

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ (UU F) ℕ
local notation "slV" => (Memref.whole Cert.Kernel.cc0_scratch0 : Memref Cert.Kernel.sig Kind.scVector Space.vmem Cert.Kernel.S256 EltTy.i32)
local notation "scV" => (Memref.whole Cert.Kernel.cc0_scratch1 : Memref Cert.Kernel.sig Kind.scVector Space.vmem Cert.Kernel.S256 EltTy.i32)
local notation "gV" => (Memref.whole Cert.Kernel.cc0_scratch2 : Memref Cert.Kernel.sig Kind.scVector Space.vmem Cert.Kernel.S32x128 EltTy.i32)
local notation "rV" => (Memref.whole Cert.Kernel.cc0_scratch3 : Memref Cert.Kernel.sig Kind.scVector Space.vmem Cert.Kernel.S4096x16 EltTy.f32)
local notation "pV" => (Memref.whole Cert.Kernel.cc0_scratch4 : Memref Cert.Kernel.sig Kind.scVector Space.vmem Cert.Kernel.S136x256 EltTy.f32)

/-- What stays fixed while one block of sixteen patches is built: the task, its inputs, the half of the patches, what else
    is held, the block's number in its half. -/
structure BC (F : FTy → Type) where
  d : Dev nD
  L : grid0.Coords
  I : In F
  h : ℕ
  Fr : sProp (MT nD τ sig (HIx 1) (Elt F) ℕ (UU F) ℕ)
  c : ℕ

/-- The index words of half `h` that are right once the blocks before `c` are built and, of block `c`, the first `k` words of a patch. -/
def GX (h c k r c' : ℕ) : Prop := r % 2 = h → c' < c ∨ (c' = c ∧ r / 2 < k)
/-- The time rows' entries that are right once the blocks before `c` are built and, of block `c`, the rows before `u`. -/
def BD (c u r c' : ℕ) : Prop := 128 ≤ r ∧ (c' < c ∨ (c' = c ∧ r < u))

/-- The first starts as a task holds them. -/
def Slv (d : Dev nD) (L : grid0.Coords) (I : In F) : sProp 𝕄 :=
  iprop(∃ f : Vec F S256 .i32, ⌜∀ x : S256.Idx, f x = I.sl (x 0).val⌝ ∗ (slV).view.loc (thr d L) ↦{fullShare} f)

/-- The state between two steps. -/
def Sb (B : BC F) (k u : ℕ) : sProp 𝕄 :=
  iprop((Slv B.d B.L B.I ∗ Scv B.d B.L B.I ∗ B.Fr) ∗ Gix B.d B.L B.I B.h (GX B.h B.c k) ∗ Pat B.d B.L B.I (BD (8 * B.h + B.c) u))

section
variable {α : Type}

theorem bd_loadsl {B : BC F} {Q : α → sProp 𝕄} {k' u n : ℕ} {off : Fin 1 → ℕ} {inb}
    {hl : (slV).view.LoadsAt (Rect.unit (s := S256) off S16.size inb).toLoadRect}
    {k : Vec F S16 .i32 → Prog (TpuEff nD τ sig (Elt F) Λ₀ (thr B.d B.L).2) α}
    (ho : off = ![n]) (hn : n = 16 * (8 * B.h + B.c))
    (hk : ∀ v : Vec F S16 .i32, (∀ x, v x = B.I.sl (16 * (8 * B.h + B.c) + (x 0).val)) → Sb B k' u ⊢ wpk (thr B.d B.L) (k v) Q) :
    Sb B k' u ⊢ wpk (thr B.d B.L) (Prog.lift (.load slV (Rect.unit (s := S256) off S16.size inb).toLoadRect hl) >>= k) Q := by
  subst hn; subst ho
  refine tr (B := iprop(∃ f : Vec F S256 .i32, ⌜∀ x : S256.Idx, f x = B.I.sl (x 0).val⌝ ∗ (((slV).view.loc (thr B.d B.L) ↦{fullShare} f)
      ∗ ((Scv B.d B.L B.I ∗ B.Fr) ∗ Gix B.d B.L B.I B.h (GX B.h B.c k') ∗ Pat B.d B.L B.I (BD (8 * B.h + B.c) u))))) ?_ ?_
  · unfold Sb Slv
    iintro ⟨⟨⟨%f, %hf, H⟩, HF⟩, HP⟩
    iexists f; isplitr; · ipureintro; exact hf
    isplitl [H]; · iexact H
    isplitl [HF] <;> iassumption
  · refine exists_elim fun f => ?_
    refine pureL fun hf => ?_
    refine step_load (t := thr B.d B.L) (m := slV) (hl := hl) (S := Finset.univ) (f := f) (Finset.subset_univ _) ?_
    refine tr ?_ (hk _ ?_)
    · unfold Sb Slv
      iintro ⟨H, HF, HP⟩
      isplitl [H HF]
      · isplitl [H]
        · iexists f; isplitr; · ipureintro; exact hf
          iexact H
        · iexact HF
      · iexact HP
    · intro x
      refine (hf _).trans ?_
      congr 1
      show 16 * (8 * B.h + B.c) + 1 * (x 0).val = _
      omega

theorem bd_loadsc {B : BC F} {Q : α → sProp 𝕄} {k' u n : ℕ} {off : Fin 1 → ℕ} {inb}
    {hl : (scV).view.LoadsAt (Rect.unit (s := S256) off S16.size inb).toLoadRect}
    {k : Vec F S16 .i32 → Prog (TpuEff nD τ sig (Elt F) Λ₀ (thr B.d B.L).2) α}
    (ho : off = ![n]) (hn : n = 16 * (8 * B.h + B.c))
    (hk : ∀ v : Vec F S16 .i32, (∀ x, v x = B.I.sc (16 * (8 * B.h + B.c) + (x 0).val)) → Sb B k' u ⊢ wpk (thr B.d B.L) (k v) Q) :
    Sb B k' u ⊢ wpk (thr B.d B.L) (Prog.lift (.load scV (Rect.unit (s := S256) off S16.size inb).toLoadRect hl) >>= k) Q := by
  subst hn; subst ho
  refine tr (B := iprop(∃ f : Vec F S256 .i32, ⌜∀ x : S256.Idx, f x = B.I.sc (x 0).val⌝ ∗ (((scV).view.loc (thr B.d B.L) ↦{fullShare} f)
      ∗ (Slv B.d B.L B.I ∗ B.Fr) ∗ Gix B.d B.L B.I B.h (GX B.h B.c k') ∗ Pat B.d B.L B.I (BD (8 * B.h + B.c) u)))) ?_ ?_
  · unfold Sb Scv
    iintro ⟨⟨HS, ⟨%f, %hf, H⟩, HF⟩, HP⟩
    iexists f; isplitr; · ipureintro; exact hf
    isplitl [H]; · iexact H
    isplitl [HS HF]
    · isplitl [HS] <;> iassumption
    · iexact HP
  · refine exists_elim fun f => ?_
    refine pureL fun hf => ?_
    refine step_load (t := thr B.d B.L) (m := scV) (hl := hl) (S := Finset.univ) (f := f) (Finset.subset_univ _) ?_
    refine tr ?_ (hk _ ?_)
    · unfold Sb Scv
      iintro ⟨H, ⟨HS, HF⟩, HP⟩
      isplitl [H HF HS]
      · isplitl [HS]; · iexact HS
        isplitl [H]
        · iexists f; isplitr; · ipureintro; exact hf
          iexact H
        · iexact HF
      · iexact HP
    · intro x
      refine (hf _).trans ?_
      congr 1
      show 16 * (8 * B.h + B.c) + 1 * (x 0).val = _
      omega

theorem bd_gload {B : BC F} {Q : α → sProp 𝕄} {k' u : ℕ} (k₀ : ℕ) {off : Fin 2 → ℕ} {inb}
    {hl : (gV).view.LoadsAt (Rect.unit (s := S32x128) off S1x16.size inb).toLoadRect}
    {k : Vec F S1x16 .i32 → Prog (TpuEff nD τ sig (Elt F) Λ₀ (thr B.d B.L).2) α}
    (ho : off = ![2 * k₀ + B.h, 16 * B.c]) (hh : B.h < 2)
    (hk : ∀ v, Sb B k' u ⊢ wpk (thr B.d B.L) (k v) Q) :
    Sb B k' u ⊢ wpk (thr B.d B.L) (Prog.lift (.load gV (Rect.unit (s := S32x128) off S1x16.size inb).toLoadRect hl) >>= k) Q := by
  refine tr (B := iprop(((Slv B.d B.L B.I ∗ Scv B.d B.L B.I ∗ B.Fr) ∗ Pat B.d B.L B.I (BD (8 * B.h + B.c) u)) ∗ Gix B.d B.L B.I B.h (GX B.h B.c k'))) ?_
    (gix_load (2 * k₀ + B.h) B.c (by omega) ho fun v => tr ?_ (hk v))
  · unfold Sb; iintro ⟨H1, H2, H3⟩
    isplitl [H1 H3]; · isplitl [H1] <;> iassumption
    iexact H2
  · unfold Sb; iintro ⟨⟨H1, H3⟩, H2⟩
    isplitl [H1]; · iexact H1
    isplitl [H2] <;> iassumption

theorem bd_gstore {B : BC F} {Q : α → sProp 𝕄} {u : ℕ} (k₀ : ℕ) {off : Fin 2 → ℕ} {inb} {v : S16.Idx → BitVec 32} {hx} {hm}
    {k : PUnit → Prog (TpuEff nD τ sig (Elt F) Λ₀ (thr B.d B.L).2) α}
    (ho : off = ![2 * k₀ + B.h, 16 * B.c]) (hh : B.h < 2) (hv : ∀ x, v x = gw B.I k₀ (16 * (8 * B.h + B.c) + (x 0).val))
    (hk : Sb B (k₀ + 1) u ⊢ wpk (thr B.d B.L) (k ⟨⟩) Q) :
    Sb B k₀ u ⊢ wpk (thr B.d B.L) (Prog.lift (.store gV (Rect.unit (s := S32x128) off S1x16.size inb)
      (shapeCast S1x16 v shapeCasts_S16_S1x16) Finset.univ hx hm) >>= k) Q := by
  refine tr (B := iprop(((Slv B.d B.L B.I ∗ Scv B.d B.L B.I ∗ B.Fr) ∗ Pat B.d B.L B.I (BD (8 * B.h + B.c) u)) ∗ Gix B.d B.L B.I B.h (GX B.h B.c k₀))) ?_
    (gix_store (P' := GX B.h B.c (k₀ + 1)) (2 * k₀ + B.h) B.c (by omega) ho ?_ ?_ (tr ?_ hk))
  · unfold Sb; iintro ⟨H1, H2, H3⟩
    isplitl [H1 H3]; · isplitl [H1] <;> iassumption
    iexact H2
  · intro x
    rw [hv, show (2 * k₀ + B.h) / 2 = k₀ by omega]
    congr 1; omega
  · intro r c' h
    unfold GX at h ⊢
    by_cases hr : r % 2 = B.h
    · have := h hr
      rcases this with h' | ⟨h', h''⟩
      · exact .inl fun _ => .inl h'
      · by_cases h3 : r / 2 < k₀
        · exact .inl fun _ => .inr ⟨h', h3⟩
        · exact .inr ⟨by omega, h'⟩
    · exact .inl fun h' => absurd h' hr
  · unfold Sb; iintro ⟨⟨H1, H3⟩, H2⟩
    isplitl [H1]; · iexact H1
    isplitl [H2] <;> iassumption

theorem bd_pload {B : BC F} {Q : α → sProp 𝕄} {k' u : ℕ} {r : LoadRect S136x256} {hl : (pV).view.LoadsAt r}
    {k : (r.shape.Idx → Elt F .f32) → Prog (TpuEff nD τ sig (Elt F) Λ₀ (thr B.d B.L).2) α}
    (hk : ∀ v, Sb B k' u ⊢ wpk (thr B.d B.L) (k v) Q) :
    Sb B k' u ⊢ wpk (thr B.d B.L) (Prog.lift (.load pV r hl) >>= k) Q :=
  tr (Laws.sep_assoc).2 (pat_load fun v => tr (Laws.sep_assoc).1 (hk v))

theorem bd_pstore {B : BC F} {Q : α → sProp 𝕄} {k' : ℕ} (u : ℕ) {n : ℕ} {off : Fin 2 → ℕ} {inb} {v : S16.Idx → F .f32} {hx} {hm}
    {k : PUnit → Prog (TpuEff nD τ sig (Elt F) Λ₀ (thr B.d B.L).2) α}
    (ho : off = ![u, n]) (hn : n = 16 * (8 * B.h + B.c)) (hv : ∀ x, v x = PT B.I u (16 * (8 * B.h + B.c) + (x 0).val))
    (hk : Sb B k' (u + 1) ⊢ wpk (thr B.d B.L) (k ⟨⟩) Q) :
    Sb B k' u ⊢ wpk (thr B.d B.L) (Prog.lift (.store pV (Rect.unit (s := S136x256) off S1x16.size inb)
      (shapeCast S1x16 v shapeCasts_S16_S1x16) Finset.univ hx hm) >>= k) Q := by
  subst hn
  refine tr (Laws.sep_assoc).2 (pat_store (P' := BD (8 * B.h + B.c) (u + 1)) u (8 * B.h + B.c) ho hv ?_ (tr (Laws.sep_assoc).1 hk))
  intro r c' h
  unfold BD at h ⊢
  omega

end

theorem time_val {I : In F} {n : ℕ} {v : Vec F S16 .i32} (hv : ∀ x, v x = I.sl (n + (x 0).val)) (u : ℕ) (hu : 128 ≤ u) (x : S16.Idx) :
    FloatOps.mulf (FloatOps.addf (FloatOps.sitofp .f32 (v x)) (Scalar.ofBits .f32 (tcst u))) (Scalar.ofBits .f32 0x3C23D70A#32)
      = PT I u (n + (x 0).val) := by
  rw [PT, if_neg (by omega), hv]; rfl

theorem base_val {I : In F} {n : ℕ} {v5 : BitVec 32} {v w : Vec F S16 .i32} (h5 : v5 = BitVec.ofNat 32 I.w * 1048576#32)
    (hv : ∀ x, v x = I.sl (n + (x 0).val)) (hw : ∀ x, w x = I.sc (n + (x 0).val)) (x : S16.Idx) :
    ((v5 + v x * 128#32) + w x).sshiftRight (4#32 : BitVec 32).toNat = gb I (n + (x 0).val) := by
  rw [h5, hv, hw]; rfl

theorem off4 : ∀ (t : Fin k0_t1_loop.trips) (r : Fin 16), k0_off4 t (BitVec.ofNat 32 (2 * r.val)) = ![2 * r.val + 0, 16 * t.val] := by decide +kernel
theorem off14 : ∀ (t : Fin k0_t2_loop.trips) (r : Fin 16), k0_off14 t (BitVec.ofNat 32 (2 * r.val)) = ![2 * r.val + 1, 16 * t.val] := by decide +kernel

variable {a2 : Memref sig .scVector .hbm S2097152x16 .f32} {h2 : a2.IsWhole} {a3 : Memref sig .scVector .hbm S16384 .i32} {h3 : a3.IsWhole}
  {a4 : Memref sig .scVector .hbm S136x8192 .f32} {h4 : a4.IsWhole} {h5 : (slV).IsWhole} {h6 : (scV).IsWhole} {h7 : (gV).IsWhole} {h8 : (rV).IsWhole}
  {h9 : (pV).IsWhole} {s10 s11 r0 r1 r2 : DmaSems sig S_}

set_option maxRecDepth 65536 in
theorem bd_body1 {B : BC F} (hh : B.h = 0) (k0_t1 : Fin k0_t1_loop.trips) (hc : B.c = k0_t1.val) {v5 : BitVec 32}
    (hv5 : v5 = BitVec.ofNat 32 B.I.w * 1048576#32) (z : BitVec 32) {Q} (hk : ∀ z, Sb B 16 136 ⊢ Q z) :
    Sb B 0 128 ⊢ wpk (thr B.d B.L) (k0_t1_body (F := F) B.L a2 h2 a3 h3 a4 h4 slV h5 scV h6 gV h7 rV h8 pV h9 s10 s11 r0 r1 r2 v5 k0_t1 z) Q := by
  have hn : 16 * k0_t1.val = 16 * (8 * B.h + B.c) := by omega
  have hh2 : B.h < 2 := by omega
  have ho : ∀ r : Fin 16, k0_off4 k0_t1 (BitVec.ofNat 32 (2 * r.val)) = ![2 * r.val + B.h, 16 * B.c] := by
    intro r; rw [hh, hc]; exact off4 k0_t1 r
  unfold k0_t1_body
  refine step_bind ?_
  rw [k0_part1_eq_skeleton]; unfold k0_part1_skel
  refine bd_loadsl (k0_off3_eq k0_t1) hn fun v273 hv => ?_
  refine bd_loadsc (k0_off3_eq k0_t1) hn fun v276 hw => ?_
  have hg := base_val hv5 hv hw
  refine step_pure ?_
  refine step_bind ?_
  rw [k0_part2_eq_skeleton]; unfold k0_part2_skel
  refine bd_gload 0 (ho 0) hh2 fun _ => ?_
  refine bd_gstore 0 (ho 0) hh2 (fun x => congrArg (· + BitVec.ofNat 32 (8 * (0 / 2) + 0 % 2)) (hg x)) ?_
  refine bd_gload 1 (ho 1) hh2 fun _ => ?_
  refine bd_gstore 1 (ho 1) hh2 (fun x => congrArg (· + BitVec.ofNat 32 (8 * (1 / 2) + 1 % 2)) (hg x)) ?_
  refine bd_gload 2 (ho 2) hh2 fun _ => ?_
  refine bd_gstore 2 (ho 2) hh2 (fun x => congrArg (· + BitVec.ofNat 32 (8 * (2 / 2) + 2 % 2)) (hg x)) ?_
  refine bd_gload 3 (ho 3) hh2 fun _ => ?_
  refine bd_gstore 3 (ho 3) hh2 (fun x => congrArg (· + BitVec.ofNat 32 (8 * (3 / 2) + 3 % 2)) (hg x)) ?_
  refine bd_gload 4 (ho 4) hh2 fun _ => ?_
  refine bd_gstore 4 (ho 4) hh2 (fun x => congrArg (· + BitVec.ofNat 32 (8 * (4 / 2) + 4 % 2)) (hg x)) ?_
  refine bd_gload 5 (ho 5) hh2 fun _ => ?_
  refine bd_gstore 5 (ho 5) hh2 (fun x => congrArg (· + BitVec.ofNat 32 (8 * (5 / 2) + 5 % 2)) (hg x)) ?_
  refine step_pure ?_
  refine step_bind ?_
  rw [k0_part3_eq_skeleton]; unfold k0_part3_skel
  refine bd_gload 6 (ho 6) hh2 fun _ => ?_
  refine bd_gstore 6 (ho 6) hh2 (fun x => congrArg (· + BitVec.ofNat 32 (8 * (6 / 2) + 6 % 2)) (hg x)) ?_
  refine bd_gload 7 (ho 7) hh2 fun _ => ?_
  refine bd_gstore 7 (ho 7) hh2 (fun x => congrArg (· + BitVec.ofNat 32 (8 * (7 / 2) + 7 % 2)) (hg x)) ?_
  refine bd_gload 8 (ho 8) hh2 fun _ => ?_
  refine bd_gstore 8 (ho 8) hh2 (fun x => congrArg (· + BitVec.ofNat 32 (8 * (8 / 2) + 8 % 2)) (hg x)) ?_
  refine bd_gload 9 (ho 9) hh2 fun _ => ?_
  refine bd_gstore 9 (ho 9) hh2 (fun x => congrArg (· + BitVec.ofNat 32 (8 * (9 / 2) + 9 % 2)) (hg x)) ?_
  refine bd_gload 10 (ho 10) hh2 fun _ => ?_
  refine bd_gstore 10 (ho 10) hh2 (fun x => congrArg (· + BitVec.ofNat 32 (8 * (10 / 2) + 10 % 2)) (hg x)) ?_
  refine bd_gload 11 (ho 11) hh2 fun _ => ?_
  refine bd_gstore 11 (ho 11) hh2 (fun x => congrArg (· + BitVec.ofNat 32 (8 * (11 / 2) + 11 % 2)) (hg x)) ?_
  refine step_pure ?_
  refine step_bind ?_
  rw [k0_part4_eq_skeleton]; unfold k0_part4_skel
  refine bd_gload 12 (ho 12) hh2 fun _ => ?_
  refine bd_gstore 12 (ho 12) hh2 (fun x => congrArg (· + BitVec.ofNat 32 (8 * (12 / 2) + 12 % 2)) (hg x)) ?_
  refine bd_gload 13 (ho 13) hh2 fun _ => ?_
  refine bd_gstore 13 (ho 13) hh2 (fun x => congrArg (· + BitVec.ofNat 32 (8 * (13 / 2) + 13 % 2)) (hg x)) ?_
  refine bd_gload 14 (ho 14) hh2 fun _ => ?_
  refine bd_gstore 14 (ho 14) hh2 (fun x => congrArg (· + BitVec.ofNat 32 (8 * (14 / 2) + 14 % 2)) (hg x)) ?_
  refine bd_gload 15 (ho 15) hh2 fun _ => ?_
  refine bd_gstore 15 (ho 15) hh2 (fun x => congrArg (· + BitVec.ofNat 32 (8 * (15 / 2) + 15 % 2)) (hg x)) ?_
  refine bd_pload fun _ => ?_
  refine bd_pstore 128 (k0_off5_eq k0_t1) hn (fun x => time_val hv 128 (by decide) x) ?_
  refine step_pure ?_
  refine step_bind ?_
  rw [k0_part5_eq_skeleton]; unfold k0_part5_skel
  refine bd_pload fun _ => ?_
  refine bd_pstore 129 (k0_off6_eq k0_t1) hn (fun x => time_val hv 129 (by decide) x) ?_
  refine bd_pload fun _ => ?_
  refine bd_pstore 130 (k0_off7_eq k0_t1) hn (fun x => time_val hv 130 (by decide) x) ?_
  refine bd_pload fun _ => ?_
  refine bd_pstore 131 (k0_off8_eq k0_t1) hn (fun x => time_val hv 131 (by decide) x) ?_
  refine bd_pload fun _ => ?_
  refine bd_pstore 132 (k0_off9_eq k0_t1) hn (fun x => time_val hv 132 (by decide) x) ?_
  refine step_pure ?_
  refine bd_pload fun _ => ?_
  refine bd_pstore 133 (k0_off10_eq k0_t1) hn (fun x => time_val hv 133 (by decide) x) ?_
  refine bd_pload fun _ => ?_
  refine bd_pstore 134 (k0_off11_eq k0_t1) hn (fun x => time_val hv 134 (by decide) x) ?_
  refine bd_pload fun _ => ?_
  refine bd_pstore 135 (k0_off12_eq k0_t1) hn (fun x => time_val hv 135 (by decide) x) ?_
  exact step_pure (hk _)

set_option maxRecDepth 65536 in
theorem bd_body2 {B : BC F} (hh : B.h = 1) (k0_t2 : Fin k0_t2_loop.trips) (hc : B.c = k0_t2.val) {v5 : BitVec 32}
    (hv5 : v5 = BitVec.ofNat 32 B.I.w * 1048576#32) (z : BitVec 32) {Q} (hk : ∀ z, Sb B 16 136 ⊢ Q z) :
    Sb B 0 128 ⊢ wpk (thr B.d B.L) (k0_t2_body (F := F) B.L a2 h2 a3 h3 a4 h4 slV h5 scV h6 gV h7 rV h8 pV h9 s10 s11 r0 r1 r2 v5 k0_t2 z) Q := by
  have hn : 16 * k0_t2.val + 128 = 16 * (8 * B.h + B.c) := by omega
  have hh2 : B.h < 2 := by omega
  have ho : ∀ r : Fin 16, k0_off14 k0_t2 (BitVec.ofNat 32 (2 * r.val)) = ![2 * r.val + B.h, 16 * B.c] := by
    intro r; rw [hh, hc]; exact off14 k0_t2 r
  unfold k0_t2_body
  refine step_bind ?_
  rw [k0_part6_eq_skeleton]; unfold k0_part6_skel
  refine bd_loadsl (k0_off13_eq k0_t2) hn fun v273 hv => ?_
  refine bd_loadsc (k0_off13_eq k0_t2) hn fun v276 hw => ?_
  have hg := base_val hv5 hv hw
  refine step_pure ?_
  refine step_bind ?_
  rw [k0_part7_eq_skeleton]; unfold k0_part7_skel
  refine bd_gload 0 (ho 0) hh2 fun _ => ?_
  refine bd_gstore 0 (ho 0) hh2 (fun x => congrArg (· + BitVec.ofNat 32 (8 * (0 / 2) + 0 % 2)) (hg x)) ?_
  refine bd_gload 1 (ho 1) hh2 fun _ => ?_
  refine bd_gstore 1 (ho 1) hh2 (fun x => congrArg (· + BitVec.ofNat 32 (8 * (1 / 2) + 1 % 2)) (hg x)) ?_
  refine bd_gload 2 (ho 2) hh2 fun _ => ?_
  refine bd_gstore 2 (ho 2) hh2 (fun x => congrArg (· + BitVec.ofNat 32 (8 * (2 / 2) + 2 % 2)) (hg x)) ?_
  refine bd_gload 3 (ho 3) hh2 fun _ => ?_
  refine bd_gstore 3 (ho 3) hh2 (fun x => congrArg (· + BitVec.ofNat 32 (8 * (3 / 2) + 3 % 2)) (hg x)) ?_
  refine bd_gload 4 (ho 4) hh2 fun _ => ?_
  refine bd_gstore 4 (ho 4) hh2 (fun x => congrArg (· + BitVec.ofNat 32 (8 * (4 / 2) + 4 % 2)) (hg x)) ?_
  refine bd_gload 5 (ho 5) hh2 fun _ => ?_
  refine bd_gstore 5 (ho 5) hh2 (fun x => congrArg (· + BitVec.ofNat 32 (8 * (5 / 2) + 5 % 2)) (hg x)) ?_
  refine step_pure ?_
  refine step_bind ?_
  rw [k0_part8_eq_skeleton]; unfold k0_part8_skel
  refine bd_gload 6 (ho 6) hh2 fun _ => ?_
  refine bd_gstore 6 (ho 6) hh2 (fun x => congrArg (· + BitVec.ofNat 32 (8 * (6 / 2) + 6 % 2)) (hg x)) ?_
  refine bd_gload 7 (ho 7) hh2 fun _ => ?_
  refine bd_gstore 7 (ho 7) hh2 (fun x => congrArg (· + BitVec.ofNat 32 (8 * (7 / 2) + 7 % 2)) (hg x)) ?_
  refine bd_gload 8 (ho 8) hh2 fun _ => ?_
  refine bd_gstore 8 (ho 8) hh2 (fun x => congrArg (· + BitVec.ofNat 32 (8 * (8 / 2) + 8 % 2)) (hg x)) ?_
  refine bd_gload 9 (ho 9) hh2 fun _ => ?_
  refine bd_gstore 9 (ho 9) hh2 (fun x => congrArg (· + BitVec.ofNat 32 (8 * (9 / 2) + 9 % 2)) (hg x)) ?_
  refine bd_gload 10 (ho 10) hh2 fun _ => ?_
  refine bd_gstore 10 (ho 10) hh2 (fun x => congrArg (· + BitVec.ofNat 32 (8 * (10 / 2) + 10 % 2)) (hg x)) ?_
  refine bd_gload 11 (ho 11) hh2 fun _ => ?_
  refine bd_gstore 11 (ho 11) hh2 (fun x => congrArg (· + BitVec.ofNat 32 (8 * (11 / 2) + 11 % 2)) (hg x)) ?_
  refine step_pure ?_
  refine step_bind ?_
  rw [k0_part9_eq_skeleton]; unfold k0_part9_skel
  refine bd_gload 12 (ho 12) hh2 fun _ => ?_
  refine bd_gstore 12 (ho 12) hh2 (fun x => congrArg (· + BitVec.ofNat 32 (8 * (12 / 2) + 12 % 2)) (hg x)) ?_
  refine bd_gload 13 (ho 13) hh2 fun _ => ?_
  refine bd_gstore 13 (ho 13) hh2 (fun x => congrArg (· + BitVec.ofNat 32 (8 * (13 / 2) + 13 % 2)) (hg x)) ?_
  refine bd_gload 14 (ho 14) hh2 fun _ => ?_
  refine bd_gstore 14 (ho 14) hh2 (fun x => congrArg (· + BitVec.ofNat 32 (8 * (14 / 2) + 14 % 2)) (hg x)) ?_
  refine bd_gload 15 (ho 15) hh2 fun _ => ?_
  refine bd_gstore 15 (ho 15) hh2 (fun x => congrArg (· + BitVec.ofNat 32 (8 * (15 / 2) + 15 % 2)) (hg x)) ?_
  refine bd_pload fun _ => ?_
  refine bd_pstore 128 (k0_off15_eq k0_t2) hn (fun x => time_val hv 128 (by decide) x) ?_
  refine step_pure ?_
  refine step_bind ?_
  rw [k0_part10_eq_skeleton]; unfold k0_part10_skel
  refine bd_pload fun _ => ?_
  refine bd_pstore 129 (k0_off16_eq k0_t2) hn (fun x => time_val hv 129 (by decide) x) ?_
  refine bd_pload fun _ => ?_
  refine bd_pstore 130 (k0_off17_eq k0_t2) hn (fun x => time_val hv 130 (by decide) x) ?_
  refine bd_pload fun _ => ?_
  refine bd_pstore 131 (k0_off18_eq k0_t2) hn (fun x => time_val hv 131 (by decide) x) ?_
  refine bd_pload fun _ => ?_
  refine bd_pstore 132 (k0_off19_eq k0_t2) hn (fun x => time_val hv 132 (by decide) x) ?_
  refine step_pure ?_
  refine bd_pload fun _ => ?_
  refine bd_pstore 133 (k0_off20_eq k0_t2) hn (fun x => time_val hv 133 (by decide) x) ?_
  refine bd_pload fun _ => ?_
  refine bd_pstore 134 (k0_off21_eq k0_t2) hn (fun x => time_val hv 134 (by decide) x) ?_
  refine bd_pload fun _ => ?_
  refine bd_pstore 135 (k0_off22_eq k0_t2) hn (fun x => time_val hv 135 (by decide) x) ?_
  exact step_pure (hk _)

end Cert.Kernel.Tile
-- ==== Proof.KExtB.lean ====
/-
  The extraction of the second eight blocks of sixteen patches, part by part.
-/
module

public import proofs.«01_k».proof.Proof.KExt

@[expose] public section

noncomputable section

namespace Cert.Kernel.Tile

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ (UU F) ℕ
local notation "slV" => (Memref.whole Cert.Kernel.cc0_scratch0 : Memref Cert.Kernel.sig Kind.scVector Space.vmem Cert.Kernel.S256 EltTy.i32)
local notation "scV" => (Memref.whole Cert.Kernel.cc0_scratch1 : Memref Cert.Kernel.sig Kind.scVector Space.vmem Cert.Kernel.S256 EltTy.i32)
local notation "gV" => (Memref.whole Cert.Kernel.cc0_scratch2 : Memref Cert.Kernel.sig Kind.scVector Space.vmem Cert.Kernel.S32x128 EltTy.i32)
local notation "rV" => (Memref.whole Cert.Kernel.cc0_scratch3 : Memref Cert.Kernel.sig Kind.scVector Space.vmem Cert.Kernel.S4096x16 EltTy.f32)
local notation "pV" => (Memref.whole Cert.Kernel.cc0_scratch4 : Memref Cert.Kernel.sig Kind.scVector Space.vmem Cert.Kernel.S136x256 EltTy.f32)

variable {a2 : Memref sig .scVector .hbm S2097152x16 .f32} {h2 : a2.IsWhole} {a3 : Memref sig .scVector .hbm S16384 .i32} {h3 : a3.IsWhole}
  {a4 : Memref sig .scVector .hbm S136x8192 .f32} {h4 : a4.IsWhole} {h5 : (slV).IsWhole} {h6 : (scV).IsWhole} {h7 : (gV).IsWhole} {h8 : (rV).IsWhole}
  {h9 : (pV).IsWhole} {s10 s11 r0 r1 r2 : DmaSems sig S_}

theorem ex61 {C : Ctx F} (hok : Hok C) (hc : C.c < 16) (k0_t4 : Fin k0_t4_loop.trips) (hn : 16 * k0_t4.val + 128 = 16 * C.c) {Q}
    (hk : ∀ (arg12 : BitVec 32) (o pv : IVec S16 32) (ok : Ok C o pv) (v309_ld : Vec F S1x16 .f32), St C 1 ⊢ Q ⟨arg12, o, pv, addi pv (broadcast S16 0#32), (RV C 1), v309_ld⟩) :
    St C 0 ⊢ wpk (thr C.d C.L) (k0_part61 (F := F) C.L a2 h2 a3 h3 a4 h4 slV h5 scV h6 gV h7 rV h8 pV h9 s10 s11 r0 r1 r2 8#32 1#32 k0_t4) Q := by
  rw [k0_part61_eq_skeleton]; unfold k0_part61_skel
  refine ex_loadsc (k0_off152_eq k0_t4) hn fun v273 hv => ?_
  have ok := ok_of4 hok k0_t4 hn hc hv
  refine step_chk (ok.chk 0 (by decide)) ?_
  refine ex_gather (hl := View.loads_vmem h_S4096x16) ok 0 (by decide) rfl rfl ?_
  refine ex_load fun v295_ld => ?_
  refine ex_store 0 (k0_off153_eq k0_t4) hn ?_
  refine step_chk (ok.chk 1 (by decide)) ?_
  refine ex_gather (hl := View.loads_vmem h_S4096x16) ok 1 (by decide) rfl rfl ?_
  refine ex_load fun v309_ld => ?_
  exact step_pure (hk _ _ _ ok v309_ld)

theorem ex62 {C : Ctx F} {o pv : IVec S16 32} (ok : Ok C o pv) (k0_t4 : Fin k0_t4_loop.trips) (hn : 16 * k0_t4.val + 128 = 16 * C.c) {arg12 : BitVec 32} (v309_ld : Vec F S1x16 .f32) {Q}
    (hk : St C 4 ⊢ Q ⟨k0_pay470 o, k0_pay471 o (addi pv (broadcast S16 0#32)), k0_pay472⟩) :
    St C 1 ⊢ wpk (thr C.d C.L) (k0_part62 (F := F) C.L a2 h2 a3 h3 a4 h4 slV h5 scV h6 gV h7 rV h8 pV h9 s10 s11 r0 r1 r2 k0_t4 arg12 o (addi pv (broadcast S16 0#32)) ((RV C 1)) v309_ld) Q := by
  rw [k0_part62_eq_skeleton]; unfold k0_part62_skel
  refine ex_store 1 (k0_off154_eq k0_t4) hn ?_
  refine step_chk (ok.chk 2 (by decide)) ?_
  refine ex_gather (hl := View.loads_vmem h_S4096x16) ok 2 (by decide) rfl rfl ?_
  refine ex_load fun v323_ld => ?_
  refine ex_store 2 (k0_off155_eq k0_t4) hn ?_
  refine step_chk (ok.chk 3 (by decide)) ?_
  refine ex_gather (hl := View.loads_vmem h_S4096x16) ok 3 (by decide) rfl rfl ?_
  refine ex_load fun v337_ld => ?_
  refine ex_store 3 (k0_off156_eq k0_t4) hn ?_
  exact step_pure (hk)

theorem ex63 {C : Ctx F} {o pv : IVec S16 32} (ok : Ok C o pv) (k0_t4 : Fin k0_t4_loop.trips) (hn : 16 * k0_t4.val + 128 = 16 * C.c) {arg12 : BitVec 32} {Q}
    (hk : St C 7 ⊢ Q ((k0_pay479 o))) :
    St C 4 ⊢ wpk (thr C.d C.L) (k0_part63 (F := F) C.L a2 h2 a3 h3 a4 h4 slV h5 scV h6 gV h7 rV h8 pV h9 s10 s11 r0 r1 r2 k0_t4 arg12 o (addi pv (broadcast S16 0#32)) (k0_pay470 o) (k0_pay471 o (addi pv (broadcast S16 0#32))) k0_pay472) Q := by
  rw [k0_part63_eq_skeleton]; unfold k0_part63_skel
  refine step_chk (ok.chk 4 (by decide)) ?_
  refine ex_gather (hl := View.loads_vmem h_S4096x16) ok 4 (by decide) rfl rfl ?_
  refine ex_load fun v351_ld => ?_
  refine ex_store 4 (k0_off157_eq k0_t4) hn ?_
  refine step_chk (ok.chk 5 (by decide)) ?_
  refine ex_gather (hl := View.loads_vmem h_S4096x16) ok 5 (by decide) rfl rfl ?_
  refine ex_load fun v365_ld => ?_
  refine ex_store 5 (k0_off158_eq k0_t4) hn ?_
  refine step_chk (ok.chk 6 (by decide)) ?_
  refine ex_gather (hl := View.loads_vmem h_S4096x16) ok 6 (by decide) rfl rfl ?_
  refine ex_load fun v379_ld => ?_
  refine ex_store 6 (k0_off159_eq k0_t4) hn ?_
  exact step_pure (hk)

theorem ex64 {C : Ctx F} {o pv : IVec S16 32} (ok : Ok C o pv) (k0_t4 : Fin k0_t4_loop.trips) (hn : 16 * k0_t4.val + 128 = 16 * C.c) {arg12 : BitVec 32} {Q}
    (hk : St C 9 ⊢ Q ⟨(RV C 9), (Scalar.muli arg12 16#32)⟩) :
    St C 7 ⊢ wpk (thr C.d C.L) (k0_part64 (F := F) C.L a2 h2 a3 h3 a4 h4 slV h5 scV h6 gV h7 rV h8 pV h9 s10 s11 r0 r1 r2 k0_t4 arg12 o (addi pv (broadcast S16 0#32)) ((k0_pay479 o))) Q := by
  rw [k0_part64_eq_skeleton]; unfold k0_part64_skel
  refine step_chk (ok.chk 7 (by decide)) ?_
  refine ex_gather (hl := View.loads_vmem h_S4096x16) ok 7 (by decide) rfl rfl ?_
  refine ex_load fun v393_ld => ?_
  refine ex_store 7 (k0_off160_eq k0_t4) hn ?_
  refine step_chk (ok.chk 8 (by decide)) ?_
  refine ex_gather (hl := View.loads_vmem h_S4096x16) ok 8 (by decide) rfl rfl ?_
  refine ex_load fun v407_ld => ?_
  refine ex_store 8 (k0_off161_eq k0_t4) hn ?_
  refine step_chk (ok.chk 9 (by decide)) ?_
  refine ex_gather (hl := View.loads_vmem h_S4096x16) ok 9 (by decide) rfl rfl ?_
  exact step_pure (hk)

theorem ex65 {C : Ctx F} {o pv : IVec S16 32} (ok : Ok C o pv) (k0_t4 : Fin k0_t4_loop.trips) (hn : 16 * k0_t4.val + 128 = 16 * C.c) {arg12 : BitVec 32} {Q}
    (hk : St C 12 ⊢ Q ⟨k0_pay494 o, k0_pay495 o, k0_pay496⟩) :
    St C 9 ⊢ wpk (thr C.d C.L) (k0_part65 (F := F) C.L a2 h2 a3 h3 a4 h4 slV h5 scV h6 gV h7 rV h8 pV h9 s10 s11 r0 r1 r2 k0_t4 arg12 o (addi pv (broadcast S16 0#32)) ((RV C 9)) ((Scalar.muli arg12 16#32))) Q := by
  rw [k0_part65_eq_skeleton]; unfold k0_part65_skel
  refine ex_load fun v421_ld => ?_
  refine ex_store 9 (k0_off162_eq k0_t4) hn ?_
  refine step_chk (ok.chk 10 (by decide)) ?_
  refine ex_gather (hl := View.loads_vmem h_S4096x16) ok 10 (by decide) rfl rfl ?_
  refine ex_load fun v435_ld => ?_
  refine ex_store 10 (k0_off163_eq k0_t4) hn ?_
  refine step_chk (ok.chk 11 (by decide)) ?_
  refine ex_gather (hl := View.loads_vmem h_S4096x16) ok 11 (by decide) rfl rfl ?_
  refine ex_load fun v449_ld => ?_
  refine ex_store 11 (k0_off164_eq k0_t4) hn ?_
  exact step_pure (hk)

theorem ex66 {C : Ctx F} {o pv : IVec S16 32} (ok : Ok C o pv) (k0_t4 : Fin k0_t4_loop.trips) (hn : 16 * k0_t4.val + 128 = 16 * C.c) {arg12 : BitVec 32} {Q}
    (hk : St C 14 ⊢ Q ((RV C 14))) :
    St C 12 ⊢ wpk (thr C.d C.L) (k0_part66 (F := F) C.L a2 h2 a3 h3 a4 h4 slV h5 scV h6 gV h7 rV h8 pV h9 s10 s11 r0 r1 r2 k0_t4 arg12 o (addi pv (broadcast S16 0#32)) (k0_pay494 o) (k0_pay495 o) k0_pay496) Q := by
  rw [k0_part66_eq_skeleton]; unfold k0_part66_skel
  refine step_chk (ok.chk 12 (by decide)) ?_
  refine ex_gather (hl := View.loads_vmem h_S4096x16) ok 12 (by decide) rfl rfl ?_
  refine ex_load fun v463_ld => ?_
  refine ex_store 12 (k0_off165_eq k0_t4) hn ?_
  refine step_chk (ok.chk 13 (by decide)) ?_
  refine ex_gather (hl := View.loads_vmem h_S4096x16) ok 13 (by decide) rfl rfl ?_
  refine ex_load fun v477_ld => ?_
  refine ex_store 13 (k0_off166_eq k0_t4) hn ?_
  refine step_chk (ok.chk 14 (by decide)) ?_
  refine ex_gather (hl := View.loads_vmem h_S4096x16) ok 14 (by decide) rfl rfl ?_
  refine ex_load fun v491_ld => ?_
  exact step_pure (hk)

theorem ex67 {C : Ctx F} {o pv : IVec S16 32} (ok : Ok C o pv) (k0_t4 : Fin k0_t4_loop.trips) (hn : 16 * k0_t4.val + 128 = 16 * C.c) {arg12 : BitVec 32} {Q}
    (hk : St C 17 ⊢ Q ⟨k0_pay508 pv, k0_pay512 o, k0_pay513 o pv⟩) :
    St C 14 ⊢ wpk (thr C.d C.L) (k0_part67 (F := F) C.L a2 h2 a3 h3 a4 h4 slV h5 scV h6 gV h7 rV h8 pV h9 s10 s11 r0 r1 r2 k0_t4 arg12 o pv (addi pv (broadcast S16 0#32)) ((RV C 14))) Q := by
  rw [k0_part67_eq_skeleton]; unfold k0_part67_skel
  refine ex_store 14 (k0_off167_eq k0_t4) hn ?_
  refine step_chk (ok.chk 15 (by decide)) ?_
  refine ex_gather (hl := View.loads_vmem h_S4096x16) ok 15 (by decide) rfl rfl ?_
  refine ex_load fun v505_ld => ?_
  refine ex_store 15 (k0_off168_eq k0_t4) hn ?_
  refine step_chk (ok.chk 16 (by decide)) ?_
  refine ex_gather (hl := View.loads_vmem h_S4096x16) ok 16 (by decide) rfl rfl ?_
  refine ex_load fun v521_ld => ?_
  refine ex_store 16 (k0_off169_eq k0_t4) hn ?_
  exact step_pure (hk)

theorem ex68 {C : Ctx F} {o pv : IVec S16 32} (ok : Ok C o pv) (k0_t4 : Fin k0_t4_loop.trips) (hn : 16 * k0_t4.val + 128 = 16 * C.c) {arg12 : BitVec 32} {Q}
    (hk : St C 20 ⊢ Q 4#32) :
    St C 17 ⊢ wpk (thr C.d C.L) (k0_part68 (F := F) C.L a2 h2 a3 h3 a4 h4 slV h5 scV h6 gV h7 rV h8 pV h9 s10 s11 r0 r1 r2 k0_t4 arg12 o (k0_pay508 pv) (k0_pay512 o) (k0_pay513 o pv)) Q := by
  rw [k0_part68_eq_skeleton]; unfold k0_part68_skel
  refine step_chk (ok.chk 17 (by decide)) ?_
  refine ex_gather (hl := View.loads_vmem h_S4096x16) ok 17 (by decide) rfl rfl ?_
  refine ex_load fun v535_ld => ?_
  refine ex_store 17 (k0_off170_eq k0_t4) hn ?_
  refine step_chk (ok.chk 18 (by decide)) ?_
  refine ex_gather (hl := View.loads_vmem h_S4096x16) ok 18 (by decide) rfl rfl ?_
  refine ex_load fun v549_ld => ?_
  refine ex_store 18 (k0_off171_eq k0_t4) hn ?_
  refine step_chk (ok.chk 19 (by decide)) ?_
  refine ex_gather (hl := View.loads_vmem h_S4096x16) ok 19 (by decide) rfl rfl ?_
  refine ex_load fun v563_ld => ?_
  refine ex_store 19 (k0_off172_eq k0_t4) hn ?_
  exact step_pure (hk)

theorem ex69 {C : Ctx F} {o pv : IVec S16 32} (ok : Ok C o pv) (k0_t4 : Fin k0_t4_loop.trips) (hn : 16 * k0_t4.val + 128 = 16 * C.c) {arg12 : BitVec 32} {Q}
    (hk : St C 22 ⊢ Q ((RV C 22))) :
    St C 20 ⊢ wpk (thr C.d C.L) (k0_part69 (F := F) C.L a2 h2 a3 h3 a4 h4 slV h5 scV h6 gV h7 rV h8 pV h9 s10 s11 r0 r1 r2 k0_t4 arg12 o (k0_pay508 pv) 4#32) Q := by
  rw [k0_part69_eq_skeleton]; unfold k0_part69_skel
  refine step_chk (ok.chk 20 (by decide)) ?_
  refine ex_gather (hl := View.loads_vmem h_S4096x16) ok 20 (by decide) rfl rfl ?_
  refine ex_load fun v577_ld => ?_
  refine ex_store 20 (k0_off173_eq k0_t4) hn ?_
  refine step_chk (ok.chk 21 (by decide)) ?_
  refine ex_gather (hl := View.loads_vmem h_S4096x16) ok 21 (by decide) rfl rfl ?_
  refine ex_load fun v591_ld => ?_
  refine ex_store 21 (k0_off174_eq k0_t4) hn ?_
  refine step_chk (ok.chk 22 (by decide)) ?_
  exact ex_gatherE (hl := View.loads_vmem h_S4096x16) ok 22 (by decide) rfl rfl hk

theorem ex70 {C : Ctx F} {o pv : IVec S16 32} (ok : Ok C o pv) (k0_t4 : Fin k0_t4_loop.trips) (hn : 16 * k0_t4.val + 128 = 16 * C.c) {arg12 : BitVec 32} {Q}
    (hk : St C 25 ⊢ Q ⟨k0_pay536 o, k0_pay537 o⟩) :
    St C 22 ⊢ wpk (thr C.d C.L) (k0_part70 (F := F) C.L a2 h2 a3 h3 a4 h4 slV h5 scV h6 gV h7 rV h8 pV h9 s10 s11 r0 r1 r2 k0_t4 arg12 o (k0_pay508 pv) ((RV C 22))) Q := by
  rw [k0_part70_eq_skeleton]; unfold k0_part70_skel
  refine ex_load fun v605_ld => ?_
  refine ex_store 22 (k0_off175_eq k0_t4) hn ?_
  refine step_chk (ok.chk 23 (by decide)) ?_
  refine ex_gather (hl := View.loads_vmem h_S4096x16) ok 23 (by decide) rfl rfl ?_
  refine ex_load fun v619_ld => ?_
  refine ex_store 23 (k0_off176_eq k0_t4) hn ?_
  refine step_chk (ok.chk 24 (by decide)) ?_
  refine ex_gather (hl := View.loads_vmem h_S4096x16) ok 24 (by decide) rfl rfl ?_
  refine ex_load fun v633_ld => ?_
  refine ex_store 24 (k0_off177_eq k0_t4) hn ?_
  exact step_pure (hk)

theorem ex71 {C : Ctx F} {o pv : IVec S16 32} (ok : Ok C o pv) (k0_t4 : Fin k0_t4_loop.trips) (hn : 16 * k0_t4.val + 128 = 16 * C.c) {arg12 : BitVec 32} {Q}
    (hk : St C 27 ⊢ Q ((RV C 27))) :
    St C 25 ⊢ wpk (thr C.d C.L) (k0_part71 (F := F) C.L a2 h2 a3 h3 a4 h4 slV h5 scV h6 gV h7 rV h8 pV h9 s10 s11 r0 r1 r2 k0_t4 arg12 o (k0_pay508 pv) (k0_pay536 o) (k0_pay537 o)) Q := by
  rw [k0_part71_eq_skeleton]; unfold k0_part71_skel
  refine step_chk (ok.chk 25 (by decide)) ?_
  refine ex_gather (hl := View.loads_vmem h_S4096x16) ok 25 (by decide) rfl rfl ?_
  refine ex_load fun v647_ld => ?_
  refine ex_store 25 (k0_off178_eq k0_t4) hn ?_
  refine step_chk (ok.chk 26 (by decide)) ?_
  refine ex_gather (hl := View.loads_vmem h_S4096x16) ok 26 (by decide) rfl rfl ?_
  refine ex_load fun v661_ld => ?_
  refine ex_store 26 (k0_off179_eq k0_t4) hn ?_
  refine step_chk (ok.chk 27 (by decide)) ?_
  exact ex_gatherE (hl := View.loads_vmem h_S4096x16) ok 27 (by decide) rfl rfl hk

theorem ex72 {C : Ctx F} {o pv : IVec S16 32} (ok : Ok C o pv) (k0_t4 : Fin k0_t4_loop.trips) (hn : 16 * k0_t4.val + 128 = 16 * C.c) {arg12 : BitVec 32} {Q}
    (hk : St C 30 ⊢ Q ⟨k0_pay552 o, k0_pay553 o (k0_pay508 pv), 15#32⟩) :
    St C 27 ⊢ wpk (thr C.d C.L) (k0_part72 (F := F) C.L a2 h2 a3 h3 a4 h4 slV h5 scV h6 gV h7 rV h8 pV h9 s10 s11 r0 r1 r2 k0_t4 arg12 o (k0_pay508 pv) ((RV C 27))) Q := by
  rw [k0_part72_eq_skeleton]; unfold k0_part72_skel
  refine ex_load fun v675_ld => ?_
  refine ex_store 27 (k0_off180_eq k0_t4) hn ?_
  refine step_chk (ok.chk 28 (by decide)) ?_
  refine ex_gather (hl := View.loads_vmem h_S4096x16) ok 28 (by decide) rfl rfl ?_
  refine ex_load fun v689_ld => ?_
  refine ex_store 28 (k0_off181_eq k0_t4) hn ?_
  refine step_chk (ok.chk 29 (by decide)) ?_
  refine ex_gather (hl := View.loads_vmem h_S4096x16) ok 29 (by decide) rfl rfl ?_
  refine ex_load fun v703_ld => ?_
  refine ex_store 29 (k0_off182_eq k0_t4) hn ?_
  exact step_pure (hk)

theorem ex73 {C : Ctx F} {o pv : IVec S16 32} (ok : Ok C o pv) (k0_t4 : Fin k0_t4_loop.trips) (hn : 16 * k0_t4.val + 128 = 16 * C.c) {arg12 : BitVec 32} {Q}
    (hk : St C 32 ⊢ Q ⟨k0_pay558 pv, (RV C 32)⟩) :
    St C 30 ⊢ wpk (thr C.d C.L) (k0_part73 (F := F) C.L a2 h2 a3 h3 a4 h4 slV h5 scV h6 gV h7 rV h8 pV h9 s10 s11 r0 r1 r2 k0_t4 arg12 o pv (k0_pay508 pv) (k0_pay552 o) (k0_pay553 o (k0_pay508 pv)) 15#32) Q := by
  rw [k0_part73_eq_skeleton]; unfold k0_part73_skel
  refine step_chk (ok.chk 30 (by decide)) ?_
  refine ex_gather (hl := View.loads_vmem h_S4096x16) ok 30 (by decide) rfl rfl ?_
  refine ex_load fun v717_ld => ?_
  refine ex_store 30 (k0_off183_eq k0_t4) hn ?_
  refine step_chk (ok.chk 31 (by decide)) ?_
  refine ex_gather (hl := View.loads_vmem h_S4096x16) ok 31 (by decide) rfl rfl ?_
  refine ex_load fun v731_ld => ?_
  refine ex_store 31 (k0_off184_eq k0_t4) hn ?_
  refine step_chk (ok.chk 32 (by decide)) ?_
  refine ex_gather (hl := View.loads_vmem h_S4096x16) ok 32 (by decide) rfl rfl ?_
  refine ex_load fun v747_ld => ?_
  exact step_pure (hk)

theorem ex74 {C : Ctx F} {o pv : IVec S16 32} (ok : Ok C o pv) (k0_t4 : Fin k0_t4_loop.trips) (hn : 16 * k0_t4.val + 128 = 16 * C.c) {arg12 : BitVec 32} {Q}
    (hk : St C 35 ⊢ Q ⟨k0_pay569 o (k0_pay558 pv), k0_pay570 o⟩) :
    St C 32 ⊢ wpk (thr C.d C.L) (k0_part74 (F := F) C.L a2 h2 a3 h3 a4 h4 slV h5 scV h6 gV h7 rV h8 pV h9 s10 s11 r0 r1 r2 k0_t4 arg12 o (k0_pay558 pv) ((RV C 32))) Q := by
  rw [k0_part74_eq_skeleton]; unfold k0_part74_skel
  refine ex_store 32 (k0_off185_eq k0_t4) hn ?_
  refine step_chk (ok.chk 33 (by decide)) ?_
  refine ex_gather (hl := View.loads_vmem h_S4096x16) ok 33 (by decide) rfl rfl ?_
  refine ex_load fun v761_ld => ?_
  refine ex_store 33 (k0_off186_eq k0_t4) hn ?_
  refine step_chk (ok.chk 34 (by decide)) ?_
  refine ex_gather (hl := View.loads_vmem h_S4096x16) ok 34 (by decide) rfl rfl ?_
  refine ex_load fun v775_ld => ?_
  refine ex_store 34 (k0_off187_eq k0_t4) hn ?_
  exact step_pure (hk)

theorem ex75 {C : Ctx F} {o pv : IVec S16 32} (ok : Ok C o pv) (k0_t4 : Fin k0_t4_loop.trips) (hn : 16 * k0_t4.val + 128 = 16 * C.c) {arg12 : BitVec 32} {Q}
    (hk : St C 38 ⊢ Q ⟨k0_pay577 o, 4#32⟩) :
    St C 35 ⊢ wpk (thr C.d C.L) (k0_part75 (F := F) C.L a2 h2 a3 h3 a4 h4 slV h5 scV h6 gV h7 rV h8 pV h9 s10 s11 r0 r1 r2 k0_t4 arg12 o (k0_pay558 pv) (k0_pay569 o (k0_pay558 pv)) (k0_pay570 o)) Q := by
  rw [k0_part75_eq_skeleton]; unfold k0_part75_skel
  refine step_chk (ok.chk 35 (by decide)) ?_
  refine ex_gather (hl := View.loads_vmem h_S4096x16) ok 35 (by decide) rfl rfl ?_
  refine ex_load fun v789_ld => ?_
  refine ex_store 35 (k0_off188_eq k0_t4) hn ?_
  refine step_chk (ok.chk 36 (by decide)) ?_
  refine ex_gather (hl := View.loads_vmem h_S4096x16) ok 36 (by decide) rfl rfl ?_
  refine ex_load fun v803_ld => ?_
  refine ex_store 36 (k0_off189_eq k0_t4) hn ?_
  refine step_chk (ok.chk 37 (by decide)) ?_
  refine ex_gather (hl := View.loads_vmem h_S4096x16) ok 37 (by decide) rfl rfl ?_
  refine ex_load fun v817_ld => ?_
  refine ex_store 37 (k0_off190_eq k0_t4) hn ?_
  exact step_pure (hk)

theorem ex76 {C : Ctx F} {o pv : IVec S16 32} (ok : Ok C o pv) (k0_t4 : Fin k0_t4_loop.trips) (hn : 16 * k0_t4.val + 128 = 16 * C.c) {arg12 : BitVec 32} {Q}
    (hk : St C 40 ⊢ Q ⟨(RV C 40), (Scalar.muli arg12 16#32), 40#32⟩) :
    St C 38 ⊢ wpk (thr C.d C.L) (k0_part76 (F := F) C.L a2 h2 a3 h3 a4 h4 slV h5 scV h6 gV h7 rV h8 pV h9 s10 s11 r0 r1 r2 k0_t4 arg12 o (k0_pay558 pv) (k0_pay577 o) 4#32) Q := by
  rw [k0_part76_eq_skeleton]; unfold k0_part76_skel
  refine step_chk (ok.chk 38 (by decide)) ?_
  refine ex_gather (hl := View.loads_vmem h_S4096x16) ok 38 (by decide) rfl rfl ?_
  refine ex_load fun v831_ld => ?_
  refine ex_store 38 (k0_off191_eq k0_t4) hn ?_
  refine step_chk (ok.chk 39 (by decide)) ?_
  refine ex_gather (hl := View.loads_vmem h_S4096x16) ok 39 (by decide) rfl rfl ?_
  refine ex_load fun v845_ld => ?_
  refine ex_store 39 (k0_off192_eq k0_t4) hn ?_
  refine step_chk (ok.chk 40 (by decide)) ?_
  refine ex_gather (hl := View.loads_vmem h_S4096x16) ok 40 (by decide) rfl rfl ?_
  exact step_pure (hk)

theorem ex77 {C : Ctx F} {o pv : IVec S16 32} (ok : Ok C o pv) (k0_t4 : Fin k0_t4_loop.trips) (hn : 16 * k0_t4.val + 128 = 16 * C.c) {arg12 : BitVec 32} {Q}
    (hk : St C 43 ⊢ Q ⟨k0_pay592 o, k0_pay593 o⟩) :
    St C 40 ⊢ wpk (thr C.d C.L) (k0_part77 (F := F) C.L a2 h2 a3 h3 a4 h4 slV h5 scV h6 gV h7 rV h8 pV h9 s10 s11 r0 r1 r2 k0_t4 arg12 o (k0_pay558 pv) ((RV C 40)) ((Scalar.muli arg12 16#32)) 40#32) Q := by
  rw [k0_part77_eq_skeleton]; unfold k0_part77_skel
  refine ex_load fun v859_ld => ?_
  refine ex_store 40 (k0_off193_eq k0_t4) hn ?_
  refine step_chk (ok.chk 41 (by decide)) ?_
  refine ex_gather (hl := View.loads_vmem h_S4096x16) ok 41 (by decide) rfl rfl ?_
  refine ex_load fun v873_ld => ?_
  refine ex_store 41 (k0_off194_eq k0_t4) hn ?_
  refine step_chk (ok.chk 42 (by decide)) ?_
  refine ex_gather (hl := View.loads_vmem h_S4096x16) ok 42 (by decide) rfl rfl ?_
  refine ex_load fun v887_ld => ?_
  refine ex_store 42 (k0_off195_eq k0_t4) hn ?_
  exact step_pure (hk)

theorem ex78 {C : Ctx F} {o pv : IVec S16 32} (ok : Ok C o pv) (k0_t4 : Fin k0_t4_loop.trips) (hn : 16 * k0_t4.val + 128 = 16 * C.c) {arg12 : BitVec 32} {Q}
    (hk : St C 46 ⊢ Q ⟨⟩) :
    St C 43 ⊢ wpk (thr C.d C.L) (k0_part78 (F := F) C.L a2 h2 a3 h3 a4 h4 slV h5 scV h6 gV h7 rV h8 pV h9 s10 s11 r0 r1 r2 k0_t4 arg12 o (k0_pay558 pv) (k0_pay592 o) (k0_pay593 o)) Q := by
  rw [k0_part78_eq_skeleton]; unfold k0_part78_skel
  refine step_chk (ok.chk 43 (by decide)) ?_
  refine ex_gather (hl := View.loads_vmem h_S4096x16) ok 43 (by decide) rfl rfl ?_
  refine ex_load fun v901_ld => ?_
  refine ex_store 43 (k0_off196_eq k0_t4) hn ?_
  refine step_chk (ok.chk 44 (by decide)) ?_
  refine ex_gather (hl := View.loads_vmem h_S4096x16) ok 44 (by decide) rfl rfl ?_
  refine ex_load fun v915_ld => ?_
  refine ex_store 44 (k0_off197_eq k0_t4) hn ?_
  refine step_chk (ok.chk 45 (by decide)) ?_
  refine ex_gather (hl := View.loads_vmem h_S4096x16) ok 45 (by decide) rfl rfl ?_
  refine ex_load fun v929_ld => ?_
  refine ex_store 45 (k0_off198_eq k0_t4) hn ?_
  exact step_pure (hk)

theorem ex79 {C : Ctx F} {o pv : IVec S16 32} (ok : Ok C o pv) (k0_t4 : Fin k0_t4_loop.trips) (hn : 16 * k0_t4.val + 128 = 16 * C.c) {arg12 : BitVec 32} {Q}
    (hk : St C 48 ⊢ Q ⟨k0_pay607 pv, k0_pay608 o, k0_pay609 o pv, 15#32⟩) :
    St C 46 ⊢ wpk (thr C.d C.L) (k0_part79 (F := F) C.L a2 h2 a3 h3 a4 h4 slV h5 scV h6 gV h7 rV h8 pV h9 s10 s11 r0 r1 r2 k0_t4 arg12 o pv (k0_pay558 pv)) Q := by
  rw [k0_part79_eq_skeleton]; unfold k0_part79_skel
  refine step_chk (ok.chk 46 (by decide)) ?_
  refine ex_gather (hl := View.loads_vmem h_S4096x16) ok 46 (by decide) rfl rfl ?_
  refine ex_load fun v943_ld => ?_
  refine ex_store 46 (k0_off199_eq k0_t4) hn ?_
  refine step_chk (ok.chk 47 (by decide)) ?_
  refine ex_gather (hl := View.loads_vmem h_S4096x16) ok 47 (by decide) rfl rfl ?_
  refine ex_load fun v957_ld => ?_
  refine ex_store 47 (k0_off200_eq k0_t4) hn ?_
  exact step_pure (hk)

theorem ex80 {C : Ctx F} {o pv : IVec S16 32} (ok : Ok C o pv) (k0_t4 : Fin k0_t4_loop.trips) (hn : 16 * k0_t4.val + 128 = 16 * C.c) {arg12 : BitVec 32} {Q}
    (hk : St C 51 ⊢ Q k0_pay617) :
    St C 48 ⊢ wpk (thr C.d C.L) (k0_part80 (F := F) C.L a2 h2 a3 h3 a4 h4 slV h5 scV h6 gV h7 rV h8 pV h9 s10 s11 r0 r1 r2 k0_t4 arg12 o (k0_pay607 pv) (k0_pay608 o) (k0_pay609 o pv) 15#32) Q := by
  rw [k0_part80_eq_skeleton]; unfold k0_part80_skel
  refine step_chk (ok.chk 48 (by decide)) ?_
  refine ex_gather (hl := View.loads_vmem h_S4096x16) ok 48 (by decide) rfl rfl ?_
  refine ex_load fun v973_ld => ?_
  refine ex_store 48 (k0_off201_eq k0_t4) hn ?_
  refine step_chk (ok.chk 49 (by decide)) ?_
  refine ex_gather (hl := View.loads_vmem h_S4096x16) ok 49 (by decide) rfl rfl ?_
  refine ex_load fun v987_ld => ?_
  refine ex_store 49 (k0_off202_eq k0_t4) hn ?_
  refine step_chk (ok.chk 50 (by decide)) ?_
  refine ex_gather (hl := View.loads_vmem h_S4096x16) ok 50 (by decide) rfl rfl ?_
  refine ex_load fun v1001_ld => ?_
  refine ex_store 50 (k0_off203_eq k0_t4) hn ?_
  exact step_pure (hk)

theorem ex81 {C : Ctx F} {o pv : IVec S16 32} (ok : Ok C o pv) (k0_t4 : Fin k0_t4_loop.trips) (hn : 16 * k0_t4.val + 128 = 16 * C.c) {arg12 : BitVec 32} {Q}
    (hk : St C 53 ⊢ Q ⟨(RV C 53), 16#32⟩) :
    St C 51 ⊢ wpk (thr C.d C.L) (k0_part81 (F := F) C.L a2 h2 a3 h3 a4 h4 slV h5 scV h6 gV h7 rV h8 pV h9 s10 s11 r0 r1 r2 k0_t4 arg12 o (k0_pay607 pv) k0_pay617) Q := by
  rw [k0_part81_eq_skeleton]; unfold k0_part81_skel
  refine step_chk (ok.chk 51 (by decide)) ?_
  refine ex_gather (hl := View.loads_vmem h_S4096x16) ok 51 (by decide) rfl rfl ?_
  refine ex_load fun v1015_ld => ?_
  refine ex_store 51 (k0_off204_eq k0_t4) hn ?_
  refine step_chk (ok.chk 52 (by decide)) ?_
  refine ex_gather (hl := View.loads_vmem h_S4096x16) ok 52 (by decide) rfl rfl ?_
  refine ex_load fun v1029_ld => ?_
  refine ex_store 52 (k0_off205_eq k0_t4) hn ?_
  refine step_chk (ok.chk 53 (by decide)) ?_
  refine ex_gather (hl := View.loads_vmem h_S4096x16) ok 53 (by decide) rfl rfl ?_
  exact step_pure (hk)

theorem ex82 {C : Ctx F} {o pv : IVec S16 32} (ok : Ok C o pv) (k0_t4 : Fin k0_t4_loop.trips) (hn : 16 * k0_t4.val + 128 = 16 * C.c) {arg12 : BitVec 32} {Q}
    (hk : St C 56 ⊢ Q ⟨k0_pay633 o, k0_pay634 o, 256#32⟩) :
    St C 53 ⊢ wpk (thr C.d C.L) (k0_part82 (F := F) C.L a2 h2 a3 h3 a4 h4 slV h5 scV h6 gV h7 rV h8 pV h9 s10 s11 r0 r1 r2 k0_t4 arg12 o (k0_pay607 pv) ((RV C 53)) 16#32) Q := by
  rw [k0_part82_eq_skeleton]; unfold k0_part82_skel
  refine ex_load fun v1043_ld => ?_
  refine ex_store 53 (k0_off206_eq k0_t4) hn ?_
  refine step_chk (ok.chk 54 (by decide)) ?_
  refine ex_gather (hl := View.loads_vmem h_S4096x16) ok 54 (by decide) rfl rfl ?_
  refine ex_load fun v1057_ld => ?_
  refine ex_store 54 (k0_off207_eq k0_t4) hn ?_
  refine step_chk (ok.chk 55 (by decide)) ?_
  refine ex_gather (hl := View.loads_vmem h_S4096x16) ok 55 (by decide) rfl rfl ?_
  refine ex_load fun v1071_ld => ?_
  refine ex_store 55 (k0_off208_eq k0_t4) hn ?_
  exact step_pure (hk)

theorem ex83 {C : Ctx F} {o pv : IVec S16 32} (ok : Ok C o pv) (k0_t4 : Fin k0_t4_loop.trips) (hn : 16 * k0_t4.val + 128 = 16 * C.c) {arg12 : BitVec 32} {Q}
    (hk : ∀ (v1113_ld : Vec F S1x16 .f32), St C 58 ⊢ Q ⟨(RV C 58), v1113_ld⟩) :
    St C 56 ⊢ wpk (thr C.d C.L) (k0_part83 (F := F) C.L a2 h2 a3 h3 a4 h4 slV h5 scV h6 gV h7 rV h8 pV h9 s10 s11 r0 r1 r2 k0_t4 arg12 o (k0_pay607 pv) (k0_pay633 o) (k0_pay634 o) 256#32) Q := by
  rw [k0_part83_eq_skeleton]; unfold k0_part83_skel
  refine step_chk (ok.chk 56 (by decide)) ?_
  refine ex_gather (hl := View.loads_vmem h_S4096x16) ok 56 (by decide) rfl rfl ?_
  refine ex_load fun v1085_ld => ?_
  refine ex_store 56 (k0_off209_eq k0_t4) hn ?_
  refine step_chk (ok.chk 57 (by decide)) ?_
  refine ex_gather (hl := View.loads_vmem h_S4096x16) ok 57 (by decide) rfl rfl ?_
  refine ex_load fun v1099_ld => ?_
  refine ex_store 57 (k0_off210_eq k0_t4) hn ?_
  refine step_chk (ok.chk 58 (by decide)) ?_
  refine ex_gather (hl := View.loads_vmem h_S4096x16) ok 58 (by decide) rfl rfl ?_
  refine ex_load fun v1113_ld => ?_
  exact step_pure (hk v1113_ld)

theorem ex84 {C : Ctx F} {o pv : IVec S16 32} (ok : Ok C o pv) (k0_t4 : Fin k0_t4_loop.trips) (hn : 16 * k0_t4.val + 128 = 16 * C.c) {arg12 : BitVec 32} (v1113_ld : Vec F S1x16 .f32) {Q}
    (hk : St C 61 ⊢ Q ⟨k0_pay649 o, k0_pay650 o (k0_pay607 pv), k0_pay651⟩) :
    St C 58 ⊢ wpk (thr C.d C.L) (k0_part84 (F := F) C.L a2 h2 a3 h3 a4 h4 slV h5 scV h6 gV h7 rV h8 pV h9 s10 s11 r0 r1 r2 k0_t4 arg12 o (k0_pay607 pv) ((RV C 58)) v1113_ld) Q := by
  rw [k0_part84_eq_skeleton]; unfold k0_part84_skel
  refine ex_store 58 (k0_off211_eq k0_t4) hn ?_
  refine step_chk (ok.chk 59 (by decide)) ?_
  refine ex_gather (hl := View.loads_vmem h_S4096x16) ok 59 (by decide) rfl rfl ?_
  refine ex_load fun v1127_ld => ?_
  refine ex_store 59 (k0_off212_eq k0_t4) hn ?_
  refine step_chk (ok.chk 60 (by decide)) ?_
  refine ex_gather (hl := View.loads_vmem h_S4096x16) ok 60 (by decide) rfl rfl ?_
  refine ex_load fun v1141_ld => ?_
  refine ex_store 60 (k0_off213_eq k0_t4) hn ?_
  exact step_pure (hk)

theorem ex85 {C : Ctx F} {o pv : IVec S16 32} (ok : Ok C o pv) (k0_t4 : Fin k0_t4_loop.trips) (hn : 16 * k0_t4.val + 128 = 16 * C.c) {arg12 : BitVec 32} {Q}
    (hk : St C 64 ⊢ Q ((k0_pay658 pv))) :
    St C 61 ⊢ wpk (thr C.d C.L) (k0_part85 (F := F) C.L a2 h2 a3 h3 a4 h4 slV h5 scV h6 gV h7 rV h8 pV h9 s10 s11 r0 r1 r2 k0_t4 arg12 o pv (k0_pay607 pv) (k0_pay649 o) (k0_pay650 o (k0_pay607 pv)) k0_pay651) Q := by
  rw [k0_part85_eq_skeleton]; unfold k0_part85_skel
  refine step_chk (ok.chk 61 (by decide)) ?_
  refine ex_gather (hl := View.loads_vmem h_S4096x16) ok 61 (by decide) rfl rfl ?_
  refine ex_load fun v1155_ld => ?_
  refine ex_store 61 (k0_off214_eq k0_t4) hn ?_
  refine step_chk (ok.chk 62 (by decide)) ?_
  refine ex_gather (hl := View.loads_vmem h_S4096x16) ok 62 (by decide) rfl rfl ?_
  refine ex_load fun v1169_ld => ?_
  refine ex_store 62 (k0_off215_eq k0_t4) hn ?_
  refine step_chk (ok.chk 63 (by decide)) ?_
  refine ex_gather (hl := View.loads_vmem h_S4096x16) ok 63 (by decide) rfl rfl ?_
  refine ex_load fun v1183_ld => ?_
  refine ex_store 63 (k0_off216_eq k0_t4) hn ?_
  exact step_pure (hk)

theorem ex86 {C : Ctx F} {o pv : IVec S16 32} (ok : Ok C o pv) (k0_t4 : Fin k0_t4_loop.trips) (hn : 16 * k0_t4.val + 128 = 16 * C.c) {arg12 : BitVec 32} {Q}
    (hk : ∀ (k0_hw195 : k0_chk195 (k0_pay666 o ((k0_pay658 pv))) (k0_pay667 o)), St C 66 ⊢ Q ⟨(k0_pay666 o ((k0_pay658 pv))), (k0_pay667 o), k0_hw195⟩) :
    St C 64 ⊢ wpk (thr C.d C.L) (k0_part86 (F := F) C.L a2 h2 a3 h3 a4 h4 slV h5 scV h6 gV h7 rV h8 pV h9 s10 s11 r0 r1 r2 k0_t4 arg12 o ((k0_pay658 pv))) Q := by
  rw [k0_part86_eq_skeleton]; unfold k0_part86_skel
  refine step_chk (ok.chk 64 (by decide)) ?_
  refine ex_gather (hl := View.loads_vmem h_S4096x16) ok 64 (by decide) rfl rfl ?_
  refine ex_load fun v1199_ld => ?_
  refine ex_store 64 (k0_off217_eq k0_t4) hn ?_
  refine step_chk (ok.chk 65 (by decide)) ?_
  refine ex_gather (hl := View.loads_vmem h_S4096x16) ok 65 (by decide) rfl rfl ?_
  refine ex_load fun v1213_ld => ?_
  refine ex_store 65 (k0_off218_eq k0_t4) hn ?_
  refine step_chk (ok.chk 66 (by decide)) ?_
  exact step_pure (hk _)

theorem ex87 {C : Ctx F} {o pv : IVec S16 32} (ok : Ok C o pv) (k0_t4 : Fin k0_t4_loop.trips) (hn : 16 * k0_t4.val + 128 = 16 * C.c) {arg12 : BitVec 32} (k0_hw195 : k0_chk195 (k0_pay666 o ((k0_pay658 pv))) (k0_pay667 o)) {Q}
    (hk : St C 69 ⊢ Q ⟨k0_pay674 o, k0_pay675⟩) :
    St C 66 ⊢ wpk (thr C.d C.L) (k0_part87 (F := F) C.L a2 h2 a3 h3 a4 h4 slV h5 scV h6 gV h7 rV h8 pV h9 s10 s11 r0 r1 r2 k0_t4 arg12 o ((k0_pay658 pv)) ((k0_pay666 o ((k0_pay658 pv)))) ((k0_pay667 o)) k0_hw195) Q := by
  rw [k0_part87_eq_skeleton]; unfold k0_part87_skel
  refine ex_gather (hl := View.loads_vmem h_S4096x16) ok 66 (by decide) rfl rfl ?_
  refine ex_load fun v1227_ld => ?_
  refine ex_store 66 (k0_off219_eq k0_t4) hn ?_
  refine step_chk (ok.chk 67 (by decide)) ?_
  refine ex_gather (hl := View.loads_vmem h_S4096x16) ok 67 (by decide) rfl rfl ?_
  refine ex_load fun v1241_ld => ?_
  refine ex_store 67 (k0_off220_eq k0_t4) hn ?_
  refine step_chk (ok.chk 68 (by decide)) ?_
  refine ex_gather (hl := View.loads_vmem h_S4096x16) ok 68 (by decide) rfl rfl ?_
  refine ex_load fun v1255_ld => ?_
  refine ex_store 68 (k0_off221_eq k0_t4) hn ?_
  exact step_pure (hk)

theorem ex88 {C : Ctx F} {o pv : IVec S16 32} (ok : Ok C o pv) (k0_t4 : Fin k0_t4_loop.trips) (hn : 16 * k0_t4.val + 128 = 16 * C.c) {arg12 : BitVec 32} {Q}
    (hk : St C 71 ⊢ Q ⟨(RV C 71), (Scalar.muli arg12 16#32)⟩) :
    St C 69 ⊢ wpk (thr C.d C.L) (k0_part88 (F := F) C.L a2 h2 a3 h3 a4 h4 slV h5 scV h6 gV h7 rV h8 pV h9 s10 s11 r0 r1 r2 k0_t4 arg12 o ((k0_pay658 pv)) (k0_pay674 o) k0_pay675) Q := by
  rw [k0_part88_eq_skeleton]; unfold k0_part88_skel
  refine step_chk (ok.chk 69 (by decide)) ?_
  refine ex_gather (hl := View.loads_vmem h_S4096x16) ok 69 (by decide) rfl rfl ?_
  refine ex_load fun v1269_ld => ?_
  refine ex_store 69 (k0_off222_eq k0_t4) hn ?_
  refine step_chk (ok.chk 70 (by decide)) ?_
  refine ex_gather (hl := View.loads_vmem h_S4096x16) ok 70 (by decide) rfl rfl ?_
  refine ex_load fun v1283_ld => ?_
  refine ex_store 70 (k0_off223_eq k0_t4) hn ?_
  refine step_chk (ok.chk 71 (by decide)) ?_
  refine ex_gather (hl := View.loads_vmem h_S4096x16) ok 71 (by decide) rfl rfl ?_
  exact step_pure (hk)

theorem ex89 {C : Ctx F} {o pv : IVec S16 32} (ok : Ok C o pv) (k0_t4 : Fin k0_t4_loop.trips) (hn : 16 * k0_t4.val + 128 = 16 * C.c) {arg12 : BitVec 32} {Q}
    (hk : St C 74 ⊢ Q ⟨k0_pay690 o, k0_pay691 o ((k0_pay658 pv))⟩) :
    St C 71 ⊢ wpk (thr C.d C.L) (k0_part89 (F := F) C.L a2 h2 a3 h3 a4 h4 slV h5 scV h6 gV h7 rV h8 pV h9 s10 s11 r0 r1 r2 k0_t4 arg12 o ((k0_pay658 pv)) ((RV C 71)) ((Scalar.muli arg12 16#32))) Q := by
  rw [k0_part89_eq_skeleton]; unfold k0_part89_skel
  refine ex_load fun v1297_ld => ?_
  refine ex_store 71 (k0_off224_eq k0_t4) hn ?_
  refine step_chk (ok.chk 72 (by decide)) ?_
  refine ex_gather (hl := View.loads_vmem h_S4096x16) ok 72 (by decide) rfl rfl ?_
  refine ex_load fun v1311_ld => ?_
  refine ex_store 72 (k0_off225_eq k0_t4) hn ?_
  refine step_chk (ok.chk 73 (by decide)) ?_
  refine ex_gather (hl := View.loads_vmem h_S4096x16) ok 73 (by decide) rfl rfl ?_
  refine ex_load fun v1325_ld => ?_
  refine ex_store 73 (k0_off226_eq k0_t4) hn ?_
  exact step_pure (hk)

theorem ex90 {C : Ctx F} {o pv : IVec S16 32} (ok : Ok C o pv) (k0_t4 : Fin k0_t4_loop.trips) (hn : 16 * k0_t4.val + 128 = 16 * C.c) {arg12 : BitVec 32} {Q}
    (hk : St C 77 ⊢ Q 13#32) :
    St C 74 ⊢ wpk (thr C.d C.L) (k0_part90 (F := F) C.L a2 h2 a3 h3 a4 h4 slV h5 scV h6 gV h7 rV h8 pV h9 s10 s11 r0 r1 r2 k0_t4 arg12 o ((k0_pay658 pv)) (k0_pay690 o) (k0_pay691 o ((k0_pay658 pv)))) Q := by
  rw [k0_part90_eq_skeleton]; unfold k0_part90_skel
  refine step_chk (ok.chk 74 (by decide)) ?_
  refine ex_gather (hl := View.loads_vmem h_S4096x16) ok 74 (by decide) rfl rfl ?_
  refine ex_load fun v1339_ld => ?_
  refine ex_store 74 (k0_off227_eq k0_t4) hn ?_
  refine step_chk (ok.chk 75 (by decide)) ?_
  refine ex_gather (hl := View.loads_vmem h_S4096x16) ok 75 (by decide) rfl rfl ?_
  refine ex_load fun v1353_ld => ?_
  refine ex_store 75 (k0_off228_eq k0_t4) hn ?_
  refine step_chk (ok.chk 76 (by decide)) ?_
  refine ex_gather (hl := View.loads_vmem h_S4096x16) ok 76 (by decide) rfl rfl ?_
  refine ex_load fun v1367_ld => ?_
  refine ex_store 76 (k0_off229_eq k0_t4) hn ?_
  exact step_pure (hk)

theorem ex91 {C : Ctx F} {o pv : IVec S16 32} (ok : Ok C o pv) (k0_t4 : Fin k0_t4_loop.trips) (hn : 16 * k0_t4.val + 128 = 16 * C.c) {arg12 : BitVec 32} {Q}
    (hk : St C 79 ⊢ Q ((RV C 79))) :
    St C 77 ⊢ wpk (thr C.d C.L) (k0_part91 (F := F) C.L a2 h2 a3 h3 a4 h4 slV h5 scV h6 gV h7 rV h8 pV h9 s10 s11 r0 r1 r2 k0_t4 arg12 o ((k0_pay658 pv)) 13#32) Q := by
  rw [k0_part91_eq_skeleton]; unfold k0_part91_skel
  refine step_chk (ok.chk 77 (by decide)) ?_
  refine ex_gather (hl := View.loads_vmem h_S4096x16) ok 77 (by decide) rfl rfl ?_
  refine ex_load fun v1381_ld => ?_
  refine ex_store 77 (k0_off230_eq k0_t4) hn ?_
  refine step_chk (ok.chk 78 (by decide)) ?_
  refine ex_gather (hl := View.loads_vmem h_S4096x16) ok 78 (by decide) rfl rfl ?_
  refine ex_load fun v1395_ld => ?_
  refine ex_store 78 (k0_off231_eq k0_t4) hn ?_
  refine step_chk (ok.chk 79 (by decide)) ?_
  exact ex_gatherE (hl := View.loads_vmem h_S4096x16) ok 79 (by decide) rfl rfl hk

theorem ex92 {C : Ctx F} {o pv : IVec S16 32} (ok : Ok C o pv) (k0_t4 : Fin k0_t4_loop.trips) (hn : 16 * k0_t4.val + 128 = 16 * C.c) {arg12 : BitVec 32} {Q}
    (hk : St C 82 ⊢ Q ⟨k0_pay708 pv, k0_pay715 o⟩) :
    St C 79 ⊢ wpk (thr C.d C.L) (k0_part92 (F := F) C.L a2 h2 a3 h3 a4 h4 slV h5 scV h6 gV h7 rV h8 pV h9 s10 s11 r0 r1 r2 k0_t4 arg12 o pv ((RV C 79))) Q := by
  rw [k0_part92_eq_skeleton]; unfold k0_part92_skel
  refine ex_load fun v1409_ld => ?_
  refine ex_store 79 (k0_off232_eq k0_t4) hn ?_
  refine step_chk (ok.chk 80 (by decide)) ?_
  refine ex_gather (hl := View.loads_vmem h_S4096x16) ok 80 (by decide) rfl rfl ?_
  refine ex_load fun v1425_ld => ?_
  refine ex_store 80 (k0_off233_eq k0_t4) hn ?_
  refine step_chk (ok.chk 81 (by decide)) ?_
  refine ex_gather (hl := View.loads_vmem h_S4096x16) ok 81 (by decide) rfl rfl ?_
  refine ex_load fun v1439_ld => ?_
  refine ex_store 81 (k0_off234_eq k0_t4) hn ?_
  exact step_pure (hk)

theorem ex93 {C : Ctx F} {o pv : IVec S16 32} (ok : Ok C o pv) (k0_t4 : Fin k0_t4_loop.trips) (hn : 16 * k0_t4.val + 128 = 16 * C.c) {arg12 : BitVec 32} {Q}
    (hk : St C 84 ⊢ Q ⟨(RV C 84), (Scalar.muli arg12 16#32)⟩) :
    St C 82 ⊢ wpk (thr C.d C.L) (k0_part93 (F := F) C.L a2 h2 a3 h3 a4 h4 slV h5 scV h6 gV h7 rV h8 pV h9 s10 s11 r0 r1 r2 k0_t4 arg12 o (k0_pay708 pv) (k0_pay715 o)) Q := by
  rw [k0_part93_eq_skeleton]; unfold k0_part93_skel
  refine step_chk (ok.chk 82 (by decide)) ?_
  refine ex_gather (hl := View.loads_vmem h_S4096x16) ok 82 (by decide) rfl rfl ?_
  refine ex_load fun v1453_ld => ?_
  refine ex_store 82 (k0_off235_eq k0_t4) hn ?_
  refine step_chk (ok.chk 83 (by decide)) ?_
  refine ex_gather (hl := View.loads_vmem h_S4096x16) ok 83 (by decide) rfl rfl ?_
  refine ex_load fun v1467_ld => ?_
  refine ex_store 83 (k0_off236_eq k0_t4) hn ?_
  refine step_chk (ok.chk 84 (by decide)) ?_
  refine ex_gather (hl := View.loads_vmem h_S4096x16) ok 84 (by decide) rfl rfl ?_
  exact step_pure (hk)

theorem ex94 {C : Ctx F} {o pv : IVec S16 32} (ok : Ok C o pv) (k0_t4 : Fin k0_t4_loop.trips) (hn : 16 * k0_t4.val + 128 = 16 * C.c) {arg12 : BitVec 32} {Q}
    (hk : St C 87 ⊢ Q ⟨k0_pay730 o, k0_pay731 o, k0_pay732⟩) :
    St C 84 ⊢ wpk (thr C.d C.L) (k0_part94 (F := F) C.L a2 h2 a3 h3 a4 h4 slV h5 scV h6 gV h7 rV h8 pV h9 s10 s11 r0 r1 r2 k0_t4 arg12 o (k0_pay708 pv) ((RV C 84)) ((Scalar.muli arg12 16#32))) Q := by
  rw [k0_part94_eq_skeleton]; unfold k0_part94_skel
  refine ex_load fun v1481_ld => ?_
  refine ex_store 84 (k0_off237_eq k0_t4) hn ?_
  refine step_chk (ok.chk 85 (by decide)) ?_
  refine ex_gather (hl := View.loads_vmem h_S4096x16) ok 85 (by decide) rfl rfl ?_
  refine ex_load fun v1495_ld => ?_
  refine ex_store 85 (k0_off238_eq k0_t4) hn ?_
  refine step_chk (ok.chk 86 (by decide)) ?_
  refine ex_gather (hl := View.loads_vmem h_S4096x16) ok 86 (by decide) rfl rfl ?_
  refine ex_load fun v1509_ld => ?_
  refine ex_store 86 (k0_off239_eq k0_t4) hn ?_
  exact step_pure (hk)

theorem ex95 {C : Ctx F} {o pv : IVec S16 32} (ok : Ok C o pv) (k0_t4 : Fin k0_t4_loop.trips) (hn : 16 * k0_t4.val + 128 = 16 * C.c) {arg12 : BitVec 32} {Q}
    (hk : St C 89 ⊢ Q ((RV C 89))) :
    St C 87 ⊢ wpk (thr C.d C.L) (k0_part95 (F := F) C.L a2 h2 a3 h3 a4 h4 slV h5 scV h6 gV h7 rV h8 pV h9 s10 s11 r0 r1 r2 k0_t4 arg12 o (k0_pay708 pv) (k0_pay730 o) (k0_pay731 o) k0_pay732) Q := by
  rw [k0_part95_eq_skeleton]; unfold k0_part95_skel
  refine step_chk (ok.chk 87 (by decide)) ?_
  refine ex_gather (hl := View.loads_vmem h_S4096x16) ok 87 (by decide) rfl rfl ?_
  refine ex_load fun v1523_ld => ?_
  refine ex_store 87 (k0_off240_eq k0_t4) hn ?_
  refine step_chk (ok.chk 88 (by decide)) ?_
  refine ex_gather (hl := View.loads_vmem h_S4096x16) ok 88 (by decide) rfl rfl ?_
  refine ex_load fun v1537_ld => ?_
  refine ex_store 88 (k0_off241_eq k0_t4) hn ?_
  refine step_chk (ok.chk 89 (by decide)) ?_
  refine ex_gather (hl := View.loads_vmem h_S4096x16) ok 89 (by decide) rfl rfl ?_
  refine ex_load fun v1551_ld => ?_
  exact step_pure (hk)

theorem ex96 {C : Ctx F} {o pv : IVec S16 32} (ok : Ok C o pv) (k0_t4 : Fin k0_t4_loop.trips) (hn : 16 * k0_t4.val + 128 = 16 * C.c) {arg12 : BitVec 32} {Q}
    (hk : St C 92 ⊢ Q ⟨k0_pay748 o (k0_pay708 pv), k0_pay749 o⟩) :
    St C 89 ⊢ wpk (thr C.d C.L) (k0_part96 (F := F) C.L a2 h2 a3 h3 a4 h4 slV h5 scV h6 gV h7 rV h8 pV h9 s10 s11 r0 r1 r2 k0_t4 arg12 o (k0_pay708 pv) ((RV C 89))) Q := by
  rw [k0_part96_eq_skeleton]; unfold k0_part96_skel
  refine ex_store 89 (k0_off242_eq k0_t4) hn ?_
  refine step_chk (ok.chk 90 (by decide)) ?_
  refine ex_gather (hl := View.loads_vmem h_S4096x16) ok 90 (by decide) rfl rfl ?_
  refine ex_load fun v1565_ld => ?_
  refine ex_store 90 (k0_off243_eq k0_t4) hn ?_
  refine step_chk (ok.chk 91 (by decide)) ?_
  refine ex_gather (hl := View.loads_vmem h_S4096x16) ok 91 (by decide) rfl rfl ?_
  refine ex_load fun v1579_ld => ?_
  refine ex_store 91 (k0_off244_eq k0_t4) hn ?_
  exact step_pure (hk)

theorem ex97 {C : Ctx F} {o pv : IVec S16 32} (ok : Ok C o pv) (k0_t4 : Fin k0_t4_loop.trips) (hn : 16 * k0_t4.val + 128 = 16 * C.c) {arg12 : BitVec 32} {Q}
    (hk : St C 95 ⊢ Q ⟨k0_pay756 o, 4#32⟩) :
    St C 92 ⊢ wpk (thr C.d C.L) (k0_part97 (F := F) C.L a2 h2 a3 h3 a4 h4 slV h5 scV h6 gV h7 rV h8 pV h9 s10 s11 r0 r1 r2 k0_t4 arg12 o (k0_pay708 pv) (k0_pay748 o (k0_pay708 pv)) (k0_pay749 o)) Q := by
  rw [k0_part97_eq_skeleton]; unfold k0_part97_skel
  refine step_chk (ok.chk 92 (by decide)) ?_
  refine ex_gather (hl := View.loads_vmem h_S4096x16) ok 92 (by decide) rfl rfl ?_
  refine ex_load fun v1593_ld => ?_
  refine ex_store 92 (k0_off245_eq k0_t4) hn ?_
  refine step_chk (ok.chk 93 (by decide)) ?_
  refine ex_gather (hl := View.loads_vmem h_S4096x16) ok 93 (by decide) rfl rfl ?_
  refine ex_load fun v1607_ld => ?_
  refine ex_store 93 (k0_off246_eq k0_t4) hn ?_
  refine step_chk (ok.chk 94 (by decide)) ?_
  refine ex_gather (hl := View.loads_vmem h_S4096x16) ok 94 (by decide) rfl rfl ?_
  refine ex_load fun v1621_ld => ?_
  refine ex_store 94 (k0_off247_eq k0_t4) hn ?_
  exact step_pure (hk)

theorem ex98 {C : Ctx F} {o pv : IVec S16 32} (ok : Ok C o pv) (k0_t4 : Fin k0_t4_loop.trips) (hn : 16 * k0_t4.val + 128 = 16 * C.c) {arg12 : BitVec 32} {Q}
    (hk : St C 97 ⊢ Q ⟨k0_pay759 pv, (RV C 97)⟩) :
    St C 95 ⊢ wpk (thr C.d C.L) (k0_part98 (F := F) C.L a2 h2 a3 h3 a4 h4 slV h5 scV h6 gV h7 rV h8 pV h9 s10 s11 r0 r1 r2 k0_t4 arg12 o pv (k0_pay708 pv) (k0_pay756 o) 4#32) Q := by
  rw [k0_part98_eq_skeleton]; unfold k0_part98_skel
  refine step_chk (ok.chk 95 (by decide)) ?_
  refine ex_gather (hl := View.loads_vmem h_S4096x16) ok 95 (by decide) rfl rfl ?_
  refine ex_load fun v1635_ld => ?_
  refine ex_store 95 (k0_off248_eq k0_t4) hn ?_
  refine step_chk (ok.chk 96 (by decide)) ?_
  refine ex_gather (hl := View.loads_vmem h_S4096x16) ok 96 (by decide) rfl rfl ?_
  refine ex_load fun v1651_ld => ?_
  refine ex_store 96 (k0_off249_eq k0_t4) hn ?_
  refine step_chk (ok.chk 97 (by decide)) ?_
  refine ex_gather (hl := View.loads_vmem h_S4096x16) ok 97 (by decide) rfl rfl ?_
  exact step_pure (hk)

theorem ex99 {C : Ctx F} {o pv : IVec S16 32} (ok : Ok C o pv) (k0_t4 : Fin k0_t4_loop.trips) (hn : 16 * k0_t4.val + 128 = 16 * C.c) {arg12 : BitVec 32} {Q}
    (hk : St C 100 ⊢ Q ⟨k0_pay772 o, k0_pay773 o⟩) :
    St C 97 ⊢ wpk (thr C.d C.L) (k0_part99 (F := F) C.L a2 h2 a3 h3 a4 h4 slV h5 scV h6 gV h7 rV h8 pV h9 s10 s11 r0 r1 r2 k0_t4 arg12 o (k0_pay759 pv) ((RV C 97))) Q := by
  rw [k0_part99_eq_skeleton]; unfold k0_part99_skel
  refine ex_load fun v1665_ld => ?_
  refine ex_store 97 (k0_off250_eq k0_t4) hn ?_
  refine step_chk (ok.chk 98 (by decide)) ?_
  refine ex_gather (hl := View.loads_vmem h_S4096x16) ok 98 (by decide) rfl rfl ?_
  refine ex_load fun v1679_ld => ?_
  refine ex_store 98 (k0_off251_eq k0_t4) hn ?_
  refine step_chk (ok.chk 99 (by decide)) ?_
  refine ex_gather (hl := View.loads_vmem h_S4096x16) ok 99 (by decide) rfl rfl ?_
  refine ex_load fun v1693_ld => ?_
  refine ex_store 99 (k0_off252_eq k0_t4) hn ?_
  exact step_pure (hk)

theorem ex100 {C : Ctx F} {o pv : IVec S16 32} (ok : Ok C o pv) (k0_t4 : Fin k0_t4_loop.trips) (hn : 16 * k0_t4.val + 128 = 16 * C.c) {arg12 : BitVec 32} {Q}
    (hk : St C 102 ⊢ Q ((RV C 102))) :
    St C 100 ⊢ wpk (thr C.d C.L) (k0_part100 (F := F) C.L a2 h2 a3 h3 a4 h4 slV h5 scV h6 gV h7 rV h8 pV h9 s10 s11 r0 r1 r2 k0_t4 arg12 o (k0_pay759 pv) (k0_pay772 o) (k0_pay773 o)) Q := by
  rw [k0_part100_eq_skeleton]; unfold k0_part100_skel
  refine step_chk (ok.chk 100 (by decide)) ?_
  refine ex_gather (hl := View.loads_vmem h_S4096x16) ok 100 (by decide) rfl rfl ?_
  refine ex_load fun v1707_ld => ?_
  refine ex_store 100 (k0_off253_eq k0_t4) hn ?_
  refine step_chk (ok.chk 101 (by decide)) ?_
  refine ex_gather (hl := View.loads_vmem h_S4096x16) ok 101 (by decide) rfl rfl ?_
  refine ex_load fun v1721_ld => ?_
  refine ex_store 101 (k0_off254_eq k0_t4) hn ?_
  refine step_chk (ok.chk 102 (by decide)) ?_
  exact ex_gatherE (hl := View.loads_vmem h_S4096x16) ok 102 (by decide) rfl rfl hk

theorem ex101 {C : Ctx F} {o pv : IVec S16 32} (ok : Ok C o pv) (k0_t4 : Fin k0_t4_loop.trips) (hn : 16 * k0_t4.val + 128 = 16 * C.c) {arg12 : BitVec 32} {Q}
    (hk : St C 105 ⊢ Q ⟨k0_pay788 o, k0_pay789 o (k0_pay759 pv), 15#32⟩) :
    St C 102 ⊢ wpk (thr C.d C.L) (k0_part101 (F := F) C.L a2 h2 a3 h3 a4 h4 slV h5 scV h6 gV h7 rV h8 pV h9 s10 s11 r0 r1 r2 k0_t4 arg12 o (k0_pay759 pv) ((RV C 102))) Q := by
  rw [k0_part101_eq_skeleton]; unfold k0_part101_skel
  refine ex_load fun v1735_ld => ?_
  refine ex_store 102 (k0_off255_eq k0_t4) hn ?_
  refine step_chk (ok.chk 103 (by decide)) ?_
  refine ex_gather (hl := View.loads_vmem h_S4096x16) ok 103 (by decide) rfl rfl ?_
  refine ex_load fun v1749_ld => ?_
  refine ex_store 103 (k0_off256_eq k0_t4) hn ?_
  refine step_chk (ok.chk 104 (by decide)) ?_
  refine ex_gather (hl := View.loads_vmem h_S4096x16) ok 104 (by decide) rfl rfl ?_
  refine ex_load fun v1763_ld => ?_
  refine ex_store 104 (k0_off257_eq k0_t4) hn ?_
  exact step_pure (hk)

theorem ex102 {C : Ctx F} {o pv : IVec S16 32} (ok : Ok C o pv) (k0_t4 : Fin k0_t4_loop.trips) (hn : 16 * k0_t4.val + 128 = 16 * C.c) {arg12 : BitVec 32} {Q}
    (hk : St C 108 ⊢ Q k0_pay797) :
    St C 105 ⊢ wpk (thr C.d C.L) (k0_part102 (F := F) C.L a2 h2 a3 h3 a4 h4 slV h5 scV h6 gV h7 rV h8 pV h9 s10 s11 r0 r1 r2 k0_t4 arg12 o (k0_pay759 pv) (k0_pay788 o) (k0_pay789 o (k0_pay759 pv)) 15#32) Q := by
  rw [k0_part102_eq_skeleton]; unfold k0_part102_skel
  refine step_chk (ok.chk 105 (by decide)) ?_
  refine ex_gather (hl := View.loads_vmem h_S4096x16) ok 105 (by decide) rfl rfl ?_
  refine ex_load fun v1777_ld => ?_
  refine ex_store 105 (k0_off258_eq k0_t4) hn ?_
  refine step_chk (ok.chk 106 (by decide)) ?_
  refine ex_gather (hl := View.loads_vmem h_S4096x16) ok 106 (by decide) rfl rfl ?_
  refine ex_load fun v1791_ld => ?_
  refine ex_store 106 (k0_off259_eq k0_t4) hn ?_
  refine step_chk (ok.chk 107 (by decide)) ?_
  refine ex_gather (hl := View.loads_vmem h_S4096x16) ok 107 (by decide) rfl rfl ?_
  refine ex_load fun v1805_ld => ?_
  refine ex_store 107 (k0_off260_eq k0_t4) hn ?_
  exact step_pure (hk)

theorem ex103 {C : Ctx F} {o pv : IVec S16 32} (ok : Ok C o pv) (k0_t4 : Fin k0_t4_loop.trips) (hn : 16 * k0_t4.val + 128 = 16 * C.c) {arg12 : BitVec 32} {Q}
    (hk : St C 110 ⊢ Q ⟨(RV C 110), 16#32⟩) :
    St C 108 ⊢ wpk (thr C.d C.L) (k0_part103 (F := F) C.L a2 h2 a3 h3 a4 h4 slV h5 scV h6 gV h7 rV h8 pV h9 s10 s11 r0 r1 r2 k0_t4 arg12 o (k0_pay759 pv) k0_pay797) Q := by
  rw [k0_part103_eq_skeleton]; unfold k0_part103_skel
  refine step_chk (ok.chk 108 (by decide)) ?_
  refine ex_gather (hl := View.loads_vmem h_S4096x16) ok 108 (by decide) rfl rfl ?_
  refine ex_load fun v1819_ld => ?_
  refine ex_store 108 (k0_off261_eq k0_t4) hn ?_
  refine step_chk (ok.chk 109 (by decide)) ?_
  refine ex_gather (hl := View.loads_vmem h_S4096x16) ok 109 (by decide) rfl rfl ?_
  refine ex_load fun v1833_ld => ?_
  refine ex_store 109 (k0_off262_eq k0_t4) hn ?_
  refine step_chk (ok.chk 110 (by decide)) ?_
  refine ex_gather (hl := View.loads_vmem h_S4096x16) ok 110 (by decide) rfl rfl ?_
  exact step_pure (hk)

theorem ex104 {C : Ctx F} {o pv : IVec S16 32} (ok : Ok C o pv) (k0_t4 : Fin k0_t4_loop.trips) (hn : 16 * k0_t4.val + 128 = 16 * C.c) {arg12 : BitVec 32} {Q}
    (hk : St C 113 ⊢ Q ⟨k0_pay810 pv, k0_pay814 o, 4#32⟩) :
    St C 110 ⊢ wpk (thr C.d C.L) (k0_part104 (F := F) C.L a2 h2 a3 h3 a4 h4 slV h5 scV h6 gV h7 rV h8 pV h9 s10 s11 r0 r1 r2 k0_t4 arg12 o pv (k0_pay759 pv) ((RV C 110)) 16#32) Q := by
  rw [k0_part104_eq_skeleton]; unfold k0_part104_skel
  refine ex_load fun v1847_ld => ?_
  refine ex_store 110 (k0_off263_eq k0_t4) hn ?_
  refine step_chk (ok.chk 111 (by decide)) ?_
  refine ex_gather (hl := View.loads_vmem h_S4096x16) ok 111 (by decide) rfl rfl ?_
  refine ex_load fun v1861_ld => ?_
  refine ex_store 111 (k0_off264_eq k0_t4) hn ?_
  refine step_chk (ok.chk 112 (by decide)) ?_
  refine ex_gather (hl := View.loads_vmem h_S4096x16) ok 112 (by decide) rfl rfl ?_
  refine ex_load fun v1877_ld => ?_
  refine ex_store 112 (k0_off265_eq k0_t4) hn ?_
  exact step_pure (hk)

theorem ex105 {C : Ctx F} {o pv : IVec S16 32} (ok : Ok C o pv) (k0_t4 : Fin k0_t4_loop.trips) (hn : 16 * k0_t4.val + 128 = 16 * C.c) {arg12 : BitVec 32} {Q}
    (hk : St C 115 ⊢ Q ⟨(RV C 115), (Scalar.muli arg12 16#32), 115#32⟩) :
    St C 113 ⊢ wpk (thr C.d C.L) (k0_part105 (F := F) C.L a2 h2 a3 h3 a4 h4 slV h5 scV h6 gV h7 rV h8 pV h9 s10 s11 r0 r1 r2 k0_t4 arg12 o (k0_pay810 pv) (k0_pay814 o) 4#32) Q := by
  rw [k0_part105_eq_skeleton]; unfold k0_part105_skel
  refine step_chk (ok.chk 113 (by decide)) ?_
  refine ex_gather (hl := View.loads_vmem h_S4096x16) ok 113 (by decide) rfl rfl ?_
  refine ex_load fun v1891_ld => ?_
  refine ex_store 113 (k0_off266_eq k0_t4) hn ?_
  refine step_chk (ok.chk 114 (by decide)) ?_
  refine ex_gather (hl := View.loads_vmem h_S4096x16) ok 114 (by decide) rfl rfl ?_
  refine ex_load fun v1905_ld => ?_
  refine ex_store 114 (k0_off267_eq k0_t4) hn ?_
  refine step_chk (ok.chk 115 (by decide)) ?_
  refine ex_gather (hl := View.loads_vmem h_S4096x16) ok 115 (by decide) rfl rfl ?_
  exact step_pure (hk)

theorem ex106 {C : Ctx F} {o pv : IVec S16 32} (ok : Ok C o pv) (k0_t4 : Fin k0_t4_loop.trips) (hn : 16 * k0_t4.val + 128 = 16 * C.c) {arg12 : BitVec 32} {Q}
    (hk : St C 118 ⊢ Q ⟨k0_pay829 o, k0_pay830 o⟩) :
    St C 115 ⊢ wpk (thr C.d C.L) (k0_part106 (F := F) C.L a2 h2 a3 h3 a4 h4 slV h5 scV h6 gV h7 rV h8 pV h9 s10 s11 r0 r1 r2 k0_t4 arg12 o (k0_pay810 pv) ((RV C 115)) ((Scalar.muli arg12 16#32)) 115#32) Q := by
  rw [k0_part106_eq_skeleton]; unfold k0_part106_skel
  refine ex_load fun v1919_ld => ?_
  refine ex_store 115 (k0_off268_eq k0_t4) hn ?_
  refine step_chk (ok.chk 116 (by decide)) ?_
  refine ex_gather (hl := View.loads_vmem h_S4096x16) ok 116 (by decide) rfl rfl ?_
  refine ex_load fun v1933_ld => ?_
  refine ex_store 116 (k0_off269_eq k0_t4) hn ?_
  refine step_chk (ok.chk 117 (by decide)) ?_
  refine ex_gather (hl := View.loads_vmem h_S4096x16) ok 117 (by decide) rfl rfl ?_
  refine ex_load fun v1947_ld => ?_
  refine ex_store 117 (k0_off270_eq k0_t4) hn ?_
  exact step_pure (hk)

theorem ex107 {C : Ctx F} {o pv : IVec S16 32} (ok : Ok C o pv) (k0_t4 : Fin k0_t4_loop.trips) (hn : 16 * k0_t4.val + 128 = 16 * C.c) {arg12 : BitVec 32} {Q}
    (hk : St C 121 ⊢ Q ⟨⟩) :
    St C 118 ⊢ wpk (thr C.d C.L) (k0_part107 (F := F) C.L a2 h2 a3 h3 a4 h4 slV h5 scV h6 gV h7 rV h8 pV h9 s10 s11 r0 r1 r2 k0_t4 arg12 o (k0_pay810 pv) (k0_pay829 o) (k0_pay830 o)) Q := by
  rw [k0_part107_eq_skeleton]; unfold k0_part107_skel
  refine step_chk (ok.chk 118 (by decide)) ?_
  refine ex_gather (hl := View.loads_vmem h_S4096x16) ok 118 (by decide) rfl rfl ?_
  refine ex_load fun v1961_ld => ?_
  refine ex_store 118 (k0_off271_eq k0_t4) hn ?_
  refine step_chk (ok.chk 119 (by decide)) ?_
  refine ex_gather (hl := View.loads_vmem h_S4096x16) ok 119 (by decide) rfl rfl ?_
  refine ex_load fun v1975_ld => ?_
  refine ex_store 119 (k0_off272_eq k0_t4) hn ?_
  refine step_chk (ok.chk 120 (by decide)) ?_
  refine ex_gather (hl := View.loads_vmem h_S4096x16) ok 120 (by decide) rfl rfl ?_
  refine ex_load fun v1989_ld => ?_
  refine ex_store 120 (k0_off273_eq k0_t4) hn ?_
  exact step_pure (hk)

theorem ex108 {C : Ctx F} {o pv : IVec S16 32} (ok : Ok C o pv) (k0_t4 : Fin k0_t4_loop.trips) (hn : 16 * k0_t4.val + 128 = 16 * C.c) {arg12 : BitVec 32} {Q}
    (hk : ∀ (k0_hw252 : k0_chk252 (k0_pay845 o (k0_pay810 pv)) (k0_pay846 o)), St C 123 ⊢ Q ⟨(k0_pay845 o (k0_pay810 pv)), (k0_pay846 o), k0_hw252⟩) :
    St C 121 ⊢ wpk (thr C.d C.L) (k0_part108 (F := F) C.L a2 h2 a3 h3 a4 h4 slV h5 scV h6 gV h7 rV h8 pV h9 s10 s11 r0 r1 r2 k0_t4 arg12 o (k0_pay810 pv)) Q := by
  rw [k0_part108_eq_skeleton]; unfold k0_part108_skel
  refine step_chk (ok.chk 121 (by decide)) ?_
  refine ex_gather (hl := View.loads_vmem h_S4096x16) ok 121 (by decide) rfl rfl ?_
  refine ex_load fun v2003_ld => ?_
  refine ex_store 121 (k0_off274_eq k0_t4) hn ?_
  refine step_chk (ok.chk 122 (by decide)) ?_
  refine ex_gather (hl := View.loads_vmem h_S4096x16) ok 122 (by decide) rfl rfl ?_
  refine ex_load fun v2017_ld => ?_
  refine ex_store 122 (k0_off275_eq k0_t4) hn ?_
  refine step_chk (ok.chk 123 (by decide)) ?_
  exact step_pure (hk _)

theorem ex109 {C : Ctx F} {o pv : IVec S16 32} (ok : Ok C o pv) (k0_t4 : Fin k0_t4_loop.trips) (hn : 16 * k0_t4.val + 128 = 16 * C.c) {arg12 : BitVec 32} (k0_hw252 : k0_chk252 (k0_pay845 o (k0_pay810 pv)) (k0_pay846 o)) {Q}
    (hk : St C 126 ⊢ Q ⟨k0_pay853 o, k0_pay854⟩) :
    St C 123 ⊢ wpk (thr C.d C.L) (k0_part109 (F := F) C.L a2 h2 a3 h3 a4 h4 slV h5 scV h6 gV h7 rV h8 pV h9 s10 s11 r0 r1 r2 k0_t4 arg12 o (k0_pay810 pv) ((k0_pay845 o (k0_pay810 pv))) ((k0_pay846 o)) k0_hw252) Q := by
  rw [k0_part109_eq_skeleton]; unfold k0_part109_skel
  refine ex_gather (hl := View.loads_vmem h_S4096x16) ok 123 (by decide) rfl rfl ?_
  refine ex_load fun v2031_ld => ?_
  refine ex_store 123 (k0_off276_eq k0_t4) hn ?_
  refine step_chk (ok.chk 124 (by decide)) ?_
  refine ex_gather (hl := View.loads_vmem h_S4096x16) ok 124 (by decide) rfl rfl ?_
  refine ex_load fun v2045_ld => ?_
  refine ex_store 124 (k0_off277_eq k0_t4) hn ?_
  refine step_chk (ok.chk 125 (by decide)) ?_
  refine ex_gather (hl := View.loads_vmem h_S4096x16) ok 125 (by decide) rfl rfl ?_
  refine ex_load fun v2059_ld => ?_
  refine ex_store 125 (k0_off278_eq k0_t4) hn ?_
  exact step_pure (hk)

set_option maxRecDepth 65536 in
theorem ex_body4 {C : Ctx F} (hok : Hok C) (hc : C.c < 16) (k0_t4 : Fin k0_t4_loop.trips) (hn : 16 * k0_t4.val + 128 = 16 * C.c) (z : BitVec 32) {Q}
    (hk : ∀ z, St C 128 ⊢ Q z) :
    St C 0 ⊢ wpk (thr C.d C.L) (k0_t4_body (F := F) C.L a2 h2 a3 h3 a4 h4 slV h5 scV h6 gV h7 rV h8 pV h9 s10 s11 r0 r1 r2 k0_t4 z) Q := by
  unfold k0_t4_body
  refine step_bind ?_
  rw [k0_part110_eq_skeleton]; unfold k0_part110_skel
  refine step_bind (ex61 hok hc k0_t4 hn fun arg12 o pv ok v309_ld => ?_)
  refine step_bind (ex62 ok k0_t4 hn _ ?_)
  refine step_bind (ex63 ok k0_t4 hn ?_)
  refine step_bind (ex64 ok k0_t4 hn ?_)
  refine step_bind (ex65 ok k0_t4 hn ?_)
  refine step_bind (ex66 ok k0_t4 hn ?_)
  refine step_bind (ex67 ok k0_t4 hn ?_)
  refine step_bind (ex68 ok k0_t4 hn ?_)
  refine step_bind (ex69 ok k0_t4 hn ?_)
  refine step_bind (ex70 ok k0_t4 hn ?_)
  refine step_bind (ex71 ok k0_t4 hn ?_)
  refine step_bind (ex72 ok k0_t4 hn ?_)
  refine step_bind (ex73 ok k0_t4 hn ?_)
  refine step_bind (ex74 ok k0_t4 hn ?_)
  refine step_bind (ex75 ok k0_t4 hn ?_)
  refine step_bind (ex76 ok k0_t4 hn ?_)
  refine step_bind (ex77 ok k0_t4 hn ?_)
  refine step_bind (ex78 ok k0_t4 hn ?_)
  refine step_bind (ex79 ok k0_t4 hn ?_)
  refine step_bind (ex80 ok k0_t4 hn ?_)
  refine step_bind (ex81 ok k0_t4 hn ?_)
  refine step_bind (ex82 ok k0_t4 hn ?_)
  refine step_bind (ex83 ok k0_t4 hn fun v1113_ld => ?_)
  refine step_bind (ex84 ok k0_t4 hn _ ?_)
  refine step_bind (ex85 ok k0_t4 hn ?_)
  refine step_bind (ex86 ok k0_t4 hn fun hw => ?_)
  refine step_bind (ex87 ok k0_t4 hn _ ?_)
  refine step_bind (ex88 ok k0_t4 hn ?_)
  refine step_bind (ex89 ok k0_t4 hn ?_)
  refine step_bind (ex90 ok k0_t4 hn ?_)
  refine step_bind (ex91 ok k0_t4 hn ?_)
  refine step_bind (ex92 ok k0_t4 hn ?_)
  refine step_bind (ex93 ok k0_t4 hn ?_)
  refine step_bind (ex94 ok k0_t4 hn ?_)
  refine step_bind (ex95 ok k0_t4 hn ?_)
  refine step_bind (ex96 ok k0_t4 hn ?_)
  refine step_bind (ex97 ok k0_t4 hn ?_)
  refine step_bind (ex98 ok k0_t4 hn ?_)
  refine step_bind (ex99 ok k0_t4 hn ?_)
  refine step_bind (ex100 ok k0_t4 hn ?_)
  refine step_bind (ex101 ok k0_t4 hn ?_)
  refine step_bind (ex102 ok k0_t4 hn ?_)
  refine step_bind (ex103 ok k0_t4 hn ?_)
  refine step_bind (ex104 ok k0_t4 hn ?_)
  refine step_bind (ex105 ok k0_t4 hn ?_)
  refine step_bind (ex106 ok k0_t4 hn ?_)
  refine step_bind (ex107 ok k0_t4 hn ?_)
  refine step_bind (ex108 ok k0_t4 hn fun hw => ?_)
  refine step_bind (ex109 ok k0_t4 hn _ ?_)
  refine step_chk (ok.chk 126 (by decide)) ?_
  refine ex_gather (hl := View.loads_vmem h_S4096x16) ok 126 (by decide) rfl rfl ?_
  refine step_pure ?_
  refine ex_load fun v2073_ld => ?_
  refine ex_store 126 (k0_off279_eq k0_t4) hn ?_
  refine step_chk (ok.chk 127 (by decide)) ?_
  refine ex_gather (hl := View.loads_vmem h_S4096x16) ok 127 (by decide) rfl rfl ?_
  refine ex_load fun v2087_ld => ?_
  refine ex_store 127 (k0_off280_eq k0_t4) hn ?_
  exact step_pure (hk _)

end Cert.Kernel.Tile
-- ==== Proof.KPhase.lean ====
module

public import proofs.«01_k».proof.Proof.KMode
public import proofs.«01_k».proof.Proof.KBuild
public import proofs.«01_k».proof.Proof.KExtB

@[expose] public section

noncomputable section

namespace Cert.Kernel.Tile

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ (UU F) ℕ
local notation "slV" => (Memref.whole Cert.Kernel.cc0_scratch0 : Memref Cert.Kernel.sig Kind.scVector Space.vmem Cert.Kernel.S256 EltTy.i32)
local notation "scV" => (Memref.whole Cert.Kernel.cc0_scratch1 : Memref Cert.Kernel.sig Kind.scVector Space.vmem Cert.Kernel.S256 EltTy.i32)
local notation "gV" => (Memref.whole Cert.Kernel.cc0_scratch2 : Memref Cert.Kernel.sig Kind.scVector Space.vmem Cert.Kernel.S32x128 EltTy.i32)
local notation "rV" => (Memref.whole Cert.Kernel.cc0_scratch3 : Memref Cert.Kernel.sig Kind.scVector Space.vmem Cert.Kernel.S4096x16 EltTy.f32)
local notation "pV" => (Memref.whole Cert.Kernel.cc0_scratch4 : Memref Cert.Kernel.sig Kind.scVector Space.vmem Cert.Kernel.S136x256 EltTy.f32)

local notation "xV" => (Memref.whole Cert.Kernel.main_v0_scv : Memref Cert.Kernel.sig Kind.scVector Space.hbm Cert.Kernel.S2097152x16 EltTy.f32)

/-! ## The waits of the streams -/

/-- What a thread owes, with the record of its waits. -/
def Ow (d : Dev nD) (L : grid0.Coords) (O : CellTallies nD τ sig (HIx 1)) (W : Waits sig (HIx 1)) : sProp 𝕄 :=
  iprop(∃ W' : Waits sig (HIx 1), ⌜∀ p ∈ W', p ∈ W ∨ p.2 = none⌝ ∗ owes (thr d L) O W')

def MW (d : Dev nD) (L : grid0.Coords) (O : CellTallies nD τ sig (HIx 1)) : sProp 𝕄 :=
  Transfers.MayWaits (thr d L) (default : HIx 1) O

instance (d : Dev nD) (L : grid0.Coords) (O : CellTallies nD τ sig (HIx 1)) : BI.Persistent (MW (F := F) d L O) := by unfold MW; infer_instance

/-- The streams of a half once `u` of them are waited for. -/
def Sw (C : SC F) (sem : DmaSem sig) (O : CellTallies nD τ sig (HIx 1)) (W : Waits sig (HIx 1)) (u : ℕ) : sProp 𝕄 :=
  iprop(MW C.d C.L O ∗ Ow C.d C.L O W
    ∗ Transfers.Batch countersEmb (thr C.d C.L) (.dma sem) (default : HIx 1) 512 (PstT C) 2048 (65536 * u))

section Wait
variable {C : SC F} {sem : DmaSem sig} {O : CellTallies nD τ sig (HIx 1)} {W : Waits sig (HIx 1)} {α : Type}

theorem ow_insert {d : Dev nD} {L : grid0.Coords} {W' : Waits sig (HIx 1)} {sm : SemLoc sig} (h : ∀ p ∈ W', p ∈ W ∨ p.2 = none) :
    ∀ p ∈ insert (sm, (default : HIx 1)) W', p ∈ W ∨ p.2 = none := fun p hp => by
  rcases Finset.mem_insert.mp hp with hp | hp
  · exact .inr (hp ▸ rfl)
  · exact h p hp

theorem win_credit : sig.dmaCredit .scVector (Kind.scVector.table .vmem) (cc0_scratch3 : Ref sig .scVector).idx S128x16 .f32 = 128 * 512 := by decide +kernel

theorem st_wait {A : sProp 𝕄} {Q : α → sProp 𝕄} (u : ℕ) (hu : u < 16) {n : Fin 2 → ℕ}
    {sp : Space} {s' : Shape} {e' : EltTy} {src : Memref sig (thr C.d C.L).2.kind sp s' e'}
    {i1 : ∀ a, n a + S128x16.size a ≤ S4096x16.size a} {h1} {hw hw'}
    {kont : PUnit → Prog (TpuEff nD τ sig (Elt F) Λ₀ (thr C.d C.L).2) α}
    (hkont : iprop(Sw C sem O W (u + 1) ∗ A) ⊢ wpk (thr C.d C.L) (kont ⟨⟩) Q) :
    iprop(Sw C sem O W u ∗ A) ⊢ wpk (thr C.d C.L)
      (SparseCore.waitIndirectGather sem src ((rV).slice (Rect.unit (s := S4096x16) n S128x16.size i1) h1) hw hw' >>= kont) Q := by
  have hJ : ((rV).slice (Rect.unit (s := S4096x16) n S128x16.size i1) h1).view.dmaCredit = 128 * 512 := win_credit
  change _ ⊢ wp frame (wpE (defs₀ (F := F)) 𝒱₀ (thr C.d C.L) none) Set.univ
    (.op (.waitDma2 sem src ((rV).slice (Rect.unit (s := S4096x16) n S128x16.size i1) h1) hw hw') fun _ => kont ⟨⟩) Q
  unfold Sw Ow MW
  iintro ⟨⟨#HM, ⟨%W', %hW, HO⟩, HB⟩, HA⟩
  iapply (Transfers.wp_waitBatchMulO countersEmb 𝒱₀ (thr C.d C.L) none (default : HIx 1) 128 hJ (j := 2048) (u := 65536 * u) (by omega)) $$ [HO HB]
  · isplitl [HB]; · iexact HB
    isplitl [HO]; · iexact HO
    iapply (Transfers.MayWaits.elim (SemLoc.dma sem)) $$ HM
  iintro ⟨HB, HO⟩
  iapply hkont
  isplitr [HA]
  · unfold Sw Ow MW
    isplitr; · iexact HM
    isplitl [HO]
    · iexists _; isplitr
      swap; · iexact HO
      ipureintro; exact ow_insert (d := C.d) (L := C.L) hW
    iapply (Entails.of_eq (by rw [show 65536 * u + 128 * 512 = 65536 * (u + 1) by omega])) $$ HB
  iexact HA

end Wait

/-! ## Beginnings and ends of the two halves -/

/-- What is fixed for one task. -/
structure TB (F : FTy → Type) where
  d : Dev nD
  L : grid0.Coords
  I : In F
  ι : ℕ
  f : Vec F S4096x16 .f32
  hin : ∀ k p, k < 16 → p < 256 → (gw I k p).toNat < 2097152

def TB.s0 (B : TB F) : SC F := ⟨B.d, B.L, B.I, 0, B.ι, fullShare.left, B.f, by decide, B.hin⟩
def TB.s1 (B : TB F) : SC F := ⟨B.d, B.L, B.I, 1, B.ι, fullShare.left, B.f, by decide, B.hin⟩

section Ends
variable {C : SC F} {sem : DmaSem sig}

theorem pending_zero : (Transfers.pending 0 : Finset (Fin 2048)) = Finset.univ := by
  ext t; unfold Transfers.pending; simp

theorem gix_fam (W : ℕ → ℕ → Prop) (hW : ∀ r c, r % 2 = C.h → c < 8 → W r c) :
    Gix C.d C.L C.I C.h W ⊢ bigSep (Finset.univ : Finset (Fin 2048)) fun t => GE C t.val := by
  have hh := C.hh
  have hu : (Finset.univ.filter fun x : S32x128.Idx => (x 0).val % 2 = C.h) = (Finset.univ : Finset (Fin 2048)).biUnion fun t => elS C.h t.val := by
    ext x
    unfold elS
    simp only [Finset.mem_filter, Finset.mem_univ, true_and, Finset.mem_biUnion]
    have h0 : (x 0).val < 32 := (x 0).isLt
    have h1 : (x 1).val < 128 := (x 1).isLt
    constructor
    · intro hm
      exact ⟨⟨128 * ((x 0).val / 2) + (x 1).val, by omega⟩,
        by show (x 0).val = 2 * ((128 * ((x 0).val / 2) + (x 1).val) / 128) + C.h; omega,
        by show (x 1).val = (128 * ((x 0).val / 2) + (x 1).val) % 128; omega⟩
    · rintro ⟨t, ht, _⟩; omega
  unfold Gix
  refine exists_elim fun f => pureL fun hf => ?_
  have e : ((gV).view.loc (thr C.d C.L) ↦[Finset.univ.filter fun x : S32x128.Idx => (x 0).val % 2 = C.h]{fullShare} f : sProp 𝕄)
      = bigSep (Finset.univ : Finset (Fin 2048)) fun t => GE C t.val := by
    rw [show ((gV).view.loc (thr C.d C.L) ↦[Finset.univ.filter fun x : S32x128.Idx => (x 0).val % 2 = C.h]{fullShare} f : sProp 𝕄)
      = ((gV).view.loc (thr C.d C.L) ↦[Finset.univ.filter fun x : S32x128.Idx => (x 0).val % 2 = C.h]{fullShare} (gF C.I : Vec F S32x128 .i32)) from
        pointsTo_congr fun x hx => hf x (Finset.mem_filter.mp hx).2 (hW _ _ (Finset.mem_filter.mp hx).2 (by have h1 : (x 1).val < 128 := (x 1).isLt; omega))]
    rw [hu, pointsTo_biUnion]
    · rfl
    intro t _ t' _ hne
    rw [Finset.disjoint_left]
    intro x hx hx'
    unfold elS at hx hx'
    rw [Finset.mem_filter] at hx hx'
    refine hne (Fin.ext ?_)
    omega
  exact Entails.of_eq e

theorem sm_start (W : ℕ → ℕ → Prop) (hW : ∀ r c, r % 2 = C.h → c < 8 → W r c) :
    iprop(WI C ∗ XS C ∗ RWS C.d C.L C.I C.f (ev C.h) C.q ∅ ∗ Gix C.d C.L C.I C.h W
        ∗ Transfers.Batch countersEmb (thr C.d C.L) (.dma sem) (default : HIx 1) 512 (PstT C) 0 0) ⊢ Sm C sem 0 := by
  unfold Sm
  have hg := gix_fam (C := C) W hW
  have e : (bigSep (Transfers.pending (128 * 0)) (PreT C) : sProp 𝕄)
      = iprop(RWS C.d C.L C.I C.f (ev C.h) C.q ∅ ∗ bigSep (Finset.univ : Finset (Fin 2048)) fun t => GE C t.val) := by
    rw [Nat.mul_zero, pending_zero, ← rws_fam C.h C.hh]
    exact BI.bigSep_sep' _ _ _
  rw [e]
  iintro ⟨HI, HX, HR, HG, HB⟩
  isplitl [HI]; · iexact HI
  isplitl [HX]; · iexact HX
  isplitl [HR HG]
  · isplitl [HR]; · iexact HR
    iapply hg; iexact HG
  iexact HB

theorem sm_end {O : CellTallies nD τ sig (HIx 1)} {W : Waits sig (HIx 1)} : iprop(Sm C sem 16 ∗ MW C.d C.L O ∗ Ow C.d C.L O W) ⊢ iprop(XS C ∗ Sw C sem O W 0) := by
  unfold Sm Sw
  iintro ⟨⟨HI, HX, HP, HB⟩, HM, HO⟩
  isplitl [HX]; · iexact HX
  isplitl [HM]; · iexact HM
  isplitl [HO]; · iexact HO
  iexact HB

theorem sw_end {O : CellTallies nD τ sig (HIx 1)} {W : Waits sig (HIx 1)} :
    Sw C sem O W 16 ⊢ iprop(|={Set.univ}=> (Ow C.d C.L O W ∗ semVal (thr C.d C.L, SemLoc.dma sem) 0 ∗ RWS C.d C.L C.I C.f (ev C.h) C.q (ev C.h)
        ∗ bigSep (Finset.univ : Finset (Fin 2048)) fun t => GE C t.val)) := by
  have e : (bigSep Finset.univ (PstT C) : sProp 𝕄)
      = iprop(RWS C.d C.L C.I C.f (ev C.h) C.q (ev C.h) ∗ bigSep (Finset.univ : Finset (Fin 2048)) fun t => GE C t.val) := by
    rw [← rws_fam C.h C.hh, ← BI.bigSep_sep']
    refine BI.bigSep_congr fun t _ => ?_
    show iprop(RW C (rT C.h t.val) (rowS (rT C.h t.val)) ∗ GE C t.val) = _
    congr 1
    refine rws_congr fun i hi => ⟨fun _ => ?_, fun _ => hi⟩
    have hh := C.hh
    have h1 := (Finset.mem_filter.mp hi).2
    unfold rT at h1
    exact Finset.mem_filter.mpr ⟨Finset.mem_univ _, by omega⟩
  have hc := Transfers.batch_collect' (countersEmb : UEmb Counters 𝕄) (thr C.d C.L) (sm := SemLoc.dma sem) (ι := (default : HIx 1)) (by decide : 0 < 512) (D := PstT C)
  rw [e, show 512 * 2048 = 65536 * 16 from by norm_num] at hc
  unfold Sw
  iintro ⟨-, HO, HB⟩
  imod hc $$ HB with ⟨HD, Hs⟩
  imodintro
  isplitl [HO]; · iexact HO
  isplitl [Hs]; · iexact Hs
  iexact HD

end Ends
end Cert.Kernel.Tile
-- ==== Proof.KExtA.lean ====
/-
  The extraction of the first eight blocks of sixteen patches, part by part.
-/
module

public import proofs.«01_k».proof.Proof.KExt

@[expose] public section

noncomputable section

namespace Cert.Kernel.Tile

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ (UU F) ℕ
local notation "slV" => (Memref.whole Cert.Kernel.cc0_scratch0 : Memref Cert.Kernel.sig Kind.scVector Space.vmem Cert.Kernel.S256 EltTy.i32)
local notation "scV" => (Memref.whole Cert.Kernel.cc0_scratch1 : Memref Cert.Kernel.sig Kind.scVector Space.vmem Cert.Kernel.S256 EltTy.i32)
local notation "gV" => (Memref.whole Cert.Kernel.cc0_scratch2 : Memref Cert.Kernel.sig Kind.scVector Space.vmem Cert.Kernel.S32x128 EltTy.i32)
local notation "rV" => (Memref.whole Cert.Kernel.cc0_scratch3 : Memref Cert.Kernel.sig Kind.scVector Space.vmem Cert.Kernel.S4096x16 EltTy.f32)
local notation "pV" => (Memref.whole Cert.Kernel.cc0_scratch4 : Memref Cert.Kernel.sig Kind.scVector Space.vmem Cert.Kernel.S136x256 EltTy.f32)

variable {a2 : Memref sig .scVector .hbm S2097152x16 .f32} {h2 : a2.IsWhole} {a3 : Memref sig .scVector .hbm S16384 .i32} {h3 : a3.IsWhole}
  {a4 : Memref sig .scVector .hbm S136x8192 .f32} {h4 : a4.IsWhole} {h5 : (slV).IsWhole} {h6 : (scV).IsWhole} {h7 : (gV).IsWhole} {h8 : (rV).IsWhole}
  {h9 : (pV).IsWhole} {s10 s11 r0 r1 r2 : DmaSems sig S_}

theorem ex11 {C : Ctx F} (hok : Hok C) (hc : C.c < 16) (k0_t3 : Fin k0_t3_loop.trips) (hn : 16 * k0_t3.val = 16 * C.c) {Q}
    (hk : ∀ (arg12 : BitVec 32) (o pv : IVec S16 32) (ok : Ok C o pv) (v309_ld : Vec F S1x16 .f32), St C 1 ⊢ Q ⟨arg12, o, pv, addi pv (broadcast S16 0#32), (RV C 1), v309_ld⟩) :
    St C 0 ⊢ wpk (thr C.d C.L) (k0_part11 (F := F) C.L a2 h2 a3 h3 a4 h4 slV h5 scV h6 gV h7 rV h8 pV h9 s10 s11 r0 r1 r2 0#32 1#32 k0_t3) Q := by
  rw [k0_part11_eq_skeleton]; unfold k0_part11_skel
  refine ex_loadsc (k0_off23_eq k0_t3) hn fun v273 hv => ?_
  have ok := ok_of3 hok k0_t3 hn hc hv
  refine step_chk (ok.chk 0 (by decide)) ?_
  refine ex_gather (hl := View.loads_vmem h_S4096x16) ok 0 (by decide) rfl rfl ?_
  refine ex_load fun v295_ld => ?_
  refine ex_store 0 (k0_off24_eq k0_t3) hn ?_
  refine step_chk (ok.chk 1 (by decide)) ?_
  refine ex_gather (hl := View.loads_vmem h_S4096x16) ok 1 (by decide) rfl rfl ?_
  refine ex_load fun v309_ld => ?_
  exact step_pure (hk _ _ _ ok v309_ld)

theorem ex12 {C : Ctx F} {o pv : IVec S16 32} (ok : Ok C o pv) (k0_t3 : Fin k0_t3_loop.trips) (hn : 16 * k0_t3.val = 16 * C.c) {arg12 : BitVec 32} (v309_ld : Vec F S1x16 .f32) {Q}
    (hk : St C 4 ⊢ Q ⟨k0_pay68 o, k0_pay69 o (addi pv (broadcast S16 0#32)), k0_pay70⟩) :
    St C 1 ⊢ wpk (thr C.d C.L) (k0_part12 (F := F) C.L a2 h2 a3 h3 a4 h4 slV h5 scV h6 gV h7 rV h8 pV h9 s10 s11 r0 r1 r2 k0_t3 arg12 o (addi pv (broadcast S16 0#32)) ((RV C 1)) v309_ld) Q := by
  rw [k0_part12_eq_skeleton]; unfold k0_part12_skel
  refine ex_store 1 (k0_off25_eq k0_t3) hn ?_
  refine step_chk (ok.chk 2 (by decide)) ?_
  refine ex_gather (hl := View.loads_vmem h_S4096x16) ok 2 (by decide) rfl rfl ?_
  refine ex_load fun v323_ld => ?_
  refine ex_store 2 (k0_off26_eq k0_t3) hn ?_
  refine step_chk (ok.chk 3 (by decide)) ?_
  refine ex_gather (hl := View.loads_vmem h_S4096x16) ok 3 (by decide) rfl rfl ?_
  refine ex_load fun v337_ld => ?_
  refine ex_store 3 (k0_off27_eq k0_t3) hn ?_
  exact step_pure (hk)

theorem ex13 {C : Ctx F} {o pv : IVec S16 32} (ok : Ok C o pv) (k0_t3 : Fin k0_t3_loop.trips) (hn : 16 * k0_t3.val = 16 * C.c) {arg12 : BitVec 32} {Q}
    (hk : St C 7 ⊢ Q ((k0_pay77 o))) :
    St C 4 ⊢ wpk (thr C.d C.L) (k0_part13 (F := F) C.L a2 h2 a3 h3 a4 h4 slV h5 scV h6 gV h7 rV h8 pV h9 s10 s11 r0 r1 r2 k0_t3 arg12 o (addi pv (broadcast S16 0#32)) (k0_pay68 o) (k0_pay69 o (addi pv (broadcast S16 0#32))) k0_pay70) Q := by
  rw [k0_part13_eq_skeleton]; unfold k0_part13_skel
  refine step_chk (ok.chk 4 (by decide)) ?_
  refine ex_gather (hl := View.loads_vmem h_S4096x16) ok 4 (by decide) rfl rfl ?_
  refine ex_load fun v351_ld => ?_
  refine ex_store 4 (k0_off28_eq k0_t3) hn ?_
  refine step_chk (ok.chk 5 (by decide)) ?_
  refine ex_gather (hl := View.loads_vmem h_S4096x16) ok 5 (by decide) rfl rfl ?_
  refine ex_load fun v365_ld => ?_
  refine ex_store 5 (k0_off29_eq k0_t3) hn ?_
  refine step_chk (ok.chk 6 (by decide)) ?_
  refine ex_gather (hl := View.loads_vmem h_S4096x16) ok 6 (by decide) rfl rfl ?_
  refine ex_load fun v379_ld => ?_
  refine ex_store 6 (k0_off30_eq k0_t3) hn ?_
  exact step_pure (hk)

theorem ex14 {C : Ctx F} {o pv : IVec S16 32} (ok : Ok C o pv) (k0_t3 : Fin k0_t3_loop.trips) (hn : 16 * k0_t3.val = 16 * C.c) {arg12 : BitVec 32} {Q}
    (hk : St C 9 ⊢ Q ⟨(RV C 9), (Scalar.muli arg12 16#32)⟩) :
    St C 7 ⊢ wpk (thr C.d C.L) (k0_part14 (F := F) C.L a2 h2 a3 h3 a4 h4 slV h5 scV h6 gV h7 rV h8 pV h9 s10 s11 r0 r1 r2 k0_t3 arg12 o (addi pv (broadcast S16 0#32)) ((k0_pay77 o))) Q := by
  rw [k0_part14_eq_skeleton]; unfold k0_part14_skel
  refine step_chk (ok.chk 7 (by decide)) ?_
  refine ex_gather (hl := View.loads_vmem h_S4096x16) ok 7 (by decide) rfl rfl ?_
  refine ex_load fun v393_ld => ?_
  refine ex_store 7 (k0_off31_eq k0_t3) hn ?_
  refine step_chk (ok.chk 8 (by decide)) ?_
  refine ex_gather (hl := View.loads_vmem h_S4096x16) ok 8 (by decide) rfl rfl ?_
  refine ex_load fun v407_ld => ?_
  refine ex_store 8 (k0_off32_eq k0_t3) hn ?_
  refine step_chk (ok.chk 9 (by decide)) ?_
  refine ex_gather (hl := View.loads_vmem h_S4096x16) ok 9 (by decide) rfl rfl ?_
  exact step_pure (hk)

theorem ex15 {C : Ctx F} {o pv : IVec S16 32} (ok : Ok C o pv) (k0_t3 : Fin k0_t3_loop.trips) (hn : 16 * k0_t3.val = 16 * C.c) {arg12 : BitVec 32} {Q}
    (hk : St C 12 ⊢ Q ⟨k0_pay92 o, k0_pay93 o, k0_pay94⟩) :
    St C 9 ⊢ wpk (thr C.d C.L) (k0_part15 (F := F) C.L a2 h2 a3 h3 a4 h4 slV h5 scV h6 gV h7 rV h8 pV h9 s10 s11 r0 r1 r2 k0_t3 arg12 o (addi pv (broadcast S16 0#32)) ((RV C 9)) ((Scalar.muli arg12 16#32))) Q := by
  rw [k0_part15_eq_skeleton]; unfold k0_part15_skel
  refine ex_load fun v421_ld => ?_
  refine ex_store 9 (k0_off33_eq k0_t3) hn ?_
  refine step_chk (ok.chk 10 (by decide)) ?_
  refine ex_gather (hl := View.loads_vmem h_S4096x16) ok 10 (by decide) rfl rfl ?_
  refine ex_load fun v435_ld => ?_
  refine ex_store 10 (k0_off34_eq k0_t3) hn ?_
  refine step_chk (ok.chk 11 (by decide)) ?_
  refine ex_gather (hl := View.loads_vmem h_S4096x16) ok 11 (by decide) rfl rfl ?_
  refine ex_load fun v449_ld => ?_
  refine ex_store 11 (k0_off35_eq k0_t3) hn ?_
  exact step_pure (hk)

theorem ex16 {C : Ctx F} {o pv : IVec S16 32} (ok : Ok C o pv) (k0_t3 : Fin k0_t3_loop.trips) (hn : 16 * k0_t3.val = 16 * C.c) {arg12 : BitVec 32} {Q}
    (hk : St C 14 ⊢ Q ((RV C 14))) :
    St C 12 ⊢ wpk (thr C.d C.L) (k0_part16 (F := F) C.L a2 h2 a3 h3 a4 h4 slV h5 scV h6 gV h7 rV h8 pV h9 s10 s11 r0 r1 r2 k0_t3 arg12 o (addi pv (broadcast S16 0#32)) (k0_pay92 o) (k0_pay93 o) k0_pay94) Q := by
  rw [k0_part16_eq_skeleton]; unfold k0_part16_skel
  refine step_chk (ok.chk 12 (by decide)) ?_
  refine ex_gather (hl := View.loads_vmem h_S4096x16) ok 12 (by decide) rfl rfl ?_
  refine ex_load fun v463_ld => ?_
  refine ex_store 12 (k0_off36_eq k0_t3) hn ?_
  refine step_chk (ok.chk 13 (by decide)) ?_
  refine ex_gather (hl := View.loads_vmem h_S4096x16) ok 13 (by decide) rfl rfl ?_
  refine ex_load fun v477_ld => ?_
  refine ex_store 13 (k0_off37_eq k0_t3) hn ?_
  refine step_chk (ok.chk 14 (by decide)) ?_
  refine ex_gather (hl := View.loads_vmem h_S4096x16) ok 14 (by decide) rfl rfl ?_
  refine ex_load fun v491_ld => ?_
  exact step_pure (hk)

theorem ex17 {C : Ctx F} {o pv : IVec S16 32} (ok : Ok C o pv) (k0_t3 : Fin k0_t3_loop.trips) (hn : 16 * k0_t3.val = 16 * C.c) {arg12 : BitVec 32} {Q}
    (hk : St C 17 ⊢ Q ⟨k0_pay106 pv, k0_pay110 o, k0_pay111 o pv⟩) :
    St C 14 ⊢ wpk (thr C.d C.L) (k0_part17 (F := F) C.L a2 h2 a3 h3 a4 h4 slV h5 scV h6 gV h7 rV h8 pV h9 s10 s11 r0 r1 r2 k0_t3 arg12 o pv (addi pv (broadcast S16 0#32)) ((RV C 14))) Q := by
  rw [k0_part17_eq_skeleton]; unfold k0_part17_skel
  refine ex_store 14 (k0_off38_eq k0_t3) hn ?_
  refine step_chk (ok.chk 15 (by decide)) ?_
  refine ex_gather (hl := View.loads_vmem h_S4096x16) ok 15 (by decide) rfl rfl ?_
  refine ex_load fun v505_ld => ?_
  refine ex_store 15 (k0_off39_eq k0_t3) hn ?_
  refine step_chk (ok.chk 16 (by decide)) ?_
  refine ex_gather (hl := View.loads_vmem h_S4096x16) ok 16 (by decide) rfl rfl ?_
  refine ex_load fun v521_ld => ?_
  refine ex_store 16 (k0_off40_eq k0_t3) hn ?_
  exact step_pure (hk)

theorem ex18 {C : Ctx F} {o pv : IVec S16 32} (ok : Ok C o pv) (k0_t3 : Fin k0_t3_loop.trips) (hn : 16 * k0_t3.val = 16 * C.c) {arg12 : BitVec 32} {Q}
    (hk : St C 20 ⊢ Q 4#32) :
    St C 17 ⊢ wpk (thr C.d C.L) (k0_part18 (F := F) C.L a2 h2 a3 h3 a4 h4 slV h5 scV h6 gV h7 rV h8 pV h9 s10 s11 r0 r1 r2 k0_t3 arg12 o (k0_pay106 pv) (k0_pay110 o) (k0_pay111 o pv)) Q := by
  rw [k0_part18_eq_skeleton]; unfold k0_part18_skel
  refine step_chk (ok.chk 17 (by decide)) ?_
  refine ex_gather (hl := View.loads_vmem h_S4096x16) ok 17 (by decide) rfl rfl ?_
  refine ex_load fun v535_ld => ?_
  refine ex_store 17 (k0_off41_eq k0_t3) hn ?_
  refine step_chk (ok.chk 18 (by decide)) ?_
  refine ex_gather (hl := View.loads_vmem h_S4096x16) ok 18 (by decide) rfl rfl ?_
  refine ex_load fun v549_ld => ?_
  refine ex_store 18 (k0_off42_eq k0_t3) hn ?_
  refine step_chk (ok.chk 19 (by decide)) ?_
  refine ex_gather (hl := View.loads_vmem h_S4096x16) ok 19 (by decide) rfl rfl ?_
  refine ex_load fun v563_ld => ?_
  refine ex_store 19 (k0_off43_eq k0_t3) hn ?_
  exact step_pure (hk)

theorem ex19 {C : Ctx F} {o pv : IVec S16 32} (ok : Ok C o pv) (k0_t3 : Fin k0_t3_loop.trips) (hn : 16 * k0_t3.val = 16 * C.c) {arg12 : BitVec 32} {Q}
    (hk : St C 22 ⊢ Q ((RV C 22))) :
    St C 20 ⊢ wpk (thr C.d C.L) (k0_part19 (F := F) C.L a2 h2 a3 h3 a4 h4 slV h5 scV h6 gV h7 rV h8 pV h9 s10 s11 r0 r1 r2 k0_t3 arg12 o (k0_pay106 pv) 4#32) Q := by
  rw [k0_part19_eq_skeleton]; unfold k0_part19_skel
  refine step_chk (ok.chk 20 (by decide)) ?_
  refine ex_gather (hl := View.loads_vmem h_S4096x16) ok 20 (by decide) rfl rfl ?_
  refine ex_load fun v577_ld => ?_
  refine ex_store 20 (k0_off44_eq k0_t3) hn ?_
  refine step_chk (ok.chk 21 (by decide)) ?_
  refine ex_gather (hl := View.loads_vmem h_S4096x16) ok 21 (by decide) rfl rfl ?_
  refine ex_load fun v591_ld => ?_
  refine ex_store 21 (k0_off45_eq k0_t3) hn ?_
  refine step_chk (ok.chk 22 (by decide)) ?_
  exact ex_gatherE (hl := View.loads_vmem h_S4096x16) ok 22 (by decide) rfl rfl hk

theorem ex20 {C : Ctx F} {o pv : IVec S16 32} (ok : Ok C o pv) (k0_t3 : Fin k0_t3_loop.trips) (hn : 16 * k0_t3.val = 16 * C.c) {arg12 : BitVec 32} {Q}
    (hk : St C 25 ⊢ Q ⟨k0_pay134 o, k0_pay135 o⟩) :
    St C 22 ⊢ wpk (thr C.d C.L) (k0_part20 (F := F) C.L a2 h2 a3 h3 a4 h4 slV h5 scV h6 gV h7 rV h8 pV h9 s10 s11 r0 r1 r2 k0_t3 arg12 o (k0_pay106 pv) ((RV C 22))) Q := by
  rw [k0_part20_eq_skeleton]; unfold k0_part20_skel
  refine ex_load fun v605_ld => ?_
  refine ex_store 22 (k0_off46_eq k0_t3) hn ?_
  refine step_chk (ok.chk 23 (by decide)) ?_
  refine ex_gather (hl := View.loads_vmem h_S4096x16) ok 23 (by decide) rfl rfl ?_
  refine ex_load fun v619_ld => ?_
  refine ex_store 23 (k0_off47_eq k0_t3) hn ?_
  refine step_chk (ok.chk 24 (by decide)) ?_
  refine ex_gather (hl := View.loads_vmem h_S4096x16) ok 24 (by decide) rfl rfl ?_
  refine ex_load fun v633_ld => ?_
  refine ex_store 24 (k0_off48_eq k0_t3) hn ?_
  exact step_pure (hk)

theorem ex21 {C : Ctx F} {o pv : IVec S16 32} (ok : Ok C o pv) (k0_t3 : Fin k0_t3_loop.trips) (hn : 16 * k0_t3.val = 16 * C.c) {arg12 : BitVec 32} {Q}
    (hk : St C 27 ⊢ Q ((RV C 27))) :
    St C 25 ⊢ wpk (thr C.d C.L) (k0_part21 (F := F) C.L a2 h2 a3 h3 a4 h4 slV h5 scV h6 gV h7 rV h8 pV h9 s10 s11 r0 r1 r2 k0_t3 arg12 o (k0_pay106 pv) (k0_pay134 o) (k0_pay135 o)) Q := by
  rw [k0_part21_eq_skeleton]; unfold k0_part21_skel
  refine step_chk (ok.chk 25 (by decide)) ?_
  refine ex_gather (hl := View.loads_vmem h_S4096x16) ok 25 (by decide) rfl rfl ?_
  refine ex_load fun v647_ld => ?_
  refine ex_store 25 (k0_off49_eq k0_t3) hn ?_
  refine step_chk (ok.chk 26 (by decide)) ?_
  refine ex_gather (hl := View.loads_vmem h_S4096x16) ok 26 (by decide) rfl rfl ?_
  refine ex_load fun v661_ld => ?_
  refine ex_store 26 (k0_off50_eq k0_t3) hn ?_
  refine step_chk (ok.chk 27 (by decide)) ?_
  exact ex_gatherE (hl := View.loads_vmem h_S4096x16) ok 27 (by decide) rfl rfl hk

theorem ex22 {C : Ctx F} {o pv : IVec S16 32} (ok : Ok C o pv) (k0_t3 : Fin k0_t3_loop.trips) (hn : 16 * k0_t3.val = 16 * C.c) {arg12 : BitVec 32} {Q}
    (hk : St C 30 ⊢ Q ⟨k0_pay150 o, k0_pay151 o (k0_pay106 pv), 15#32⟩) :
    St C 27 ⊢ wpk (thr C.d C.L) (k0_part22 (F := F) C.L a2 h2 a3 h3 a4 h4 slV h5 scV h6 gV h7 rV h8 pV h9 s10 s11 r0 r1 r2 k0_t3 arg12 o (k0_pay106 pv) ((RV C 27))) Q := by
  rw [k0_part22_eq_skeleton]; unfold k0_part22_skel
  refine ex_load fun v675_ld => ?_
  refine ex_store 27 (k0_off51_eq k0_t3) hn ?_
  refine step_chk (ok.chk 28 (by decide)) ?_
  refine ex_gather (hl := View.loads_vmem h_S4096x16) ok 28 (by decide) rfl rfl ?_
  refine ex_load fun v689_ld => ?_
  refine ex_store 28 (k0_off52_eq k0_t3) hn ?_
  refine step_chk (ok.chk 29 (by decide)) ?_
  refine ex_gather (hl := View.loads_vmem h_S4096x16) ok 29 (by decide) rfl rfl ?_
  refine ex_load fun v703_ld => ?_
  refine ex_store 29 (k0_off53_eq k0_t3) hn ?_
  exact step_pure (hk)

theorem ex23 {C : Ctx F} {o pv : IVec S16 32} (ok : Ok C o pv) (k0_t3 : Fin k0_t3_loop.trips) (hn : 16 * k0_t3.val = 16 * C.c) {arg12 : BitVec 32} {Q}
    (hk : St C 32 ⊢ Q ⟨k0_pay156 pv, (RV C 32)⟩) :
    St C 30 ⊢ wpk (thr C.d C.L) (k0_part23 (F := F) C.L a2 h2 a3 h3 a4 h4 slV h5 scV h6 gV h7 rV h8 pV h9 s10 s11 r0 r1 r2 k0_t3 arg12 o pv (k0_pay106 pv) (k0_pay150 o) (k0_pay151 o (k0_pay106 pv)) 15#32) Q := by
  rw [k0_part23_eq_skeleton]; unfold k0_part23_skel
  refine step_chk (ok.chk 30 (by decide)) ?_
  refine ex_gather (hl := View.loads_vmem h_S4096x16) ok 30 (by decide) rfl rfl ?_
  refine ex_load fun v717_ld => ?_
  refine ex_store 30 (k0_off54_eq k0_t3) hn ?_
  refine step_chk (ok.chk 31 (by decide)) ?_
  refine ex_gather (hl := View.loads_vmem h_S4096x16) ok 31 (by decide) rfl rfl ?_
  refine ex_load fun v731_ld => ?_
  refine ex_store 31 (k0_off55_eq k0_t3) hn ?_
  refine step_chk (ok.chk 32 (by decide)) ?_
  refine ex_gather (hl := View.loads_vmem h_S4096x16) ok 32 (by decide) rfl rfl ?_
  refine ex_load fun v747_ld => ?_
  exact step_pure (hk)

theorem ex24 {C : Ctx F} {o pv : IVec S16 32} (ok : Ok C o pv) (k0_t3 : Fin k0_t3_loop.trips) (hn : 16 * k0_t3.val = 16 * C.c) {arg12 : BitVec 32} {Q}
    (hk : St C 35 ⊢ Q ⟨k0_pay167 o (k0_pay156 pv), k0_pay168 o⟩) :
    St C 32 ⊢ wpk (thr C.d C.L) (k0_part24 (F := F) C.L a2 h2 a3 h3 a4 h4 slV h5 scV h6 gV h7 rV h8 pV h9 s10 s11 r0 r1 r2 k0_t3 arg12 o (k0_pay156 pv) ((RV C 32))) Q := by
  rw [k0_part24_eq_skeleton]; unfold k0_part24_skel
  refine ex_store 32 (k0_off56_eq k0_t3) hn ?_
  refine step_chk (ok.chk 33 (by decide)) ?_
  refine ex_gather (hl := View.loads_vmem h_S4096x16) ok 33 (by decide) rfl rfl ?_
  refine ex_load fun v761_ld => ?_
  refine ex_store 33 (k0_off57_eq k0_t3) hn ?_
  refine step_chk (ok.chk 34 (by decide)) ?_
  refine ex_gather (hl := View.loads_vmem h_S4096x16) ok 34 (by decide) rfl rfl ?_
  refine ex_load fun v775_ld => ?_
  refine ex_store 34 (k0_off58_eq k0_t3) hn ?_
  exact step_pure (hk)

theorem ex25 {C : Ctx F} {o pv : IVec S16 32} (ok : Ok C o pv) (k0_t3 : Fin k0_t3_loop.trips) (hn : 16 * k0_t3.val = 16 * C.c) {arg12 : BitVec 32} {Q}
    (hk : St C 38 ⊢ Q ⟨k0_pay175 o, 4#32⟩) :
    St C 35 ⊢ wpk (thr C.d C.L) (k0_part25 (F := F) C.L a2 h2 a3 h3 a4 h4 slV h5 scV h6 gV h7 rV h8 pV h9 s10 s11 r0 r1 r2 k0_t3 arg12 o (k0_pay156 pv) (k0_pay167 o (k0_pay156 pv)) (k0_pay168 o)) Q := by
  rw [k0_part25_eq_skeleton]; unfold k0_part25_skel
  refine step_chk (ok.chk 35 (by decide)) ?_
  refine ex_gather (hl := View.loads_vmem h_S4096x16) ok 35 (by decide) rfl rfl ?_
  refine ex_load fun v789_ld => ?_
  refine ex_store 35 (k0_off59_eq k0_t3) hn ?_
  refine step_chk (ok.chk 36 (by decide)) ?_
  refine ex_gather (hl := View.loads_vmem h_S4096x16) ok 36 (by decide) rfl rfl ?_
  refine ex_load fun v803_ld => ?_
  refine ex_store 36 (k0_off60_eq k0_t3) hn ?_
  refine step_chk (ok.chk 37 (by decide)) ?_
  refine ex_gather (hl := View.loads_vmem h_S4096x16) ok 37 (by decide) rfl rfl ?_
  refine ex_load fun v817_ld => ?_
  refine ex_store 37 (k0_off61_eq k0_t3) hn ?_
  exact step_pure (hk)

theorem ex26 {C : Ctx F} {o pv : IVec S16 32} (ok : Ok C o pv) (k0_t3 : Fin k0_t3_loop.trips) (hn : 16 * k0_t3.val = 16 * C.c) {arg12 : BitVec 32} {Q}
    (hk : St C 40 ⊢ Q ⟨(RV C 40), (Scalar.muli arg12 16#32), 40#32⟩) :
    St C 38 ⊢ wpk (thr C.d C.L) (k0_part26 (F := F) C.L a2 h2 a3 h3 a4 h4 slV h5 scV h6 gV h7 rV h8 pV h9 s10 s11 r0 r1 r2 k0_t3 arg12 o (k0_pay156 pv) (k0_pay175 o) 4#32) Q := by
  rw [k0_part26_eq_skeleton]; unfold k0_part26_skel
  refine step_chk (ok.chk 38 (by decide)) ?_
  refine ex_gather (hl := View.loads_vmem h_S4096x16) ok 38 (by decide) rfl rfl ?_
  refine ex_load fun v831_ld => ?_
  refine ex_store 38 (k0_off62_eq k0_t3) hn ?_
  refine step_chk (ok.chk 39 (by decide)) ?_
  refine ex_gather (hl := View.loads_vmem h_S4096x16) ok 39 (by decide) rfl rfl ?_
  refine ex_load fun v845_ld => ?_
  refine ex_store 39 (k0_off63_eq k0_t3) hn ?_
  refine step_chk (ok.chk 40 (by decide)) ?_
  refine ex_gather (hl := View.loads_vmem h_S4096x16) ok 40 (by decide) rfl rfl ?_
  exact step_pure (hk)

theorem ex27 {C : Ctx F} {o pv : IVec S16 32} (ok : Ok C o pv) (k0_t3 : Fin k0_t3_loop.trips) (hn : 16 * k0_t3.val = 16 * C.c) {arg12 : BitVec 32} {Q}
    (hk : St C 43 ⊢ Q ⟨k0_pay190 o, k0_pay191 o⟩) :
    St C 40 ⊢ wpk (thr C.d C.L) (k0_part27 (F := F) C.L a2 h2 a3 h3 a4 h4 slV h5 scV h6 gV h7 rV h8 pV h9 s10 s11 r0 r1 r2 k0_t3 arg12 o (k0_pay156 pv) ((RV C 40)) ((Scalar.muli arg12 16#32)) 40#32) Q := by
  rw [k0_part27_eq_skeleton]; unfold k0_part27_skel
  refine ex_load fun v859_ld => ?_
  refine ex_store 40 (k0_off64_eq k0_t3) hn ?_
  refine step_chk (ok.chk 41 (by decide)) ?_
  refine ex_gather (hl := View.loads_vmem h_S4096x16) ok 41 (by decide) rfl rfl ?_
  refine ex_load fun v873_ld => ?_
  refine ex_store 41 (k0_off65_eq k0_t3) hn ?_
  refine step_chk (ok.chk 42 (by decide)) ?_
  refine ex_gather (hl := View.loads_vmem h_S4096x16) ok 42 (by decide) rfl rfl ?_
  refine ex_load fun v887_ld => ?_
  refine ex_store 42 (k0_off66_eq k0_t3) hn ?_
  exact step_pure (hk)

theorem ex28 {C : Ctx F} {o pv : IVec S16 32} (ok : Ok C o pv) (k0_t3 : Fin k0_t3_loop.trips) (hn : 16 * k0_t3.val = 16 * C.c) {arg12 : BitVec 32} {Q}
    (hk : St C 46 ⊢ Q ⟨⟩) :
    St C 43 ⊢ wpk (thr C.d C.L) (k0_part28 (F := F) C.L a2 h2 a3 h3 a4 h4 slV h5 scV h6 gV h7 rV h8 pV h9 s10 s11 r0 r1 r2 k0_t3 arg12 o (k0_pay156 pv) (k0_pay190 o) (k0_pay191 o)) Q := by
  rw [k0_part28_eq_skeleton]; unfold k0_part28_skel
  refine step_chk (ok.chk 43 (by decide)) ?_
  refine ex_gather (hl := View.loads_vmem h_S4096x16) ok 43 (by decide) rfl rfl ?_
  refine ex_load fun v901_ld => ?_
  refine ex_store 43 (k0_off67_eq k0_t3) hn ?_
  refine step_chk (ok.chk 44 (by decide)) ?_
  refine ex_gather (hl := View.loads_vmem h_S4096x16) ok 44 (by decide) rfl rfl ?_
  refine ex_load fun v915_ld => ?_
  refine ex_store 44 (k0_off68_eq k0_t3) hn ?_
  refine step_chk (ok.chk 45 (by decide)) ?_
  refine ex_gather (hl := View.loads_vmem h_S4096x16) ok 45 (by decide) rfl rfl ?_
  refine ex_load fun v929_ld => ?_
  refine ex_store 45 (k0_off69_eq k0_t3) hn ?_
  exact step_pure (hk)

theorem ex29 {C : Ctx F} {o pv : IVec S16 32} (ok : Ok C o pv) (k0_t3 : Fin k0_t3_loop.trips) (hn : 16 * k0_t3.val = 16 * C.c) {arg12 : BitVec 32} {Q}
    (hk : St C 48 ⊢ Q ⟨k0_pay205 pv, k0_pay206 o, k0_pay207 o pv, 15#32⟩) :
    St C 46 ⊢ wpk (thr C.d C.L) (k0_part29 (F := F) C.L a2 h2 a3 h3 a4 h4 slV h5 scV h6 gV h7 rV h8 pV h9 s10 s11 r0 r1 r2 k0_t3 arg12 o pv (k0_pay156 pv)) Q := by
  rw [k0_part29_eq_skeleton]; unfold k0_part29_skel
  refine step_chk (ok.chk 46 (by decide)) ?_
  refine ex_gather (hl := View.loads_vmem h_S4096x16) ok 46 (by decide) rfl rfl ?_
  refine ex_load fun v943_ld => ?_
  refine ex_store 46 (k0_off70_eq k0_t3) hn ?_
  refine step_chk (ok.chk 47 (by decide)) ?_
  refine ex_gather (hl := View.loads_vmem h_S4096x16) ok 47 (by decide) rfl rfl ?_
  refine ex_load fun v957_ld => ?_
  refine ex_store 47 (k0_off71_eq k0_t3) hn ?_
  exact step_pure (hk)

theorem ex30 {C : Ctx F} {o pv : IVec S16 32} (ok : Ok C o pv) (k0_t3 : Fin k0_t3_loop.trips) (hn : 16 * k0_t3.val = 16 * C.c) {arg12 : BitVec 32} {Q}
    (hk : St C 51 ⊢ Q k0_pay215) :
    St C 48 ⊢ wpk (thr C.d C.L) (k0_part30 (F := F) C.L a2 h2 a3 h3 a4 h4 slV h5 scV h6 gV h7 rV h8 pV h9 s10 s11 r0 r1 r2 k0_t3 arg12 o (k0_pay205 pv) (k0_pay206 o) (k0_pay207 o pv) 15#32) Q := by
  rw [k0_part30_eq_skeleton]; unfold k0_part30_skel
  refine step_chk (ok.chk 48 (by decide)) ?_
  refine ex_gather (hl := View.loads_vmem h_S4096x16) ok 48 (by decide) rfl rfl ?_
  refine ex_load fun v973_ld => ?_
  refine ex_store 48 (k0_off72_eq k0_t3) hn ?_
  refine step_chk (ok.chk 49 (by decide)) ?_
  refine ex_gather (hl := View.loads_vmem h_S4096x16) ok 49 (by decide) rfl rfl ?_
  refine ex_load fun v987_ld => ?_
  refine ex_store 49 (k0_off73_eq k0_t3) hn ?_
  refine step_chk (ok.chk 50 (by decide)) ?_
  refine ex_gather (hl := View.loads_vmem h_S4096x16) ok 50 (by decide) rfl rfl ?_
  refine ex_load fun v1001_ld => ?_
  refine ex_store 50 (k0_off74_eq k0_t3) hn ?_
  exact step_pure (hk)

theorem ex31 {C : Ctx F} {o pv : IVec S16 32} (ok : Ok C o pv) (k0_t3 : Fin k0_t3_loop.trips) (hn : 16 * k0_t3.val = 16 * C.c) {arg12 : BitVec 32} {Q}
    (hk : St C 53 ⊢ Q ⟨(RV C 53), 16#32⟩) :
    St C 51 ⊢ wpk (thr C.d C.L) (k0_part31 (F := F) C.L a2 h2 a3 h3 a4 h4 slV h5 scV h6 gV h7 rV h8 pV h9 s10 s11 r0 r1 r2 k0_t3 arg12 o (k0_pay205 pv) k0_pay215) Q := by
  rw [k0_part31_eq_skeleton]; unfold k0_part31_skel
  refine step_chk (ok.chk 51 (by decide)) ?_
  refine ex_gather (hl := View.loads_vmem h_S4096x16) ok 51 (by decide) rfl rfl ?_
  refine ex_load fun v1015_ld => ?_
  refine ex_store 51 (k0_off75_eq k0_t3) hn ?_
  refine step_chk (ok.chk 52 (by decide)) ?_
  refine ex_gather (hl := View.loads_vmem h_S4096x16) ok 52 (by decide) rfl rfl ?_
  refine ex_load fun v1029_ld => ?_
  refine ex_store 52 (k0_off76_eq k0_t3) hn ?_
  refine step_chk (ok.chk 53 (by decide)) ?_
  refine ex_gather (hl := View.loads_vmem h_S4096x16) ok 53 (by decide) rfl rfl ?_
  exact step_pure (hk)

theorem ex32 {C : Ctx F} {o pv : IVec S16 32} (ok : Ok C o pv) (k0_t3 : Fin k0_t3_loop.trips) (hn : 16 * k0_t3.val = 16 * C.c) {arg12 : BitVec 32} {Q}
    (hk : St C 56 ⊢ Q ⟨k0_pay231 o, k0_pay232 o, 256#32⟩) :
    St C 53 ⊢ wpk (thr C.d C.L) (k0_part32 (F := F) C.L a2 h2 a3 h3 a4 h4 slV h5 scV h6 gV h7 rV h8 pV h9 s10 s11 r0 r1 r2 k0_t3 arg12 o (k0_pay205 pv) ((RV C 53)) 16#32) Q := by
  rw [k0_part32_eq_skeleton]; unfold k0_part32_skel
  refine ex_load fun v1043_ld => ?_
  refine ex_store 53 (k0_off77_eq k0_t3) hn ?_
  refine step_chk (ok.chk 54 (by decide)) ?_
  refine ex_gather (hl := View.loads_vmem h_S4096x16) ok 54 (by decide) rfl rfl ?_
  refine ex_load fun v1057_ld => ?_
  refine ex_store 54 (k0_off78_eq k0_t3) hn ?_
  refine step_chk (ok.chk 55 (by decide)) ?_
  refine ex_gather (hl := View.loads_vmem h_S4096x16) ok 55 (by decide) rfl rfl ?_
  refine ex_load fun v1071_ld => ?_
  refine ex_store 55 (k0_off79_eq k0_t3) hn ?_
  exact step_pure (hk)

theorem ex33 {C : Ctx F} {o pv : IVec S16 32} (ok : Ok C o pv) (k0_t3 : Fin k0_t3_loop.trips) (hn : 16 * k0_t3.val = 16 * C.c) {arg12 : BitVec 32} {Q}
    (hk : ∀ (v1113_ld : Vec F S1x16 .f32), St C 58 ⊢ Q ⟨(RV C 58), v1113_ld⟩) :
    St C 56 ⊢ wpk (thr C.d C.L) (k0_part33 (F := F) C.L a2 h2 a3 h3 a4 h4 slV h5 scV h6 gV h7 rV h8 pV h9 s10 s11 r0 r1 r2 k0_t3 arg12 o (k0_pay205 pv) (k0_pay231 o) (k0_pay232 o) 256#32) Q := by
  rw [k0_part33_eq_skeleton]; unfold k0_part33_skel
  refine step_chk (ok.chk 56 (by decide)) ?_
  refine ex_gather (hl := View.loads_vmem h_S4096x16) ok 56 (by decide) rfl rfl ?_
  refine ex_load fun v1085_ld => ?_
  refine ex_store 56 (k0_off80_eq k0_t3) hn ?_
  refine step_chk (ok.chk 57 (by decide)) ?_
  refine ex_gather (hl := View.loads_vmem h_S4096x16) ok 57 (by decide) rfl rfl ?_
  refine ex_load fun v1099_ld => ?_
  refine ex_store 57 (k0_off81_eq k0_t3) hn ?_
  refine step_chk (ok.chk 58 (by decide)) ?_
  refine ex_gather (hl := View.loads_vmem h_S4096x16) ok 58 (by decide) rfl rfl ?_
  refine ex_load fun v1113_ld => ?_
  exact step_pure (hk v1113_ld)

theorem ex34 {C : Ctx F} {o pv : IVec S16 32} (ok : Ok C o pv) (k0_t3 : Fin k0_t3_loop.trips) (hn : 16 * k0_t3.val = 16 * C.c) {arg12 : BitVec 32} (v1113_ld : Vec F S1x16 .f32) {Q}
    (hk : St C 61 ⊢ Q ⟨k0_pay247 o, k0_pay248 o (k0_pay205 pv), k0_pay249⟩) :
    St C 58 ⊢ wpk (thr C.d C.L) (k0_part34 (F := F) C.L a2 h2 a3 h3 a4 h4 slV h5 scV h6 gV h7 rV h8 pV h9 s10 s11 r0 r1 r2 k0_t3 arg12 o (k0_pay205 pv) ((RV C 58)) v1113_ld) Q := by
  rw [k0_part34_eq_skeleton]; unfold k0_part34_skel
  refine ex_store 58 (k0_off82_eq k0_t3) hn ?_
  refine step_chk (ok.chk 59 (by decide)) ?_
  refine ex_gather (hl := View.loads_vmem h_S4096x16) ok 59 (by decide) rfl rfl ?_
  refine ex_load fun v1127_ld => ?_
  refine ex_store 59 (k0_off83_eq k0_t3) hn ?_
  refine step_chk (ok.chk 60 (by decide)) ?_
  refine ex_gather (hl := View.loads_vmem h_S4096x16) ok 60 (by decide) rfl rfl ?_
  refine ex_load fun v1141_ld => ?_
  refine ex_store 60 (k0_off84_eq k0_t3) hn ?_
  exact step_pure (hk)

theorem ex35 {C : Ctx F} {o pv : IVec S16 32} (ok : Ok C o pv) (k0_t3 : Fin k0_t3_loop.trips) (hn : 16 * k0_t3.val = 16 * C.c) {arg12 : BitVec 32} {Q}
    (hk : St C 64 ⊢ Q ((k0_pay256 pv))) :
    St C 61 ⊢ wpk (thr C.d C.L) (k0_part35 (F := F) C.L a2 h2 a3 h3 a4 h4 slV h5 scV h6 gV h7 rV h8 pV h9 s10 s11 r0 r1 r2 k0_t3 arg12 o pv (k0_pay205 pv) (k0_pay247 o) (k0_pay248 o (k0_pay205 pv)) k0_pay249) Q := by
  rw [k0_part35_eq_skeleton]; unfold k0_part35_skel
  refine step_chk (ok.chk 61 (by decide)) ?_
  refine ex_gather (hl := View.loads_vmem h_S4096x16) ok 61 (by decide) rfl rfl ?_
  refine ex_load fun v1155_ld => ?_
  refine ex_store 61 (k0_off85_eq k0_t3) hn ?_
  refine step_chk (ok.chk 62 (by decide)) ?_
  refine ex_gather (hl := View.loads_vmem h_S4096x16) ok 62 (by decide) rfl rfl ?_
  refine ex_load fun v1169_ld => ?_
  refine ex_store 62 (k0_off86_eq k0_t3) hn ?_
  refine step_chk (ok.chk 63 (by decide)) ?_
  refine ex_gather (hl := View.loads_vmem h_S4096x16) ok 63 (by decide) rfl rfl ?_
  refine ex_load fun v1183_ld => ?_
  refine ex_store 63 (k0_off87_eq k0_t3) hn ?_
  exact step_pure (hk)

theorem ex36 {C : Ctx F} {o pv : IVec S16 32} (ok : Ok C o pv) (k0_t3 : Fin k0_t3_loop.trips) (hn : 16 * k0_t3.val = 16 * C.c) {arg12 : BitVec 32} {Q}
    (hk : ∀ (k0_hw67 : k0_chk67 (k0_pay264 o ((k0_pay256 pv))) (k0_pay265 o)), St C 66 ⊢ Q ⟨(k0_pay264 o ((k0_pay256 pv))), (k0_pay265 o), k0_hw67⟩) :
    St C 64 ⊢ wpk (thr C.d C.L) (k0_part36 (F := F) C.L a2 h2 a3 h3 a4 h4 slV h5 scV h6 gV h7 rV h8 pV h9 s10 s11 r0 r1 r2 k0_t3 arg12 o ((k0_pay256 pv))) Q := by
  rw [k0_part36_eq_skeleton]; unfold k0_part36_skel
  refine step_chk (ok.chk 64 (by decide)) ?_
  refine ex_gather (hl := View.loads_vmem h_S4096x16) ok 64 (by decide) rfl rfl ?_
  refine ex_load fun v1199_ld => ?_
  refine ex_store 64 (k0_off88_eq k0_t3) hn ?_
  refine step_chk (ok.chk 65 (by decide)) ?_
  refine ex_gather (hl := View.loads_vmem h_S4096x16) ok 65 (by decide) rfl rfl ?_
  refine ex_load fun v1213_ld => ?_
  refine ex_store 65 (k0_off89_eq k0_t3) hn ?_
  refine step_chk (ok.chk 66 (by decide)) ?_
  exact step_pure (hk _)

theorem ex37 {C : Ctx F} {o pv : IVec S16 32} (ok : Ok C o pv) (k0_t3 : Fin k0_t3_loop.trips) (hn : 16 * k0_t3.val = 16 * C.c) {arg12 : BitVec 32} (k0_hw67 : k0_chk67 (k0_pay264 o ((k0_pay256 pv))) (k0_pay265 o)) {Q}
    (hk : St C 69 ⊢ Q ⟨k0_pay272 o, k0_pay273⟩) :
    St C 66 ⊢ wpk (thr C.d C.L) (k0_part37 (F := F) C.L a2 h2 a3 h3 a4 h4 slV h5 scV h6 gV h7 rV h8 pV h9 s10 s11 r0 r1 r2 k0_t3 arg12 o ((k0_pay256 pv)) ((k0_pay264 o ((k0_pay256 pv)))) ((k0_pay265 o)) k0_hw67) Q := by
  rw [k0_part37_eq_skeleton]; unfold k0_part37_skel
  refine ex_gather (hl := View.loads_vmem h_S4096x16) ok 66 (by decide) rfl rfl ?_
  refine ex_load fun v1227_ld => ?_
  refine ex_store 66 (k0_off90_eq k0_t3) hn ?_
  refine step_chk (ok.chk 67 (by decide)) ?_
  refine ex_gather (hl := View.loads_vmem h_S4096x16) ok 67 (by decide) rfl rfl ?_
  refine ex_load fun v1241_ld => ?_
  refine ex_store 67 (k0_off91_eq k0_t3) hn ?_
  refine step_chk (ok.chk 68 (by decide)) ?_
  refine ex_gather (hl := View.loads_vmem h_S4096x16) ok 68 (by decide) rfl rfl ?_
  refine ex_load fun v1255_ld => ?_
  refine ex_store 68 (k0_off92_eq k0_t3) hn ?_
  exact step_pure (hk)

theorem ex38 {C : Ctx F} {o pv : IVec S16 32} (ok : Ok C o pv) (k0_t3 : Fin k0_t3_loop.trips) (hn : 16 * k0_t3.val = 16 * C.c) {arg12 : BitVec 32} {Q}
    (hk : St C 71 ⊢ Q ⟨(RV C 71), (Scalar.muli arg12 16#32)⟩) :
    St C 69 ⊢ wpk (thr C.d C.L) (k0_part38 (F := F) C.L a2 h2 a3 h3 a4 h4 slV h5 scV h6 gV h7 rV h8 pV h9 s10 s11 r0 r1 r2 k0_t3 arg12 o ((k0_pay256 pv)) (k0_pay272 o) k0_pay273) Q := by
  rw [k0_part38_eq_skeleton]; unfold k0_part38_skel
  refine step_chk (ok.chk 69 (by decide)) ?_
  refine ex_gather (hl := View.loads_vmem h_S4096x16) ok 69 (by decide) rfl rfl ?_
  refine ex_load fun v1269_ld => ?_
  refine ex_store 69 (k0_off93_eq k0_t3) hn ?_
  refine step_chk (ok.chk 70 (by decide)) ?_
  refine ex_gather (hl := View.loads_vmem h_S4096x16) ok 70 (by decide) rfl rfl ?_
  refine ex_load fun v1283_ld => ?_
  refine ex_store 70 (k0_off94_eq k0_t3) hn ?_
  refine step_chk (ok.chk 71 (by decide)) ?_
  refine ex_gather (hl := View.loads_vmem h_S4096x16) ok 71 (by decide) rfl rfl ?_
  exact step_pure (hk)

theorem ex39 {C : Ctx F} {o pv : IVec S16 32} (ok : Ok C o pv) (k0_t3 : Fin k0_t3_loop.trips) (hn : 16 * k0_t3.val = 16 * C.c) {arg12 : BitVec 32} {Q}
    (hk : St C 74 ⊢ Q ⟨k0_pay288 o, k0_pay289 o ((k0_pay256 pv))⟩) :
    St C 71 ⊢ wpk (thr C.d C.L) (k0_part39 (F := F) C.L a2 h2 a3 h3 a4 h4 slV h5 scV h6 gV h7 rV h8 pV h9 s10 s11 r0 r1 r2 k0_t3 arg12 o ((k0_pay256 pv)) ((RV C 71)) ((Scalar.muli arg12 16#32))) Q := by
  rw [k0_part39_eq_skeleton]; unfold k0_part39_skel
  refine ex_load fun v1297_ld => ?_
  refine ex_store 71 (k0_off95_eq k0_t3) hn ?_
  refine step_chk (ok.chk 72 (by decide)) ?_
  refine ex_gather (hl := View.loads_vmem h_S4096x16) ok 72 (by decide) rfl rfl ?_
  refine ex_load fun v1311_ld => ?_
  refine ex_store 72 (k0_off96_eq k0_t3) hn ?_
  refine step_chk (ok.chk 73 (by decide)) ?_
  refine ex_gather (hl := View.loads_vmem h_S4096x16) ok 73 (by decide) rfl rfl ?_
  refine ex_load fun v1325_ld => ?_
  refine ex_store 73 (k0_off97_eq k0_t3) hn ?_
  exact step_pure (hk)

theorem ex40 {C : Ctx F} {o pv : IVec S16 32} (ok : Ok C o pv) (k0_t3 : Fin k0_t3_loop.trips) (hn : 16 * k0_t3.val = 16 * C.c) {arg12 : BitVec 32} {Q}
    (hk : St C 77 ⊢ Q 13#32) :
    St C 74 ⊢ wpk (thr C.d C.L) (k0_part40 (F := F) C.L a2 h2 a3 h3 a4 h4 slV h5 scV h6 gV h7 rV h8 pV h9 s10 s11 r0 r1 r2 k0_t3 arg12 o ((k0_pay256 pv)) (k0_pay288 o) (k0_pay289 o ((k0_pay256 pv)))) Q := by
  rw [k0_part40_eq_skeleton]; unfold k0_part40_skel
  refine step_chk (ok.chk 74 (by decide)) ?_
  refine ex_gather (hl := View.loads_vmem h_S4096x16) ok 74 (by decide) rfl rfl ?_
  refine ex_load fun v1339_ld => ?_
  refine ex_store 74 (k0_off98_eq k0_t3) hn ?_
  refine step_chk (ok.chk 75 (by decide)) ?_
  refine ex_gather (hl := View.loads_vmem h_S4096x16) ok 75 (by decide) rfl rfl ?_
  refine ex_load fun v1353_ld => ?_
  refine ex_store 75 (k0_off99_eq k0_t3) hn ?_
  refine step_chk (ok.chk 76 (by decide)) ?_
  refine ex_gather (hl := View.loads_vmem h_S4096x16) ok 76 (by decide) rfl rfl ?_
  refine ex_load fun v1367_ld => ?_
  refine ex_store 76 (k0_off100_eq k0_t3) hn ?_
  exact step_pure (hk)

theorem ex41 {C : Ctx F} {o pv : IVec S16 32} (ok : Ok C o pv) (k0_t3 : Fin k0_t3_loop.trips) (hn : 16 * k0_t3.val = 16 * C.c) {arg12 : BitVec 32} {Q}
    (hk : St C 79 ⊢ Q ((RV C 79))) :
    St C 77 ⊢ wpk (thr C.d C.L) (k0_part41 (F := F) C.L a2 h2 a3 h3 a4 h4 slV h5 scV h6 gV h7 rV h8 pV h9 s10 s11 r0 r1 r2 k0_t3 arg12 o ((k0_pay256 pv)) 13#32) Q := by
  rw [k0_part41_eq_skeleton]; unfold k0_part41_skel
  refine step_chk (ok.chk 77 (by decide)) ?_
  refine ex_gather (hl := View.loads_vmem h_S4096x16) ok 77 (by decide) rfl rfl ?_
  refine ex_load fun v1381_ld => ?_
  refine ex_store 77 (k0_off101_eq k0_t3) hn ?_
  refine step_chk (ok.chk 78 (by decide)) ?_
  refine ex_gather (hl := View.loads_vmem h_S4096x16) ok 78 (by decide) rfl rfl ?_
  refine ex_load fun v1395_ld => ?_
  refine ex_store 78 (k0_off102_eq k0_t3) hn ?_
  refine step_chk (ok.chk 79 (by decide)) ?_
  exact ex_gatherE (hl := View.loads_vmem h_S4096x16) ok 79 (by decide) rfl rfl hk

theorem ex42 {C : Ctx F} {o pv : IVec S16 32} (ok : Ok C o pv) (k0_t3 : Fin k0_t3_loop.trips) (hn : 16 * k0_t3.val = 16 * C.c) {arg12 : BitVec 32} {Q}
    (hk : St C 82 ⊢ Q ⟨k0_pay306 pv, k0_pay313 o⟩) :
    St C 79 ⊢ wpk (thr C.d C.L) (k0_part42 (F := F) C.L a2 h2 a3 h3 a4 h4 slV h5 scV h6 gV h7 rV h8 pV h9 s10 s11 r0 r1 r2 k0_t3 arg12 o pv ((RV C 79))) Q := by
  rw [k0_part42_eq_skeleton]; unfold k0_part42_skel
  refine ex_load fun v1409_ld => ?_
  refine ex_store 79 (k0_off103_eq k0_t3) hn ?_
  refine step_chk (ok.chk 80 (by decide)) ?_
  refine ex_gather (hl := View.loads_vmem h_S4096x16) ok 80 (by decide) rfl rfl ?_
  refine ex_load fun v1425_ld => ?_
  refine ex_store 80 (k0_off104_eq k0_t3) hn ?_
  refine step_chk (ok.chk 81 (by decide)) ?_
  refine ex_gather (hl := View.loads_vmem h_S4096x16) ok 81 (by decide) rfl rfl ?_
  refine ex_load fun v1439_ld => ?_
  refine ex_store 81 (k0_off105_eq k0_t3) hn ?_
  exact step_pure (hk)

theorem ex43 {C : Ctx F} {o pv : IVec S16 32} (ok : Ok C o pv) (k0_t3 : Fin k0_t3_loop.trips) (hn : 16 * k0_t3.val = 16 * C.c) {arg12 : BitVec 32} {Q}
    (hk : St C 84 ⊢ Q ⟨(RV C 84), (Scalar.muli arg12 16#32)⟩) :
    St C 82 ⊢ wpk (thr C.d C.L) (k0_part43 (F := F) C.L a2 h2 a3 h3 a4 h4 slV h5 scV h6 gV h7 rV h8 pV h9 s10 s11 r0 r1 r2 k0_t3 arg12 o (k0_pay306 pv) (k0_pay313 o)) Q := by
  rw [k0_part43_eq_skeleton]; unfold k0_part43_skel
  refine step_chk (ok.chk 82 (by decide)) ?_
  refine ex_gather (hl := View.loads_vmem h_S4096x16) ok 82 (by decide) rfl rfl ?_
  refine ex_load fun v1453_ld => ?_
  refine ex_store 82 (k0_off106_eq k0_t3) hn ?_
  refine step_chk (ok.chk 83 (by decide)) ?_
  refine ex_gather (hl := View.loads_vmem h_S4096x16) ok 83 (by decide) rfl rfl ?_
  refine ex_load fun v1467_ld => ?_
  refine ex_store 83 (k0_off107_eq k0_t3) hn ?_
  refine step_chk (ok.chk 84 (by decide)) ?_
  refine ex_gather (hl := View.loads_vmem h_S4096x16) ok 84 (by decide) rfl rfl ?_
  exact step_pure (hk)

theorem ex44 {C : Ctx F} {o pv : IVec S16 32} (ok : Ok C o pv) (k0_t3 : Fin k0_t3_loop.trips) (hn : 16 * k0_t3.val = 16 * C.c) {arg12 : BitVec 32} {Q}
    (hk : St C 87 ⊢ Q ⟨k0_pay328 o, k0_pay329 o, k0_pay330⟩) :
    St C 84 ⊢ wpk (thr C.d C.L) (k0_part44 (F := F) C.L a2 h2 a3 h3 a4 h4 slV h5 scV h6 gV h7 rV h8 pV h9 s10 s11 r0 r1 r2 k0_t3 arg12 o (k0_pay306 pv) ((RV C 84)) ((Scalar.muli arg12 16#32))) Q := by
  rw [k0_part44_eq_skeleton]; unfold k0_part44_skel
  refine ex_load fun v1481_ld => ?_
  refine ex_store 84 (k0_off108_eq k0_t3) hn ?_
  refine step_chk (ok.chk 85 (by decide)) ?_
  refine ex_gather (hl := View.loads_vmem h_S4096x16) ok 85 (by decide) rfl rfl ?_
  refine ex_load fun v1495_ld => ?_
  refine ex_store 85 (k0_off109_eq k0_t3) hn ?_
  refine step_chk (ok.chk 86 (by decide)) ?_
  refine ex_gather (hl := View.loads_vmem h_S4096x16) ok 86 (by decide) rfl rfl ?_
  refine ex_load fun v1509_ld => ?_
  refine ex_store 86 (k0_off110_eq k0_t3) hn ?_
  exact step_pure (hk)

theorem ex45 {C : Ctx F} {o pv : IVec S16 32} (ok : Ok C o pv) (k0_t3 : Fin k0_t3_loop.trips) (hn : 16 * k0_t3.val = 16 * C.c) {arg12 : BitVec 32} {Q}
    (hk : St C 89 ⊢ Q ((RV C 89))) :
    St C 87 ⊢ wpk (thr C.d C.L) (k0_part45 (F := F) C.L a2 h2 a3 h3 a4 h4 slV h5 scV h6 gV h7 rV h8 pV h9 s10 s11 r0 r1 r2 k0_t3 arg12 o (k0_pay306 pv) (k0_pay328 o) (k0_pay329 o) k0_pay330) Q := by
  rw [k0_part45_eq_skeleton]; unfold k0_part45_skel
  refine step_chk (ok.chk 87 (by decide)) ?_
  refine ex_gather (hl := View.loads_vmem h_S4096x16) ok 87 (by decide) rfl rfl ?_
  refine ex_load fun v1523_ld => ?_
  refine ex_store 87 (k0_off111_eq k0_t3) hn ?_
  refine step_chk (ok.chk 88 (by decide)) ?_
  refine ex_gather (hl := View.loads_vmem h_S4096x16) ok 88 (by decide) rfl rfl ?_
  refine ex_load fun v1537_ld => ?_
  refine ex_store 88 (k0_off112_eq k0_t3) hn ?_
  refine step_chk (ok.chk 89 (by decide)) ?_
  refine ex_gather (hl := View.loads_vmem h_S4096x16) ok 89 (by decide) rfl rfl ?_
  refine ex_load fun v1551_ld => ?_
  exact step_pure (hk)

theorem ex46 {C : Ctx F} {o pv : IVec S16 32} (ok : Ok C o pv) (k0_t3 : Fin k0_t3_loop.trips) (hn : 16 * k0_t3.val = 16 * C.c) {arg12 : BitVec 32} {Q}
    (hk : St C 92 ⊢ Q ⟨k0_pay346 o (k0_pay306 pv), k0_pay347 o⟩) :
    St C 89 ⊢ wpk (thr C.d C.L) (k0_part46 (F := F) C.L a2 h2 a3 h3 a4 h4 slV h5 scV h6 gV h7 rV h8 pV h9 s10 s11 r0 r1 r2 k0_t3 arg12 o (k0_pay306 pv) ((RV C 89))) Q := by
  rw [k0_part46_eq_skeleton]; unfold k0_part46_skel
  refine ex_store 89 (k0_off113_eq k0_t3) hn ?_
  refine step_chk (ok.chk 90 (by decide)) ?_
  refine ex_gather (hl := View.loads_vmem h_S4096x16) ok 90 (by decide) rfl rfl ?_
  refine ex_load fun v1565_ld => ?_
  refine ex_store 90 (k0_off114_eq k0_t3) hn ?_
  refine step_chk (ok.chk 91 (by decide)) ?_
  refine ex_gather (hl := View.loads_vmem h_S4096x16) ok 91 (by decide) rfl rfl ?_
  refine ex_load fun v1579_ld => ?_
  refine ex_store 91 (k0_off115_eq k0_t3) hn ?_
  exact step_pure (hk)

theorem ex47 {C : Ctx F} {o pv : IVec S16 32} (ok : Ok C o pv) (k0_t3 : Fin k0_t3_loop.trips) (hn : 16 * k0_t3.val = 16 * C.c) {arg12 : BitVec 32} {Q}
    (hk : St C 95 ⊢ Q ⟨k0_pay354 o, 4#32⟩) :
    St C 92 ⊢ wpk (thr C.d C.L) (k0_part47 (F := F) C.L a2 h2 a3 h3 a4 h4 slV h5 scV h6 gV h7 rV h8 pV h9 s10 s11 r0 r1 r2 k0_t3 arg12 o (k0_pay306 pv) (k0_pay346 o (k0_pay306 pv)) (k0_pay347 o)) Q := by
  rw [k0_part47_eq_skeleton]; unfold k0_part47_skel
  refine step_chk (ok.chk 92 (by decide)) ?_
  refine ex_gather (hl := View.loads_vmem h_S4096x16) ok 92 (by decide) rfl rfl ?_
  refine ex_load fun v1593_ld => ?_
  refine ex_store 92 (k0_off116_eq k0_t3) hn ?_
  refine step_chk (ok.chk 93 (by decide)) ?_
  refine ex_gather (hl := View.loads_vmem h_S4096x16) ok 93 (by decide) rfl rfl ?_
  refine ex_load fun v1607_ld => ?_
  refine ex_store 93 (k0_off117_eq k0_t3) hn ?_
  refine step_chk (ok.chk 94 (by decide)) ?_
  refine ex_gather (hl := View.loads_vmem h_S4096x16) ok 94 (by decide) rfl rfl ?_
  refine ex_load fun v1621_ld => ?_
  refine ex_store 94 (k0_off118_eq k0_t3) hn ?_
  exact step_pure (hk)

theorem ex48 {C : Ctx F} {o pv : IVec S16 32} (ok : Ok C o pv) (k0_t3 : Fin k0_t3_loop.trips) (hn : 16 * k0_t3.val = 16 * C.c) {arg12 : BitVec 32} {Q}
    (hk : St C 97 ⊢ Q ⟨k0_pay357 pv, (RV C 97)⟩) :
    St C 95 ⊢ wpk (thr C.d C.L) (k0_part48 (F := F) C.L a2 h2 a3 h3 a4 h4 slV h5 scV h6 gV h7 rV h8 pV h9 s10 s11 r0 r1 r2 k0_t3 arg12 o pv (k0_pay306 pv) (k0_pay354 o) 4#32) Q := by
  rw [k0_part48_eq_skeleton]; unfold k0_part48_skel
  refine step_chk (ok.chk 95 (by decide)) ?_
  refine ex_gather (hl := View.loads_vmem h_S4096x16) ok 95 (by decide) rfl rfl ?_
  refine ex_load fun v1635_ld => ?_
  refine ex_store 95 (k0_off119_eq k0_t3) hn ?_
  refine step_chk (ok.chk 96 (by decide)) ?_
  refine ex_gather (hl := View.loads_vmem h_S4096x16) ok 96 (by decide) rfl rfl ?_
  refine ex_load fun v1651_ld => ?_
  refine ex_store 96 (k0_off120_eq k0_t3) hn ?_
  refine step_chk (ok.chk 97 (by decide)) ?_
  refine ex_gather (hl := View.loads_vmem h_S4096x16) ok 97 (by decide) rfl rfl ?_
  exact step_pure (hk)

theorem ex49 {C : Ctx F} {o pv : IVec S16 32} (ok : Ok C o pv) (k0_t3 : Fin k0_t3_loop.trips) (hn : 16 * k0_t3.val = 16 * C.c) {arg12 : BitVec 32} {Q}
    (hk : St C 100 ⊢ Q ⟨k0_pay370 o, k0_pay371 o⟩) :
    St C 97 ⊢ wpk (thr C.d C.L) (k0_part49 (F := F) C.L a2 h2 a3 h3 a4 h4 slV h5 scV h6 gV h7 rV h8 pV h9 s10 s11 r0 r1 r2 k0_t3 arg12 o (k0_pay357 pv) ((RV C 97))) Q := by
  rw [k0_part49_eq_skeleton]; unfold k0_part49_skel
  refine ex_load fun v1665_ld => ?_
  refine ex_store 97 (k0_off121_eq k0_t3) hn ?_
  refine step_chk (ok.chk 98 (by decide)) ?_
  refine ex_gather (hl := View.loads_vmem h_S4096x16) ok 98 (by decide) rfl rfl ?_
  refine ex_load fun v1679_ld => ?_
  refine ex_store 98 (k0_off122_eq k0_t3) hn ?_
  refine step_chk (ok.chk 99 (by decide)) ?_
  refine ex_gather (hl := View.loads_vmem h_S4096x16) ok 99 (by decide) rfl rfl ?_
  refine ex_load fun v1693_ld => ?_
  refine ex_store 99 (k0_off123_eq k0_t3) hn ?_
  exact step_pure (hk)

theorem ex50 {C : Ctx F} {o pv : IVec S16 32} (ok : Ok C o pv) (k0_t3 : Fin k0_t3_loop.trips) (hn : 16 * k0_t3.val = 16 * C.c) {arg12 : BitVec 32} {Q}
    (hk : St C 102 ⊢ Q ((RV C 102))) :
    St C 100 ⊢ wpk (thr C.d C.L) (k0_part50 (F := F) C.L a2 h2 a3 h3 a4 h4 slV h5 scV h6 gV h7 rV h8 pV h9 s10 s11 r0 r1 r2 k0_t3 arg12 o (k0_pay357 pv) (k0_pay370 o) (k0_pay371 o)) Q := by
  rw [k0_part50_eq_skeleton]; unfold k0_part50_skel
  refine step_chk (ok.chk 100 (by decide)) ?_
  refine ex_gather (hl := View.loads_vmem h_S4096x16) ok 100 (by decide) rfl rfl ?_
  refine ex_load fun v1707_ld => ?_
  refine ex_store 100 (k0_off124_eq k0_t3) hn ?_
  refine step_chk (ok.chk 101 (by decide)) ?_
  refine ex_gather (hl := View.loads_vmem h_S4096x16) ok 101 (by decide) rfl rfl ?_
  refine ex_load fun v1721_ld => ?_
  refine ex_store 101 (k0_off125_eq k0_t3) hn ?_
  refine step_chk (ok.chk 102 (by decide)) ?_
  exact ex_gatherE (hl := View.loads_vmem h_S4096x16) ok 102 (by decide) rfl rfl hk

theorem ex51 {C : Ctx F} {o pv : IVec S16 32} (ok : Ok C o pv) (k0_t3 : Fin k0_t3_loop.trips) (hn : 16 * k0_t3.val = 16 * C.c) {arg12 : BitVec 32} {Q}
    (hk : St C 105 ⊢ Q ⟨k0_pay386 o, k0_pay387 o (k0_pay357 pv), 15#32⟩) :
    St C 102 ⊢ wpk (thr C.d C.L) (k0_part51 (F := F) C.L a2 h2 a3 h3 a4 h4 slV h5 scV h6 gV h7 rV h8 pV h9 s10 s11 r0 r1 r2 k0_t3 arg12 o (k0_pay357 pv) ((RV C 102))) Q := by
  rw [k0_part51_eq_skeleton]; unfold k0_part51_skel
  refine ex_load fun v1735_ld => ?_
  refine ex_store 102 (k0_off126_eq k0_t3) hn ?_
  refine step_chk (ok.chk 103 (by decide)) ?_
  refine ex_gather (hl := View.loads_vmem h_S4096x16) ok 103 (by decide) rfl rfl ?_
  refine ex_load fun v1749_ld => ?_
  refine ex_store 103 (k0_off127_eq k0_t3) hn ?_
  refine step_chk (ok.chk 104 (by decide)) ?_
  refine ex_gather (hl := View.loads_vmem h_S4096x16) ok 104 (by decide) rfl rfl ?_
  refine ex_load fun v1763_ld => ?_
  refine ex_store 104 (k0_off128_eq k0_t3) hn ?_
  exact step_pure (hk)

theorem ex52 {C : Ctx F} {o pv : IVec S16 32} (ok : Ok C o pv) (k0_t3 : Fin k0_t3_loop.trips) (hn : 16 * k0_t3.val = 16 * C.c) {arg12 : BitVec 32} {Q}
    (hk : St C 108 ⊢ Q k0_pay395) :
    St C 105 ⊢ wpk (thr C.d C.L) (k0_part52 (F := F) C.L a2 h2 a3 h3 a4 h4 slV h5 scV h6 gV h7 rV h8 pV h9 s10 s11 r0 r1 r2 k0_t3 arg12 o (k0_pay357 pv) (k0_pay386 o) (k0_pay387 o (k0_pay357 pv)) 15#32) Q := by
  rw [k0_part52_eq_skeleton]; unfold k0_part52_skel
  refine step_chk (ok.chk 105 (by decide)) ?_
  refine ex_gather (hl := View.loads_vmem h_S4096x16) ok 105 (by decide) rfl rfl ?_
  refine ex_load fun v1777_ld => ?_
  refine ex_store 105 (k0_off129_eq k0_t3) hn ?_
  refine step_chk (ok.chk 106 (by decide)) ?_
  refine ex_gather (hl := View.loads_vmem h_S4096x16) ok 106 (by decide) rfl rfl ?_
  refine ex_load fun v1791_ld => ?_
  refine ex_store 106 (k0_off130_eq k0_t3) hn ?_
  refine step_chk (ok.chk 107 (by decide)) ?_
  refine ex_gather (hl := View.loads_vmem h_S4096x16) ok 107 (by decide) rfl rfl ?_
  refine ex_load fun v1805_ld => ?_
  refine ex_store 107 (k0_off131_eq k0_t3) hn ?_
  exact step_pure (hk)

theorem ex53 {C : Ctx F} {o pv : IVec S16 32} (ok : Ok C o pv) (k0_t3 : Fin k0_t3_loop.trips) (hn : 16 * k0_t3.val = 16 * C.c) {arg12 : BitVec 32} {Q}
    (hk : St C 110 ⊢ Q ⟨(RV C 110), 16#32⟩) :
    St C 108 ⊢ wpk (thr C.d C.L) (k0_part53 (F := F) C.L a2 h2 a3 h3 a4 h4 slV h5 scV h6 gV h7 rV h8 pV h9 s10 s11 r0 r1 r2 k0_t3 arg12 o (k0_pay357 pv) k0_pay395) Q := by
  rw [k0_part53_eq_skeleton]; unfold k0_part53_skel
  refine step_chk (ok.chk 108 (by decide)) ?_
  refine ex_gather (hl := View.loads_vmem h_S4096x16) ok 108 (by decide) rfl rfl ?_
  refine ex_load fun v1819_ld => ?_
  refine ex_store 108 (k0_off132_eq k0_t3) hn ?_
  refine step_chk (ok.chk 109 (by decide)) ?_
  refine ex_gather (hl := View.loads_vmem h_S4096x16) ok 109 (by decide) rfl rfl ?_
  refine ex_load fun v1833_ld => ?_
  refine ex_store 109 (k0_off133_eq k0_t3) hn ?_
  refine step_chk (ok.chk 110 (by decide)) ?_
  refine ex_gather (hl := View.loads_vmem h_S4096x16) ok 110 (by decide) rfl rfl ?_
  exact step_pure (hk)

theorem ex54 {C : Ctx F} {o pv : IVec S16 32} (ok : Ok C o pv) (k0_t3 : Fin k0_t3_loop.trips) (hn : 16 * k0_t3.val = 16 * C.c) {arg12 : BitVec 32} {Q}
    (hk : St C 113 ⊢ Q ⟨k0_pay408 pv, k0_pay412 o, 4#32⟩) :
    St C 110 ⊢ wpk (thr C.d C.L) (k0_part54 (F := F) C.L a2 h2 a3 h3 a4 h4 slV h5 scV h6 gV h7 rV h8 pV h9 s10 s11 r0 r1 r2 k0_t3 arg12 o pv (k0_pay357 pv) ((RV C 110)) 16#32) Q := by
  rw [k0_part54_eq_skeleton]; unfold k0_part54_skel
  refine ex_load fun v1847_ld => ?_
  refine ex_store 110 (k0_off134_eq k0_t3) hn ?_
  refine step_chk (ok.chk 111 (by decide)) ?_
  refine ex_gather (hl := View.loads_vmem h_S4096x16) ok 111 (by decide) rfl rfl ?_
  refine ex_load fun v1861_ld => ?_
  refine ex_store 111 (k0_off135_eq k0_t3) hn ?_
  refine step_chk (ok.chk 112 (by decide)) ?_
  refine ex_gather (hl := View.loads_vmem h_S4096x16) ok 112 (by decide) rfl rfl ?_
  refine ex_load fun v1877_ld => ?_
  refine ex_store 112 (k0_off136_eq k0_t3) hn ?_
  exact step_pure (hk)

theorem ex55 {C : Ctx F} {o pv : IVec S16 32} (ok : Ok C o pv) (k0_t3 : Fin k0_t3_loop.trips) (hn : 16 * k0_t3.val = 16 * C.c) {arg12 : BitVec 32} {Q}
    (hk : St C 115 ⊢ Q ⟨(RV C 115), (Scalar.muli arg12 16#32), 115#32⟩) :
    St C 113 ⊢ wpk (thr C.d C.L) (k0_part55 (F := F) C.L a2 h2 a3 h3 a4 h4 slV h5 scV h6 gV h7 rV h8 pV h9 s10 s11 r0 r1 r2 k0_t3 arg12 o (k0_pay408 pv) (k0_pay412 o) 4#32) Q := by
  rw [k0_part55_eq_skeleton]; unfold k0_part55_skel
  refine step_chk (ok.chk 113 (by decide)) ?_
  refine ex_gather (hl := View.loads_vmem h_S4096x16) ok 113 (by decide) rfl rfl ?_
  refine ex_load fun v1891_ld => ?_
  refine ex_store 113 (k0_off137_eq k0_t3) hn ?_
  refine step_chk (ok.chk 114 (by decide)) ?_
  refine ex_gather (hl := View.loads_vmem h_S4096x16) ok 114 (by decide) rfl rfl ?_
  refine ex_load fun v1905_ld => ?_
  refine ex_store 114 (k0_off138_eq k0_t3) hn ?_
  refine step_chk (ok.chk 115 (by decide)) ?_
  refine ex_gather (hl := View.loads_vmem h_S4096x16) ok 115 (by decide) rfl rfl ?_
  exact step_pure (hk)

theorem ex56 {C : Ctx F} {o pv : IVec S16 32} (ok : Ok C o pv) (k0_t3 : Fin k0_t3_loop.trips) (hn : 16 * k0_t3.val = 16 * C.c) {arg12 : BitVec 32} {Q}
    (hk : St C 118 ⊢ Q ⟨k0_pay427 o, k0_pay428 o⟩) :
    St C 115 ⊢ wpk (thr C.d C.L) (k0_part56 (F := F) C.L a2 h2 a3 h3 a4 h4 slV h5 scV h6 gV h7 rV h8 pV h9 s10 s11 r0 r1 r2 k0_t3 arg12 o (k0_pay408 pv) ((RV C 115)) ((Scalar.muli arg12 16#32)) 115#32) Q := by
  rw [k0_part56_eq_skeleton]; unfold k0_part56_skel
  refine ex_load fun v1919_ld => ?_
  refine ex_store 115 (k0_off139_eq k0_t3) hn ?_
  refine step_chk (ok.chk 116 (by decide)) ?_
  refine ex_gather (hl := View.loads_vmem h_S4096x16) ok 116 (by decide) rfl rfl ?_
  refine ex_load fun v1933_ld => ?_
  refine ex_store 116 (k0_off140_eq k0_t3) hn ?_
  refine step_chk (ok.chk 117 (by decide)) ?_
  refine ex_gather (hl := View.loads_vmem h_S4096x16) ok 117 (by decide) rfl rfl ?_
  refine ex_load fun v1947_ld => ?_
  refine ex_store 117 (k0_off141_eq k0_t3) hn ?_
  exact step_pure (hk)

theorem ex57 {C : Ctx F} {o pv : IVec S16 32} (ok : Ok C o pv) (k0_t3 : Fin k0_t3_loop.trips) (hn : 16 * k0_t3.val = 16 * C.c) {arg12 : BitVec 32} {Q}
    (hk : St C 121 ⊢ Q ⟨⟩) :
    St C 118 ⊢ wpk (thr C.d C.L) (k0_part57 (F := F) C.L a2 h2 a3 h3 a4 h4 slV h5 scV h6 gV h7 rV h8 pV h9 s10 s11 r0 r1 r2 k0_t3 arg12 o (k0_pay408 pv) (k0_pay427 o) (k0_pay428 o)) Q := by
  rw [k0_part57_eq_skeleton]; unfold k0_part57_skel
  refine step_chk (ok.chk 118 (by decide)) ?_
  refine ex_gather (hl := View.loads_vmem h_S4096x16) ok 118 (by decide) rfl rfl ?_
  refine ex_load fun v1961_ld => ?_
  refine ex_store 118 (k0_off142_eq k0_t3) hn ?_
  refine step_chk (ok.chk 119 (by decide)) ?_
  refine ex_gather (hl := View.loads_vmem h_S4096x16) ok 119 (by decide) rfl rfl ?_
  refine ex_load fun v1975_ld => ?_
  refine ex_store 119 (k0_off143_eq k0_t3) hn ?_
  refine step_chk (ok.chk 120 (by decide)) ?_
  refine ex_gather (hl := View.loads_vmem h_S4096x16) ok 120 (by decide) rfl rfl ?_
  refine ex_load fun v1989_ld => ?_
  refine ex_store 120 (k0_off144_eq k0_t3) hn ?_
  exact step_pure (hk)

theorem ex58 {C : Ctx F} {o pv : IVec S16 32} (ok : Ok C o pv) (k0_t3 : Fin k0_t3_loop.trips) (hn : 16 * k0_t3.val = 16 * C.c) {arg12 : BitVec 32} {Q}
    (hk : ∀ (k0_hw124 : k0_chk124 (k0_pay443 o (k0_pay408 pv)) (k0_pay444 o)), St C 123 ⊢ Q ⟨(k0_pay443 o (k0_pay408 pv)), (k0_pay444 o), k0_hw124⟩) :
    St C 121 ⊢ wpk (thr C.d C.L) (k0_part58 (F := F) C.L a2 h2 a3 h3 a4 h4 slV h5 scV h6 gV h7 rV h8 pV h9 s10 s11 r0 r1 r2 k0_t3 arg12 o (k0_pay408 pv)) Q := by
  rw [k0_part58_eq_skeleton]; unfold k0_part58_skel
  refine step_chk (ok.chk 121 (by decide)) ?_
  refine ex_gather (hl := View.loads_vmem h_S4096x16) ok 121 (by decide) rfl rfl ?_
  refine ex_load fun v2003_ld => ?_
  refine ex_store 121 (k0_off145_eq k0_t3) hn ?_
  refine step_chk (ok.chk 122 (by decide)) ?_
  refine ex_gather (hl := View.loads_vmem h_S4096x16) ok 122 (by decide) rfl rfl ?_
  refine ex_load fun v2017_ld => ?_
  refine ex_store 122 (k0_off146_eq k0_t3) hn ?_
  refine step_chk (ok.chk 123 (by decide)) ?_
  exact step_pure (hk _)

theorem ex59 {C : Ctx F} {o pv : IVec S16 32} (ok : Ok C o pv) (k0_t3 : Fin k0_t3_loop.trips) (hn : 16 * k0_t3.val = 16 * C.c) {arg12 : BitVec 32} (k0_hw124 : k0_chk124 (k0_pay443 o (k0_pay408 pv)) (k0_pay444 o)) {Q}
    (hk : St C 126 ⊢ Q ⟨k0_pay451 o, k0_pay452⟩) :
    St C 123 ⊢ wpk (thr C.d C.L) (k0_part59 (F := F) C.L a2 h2 a3 h3 a4 h4 slV h5 scV h6 gV h7 rV h8 pV h9 s10 s11 r0 r1 r2 k0_t3 arg12 o (k0_pay408 pv) ((k0_pay443 o (k0_pay408 pv))) ((k0_pay444 o)) k0_hw124) Q := by
  rw [k0_part59_eq_skeleton]; unfold k0_part59_skel
  refine ex_gather (hl := View.loads_vmem h_S4096x16) ok 123 (by decide) rfl rfl ?_
  refine ex_load fun v2031_ld => ?_
  refine ex_store 123 (k0_off147_eq k0_t3) hn ?_
  refine step_chk (ok.chk 124 (by decide)) ?_
  refine ex_gather (hl := View.loads_vmem h_S4096x16) ok 124 (by decide) rfl rfl ?_
  refine ex_load fun v2045_ld => ?_
  refine ex_store 124 (k0_off148_eq k0_t3) hn ?_
  refine step_chk (ok.chk 125 (by decide)) ?_
  refine ex_gather (hl := View.loads_vmem h_S4096x16) ok 125 (by decide) rfl rfl ?_
  refine ex_load fun v2059_ld => ?_
  refine ex_store 125 (k0_off149_eq k0_t3) hn ?_
  exact step_pure (hk)

set_option maxRecDepth 65536 in
theorem ex_body3 {C : Ctx F} (hok : Hok C) (hc : C.c < 16) (k0_t3 : Fin k0_t3_loop.trips) (hn : 16 * k0_t3.val = 16 * C.c) (z : BitVec 32) {Q}
    (hk : ∀ z, St C 128 ⊢ Q z) :
    St C 0 ⊢ wpk (thr C.d C.L) (k0_t3_body (F := F) C.L a2 h2 a3 h3 a4 h4 slV h5 scV h6 gV h7 rV h8 pV h9 s10 s11 r0 r1 r2 k0_t3 z) Q := by
  unfold k0_t3_body
  refine step_bind ?_
  rw [k0_part60_eq_skeleton]; unfold k0_part60_skel
  refine step_bind (ex11 hok hc k0_t3 hn fun arg12 o pv ok v309_ld => ?_)
  refine step_bind (ex12 ok k0_t3 hn _ ?_)
  refine step_bind (ex13 ok k0_t3 hn ?_)
  refine step_bind (ex14 ok k0_t3 hn ?_)
  refine step_bind (ex15 ok k0_t3 hn ?_)
  refine step_bind (ex16 ok k0_t3 hn ?_)
  refine step_bind (ex17 ok k0_t3 hn ?_)
  refine step_bind (ex18 ok k0_t3 hn ?_)
  refine step_bind (ex19 ok k0_t3 hn ?_)
  refine step_bind (ex20 ok k0_t3 hn ?_)
  refine step_bind (ex21 ok k0_t3 hn ?_)
  refine step_bind (ex22 ok k0_t3 hn ?_)
  refine step_bind (ex23 ok k0_t3 hn ?_)
  refine step_bind (ex24 ok k0_t3 hn ?_)
  refine step_bind (ex25 ok k0_t3 hn ?_)
  refine step_bind (ex26 ok k0_t3 hn ?_)
  refine step_bind (ex27 ok k0_t3 hn ?_)
  refine step_bind (ex28 ok k0_t3 hn ?_)
  refine step_bind (ex29 ok k0_t3 hn ?_)
  refine step_bind (ex30 ok k0_t3 hn ?_)
  refine step_bind (ex31 ok k0_t3 hn ?_)
  refine step_bind (ex32 ok k0_t3 hn ?_)
  refine step_bind (ex33 ok k0_t3 hn fun v1113_ld => ?_)
  refine step_bind (ex34 ok k0_t3 hn _ ?_)
  refine step_bind (ex35 ok k0_t3 hn ?_)
  refine step_bind (ex36 ok k0_t3 hn fun hw => ?_)
  refine step_bind (ex37 ok k0_t3 hn _ ?_)
  refine step_bind (ex38 ok k0_t3 hn ?_)
  refine step_bind (ex39 ok k0_t3 hn ?_)
  refine step_bind (ex40 ok k0_t3 hn ?_)
  refine step_bind (ex41 ok k0_t3 hn ?_)
  refine step_bind (ex42 ok k0_t3 hn ?_)
  refine step_bind (ex43 ok k0_t3 hn ?_)
  refine step_bind (ex44 ok k0_t3 hn ?_)
  refine step_bind (ex45 ok k0_t3 hn ?_)
  refine step_bind (ex46 ok k0_t3 hn ?_)
  refine step_bind (ex47 ok k0_t3 hn ?_)
  refine step_bind (ex48 ok k0_t3 hn ?_)
  refine step_bind (ex49 ok k0_t3 hn ?_)
  refine step_bind (ex50 ok k0_t3 hn ?_)
  refine step_bind (ex51 ok k0_t3 hn ?_)
  refine step_bind (ex52 ok k0_t3 hn ?_)
  refine step_bind (ex53 ok k0_t3 hn ?_)
  refine step_bind (ex54 ok k0_t3 hn ?_)
  refine step_bind (ex55 ok k0_t3 hn ?_)
  refine step_bind (ex56 ok k0_t3 hn ?_)
  refine step_bind (ex57 ok k0_t3 hn ?_)
  refine step_bind (ex58 ok k0_t3 hn fun hw => ?_)
  refine step_bind (ex59 ok k0_t3 hn _ ?_)
  refine step_chk (ok.chk 126 (by decide)) ?_
  refine ex_gather (hl := View.loads_vmem h_S4096x16) ok 126 (by decide) rfl rfl ?_
  refine step_pure ?_
  refine ex_load fun v2073_ld => ?_
  refine ex_store 126 (k0_off150_eq k0_t3) hn ?_
  refine step_chk (ok.chk 127 (by decide)) ?_
  refine ex_gather (hl := View.loads_vmem h_S4096x16) ok 127 (by decide) rfl rfl ?_
  refine ex_load fun v2087_ld => ?_
  refine ex_store 127 (k0_off151_eq k0_t3) hn ?_
  exact step_pure (hk _)

end Cert.Kernel.Tile
-- ==== Proof.KParts.lean ====
module

public import proofs.«01_k».proof.Proof.KPhase
public import proofs.«01_k».proof.Proof.KExtA

@[expose] public section

noncomputable section

namespace Cert.Kernel.Tile

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ (UU F) ℕ
local notation "slV" => (Memref.whole Cert.Kernel.cc0_scratch0 : Memref Cert.Kernel.sig Kind.scVector Space.vmem Cert.Kernel.S256 EltTy.i32)
local notation "scV" => (Memref.whole Cert.Kernel.cc0_scratch1 : Memref Cert.Kernel.sig Kind.scVector Space.vmem Cert.Kernel.S256 EltTy.i32)
local notation "gV" => (Memref.whole Cert.Kernel.cc0_scratch2 : Memref Cert.Kernel.sig Kind.scVector Space.vmem Cert.Kernel.S32x128 EltTy.i32)
local notation "rV" => (Memref.whole Cert.Kernel.cc0_scratch3 : Memref Cert.Kernel.sig Kind.scVector Space.vmem Cert.Kernel.S4096x16 EltTy.f32)
local notation "pV" => (Memref.whole Cert.Kernel.cc0_scratch4 : Memref Cert.Kernel.sig Kind.scVector Space.vmem Cert.Kernel.S136x256 EltTy.f32)
local notation "xV" => (Memref.whole Cert.Kernel.main_v0_scv : Memref Cert.Kernel.sig Kind.scVector Space.hbm Cert.Kernel.S2097152x16 EltTy.f32)
local notation "zV" => (Memref.whole Cert.Kernel.main_v3_scv : Memref Cert.Kernel.sig Kind.scVector Space.hbm Cert.Kernel.S16384 EltTy.i32)
local notation "oV" => (Memref.whole Cert.Kernel.main_v4_scv : Memref Cert.Kernel.sig Kind.scVector Space.hbm Cert.Kernel.S136x8192 EltTy.f32)

variable {h2 : (xV).IsWhole} {h3 : (zV).IsWhole} {h4 : (oV).IsWhole} {h5 : (slV).IsWhole} {h6 : (scV).IsWhole} {h7 : (gV).IsWhole} {h8 : (rV).IsWhole} {h9 : (pV).IsWhole}
  {s10 s11 r0 r1 r2 : DmaSems sig S_}
variable {A A' : sProp (MT nD τ sig (HIx 1) (Elt F) ℕ (UU F) ℕ)} {α : Type}

/-- A step of reasoning that updates what is held, ahead of a program. -/
theorem step_upd {t : Thread nD τ} {p : Prog (TpuEff nD τ sig (Elt F) Λ₀ t.2) α} {Q : α → sProp 𝕄} (h : A ⊢ iprop(|={Set.univ}=> A'))
    (hk : A' ⊢ wpk t p Q) : A ⊢ wpk t p Q := by
  unfold wpk at hk ⊢
  iintro H
  imod h $$ H with H
  iapply hk $$ H

theorem pat_weaken {d : Dev nD} {L : grid0.Coords} {I : In F} {P P' : ℕ → ℕ → Prop} (h : ∀ r c, r < 136 → c < 16 → P' r c → P r c) :
    Pat d L I P ⊢ Pat d L I P' := by
  unfold Pat
  refine exists_elim fun f => pureL fun hf => ?_
  iintro H; iexists f
  isplitr; · ipureintro; exact fun x hx => hf x (h _ _ (x 0).isLt (by have h1 : (x 1).val < 256 := (x 1).isLt; omega) hx)
  iexact H

theorem gix_weaken {d : Dev nD} {L : grid0.Coords} {I : In F} {q : ℕ} {P P' : ℕ → ℕ → Prop} (h : ∀ r c, r < 32 → c < 8 → P' r c → P r c) :
    Gix d L I q P ⊢ Gix d L I q P' := by
  unfold Gix
  refine exists_elim fun f => pureL fun hf => ?_
  iintro H; iexists f
  isplitr; · ipureintro; exact fun x hq hx => hf x hq (h _ _ (x 0).isLt (by have h1 : (x 1).val < 128 := (x 1).isLt; omega) hx)
  iexact H

/-- The next block of a building loop starts where one ends. -/
theorem sb_next {d : Dev nD} {L : grid0.Coords} {I : In F} {h : ℕ} {Fr : sProp 𝕄} (c : ℕ) :
    Sb (⟨d, L, I, h, Fr, c⟩ : BC F) 16 136 ⊢ Sb (⟨d, L, I, h, Fr, c + 1⟩ : BC F) 0 128 := by
  unfold Sb
  refine BIClass.sep_mono .rfl (BIClass.sep_mono (gix_weaken fun r c' hr hc hx => ?_) (pat_weaken fun r c' hr hc hx => ?_))
  · unfold GX at hx ⊢; intro hq; have := hx hq; dsimp only at *; omega
  · unfold BD at hx ⊢; dsimp only at *; omega

theorem st_next {d : Dev nD} {L : grid0.Coords} {I : In F} {ι : ℕ} {q : PosShare TreeShare} {f : Vec F S4096x16 .f32} {W : Finset S4096x16.Idx} {Fr : sProp 𝕄} (c : ℕ) :
    St (⟨d, L, I, ι, q, f, W, Fr, c⟩ : Ctx F) 128 ⊢ St (⟨d, L, I, ι, q, f, W, Fr, c + 1⟩ : Ctx F) 0 := by
  unfold St
  refine BIClass.sep_mono .rfl (BIClass.sep_mono .rfl (pat_weaken fun r c' hr hc hx => ?_))
  unfold EX at hx ⊢; dsimp only at *; omega

theorem trips1 : k0_t1_loop.trips = 8 := by decide
theorem trips2 : k0_t2_loop.trips = 8 := by decide
theorem trips3 : k0_t3_loop.trips = 8 := by decide
theorem trips4 : k0_t4_loop.trips = 8 := by decide

set_option maxRecDepth 65536 in
theorem loop1 {d : Dev nD} {L : grid0.Coords} {I : In F} {Fr : sProp 𝕄} {v5 : BitVec 32} (hv5 : v5 = BitVec.ofNat 32 I.w * 1048576#32)
    {Q : BitVec 32 → sProp 𝕄} (hk : ∀ z, Sb (⟨d, L, I, 0, Fr, 8⟩ : BC F) 0 128 ⊢ Q z) :
    Sb (⟨d, L, I, 0, Fr, 0⟩ : BC F) 0 128 ⊢ wpk (thr d L) (Scf.Loop.for k0_t1_loop k0_t1_ok 0#32 (k0_t1_body (F := F) L xV h2 zV h3 oV h4 slV h5 scV h6 gV h7 rV h8 pV h9 s10 s11 r0 r1 r2 v5)) Q := by
  refine tr ?_ (Scf.wp_for _ _ _ _ _ _ _ _ _ (fun n _ => Sb (⟨d, L, I, 0, Fr, n⟩ : BC F) 0 128) ?_)
  · iintro H
    isplitl [H]; · iexact H
    iintro %z H
    iapply (hk z); iexact H
  · intro k z
    exact bd_body1 (B := ⟨d, L, I, 0, Fr, k.val⟩) rfl k rfl hv5 z fun z => sb_next k.val

set_option maxRecDepth 65536 in
theorem loop2 {d : Dev nD} {L : grid0.Coords} {I : In F} {Fr : sProp 𝕄} {v5 : BitVec 32} (hv5 : v5 = BitVec.ofNat 32 I.w * 1048576#32)
    {Q : BitVec 32 → sProp 𝕄} (hk : ∀ z, Sb (⟨d, L, I, 1, Fr, 8⟩ : BC F) 0 128 ⊢ Q z) :
    Sb (⟨d, L, I, 1, Fr, 0⟩ : BC F) 0 128 ⊢ wpk (thr d L) (Scf.Loop.for k0_t2_loop k0_t2_ok 0#32 (k0_t2_body (F := F) L xV h2 zV h3 oV h4 slV h5 scV h6 gV h7 rV h8 pV h9 s10 s11 r0 r1 r2 v5)) Q := by
  refine tr ?_ (Scf.wp_for _ _ _ _ _ _ _ _ _ (fun n _ => Sb (⟨d, L, I, 1, Fr, n⟩ : BC F) 0 128) ?_)
  · iintro H
    isplitl [H]; · iexact H
    iintro %z H
    iapply (hk z); iexact H
  · intro k z
    exact bd_body2 (B := ⟨d, L, I, 1, Fr, k.val⟩) rfl k rfl hv5 z fun z => sb_next k.val

set_option maxRecDepth 65536 in
theorem loop3 {d : Dev nD} {L : grid0.Coords} {I : In F} {ι : ℕ} {q : PosShare TreeShare} {f : Vec F S4096x16 .f32} {W : Finset S4096x16.Idx} {Fr : sProp 𝕄}
    (hW : ∀ y : S4096x16.Idx, (y 0).val % 256 / 16 < 8 → y ∈ W) {Q : BitVec 32 → sProp 𝕄} (hk : ∀ z, St (⟨d, L, I, ι, q, f, W, Fr, 8⟩ : Ctx F) 0 ⊢ Q z) :
    St (⟨d, L, I, ι, q, f, W, Fr, 0⟩ : Ctx F) 0 ⊢ wpk (thr d L) (Scf.Loop.for k0_t3_loop k0_t3_ok 0#32 (k0_t3_body (F := F) L xV h2 zV h3 oV h4 slV h5 scV h6 gV h7 rV h8 pV h9 s10 s11 r0 r1 r2)) Q := by
  refine tr ?_ (Scf.wp_for _ _ _ _ _ _ _ _ _ (fun n _ => St (⟨d, L, I, ι, q, f, W, Fr, n⟩ : Ctx F) 0) ?_)
  · iintro H
    isplitl [H]; · iexact H
    iintro %z H
    iapply (hk z); iexact H
  · intro k z
    have hk8 : k.val < 8 := k.isLt
    exact ex_body3 (C := ⟨d, L, I, ι, q, f, W, Fr, k.val⟩) (fun y hy => hW y (by dsimp only at hy; omega)) (by dsimp only <;> omega) k (by dsimp only <;> omega) z fun z => st_next (k.val)

set_option maxRecDepth 65536 in
theorem loop4 {d : Dev nD} {L : grid0.Coords} {I : In F} {ι : ℕ} {q : PosShare TreeShare} {f : Vec F S4096x16 .f32} {W : Finset S4096x16.Idx} {Fr : sProp 𝕄}
    (hW : ∀ y : S4096x16.Idx, (y 0).val % 256 / 16 < 16 → y ∈ W) {Q : BitVec 32 → sProp 𝕄} (hk : ∀ z, St (⟨d, L, I, ι, q, f, W, Fr, 16⟩ : Ctx F) 0 ⊢ Q z) :
    St (⟨d, L, I, ι, q, f, W, Fr, 8⟩ : Ctx F) 0 ⊢ wpk (thr d L) (Scf.Loop.for k0_t4_loop k0_t4_ok 0#32 (k0_t4_body (F := F) L xV h2 zV h3 oV h4 slV h5 scV h6 gV h7 rV h8 pV h9 s10 s11 r0 r1 r2)) Q := by
  refine tr ?_ (Scf.wp_for _ _ _ _ _ _ _ _ _ (fun n _ => St (⟨d, L, I, ι, q, f, W, Fr, 8 + n⟩ : Ctx F) 0) ?_)
  · iintro H
    isplitl [H]; · iexact H
    iintro %z H
    iapply (hk z); iexact H
  · intro k z
    have hk8 : k.val < 8 := k.isLt
    exact ex_body4 (C := ⟨d, L, I, ι, q, f, W, Fr, 8 + k.val⟩) (fun y hy => hW y (by dsimp only at hy; omega)) (by dsimp only <;> omega) k (by dsimp only <;> omega) z fun z => st_next (8 + k.val)

theorem p112 {B : TB F}{Q : PUnit → sProp 𝕄}
    (hk : iprop(Sm B.s0 s10.sem 8 ∗ A) ⊢ Q ⟨⟩) :
    iprop(Sm B.s0 s10.sem 2 ∗ A) ⊢ wpk (thr B.d B.L) (k0_part112 (F := F) B.L xV h2 zV h3 oV h4 slV h5 scV h6 gV h7 rV h8 pV h9 s10 s11 r0 r1 r2) Q := by
  rw [k0_part112_eq_skeleton]; unfold k0_part112_skel
  refine st_issue 2 512 4 (by decide) rfl rfl ?_
  refine st_issue 3 768 6 (by decide) rfl rfl ?_
  refine st_issue 4 1024 8 (by decide) rfl rfl ?_
  refine st_issue 5 1280 10 (by decide) rfl rfl ?_
  refine st_issue 6 1536 12 (by decide) rfl rfl ?_
  refine st_issue 7 1792 14 (by decide) rfl rfl ?_
  exact step_pure hk

theorem p113 {B : TB F}{Q : PUnit → sProp 𝕄}
    (hk : iprop(Sm B.s0 s10.sem 13 ∗ A) ⊢ Q ⟨⟩) :
    iprop(Sm B.s0 s10.sem 8 ∗ A) ⊢ wpk (thr B.d B.L) (k0_part113 (F := F) B.L xV h2 zV h3 oV h4 slV h5 scV h6 gV h7 rV h8 pV h9 s10 s11 r0 r1 r2) Q := by
  rw [k0_part113_eq_skeleton]; unfold k0_part113_skel
  refine st_issue 8 2048 16 (by decide) rfl rfl ?_
  refine st_issue 9 2304 18 (by decide) rfl rfl ?_
  refine st_issue 10 2560 20 (by decide) rfl rfl ?_
  refine st_issue 11 2816 22 (by decide) rfl rfl ?_
  refine st_issue 12 3072 24 (by decide) rfl rfl ?_
  exact step_pure hk

theorem p114 {B : TB F} {v5 : BitVec 32} (hv5 : v5 = BitVec.ofNat 32 B.I.w * 1048576#32){Q : PUnit → sProp 𝕄}
    {Fr : sProp 𝕄} (hu0 : iprop(Sm B.s0 s10.sem 16 ∗ A) ⊢ iprop(|={Set.univ}=> Sb (⟨B.d, B.L, B.I, 1, Fr, 0⟩ : BC F) 0 128))
    (hu1 : Sb (⟨B.d, B.L, B.I, 1, Fr, 8⟩ : BC F) 0 128 ⊢ iprop(|={Set.univ}=> (Sm B.s1 s11.sem 0 ∗ A')))
    (hk : iprop(Sm B.s1 s11.sem 2 ∗ A') ⊢ Q ⟨⟩) :
    iprop(Sm B.s0 s10.sem 13 ∗ A) ⊢ wpk (thr B.d B.L) (k0_part114 (F := F) B.L xV h2 zV h3 oV h4 slV h5 scV h6 gV h7 rV h8 pV h9 s10 s11 r0 r1 r2 v5) Q := by
  rw [k0_part114_eq_skeleton]; unfold k0_part114_skel
  refine st_issue 13 3328 26 (by decide) rfl rfl ?_
  refine st_issue 14 3584 28 (by decide) rfl rfl ?_
  refine st_issue 15 3840 30 (by decide) rfl rfl ?_
  refine step_upd hu0 (step_bind (loop2 hv5 fun z => ?_))
  refine step_upd hu1 ?_
  refine st_issue 0 128 1 (by decide) rfl rfl ?_
  refine st_issue 1 384 3 (by decide) rfl rfl ?_
  exact step_pure hk

theorem p115 {B : TB F}{Q : PUnit → sProp 𝕄}
    (hk : iprop(Sm B.s1 s11.sem 7 ∗ A) ⊢ Q ⟨⟩) :
    iprop(Sm B.s1 s11.sem 2 ∗ A) ⊢ wpk (thr B.d B.L) (k0_part115 (F := F) B.L xV h2 zV h3 oV h4 slV h5 scV h6 gV h7 rV h8 pV h9 s10 s11 r0 r1 r2) Q := by
  rw [k0_part115_eq_skeleton]; unfold k0_part115_skel
  refine st_issue 2 640 5 (by decide) rfl rfl ?_
  refine st_issue 3 896 7 (by decide) rfl rfl ?_
  refine st_issue 4 1152 9 (by decide) rfl rfl ?_
  refine st_issue 5 1408 11 (by decide) rfl rfl ?_
  refine st_issue 6 1664 13 (by decide) rfl rfl ?_
  exact step_pure hk

theorem p116 {B : TB F}{Q : PUnit → sProp 𝕄}
    (hk : iprop(Sm B.s1 s11.sem 13 ∗ A) ⊢ Q ⟨⟩) :
    iprop(Sm B.s1 s11.sem 7 ∗ A) ⊢ wpk (thr B.d B.L) (k0_part116 (F := F) B.L xV h2 zV h3 oV h4 slV h5 scV h6 gV h7 rV h8 pV h9 s10 s11 r0 r1 r2) Q := by
  rw [k0_part116_eq_skeleton]; unfold k0_part116_skel
  refine st_issue 7 1920 15 (by decide) rfl rfl ?_
  refine st_issue 8 2176 17 (by decide) rfl rfl ?_
  refine st_issue 9 2432 19 (by decide) rfl rfl ?_
  refine st_issue 10 2688 21 (by decide) rfl rfl ?_
  refine st_issue 11 2944 23 (by decide) rfl rfl ?_
  refine st_issue 12 3200 25 (by decide) rfl rfl ?_
  exact step_pure hk

theorem p117 {B : TB F} {O : CellTallies nD τ sig (HIx 1)} {W : Waits sig (HIx 1)}{Q : PUnit → sProp 𝕄}
    (hu0 : iprop(Sm B.s1 s11.sem 16 ∗ A) ⊢ iprop(|={Set.univ}=> (Sw B.s0 s10.sem O W 0 ∗ A')))
    (hk : iprop(Sw B.s0 s10.sem O W 2 ∗ A') ⊢ Q ⟨⟩) :
    iprop(Sm B.s1 s11.sem 13 ∗ A) ⊢ wpk (thr B.d B.L) (k0_part117 (F := F) B.L xV h2 zV h3 oV h4 slV h5 scV h6 gV h7 rV h8 pV h9 s10 s11 r0 r1 r2) Q := by
  rw [k0_part117_eq_skeleton]; unfold k0_part117_skel
  refine st_issue 13 3456 27 (by decide) rfl rfl ?_
  refine st_issue 14 3712 29 (by decide) rfl rfl ?_
  refine st_issue 15 3968 31 (by decide) rfl rfl ?_
  refine step_upd hu0 ?_
  refine st_wait 0 (by decide) ?_
  refine st_wait 1 (by decide) ?_
  exact step_pure hk

theorem p118 {B : TB F} {O : CellTallies nD τ sig (HIx 1)} {W : Waits sig (HIx 1)}{Q : PUnit → sProp 𝕄}
    (hk : iprop(Sw B.s0 s10.sem O W 8 ∗ A) ⊢ Q ⟨⟩) :
    iprop(Sw B.s0 s10.sem O W 2 ∗ A) ⊢ wpk (thr B.d B.L) (k0_part118 (F := F) B.L xV h2 zV h3 oV h4 slV h5 scV h6 gV h7 rV h8 pV h9 s10 s11 r0 r1 r2) Q := by
  rw [k0_part118_eq_skeleton]; unfold k0_part118_skel
  refine st_wait 2 (by decide) ?_
  refine st_wait 3 (by decide) ?_
  refine st_wait 4 (by decide) ?_
  refine st_wait 5 (by decide) ?_
  refine st_wait 6 (by decide) ?_
  refine st_wait 7 (by decide) ?_
  exact step_pure hk

theorem p119 {B : TB F} {O : CellTallies nD τ sig (HIx 1)} {W : Waits sig (HIx 1)}{Q : PUnit → sProp 𝕄}
    (hk : iprop(Sw B.s0 s10.sem O W 13 ∗ A) ⊢ Q ⟨⟩) :
    iprop(Sw B.s0 s10.sem O W 8 ∗ A) ⊢ wpk (thr B.d B.L) (k0_part119 (F := F) B.L xV h2 zV h3 oV h4 slV h5 scV h6 gV h7 rV h8 pV h9 s10 s11 r0 r1 r2) Q := by
  rw [k0_part119_eq_skeleton]; unfold k0_part119_skel
  refine st_wait 8 (by decide) ?_
  refine st_wait 9 (by decide) ?_
  refine st_wait 10 (by decide) ?_
  refine st_wait 11 (by decide) ?_
  refine st_wait 12 (by decide) ?_
  exact step_pure hk

theorem p120 {B : TB F} {O : CellTallies nD τ sig (HIx 1)} {W : Waits sig (HIx 1)}{Q : PUnit → sProp 𝕄}
    {ι : ℕ} {q : PosShare TreeShare} {f : Vec F S4096x16 .f32} {V : Finset S4096x16.Idx} (hV : ∀ y : S4096x16.Idx, (y 0).val % 256 / 16 < 8 → y ∈ V)
    {Fr : sProp 𝕄} (hu0 : iprop(Sw B.s0 s10.sem O W 16 ∗ A) ⊢ iprop(|={Set.univ}=> St (⟨B.d, B.L, B.I, ι, q, f, V, Fr, 0⟩ : Ctx F) 0))
    (hu1 : St (⟨B.d, B.L, B.I, ι, q, f, V, Fr, 8⟩ : Ctx F) 0 ⊢ iprop(|={Set.univ}=> (Sw B.s1 s11.sem O W 0 ∗ A')))
    (hk : iprop(Sw B.s1 s11.sem O W 2 ∗ A') ⊢ Q ⟨⟩) :
    iprop(Sw B.s0 s10.sem O W 13 ∗ A) ⊢ wpk (thr B.d B.L) (k0_part120 (F := F) B.L xV h2 zV h3 oV h4 slV h5 scV h6 gV h7 rV h8 pV h9 s10 s11 r0 r1 r2) Q := by
  rw [k0_part120_eq_skeleton]; unfold k0_part120_skel
  refine st_wait 13 (by decide) ?_
  refine st_wait 14 (by decide) ?_
  refine st_wait 15 (by decide) ?_
  refine step_upd hu0 (step_bind (loop3 hV fun z => ?_))
  refine step_upd hu1 ?_
  refine st_wait 0 (by decide) ?_
  refine st_wait 1 (by decide) ?_
  exact step_pure hk

theorem p121 {B : TB F} {O : CellTallies nD τ sig (HIx 1)} {W : Waits sig (HIx 1)}{Q : PUnit → sProp 𝕄}
    (hk : iprop(Sw B.s1 s11.sem O W 7 ∗ A) ⊢ Q ⟨⟩) :
    iprop(Sw B.s1 s11.sem O W 2 ∗ A) ⊢ wpk (thr B.d B.L) (k0_part121 (F := F) B.L xV h2 zV h3 oV h4 slV h5 scV h6 gV h7 rV h8 pV h9 s10 s11 r0 r1 r2) Q := by
  rw [k0_part121_eq_skeleton]; unfold k0_part121_skel
  refine st_wait 2 (by decide) ?_
  refine st_wait 3 (by decide) ?_
  refine st_wait 4 (by decide) ?_
  refine st_wait 5 (by decide) ?_
  refine st_wait 6 (by decide) ?_
  exact step_pure hk

theorem p122 {B : TB F} {O : CellTallies nD τ sig (HIx 1)} {W : Waits sig (HIx 1)}{Q : PUnit → sProp 𝕄}
    (hk : iprop(Sw B.s1 s11.sem O W 13 ∗ A) ⊢ Q ⟨⟩) :
    iprop(Sw B.s1 s11.sem O W 7 ∗ A) ⊢ wpk (thr B.d B.L) (k0_part122 (F := F) B.L xV h2 zV h3 oV h4 slV h5 scV h6 gV h7 rV h8 pV h9 s10 s11 r0 r1 r2) Q := by
  rw [k0_part122_eq_skeleton]; unfold k0_part122_skel
  refine st_wait 7 (by decide) ?_
  refine st_wait 8 (by decide) ?_
  refine st_wait 9 (by decide) ?_
  refine st_wait 10 (by decide) ?_
  refine st_wait 11 (by decide) ?_
  refine st_wait 12 (by decide) ?_
  exact step_pure hk

end Cert.Kernel.Tile
-- ==== Proof.KCopy.lean ====
module

public import proofs.«01_k».proof.Proof.KParts

@[expose] public section

noncomputable section

namespace Cert.Kernel.Tile

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ (UU F) ℕ
local notation "slV" => (Memref.whole Cert.Kernel.cc0_scratch0 : Memref Cert.Kernel.sig Kind.scVector Space.vmem Cert.Kernel.S256 EltTy.i32)
local notation "scV" => (Memref.whole Cert.Kernel.cc0_scratch1 : Memref Cert.Kernel.sig Kind.scVector Space.vmem Cert.Kernel.S256 EltTy.i32)
local notation "gV" => (Memref.whole Cert.Kernel.cc0_scratch2 : Memref Cert.Kernel.sig Kind.scVector Space.vmem Cert.Kernel.S32x128 EltTy.i32)
local notation "rV" => (Memref.whole Cert.Kernel.cc0_scratch3 : Memref Cert.Kernel.sig Kind.scVector Space.vmem Cert.Kernel.S4096x16 EltTy.f32)
local notation "pV" => (Memref.whole Cert.Kernel.cc0_scratch4 : Memref Cert.Kernel.sig Kind.scVector Space.vmem Cert.Kernel.S136x256 EltTy.f32)
local notation "xV" => (Memref.whole Cert.Kernel.main_v0_scv : Memref Cert.Kernel.sig Kind.scVector Space.hbm Cert.Kernel.S2097152x16 EltTy.f32)
local notation "zV" => (Memref.whole Cert.Kernel.main_v3_scv : Memref Cert.Kernel.sig Kind.scVector Space.hbm Cert.Kernel.S16384 EltTy.i32)
local notation "oV" => (Memref.whole Cert.Kernel.main_v4_scv : Memref Cert.Kernel.sig Kind.scVector Space.hbm Cert.Kernel.S136x8192 EltTy.f32)

variable {h2 : (xV).IsWhole} {h3 : (zV).IsWhole} {h4 : (oV).IsWhole} {h5 : (slV).IsWhole} {h6 : (scV).IsWhole} {h7 : (gV).IsWhole} {h8 : (rV).IsWhole} {h9 : (pV).IsWhole}
  {s10 s11 r0 r1 r2 : DmaSems sig S_}
variable {A A' : sProp (MT nD τ sig (HIx 1) (Elt F) ℕ (UU F) ℕ)} {α : Type} {d : Dev nD} {L : grid0.Coords} {O : CellTallies nD τ sig (HIx 1)} {W : Waits sig (HIx 1)}

/-- The list of starts at some share. -/
def ZA (d : Dev nD) (L : grid0.Coords) (Z : Vec F S16384 .i32) : sProp 𝕄 := iprop(∃ q : PosShare TreeShare, (zV).view.loc (thr d L) ↦{q} Z)

theorem wid_lt (L : grid0.Coords) : wid L < 32 := by
  have h0 : (L 0).val < 2 := (L 0).isLt
  have h1 : (L 1).val < 16 := (L 1).isLt
  unfold wid; omega

theorem copy_sl_val (X : Vec F S2097152x16 .f32) (Z : Vec F S16384 .i32) (fd : Vec F S256 .i32) {inb} {hst} (x : S256.Idx) :
    (slV).view.write (Elt F) fd (ReadAs.same.apply (((zV).slice (Rect.unit (s := S16384) (k0_off1 L) S256.size inb) hst).view.read (Elt F) Z)) Finset.univ x = (inOf X Z (wid L)).sl (x 0).val := by
  have h0 : (L 0).val < 2 := (L 0).isLt
  have h1 : (L 1).val < 16 := (L 1).isLt
  have hx : (x 0).val < 256 := (x 0).isLt
  have e1 : k0_off1 L 0 = 256 * wid L := by rw [k0_off1_eq]; unfold wid; show (_ : ℕ) = _; simp only [Matrix.cons_val_zero]; omega
  rw [View.write_whole_univ]
  show Z (((zV).slice (Rect.unit (s := S16384) (k0_off1 L) S256.size inb) hst).view.emb x) = zAt Z (256 * wid L + (x 0).val)
  unfold zAt
  refine congrArg Z (funext fun a => Fin.ext ?_)
  have hw := wid_lt L
  match a with
  | 0 => show k0_off1 L 0 + 1 * (x 0).val = (256 * wid L + (x 0).val) % 16384; rw [e1]; omega

theorem copy_sl {Q : α → sProp 𝕄} (X : Vec F S2097152x16 .f32) (Z : Vec F S16384 .i32) (fd : Vec F S256 .i32) (sem : DmaSem sig) {inb} {hst} {w1} {w2} {w3} {w4} {w5}
    {kont : PUnit → Prog (TpuEff nD τ sig (Elt F) Λ₀ (thr d L).2) α}
    (hk : iprop(Slv d L (inOf X Z (wid L)) ∗ ZA d L Z ∗ semVal (thr d L, SemLoc.dma sem) 0 ∗ MW d L O ∗ Ow d L O W ∗ A) ⊢ wpk (thr d L) (kont ⟨⟩) Q) :
    iprop((((slV).view.loc (thr d L) ↦{fullShare} fd) ∗ ZA d L Z ∗ semVal (thr d L, SemLoc.dma sem) 0 ∗ MW d L O ∗ Ow d L O W) ∗ A)
      ⊢ wpk (thr d L) (Prog.lift (.enqueueDma ((zV).slice (Rect.unit (s := S16384) (k0_off1 L) S256.size inb) hst) (.here slV) (.dma sem) w1 w2 w3) >>= fun _ =>
          Prog.lift (.waitDma2 sem ((zV).slice (Rect.unit (s := S16384) (k0_off1 L) S256.size inb) hst) slV w4 w5) >>= kont) Q := by
  change _ ⊢ wp frame (wpE (defs₀ (F := F)) 𝒱₀ (thr d L) none) Set.univ
    (.op (.enqueueDma ((zV).slice (Rect.unit (s := S16384) (k0_off1 L) S256.size inb) hst) (.here slV) (.dma sem) w1 w2 w3) fun _ =>
      .op (.waitDma2 sem ((zV).slice (Rect.unit (s := S16384) (k0_off1 L) S256.size inb) hst) slV w4 w5) fun _ => kont ⟨⟩) Q
  unfold ZA Ow MW
  iintro ⟨⟨Hd, ⟨%q, HZ⟩, Hs, #HM, %W', %hW, HO⟩, HA⟩
  have hsp := pointsTo_split_subset (Ix := HIx 1) (Name := ℕ) (Lvl := ℕ) (U := UU F) (ℓ := (zV).view.loc (thr d L)) (q := q) (f := (Z : Buf (Elt F) ((zV).view.loc (thr d L)))) (S := Finset.univ)
    (Finset.subset_univ ((zV).slice (Rect.unit (s := S16384) (k0_off1 L) S256.size inb) hst).view.set)
  ihave HZ' := hsp.1 $$ HZ
  icases HZ' with ⟨HZs, HZr⟩
  iapply (Transfers.wp_dmaLocal countersEmb 𝒱₀ (thr d L) none (default : HIx 1) ((slV).view.amount (SemLoc.dma sem)) (src := (zV).slice (Rect.unit (s := S16384) (k0_off1 L) S256.size inb) hst)
    (dst := slV) (q := q) (fs := Z) (fd := fd) (Sd := Finset.univ) rfl (by show 0 < sig.dmaCredit .scVector (Kind.scVector.table .vmem) (cc0_scratch0 : Ref sig .scVector).idx S256 .i32; decide +kernel) (Finset.subset_univ _)) $$ [Hd HZs Hs]
  · isplitl [HZs]; · iexact HZs
    isplitl [Hd]; · iexact Hd
    iexact Hs
  iintro HF
  iapply (Transfers.wp_waitLocalO countersEmb 𝒱₀ (thr d L) none (default : HIx 1) (rfl : (slV).view.dmaCredit = _)) $$ [HF HO]
  · isplitl [HF]; · iexact HF
    isplitl [HO]; · iexact HO
    iapply (Transfers.MayWaits.elim (SemLoc.dma sem)) $$ HM
  iintro ⟨⟨Hd, HZs⟩, Hs, HO⟩
  ihave HZ := hsp.2 $$ [HZs HZr]
  · isplitl [HZs] <;> iassumption
  iapply hk
  unfold ZA Ow MW Slv
  isplitl [Hd]
  · iexists _; isplitr
    swap; · iexact Hd
    ipureintro; exact copy_sl_val X Z fd
  isplitl [HZ]; · iexists q; iexact HZ
  isplitl [Hs]; · iexact Hs
  isplitr; · iexact HM
  isplitl [HO]
  · iexists _; isplitr
    swap; · iexact HO
    ipureintro; exact ow_insert (d := d) (L := L) hW
  iexact HA

theorem copy_sc_val (X : Vec F S2097152x16 .f32) (Z : Vec F S16384 .i32) (fd : Vec F S256 .i32) {inb} {hst} (x : S256.Idx) :
    (scV).view.write (Elt F) fd (ReadAs.same.apply (((zV).slice (Rect.unit (s := S16384) (k0_off2 L) S256.size inb) hst).view.read (Elt F) Z)) Finset.univ x = (inOf X Z (wid L)).sc (x 0).val := by
  have h0 : (L 0).val < 2 := (L 0).isLt
  have h1 : (L 1).val < 16 := (L 1).isLt
  have hx : (x 0).val < 256 := (x 0).isLt
  have e1 : k0_off2 L 0 = 8192 + 256 * wid L := by rw [k0_off2_eq]; unfold wid; show (_ : ℕ) = _; simp only [Matrix.cons_val_zero]; omega
  rw [View.write_whole_univ]
  show Z (((zV).slice (Rect.unit (s := S16384) (k0_off2 L) S256.size inb) hst).view.emb x) = zAt Z (8192 + 256 * wid L + (x 0).val)
  unfold zAt
  refine congrArg Z (funext fun a => Fin.ext ?_)
  have hw := wid_lt L
  match a with
  | 0 => show k0_off2 L 0 + 1 * (x 0).val = (8192 + 256 * wid L + (x 0).val) % 16384; rw [e1]; omega

theorem copy_sc {Q : α → sProp 𝕄} (X : Vec F S2097152x16 .f32) (Z : Vec F S16384 .i32) (fd : Vec F S256 .i32) (sem : DmaSem sig) {inb} {hst} {w1} {w2} {w3} {w4} {w5}
    {kont : PUnit → Prog (TpuEff nD τ sig (Elt F) Λ₀ (thr d L).2) α}
    (hk : iprop(Scv d L (inOf X Z (wid L)) ∗ ZA d L Z ∗ semVal (thr d L, SemLoc.dma sem) 0 ∗ MW d L O ∗ Ow d L O W ∗ A) ⊢ wpk (thr d L) (kont ⟨⟩) Q) :
    iprop((((scV).view.loc (thr d L) ↦{fullShare} fd) ∗ ZA d L Z ∗ semVal (thr d L, SemLoc.dma sem) 0 ∗ MW d L O ∗ Ow d L O W) ∗ A)
      ⊢ wpk (thr d L) (Prog.lift (.enqueueDma ((zV).slice (Rect.unit (s := S16384) (k0_off2 L) S256.size inb) hst) (.here scV) (.dma sem) w1 w2 w3) >>= fun _ =>
          Prog.lift (.waitDma2 sem ((zV).slice (Rect.unit (s := S16384) (k0_off2 L) S256.size inb) hst) scV w4 w5) >>= kont) Q := by
  change _ ⊢ wp frame (wpE (defs₀ (F := F)) 𝒱₀ (thr d L) none) Set.univ
    (.op (.enqueueDma ((zV).slice (Rect.unit (s := S16384) (k0_off2 L) S256.size inb) hst) (.here scV) (.dma sem) w1 w2 w3) fun _ =>
      .op (.waitDma2 sem ((zV).slice (Rect.unit (s := S16384) (k0_off2 L) S256.size inb) hst) scV w4 w5) fun _ => kont ⟨⟩) Q
  unfold ZA Ow MW
  iintro ⟨⟨Hd, ⟨%q, HZ⟩, Hs, #HM, %W', %hW, HO⟩, HA⟩
  have hsp := pointsTo_split_subset (Ix := HIx 1) (Name := ℕ) (Lvl := ℕ) (U := UU F) (ℓ := (zV).view.loc (thr d L)) (q := q) (f := (Z : Buf (Elt F) ((zV).view.loc (thr d L)))) (S := Finset.univ)
    (Finset.subset_univ ((zV).slice (Rect.unit (s := S16384) (k0_off2 L) S256.size inb) hst).view.set)
  ihave HZ' := hsp.1 $$ HZ
  icases HZ' with ⟨HZs, HZr⟩
  iapply (Transfers.wp_dmaLocal countersEmb 𝒱₀ (thr d L) none (default : HIx 1) ((scV).view.amount (SemLoc.dma sem)) (src := (zV).slice (Rect.unit (s := S16384) (k0_off2 L) S256.size inb) hst)
    (dst := scV) (q := q) (fs := Z) (fd := fd) (Sd := Finset.univ) rfl (by show 0 < sig.dmaCredit .scVector (Kind.scVector.table .vmem) (cc0_scratch1 : Ref sig .scVector).idx S256 .i32; decide +kernel) (Finset.subset_univ _)) $$ [Hd HZs Hs]
  · isplitl [HZs]; · iexact HZs
    isplitl [Hd]; · iexact Hd
    iexact Hs
  iintro HF
  iapply (Transfers.wp_waitLocalO countersEmb 𝒱₀ (thr d L) none (default : HIx 1) (rfl : (scV).view.dmaCredit = _)) $$ [HF HO]
  · isplitl [HF]; · iexact HF
    isplitl [HO]; · iexact HO
    iapply (Transfers.MayWaits.elim (SemLoc.dma sem)) $$ HM
  iintro ⟨⟨Hd, HZs⟩, Hs, HO⟩
  ihave HZ := hsp.2 $$ [HZs HZr]
  · isplitl [HZs] <;> iassumption
  iapply hk
  unfold ZA Ow MW Scv
  isplitl [Hd]
  · iexists _; isplitr
    swap; · iexact Hd
    ipureintro; exact copy_sc_val X Z fd
  isplitl [HZ]; · iexists q; iexact HZ
  isplitl [Hs]; · iexact Hs
  isplitr; · iexact HM
  isplitl [HO]
  · iexists _; isplitr
    swap; · iexact HO
    ipureintro; exact ow_insert (d := d) (L := L) hW
  iexact HA

/-! ## The task's columns of the patches -/

/-- The columns of the gathered array that task `w` writes. -/
def cols (w : ℕ) : Finset S136x8192.Idx := Finset.univ.filter fun x => (x 1).val / 256 = w

/-- The whole gathered array. -/
def OUT (X : Vec F S2097152x16 .f32) (Z : Vec F S16384 .i32) : Vec F S136x8192 .f32 := fun x =>
  PT (inOf X Z ((x 1).val / 256)) (x 0).val ((x 1).val % 256)

theorem set_cols {inb} {hst} : ((oV).slice (Rect.unit (s := S136x8192) (k0_off281 L) S136x256.size inb) hst).view.set = cols (wid L) := by
  refine (View.set_slice_whole (Cert.Kernel.main_v4_scv) (Rect.unit (s := S136x8192) (k0_off281 L) S136x256.size inb)).trans ?_
  have e0 : k0_off281 L 0 = 0 := by rw [k0_off281_eq]; rfl
  have e1 : k0_off281 L 1 = 256 * wid L := by rw [k0_off281_eq]; unfold wid; simp only [Matrix.cons_val_one]; simp; omega
  ext x
  unfold cols
  rw [Rect.mem_set_unit, Finset.mem_filter]
  constructor
  · intro h
    have h1 : k0_off281 L 1 ≤ (x 1).val ∧ (x 1).val < k0_off281 L 1 + 256 := h 1
    exact ⟨Finset.mem_univ _, by omega⟩
  · rintro ⟨-, h⟩ a
    match a with
    | 0 => exact ⟨by show k0_off281 L 0 ≤ (x 0).val; omega, by show (x 0).val < k0_off281 L 0 + 136; have h0 : (x 0).val < 136 := (x 0).isLt; omega⟩
    | 1 => exact ⟨by show k0_off281 L 1 ≤ (x 1).val; omega, by show (x 1).val < k0_off281 L 1 + 256; omega⟩

theorem copy_out_val (X : Vec F S2097152x16 .f32) (Z : Vec F S16384 .i32) (fd : Vec F S136x8192 .f32) (fp : Vec F S136x256 .f32)
    (hp : ∀ x : S136x256.Idx, fp x = PT (inOf X Z (wid L)) (x 0).val (x 1).val) {inb} {hst} (x : S136x8192.Idx) (hx : x ∈ cols (wid L)) :
    ((oV).slice (Rect.unit (s := S136x8192) (k0_off281 L) S136x256.size inb) hst).view.write (Elt F) fd (ReadAs.same.apply ((pV).view.read (Elt F) fp)) Finset.univ x = OUT X Z x := by
  have hx1 : (x 1).val / 256 = wid L := (Finset.mem_filter.mp hx).2
  have e0 : k0_off281 L 0 = 0 := by rw [k0_off281_eq]; rfl
  have e1 : k0_off281 L 1 = 256 * wid L := by rw [k0_off281_eq]; unfold wid; simp only [Matrix.cons_val_one]; simp; omega
  let y : S136x256.Idx := fun | 0 => (⟨(x 0).val, (x 0).isLt⟩ : Fin 136) | 1 => (⟨(x 1).val % 256, Nat.mod_lt _ (by decide)⟩ : Fin 256)
  have hy : ((oV).slice (Rect.unit (s := S136x8192) (k0_off281 L) S136x256.size inb) hst).view.emb y = x := by
    funext a; apply Fin.ext
    match a with
    | 0 => show k0_off281 L 0 + 1 * (x 0).val = (x 0).val; omega
    | 1 => show k0_off281 L 1 + 1 * ((x 1).val % 256) = (x 1).val; omega
  have h2 := View.write_emb_of_mem (v := ((oV).slice (Rect.unit (s := S136x8192) (k0_off281 L) S136x256.size inb) hst).view) (Val := Elt F)
    fd (ReadAs.same.apply ((pV).view.read (Elt F) fp)) (M := Finset.univ) (Finset.mem_univ y)
  rw [hy, cast_eq] at h2
  rw [h2]
  show fp y = _
  rw [hp]
  show PT (inOf X Z (wid L)) (x 0).val ((x 1).val % 256) = PT (inOf X Z ((x 1).val / 256)) (x 0).val ((x 1).val % 256)
  rw [hx1]

/-- A finished patch in transit to the task's columns. -/
def Fly (d : Dev nD) (L : grid0.Coords) (X : Vec F S2097152x16 .f32) (Z : Vec F S16384 .i32) (sem : DmaSem sig) : sProp 𝕄 :=
  iprop(∃ (N : ℕ) (fp : Vec F S136x256 .f32), ⌜((oV).slice (Rect.unit (s := S136x8192) (k0_off281 L) S136x256.size (k0_off281_inb L)) (fun _ => rfl)).view.dmaCredit = N⌝
    ∗ Transfers.Flight countersEmb (thr d L) (.dma sem) (default : HIx 1) N
      iprop(((oV).view.loc (thr d L) ↦[cols (wid L)]{fullShare} OUT X Z) ∗ (pV).view.loc (thr d L) ↦{fullShare} fp))

theorem copy_out {Q : α → sProp 𝕄} (X : Vec F S2097152x16 .f32) (Z : Vec F S16384 .i32) (fd : Vec F S136x8192 .f32) (fp : Vec F S136x256 .f32)
    (hp : ∀ x : S136x256.Idx, fp x = PT (inOf X Z (wid L)) (x 0).val (x 1).val) (sem : DmaSem sig) {w1} {w2} {w3}
    {kont : PUnit → Prog (TpuEff nD τ sig (Elt F) Λ₀ (thr d L).2) α}
    (hk : iprop(Fly d L X Z sem ∗ A) ⊢ wpk (thr d L) (kont ⟨⟩) Q) :
    iprop((((pV).view.loc (thr d L) ↦{fullShare} fp) ∗ ((oV).view.loc (thr d L) ↦[cols (wid L)]{fullShare} fd) ∗ semVal (thr d L, SemLoc.dma sem) 0) ∗ A)
      ⊢ wpk (thr d L) (Prog.lift (.enqueueDma pV (.here ((oV).slice (Rect.unit (s := S136x8192) (k0_off281 L) S136x256.size (k0_off281_inb L)) (fun _ => rfl))) (.dma sem) w1 w2 w3) >>= kont) Q := by
  change _ ⊢ wp frame (wpE (defs₀ (F := F)) 𝒱₀ (thr d L) none) Set.univ
    (.op (.enqueueDma pV (.here ((oV).slice (Rect.unit (s := S136x8192) (k0_off281 L) S136x256.size (k0_off281_inb L)) (fun _ => rfl))) (.dma sem) w1 w2 w3) fun _ => kont ⟨⟩) Q
  have hset : (pV).view.set = Finset.univ := View.set_whole _
  have hD : (iprop((((oV).slice (Rect.unit (s := S136x8192) (k0_off281 L) S136x256.size (k0_off281_inb L)) (fun _ => rfl)).view.loc (thr d L) ↦[cols (wid L)]{fullShare}
        (((oV).slice (Rect.unit (s := S136x8192) (k0_off281 L) S136x256.size (k0_off281_inb L)) (fun _ => rfl)).view.write (Elt F) fd (ReadAs.same.apply ((pV).view.read (Elt F) fp)) Finset.univ))
        ∗ ((pV).view.loc (thr d L) ↦[(pV).view.set]{fullShare} fp)) : sProp 𝕄)
      = iprop(((oV).view.loc (thr d L) ↦[cols (wid L)]{fullShare} OUT X Z) ∗ (pV).view.loc (thr d L) ↦{fullShare} fp) := by
    rw [hset]
    refine congrArg (fun P : sProp 𝕄 => iprop(P ∗ (pV).view.loc (thr d L) ↦{fullShare} fp)) ?_
    exact pointsTo_congr fun x hx => copy_out_val X Z fd fp hp x hx
  iintro ⟨⟨Hp, Ho, Hs⟩, HA⟩
  iapply (Transfers.wp_dmaLocal countersEmb 𝒱₀ (thr d L) none (default : HIx 1) _ (src := pV)
    (dst := (oV).slice (Rect.unit (s := S136x8192) (k0_off281 L) S136x256.size (k0_off281_inb L)) (fun _ => rfl)) (q := fullShare) (fs := fp) (fd := fd) (Sd := cols (wid L))
    rfl (by show 0 < sig.dmaCredit .scVector (Kind.scVector.table .hbm) (main_v4_scv : Ref sig .scVector).idx S136x256 .f32; decide +kernel) set_cols.le) $$ [Hp Ho Hs]
  · isplitl [Hp]; · iapply (Entails.of_eq (by rw [hset])) $$ Hp
    isplitl [Ho]; · iexact Ho
    iexact Hs
  iintro HF
  iapply hk
  isplitr [HA]
  · unfold Fly
    iexists _; iexists fp
    isplitr
    swap
    · iapply (Entails.of_eq (congrArg _ hD)) $$ HF
    ipureintro; rfl
  iexact HA

theorem wait_out {Q : α → sProp 𝕄} (X : Vec F S2097152x16 .f32) (Z : Vec F S16384 .i32) (sem : DmaSem sig) {w1} {w2}
    {kont : PUnit → Prog (TpuEff nD τ sig (Elt F) Λ₀ (thr d L).2) α}
    (hk : iprop((∃ fp : Vec F S136x256 .f32, (pV).view.loc (thr d L) ↦{fullShare} fp) ∗ ((oV).view.loc (thr d L) ↦[cols (wid L)]{fullShare} OUT X Z)
      ∗ semVal (thr d L, SemLoc.dma sem) 0 ∗ Ow d L O W ∗ A) ⊢ wpk (thr d L) (kont ⟨⟩) Q) :
    iprop((Fly d L X Z sem ∗ MW d L O ∗ Ow d L O W) ∗ A)
      ⊢ wpk (thr d L) (Prog.lift (.waitDma2 sem pV ((oV).slice (Rect.unit (s := S136x8192) (k0_off281 L) S136x256.size (k0_off281_inb L)) (fun _ => rfl)) w1 w2) >>= kont) Q := by
  change _ ⊢ wp frame (wpE (defs₀ (F := F)) 𝒱₀ (thr d L) none) Set.univ
    (.op (.waitDma2 sem pV ((oV).slice (Rect.unit (s := S136x8192) (k0_off281 L) S136x256.size (k0_off281_inb L)) (fun _ => rfl)) w1 w2) fun _ => kont ⟨⟩) Q
  unfold Fly Ow MW
  iintro ⟨⟨⟨%N, %fp, %hN, HF⟩, #HM, %W', %hW, HO⟩, HA⟩
  iapply (Transfers.wp_waitLocalO countersEmb 𝒱₀ (thr d L) none (default : HIx 1) hN) $$ [HF HO]
  · isplitl [HF]; · iexact HF
    isplitl [HO]; · iexact HO
    iapply (Transfers.MayWaits.elim (SemLoc.dma sem)) $$ HM
  iintro ⟨⟨Ho, Hp⟩, Hs, HO⟩
  iapply hk
  unfold Ow
  isplitl [Hp]; · iexists fp; iexact Hp
  isplitl [Ho]; · iexact Ho
  isplitl [Hs]; · iexact Hs
  isplitl [HO]
  · iexists _; isplitr
    swap; · iexact HO
    ipureintro; exact ow_insert (d := d) (L := L) hW
  iexact HA

end Cert.Kernel.Tile
-- ==== Proof.KTile.lean ====
module

public import proofs.«01_k».proof.Proof.KCopy

@[expose] public section

noncomputable section

namespace Cert.Kernel.Tile

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ (UU F) ℕ
local notation "slV" => (Memref.whole Cert.Kernel.cc0_scratch0 : Memref Cert.Kernel.sig Kind.scVector Space.vmem Cert.Kernel.S256 EltTy.i32)
local notation "scV" => (Memref.whole Cert.Kernel.cc0_scratch1 : Memref Cert.Kernel.sig Kind.scVector Space.vmem Cert.Kernel.S256 EltTy.i32)
local notation "gV" => (Memref.whole Cert.Kernel.cc0_scratch2 : Memref Cert.Kernel.sig Kind.scVector Space.vmem Cert.Kernel.S32x128 EltTy.i32)
local notation "rV" => (Memref.whole Cert.Kernel.cc0_scratch3 : Memref Cert.Kernel.sig Kind.scVector Space.vmem Cert.Kernel.S4096x16 EltTy.f32)
local notation "pV" => (Memref.whole Cert.Kernel.cc0_scratch4 : Memref Cert.Kernel.sig Kind.scVector Space.vmem Cert.Kernel.S136x256 EltTy.f32)
local notation "xV" => (Memref.whole Cert.Kernel.main_v0_scv : Memref Cert.Kernel.sig Kind.scVector Space.hbm Cert.Kernel.S2097152x16 EltTy.f32)
local notation "zV" => (Memref.whole Cert.Kernel.main_v3_scv : Memref Cert.Kernel.sig Kind.scVector Space.hbm Cert.Kernel.S16384 EltTy.i32)
local notation "oV" => (Memref.whole Cert.Kernel.main_v4_scv : Memref Cert.Kernel.sig Kind.scVector Space.hbm Cert.Kernel.S136x8192 EltTy.f32)

variable {h2 : (xV).IsWhole} {h3 : (zV).IsWhole} {h4 : (oV).IsWhole} {h5 : (slV).IsWhole} {h6 : (scV).IsWhole} {h7 : (gV).IsWhole} {h8 : (rV).IsWhole} {h9 : (pV).IsWhole}
variable {A A' : sProp (MT nD τ sig (HIx 1) (Elt F) ℕ (UU F) ℕ)} {α : Type}

/-- All that is fixed for one task and its surroundings. -/
structure TK (F : FTy → Type) where
  B : TB F
  X : Vec F S2097152x16 .f32
  Z : Vec F S16384 .i32
  O : CellTallies nD τ sig (HIx 1)
  W : Waits sig (HIx 1)
  fd : Vec F S136x8192 .f32
  s10 : DmaSems sig S_
  s11 : DmaSems sig S_
  r0 : DmaSems sig S_
  r1 : DmaSems sig S_
  r2 : DmaSems sig S_
  hI : B.I = inOf X Z (wid B.L)

variable {T : TK F}

/-- A cell of the task's own at zero. -/
def Z0 (T : TK F) (s : DmaSems sig S_) : sProp (MT nD τ sig (HIx 1) (Elt F) ℕ (UU F) ℕ) := semVal (thr T.B.d T.B.L, SemLoc.dma s.sem) 0
/-- What the task keeps aside until its last copy. -/
def Zz (T : TK F) : sProp (MT nD τ sig (HIx 1) (Elt F) ℕ (UU F) ℕ) :=
  iprop(((oV).view.loc (thr T.B.d T.B.L) ↦[cols (wid T.B.L)]{fullShare} T.fd) ∗ Z0 T T.r0 ∗ Z0 T T.r1 ∗ Z0 T T.r2)
def MWt (T : TK F) : sProp (MT nD τ sig (HIx 1) (Elt F) ℕ (UU F) ℕ) := MW T.B.d T.B.L T.O
def Owt (T : TK F) : sProp (MT nD τ sig (HIx 1) (Elt F) ℕ (UU F) ℕ) := Ow T.B.d T.B.L T.O T.W
instance (T : TK F) : BI.Persistent (MWt T) := by unfold MWt; infer_instance
def Wi (T : TK F) : sProp (MT nD τ sig (HIx 1) (Elt F) ℕ (UU F) ℕ) := wmInv (Ix := HIx 1) (Lvl := ℕ) (EW (F := F)) T.B.ι
instance (T : TK F) : BI.Persistent (Wi T) := by unfold Wi; infer_instance
def Rw (T : TK F) (S : Finset S4096x16.Idx) (q : PosShare TreeShare) (W : Finset S4096x16.Idx) : sProp (MT nD τ sig (HIx 1) (Elt F) ℕ (UU F) ℕ) := RWS T.B.d T.B.L T.B.I T.B.f S q W
def Bt (T : TK F) (C : SC F) (s : DmaSems sig S_) : sProp (MT nD τ sig (HIx 1) (Elt F) ℕ (UU F) ℕ) :=
  Transfers.Batch countersEmb (thr T.B.d T.B.L) (.dma s.sem) (default : HIx 1) 512 (PstT C) 0 0
def Fam (C : SC F) : sProp (MT nD τ sig (HIx 1) (Elt F) ℕ (UU F) ℕ) := bigSep (Finset.univ : Finset (Fin 2048)) fun t => GE C t.val
def Sl (T : TK F) : sProp (MT nD τ sig (HIx 1) (Elt F) ℕ (UU F) ℕ) := Slv T.B.d T.B.L T.B.I
def Sc (T : TK F) : sProp (MT nD τ sig (HIx 1) (Elt F) ℕ (UU F) ℕ) := Scv T.B.d T.B.L T.B.I
def Gx (T : TK F) (h : ℕ) (P : ℕ → ℕ → Prop) : sProp (MT nD τ sig (HIx 1) (Elt F) ℕ (UU F) ℕ) := Gix T.B.d T.B.L T.B.I h P
def Pa (T : TK F) (P : ℕ → ℕ → Prop) : sProp (MT nD τ sig (HIx 1) (Elt F) ℕ (UU F) ℕ) := Pat T.B.d T.B.L T.B.I P
def qr : PosShare TreeShare := fullShare.right
def ql : PosShare TreeShare := fullShare.left
def Fr1 (T : TK F) : sProp (MT nD τ sig (HIx 1) (Elt F) ℕ (UU F) ℕ) :=
  iprop(Owt T ∗ MWt T ∗ Zz T ∗ Wi T ∗ XS T.B.s0 ∗ Rw T Finset.univ qr ∅ ∗ Rw T (ev 0) ql ∅ ∗ Rw T (ev 1) ql ∅ ∗ Gx T 1 (GX 1 0 0) ∗ Bt T T.B.s0 T.s10 ∗ Bt T T.B.s1 T.s11)
def A1 (T : TK F) : sProp (MT nD τ sig (HIx 1) (Elt F) ℕ (UU F) ℕ) :=
  iprop(Sl T ∗ Sc T ∗ Owt T ∗ MWt T ∗ Zz T ∗ Wi T ∗ Rw T Finset.univ qr ∅ ∗ Rw T (ev 1) ql ∅ ∗ Gx T 1 (GX 1 0 0) ∗ Bt T T.B.s1 T.s11 ∗ Pa T (BD 8 128))
def Fr2 (T : TK F) : sProp (MT nD τ sig (HIx 1) (Elt F) ℕ (UU F) ℕ) :=
  iprop(Owt T ∗ MWt T ∗ Zz T ∗ Wi T ∗ Rw T Finset.univ qr ∅ ∗ Rw T (ev 1) ql ∅ ∗ Bt T T.B.s1 T.s11 ∗ Sm T.B.s0 T.s10.sem 16)
def A2 (T : TK F) : sProp (MT nD τ sig (HIx 1) (Elt F) ℕ (UU F) ℕ) :=
  iprop(Sl T ∗ Sc T ∗ MWt T ∗ Zz T ∗ Wi T ∗ Rw T Finset.univ qr ∅ ∗ Sw T.B.s0 T.s10.sem T.O T.W 0 ∗ Pa T (BD 16 128))
def A3 (T : TK F) : sProp (MT nD τ sig (HIx 1) (Elt F) ℕ (UU F) ℕ) :=
  iprop(Sl T ∗ Sc T ∗ MWt T ∗ Zz T ∗ Wi T ∗ Rw T Finset.univ qr ∅ ∗ Sm T.B.s1 T.s11.sem 16 ∗ Pa T (BD 16 128))
def Fr3 (T : TK F) : sProp (MT nD τ sig (HIx 1) (Elt F) ℕ (UU F) ℕ) :=
  iprop(Sl T ∗ MWt T ∗ Zz T ∗ Owt T ∗ Z0 T T.s10 ∗ Rw T (ev 0) ql (ev 0) ∗ Fam T.B.s0 ∗ Sm T.B.s1 T.s11.sem 16)
def A4 (T : TK F) : sProp (MT nD τ sig (HIx 1) (Elt F) ℕ (UU F) ℕ) :=
  iprop(Sl T ∗ Sc T ∗ MWt T ∗ Zz T ∗ Wi T ∗ Z0 T T.s10 ∗ Rw T (ev 0) ql (ev 0) ∗ Rw T Finset.univ qr (ev 0) ∗ Fam T.B.s0 ∗ Pa T (EX 8 0))
def Fr4 (T : TK F) : sProp (MT nD τ sig (HIx 1) (Elt F) ℕ (UU F) ℕ) :=
  iprop(Sl T ∗ MWt T ∗ Zz T ∗ Owt T ∗ Z0 T T.s10 ∗ Z0 T T.s11 ∗ Fam T.B.s0 ∗ Fam T.B.s1)
def A5 (T : TK F) : sProp (MT nD τ sig (HIx 1) (Elt F) ℕ (UU F) ℕ) :=
  iprop(Sl T ∗ Sc T ∗ MWt T ∗ Owt T ∗ Z0 T T.s10 ∗ Z0 T T.s11 ∗ Z0 T T.r0 ∗ Z0 T T.r1 ∗ Fam T.B.s0 ∗ Fam T.B.s1
    ∗ ∃ f : Vec F S4096x16 .f32, (rV).view.loc (thr T.B.d T.B.L) ↦{fullShare} f)

/-- The list of table rows splits into the two halves' rows. -/
theorem gix_split (T : TK F) (fg : Vec F S32x128 .i32) : ((gV).view.loc (thr T.B.d T.B.L) ↦{fullShare} fg : sProp 𝕄)
    ⊢ iprop(Gx T 0 (GX 0 0 0) ∗ Gx T 1 (GX 1 0 0)) := by
  have hu : (Finset.univ : Finset S32x128.Idx) = (Finset.univ.filter fun x : S32x128.Idx => (x 0).val % 2 = 0) ∪ (Finset.univ.filter fun x : S32x128.Idx => (x 0).val % 2 = 1) := by
    ext x
    exact ⟨fun _ => (Nat.mod_two_eq_zero_or_one (x 0).val).elim (fun h => Finset.mem_union_left _ (Finset.mem_filter.mpr ⟨Finset.mem_univ _, h⟩))
      (fun h => Finset.mem_union_right _ (Finset.mem_filter.mpr ⟨Finset.mem_univ _, h⟩)), fun _ => Finset.mem_univ _⟩
  have hd : Disjoint (Finset.univ.filter fun x : S32x128.Idx => (x 0).val % 2 = 0) (Finset.univ.filter fun x : S32x128.Idx => (x 0).val % 2 = 1) := by
    rw [Finset.disjoint_left]; intro x hx hx'
    have := (Finset.mem_filter.mp hx).2; have := (Finset.mem_filter.mp hx').2; omega
  have hs := pointsTo_union (Ix := HIx 1) (Name := ℕ) (Lvl := ℕ) (U := UU F) (ℓ := (gV).view.loc (thr T.B.d T.B.L)) (q := fullShare) (f := (fg : Buf (Elt F) ((gV).view.loc (thr T.B.d T.B.L)))) hd
  have e : ((gV).view.loc (thr T.B.d T.B.L) ↦{fullShare} fg : sProp 𝕄) ⊢ ((gV).view.loc (thr T.B.d T.B.L) ↦[(Finset.univ.filter fun x : S32x128.Idx => (x 0).val % 2 = 0) ∪ (Finset.univ.filter fun x : S32x128.Idx => (x 0).val % 2 = 1)]{fullShare} fg) :=
    Entails.of_eq (by rw [← hu])
  have hG : ∀ h : ℕ, ∀ r c, r % 2 = h → GX h 0 0 r c → False := fun h r c hr hx => by
    have := hx hr; omega
  refine tr e (tr (by first | exact hs.1 | exact Entails.of_eq hs) ?_)
  unfold Gx Gix
  iintro ⟨H0, H1⟩
  isplitl [H0]
  · iexists fg; isplitr
    · ipureintro; exact fun x hq hx => (hG _ _ _ hq hx).elim
    iexact H0
  · iexists fg; isplitr
    · ipureintro; exact fun x hq hx => (hG _ _ _ hq hx).elim
    iexact H1

theorem sb_eq (T : TK F) (h c k u : ℕ) (Fr : sProp (MT nD τ sig (HIx 1) (Elt F) ℕ (UU F) ℕ)) : Sb (⟨T.B.d, T.B.L, T.B.I, h, Fr, c⟩ : BC F) k u
    = iprop((Sl T ∗ Sc T ∗ Fr) ∗ Gx T h (GX h c k) ∗ Pa T (BD (8 * h + c) u)) := rfl
theorem st_eq (T : TK F) (q : PosShare TreeShare) (V : Finset S4096x16.Idx) (c u : ℕ) (Fr : sProp (MT nD τ sig (HIx 1) (Elt F) ℕ (UU F) ℕ)) :
    St (⟨T.B.d, T.B.L, T.B.I, T.B.ι, q, T.B.f, V, Fr, c⟩ : Ctx F) u
    = iprop((Wi T ∗ Rw T Finset.univ q V) ∗ (Sc T ∗ Fr) ∗ Pa T (EX c u)) := rfl

/-- Before the building loop of the first half. -/
theorem u1 (T : TK F) (fg : Vec F S32x128 .i32) (fp : Vec F S136x256 .f32) :
    iprop(Sl T ∗ Sc T ∗ Owt T ∗ MWt T ∗ Zz T ∗ Wi T ∗ XS T.B.s0 ∗ ((rV).view.loc (thr T.B.d T.B.L) ↦{fullShare} T.B.f) ∗ ((gV).view.loc (thr T.B.d T.B.L) ↦{fullShare} fg)
        ∗ ((pV).view.loc (thr T.B.d T.B.L) ↦{fullShare} fp) ∗ Z0 T T.s10 ∗ Z0 T T.s11)
      ⊢ iprop(|={Set.univ}=> Sb (⟨T.B.d, T.B.L, T.B.I, 0, Fr1 T, 0⟩ : BC F) 0 128) := by
  have hc : iprop(Wi T ∗ ((rV).view.loc (thr T.B.d T.B.L) ↦{fullShare} T.B.f)) ⊢ iprop(|={Set.univ}=> Rw T Finset.univ fullShare ∅) := pointsTo_castIn (Ix := HIx 1) (Name := ℕ) (Lvl := ℕ) (emb := EW (F := F)) (ιwm := T.B.ι) (E := Set.univ) (ℓ := (rV).view.loc (thr T.B.d T.B.L)) (I := Finset.univ) (f := (T.B.f : Buf (Elt F) ((rV).view.loc (thr T.B.d T.B.L))))
    (fun x : S4096x16.Idx => some (gT T.B.I x)) (Set.mem_univ _)
  have ho : Rw T Finset.univ fullShare ∅ = iprop(Rw T Finset.univ qr ∅ ∗ Rw T (ev 0) ql ∅ ∗ Rw T (ev 1) ql ∅) := rws_open
  have hb0 : Z0 T T.s10 ⊢ iprop(|={Set.univ}=> Bt T T.B.s0 T.s10) := Transfers.batch_alloc' (E := Set.univ) (countersEmb : UEmb Counters 𝕄) (thr T.B.d T.B.L) (sm := SemLoc.dma T.s10.sem) (default : HIx 1) 512 (PstT T.B.s0)
  have hb1 : Z0 T T.s11 ⊢ iprop(|={Set.univ}=> Bt T T.B.s1 T.s11) := Transfers.batch_alloc' (E := Set.univ) (countersEmb : UEmb Counters 𝕄) (thr T.B.d T.B.L) (sm := SemLoc.dma T.s11.sem) (default : HIx 1) 512 (PstT T.B.s1)
  have hg := gix_split T fg
  iintro ⟨Hsl, Hsc, HO, #HM, HZ, #HW, HX, Hr, Hg, Hp, H0, H1⟩
  ihave Hg' := hg $$ Hg
  icases Hg' with ⟨Hg0, Hg1⟩
  imod hc $$ [Hr] with HR
  · isplitr; · iexact HW
    iexact Hr
  ihave HR' := (Entails.of_eq ho) $$ HR
  icases HR' with ⟨HR, HR0, HR1⟩
  imod hb0 $$ H0 with HB0
  imod hb1 $$ H1 with HB1
  imodintro
  rw [sb_eq]; unfold Fr1
  isplitl [Hsl Hsc HO HZ HX HR HR0 HR1 Hg1 HB0 HB1]
  · isplitl [Hsl]; · iexact Hsl
    isplitl [Hsc]; · iexact Hsc
    isplitl [HO]; · iexact HO
    isplitr; · iexact HM
    isplitl [HZ]; · iexact HZ
    isplitr; · iexact HW
    isplitl [HX]; · iexact HX
    isplitl [HR]; · iexact HR
    isplitl [HR0]; · iexact HR0
    isplitl [HR1]; · iexact HR1
    isplitl [Hg1]; · iexact Hg1
    isplitl [HB0]; · iexact HB0
    iexact HB1
  isplitl [Hg0]; · iexact Hg0
  unfold Pa Pat
  iexists fp; isplitr
  · ipureintro; intro x hx; exact absurd hx (by unfold BD; omega)
  iexact Hp

theorem u2 (T : TK F) : Sb (⟨T.B.d, T.B.L, T.B.I, 0, Fr1 T, 8⟩ : BC F) 0 128 ⊢ iprop(|={Set.univ}=> (Sm T.B.s0 T.s10.sem 0 ∗ A1 T)) := by
  have hs : iprop(Wi T ∗ XS T.B.s0 ∗ Rw T (ev 0) ql ∅ ∗ Gx T 0 (GX 0 8 0) ∗ Bt T T.B.s0 T.s10) ⊢ Sm T.B.s0 T.s10.sem 0 := sm_start (C := T.B.s0) (sem := T.s10.sem) (GX 0 8 0) (fun r c hr hc _ => by omega)
  rw [sb_eq]; unfold Fr1 A1
  iintro ⟨⟨Hsl, Hsc, HO, #HM, HZ, #HW, HX, HR, HR0, HR1, Hg1, HB0, HB1⟩, Hg0, Hp⟩
  imodintro
  isplitl [HX HR0 Hg0 HB0]
  · iapply hs
    isplitr; · iexact HW
    isplitl [HX]; · iexact HX
    isplitl [HR0]; · iexact HR0
    isplitl [Hg0]; · iexact Hg0
    iexact HB0
  isplitl [Hsl]; · iexact Hsl
  isplitl [Hsc]; · iexact Hsc
  isplitl [HO]; · iexact HO
  isplitr; · iexact HM
  isplitl [HZ]; · iexact HZ
  isplitr; · iexact HW
  isplitl [HR]; · iexact HR
  isplitl [HR1]; · iexact HR1
  isplitl [Hg1]; · iexact Hg1
  isplitl [HB1]; · iexact HB1
  iexact Hp

theorem u3 (T : TK F) : iprop(Sm T.B.s0 T.s10.sem 16 ∗ A1 T) ⊢ iprop(|={Set.univ}=> Sb (⟨T.B.d, T.B.L, T.B.I, 1, Fr2 T, 0⟩ : BC F) 0 128) := by
  rw [sb_eq]; unfold Fr2 A1
  iintro ⟨HS, Hsl, Hsc, HO, #HM, HZ, #HW, HR, HR1, Hg1, HB1, Hp⟩
  imodintro
  isplitl [Hsl Hsc HO HZ HR HR1 HB1 HS]
  · isplitl [Hsl]; · iexact Hsl
    isplitl [Hsc]; · iexact Hsc
    isplitl [HO]; · iexact HO
    isplitr; · iexact HM
    isplitl [HZ]; · iexact HZ
    isplitr; · iexact HW
    isplitl [HR]; · iexact HR
    isplitl [HR1]; · iexact HR1
    isplitl [HB1]; · iexact HB1
    iexact HS
  isplitl [Hg1]; · iexact Hg1
  iexact Hp

theorem u4 (T : TK F) : Sb (⟨T.B.d, T.B.L, T.B.I, 1, Fr2 T, 8⟩ : BC F) 0 128 ⊢ iprop(|={Set.univ}=> (Sm T.B.s1 T.s11.sem 0 ∗ A2 T)) := by
  have hs : iprop(Wi T ∗ XS T.B.s1 ∗ Rw T (ev 1) ql ∅ ∗ Gx T 1 (GX 1 8 0) ∗ Bt T T.B.s1 T.s11) ⊢ Sm T.B.s1 T.s11.sem 0 := sm_start (C := T.B.s1) (sem := T.s11.sem) (GX 1 8 0) (fun r c hr hc _ => by omega)
  have he : iprop(Sm T.B.s0 T.s10.sem 16 ∗ MWt T ∗ Owt T) ⊢ iprop(XS T.B.s1 ∗ Sw T.B.s0 T.s10.sem T.O T.W 0) := sm_end (C := T.B.s0) (sem := T.s10.sem) (O := T.O) (W := T.W)
  rw [sb_eq]; unfold Fr2 A2
  iintro ⟨⟨Hsl, Hsc, HO, #HM, HZ, #HW, HR, HR1, HB1, HS⟩, Hg1, Hp⟩
  ihave HS' := he $$ [HS HO]
  · isplitl [HS]; · iexact HS
    isplitr; · iexact HM
    iexact HO
  icases HS' with ⟨HX, HS⟩
  imodintro
  isplitl [HX HR1 Hg1 HB1]
  · iapply hs
    isplitr; · iexact HW
    isplitl [HX]; · iexact HX
    isplitl [HR1]; · iexact HR1
    isplitl [Hg1]; · iexact Hg1
    iexact HB1
  isplitl [Hsl]; · iexact Hsl
  isplitl [Hsc]; · iexact Hsc
  isplitr; · iexact HM
  isplitl [HZ]; · iexact HZ
  isplitr; · iexact HW
  isplitl [HR]; · iexact HR
  isplitl [HS]; · iexact HS
  iexact Hp

theorem u5 (T : TK F) : iprop(Sm T.B.s1 T.s11.sem 16 ∗ A2 T) ⊢ iprop(|={Set.univ}=> (Sw T.B.s0 T.s10.sem T.O T.W 0 ∗ A3 T)) := by
  unfold A2 A3
  iintro ⟨HS, Hsl, Hsc, #HM, HZ, #HW, HR, HS0, Hp⟩
  imodintro
  isplitl [HS0]; · iexact HS0
  isplitl [Hsl]; · iexact Hsl
  isplitl [Hsc]; · iexact Hsc
  isplitr; · iexact HM
  isplitl [HZ]; · iexact HZ
  isplitr; · iexact HW
  isplitl [HR]; · iexact HR
  isplitl [HS]; · iexact HS
  iexact Hp

theorem u6 (T : TK F) : iprop(Sw T.B.s0 T.s10.sem T.O T.W 16 ∗ A3 T)
    ⊢ iprop(|={Set.univ}=> St (⟨T.B.d, T.B.L, T.B.I, T.B.ι, fullShare.right, T.B.f, ev 0, Fr3 T, 0⟩ : Ctx F) 0) := by
  have he : Sw T.B.s0 T.s10.sem T.O T.W 16 ⊢ iprop(|={Set.univ}=> (Owt T ∗ Z0 T T.s10 ∗ Rw T (ev 0) ql (ev 0) ∗ Fam T.B.s0)) := sw_end (C := T.B.s0) (sem := T.s10.sem) (O := T.O) (W := T.W)
  have hpw : Pa T (BD 16 128) ⊢ Pa T (EX 0 0) := pat_weaken fun r c hr hc hx => by unfold EX at hx; unfold BD; omega
  have hv : iprop(Rw T (ev 0) ql (ev 0) ∗ Rw T Finset.univ qr ∅) = iprop(Rw T (ev 0) ql (ev 0) ∗ Rw T Finset.univ qr (ev 0)) := rws_even
  unfold A3
  iintro ⟨HS, Hsl, Hsc, #HM, HZ, #HW, HR, HS1, Hp⟩
  imod he $$ HS with ⟨HO, H0, HR0, HF⟩
  ihave HR' := (Entails.of_eq hv) $$ [HR0 HR]
  · isplitl [HR0]; · iexact HR0
    iexact HR
  icases HR' with ⟨HR0, HR⟩
  imodintro
  rw [st_eq]; unfold Fr3
  isplitl [HR]
  · isplitr; · iexact HW
    iexact HR
  isplitr [Hp]
  · isplitl [Hsc]; · iexact Hsc
    isplitl [Hsl]; · iexact Hsl
    isplitr; · iexact HM
    isplitl [HZ]; · iexact HZ
    isplitl [HO]; · iexact HO
    isplitl [H0]; · iexact H0
    isplitl [HR0]; · iexact HR0
    isplitl [HF]; · iexact HF
    iexact HS1
  iapply hpw; iexact Hp

theorem u7 (T : TK F) : St (⟨T.B.d, T.B.L, T.B.I, T.B.ι, fullShare.right, T.B.f, ev 0, Fr3 T, 8⟩ : Ctx F) 0
    ⊢ iprop(|={Set.univ}=> (Sw T.B.s1 T.s11.sem T.O T.W 0 ∗ A4 T)) := by
  have he : iprop(Sm T.B.s1 T.s11.sem 16 ∗ MWt T ∗ Owt T) ⊢ iprop(XS T.B.s1 ∗ Sw T.B.s1 T.s11.sem T.O T.W 0) := sm_end (C := T.B.s1) (sem := T.s11.sem) (O := T.O) (W := T.W)
  rw [st_eq]; unfold Fr3 A4
  iintro ⟨⟨#HW, HR⟩, ⟨Hsc, Hsl, #HM, HZ, HO, H0, HR0, HF, HS1⟩, Hp⟩
  ihave HS' := he $$ [HS1 HO]
  · isplitl [HS1]; · iexact HS1
    isplitr; · iexact HM
    iexact HO
  icases HS' with ⟨-, HS⟩
  imodintro
  isplitl [HS]; · iexact HS
  isplitl [Hsl]; · iexact Hsl
  isplitl [Hsc]; · iexact Hsc
  isplitr; · iexact HM
  isplitl [HZ]; · iexact HZ
  isplitr; · iexact HW
  isplitl [H0]; · iexact H0
  isplitl [HR0]; · iexact HR0
  isplitl [HR]; · iexact HR
  isplitl [HF]; · iexact HF
  iexact Hp

theorem u8 (T : TK F) : iprop(Sw T.B.s1 T.s11.sem T.O T.W 16 ∗ A4 T)
    ⊢ iprop(|={Set.univ}=> St (⟨T.B.d, T.B.L, T.B.I, T.B.ι, fullShare, T.B.f, Finset.univ, Fr4 T, 8⟩ : Ctx F) 0) := by
  have he : Sw T.B.s1 T.s11.sem T.O T.W 16 ⊢ iprop(|={Set.univ}=> (Owt T ∗ Z0 T T.s11 ∗ Rw T (ev 1) ql (ev 1) ∗ Fam T.B.s1)) := sw_end (C := T.B.s1) (sem := T.s11.sem) (O := T.O) (W := T.W)
  have hv : iprop(Rw T (ev 0) ql (ev 0) ∗ Rw T (ev 1) ql (ev 1) ∗ Rw T Finset.univ qr (ev 0)) = Rw T Finset.univ fullShare Finset.univ := rws_close
  unfold A4
  iintro ⟨HS, Hsl, Hsc, #HM, HZ, #HW, H0, HR0, HR, HF, Hp⟩
  imod he $$ HS with ⟨HO, H1, HR1, HF1⟩
  ihave HR' := (Entails.of_eq hv) $$ [HR0 HR1 HR]
  · isplitl [HR0]; · iexact HR0
    isplitl [HR1]; · iexact HR1
    iexact HR
  imodintro
  rw [st_eq]; unfold Fr4
  isplitl [HR']
  · isplitr; · iexact HW
    iexact HR'
  isplitr [Hp]
  · isplitl [Hsc]; · iexact Hsc
    isplitl [Hsl]; · iexact Hsl
    isplitr; · iexact HM
    isplitl [HZ]; · iexact HZ
    isplitl [HO]; · iexact HO
    isplitl [H0]; · iexact H0
    isplitl [H1]; · iexact H1
    isplitl [HF]; · iexact HF
    iexact HF1
  iexact Hp

theorem u9 (T : TK F) : St (⟨T.B.d, T.B.L, T.B.I, T.B.ι, fullShare, T.B.f, Finset.univ, Fr4 T, 16⟩ : Ctx F) 0
    ⊢ iprop(|={Set.univ}=> (∃ fp : Vec F S136x256 .f32, ⌜∀ x : S136x256.Idx, fp x = PT (inOf T.X T.Z (wid T.B.L)) (x 0).val (x 1).val⌝
        ∗ (((pV).view.loc (thr T.B.d T.B.L) ↦{fullShare} fp) ∗ ((oV).view.loc (thr T.B.d T.B.L) ↦[cols (wid T.B.L)]{fullShare} T.fd) ∗ Z0 T T.r2) ∗ A5 T)) := by
  have hc : iprop(Wi T ∗ Rw T Finset.univ fullShare Finset.univ) ⊢ iprop(|={Set.univ}=> ((rV).view.loc (thr T.B.d T.B.L) ↦{fullShare} (Finset.univ.piecewise (fun x : S4096x16.Idx => gt T.B.I (x 0).val (x 1).val) T.B.f : Vec F S4096x16 .f32))) := willBeTo_castOut_some (Ix := HIx 1) (Name := ℕ) (Lvl := ℕ) (emb := EW (F := F)) (ιwm := T.B.ι) (E := Set.univ) (ℓ := (rV).view.loc (thr T.B.d T.B.L)) (I := Finset.univ) (f := (T.B.f : Buf (Elt F) ((rV).view.loc (thr T.B.d T.B.L))))
    (W := (Finset.univ : Finset S4096x16.Idx)) (g := fun x : S4096x16.Idx => gt T.B.I (x 0).val (x 1).val) (Set.mem_univ _)
  rw [st_eq]; unfold Fr4 A5 Zz
  iintro ⟨⟨#HW, HR⟩, ⟨Hsc, Hsl, #HM, ⟨Ho, Hr0, Hr1, Hr2⟩, HO, H0, H1, HF, HF1⟩, Hp⟩
  imod hc $$ [HR] with HR
  · isplitr; · iexact HW
    iexact HR
  imodintro
  unfold Pa Pat
  icases Hp with ⟨%fp, %hp, Hp⟩
  iexists fp
  isplitr
  · ipureintro; intro x
    have h1 : (x 1).val < 256 := (x 1).isLt
    rw [← T.hI]; exact hp x (by unfold EX; dsimp only; omega)
  isplitl [Hp Ho Hr2]
  · isplitl [Hp]; · iexact Hp
    isplitl [Ho]; · iexact Ho
    iexact Hr2
  isplitl [Hsl]; · iexact Hsl
  isplitl [Hsc]; · iexact Hsc
  isplitr; · iexact HM
  isplitl [HO]; · iexact HO
  isplitl [H0]; · iexact H0
  isplitl [H1]; · iexact H1
  isplitl [Hr0]; · iexact Hr0
  isplitl [Hr1]; · iexact Hr1
  isplitl [HF]; · iexact HF
  isplitl [HF1]; · iexact HF1
  iexists _; iexact HR

end Cert.Kernel.Tile
-- ==== Proof.KBody.lean ====
module

public import proofs.«01_k».proof.Proof.KTile

@[expose] public section

noncomputable section

namespace Cert.Kernel.Tile

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ (UU F) ℕ
local notation "slV" => (Memref.whole Cert.Kernel.cc0_scratch0 : Memref Cert.Kernel.sig Kind.scVector Space.vmem Cert.Kernel.S256 EltTy.i32)
local notation "scV" => (Memref.whole Cert.Kernel.cc0_scratch1 : Memref Cert.Kernel.sig Kind.scVector Space.vmem Cert.Kernel.S256 EltTy.i32)
local notation "gV" => (Memref.whole Cert.Kernel.cc0_scratch2 : Memref Cert.Kernel.sig Kind.scVector Space.vmem Cert.Kernel.S32x128 EltTy.i32)
local notation "rV" => (Memref.whole Cert.Kernel.cc0_scratch3 : Memref Cert.Kernel.sig Kind.scVector Space.vmem Cert.Kernel.S4096x16 EltTy.f32)
local notation "pV" => (Memref.whole Cert.Kernel.cc0_scratch4 : Memref Cert.Kernel.sig Kind.scVector Space.vmem Cert.Kernel.S136x256 EltTy.f32)
local notation "xV" => (Memref.whole Cert.Kernel.main_v0_scv : Memref Cert.Kernel.sig Kind.scVector Space.hbm Cert.Kernel.S2097152x16 EltTy.f32)
local notation "zV" => (Memref.whole Cert.Kernel.main_v3_scv : Memref Cert.Kernel.sig Kind.scVector Space.hbm Cert.Kernel.S16384 EltTy.i32)
local notation "oV" => (Memref.whole Cert.Kernel.main_v4_scv : Memref Cert.Kernel.sig Kind.scVector Space.hbm Cert.Kernel.S136x8192 EltTy.f32)

variable {h2 : (xV).IsWhole} {h3 : (zV).IsWhole} {h4 : (oV).IsWhole} {h5 : (slV).IsWhole} {h6 : (scV).IsWhole} {h7 : (gV).IsWhole} {h8 : (rV).IsWhole} {h9 : (pV).IsWhole}
variable {A A' : sProp (MT nD τ sig (HIx 1) (Elt F) ℕ (UU F) ℕ)} {T : TK F}

/-- What a task holds at its start, beside its starts' buffers and the list of starts. -/
def A0 (T : TK F) (fg : Vec F S32x128 .i32) (fp : Vec F S136x256 .f32) : sProp (MT nD τ sig (HIx 1) (Elt F) ℕ (UU F) ℕ) :=
  iprop(Wi T ∗ XS T.B.s0 ∗ ((rV).view.loc (thr T.B.d T.B.L) ↦{fullShare} T.B.f) ∗ ((gV).view.loc (thr T.B.d T.B.L) ↦{fullShare} fg)
        ∗ ((pV).view.loc (thr T.B.d T.B.L) ↦{fullShare} fp) ∗ Z0 T T.s10 ∗ Z0 T T.s11
        ∗ ((oV).view.loc (thr T.B.d T.B.L) ↦[cols (wid T.B.L)]{fullShare} T.fd) ∗ Z0 T T.r2)

def Za (T : TK F) : sProp (MT nD τ sig (HIx 1) (Elt F) ℕ (UU F) ℕ) := ZA T.B.d T.B.L T.Z

theorem u0 (T : TK F) (fsc : Vec F S256 .i32) (fg : Vec F S32x128 .i32) (fp : Vec F S136x256 .f32) :
    iprop(Slv T.B.d T.B.L (inOf T.X T.Z (wid T.B.L)) ∗ ZA T.B.d T.B.L T.Z ∗ Z0 T T.r0 ∗ MWt T ∗ Owt T
        ∗ ((scV).view.loc (thr T.B.d T.B.L) ↦{fullShare} fsc) ∗ Z0 T T.r1 ∗ A0 T fg fp)
      ⊢ iprop(((((scV).view.loc (thr T.B.d T.B.L) ↦{fullShare} fsc) ∗ ZA T.B.d T.B.L T.Z ∗ Z0 T T.r1 ∗ MWt T ∗ Owt T)
        ∗ (Sl T ∗ Z0 T T.r0 ∗ A0 T fg fp))) := by
  have e : Slv T.B.d T.B.L (inOf T.X T.Z (wid T.B.L)) = Sl T := by unfold Sl; rw [T.hI]
  rw [e]
  iintro ⟨Hsl, HZ, H0, #HM, HO, Hsc, H1, HA⟩
  isplitl [Hsc HZ H1 HO]
  · isplitl [Hsc]; · iexact Hsc
    isplitl [HZ]; · iexact HZ
    isplitl [H1]; · iexact H1
    isplitr; · iexact HM
    iexact HO
  isplitl [Hsl]; · iexact Hsl
  isplitl [H0]; · iexact H0
  iexact HA

theorem u0' (T : TK F) (fg : Vec F S32x128 .i32) (fp : Vec F S136x256 .f32) :
    iprop(Scv T.B.d T.B.L (inOf T.X T.Z (wid T.B.L)) ∗ ZA T.B.d T.B.L T.Z ∗ Z0 T T.r1 ∗ MWt T ∗ Owt T
        ∗ (Sl T ∗ Z0 T T.r0 ∗ A0 T fg fp))
      ⊢ iprop(|={Set.univ}=> Sb (⟨T.B.d, T.B.L, T.B.I, 0, Fr1 T, 0⟩ : BC F) 0 128) := by
  have e : Scv T.B.d T.B.L (inOf T.X T.Z (wid T.B.L)) = Sc T := by unfold Sc; rw [T.hI]
  rw [e]
  refine tr ?_ (u1 T fg fp)
  unfold A0 Zz
  iintro ⟨Hsc, -, H1, #HM, HO, Hsl, H0, #HW, HX, Hr, Hg, Hp, HA, HB, Ho, H2⟩
  isplitl [Hsl]; · iexact Hsl
  isplitl [Hsc]; · iexact Hsc
  isplitl [HO]; · iexact HO
  isplitr; · iexact HM
  isplitl [Ho H0 H1 H2]
  · isplitl [Ho]; · iexact Ho
    isplitl [H0]; · iexact H0
    isplitl [H1]; · iexact H1
    iexact H2
  isplitr; · iexact HW
  isplitl [HX]; · iexact HX
  isplitl [Hr]; · iexact Hr
  isplitl [Hg]; · iexact Hg
  isplitl [Hp]; · iexact Hp
  isplitl [HA]; · iexact HA
  iexact HB

theorem v5_eq (L : grid0.Coords) : Scalar.muli (Scalar.addi (Scalar.muli (BitVec.ofNat 32 (L 1).val) 2#32) (BitVec.ofNat 32 (L 0).val)) 1048576#32
    = BitVec.ofNat 32 (wid L) * 1048576#32 := by
  show (BitVec.ofNat 32 (L 1).val * 2#32 + BitVec.ofNat 32 (L 0).val) * 1048576#32 = _
  congr 1
  have h0 : (L 0).val < 2 := (L 0).isLt
  have h1 : (L 1).val < 16 := (L 1).isLt
  apply BitVec.eq_of_toNat_eq
  unfold wid
  simp only [BitVec.toNat_add, BitVec.toNat_mul, BitVec.toNat_ofNat]
  omega

theorem p111 {Q : (Σ' (_ : BitVec 32), BitVec 32) → sProp 𝕄} (fsl fsc : Vec F S256 .i32) (fg : Vec F S32x128 .i32) (fp : Vec F S136x256 .f32)
    (hk : ∀ v1, iprop(Sm T.B.s0 T.s10.sem 2 ∗ A1 T) ⊢ Q ⟨v1, BitVec.ofNat 32 T.B.I.w * 1048576#32⟩) :
    iprop(((((slV).view.loc (thr T.B.d T.B.L) ↦{fullShare} fsl) ∗ ZA T.B.d T.B.L T.Z ∗ Z0 T T.r0 ∗ MWt T ∗ Owt T)
        ∗ ((scV).view.loc (thr T.B.d T.B.L) ↦{fullShare} fsc) ∗ Z0 T T.r1 ∗ A0 T fg fp))
      ⊢ wpk (thr T.B.d T.B.L) (k0_part111 (F := F) T.B.L xV h2 zV h3 oV h4 slV h5 scV h6 gV h7 rV h8 pV h9 T.s10 T.s11 T.r0 T.r1 T.r2) Q := by
  rw [k0_part111_eq_skeleton]; unfold k0_part111_skel
  have hv : BitVec.ofNat 32 T.B.I.w * 1048576#32 = BitVec.ofNat 32 (wid T.B.L) * 1048576#32 := by rw [T.hI]; rfl
  refine copy_sl T.X T.Z fsl T.r0.sem (tr (u0 T fsc fg fp) ?_)
  refine copy_sc T.X T.Z fsc T.r1.sem ?_
  refine step_upd (u0' T fg fp) (step_bind (loop1 ((v5_eq T.B.L).trans hv.symm) fun z => ?_))
  refine step_upd (u2 T) ?_
  refine st_issue 0 0 0 (by decide) rfl rfl ?_
  refine st_issue 1 256 2 (by decide) rfl rfl ?_
  refine step_pure ?_
  have := hk (Scalar.addi (Scalar.muli (BitVec.ofNat 32 (T.B.L 1).val) 2#32) (BitVec.ofNat 32 (T.B.L 0).val))
  rw [hv, ← v5_eq] at this
  exact this

theorem p123 {Q : PUnit → sProp 𝕄} (fsl fsc : Vec F S256 .i32) (fg : Vec F S32x128 .i32) (fp : Vec F S136x256 .f32)
    (hk : iprop(Fly T.B.d T.B.L T.X T.Z T.r2.sem ∗ A5 T) ⊢ Q ⟨⟩) :
    iprop(((((slV).view.loc (thr T.B.d T.B.L) ↦{fullShare} fsl) ∗ ZA T.B.d T.B.L T.Z ∗ Z0 T T.r0 ∗ MWt T ∗ Owt T)
        ∗ ((scV).view.loc (thr T.B.d T.B.L) ↦{fullShare} fsc) ∗ Z0 T T.r1 ∗ A0 T fg fp))
      ⊢ wpk (thr T.B.d T.B.L) (k0_part123 (F := F) T.B.L xV h2 zV h3 oV h4 slV h5 scV h6 gV h7 rV h8 pV h9 T.s10 T.s11 T.r0 T.r1 T.r2) Q := by
  rw [k0_part123_eq_skeleton]; unfold k0_part123_skel
  refine step_bind (p111 fsl fsc fg fp fun v1 => ?_)
  refine step_bind (p112 ?_)
  refine step_bind (p113 ?_)
  refine step_bind (p114 rfl (u3 T) (u4 T) ?_)
  refine step_bind (p115 ?_)
  refine step_bind (p116 ?_)
  refine step_bind (p117 (u5 T) ?_)
  refine step_bind (p118 ?_)
  refine step_bind (p119 ?_)
  refine step_bind (p120 (fun y hy => Finset.mem_filter.mpr ⟨Finset.mem_univ _, by omega⟩) (u6 T) (u7 T) ?_)
  refine step_bind (p121 ?_)
  refine step_bind (p122 ?_)
  refine st_wait 13 (by decide) ?_
  refine st_wait 14 (by decide) ?_
  refine st_wait 15 (by decide) ?_
  refine step_upd (u8 T) (step_bind (loop4 (fun y _ => Finset.mem_univ y) fun z => ?_))
  refine step_upd (u9 T) ?_
  refine exists_elim fun fp => pureL fun hp => ?_
  exact copy_out T.X T.Z T.fd fp hp T.r2.sem (step_pure hk)

/-- What a task has at its end. -/
def AE (T : TK F) : sProp (MT nD τ sig (HIx 1) (Elt F) ℕ (UU F) ℕ) :=
  iprop((((oV).view.loc (thr T.B.d T.B.L) ↦[cols (wid T.B.L)]{fullShare} OUT T.X T.Z))
    ∗ (∃ f : Vec F S256 .i32, (slV).view.loc (thr T.B.d T.B.L) ↦{fullShare} f) ∗ (∃ f : Vec F S256 .i32, (scV).view.loc (thr T.B.d T.B.L) ↦{fullShare} f)
    ∗ (∃ f : Vec F S32x128 .i32, (gV).view.loc (thr T.B.d T.B.L) ↦{fullShare} f) ∗ (∃ f : Vec F S4096x16 .f32, (rV).view.loc (thr T.B.d T.B.L) ↦{fullShare} f)
    ∗ (∃ f : Vec F S136x256 .f32, (pV).view.loc (thr T.B.d T.B.L) ↦{fullShare} f)
    ∗ Z0 T T.s10 ∗ Z0 T T.s11 ∗ Z0 T T.r0 ∗ Z0 T T.r1 ∗ Z0 T T.r2 ∗ Owt T)

set_option maxRecDepth 65536 in
theorem fam_join (T : TK F) : iprop(Fam T.B.s0 ∗ Fam T.B.s1) ⊢ iprop(∃ f : Vec F S32x128 .i32, (gV).view.loc (thr T.B.d T.B.L) ↦{fullShare} f) := by
  have hu : (Finset.univ : Finset (Fin 2048)).biUnion (fun t => elS 0 t.val) ∪ (Finset.univ : Finset (Fin 2048)).biUnion (fun t => elS 1 t.val) = (Finset.univ : Finset S32x128.Idx) := by
    ext x
    have h0 : (x 0).val < 32 := (x 0).isLt
    have h1 : (x 1).val < 128 := (x 1).isLt
    refine ⟨fun _ => Finset.mem_univ _, fun _ => ?_⟩
    have key : ∀ h, (x 0).val % 2 = h → x ∈ (Finset.univ : Finset (Fin 2048)).biUnion (fun t => elS h t.val) := fun h hm => by
      unfold elS
      simp only [Finset.mem_filter, Finset.mem_univ, _root_.true_and, Finset.mem_biUnion]
      exact ⟨⟨128 * ((x 0).val / 2) + (x 1).val, by omega⟩,
        by show (x 0).val = 2 * ((128 * ((x 0).val / 2) + (x 1).val) / 128) + h; omega,
        by show (x 1).val = (128 * ((x 0).val / 2) + (x 1).val) % 128; omega⟩
    exact (Nat.mod_two_eq_zero_or_one (x 0).val).elim (fun h => Finset.mem_union_left _ (key 0 h)) fun h => Finset.mem_union_right _ (key 1 h)
  have hdj : ∀ h : ℕ, h < 2 → ∀ t ∈ (Finset.univ : Finset (Fin 2048)), ∀ t' ∈ (Finset.univ : Finset (Fin 2048)), t ≠ t' → Disjoint (elS h t.val) (elS h t'.val) := by
    intro h hh t _ t' _ hne
    rw [Finset.disjoint_left]
    intro x hx hx'
    unfold elS at hx hx'
    rw [Finset.mem_filter] at hx hx'
    refine hne (Fin.ext ?_)
    omega
  have hdd : Disjoint ((Finset.univ : Finset (Fin 2048)).biUnion (fun t => elS 0 t.val)) ((Finset.univ : Finset (Fin 2048)).biUnion (fun t => elS 1 t.val)) := by
    rw [Finset.disjoint_left]
    intro x hx hx'
    unfold elS at hx hx'
    simp only [Finset.mem_filter, Finset.mem_univ, _root_.true_and, Finset.mem_biUnion] at hx hx'
    obtain ⟨t, h, -⟩ := hx; obtain ⟨t', h', -⟩ := hx'
    omega
  have e0 : Fam T.B.s0 = ((gV).view.loc (thr T.B.d T.B.L) ↦[(Finset.univ : Finset (Fin 2048)).biUnion (fun t => elS 0 t.val)]{fullShare} (gF T.B.I : Vec F S32x128 .i32)) :=
    (pointsTo_biUnion (ℓ := (gV).view.loc (thr T.B.d T.B.L)) Finset.univ (fun t : Fin 2048 => elS 0 t.val) (hdj 0 (by decide))).symm
  have e1 : Fam T.B.s1 = ((gV).view.loc (thr T.B.d T.B.L) ↦[(Finset.univ : Finset (Fin 2048)).biUnion (fun t => elS 1 t.val)]{fullShare} (gF T.B.I : Vec F S32x128 .i32)) :=
    (pointsTo_biUnion (ℓ := (gV).view.loc (thr T.B.d T.B.L)) Finset.univ (fun t : Fin 2048 => elS 1 t.val) (hdj 1 (by decide))).symm
  have hs := pointsTo_union (Ix := HIx 1) (Name := ℕ) (Lvl := ℕ) (U := UU F) (ℓ := (gV).view.loc (thr T.B.d T.B.L)) (q := fullShare) (f := (gF T.B.I : Buf (Elt F) ((gV).view.loc (thr T.B.d T.B.L)))) hdd
  rw [e0, e1]
  have hs' : (iprop(((gV).view.loc (thr T.B.d T.B.L) ↦[(Finset.univ : Finset (Fin 2048)).biUnion (fun t => elS 0 t.val)]{fullShare} (gF T.B.I : Vec F S32x128 .i32))
      ∗ ((gV).view.loc (thr T.B.d T.B.L) ↦[(Finset.univ : Finset (Fin 2048)).biUnion (fun t => elS 1 t.val)]{fullShare} (gF T.B.I : Vec F S32x128 .i32))) : sProp 𝕄)
      ⊢ ((gV).view.loc (thr T.B.d T.B.L) ↦[(Finset.univ : Finset (Fin 2048)).biUnion (fun t => elS 0 t.val) ∪ (Finset.univ : Finset (Fin 2048)).biUnion (fun t => elS 1 t.val)]{fullShare} (gF T.B.I : Vec F S32x128 .i32)) := by
    first | exact hs.2 | exact Entails.of_eq hs.symm
  refine tr hs' ?_
  rw [hu]
  iintro H; iexists _; iexact H

theorem slv_ex (T : TK F) : Sl T ⊢ iprop(∃ f : Vec F S256 .i32, (slV).view.loc (thr T.B.d T.B.L) ↦{fullShare} f) := by
  unfold Sl Slv
  exact exists_elim fun f => pureL fun _ => by iintro H; iexists f; iexact H
theorem scv_ex (T : TK F) : Sc T ⊢ iprop(∃ f : Vec F S256 .i32, (scV).view.loc (thr T.B.d T.B.L) ↦{fullShare} f) := by
  unfold Sc Scv
  exact exists_elim fun f => pureL fun _ => by iintro H; iexists f; iexact H

theorem ue (T : TK F) : iprop((∃ fp : Vec F S136x256 .f32, (pV).view.loc (thr T.B.d T.B.L) ↦{fullShare} fp) ∗ ((oV).view.loc (thr T.B.d T.B.L) ↦[cols (wid T.B.L)]{fullShare} OUT T.X T.Z)
      ∗ Z0 T T.r2 ∗ Owt T
      ∗ (Sl T ∗ Sc T ∗ Z0 T T.s10 ∗ Z0 T T.s11 ∗ Z0 T T.r0 ∗ Z0 T T.r1 ∗ Fam T.B.s0 ∗ Fam T.B.s1 ∗ ∃ f : Vec F S4096x16 .f32, (rV).view.loc (thr T.B.d T.B.L) ↦{fullShare} f)) ⊢ AE T := by
  have hf := fam_join T
  have h1 := slv_ex T
  have h2 := scv_ex T
  unfold AE
  iintro ⟨Hp, Ho, H2, HO, Hsl, Hsc, HA, HB, H0, H1, HF, HG, Hr⟩
  ihave Hg := hf $$ [HF HG]
  · isplitl [HF] <;> iassumption
  ihave Hsl' := h1 $$ Hsl
  ihave Hsc' := h2 $$ Hsc
  isplitl [Ho]; · iexact Ho
  isplitl [Hsl']; · iexact Hsl'
  isplitl [Hsc']; · iexact Hsc'
  isplitl [Hg]; · iexact Hg
  isplitl [Hr]; · iexact Hr
  isplitl [Hp]; · iexact Hp
  isplitl [HA]; · iexact HA
  isplitl [HB]; · iexact HB
  isplitl [H0]; · iexact H0
  isplitl [H1]; · iexact H1
  isplitl [H2]; · iexact H2
  iexact HO

theorem u10 (T : TK F) : iprop(Fly T.B.d T.B.L T.X T.Z T.r2.sem ∗ A5 T)
    ⊢ iprop((Fly T.B.d T.B.L T.X T.Z T.r2.sem ∗ MWt T ∗ Owt T)
      ∗ (Sl T ∗ Sc T ∗ Z0 T T.s10 ∗ Z0 T T.s11 ∗ Z0 T T.r0 ∗ Z0 T T.r1 ∗ Fam T.B.s0 ∗ Fam T.B.s1 ∗ ∃ f : Vec F S4096x16 .f32, (rV).view.loc (thr T.B.d T.B.L) ↦{fullShare} f)) := by
  unfold A5
  iintro ⟨HF, Hsl, Hsc, #HM, HO, H⟩
  isplitl [HF HO]
  · isplitl [HF]; · iexact HF
    isplitr; · iexact HM
    iexact HO
  isplitl [Hsl]; · iexact Hsl
  isplitl [Hsc]; · iexact Hsc
  iexact H

/-- The whole task: from its share of the table and of the list of starts, its columns of the gathered array filled. -/
theorem body (T : TK F) (fsl fsc : Vec F S256 .i32) (fg : Vec F S32x128 .i32) (fp : Vec F S136x256 .f32) :
    iprop(((((slV).view.loc (thr T.B.d T.B.L) ↦{fullShare} fsl) ∗ ZA T.B.d T.B.L T.Z ∗ Z0 T T.r0 ∗ MWt T ∗ Owt T)
        ∗ ((scV).view.loc (thr T.B.d T.B.L) ↦{fullShare} fsc) ∗ Z0 T T.r1 ∗ A0 T fg fp))
      ⊢ wpk (thr T.B.d T.B.L) (cc0__sc_gather_body (F := F) T.B.L xV h2 zV h3 oV h4 slV h5 scV h6 gV h7 rV h8 pV h9 T.s10 T.s11 T.r0 T.r1 T.r2) fun _ => AE T := by
  rw [cc0__sc_gather_body_eq_skeleton]; unfold cc0__sc_gather_body_skel
  refine step_bind (p123 fsl fsc fg fp (tr (u10 T) ?_))
  exact wait_out T.X T.Z T.r2.sem (tr (ue T) (step_pure .rfl))

end Cert.Kernel.Tile
-- ==== Proof.KLaunch.lean ====
/-
  The SparseCore call as the launch asks for it: what each processor is handed and hands back, one task's obligation,
  and how a SparseCore's share splits over its sixteen tasks.
-/
module

public import proofs.«01_k».proof.Proof.KBody

@[expose] public section

noncomputable section

namespace Cert.Kernel.Tile

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ (UU F) ℕ
local notation "slV" => (Memref.whole Cert.Kernel.cc0_scratch0 : Memref Cert.Kernel.sig Kind.scVector Space.vmem Cert.Kernel.S256 EltTy.i32)
local notation "scV" => (Memref.whole Cert.Kernel.cc0_scratch1 : Memref Cert.Kernel.sig Kind.scVector Space.vmem Cert.Kernel.S256 EltTy.i32)
local notation "gV" => (Memref.whole Cert.Kernel.cc0_scratch2 : Memref Cert.Kernel.sig Kind.scVector Space.vmem Cert.Kernel.S32x128 EltTy.i32)
local notation "rV" => (Memref.whole Cert.Kernel.cc0_scratch3 : Memref Cert.Kernel.sig Kind.scVector Space.vmem Cert.Kernel.S4096x16 EltTy.f32)
local notation "pV" => (Memref.whole Cert.Kernel.cc0_scratch4 : Memref Cert.Kernel.sig Kind.scVector Space.vmem Cert.Kernel.S136x256 EltTy.f32)
local notation "xV" => (Memref.whole Cert.Kernel.main_v0_scv : Memref Cert.Kernel.sig Kind.scVector Space.hbm Cert.Kernel.S2097152x16 EltTy.f32)
local notation "zV" => (Memref.whole Cert.Kernel.main_v3_scv : Memref Cert.Kernel.sig Kind.scVector Space.hbm Cert.Kernel.S16384 EltTy.i32)
local notation "oV" => (Memref.whole Cert.Kernel.main_v4_scv : Memref Cert.Kernel.sig Kind.scVector Space.hbm Cert.Kernel.S136x8192 EltTy.f32)

theorem facts : (K (F := F)).Facts :=
  ⟨show sc_start ≠ sc_taskDone by decide,
   show (SemLoc.reg sc_start : SemLoc sig).isScoped .scScalar = false by decide,
   show (SemLoc.reg sc_taskDone : SemLoc sig).isScoped .scScalar = false by decide,
   show (SemLoc.reg sc_go : SemLoc sig).isScoped .scVector = false by decide,
   show (SemLoc.reg sc_done : SemLoc sig).isScoped .tc = false by decide,
   show ∀ (b : DevRef τ sig) (c : Fin τ.nSC), b.owner = .sc c → sig.taskShared b.table b.idx = false by decide,
   fun _ => rfl⟩

theorem nSub_zero : (K (F := F)).nSub 0 = 16 := rfl
theorem nCore_zero : (K (F := F)).nCore 0 = 2 := rfl

/-! ## What each processor is handed and hands back -/

abbrev xLoc (d : Dev nD) : Loc nD τ sig := (SparseCore.T d).loc main_v0
abbrev zLoc (d : Dev nD) : Loc nD τ sig := (SparseCore.T d).loc main_v3
abbrev oLoc (d : Dev nD) : Loc nD τ sig := (SparseCore.T d).loc main_v4

/-- Some share of the table, of the starts. -/
def XAny (X : Dev nD → Vec F S2097152x16 .f32) (d : Dev nD) : sProp (MT nD τ sig (HIx 1) (Elt F) ℕ (UU F) ℕ) := iprop(∃ q : PosShare TreeShare, xLoc d ↦{q} X d)
def ZAny (Z : Dev nD → Vec F S16384 .i32) (d : Dev nD) : sProp (MT nD τ sig (HIx 1) (Elt F) ℕ (UU F) ℕ) := iprop(∃ q : PosShare TreeShare, zLoc d ↦{q} Z d)
/-- The columns of the result that belong to task `w`, at some contents, and at the task's result. -/
def OFr (F : FTy → Type) (d : Dev nD) (w : ℕ) : sProp (MT nD τ sig (HIx 1) (Elt F) ℕ (UU F) ℕ) := iprop(∃ f : Vec F S136x8192 .f32, oLoc d ↦[cols w]{fullShare} f)
def OTo (X : Dev nD → Vec F S2097152x16 .f32) (Z : Dev nD → Vec F S16384 .i32) (d : Dev nD) (w : ℕ) : sProp (MT nD τ sig (HIx 1) (Elt F) ℕ (UU F) ℕ) :=
  iprop(oLoc d ↦[cols w]{fullShare} OUT (X d) (Z d))
/-- Write mode's invariant, under some name. -/
def WmE (F : FTy → Type) : sProp (MT nD τ sig (HIx 1) (Elt F) ℕ (UU F) ℕ) := iprop(∃ ι : ℕ, wmInv (Ix := HIx 1) (Lvl := ℕ) (EW (F := F)) ι)

instance : BI.Persistent (WmE F) := by unfold WmE; infer_instance

/-- The number of the task on subcore `i` of SparseCore `c`. -/
def tno (c i : ℕ) : ℕ := 2 * i + c

variable (X : Dev nD → Vec F S2097152x16 .f32) (Z : Dev nD → Vec F S16384 .i32)

def GoP (d : Dev nD) (w : ℕ) : sProp (MT nD τ sig (HIx 1) (Elt F) ℕ (UU F) ℕ) := iprop(XAny X d ∗ ZAny Z d ∗ OFr F d w)

instance (d : Dev nD) : BI.Storable (upEmb : UEmb _ 𝕄) (XAny X d) := by unfold XAny; infer_instance
instance (d : Dev nD) : BI.Storable (upEmb : UEmb _ 𝕄) (ZAny Z d) := by unfold ZAny; infer_instance
instance (d : Dev nD) (w : ℕ) : BI.Storable (upEmb : UEmb _ 𝕄) (OFr F d w) := by unfold OFr; infer_instance
instance (d : Dev nD) (w : ℕ) : BI.Storable (upEmb : UEmb _ 𝕄) (OTo X Z d w) := by unfold OTo; infer_instance
instance (d : Dev nD) (w : ℕ) : BI.Storable (upEmb : UEmb _ 𝕄) (GoP X Z d w) := by unfold GoP; infer_instance

def StP (d : Dev nD) (c : ℕ) : sProp (MT nD τ sig (HIx 1) (Elt F) ℕ (UU F) ℕ) :=
  iprop(XAny X d ∗ ZAny Z d ∗ bigSep (Finset.univ : Finset (Fin 16)) fun i => OFr F d (tno c i.val))
def DnP (d : Dev nD) (c : ℕ) : sProp (MT nD τ sig (HIx 1) (Elt F) ℕ (UU F) ℕ) :=
  bigSep (Finset.univ : Finset (Fin 16)) fun i => OTo X Z d (tno c i.val)

instance (d : Dev nD) (c : ℕ) : BI.Storable (upEmb : UEmb _ 𝕄) (StP X Z d c) := by unfold StP; infer_instance
instance (d : Dev nD) (c : ℕ) : BI.Storable (upEmb : UEmb _ 𝕄) (DnP X Z d c) := by unfold DnP; infer_instance

def P : (K (F := F)).Pay (nD := nD) (Val := Elt F) (Name := ℕ) (U := UU F) where
  st := fun q d c => match q with | 0 => StP X Z d c.val
  dn := fun q d c => match q with | 0 => DnP X Z d c.val
  go := fun q d c i => match q with | 0 => GoP X Z d (tno c.val i.val)
  td := fun q d c i => match q with | 0 => OTo X Z d (tno c.val i.val)
  x := fun _ _ => WmE F

instance P_storable : (P X Z).IsStorable where
  st q d c := match q with | 0 => (inferInstance : BI.Storable (upEmb : UEmb _ 𝕄) (StP X Z d c.val))
  dn q d c := match q with | 0 => (inferInstance : BI.Storable (upEmb : UEmb _ 𝕄) (DnP X Z d c.val))
  go q d c i := match q with | 0 => (inferInstance : BI.Storable (upEmb : UEmb _ 𝕄) (GoP X Z d (tno c.val i.val)))
  td q d c i := match q with | 0 => (inferInstance : BI.Storable (upEmb : UEmb _ 𝕄) (OTo X Z d (tno c.val i.val)))

/-- What the proof asks of the two arrays: every row a task gathers lies in the table. -/
def PreOK : Prop := ∀ (d : Dev nD) (w : ℕ), w < 32 → ∀ k p, k < 16 → p < 256 → (gw (inOf (X d) (Z d) w) k p).toNat < 2097152

/-! ## One task's storage -/

section Tile

variable (d : Dev nD) (L : grid0.Coords)

abbrev cell (s : DmaSems sig S_) : GSem nD τ sig := (thr d L, .dma s.sem)

theorem ownSems0_V :
    (ownSems0 (thr d L) : sProp 𝕄)
      = iprop(semVal (cell d L cc0_scratch5) 0 ∗ semVal (cell d L cc0_scratch6) 0 ∗ semVal (cell d L cc0_scoped0) 0
          ∗ semVal (cell d L cc0_scoped1) 0 ∗ semVal (cell d L cc0_scoped2) 0
          ∗ bigSep ((((((ownCells (thr d L)).erase (cell d L cc0_scratch5)).erase (cell d L cc0_scratch6)).erase (cell d L cc0_scoped0)).erase
              (cell d L cc0_scoped1)).erase (cell d L cc0_scoped2)) fun g => semVal g 0) := by
  unfold SparseCore.Cfg.ownSems0
  have ne : ∀ (s t : DmaSems sig S_), s.sem ≠ t.sem → cell d L s ≠ cell d L t := fun s t h e => h (by
    have := congrArg Prod.snd e; simpa [cell] using this)
  have mem : ∀ (s : DmaSems sig S_), (SemLoc.dma s.sem : SemLoc sig).isScoped .scVector = true → cell d L s ∈ ownCells (thr d L) :=
    fun s h => mem_ownCells.mpr ⟨rfl, h⟩
  have m5 := mem cc0_scratch5 (by decide)
  have m6 := mem cc0_scratch6 (by decide)
  have n0 := mem cc0_scoped0 (by decide)
  have n1 := mem cc0_scoped1 (by decide)
  have n2 := mem cc0_scoped2 (by decide)
  rw [SparseCore.bigSep_erase' m5,
    SparseCore.bigSep_erase' (Finset.mem_erase.mpr ⟨ne _ _ (by decide), m6⟩),
    SparseCore.bigSep_erase' (Finset.mem_erase.mpr ⟨ne _ _ (by decide), Finset.mem_erase.mpr ⟨ne _ _ (by decide), n0⟩⟩),
    SparseCore.bigSep_erase' (Finset.mem_erase.mpr ⟨ne _ _ (by decide), Finset.mem_erase.mpr ⟨ne _ _ (by decide), Finset.mem_erase.mpr ⟨ne _ _ (by decide), n1⟩⟩⟩),
    SparseCore.bigSep_erase' (Finset.mem_erase.mpr ⟨ne _ _ (by decide), Finset.mem_erase.mpr ⟨ne _ _ (by decide), Finset.mem_erase.mpr ⟨ne _ _ (by decide),
      Finset.mem_erase.mpr ⟨ne _ _ (by decide), n2⟩⟩⟩⟩)]

abbrev dr (b : Ref sig .scVector) : DevRef τ sig := (Proc.scVector (cV L) (jV L)).devRef b

theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f)
          ∗ bigSep ((((((ownRefs (τ := τ) (.scVector (cV L) (jV L))).erase (dr L cc0_scratch0)).erase (dr L cc0_scratch1)).erase
              (dr L cc0_scratch2)).erase (dr L cc0_scratch3)).erase (dr L cc0_scratch4))
              fun b => iprop(∃ f, ((d, b) : Loc nD τ sig) ↦{fullShare} f)) := by
  unfold SparseCore.Cfg.ownBufs
  have ne : ∀ (s t : Ref sig .scVector), s ≠ t → dr L s ≠ dr L t := fun s t h e => h (Proc.devRef_injective _ e)
  have m0 := SparseCore.Cfg.mem_ownRefs_of_owner (p := Proc.scVector (cV L) (jV L)) (b := dr L cc0_scratch0) rfl
  have m1 := SparseCore.Cfg.mem_ownRefs_of_owner (p := Proc.scVector (cV L) (jV L)) (b := dr L cc0_scratch1) rfl
  have m2 := SparseCore.Cfg.mem_ownRefs_of_owner (p := Proc.scVector (cV L) (jV L)) (b := dr L cc0_scratch2) rfl
  have m3 := SparseCore.Cfg.mem_ownRefs_of_owner (p := Proc.scVector (cV L) (jV L)) (b := dr L cc0_scratch3) rfl
  have m4 := SparseCore.Cfg.mem_ownRefs_of_owner (p := Proc.scVector (cV L) (jV L)) (b := dr L cc0_scratch4) rfl
  refine (SparseCore.bigSep_erase' m0).trans ?_
  rw [SparseCore.bigSep_erase' (Finset.mem_erase.mpr ⟨ne _ _ (by decide), m1⟩),
    SparseCore.bigSep_erase' (Finset.mem_erase.mpr ⟨ne _ _ (by decide), Finset.mem_erase.mpr ⟨ne _ _ (by decide), m2⟩⟩),
    SparseCore.bigSep_erase' (Finset.mem_erase.mpr ⟨ne _ _ (by decide), Finset.mem_erase.mpr ⟨ne _ _ (by decide), Finset.mem_erase.mpr ⟨ne _ _ (by decide), m3⟩⟩⟩),
    SparseCore.bigSep_erase' (Finset.mem_erase.mpr ⟨ne _ _ (by decide), Finset.mem_erase.mpr ⟨ne _ _ (by decide), Finset.mem_erase.mpr ⟨ne _ _ (by decide),
      Finset.mem_erase.mpr ⟨ne _ _ (by decide), m4⟩⟩⟩⟩)]

/-- One task, from what it is handed: the call's obligation without its lifting. -/
theorem tile_body (hF : (K (F := F)).Facts) (hpre : PreOK X Z) (O : CellTallies nD τ sig (HIx 1)) (W : Waits sig (HIx 1)) (hO : ∀ g, O g none = 0) :
    iprop(levAts (K (F := F)).L (K (F := F)).lev ∗ WmE F ∗ GoP X Z d (wid L)
        ∗ scopedBufs (thr d L) ∗ scopedSems0 (thr d L) ∗ owes (thr d L) O W)
      ⊢ wp frame (wpE (defs₀ (F := F)) 𝒱₀ (thr d L) none) Set.univ
          (cc0__sc_gather_body (F := F) L xV (Memref.isWhole_whole _) zV (Memref.isWhole_whole _) oV (Memref.isWhole_whole _)
            slV (Memref.isWhole_whole _) scV (Memref.isWhole_whole _) gV (Memref.isWhole_whole _) rV (Memref.isWhole_whole _) pV (Memref.isWhole_whole _)
            cc0_scratch5 cc0_scratch6 cc0_scoped0 cc0_scoped1 cc0_scoped2)
          fun _ => iprop(OTo X Z d (wid L) ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V d L, ownBufs_V d L]
  unfold WmE GoP OFr
  iintro ⟨#Hlv, ⟨%ι, #Hwm⟩, ⟨HX, HZ, ⟨%fo, Ho⟩⟩, ⟨⟨%f0, H0⟩, ⟨%f1, H1⟩, ⟨%f2, H2⟩, ⟨%f3, H3⟩, ⟨%f4, H4⟩, Hbufs⟩, ⟨S5, S6, R0, R1, R2, Hsems⟩, HO⟩
  ihave Hmw := (show levAts (K (F := F)).L (K (F := F)).lev ⊢ Transfers.MayWaits (thr d L) (default : HIx 1) O from
    (K (F := F)).mayWaits_none (thr := thr d L) hO) $$ Hlv
  have hb := body (F := F) (h2 := Memref.isWhole_whole _) (h3 := Memref.isWhole_whole _) (h4 := Memref.isWhole_whole _) (h5 := Memref.isWhole_whole _) (h6 := Memref.isWhole_whole _) (h7 := Memref.isWhole_whole _) (h8 := Memref.isWhole_whole _) (h9 := Memref.isWhole_whole _)
    (⟨⟨d, L, inOf (X d) (Z d) (wid L), ι, f3, hpre d (wid L) (wid_lt L)⟩, X d, Z d, O, W, fo, cc0_scratch5, cc0_scratch6, cc0_scoped0, cc0_scoped1, cc0_scoped2, rfl⟩ : TK F) f0 f1 f2 f4
  have hb' : iprop((((((thr d L).loc cc0_scratch0 ↦{fullShare} f0) ∗ ZAny Z d ∗ semVal (cell d L cc0_scoped0) 0 ∗ Transfers.MayWaits (thr d L) (default : HIx 1) O
        ∗ (∃ W' : Waits sig (HIx 1), ⌜∀ p ∈ W', p ∈ W ∨ p.2 = none⌝ ∗ owes (thr d L) O W')) ∗ ((thr d L).loc cc0_scratch1 ↦{fullShare} f1) ∗ semVal (cell d L cc0_scoped1) 0
        ∗ (wmInv (Ix := HIx 1) (Lvl := ℕ) (EW (F := F)) ι ∗ XAny X d ∗ ((thr d L).loc cc0_scratch3 ↦{fullShare} f3) ∗ ((thr d L).loc cc0_scratch2 ↦{fullShare} f2)
        ∗ ((thr d L).loc cc0_scratch4 ↦{fullShare} f4) ∗ semVal (cell d L cc0_scratch5) 0 ∗ semVal (cell d L cc0_scratch6) 0
        ∗ (oLoc d ↦[cols (wid L)]{fullShare} fo) ∗ semVal (cell d L cc0_scoped2) 0))) : sProp 𝕄) ⊢ _ := hb
  have hp : (AE (⟨⟨d, L, inOf (X d) (Z d) (wid L), ι, f3, hpre d (wid L) (wid_lt L)⟩, X d, Z d, O, W, fo, cc0_scratch5, cc0_scratch6, cc0_scoped0, cc0_scoped1, cc0_scoped2, rfl⟩ : TK F))
      ⊢ (iprop(OTo X Z d (wid L) ∗ (∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f) ∗ semVal (cell d L cc0_scratch5) 0 ∗ semVal (cell d L cc0_scratch6) 0 ∗ semVal (cell d L cc0_scoped0) 0
          ∗ semVal (cell d L cc0_scoped1) 0 ∗ semVal (cell d L cc0_scoped2) 0
          ∗ ∃ W' : Waits sig (HIx 1), ⌜∀ p ∈ W', p ∈ W ∨ p.2 = none⌝ ∗ owes (thr d L) O W') : sProp 𝕄) := BI.Entails.refl _
  iapply (wp_wand_r frame _ Set.univ)
  isplitl [HX HZ Ho H0 H1 H2 H3 H4 S5 S6 R0 R1 R2 HO Hmw]
  · iapply hb'
    isplitl [H0 HZ R0 Hmw HO]
    · isplitl [H0]; · iexact H0
      isplitl [HZ]; · iexact HZ
      isplitl [R0]; · iexact R0
      isplitl [Hmw]; · iexact Hmw
      iexists W
      isplitr; · ipureintro; exact fun _ h => .inl h
      iexact HO
    isplitl [H1]; · iexact H1
    isplitl [R1]; · iexact R1
    isplitr; · iexact Hwm
    isplitl [HX]; · iexact HX
    isplitl [H3]; · iexact H3
    isplitl [H2]; · iexact H2
    isplitl [H4]; · iexact H4
    isplitl [S5]; · iexact S5
    isplitl [S6]; · iexact S6
    isplitl [Ho]; · iexact Ho
    iexact R2
  · iintro %_ HA
    ihave HA' := hp $$ HA
    icases HA' with ⟨Ho, H0, H1, H2, H3, H4, S5, S6, R0, R1, R2, HO⟩
    isplitl [Ho]; · iexact Ho
    isplitl [H0 H1 H2 H3 H4 Hbufs]
    · isplitl [H0]; · iexact H0
      isplitl [H1]; · iexact H1
      isplitl [H2]; · iexact H2
      isplitl [H3]; · iexact H3
      isplitl [H4]; · iexact H4
      iexact Hbufs
    isplitl [S5 S6 R0 R1 R2 Hsems]
    · isplitl [S5]; · iexact S5
      isplitl [S6]; · iexact S6
      isplitl [R0]; · iexact R0
      isplitl [R1]; · iexact R1
      isplitl [R2]; · iexact R2
      iexact Hsems
    iexact HO

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather_body (F := F) (coordsV c s) xV (Memref.isWhole_whole _) zV (Memref.isWhole_whole _) oV (Memref.isWhole_whole _)
            slV (Memref.isWhole_whole _) scV (Memref.isWhole_whole _) gV (Memref.isWhole_whole _) rV (Memref.isWhole_whole _) pV (Memref.isWhole_whole _)
            cc0_scratch5 cc0_scratch6 cc0_scoped0 cc0_scoped1 cc0_scoped2) ⟨⟩ c s := rfl

theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK X Z) : (K (F := F)).TileObl (D (F := F)) 𝒱 (P X Z) v₀ 0 := by
  intro d c i O W hO _ _
  simp only [show (P X Z).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body X Z d (coordsV ⟨_, hci.1⟩ ⟨_, hci.2⟩) hF hpre O W hO).trans (wp_mono frame _ _ fun _ => obl_post)

end Tile

/-! ## Shares, and the split over the tasks -/

theorem XAny_dup (d : Dev nD) : XAny X d ⊢ iprop(XAny X d ∗ XAny X d) := by
  unfold XAny
  iintro ⟨%q, H⟩
  ihave H' := (pointsTo_share (PosShare.mem_left_op_right q)).1 $$ H
  icases H' with ⟨Ha, Hb⟩
  isplitl [Ha]
  · iexists _; iexact Ha
  · iexists _; iexact Hb
theorem ZAny_dup (d : Dev nD) : ZAny Z d ⊢ iprop(ZAny Z d ∗ ZAny Z d) := by
  unfold ZAny
  iintro ⟨%q, H⟩
  ihave H' := (pointsTo_share (PosShare.mem_left_op_right q)).1 $$ H
  icases H' with ⟨Ha, Hb⟩
  isplitl [Ha]
  · iexists _; iexact Ha
  · iexists _; iexact Hb

/-- What can be doubled can be had as often as one likes. -/
theorem bigSep_dup {I : Type} [DecidableEq I] {A : sProp 𝕄} (h : A ⊢ iprop(A ∗ A)) (s : Finset I) : A ⊢ bigSep s fun _ => A := by
  induction s using Finset.induction_on with
  | empty => rw [BI.bigSep_empty]; iintro -; iempintro
  | insert a s ha ih =>
    rw [SparseCore.bigSep_insert' ha]
    exact h.trans (BIClass.sep_mono (BI.Entails.refl _) ih)

theorem vecSplit : (K (F := F)).VecSplit' (P X Z) 0 := by
  intro d c
  show StP X Z d c.val ⊢ |={Set.univ}=> iprop(
      (bigSep (Finset.univ : Finset (Fin 16)) fun i => GoP X Z d (tno c.val i.val))
      ∗ ((bigSep (Finset.univ : Finset (Fin 16)) fun i => OTo X Z d (tno c.val i.val)) -∗ DnP X Z d c.val))
  have e : (bigSep (Finset.univ : Finset (Fin 16)) fun i => GoP X Z d (tno c.val i.val))
      = iprop((bigSep (Finset.univ : Finset (Fin 16)) fun _ => XAny X d) ∗ (bigSep (Finset.univ : Finset (Fin 16)) fun _ => ZAny Z d)
        ∗ bigSep (Finset.univ : Finset (Fin 16)) fun i => OFr F d (tno c.val i.val)) := by
    unfold GoP; rw [BI.bigSep_sep', BI.bigSep_sep']
  rw [e]
  unfold StP DnP
  iintro ⟨HX, HZ, HO⟩
  imodintro
  isplitl [HX HZ HO]
  · isplitl [HX]; · iapply (bigSep_dup (XAny_dup X d) _); iexact HX
    isplitl [HZ]; · iapply (bigSep_dup (ZAny_dup Z d) _); iexact HZ
    iexact HO
  iintro H; iexact H

end Cert.Kernel.Tile

end
-- ==== Proof.KTc.lean ====
/-
  The TensorCore call beside the SparseCore call: its body, its proof data, and its region from any contents of the
  arrays, with the core owing nothing and its recorded waits bounded.
-/
module

public import proofs.«01_k».proof.Proof.KEnv
public import proofs.«01_k».proof.Proof.Gen.Kernel.Launch
public import proofs.«01_k».proof.Proof.Gen.Kernel.Points
public import Idealize.ShloMosaic.Lib.Pipeline.RegionArrays
public import Idealize.ShloMosaic.Lib.Pipeline.Value

@[expose] public section

noncomputable section

namespace Cert.Kernel.Tc

open Cert.Kernel Cert.Kernel.Gen Cert.Kernel.Tile
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ (UU F) ℕ

abbrev Bf (c : Dev nD) {sp : Space} {S : Shape} {e : EltTy} (M : Memref sig .tc sp S e) : Type := Buf (Elt F) (M.view.loc (c : Thread nD τ))
abbrev pto (c : Dev nD) {sp : Space} {S : Shape} {e : EltTy} (M : Memref sig .tc sp S e) (f : Bf (F := F) c M) : sProp (MT nD τ sig (HIx 1) (Elt F) ℕ (UU F) ℕ) :=
  M.view.loc (c : Thread nD τ) ↦{fullShare} f

/-- What the body leaves in the result's staging buffer, with the proof that it does. -/
noncomputable def mlpRun (c : Dev nD) (M0 : Memref sig .tc .vmem S136x8192 .f32) (h0 : M0.IsWhole) (M1 : Memref sig .tc .vmem S136x64 .f32) (h1 : M1.IsWhole)
    (M2 : Memref sig .tc .vmem S1x64 .f32) (h2 : M2.IsWhole) (M3 : Memref sig .tc .vmem S64x64 .f32) (h3 : M3.IsWhole)
    (M4 : Memref sig .tc .vmem S1x64 .f32) (h4 : M4.IsWhole) (M5 : Memref sig .tc .vmem S32x256x64 .f32) (h5 : M5.IsWhole)
    (f0 : Bf (F := F) c M0) (f1 : Bf (F := F) c M1) (f2 : Bf (F := F) c M2) (f3 : Bf (F := F) c M3) (f4 : Bf (F := F) c M4) :
    { W : Bf (F := F) c M5 // ∀ (f5 : Bf (F := F) c M5) (E : Set ℕ) (Q : PUnit → sProp 𝕄),
        iprop(pto c M0 f0 ∗ pto c M1 f1 ∗ pto c M2 f2 ∗ pto c M3 f3 ∗ pto c M4 f4 ∗ pto c M5 f5
            ∗ (iprop(pto c M0 f0 ∗ pto c M1 f1 ∗ pto c M2 f2 ∗ pto c M3 f3 ∗ pto c M4 f4 ∗ pto c M5 W) -∗ Q ⟨⟩))
          ⊢ wp frame (wpE (defs₀ (F := F)) Variants.none (c : Thread nD τ) none) E (cc1__mlp_tc_kernel M0 h0 M1 h1 M2 h2 M3 h3 M4 h4 M5 h5) Q } := by
  refine ⟨?_, fun f5 E Q => ?run⟩
  case run =>
    rw [cc1__mlp_tc_kernel_eq_skeleton]
    unfold cc1__mlp_tc_kernel_skel
    iintro ⟨H0, H1, H2, H3, H4, H5, Hk⟩
    sl_exec!
    sl_step
    iapply Hk
    isplitl [H0]; · iexact H0
    isplitl [H1]; · iexact H1
    isplitl [H2]; · iexact H2
    isplitl [H3]; · iexact H3
    isplitl [H4]; · iexact H4
    iexact H5

/-! ## The proof data -/

variable (V : (c : Dev nD) → (b : Ref sig .tc) → Buf (Elt F) ((c : Thread nD τ).loc b))

abbrev stg0 (c : Dev nD) : (cfg1.win 0).block.Idx → Elt F (cfg1.win 0).elt := ((cfg1.win 0).blk t1_0).view.read (Elt F) (V c main_v4)
abbrev stg1 (c : Dev nD) : (cfg1.win 1).block.Idx → Elt F (cfg1.win 1).elt := ((cfg1.win 1).blk t1_0).view.read (Elt F) (V c main_v11)
abbrev stg2 (c : Dev nD) : (cfg1.win 2).block.Idx → Elt F (cfg1.win 2).elt := ((cfg1.win 2).blk t1_0).view.read (Elt F) (V c main_v13)
abbrev stg3 (c : Dev nD) : (cfg1.win 3).block.Idx → Elt F (cfg1.win 3).elt := ((cfg1.win 3).blk t1_0).view.read (Elt F) (V c main_v12)
abbrev stg4 (c : Dev nD) : (cfg1.win 4).block.Idx → Elt F (cfg1.win 4).elt := ((cfg1.win 4).blk t1_0).view.read (Elt F) (V c main_v14)

abbrev Rn (c : Dev nD) := mlpRun (F := F) c (stage1_0 0) (hstage1_0 0) (stage1_1 0) (hstage1_1 0) (stage1_2 0) (hstage1_2 0) (stage1_3 0) (hstage1_3 0)
  (stage1_4 0) (hstage1_4 0) (stage1_5 0) (hstage1_5 0) (stg0 V c) (stg1 V c) (stg2 V c) (stg3 V c) (stg4 V c)

/-- The recorded waits a SparseCore call may have left: at levels no higher than the next call's first. -/
def past (c : Dev nD) : Set (SemLoc sig × HIx 1) := {p | (K (F := F)).lev ((c : Thread nD τ), p.1) p.2 ≤ 8}

def dat (c : Dev nD) : Dat τ (Elt F) (HIx 1) ℕ (UU F) ℕ cfg1 c where
  A w := V c (Pipeline.arrRef spec1 w)
  after w _ := match w with
    | ⟨0, _⟩ => stg0 V c
    | ⟨1, _⟩ => stg1 V c
    | ⟨2, _⟩ => stg2 V c
    | ⟨3, _⟩ => stg3 V c
    | ⟨4, _⟩ => stg4 V c
    | ⟨5, _⟩ => (Rn V c).1
  Φ _ := Pipeline.scopedRest (Ix := HIx 1) (Name := ℕ) (U := UU F) (Lvl := ℕ) (Val := Elt F) spec1 c
  q _ := fullShare
  owed _ := 0
  recorded _ := past (F := F) c

abbrev adm : (p : Fin 1) → (pcfgs (F := F) p).Adm := fun p => (cfgs p).toPCfg_adm

def pdats : (p : Fin 1) → (c : Dev nD) → Dat τ (Elt F) (HIx 1) ℕ (UU F) ℕ (Pipeline.pin (pcfgs (F := F)) adm p) c
  | 0 => fun c => dat V c

theorem before_in0 (c : Dev nD) (d : (cfg1.win 0).block.Idx → Elt F (cfg1.win 0).elt) : (dat V c).before 0 t1_0 d = stg0 V c := by
  unfold Dat.before; rw [if_pos (by decide)]; rfl

theorem before_in1 (c : Dev nD) (d : (cfg1.win 1).block.Idx → Elt F (cfg1.win 1).elt) : (dat V c).before 1 t1_0 d = stg1 V c := by
  unfold Dat.before; rw [if_pos (by decide)]; rfl

theorem before_in2 (c : Dev nD) (d : (cfg1.win 2).block.Idx → Elt F (cfg1.win 2).elt) : (dat V c).before 2 t1_0 d = stg2 V c := by
  unfold Dat.before; rw [if_pos (by decide)]; rfl

theorem before_in3 (c : Dev nD) (d : (cfg1.win 3).block.Idx → Elt F (cfg1.win 3).elt) : (dat V c).before 3 t1_0 d = stg3 V c := by
  unfold Dat.before; rw [if_pos (by decide)]; rfl

theorem before_in4 (c : Dev nD) (d : (cfg1.win 4).block.Idx → Elt F (cfg1.win 4).elt) : (dat V c).before 4 t1_0 d = stg4 V c := by
  unfold Dat.before; rw [if_pos (by decide)]; rfl

theorem body_obligation (c : Dev nD) : BodyObligation (dat V c) (defs₀ (F := F)) 𝒱₀ (none : HIx 1) Set.univ := fun t => by
  obtain rfl := fin_N1 t
  rw [bigSep_W1, bigSep_W1]
  simp only [owns_whole_eq]
  rw [show (dat V c).Φ t1_0.succ = (dat V c).Φ t1_0.castSucc from rfl,
    show (dat V c).owesAt none t1_0.succ = (dat V c).owesAt none t1_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  rw [before_in0] at hf0
  rw [before_in1] at hf1
  rw [before_in2] at hf2
  rw [before_in3] at hf3
  rw [before_in4] at hf4
  subst hf0 hf1 hf2 hf3 hf4
  iapply ((Rn V c).2 f5 Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  isplitl [H4]; · iexists _; isplitr; swap; (· iexact H4); ipureintro; dsimp only [dat]
  iexists _; isplitr; swap; (· iexact H5); ipureintro; dsimp only [dat]

/-! ## What the result array ends at -/

theorem hz2 : (![0, 0] : Fin 2 → Nat) = fun _ => 0 := funext fun a => by fin_cases a <;> rfl
theorem hz3 : (![0, 0, 0] : Fin 3 → Nat) = fun _ => 0 := funext fun a => by fin_cases a <;> rfl

/-- The result as a function of the five operands. -/
abbrev mlpOf (c : Dev nD) : Vec F S32x256x64 .f32 := k1_pay1 (V c main_v4) (V c main_v11) (V c main_v13) (V c main_v12) (V c main_v14)

theorem stg0_eq (c : Dev nD) : stg0 V c = V c main_v4 := funext fun x => congrArg (V c main_v4) (funext fun a => Fin.ext (by
  show 0 * _ + 1 * (x a).val = (x a).val
  omega))

theorem stg1_eq (c : Dev nD) : stg1 V c = V c main_v11 := funext fun x => congrArg (V c main_v11) (funext fun a => Fin.ext (by
  show 0 * _ + 1 * (x a).val = (x a).val
  omega))

theorem stg2_eq (c : Dev nD) : stg2 V c = V c main_v13 := funext fun x => congrArg (V c main_v13) (funext fun a => Fin.ext (by
  show 0 * _ + 1 * (x a).val = (x a).val
  omega))

theorem stg3_eq (c : Dev nD) : stg3 V c = V c main_v12 := funext fun x => congrArg (V c main_v12) (funext fun a => Fin.ext (by
  show 0 * _ + 1 * (x a).val = (x a).val
  omega))

theorem stg4_eq (c : Dev nD) : stg4 V c = V c main_v14 := funext fun x => congrArg (V c main_v14) (funext fun a => Fin.ext (by
  show 0 * _ + 1 * (x a).val = (x a).val
  omega))

theorem Rn_eq (c : Dev nD) : (Rn V c).1 = k1_pay1 (stg0 V c) (stg1 V c) (stg2 V c) (stg3 V c) (stg4 V c) := by
  unfold Rn mlpRun
  refine (View.read_writes_junk_eq_canon (Val := Elt F) (View.whole cc1_stg5_0) _).trans ?_
  unfold mlpRun.sl.H5_1
  refine (View.canon_unit_zero (S := S32x256x64) hz3 _ _).trans ?_
  refine congr (congr (congr (congr (congrArg k1_pay1 ?_) ?_) ?_) ?_) ?_ <;> exact View.ld_unit_zero hz2 _ _

theorem flushed_eq (c : Dev nD) (t : Fin cfg1.N) :
    (dat V c).flushed 5 t = ((cfg1.win 5).blk t).view.read (Elt F) (mlpOf V c : Buf (Elt F) ((c : Thread nD τ).loc main_v15)) := by
  obtain rfl := fin_N1 t
  show (cfg1.win 5).cut (grid1.coords t1_0) ((dat V c).after 5 t1_0) = _
  show (cfg1.win 5).cut (grid1.coords t1_0) ((Rn V c).1) = _
  rw [Rn_eq, stg0_eq, stg1_eq, stg2_eq, stg3_eq, stg4_eq]
  refine funext fun x => ?_
  refine congrArg (mlpOf V c) (funext fun a => Fin.ext ?_)
  show (x a).val = 0 * _ + 1 * (x a).val
  omega

/-- The one block is the whole array. -/
theorem mem_blk (i : S32x256x64.Idx) : i ∈ ((cfg1.win 5).blk t1_0).view.set := by
  show i ∈ ((View.whole main_v15).slice (win1_5.rect t1_0)).set
  rw [View.set_slice_whole, Rect.mem_set_unit]
  intro a
  show 0 * _ ≤ (i a).val ∧ (i a).val < 0 * _ + S32x256x64.size a
  have := (i a).isLt
  omega

theorem final_o (c : Dev nD) : (dat V c).arrAt 5 cfg1.N = (mlpOf V c : Buf (Elt F) ((c : Thread nD τ).loc main_v15)) :=
  (dat V c).arrAt_eq_of_cover 5 (mlpOf V c) (fun t _ => flushed_eq V c t) fun i => ⟨t1_0, flush1_5 _, mem_blk i⟩

/-! ## The region -/

-- the contents before, and the contents after: any valuation with the result's array at the computed value and the
-- operands' arrays as they were
variable (W W' : Dev nD → Valuation τ sig (Elt F))

abbrev toV (W : Dev nD → Valuation τ sig (Elt F)) : (c : Dev nD) → (b : Ref sig .tc) → Buf (Elt F) ((c : Thread nD τ).loc b) :=
  fun c b => W c (Proc.devRef .tc b)

/-- What a thread holds of its `owes` between calls: nothing owed, recorded waits bounded. -/
abbrev OwB (c : Dev nD) : sProp (MT nD τ sig (HIx 1) (Elt F) ℕ (UU F) ℕ) :=
  iprop(∃ S, ⌜(K (F := F)).WBelow ((c : Thread nD τ)) S 8⌝ ∗ owes (c : Thread nD τ) (0 : CellTallies nD τ sig (HIx 1)) S)

theorem kitP : Pipeline.PLaunchFacts (nD := nD) (τ := τ) (pcfgs (F := F)) 0 := launch1.toP

set_option backward.isDefEq.respectTransparency.types false in
def reg (hout : ∀ c, W' c (Proc.devRef .tc main_v15) = mlpOf (toV W) c)
    (hin : ∀ c (b : Ref sig .tc), b ≠ main_v15 → W' c (Proc.devRef .tc b) = W c (Proc.devRef .tc b)) :
    Pipeline.RegionSeg (pcfgs (F := F)) adm (pdats (toV W)) (none : HIx 1) defs₀ 𝒱₀ (K (F := F)).L (K (F := F)).lev 0 where
  win := (kitP (F := F)).win.to₀
  block_pos := (kitP (F := F)).block_pos
  stage_whole := (kitP (F := F)).stage_whole
  K := PEmpty
  osem k := k.elim
  ho := Pipeline.OwnSemFacts.none _
  hbody c := (body_obligation (toV W) c).loose
  hwaits := Pipeline.hwaits_of_owed_zero _ _ _ _ (K (F := F)).L (K (F := F)).lev 0 fun _ _ => rfl
  pre c := iprop(StableHlo.held (c : Thread nD τ) (Pipeline.arrRefs spec1) (W c) ∗ OwB c)
  post c := iprop(StableHlo.held (c : Thread nD τ) (Pipeline.arrRefs spec1) (W' c) ∗ OwB c)
  X _ := BI.emp
  Y _ := BI.emp
  Z _ := BI.emp
  hentry c := by
    rw [Pipeline.ownSems0_none]
    have hA := Pipeline.arrays_held (pcfgs (F := F)) adm (pdats (toV W)) 0 kitP c ((pdats (toV W) 0 c).share_full fun _ => rfl)
      ((pdats (toV W) 0 c).arrAt · 0) (W c) fun w => rfl
    iintro ⟨⟨Ha, %S, %hS, HO⟩, -, -⟩
    imodintro
    isplitl [Ha]; · rw [hA]; iexact Ha
    isplitr; · unfold Pipeline.prefHeld; rw [show (Finset.univ : Finset (Fin 0)) = ∅ from rfl, BI.bigSep_empty]; iempintro
    isplitl [HO]
    · unfold Pipeline.Dat.owesAt Pipeline.owesWithin
      iexists S; isplitr; · ipureintro; exact fun p hp => Or.inl (hS p hp)
      iexact HO
    isplitr <;> iempintro
  hin c := by
    rw [show (pdats (toV W) 0 c).Φ 0 = Pipeline.scopedRest (Ix := HIx 1) (Name := ℕ) (U := UU F) (Lvl := ℕ) (Val := Elt F) spec1 c from rfl]
    iintro ⟨-, -, Hr⟩; iexact Hr
  hout c := by
    rw [Pipeline.ownSems0_none, show (pdats (toV W) 0 c).Φ (Fin.last _) = Pipeline.scopedRest (Ix := HIx 1) (Name := ℕ) (U := UU F) (Lvl := ℕ) (Val := Elt F) spec1 c from rfl]
    iintro Hr
    isplitr; · iempintro
    isplitr; · iempintro
    iexact Hr
  hexit c := by
    have hA := Pipeline.arrays_held (pcfgs (F := F)) adm (pdats (toV W)) 0 kitP c ((pdats (toV W) 0 c).share_full fun _ => rfl)
      ((pdats (toV W) 0 c).arrAt · cfg1.N) (W' c) fun w => by
        fin_cases w
        · exact ((pdats (toV W) 0 c).arrAt_in 0 rfl _).trans (hin c main_v4 (by decide)).symm
        · exact ((pdats (toV W) 0 c).arrAt_in 1 rfl _).trans (hin c main_v11 (by decide)).symm
        · exact ((pdats (toV W) 0 c).arrAt_in 2 rfl _).trans (hin c main_v13 (by decide)).symm
        · exact ((pdats (toV W) 0 c).arrAt_in 3 rfl _).trans (hin c main_v12 (by decide)).symm
        · exact ((pdats (toV W) 0 c).arrAt_in 4 rfl _).trans (hin c main_v14 (by decide)).symm
        · exact (final_o (toV W) c).trans (hout c).symm
    iintro ⟨Ha, HO, -, -⟩
    imodintro
    isplitl [Ha]; · rw [← hA]; iexact Ha
    unfold Pipeline.Dat.owesAt Pipeline.owesWithin
    icases HO with ⟨%S, %hS, HO⟩; iexists S; isplitr
    · ipureintro
      intro p hp
      rcases hS hp with h | ⟨w, s, rfl⟩
      · exact h
      · exact Nat.zero_le _
    iexact HO

end Cert.Kernel.Tc

end
-- ==== Proof.KMain.lean ====
/-
  The program's run: the host operations around the two calls, each device's TensorCore from its launch state to its
  end, and the run of the whole launch with what its memory ends at.
-/
module

public import proofs.«01_k».proof.Proof.KLaunch
public import proofs.«01_k».proof.Proof.KTc

@[expose] public section

noncomputable section

namespace Cert.Kernel.Main

open Cert.Kernel Cert.Kernel.Gen Cert.Kernel.Tile Cert.Kernel.Tc
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ (UU F) ℕ

/-! ## The host operations -/

def ops1 : List (HloOp τ sig (Elt F)) := [
    StableHlo.reshape main_arg0 main_v0 (rfl : (.f32 : EltTy) = .f32) shapeCasts_S32x8192x128_S2097152x16,
    StableHlo.reshape main_arg1 main_v1 (rfl : (.i32 : EltTy) = .i32) shapeCasts_S32x256_S8192,
    StableHlo.reshape main_arg2 main_v2 (rfl : (.i32 : EltTy) = .i32) shapeCasts_S32x256_S8192,
    StableHlo.binary main_v1 main_v2 main_v3 ((fun a b => concatenate S16384 0 [⟨S8192, a⟩, ⟨S8192, b⟩] concatenates_S8192_S8192_S16384_d0) : (⟨S8192, .i32⟩ : BufTy).Contents (Elt F) → (⟨S8192, .i32⟩ : BufTy).Contents (Elt F) → (⟨S16384, .i32⟩ : BufTy).Contents (Elt F))]

def ops2 : List (HloOp τ sig (Elt F)) := [
    StableHlo.reshape main_arg3 main_v5 (rfl : (.f32 : EltTy) = .f32) shapeCasts_S64x256_S64x8x32,
    StableHlo.unary main_v5 main_v6 ((extractStridedSlice S64x8x16 ![0, 0, 0] · slices_S64x8x32_S64x8x16_0_0_0) : (⟨S64x8x32, .f32⟩ : BufTy).Contents (Elt F) → (⟨S64x8x16, .f32⟩ : BufTy).Contents (Elt F)),
    StableHlo.reshape main_v6 main_v7 (rfl : (.f32 : EltTy) = .f32) shapeCasts_S64x8x16_S64x128,
    StableHlo.unary main_v5 main_v8 ((extractStridedSlice S64x8x16 ![0, 0, 16] · slices_S64x8x32_S64x8x16_0_0_16) : (⟨S64x8x32, .f32⟩ : BufTy).Contents (Elt F) → (⟨S64x8x16, .f32⟩ : BufTy).Contents (Elt F)),
    StableHlo.nullary main_cst (constant S_ .f32 0x00000000#32),
    StableHlo.binary main_v8 main_cst main_v9 ((fun x v => Host.reduceAdd x v reducesTo_S64x8x16_S64x8_d2 h_S_) : (⟨S64x8x16, .f32⟩ : BufTy).Contents (Elt F) → (⟨S_, .f32⟩ : BufTy).Contents (Elt F) → (⟨S64x8, .f32⟩ : BufTy).Contents (Elt F)),
    StableHlo.binary main_v7 main_v9 main_v10 ((fun a b => concatenate S64x136 1 [⟨S64x128, a⟩, ⟨S64x8, b⟩] concatenates_S64x128_S64x8_S64x136_d1) : (⟨S64x128, .f32⟩ : BufTy).Contents (Elt F) → (⟨S64x8, .f32⟩ : BufTy).Contents (Elt F) → (⟨S64x136, .f32⟩ : BufTy).Contents (Elt F)),
    StableHlo.unary main_v10 main_v11 ((transpose S136x64 [1, 0] · transposes_S64x136_S136x64_1_0) : (⟨S64x136, .f32⟩ : BufTy).Contents (Elt F) → (⟨S136x64, .f32⟩ : BufTy).Contents (Elt F)),
    StableHlo.unary main_arg5 main_v12 ((transpose S64x64 [1, 0] · transposes_S64x64_S64x64_1_0) : (⟨S64x64, .f32⟩ : BufTy).Contents (Elt F) → (⟨S64x64, .f32⟩ : BufTy).Contents (Elt F)),
    StableHlo.reshape main_arg4 main_v13 (rfl : (.f32 : EltTy) = .f32) shapeCasts_S64_S1x64,
    StableHlo.reshape main_arg6 main_v14 (rfl : (.f32 : EltTy) = .f32) shapeCasts_S64_S1x64]

theorem main_eq (d : Dev nD) : main (F := F) d
    = StableHlo.seq ops1 >>= fun _ => (K (F := F)).run d 0 >>= fun _ => StableHlo.seq ops2 >>= fun _ =>
        Prog.lift (.customCall (SparseCore.inner (Pipeline.entry 0)) ()) := rfl

abbrev dR (b : Ref sig .tc) : DevRef τ sig := Proc.devRef .tc b

/-- The arrays the first call keeps, and the others. -/
abbrev T2 : Finset (DevRef τ sig) := {dR main_v0, dR main_v3}
abbrev R3 : Finset (DevRef τ sig) := Pipeline.ucRefs τ sig \ T2
abbrev R4 : Finset (DevRef τ sig) := R3 \ {dR main_v4}

theorem mem_uc (b : Ref sig .tc) (h : b.isScoped = false) : dR b ∈ Pipeline.ucRefs τ sig :=
  Finset.mem_filter.mpr ⟨StableHlo.devRef_mem_tcRefs b, fun h' => Bool.false_ne_true (h.symm.trans h')⟩

theorem T2_sub : T2 ⊆ Pipeline.ucRefs τ sig := fun b hb => by
  rcases Finset.mem_insert.mp hb with rfl | hb
  · exact mem_uc _ (by decide)
  · obtain rfl := Finset.mem_singleton.mp hb; exact mem_uc _ (by decide)

theorem mem_R3 (b : Ref sig .tc) (h : b.isScoped = false) (h0 : b ≠ main_v0) (h3 : b ≠ main_v3) : dR b ∈ R3 :=
  Finset.mem_sdiff.mpr ⟨mem_uc b h, fun hb => by
    rcases Finset.mem_insert.mp hb with e | hb
    · exact h0 (Proc.devRef_injective _ e)
    · exact h3 (Proc.devRef_injective _ (Finset.mem_singleton.mp hb))⟩

theorem v4_sub : ({dR main_v4} : Finset (DevRef τ sig)) ⊆ R3 := Finset.singleton_subset_iff.mpr (mem_R3 _ (by decide) (by decide) (by decide))

theorem ops1_sub : ∀ op ∈ (ops1 (F := F)), op.bufs ⊆ Pipeline.ucRefs τ sig := fun op h =>
  Pipeline.sub_ucRefs op (by
    simp only [ops1, List.mem_cons, List.not_mem_nil, or_false] at h
    rcases h with rfl | rfl | rfl | rfl <;> simp)
theorem ops1_fresh : ∀ op ∈ (ops1 (F := F)), op.fresh = ∅ := fun op h => by
  simp only [ops1, List.mem_cons, List.not_mem_nil, or_false] at h
  rcases h with rfl | rfl | rfl | rfl <;> rfl

theorem ops2_sub : ∀ op ∈ (ops2 (F := F)), op.bufs ⊆ R3 := fun op h b hb => by
  simp only [ops2, List.mem_cons, List.not_mem_nil, or_false] at h
  rcases h with rfl | rfl | rfl | rfl | rfl | rfl | rfl | rfl | rfl | rfl | rfl <;>
    simp only [StableHlo.unary_bufs, StableHlo.binary_bufs, StableHlo.nullary_bufs, StableHlo.reshape_bufs, Finset.mem_insert, Finset.mem_singleton] at hb <;>
    (repeat' (rcases hb with rfl | hb; · exact mem_R3 _ (by decide) (by decide) (by decide))) <;>
    (subst hb; exact mem_R3 _ (by decide) (by decide) (by decide))
theorem ops2_fresh : ∀ op ∈ (ops2 (F := F)), op.fresh = ∅ := fun op h => by
  simp only [ops2, List.mem_cons, List.not_mem_nil, or_false] at h
  rcases h with rfl | rfl | rfl | rfl | rfl | rfl | rfl | rfl | rfl | rfl | rfl <;> rfl

theorem arr_sub : Pipeline.arrRefs (τ := τ) spec1 ⊆ R3 := fun b hb => by
  obtain ⟨r, hr, rfl⟩ := Finset.mem_map.mp hb
  obtain ⟨w, -, rfl⟩ := Finset.mem_image.mp hr
  fin_cases w <;> exact mem_R3 _ (by decide) (by decide) (by decide)

/-! ## The contents along the run -/

variable (m : (ℓ : Loc nD τ sig) → Buf (Elt F) ℓ) (ρ : Dev nD → PrngReg)

def V0 (d : Dev nD) : Valuation τ sig (Elt F) := fun b => m (d, b)
def V1 (d : Dev nD) : Valuation τ sig (Elt F) := StableHlo.after ops1 (V0 m d)
/-- The table and the starts as the first call finds them. -/
def Xm (d : Dev nD) : Vec F S2097152x16 .f32 := V1 m d (dR main_v0)
def Zm (d : Dev nD) : Vec F S16384 .i32 := V1 m d (dR main_v3)
def V2 (d : Dev nD) : Valuation τ sig (Elt F) := Function.update (V1 m d) (dR main_v4) (OUT (Xm m d) (Zm m d))
def V3 (d : Dev nD) : Valuation τ sig (Elt F) := StableHlo.after ops2 (V2 m d)
def V4 (d : Dev nD) : Valuation τ sig (Elt F) := Function.update (V3 m d) (dR main_v15) (mlpOf (toV (V3 m)) d)

theorem V2_v4 (d : Dev nD) : V2 m d (dR main_v4) = OUT (Xm m d) (Zm m d) := Function.update_self ..
theorem V2_ne (d : Dev nD) {b : DevRef τ sig} (h : b ≠ dR main_v4) : V2 m d b = V1 m d b := Function.update_of_ne h ..
theorem V4_v15 (d : Dev nD) : V4 m d (dR main_v15) = mlpOf (toV (V3 m)) d := Function.update_self ..
theorem V4_ne (d : Dev nD) (b : Ref sig .tc) (h : b ≠ main_v15) : V4 m d (dR b) = V3 m d (dR b) :=
  Function.update_of_ne (StableHlo.devRef_ne_of_ne h) ..

/-! ## The gathered array's columns, split over the tasks and joined -/

theorem cols_disjoint {w w' : ℕ} (h : w ≠ w') : Disjoint (cols w) (cols w') := by
  rw [Finset.disjoint_left]; intro x hx hx'
  exact h ((Finset.mem_filter.mp hx).2.symm.trans (Finset.mem_filter.mp hx').2)

def ccols (c : ℕ) : Finset S136x8192.Idx := Finset.univ.biUnion fun i : Fin 16 => cols (tno c i.val)

theorem ccols_disjoint {c c' : Fin 2} (h : c ≠ c') : Disjoint (ccols c.val) (ccols c'.val) := by
  unfold ccols
  rw [Finset.disjoint_biUnion_left]; intro i _
  rw [Finset.disjoint_biUnion_right]; intro j _
  refine cols_disjoint fun e => h (Fin.ext ?_)
  unfold tno at e; omega

theorem ccols_cover : (Finset.univ.biUnion fun c : Fin 2 => ccols c.val) = Finset.univ := by
  refine Finset.eq_univ_iff_forall.mpr fun x => ?_
  have hx : (x 1).val < 8192 := (x 1).isLt
  simp only [ccols, Finset.mem_biUnion, Finset.mem_univ, _root_.true_and]
  refine ⟨⟨(x 1).val / 256 % 2, by omega⟩, ⟨(x 1).val / 512, by omega⟩, Finset.mem_filter.mpr ⟨Finset.mem_univ _, ?_⟩⟩
  show (x 1).val / 256 = 2 * ((x 1).val / 512) + (x 1).val / 256 % 2
  omega

theorem o_split (d : Dev nD) (f : Vec F S136x8192 .f32) :
    (oLoc d ↦{fullShare} f : sProp 𝕄) = bigSep (Finset.univ : Finset (Fin 2)) fun c => bigSep (Finset.univ : Finset (Fin 16)) fun i => (oLoc d ↦[cols (tno c.val i.val)]{fullShare} f) := by
  have e1 : (oLoc d ↦{fullShare} f : sProp 𝕄) = (oLoc d ↦[Finset.univ.biUnion fun c : Fin 2 => ccols c.val]{fullShare} f) := by rw [ccols_cover]
  rw [e1, pointsTo_biUnion (ℓ := oLoc d) Finset.univ (fun c : Fin 2 => ccols c.val) fun c _ c' _ h => ccols_disjoint h]
  refine bigSep_congr fun c _ => ?_
  unfold ccols
  exact pointsTo_biUnion (ℓ := oLoc d) Finset.univ (fun i : Fin 16 => cols (tno c.val i.val)) fun i _ j _ h =>
    cols_disjoint fun e => h (Fin.ext (by unfold tno at e; omega))

/-- What the tasks hand back is the gathered array. -/
theorem dn_join (d : Dev nD) :
    (bigSep (Finset.univ : Finset (Fin 2)) fun c => DnP (Xm m) (Zm m) d c.val) = (oLoc d ↦{fullShare} OUT (Xm m d) (Zm m d) : sProp 𝕄) :=
  (o_split d _).symm

theorem st_split (d : Dev nD) (f : Vec F S136x8192 .f32) :
    iprop((xLoc d ↦{fullShare} Xm m d) ∗ (zLoc d ↦{fullShare} Zm m d) ∗ oLoc d ↦{fullShare} f)
      ⊢ (bigSep (Finset.univ : Finset (Fin 2)) fun c => StP (Xm m) (Zm m) d c.val : sProp 𝕄) := by
  unfold StP
  rw [BI.bigSep_sep', BI.bigSep_sep', o_split]
  iintro ⟨HX, HZ, HO⟩
  isplitl [HX]
  · iapply (bigSep_dup (XAny_dup (Xm m) d) Finset.univ)
    unfold XAny; iexists fullShare; iexact HX
  isplitl [HZ]
  · iapply (bigSep_dup (ZAny_dup (Zm m) d) Finset.univ)
    unfold ZAny; iexists fullShare; iexact HZ
  have h : (bigSep (Finset.univ : Finset (Fin 2)) fun c => bigSep (Finset.univ : Finset (Fin 16)) fun i => (oLoc d ↦[cols (tno c.val i.val)]{fullShare} f))
      ⊢ (bigSep (Finset.univ : Finset (Fin 2)) fun c => bigSep (Finset.univ : Finset (Fin 16)) fun i => OFr F d (tno c.val i.val) : sProp 𝕄) :=
    BI.bigSep_mono fun c _ => BI.bigSep_mono fun i _ => by
      unfold OFr; change (_ : sProp 𝕄) ⊢ _; iintro H; iexists f; iexact H
  iapply h; iexact HO

/-! ## The TensorCore call -/

abbrev EP : Emb UP (MT nD τ sig (HIx 1) (Elt F) ℕ (UU F) ℕ) := (Emb.inl : Emb UP (UP × (WmRA nD τ sig (Elt F) × Counters))).trans embR

/-- The ghost state the TensorCore call's pipeline starts from, on one device. -/
abbrev Gd (d : Dev nD) : sProp (MT nD τ sig (HIx 1) (Elt F) ℕ (UU F) ℕ) :=
  iprop(Pipeline.cellsGhost (Pipeline.pin (pcfgs (F := F)) adm) (EP (F := F)) 0 d ∗ Pipeline.toksInit (Pipeline.pin (pcfgs (F := F)) adm) (EP (F := F)) 0 d)

theorem tc_wp [∀ e, Nonempty (Elt F e)] (d : Dev nD) (Φ : PUnit → sProp 𝕄) :
    iprop((iprop(boundary (d.tc : Thread nD τ) ∗ StableHlo.held (d : Thread nD τ) (Pipeline.arrRefs spec1) (V4 m d) ∗ OwB d) -∗ Φ ⟨⟩)
        ∗ boundary (d.tc : Thread nD τ) ∗ (StableHlo.held (d : Thread nD τ) (Pipeline.arrRefs spec1) (V3 m d) ∗ OwB d)
        ∗ levAts (K (F := F)).L (K (F := F)).lev ∗ Gd d)
      ⊢ wp frame (wpE ((K (F := F)).defs (D (F := F))) 𝒱 (SparseCore.T d) none) Set.univ
          (Prog.lift (.customCall (SparseCore.inner (Pipeline.entry 0)) ())) Φ := by
  have hR := Pipeline.RegionSeg.wp (pcfgs (F := F)) adm (pdats (toV (V3 m))) (none : HIx 1) cellOf_inj (EP (F := F)) defs₀ 𝒱₀ (K (F := F)).L (K (F := F)).lev
    (reg (V3 m) (V4 m) (V4_v15 m) (V4_ne m)) d none (fun u hu => nomatch hu) (fun _ => .ret PUnit.unit) Φ
  have hL := (K (F := F)).wp_liftProg (D (F := F)) 𝒱 (SparseCore.T d) Set.univ none (.op (.customCall (Pipeline.entry 0) ()) fun _ => .ret PUnit.unit) Φ
  have e1 : (reg (V3 m) (V4 m) (V4_v15 m) (V4_ne m)).pre d = iprop(StableHlo.held (d : Thread nD τ) (Pipeline.arrRefs spec1) (V3 m d) ∗ OwB d) := rfl
  have e2 : (reg (V3 m) (V4 m) (V4_v15 m) (V4_ne m)).post d = iprop(StableHlo.held (d : Thread nD τ) (Pipeline.arrRefs spec1) (V4 m d) ∗ OwB d) := rfl
  rw [e1, e2] at hR
  refine BI.Entails.trans ?_ (hR.trans hL)
  change (_ : sProp 𝕄) ⊢ _
  iintro ⟨Hk, Hb, Hp, Hl, Hg⟩
  isplitl [Hk]
  · iintro H
    rw [wp_ret]
    imodintro
    iapply Hk; iexact H
  isplitl [Hb]; · iexact Hb
  isplitl [Hp]; · iexact Hp
  isplitl [Hl]; · iexact Hl
  iexact Hg

/-! ## @main on one device -/

theorem eqE {A B : sProp 𝕄} (h : A = B) : A ⊢ B := h ▸ BI.Entails.refl _

theorem held_T2 (d : Dev nD) (V : Valuation τ sig (Elt F)) :
    (StableHlo.held (d : Thread nD τ) T2 V : sProp 𝕄) = iprop((xLoc d ↦{fullShare} V (dR main_v0)) ∗ (zLoc d ↦{fullShare} V (dR main_v3))) := by
  unfold StableHlo.held
  rw [SparseCore.bigSep_insert' (by rw [Finset.mem_singleton]; exact StableHlo.devRef_ne_of_ne (by decide)), bigSep_singleton]

theorem held_v4 (d : Dev nD) (V : Valuation τ sig (Elt F)) :
    (StableHlo.held (d : Thread nD τ) ({dR main_v4} : Finset (DevRef τ sig)) V : sProp 𝕄) = (oLoc d ↦{fullShare} V (dR main_v4)) := by
  unfold StableHlo.held
  rw [bigSep_singleton]

/-- The unscoped arrays as the first call finds them, in three parts. -/
theorem held_before (d : Dev nD) :
    (StableHlo.held (d : Thread nD τ) (Pipeline.ucRefs τ sig) (V1 m d) : sProp 𝕄)
      = iprop(((xLoc d ↦{fullShare} Xm m d) ∗ (zLoc d ↦{fullShare} Zm m d)) ∗ (oLoc d ↦{fullShare} V1 m d (dR main_v4))
          ∗ StableHlo.held (d : Thread nD τ) R4 (V1 m d)) := by
  rw [StableHlo.held_sub_split (d : Thread nD τ) T2_sub (V1 m d), held_T2, StableHlo.held_sub_split (d : Thread nD τ) v4_sub (V1 m d), held_v4]
  rfl

/-- After it, without the two it kept. -/
theorem held_after (d : Dev nD) :
    (StableHlo.held (d : Thread nD τ) R3 (V2 m d) : sProp 𝕄)
      = iprop((oLoc d ↦{fullShare} OUT (Xm m d) (Zm m d)) ∗ StableHlo.held (d : Thread nD τ) R4 (V1 m d)) := by
  rw [StableHlo.held_sub_split (d : Thread nD τ) v4_sub (V2 m d), held_v4, V2_v4,
    StableHlo.held_congr (d : Thread nD τ) (S := R3 \ {dR main_v4}) (V := V2 m d) (V' := V1 m d) fun b hb =>
      V2_ne m d fun e => (Finset.mem_sdiff.mp hb).2 (Finset.mem_singleton.mpr e)]

theorem held_end (d : Dev nD) :
    (StableHlo.held (d : Thread nD τ) R3 (V4 m d) : sProp 𝕄)
      = iprop(StableHlo.held (d : Thread nD τ) (Pipeline.arrRefs spec1) (V4 m d) ∗ StableHlo.held (d : Thread nD τ) (R3 \ Pipeline.arrRefs spec1) (V3 m d)) := by
  rw [StableHlo.held_sub_split (d : Thread nD τ) arr_sub (V4 m d),
    StableHlo.held_congr (d : Thread nD τ) (S := R3 \ Pipeline.arrRefs spec1) (V := V4 m d) (V' := V3 m d) fun b hb => by
      refine Function.update_of_ne (fun e => (Finset.mem_sdiff.mp hb).2 ?_) ..
      rw [e]
      exact Finset.mem_map.mpr ⟨main_v15, Finset.mem_image.mpr ⟨5, Finset.mem_univ _, rfl⟩, rfl⟩]

abbrev FIN (d : Dev nD) : sProp (MT nD τ sig (HIx 1) (Elt F) ℕ (UU F) ℕ) := StableHlo.held (d : Thread nD τ) R3 (V4 m d)

theorem st0_eq (d : Dev nD) : (bigSep Finset.univ fun c : Fin ((K (F := F)).nCore 0) => (P (Xm m) (Zm m)).st 0 d c)
    = (bigSep (Finset.univ : Finset (Fin 2)) fun c => StP (Xm m) (Zm m) d c.val : sProp 𝕄) := rfl
theorem dn0_eq (d : Dev nD) : (bigSep Finset.univ fun c : Fin ((K (F := F)).nCore 0) => (P (Xm m) (Zm m)).dn 0 d c)
    = (oLoc d ↦{fullShare} OUT (Xm m d) (Zm m d) : sProp 𝕄) := dn_join m d

/-- The state after the one SparseCore call, opened: the core owes nothing. -/
theorem tcSt_open (d : Dev nD) : ∃ R : sProp 𝕄, (K (F := F)).tcSt EH d 1 = iprop(OwB d ∗ R) := by
  unfold SparseCore.Cfg.tcSt
  rw [(K (F := F)).Otc_end d (Nat.le_refl 1)]
  exact ⟨_, rfl⟩

theorem run_k (κ : GSem nD τ sig → ℕ) (d : Dev nD) (k : PUnit → Prog (TpuEff nD τ sig (Elt F) (SparseCore.Sig (ΛP (F := F)) 1) .tc) PUnit) (Φ : PUnit → sProp 𝕄) :
    iprop((K (F := F)).ctx EH (P (Xm m) (Zm m)) κ ∗ (K (F := F)).tcSt EH d 0
        ∗ (bigSep Finset.univ fun c : Fin ((K (F := F)).nCore 0) => (P (Xm m) (Zm m)).st 0 d c)
        ∗ (((K (F := F)).tcSt EH d 1 ∗ bigSep Finset.univ fun c : Fin ((K (F := F)).nCore 0) => (P (Xm m) (Zm m)).dn 0 d c)
            -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ ((K (F := F)).run d 0 >>= k) Φ := by
  rw [wp_bind]
  exact (K (F := F)).wp_run (D (F := F)) 𝒱 (EH := EH) (P := P (Xm m) (Zm m)) κ d 0 (Φ := fun a => wp frame (wpE ((K (F := F)).defs (D (F := F))) 𝒱 (SparseCore.T d) none) Set.univ (k a) Φ)

theorem hmain [∀ e, Nonempty (Elt F e)] (κ : GSem nD τ sig → ℕ) (d : Dev nD) :
    iprop((K (F := F)).ctx EH (P (Xm m) (Zm m)) κ ∗ (K (F := F)).tcSt EH d 0 ∗ (K (F := F)).tcRes m ρ d ∗ Gd d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq]
  have hu : (unscopedBufs d (fun b => m ((SparseCore.T d).loc b)) : sProp 𝕄) = StableHlo.held (d : Thread nD τ) (Pipeline.ucRefs τ sig) (V0 m d) :=
    Pipeline.unscopedBufs_held d (V0 m d)
  rw [hu]
  obtain ⟨R, hR⟩ := tcSt_open (F := F) d
  iintro ⟨#Hctx, Hst, ⟨Hb, Hh, Hts, -⟩, Hg⟩
  have h1 := fun (k : PUnit → Prog _ PUnit) (Φ : PUnit → sProp 𝕄) => StableHlo.wp_seq (defs := (K (F := F)).defs (D (F := F))) (𝒱 := 𝒱) (bd := none) (E := Set.univ) d (Pipeline.ucRefs τ sig) k (K := Φ) ops1 ops1_sub ops1_fresh (V0 m d)
  have h2 := fun (k : PUnit → Prog _ PUnit) (Φ : PUnit → sProp 𝕄) => StableHlo.wp_seq (defs := (K (F := F)).defs (D (F := F))) (𝒱 := 𝒱) (bd := none) (E := Set.univ) d R3 k (K := Φ) ops2 ops2_sub ops2_fresh (V2 m d)
  iapply (h1 _ _) $$ [Hb Hh]
  · isplitl [Hb] <;> iassumption
  iintro ⟨Hb, Hh⟩
  ihave Hh' := (show StableHlo.held (d : Thread nD τ) (Pipeline.ucRefs τ sig) (StableHlo.after ops1 (V0 m d)) ⊢ _ from eqE (held_before m d)) $$ Hh
  icases Hh' with ⟨⟨HX, HZ⟩, HO, Hrest⟩
  iapply (run_k m κ d _ _)
  isplitr; · iexact Hctx
  isplitl [Hst]; · iexact Hst
  isplitl [HX HZ HO]
  · rw [st0_eq]
    iapply (st_split m d (V1 m d (dR main_v4)))
    isplitl [HX]; · iexact HX
    isplitl [HZ]; · iexact HZ
    iexact HO
  iintro ⟨Hst, Hdn⟩
  ihave Hdn' := (eqE (dn0_eq m d)) $$ Hdn
  iapply (h2 _ _) $$ [Hb Hdn' Hrest]
  · isplitl [Hb]; · iexact Hb
    rw [held_after]
    isplitl [Hdn'] <;> iassumption
  iintro ⟨Hb, Hh⟩
  ihave Hh' := (show StableHlo.held (d : Thread nD τ) R3 (StableHlo.after ops2 (V2 m d)) ⊢ _ from eqE (StableHlo.held_sub_split (d : Thread nD τ) arr_sub (V3 m d))) $$ Hh
  icases Hh' with ⟨Ha, Hrest⟩
  ihave Hst' := (show (K (F := F)).tcSt EH d 1 ⊢ iprop(OwB d ∗ R) from eqE hR) $$ Hst
  icases Hst' with ⟨HO, HR⟩
  ihave Hlev := (SparseCore.Cfg.ctx_levAts (K := K (F := F)) κ) $$ Hctx
  iapply (tc_wp m d _)
  isplitl [Hts Hrest HR]
  · iintro ⟨Hb, Ha, HO⟩
    rw [hR, show FIN m d = _ from held_end m d]
    isplitl [HO HR]
    · isplitl [HO] <;> iassumption
    isplitl [Ha Hrest]
    · isplitl [Ha] <;> iassumption
    isplitl [Hb] <;> iassumption
  isplitl [Hb]; · iexact Hb
  isplitl [Ha HO]
  · isplitl [Ha] <;> iassumption
  isplitl [Hlev]; · iexact Hlev
  iexact Hg

/-! ## The launch's ghost state -/

abbrev hinj : Function.Injective (Pipeline.cellOf (nD := nD) (τ := τ) (Pipeline.pin (pcfgs (F := F)) adm)) := cellOf_inj

def uP : UP := initOf (Pipeline.cells (nD := nD) (τ := τ) (Pipeline.pin (pcfgs (F := F)) adm) hinj) (Pipeline.launchToks (Pipeline.pin (pcfgs (F := F)) adm) hinj)

def u₀ : UU F := (initOf (K (F := F)).hsCells (K (F := F)).hsToks, (uP (F := F), (wm₀ nD τ sig (Elt F), 1)))

theorem dup_all {I : Type} [DecidableEq I] {A : sProp 𝕄} [BI.Persistent A] (s : Finset I) : A ⊢ bigSep s fun _ => A :=
  bigSep_dup (by iintro #H; isplitl <;> iexact H) s

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P (Xm m) (Zm m)).x q thr) := by
  unfold u₀
  iintro Hu
  ihave H := (ownU_pair (initOf (K (F := F)).hsCells (K (F := F)).hsToks) (uP (F := F), (wm₀ nD τ sig (Elt F), (1 : Counters)))) $$ Hu
  icases H with ⟨HH, HR⟩
  ihave H := (own_pair_emb (embR : Emb _ 𝕄) (uP (F := F)) (wm₀ nD τ sig (Elt F), (1 : Counters))) $$ HR
  icases H with ⟨HP, HR⟩
  ihave H := (own_pair_emb ((Emb.inr : Emb _ (UP × (WmRA nD τ sig (Elt F) × Counters))).trans (embR : Emb _ 𝕄)) (wm₀ nD τ sig (Elt F)) (1 : Counters)) $$ HR
  icases H with ⟨HW, -⟩
  have hW : (BI.own (((Emb.inl : Emb (WmRA nD τ sig (Elt F)) (WmRA nD τ sig (Elt F) × Counters)).trans ((Emb.inr : Emb _ (UP × (WmRA nD τ sig (Elt F) × Counters))).trans (embR : Emb _ 𝕄))) (wm₀ nD τ sig (Elt F))) : sProp 𝕄)
      ⊢ |={Set.univ}=> iprop(∃ ι : ℕ, ⌜ι ∉ (∅ : Finset ℕ)⌝ ∧ wmInv (Ix := HIx 1) (Lvl := ℕ) (EW (F := F)) ι) :=
    wmInv_alloc (emb := EW (F := F)) ⟨m, fun _ => 0, fun _ => Classical.arbitrary _⟩
  have hP : (BI.own (EP (F := F) (uP (F := F))) : sProp 𝕄) ⊢ iprop(|==> ((bigSep Finset.univ fun c : Dev nD => bigSep Finset.univ fun p => Pipeline.cellsGhost (Pipeline.pin (pcfgs (F := F)) adm) (EP (F := F)) p c)
          ∗ (bigSep Finset.univ fun c : Dev nD => bigSep Finset.univ fun p => (Pipeline.toksInit (Pipeline.pin (pcfgs (F := F)) adm) (EP (F := F)) p c : sProp 𝕄)))) :=
    Pipeline.fund_ghost _ _ hinj
  imod hW $$ HW with ⟨%ι, -, #Hwm⟩
  imod hP $$ HP with ⟨Hc, Ht⟩
  imodintro
  isplitl [HH]; · iexact HH
  isplitl [Hc Ht]
  · rw [bigSep_sep']
    isplitl [Hc]
    · iapply (eqE (bigSep_congr fun c _ => bigSep_univ_of_subsingleton (0 : Fin 1))) $$ Hc
    · iapply (eqE (bigSep_congr fun c _ => bigSep_univ_of_subsingleton (0 : Fin 1))) $$ Ht
  have hx : (WmE F : sProp 𝕄) ⊢ bigSep Finset.univ fun thr : Thread nD τ => bigSep Finset.univ fun q : Fin 1 => (P (Xm m) (Zm m)).x q thr :=
    BI.Entails.trans (dup_all Finset.univ) (BI.bigSep_mono fun _ _ => dup_all Finset.univ)
  iapply hx
  unfold WmE
  iexists ι
  iexact Hwm

/-! ## The run -/

def fq (d : Dev nD) (s' : Phys nD τ sig (Elt F)) : Prop := ∀ b : DevRef τ sig, b ∈ R3 → s'.mem.mem (d, b) = V4 m d b

theorem hfin (d : Dev nD) (s' : Phys nD τ sig (Elt F)) : iprop(FIN m d ∗ SI s') ⊢ (⌜fq m d s'⌝ : sProp 𝕄) := by
  have h : ∀ b : DevRef τ sig, iprop(FIN m d ∗ SI s') ⊢ (⌜b ∈ R3 → s'.mem.mem (d, b) = V4 m d b⌝ : sProp 𝕄) := fun b => by
    by_cases hb : b ∈ R3
    · have he : FIN m d ⊢ ((((d, b) : Loc nD τ sig) ↦{fullShare} V4 m d b) : sProp 𝕄) :=
        BI.bigSep_elim (Φ := fun b : DevRef τ sig => (((d, b) : Loc nD τ sig) ↦{fullShare} V4 m d b : sProp 𝕄)) hb
      iintro ⟨H, HSI⟩
      ihave H' := he $$ H
      ihave H'' := (SI_pointsTo_agree (st := s') (ℓ := ((d, b) : Loc nD τ sig)) (I := Finset.univ) (q := fullShare) (f := V4 m d b)) $$ [HSI H']
      · isplitl [HSI] <;> iassumption
      icases H'' with %h
      ipureintro
      exact fun _ => funext fun i => h i (Finset.mem_univ i)
    · iintro -
      ipureintro
      exact fun h => absurd h hb
  exact BI.Entails.trans (BIClass.forall_intro h) (pure_forall (PROP := sProp 𝕄)).2

def QC : PUnit × MemSt nD τ sig (Elt F) → Prop := fun r => (∀ (d : Dev nD) (b : DevRef τ sig), b ∈ R3 → r.2.mem (d, b) = V4 m d b) ∧ r.2.sem = fun _ => 0

theorem run_main [∀ e, Nonempty (Elt F e)] (hpre : PreOK (Xm m) (Zm m)) :
    θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH) (P := P (Xm m) (Zm m)) (A := ∅) facts v₀
    (fun q hq => match q with | 0 => nomatch hq)
    (fun q _ => match q with | 0 => tileObl (Xm m) (Zm m) facts hpre)
    (fun q _ => match q with | 0 => SparseCore.Cfg.VecSplit.of_plain (vecSplit (Xm m) (Zm m)))
    m ρ main (Gd (F := F)) (FIN m) (u₀ (F := F)) (sep_elim_left.trans (hu₀ m)) (hmain m ρ) (fq m) (hfin m) (QC m) (fun _ h hz => ⟨h, hz⟩)

end Cert.Kernel.Main

end
-- ==== Proof.Range.lean ====
/-
  The index ranges: the precondition's word, read back as bounds on each start index.
-/
module

public import proofs.«01_k».proof.Defs
public import Idealize.ShloMosaic.Lib.ReduceAll
public import Idealize.ShloMosaic.Lib.StableHlo.Predicate
public import Idealize.ShloMosaic.Lib.ValueLayout
public import Idealize.ShloMosaic.Lib.Pipeline.Value

@[expose] public section

noncomputable section

namespace Cert.Proof.Range

open Idealize.ShloMosaic
open Cert.Pre_in_range (S32x256 S256 S_)

/-- The position of point `p` of batch `b` in an index array. -/
abbrev at2 (b : Fin 32) (p : Fin 256) : S32x256.Idx := ValueIdx.ix2 b p

/-- Both start indices in their ranges, and the last batch's patch not in the array's last corner. -/
structure Ok (sl sc : IVec S32x256 32) : Prop where
  l : ∀ i, (sl i).toNat ≤ 8184
  c : ∀ i, (sc i).toNat ≤ 112
  e : ∀ p : Fin 256, (sl (at2 31 p)).toNat < 8184 ∨ (sc (at2 31 p)).toNat < 112

theorem le_of_words (x : BitVec 32) (n : ℕ) (hn : n < 2 ^ 31) (h0 : IntOp.cmpi .sge x 0#32 = 1#1) (h1 : IntOp.cmpi .sle x (BitVec.ofNat 32 n) = 1#1) : x.toNat ≤ n := by
  have a := IntOp.cmpi_sge.1 h0
  have b := IntOp.cmpi_sle.1 h1
  rw [StableHlo.Predicate.toInt_ofNat_small n hn] at b
  rw [show (0#32 : BitVec 32).toInt = 0 from by decide] at a
  rw [BitVec.toInt_eq_toNat_cond] at a b
  split_ifs at * <;> omega

theorem lt_of_words (x : BitVec 32) (n : ℕ) (hn : n < 2 ^ 31) (hx : x.toNat < 2 ^ 31) (h1 : IntOp.cmpi .slt x (BitVec.ofNat 32 n) = 1#1) : x.toNat < n := by
  have b := IntOp.cmpi_slt.1 h1
  rw [StableHlo.Predicate.toInt_ofNat_small n hn, StableHlo.Predicate.toInt_eq_toNat_of_lt hx] at b
  omega

theorem or_one (a b : BitVec 1) (h : IntOp.ori a b = 1#1) : a = 1#1 ∨ b = 1#1 := by
  revert h; revert a b; decide

instance : Subsingleton S_.Idx := ⟨fun a b => funext fun i => i.elim0⟩

variable [Cert.Pre_in_range.Facts]

theorem row31 (v : IVec S32x256 32) (p : Fin 256) :
    shapeCast S256 ((extractStridedSlice Cert.Pre_in_range.S1x256 ![31, 0] · Cert.Pre_in_range.Facts.slices_S32x256_S1x256_31_0) v)
      Cert.Pre_in_range.Facts.shapeCasts_S1x256_S256 (ValueIdx.ix1 p) = v (at2 31 p) := by
  refine (ValueIdx.shapeCast_1a_a_apply _ _ p).trans ?_
  refine extractStridedSlice_apply _ _ _ _ _ ?_
  intro a
  match a with
  | ⟨0, _⟩ => rfl
  | ⟨1, _⟩ => show p.val = 0 + p.val; omega

theorem ok {F : FTy → Type} [FloatOps F] (a0) (sl sc : IVec S32x256 32) (a3 a4 a5 a6)
    (h : ∀ i, Cert.Pre_in_range.fn (F := F) a0 sl sc a3 a4 a5 a6 i = 1#1) : Ok sl sc := by
  have h := h (fun i => i.elim0)
  unfold Cert.Pre_in_range.fn Cert.Pre_in_range.fn_part1 at h
  obtain ⟨h, he⟩ := IntOp.andi_eq_one.1 h
  obtain ⟨h, h4⟩ := IntOp.andi_eq_one.1 h
  obtain ⟨h, h3⟩ := IntOp.andi_eq_one.1 h
  obtain ⟨h1, h2⟩ := IntOp.andi_eq_one.1 h
  have l : ∀ i, (sl i).toNat ≤ 8184 := fun i =>
    le_of_words _ _ (by omega) (Host.reduce_andi_all _ _ _ _ _ h1 i) (Host.reduce_andi_all _ _ _ _ _ h2 i)
  have c : ∀ i, (sc i).toNat ≤ 112 := fun i =>
    le_of_words _ _ (by omega) (Host.reduce_andi_all _ _ _ _ _ h3 i) (Host.reduce_andi_all _ _ _ _ _ h4 i)
  refine ⟨l, c, fun p => ?_⟩
  have q := or_one _ _ (Host.reduce_andi_all _ _ _ _ _ he (ValueIdx.ix1 p))
  rcases q with q | q
  · refine .inl (lt_of_words _ 8184 (by omega) (lt_of_le_of_lt (l _) (by omega)) ?_)
    rw [← row31 sl p]; exact q
  · refine .inr (lt_of_words _ 112 (by omega) (lt_of_le_of_lt (c _) (by omega)) ?_)
    rw [← row31 sc p]; exact q

end Cert.Proof.Range

end
-- ==== Proof.KPre.lean ====
/-
  From the index ranges to the run: what the first call finds in its two arrays, the gather's rows inside the table,
  and the arguments unchanged at the end.
-/
module

public import proofs.«01_k».proof.Proof.KMain
public import proofs.«01_k».proof.Proof.Range

@[expose] public section

noncomputable section

namespace Cert.Kernel.Main

open Cert.Kernel Cert.Kernel.Gen Cert.Kernel.Tile Cert.Kernel.Tc
open Idealize.ShloMosaic Idealize.ShloMosaic.TcCoe Idealize.ShloMosaic.StableHlo
open Idealize.SL.Sem

variable {F : FTy → Type} [FloatOps F]
variable (m : (ℓ : Loc nD τ sig) → Buf (Elt F) ℓ) (ρ : Dev nD → PrngReg)

/-! ## The two arrays the first call reads -/

abbrev a0 (d : Dev nD) : Vec F S32x8192x128 .f32 := m (d, dR main_arg0)
abbrev a1 (d : Dev nD) : IVec S32x256 32 := m (d, dR main_arg1)
abbrev a2 (d : Dev nD) : IVec S32x256 32 := m (d, dR main_arg2)

theorem Xm_eq (d : Dev nD) : Xm m d = shapeCast S2097152x16 (a0 m d) shapeCasts_S32x8192x128_S2097152x16 := by
  unfold Xm V1 ops1
  after_results_simp
  rfl

theorem Zm_eq (d : Dev nD) : Zm m d = concatenate S16384 0
    [⟨S8192, shapeCast S8192 (a1 m d) shapeCasts_S32x256_S8192⟩, ⟨S8192, shapeCast S8192 (a2 m d) shapeCasts_S32x256_S8192⟩]
    concatenates_S8192_S8192_S16384_d0 := by
  unfold Zm V1 ops1
  after_results
  rfl

theorem zl (d : Dev nD) (w : Fin 32) (p : Fin 256) : zAt (F := F) (Zm m d) (256 * w.val + p.val) = a1 m d (Cert.Proof.Range.at2 w p) := by
  have hw := w.isLt
  have hp := p.isLt
  rw [Zm_eq]
  unfold zAt
  refine (concatenate_pair_apply_left (s₁ := S8192) (s₂ := S8192) (t := S16384) _ _ _ _ _ rfl (ValueIdx.ix1 ⟨256 * w.val + p.val, by omega⟩) ?_).trans ?_
  · intro b
    match b with
    | ⟨0, _⟩ => show 256 * w.val + p.val = (256 * w.val + p.val) % 16384; omega
  · refine shapeCast_apply _ _ _ _ ?_
    rw [Shape.rowMajor_val_two, Shape.rowMajor_val_one]
    show w.val * 256 + p.val = 256 * w.val + p.val
    omega

theorem zc (d : Dev nD) (w : Fin 32) (p : Fin 256) : zAt (F := F) (Zm m d) (8192 + 256 * w.val + p.val) = a2 m d (Cert.Proof.Range.at2 w p) := by
  have hw := w.isLt
  have hp := p.isLt
  rw [Zm_eq]
  unfold zAt
  refine (concatenate_pair_apply_right (s₁ := S8192) (s₂ := S8192) (t := S16384) _ _ _ _ _ rfl rfl (ValueIdx.ix1 ⟨256 * w.val + p.val, by omega⟩) ?_ ?_).trans ?_
  · intro b hb
    match b with
    | ⟨0, _⟩ => exact absurd rfl hb
  · show 256 * w.val + p.val + 8192 = (8192 + 256 * w.val + p.val) % 16384; omega
  · refine shapeCast_apply _ _ _ _ ?_
    rw [Shape.rowMajor_val_two, Shape.rowMajor_val_one]
    show w.val * 256 + p.val = 256 * w.val + p.val
    omega

/-! ## The rows gathered are rows of the table -/

variable (hok : ∀ d, Cert.Proof.Range.Ok (a1 m d) (a2 m d))

theorem gb_toNat (x y : BitVec 32) (w : ℕ) (hw : w < 32) (hx : x.toNat ≤ 8184) (hy : y.toNat ≤ 112) :
    (((BitVec.ofNat 32 w * 1048576#32) + x * 128#32 + y).sshiftRight 4).toNat = 65536 * w + 8 * x.toNat + y.toNat / 16 := by
  have h : ((BitVec.ofNat 32 w * 1048576#32) + x * 128#32 + y).toNat = 1048576 * w + 128 * x.toNat + y.toNat := by
    simp only [BitVec.toNat_add, BitVec.toNat_mul, BitVec.toNat_ofNat]
    omega
  have hm : ((BitVec.ofNat 32 w * 1048576#32) + x * 128#32 + y).msb = false := by
    rw [BitVec.msb_eq_false_iff_two_mul_lt]; omega
  rw [BitVec.sshiftRight_eq_of_msb_false hm, BitVec.toNat_ushiftRight, h, Nat.shiftRight_eq_div_pow]
  omega

include hok in
theorem gw_toNat (d : Dev nD) (w : Fin 32) (k : ℕ) (p : Fin 256) (hk : k < 16) :
    (gw (inOf (Xm m d) (Zm m d) w.val) k p.val).toNat
      = 65536 * w.val + 8 * (a1 m d (Cert.Proof.Range.at2 w p)).toNat + (a2 m d (Cert.Proof.Range.at2 w p)).toNat / 16 + (8 * (k / 2) + k % 2) := by
  have hx := (hok d).l (Cert.Proof.Range.at2 w p)
  have hy := (hok d).c (Cert.Proof.Range.at2 w p)
  unfold gw gb inOf
  dsimp only
  rw [zl, zc, BitVec.toNat_add, gb_toNat _ _ _ w.isLt hx hy, BitVec.toNat_ofNat]
  have := w.isLt
  omega

include hok in
theorem pre_ok : PreOK (Xm m) (Zm m) := fun d w hw k p hk hp => by
  rw [gw_toNat m hok d ⟨w, hw⟩ k ⟨p, hp⟩ hk]
  have hx := (hok d).l (Cert.Proof.Range.at2 ⟨w, hw⟩ ⟨p, hp⟩)
  have hy := (hok d).c (Cert.Proof.Range.at2 ⟨w, hw⟩ ⟨p, hp⟩)
  have he : w = 31 → (a1 m d (Cert.Proof.Range.at2 ⟨w, hw⟩ ⟨p, hp⟩)).toNat < 8184 ∨ (a2 m d (Cert.Proof.Range.at2 ⟨w, hw⟩ ⟨p, hp⟩)).toNat < 112 := by
    rintro rfl; exact (hok d).e ⟨p, hp⟩
  generalize (a1 m d (Cert.Proof.Range.at2 ⟨w, hw⟩ ⟨p, hp⟩)).toNat = x at *
  generalize (a2 m d (Cert.Proof.Range.at2 ⟨w, hw⟩ ⟨p, hp⟩)).toNat = y at *
  show 65536 * w + 8 * x + y / 16 + (8 * (k / 2) + k % 2) < 2097152
  have := he
  omega

/-! ## The arguments keep their contents -/

theorem keep1 (d : Dev nD) (b : Ref sig .tc) (hb : b ∉ ([main_v0, main_v1, main_v2, main_v3] : List (Ref sig .tc))) : V1 m d (dR b) = m (d, dR b) :=
  StableHlo.after_of_writes_sub (W := [main_v0, main_v1, main_v2, main_v3]) ops1 (V0 m d) (by
    simp only [ops1, List.forall_cons, List.Forall, StableHlo.binary_writes, StableHlo.reshape_writes]
    decide) hb

theorem keep3 (d : Dev nD) (b : Ref sig .tc)
    (hb : b ∉ ([main_v5, main_v6, main_v7, main_v8, main_cst, main_v9, main_v10, main_v11, main_v12, main_v13, main_v14] : List (Ref sig .tc))) :
    V3 m d (dR b) = V2 m d (dR b) :=
  StableHlo.after_of_writes_sub (W := [main_v5, main_v6, main_v7, main_v8, main_cst, main_v9, main_v10, main_v11, main_v12, main_v13, main_v14]) ops2 (V2 m d) (by
    simp only [ops2, List.forall_cons, List.Forall, StableHlo.binary_writes, StableHlo.unary_writes, StableHlo.nullary_writes, StableHlo.reshape_writes]
    decide) hb

theorem keep (d : Dev nD) (b : Ref sig .tc)
    (h1 : b ∉ ([main_v0, main_v1, main_v2, main_v3] : List (Ref sig .tc)))
    (h3 : b ∉ ([main_v5, main_v6, main_v7, main_v8, main_cst, main_v9, main_v10, main_v11, main_v12, main_v13, main_v14] : List (Ref sig .tc)))
    (h2 : b ≠ main_v4) (h4 : b ≠ main_v15) : V4 m d (dR b) = m (d, dR b) :=
  (V4_ne m d b h4).trans ((keep3 m d b h3).trans ((V2_ne m d (StableHlo.devRef_ne_of_ne h2)).trans (keep1 m d b h1)))

include hok in
/-- The run: each argument keeps its contents, the result holds what the layers give of the gathered columns, and no
semaphore is left counting. -/
theorem run [∀ e, Nonempty (Elt F e)] :
    θ_run (Cert.Kernel.defs (F := F)) (Cert.Kernel.threads (F := F)) ⟨m, fun _ => 0, ρ⟩ (QC m) := run_main m ρ (pre_ok m hok)

theorem kept {r : PUnit × MemSt nD τ sig (Elt F)} (h : QC m r) (d : Dev nD) (b : Ref sig .tc) (hs : b.isScoped = false)
    (h1 : b ∉ ([main_v0, main_v1, main_v2, main_v3] : List (Ref sig .tc)))
    (h3 : b ∉ ([main_v5, main_v6, main_v7, main_v8, main_cst, main_v9, main_v10, main_v11, main_v12, main_v13, main_v14] : List (Ref sig .tc)))
    (h2 : b ≠ main_v4) (h4 : b ≠ main_v15) : r.2.mem (d, dR b) = m (d, dR b) :=
  (h.1 d (dR b) (mem_R3 b hs (fun e => h1 (e.symm ▸ List.mem_cons_self ..)) (fun e => h1 (e.symm ▸ (by decide : main_v3 ∈ _))))).trans (keep m d b h1 h3 h2 h4)

end Cert.Kernel.Main

namespace Cert.Kernel

open Cert.Kernel.Gen Cert.Kernel.Main
open Idealize.ShloMosaic Idealize.ShloMosaic.TcCoe
open Idealize.SL.Sem

theorem ok [Cert.Pre_in_range.Facts] (m : (ℓ : Loc nD τ sig) → Buf (Elt Bits) ℓ) (h : Cert.Pre_Kernel m) (d : Dev nD) :
    Cert.Proof.Range.Ok (a1 m d) (a2 m d) := Cert.Proof.Range.ok (F := Bits) _ _ _ _ _ _ _ (fun i => congrFun (h d) i)

theorem frame [Cert.Pre_in_range.Facts] : Cert.quiescent_Kernel := fun m g hm =>
  (θ_run (Cert.Kernel.defs (F := Bits)) (Cert.Kernel.threads (F := Bits)) ⟨m, fun _ => 0, g⟩).mono
    (fun r h => ⟨fun c => ⟨kept m h c main_arg0 (by decide) (by decide) (by decide) (by decide) (by decide),
      kept m h c main_arg1 (by decide) (by decide) (by decide) (by decide) (by decide),
      kept m h c main_arg2 (by decide) (by decide) (by decide) (by decide) (by decide),
      kept m h c main_arg3 (by decide) (by decide) (by decide) (by decide) (by decide),
      kept m h c main_arg4 (by decide) (by decide) (by decide) (by decide) (by decide),
      kept m h c main_arg5 (by decide) (by decide) (by decide) (by decide) (by decide),
      kept m h c main_arg6 (by decide) (by decide) (by decide) (by decide) (by decide)⟩, h.2⟩)
    (run m g (fun d => ok m hm d))

end Cert.Kernel

end
-- ==== Proof.IPre.lean ====
/-
  The program over the extended reals is the kernel's program read over the extended reals, so its runs are the
  kernel's: its arguments unchanged at the end.
-/
module

public import proofs.«01_k».proof.Proof.KPre
public import proofs.«01_k».proof.Proof.Gen.KernelIdeal
public import proofs.«01_k».proof.Defs

@[expose] public section

noncomputable section

namespace Cert.KernelIdeal

open Cert.Kernel.Main
open Idealize.ShloMosaic Idealize.ShloMosaic.TcCoe
open Idealize.SL.Sem

/-! ## One program -/

set_option maxRecDepth 65536 in
theorem defs₀_eq : @Cert.KernelIdeal.defs₀ Ideal _ _ = @Cert.Kernel.defs₀ Ideal _ _ := by
  funext p ℓ a
  match p, ℓ, a with
  | .tc, 0, a => rfl
  | .tc, 1, (t, s) => rfl
  | .scScalar c, 0, a => rfl
  | .scScalar c, 1, a => rfl
  | .scVector c s, 0, a => rfl
  | .scVector c s, 1, a => rfl

theorem defs_eq : @Cert.KernelIdeal.defs Ideal _ _ = @Cert.Kernel.defs Ideal _ _ :=
  congrArg (fun D => (Cert.Kernel.sc (F := Ideal)).defs (Pipeline.defs (Cert.Kernel.pcfgs (F := Ideal)) D)) defs₀_eq

theorem threads_eq : Cert.KernelIdeal.threads (F := Ideal) = Cert.Kernel.threads (F := Ideal) := rfl

/-- A run of the kernel's program is a run of this one. -/
theorem of_run {σ : MemSt Cert.Kernel.nD Cert.Kernel.τ Cert.Kernel.sig (Elt Ideal)}
    {Q : PUnit × MemSt Cert.Kernel.nD Cert.Kernel.τ Cert.Kernel.sig (Elt Ideal) → Prop}
    (h : θ_run (Cert.Kernel.defs (F := Ideal)) (Cert.Kernel.threads (F := Ideal)) σ Q) :
    θ_run (Cert.KernelIdeal.defs (F := Ideal)) (Cert.KernelIdeal.threads (F := Ideal)) σ Q :=
  (congrArg (fun D => θ_run D (Cert.Kernel.threads (F := Ideal)) σ Q) defs_eq).mpr h

/-! ## The run -/

theorem ok [Cert.Pre_in_range.Facts] (m : (ℓ : Loc nD τ sig) → Buf (Elt Ideal) ℓ) (h : Cert.Pre_KernelIdeal m) (d : Dev nD) :
    Cert.Proof.Range.Ok (a1 (F := Ideal) m d) (a2 (F := Ideal) m d) := Cert.Proof.Range.ok (F := Ideal) _ _ _ _ _ _ _ (fun i => congrFun (h d) i)

theorem frame [Cert.Pre_in_range.Facts] : Cert.quiescent_KernelIdeal := fun m g hm =>
  of_run ((θ_run (Cert.Kernel.defs (F := Ideal)) (Cert.Kernel.threads (F := Ideal)) ⟨m, fun _ => 0, g⟩).mono
    (fun r h => ⟨fun c => ⟨kept m h c Cert.Kernel.main_arg0 (by decide) (by decide) (by decide) (by decide) (by decide),
      kept m h c Cert.Kernel.main_arg1 (by decide) (by decide) (by decide) (by decide) (by decide),
      kept m h c Cert.Kernel.main_arg2 (by decide) (by decide) (by decide) (by decide) (by decide),
      kept m h c Cert.Kernel.main_arg3 (by decide) (by decide) (by decide) (by decide) (by decide),
      kept m h c Cert.Kernel.main_arg4 (by decide) (by decide) (by decide) (by decide) (by decide),
      kept m h c Cert.Kernel.main_arg5 (by decide) (by decide) (by decide) (by decide) (by decide),
      kept m h c Cert.Kernel.main_arg6 (by decide) (by decide) (by decide) (by decide) (by decide)⟩, h.2⟩)
    (run m g (fun d => ok m hm d)))

end Cert.KernelIdeal

end
-- ==== Proof.RFrame.lean ====
/-
  The reference's frame, from its run: it has no semaphores.
-/
module

public import proofs.«01_k».proof.Defs
public import proofs.«01_k».proof.Proof.Gen.ReferenceIdeal
public import proofs.«01_k».proof.Proof.Gen.ReferenceIdeal.Run
public import Idealize.ShloMosaic.Lib.Quiescent

@[expose] public section

noncomputable section

namespace Cert.ReferenceIdeal

open Cert.ReferenceIdeal.Gen
open Idealize.ShloMosaic Idealize.ShloMosaic.TcCoe
open Idealize.SL.Sem

theorem frame : Cert.quiescent_ReferenceIdeal := fun m g _ =>
  (θ_run (Cert.ReferenceIdeal.defs (F := Ideal)) (onTc (τ := τ) (Cert.ReferenceIdeal.main (F := Ideal))) ⟨m, fun _ => 0, g⟩).mono
    (fun r h => ⟨fun c => (h c).2, sem_eq_zero_of_no_sems (by decide) r.2⟩)
    (Cert.ReferenceIdeal.Value.run m g)

theorem pre_facts : Cert.Pre_in_range.Facts := ⟨by decide, by decide, by decide, by decide, by decide, by decide, by decide⟩

end Cert.ReferenceIdeal

end
-- ==== Proof.KVal.lean ====
/-
  The kernel's result read at an index: the gathered columns, the rearranged weights and the two dense layers.
-/
module

public import proofs.«01_k».proof.Proof.KPre
public import Idealize.ShloMosaic.Lib.Pointwise
public import Idealize.ShloMosaic.Lib.IdealHost
public import Idealize.ShloMosaic.Lib.Pipeline.Value

@[expose] public section

noncomputable section

namespace Cert.Kernel.Main

open Cert.Kernel.Gen Cert.Kernel.Tile
open Idealize.ShloMosaic hiding ix1 ix2 ix3 ix4 ix5
open Idealize.ShloMosaic.TcCoe
open Idealize.ShloMosaic.StableHlo
open Idealize.SL.Sem
open ValueIdx (ix1 ix2 ix3 ix4 ix5)

/-! ## The two layers at an index -/

/-- A point's number among all batches' points. -/
def pnt (b : Fin 32) (p : Fin 256) : Fin 8192 := ⟨256 * b.val + p.val, by have := b.isLt; have := p.isLt; omega⟩

/-- The first layer before its activation. -/
def acc (v0 : Vec Ideal S136x8192 .f32) (v2 : Vec Ideal S136x64 .f32) (v5 : Vec Ideal S1x64 .f32) (n : Fin 8192) (d : Fin 64) : EReal :=
  (∑ u : Fin 136, v0 (ix2 u n) * v2 (ix2 u d)) + v5 (ix2 0 d)

theorem pay_apply (v0 : Vec Ideal S136x8192 .f32) (v2 : Vec Ideal S136x64 .f32) (v5 : Vec Ideal S1x64 .f32) (v11 : Vec Ideal S64x64 .f32)
    (v14 : Vec Ideal S1x64 .f32) (b : Fin 32) (p : Fin 256) (d : Fin 64) :
    k1_pay1 v0 v2 v5 v11 v14 (ix3 b p d)
      = ((∑ k : Fin 64, (acc v0 v2 v5 (pnt b p) k * Ideal.logistic (acc v0 v2 v5 (pnt b p) k)) * v11 (ix2 k d)) + v14 (ix2 0 d) : EReal) := by
  unfold k1_pay1
  rw [shapeCast_apply _ _ _ (ix2 (pnt b p) d) (by
    rw [Shape.rowMajor_val_two, Shape.rowMajor_val_three]
    show (256 * b.val + p.val) * 64 + d.val = (b.val * 256 + p.val) * 64 + d.val
    omega)]
  pointwise
  rfl

variable (m : (ℓ : Loc nD τ sig) → Buf (Elt Ideal) ℓ)

abbrev a3 (d : Dev nD) : Vec Ideal S64x256 .f32 := m (d, dR main_arg3)
abbrev a4 (d : Dev nD) : Vec Ideal S64 .f32 := m (d, dR main_arg4)
abbrev a5 (d : Dev nD) : Vec Ideal S64x64 .f32 := m (d, dR main_arg5)
abbrev a6 (d : Dev nD) : Vec Ideal S64 .f32 := m (d, dR main_arg6)

/-! ## The rearranged weights -/

/-- The first layer's weights regrouped by patch row. -/
def w3 (a : Vec Ideal S64x256 .f32) : Vec Ideal S64x8x32 .f32 := shapeCast S64x8x32 a shapeCasts_S64x256_S64x8x32

def wcat (a : Vec Ideal S64x256 .f32) : Vec Ideal S64x136 .f32 :=
  concatenate S64x136 1
    [⟨S64x128, shapeCast S64x128 (extractStridedSlice S64x8x16 ![0, 0, 0] (w3 a) slices_S64x8x32_S64x8x16_0_0_0) shapeCasts_S64x8x16_S64x128⟩,
      ⟨S64x8, Host.reduceAdd (extractStridedSlice S64x8x16 ![0, 0, 16] (w3 a) slices_S64x8x32_S64x8x16_0_0_16) (constant (F := Ideal) S_ .f32 0x00000000#32) reducesTo_S64x8x16_S64x8_d2 h_S_⟩]
    concatenates_S64x128_S64x8_S64x136_d1

theorem V3_v4 (d : Dev nD) : V3 m d (dR main_v4) = OUT (Xm m d) (Zm m d) :=
  (keep3 m d main_v4 (by decide)).trans (V2_v4 m d)

theorem arg (d : Dev nD) (b : Ref sig .tc) (h1 : b ∉ ([main_v0, main_v1, main_v2, main_v3] : List (Ref sig .tc))) (h2 : b ≠ main_v4) :
    V2 m d (dR b) = m (d, dR b) :=
  (V2_ne m d (StableHlo.devRef_ne_of_ne h2)).trans (keep1 m d b h1)

theorem V3_v11 (d : Dev nD) : V3 m d (dR main_v11) = transpose S136x64 [1, 0] (wcat (a3 m d)) transposes_S64x136_S136x64_1_0 := by
  unfold a3
  rw [← arg m d main_arg3 (by decide) (by decide)]
  unfold V3 ops2
  after_results
  rfl

theorem V3_v12 (d : Dev nD) : V3 m d (dR main_v12) = transpose S64x64 [1, 0] (a5 m d) transposes_S64x64_S64x64_1_0 := by
  unfold a5
  rw [← arg m d main_arg5 (by decide) (by decide)]
  unfold V3 ops2
  after_results

theorem V3_v13 (d : Dev nD) : V3 m d (dR main_v13) = shapeCast S1x64 (a4 m d) shapeCasts_S64_S1x64 := by
  unfold a4
  rw [← arg m d main_arg4 (by decide) (by decide)]
  unfold V3 ops2
  after_results
  rfl

theorem V3_v14 (d : Dev nD) : V3 m d (dR main_v14) = shapeCast S1x64 (a6 m d) shapeCasts_S64_S1x64 := by
  unfold a6
  rw [← arg m d main_arg6 (by decide) (by decide)]
  unfold V3 ops2
  after_results
  rfl

/-- A patch entry's weight. -/
theorem wcat_patch (a : Vec Ideal S64x256 .f32) (d : Fin 64) (i : Fin 8) (j : Fin 16) :
    wcat a (ix2 d ⟨16 * i.val + j.val, by have := i.isLt; have := j.isLt; omega⟩)
      = a (ix2 d ⟨32 * i.val + j.val, by have := i.isLt; have := j.isLt; omega⟩) := by
  have hi := i.isLt
  have hj := j.isLt
  unfold wcat w3
  refine (concatenate_pair_apply_left (s₁ := S64x128) (s₂ := S64x8) (t := S64x136) _ _ _ _ _ rfl (ix2 d ⟨16 * i.val + j.val, by omega⟩) ?_).trans ?_
  · intro b
    match b with | ⟨0, _⟩ => rfl | ⟨1, _⟩ => rfl
  rw [shapeCast_apply _ _ _ (ix3 d i j) (by
    rw [Shape.rowMajor_val_three, Shape.rowMajor_val_two]
    show (d.val * 8 + i.val) * 16 + j.val = d.val * 128 + (16 * i.val + j.val)
    omega)]
  rw [extractStridedSlice_apply _ _ _ _ (ix3 d i ⟨j.val, by omega⟩) (by
    intro a; match a with | ⟨0, _⟩ => exact (Nat.zero_add _).symm | ⟨1, _⟩ => exact (Nat.zero_add _).symm | ⟨2, _⟩ => exact (Nat.zero_add _).symm)]
  refine shapeCast_apply _ _ _ _ ?_
  rw [Shape.rowMajor_val_three, Shape.rowMajor_val_two]
  show d.val * 256 + (32 * i.val + j.val) = (d.val * 8 + i.val) * 32 + j.val
  omega

/-- A time's weight: the sum of the weights of the sixteen columns that held it. -/
theorem wcat_time (a : Vec Ideal S64x256 .f32) (d : Fin 64) (i : Fin 8) :
    wcat a (ix2 d ⟨128 + i.val, by have := i.isLt; omega⟩)
      = (∑ j : Fin 16, a (ix2 d ⟨32 * i.val + 16 + j.val, by have := i.isLt; have := j.isLt; omega⟩) : EReal) := by
  have hi := i.isLt
  unfold wcat w3
  refine (concatenate_pair_apply_right (s₁ := S64x128) (s₂ := S64x8) (t := S64x136) _ _ _ _ _ rfl rfl (ix2 d i) ?_ ?_).trans ?_
  · intro b hb
    match b with | ⟨0, _⟩ => rfl | ⟨1, _⟩ => exact absurd rfl hb
  · show i.val + 128 = 128 + i.val
    omega
  pointwise
  refine Finset.sum_congr rfl fun j _ => ?_
  have hj := j.isLt
  exact congrArg a (congrArg (ix2 d) (Fin.ext (by show i.val * 32 + (16 + j.val) = 32 * i.val + 16 + j.val; omega)))

/-! ## The gathered columns -/

variable (hok : ∀ d, Cert.Proof.Range.Ok (a1 m d) (a2 m d))

include hok in
/-- A gathered patch entry is the input's at the start indices' offset. -/
theorem out_patch (d : Dev nD) (b : Fin 32) (p : Fin 256) (i : Fin 8) (j : Fin 16) (r : Fin 8192) (c : Fin 128)
    (hr : r.val = (a1 m d (Cert.Proof.Range.at2 b p)).toNat + i.val) (hc : c.val = (a2 m d (Cert.Proof.Range.at2 b p)).toNat + j.val) :
    OUT (Xm m d) (Zm m d) (ix2 ⟨16 * i.val + j.val, by have := i.isLt; have := j.isLt; omega⟩ (pnt b p)) = a0 m d (ix3 b r c) := by
  have hi := i.isLt
  have hj := j.isLt
  have hb := b.isLt
  have hp := p.isLt
  have hl := (hok d).l (Cert.Proof.Range.at2 b p)
  have hcc := (hok d).c (Cert.Proof.Range.at2 b p)
  show PT (inOf (Xm m d) (Zm m d) ((256 * b.val + p.val) / 256)) (16 * i.val + j.val) ((256 * b.val + p.val) % 256) = _
  rw [show (256 * b.val + p.val) / 256 = b.val from by omega, show (256 * b.val + p.val) % 256 = p.val from by omega]
  unfold PT pg gt
  rw [if_pos (by omega), show (16 * i.val + j.val) / 16 = i.val from by omega, show (16 * i.val + j.val) % 16 = j.val from by omega]
  have ho : po (inOf (Xm m d) (Zm m d) b.val) p.val = (a2 m d (Cert.Proof.Range.at2 b p)).toNat % 16 := by
    unfold po inOf
    dsimp only
    rw [zc]
  rw [ho]
  generalize hy : (a2 m d (Cert.Proof.Range.at2 b p)).toNat = y at *
  generalize hx : (a1 m d (Cert.Proof.Range.at2 b p)).toNat = x at *
  rw [show (256 * (2 * i.val + (y % 16 + j.val) / 16) + p.val) / 256 = 2 * i.val + (y % 16 + j.val) / 16 from by omega,
    show (256 * (2 * i.val + (y % 16 + j.val) / 16) + p.val) % 256 = p.val from by omega,
    gw_toNat m hok d b _ p (by omega), hx, hy]
  show xAt (Xm m d) _ _ = _
  unfold xAt
  rw [Xm_eq]
  refine shapeCast_apply _ _ _ _ ?_
  rw [Shape.rowMajor_val_three, Shape.rowMajor_val_two]
  show (b.val * 8192 + r.val) * 128 + c.val = _ % 2097152 * 16 + (y % 16 + j.val) % 16 % 16
  have e1 : (2 * i.val + (y % 16 + j.val) / 16) / 2 = i.val := by omega
  have e2 : (2 * i.val + (y % 16 + j.val) / 16) % 2 = (y % 16 + j.val) / 16 := by omega
  rw [e1, e2, Nat.mod_eq_of_lt (by omega)]
  omega

/-! ## The times -/

/-- The time of row `r`. -/
def tm (r : ℕ) : Ideal .f32 := FloatOps.mulf (FloatOps.sitofp .f32 (BitVec.ofNat 32 r)) (FloatOps.ofBits .f32 0x3C23D70A#32)

/-- The eight constants are the numbers from zero to seven. -/
theorem tcst_val (i : Fin 8) : (Scalar.ofBits .f32 (tcst (128 + i.val)) : Ideal .f32) = ((i.val : ℝ) : EReal) := by
  fin_cases i
  all_goals
    show Ideal.ofBits .f32 _ = _
    simp [tcst, Ideal.ofBits, Ideal.ieee, -EReal.coe_mul]
    try norm_num

theorem step_val : ∃ c : ℝ, 0 ≤ c ∧ (FloatOps.ofBits .f32 0x3C23D70A#32 : Ideal .f32) = ((c : ℝ) : EReal) := by
  refine ⟨(2 : ℝ) ^ (-30 : ℤ) * 10737418, by positivity, ?_⟩
  show Ideal.ofBits .f32 _ = _
  simp [Ideal.ofBits, Ideal.ieee, -EReal.coe_mul]
  try norm_num

theorem tm_val (r : ℕ) (hr : r < 2 ^ 31) : ∃ t : ℝ, 0 ≤ t ∧ tm r = ((t : ℝ) : EReal) := by
  obtain ⟨c, h0, hc⟩ := step_val
  refine ⟨(r : ℝ) * c, by positivity, ?_⟩
  unfold tm
  rw [hc]
  show (((BitVec.ofNat 32 r).toInt : ℝ) : EReal) * (c : EReal) = _
  rw [StableHlo.Predicate.toInt_ofNat_small _ hr, ← EReal.coe_mul]
  norm_num

include hok in
/-- A gathered time is its row's. -/
theorem out_time (d : Dev nD) (b : Fin 32) (p : Fin 256) (i : Fin 8) (r : Fin 8192)
    (hr : r.val = (a1 m d (Cert.Proof.Range.at2 b p)).toNat + i.val) :
    OUT (Xm m d) (Zm m d) (ix2 ⟨128 + i.val, by have := i.isLt; omega⟩ (pnt b p)) = tm r.val := by
  have hi := i.isLt
  have hb := b.isLt
  have hp := p.isLt
  have hl := (hok d).l (Cert.Proof.Range.at2 b p)
  show PT (inOf (Xm m d) (Zm m d) ((256 * b.val + p.val) / 256)) (128 + i.val) ((256 * b.val + p.val) % 256) = _
  rw [show (256 * b.val + p.val) / 256 = b.val from by omega, show (256 * b.val + p.val) % 256 = p.val from by omega]
  unfold PT pt inOf tm
  dsimp only
  rw [if_neg (by omega), zl, tcst_val]
  refine congrArg (fun v : EReal => v * _) ?_
  show (((a1 m d (Cert.Proof.Range.at2 b p)).toInt : ℝ) : EReal) + ((i.val : ℝ) : EReal) = (((BitVec.ofNat 32 r.val).toInt : ℝ) : EReal)
  have := r.isLt
  rw [StableHlo.Predicate.toInt_ofNat_small _ (by omega), StableHlo.Predicate.toInt_eq_toNat_of_lt (by omega), hr, ← EReal.coe_add]
  push_cast
  rfl

end Cert.Kernel.Main
-- ==== Proof.RStage.lean ====
/-
  The reference's result, cut into named stages: the two index tables with their wraps, the two gathers, the
  joined block and the two dense layers.
-/
module

public import proofs.«01_k».proof.Defs
public import proofs.«01_k».proof.Proof.Gen.ReferenceIdeal
public import proofs.«01_k».proof.Proof.Gen.ReferenceIdeal.Run

@[expose] public section

noncomputable section

namespace Cert.ReferenceIdeal.Stage

open Cert.ReferenceIdeal.Gen Cert.ReferenceIdeal.Value
open Idealize.ShloMosaic Idealize.ShloMosaic.TcCoe

/-- The divisor of a remainder, kept away from zero. -/
def den (n : BitVec 32) : IVec S_ 32 :=
  select (cmpi .eq (id (constantI S_ 32 n)) (constantI S_ 32 0#32)) (constantI S_ 32 1#32) (id (constantI S_ 32 n))

/-- The floor remainder of `x` by `n`, elementwise. -/
def wrap {s : Shape} (h : S_.BroadcastsInDim s ![]) (n : BitVec 32) (x : IVec s 32) : IVec s 32 :=
  select
    (andi (cmpi .ne (cmpi .slt (Host.remsi x (broadcastInDim s ![] h (den n))) (broadcastInDim s ![] h (constantI S_ 32 0#32)))
        (broadcastInDim s ![] h (cmpi .slt (den n) (constantI S_ 32 0#32))))
      (cmpi .ne (Host.remsi x (broadcastInDim s ![] h (den n))) (broadcastInDim s ![] h (constantI S_ 32 0#32))))
    (addi (Host.remsi x (broadcastInDim s ![] h (den n))) (broadcastInDim s ![] h (den n)))
    (Host.remsi x (broadcastInDim s ![] h (den n)))

/-- A negative index counts from the end of an axis of `n`. -/
def neg {s : Shape} (h : S_.BroadcastsInDim s ![]) (n : BitVec 32) (x : IVec s 32) : IVec s 32 :=
  select (cmpi .slt x (broadcastInDim s ![] h (constantI S_ 32 0#32)))
    (addi x (broadcastInDim s ![] h (constantI S_ 32 n))) x

/-- The rows of a patch. -/
def rows (a1 : IVec S32x256 32) : IVec S32x256x8 32 :=
  wrap bcast_S_S32x256x8 8192#32
    (addi
      (broadcastInDim S32x256x8 ![0, 1, 2] bcast_S32x256x1_S32x256x8_0_1_2 (broadcastInDim S32x256x1 ![0, 1] bcast_S32x256_S32x256x1_0_1 a1))
      (broadcastInDim S32x256x8 ![0, 1, 2] bcast_S1x1x8_S32x256x8_0_1_2 (broadcastInDim S1x1x8 ![2] bcast_S8_S1x1x8_2 (iotaInDim S8 32 0))))

/-- The columns of a patch. -/
def cols (a2 : IVec S32x256 32) : IVec S32x256x16 32 :=
  wrap bcast_S_S32x256x16 128#32
    (addi
      (broadcastInDim S32x256x16 ![0, 1, 2] bcast_S32x256x1_S32x256x16_0_1_2 (broadcastInDim S32x256x1 ![0, 1] bcast_S32x256_S32x256x1_0_1 a2))
      (broadcastInDim S32x256x16 ![0, 1, 2] bcast_S1x1x16_S32x256x16_0_1_2 (broadcastInDim S1x1x16 ![2] bcast_S16_S1x1x16_2 (iotaInDim S16 32 0))))

/-- The batch, row and column components of the patch gather's indices. -/
def ib : IVec S32x256x8x16 32 :=
  broadcastInDim S32x256x8x16 ![0, 1, 2, 3] bcast_S32x1x1x1_S32x256x8x16_0_1_2_3
    (neg bcast_S_S32x1x1x1 32#32 (broadcastInDim S32x1x1x1 ![0] bcast_S32_S32x1x1x1_0 (iotaInDim S32 32 0)))

def ir (a1 : IVec S32x256 32) : IVec S32x256x8x16 32 :=
  broadcastInDim S32x256x8x16 ![0, 1, 2, 3] bcast_S32x256x8x1_S32x256x8x16_0_1_2_3
    (neg bcast_S_S32x256x8x1 8192#32 (broadcastInDim S32x256x8x1 ![0, 1, 2] bcast_S32x256x8_S32x256x8x1_0_1_2 (rows a1)))

def ic (a2 : IVec S32x256 32) : IVec S32x256x8x16 32 :=
  broadcastInDim S32x256x8x16 ![0, 1, 2, 3] bcast_S32x256x1x16_S32x256x8x16_0_1_2_3
    (neg bcast_S_S32x256x1x16 128#32 (broadcastInDim S32x256x1x16 ![0, 1, 3] bcast_S32x256x16_S32x256x1x16_0_1_3 (cols a2)))

/-- The patch gather's indices. -/
def ig (a1 a2 : IVec S32x256 32) : IVec S32x256x8x16x3 32 :=
  fn_main_v44 (F := Ideal)
    (broadcastInDim S32x256x8x16x1 ![0, 1, 2, 3] bcast_S32x256x8x16_S32x256x8x16x1_0_1_2_3 ib)
    (broadcastInDim S32x256x8x16x1 ![0, 1, 2, 3] bcast_S32x256x8x16_S32x256x8x16x1_0_1_2_3 (ir a1))
    (broadcastInDim S32x256x8x16x1 ![0, 1, 2, 3] bcast_S32x256x8x16_S32x256x8x16x1_0_1_2_3 (ic a2))

/-- The patches. -/
def patch (a0 : FVec Ideal S32x8192x128 .f32) (a1 a2 : IVec S32x256 32) : FVec Ideal S32x256x8x16 .f32 :=
  Host.gather gather_S32x8192x128_S32x256x8x16x3_S32x256x8x16_n_012_n_n_012_4_111 a0 (ig a1 a2)

/-- The table of times. -/
def times : FVec Ideal S32x8192 .f32 :=
  broadcastInDim S32x8192 ![0, 1] bcast_S1x8192_S32x8192_0_1 (broadcastInDim S1x8192 ![1] bcast_S8192_S1x8192_1
    (mulf (sitofp .f32 (iotaInDim S8192 32 0)) (broadcastInDim S8192 ![] bcast_S_S8192 (constant (F := Ideal) S_ .f32 0x3C23D70A#32))))

/-- The time gather's indices. -/
def it (a1 : IVec S32x256 32) : IVec S32x256x8x2 32 :=
  fn_main_v61 (F := Ideal)
    (broadcastInDim S32x256x8x1 ![0, 1, 2] bcast_S32x256x8_S32x256x8x1_0_1_2 (broadcastInDim S32x256x8 ![0, 1, 2] bcast_S32x1x1_S32x256x8_0_1_2
      (neg bcast_S_S32x1x1 32#32 (broadcastInDim S32x1x1 ![0] bcast_S32_S32x1x1_0 (iotaInDim S32 32 0)))))
    (broadcastInDim S32x256x8x1 ![0, 1, 2] bcast_S32x256x8_S32x256x8x1_0_1_2 (neg bcast_S_S32x256x8 8192#32 (rows a1)))

/-- The times of a patch's rows. -/
def time (a1 : IVec S32x256 32) : FVec Ideal S32x256x8 .f32 :=
  Host.gather gather_S32x8192_S32x256x8x2_S32x256x8_n_01_n_n_01_3_11 times (it a1)

/-- The block the first layer reads. -/
def block (a0 : FVec Ideal S32x8192x128 .f32) (a1 a2 : IVec S32x256 32) : FVec Ideal S32x256x256 .f32 :=
  shapeCast S32x256x256 (fn_main_v65 (F := Ideal) (patch a0 a1 a2)
    (broadcastInDim S32x256x8x16 ![0, 1, 2, 3] bcast_S32x256x8x1_S32x256x8x16_0_1_2_3
      (broadcastInDim S32x256x8x1 ![0, 1, 2] bcast_S32x256x8_S32x256x8x1_0_1_2 (time a1)))) shapeCasts_S32x256x8x32_S32x256x256

/-- The first layer before its activation. -/
def lin (u : FVec Ideal S32x256x256 .f32) (a3 : FVec Ideal S64x256 .f32) (a4 : FVec Ideal S64 .f32) : FVec Ideal S32x256x64 .f32 :=
  addf (Host.dotGeneral dot_S32x256x256_S256x64_S32x256x64_2_0_01_1_n_n none u (transpose S256x64 [1, 0] a3 transposes_S64x256_S256x64_1_0))
    (broadcastInDim S32x256x64 ![0, 1, 2] bcast_S1x1x64_S32x256x64_0_1_2 (broadcastInDim S1x1x64 ![2] bcast_S64_S1x1x64_2 a4))

/-- The activation. -/
def silu (u : FVec Ideal S32x256x64 .f32) : FVec Ideal S32x256x64 .f32 :=
  mulf u (Host.divf (broadcastInDim S32x256x64 ![] bcast_S_S32x256x64 (constant S_ .f32 0x3F800000#32))
    (addf (broadcastInDim S32x256x64 ![] bcast_S_S32x256x64 (constant S_ .f32 0x3F800000#32)) (Host.exp (Host.negf u))))

/-- The second layer. -/
def out (u : FVec Ideal S32x256x64 .f32) (a5 : FVec Ideal S64x64 .f32) (a6 : FVec Ideal S64 .f32) : FVec Ideal S32x256x64 .f32 :=
  addf (Host.dotGeneral dot_S32x256x64_S64x64_S32x256x64_2_0_01_1_n_n none u (transpose S64x64 [1, 0] a5 transposes_S64x64_S64x64_1_0))
    (broadcastInDim S32x256x64 ![0, 1, 2] bcast_S1x1x64_S32x256x64_0_1_2 (broadcastInDim S1x1x64 ![2] bcast_S64_S1x1x64_2 a6))

set_option maxRecDepth 65536 in
theorem res_eq (m : (ℓ : Loc nD τ sig) → Buf (Elt Ideal) ℓ) (c : Dev nD) :
    res_main_v77 m c = out (silu (lin
      (block (m ((c.tc : Thread nD τ).loc main_arg0)) (m ((c.tc : Thread nD τ).loc main_arg1)) (m ((c.tc : Thread nD τ).loc main_arg2)))
      (m ((c.tc : Thread nD τ).loc main_arg3)) (m ((c.tc : Thread nD τ).loc main_arg4))))
      (m ((c.tc : Thread nD τ).loc main_arg5)) (m ((c.tc : Thread nD τ).loc main_arg6)) := by
  unfold res_main_v77 out silu lin block time it times patch ig ic ir ib cols rows neg wrap den fn_main_v44 fn_main_v61 fn_main_v65
  rfl

end Cert.ReferenceIdeal.Stage
-- ==== Proof.RVal.lean ====
/-
  The reference's stages read at an index, under the precondition's ranges: no wrap moves an index, so a patch holds
  the rows and columns from the start indices on, and each row's time is its row number times the step.
-/
module

public import proofs.«01_k».proof.Proof.RStage
public import proofs.«01_k».proof.Proof.Range
public import Idealize.ShloMosaic.Lib.Affine
public import Idealize.ShloMosaic.Lib.IdealHost

@[expose] public section

noncomputable section

namespace Cert.ReferenceIdeal.Stage

open Cert.ReferenceIdeal.Gen Cert.ReferenceIdeal.Value
open Idealize.ShloMosaic Idealize.ShloMosaic.TcCoe
open ValueIdx (ix1 ix2 ix3 ix4 ix5)
open Cert.Proof.Range (Ok at2)

theorem not_neg (x : BitVec 32) (hx : x.toNat < 2 ^ 31) : IntOp.cmpi .slt x 0#32 = 0#1 := by
  refine BitVec.eq_zero_or_eq_one _ |>.resolve_right fun h => ?_
  have b := IntOp.cmpi_slt.1 h
  rw [StableHlo.Predicate.toInt_eq_toNat_of_lt hx, show (0#32 : BitVec 32).toInt = 0 from by decide] at b
  omega

theorem den_eq (n : ℕ) (h0 : 0 < n) (hn : n < 2 ^ 31) (i : S_.Idx) : den (BitVec.ofNat 32 n) i = BitVec.ofNat 32 n := by
  show Scalar.select (IntOp.cmpi .eq (BitVec.ofNat 32 n) 0#32) 1#32 (BitVec.ofNat 32 n) = _
  refine if_neg fun h => ?_
  have := congrArg BitVec.toNat (IntOp.cmpi_eq.1 h)
  rw [BitVec.toNat_ofNat, Nat.mod_eq_of_lt (by omega)] at this
  exact absurd this (by show n ≠ 0; omega)

theorem wrap_apply {s : Shape} (h : S_.BroadcastsInDim s ![]) (n : ℕ) (hn : n < 2 ^ 31) (x : IVec s 32) (i : s.Idx) (hx : (x i).toNat < n) :
    wrap h (BitVec.ofNat 32 n) x i = x i := by
  have d : ∀ j, den (BitVec.ofNat 32 n) j = BitVec.ofNat 32 n := den_eq n (by omega) hn
  have r : IntOp.remsi .host (x i) (BitVec.ofNat 32 n) = x i := by
    refine BitVec.eq_of_toNat_eq ?_
    rw [IntOp.toNat_remsi .host (by omega) n (by omega) (by omega), Nat.mod_eq_of_lt hx]
  have hnat : (BitVec.ofNat 32 n).toNat = n := by rw [BitVec.toNat_ofNat]; omega
  unfold wrap
  show Scalar.select (IntOp.andi (IntOp.cmpi .ne (IntOp.cmpi .slt (IntOp.remsi .host (x i) (den (BitVec.ofNat 32 n) _)) 0#32)
      (IntOp.cmpi .slt (den (BitVec.ofNat 32 n) _) 0#32)) _) _ (IntOp.remsi .host (x i) (den (BitVec.ofNat 32 n) _)) = _
  rw [d, r, not_neg (x i) (by omega), not_neg (BitVec.ofNat 32 n) (by omega)]
  refine if_neg fun hh => ?_
  have := (IntOp.andi_eq_one.1 hh).1
  exact absurd this (by decide)

theorem neg_apply {s : Shape} (h : S_.BroadcastsInDim s ![]) (n : BitVec 32) (x : IVec s 32) (i : s.Idx) (hx : (x i).toNat < 2 ^ 31) :
    neg h n x i = x i := by
  unfold neg
  show Scalar.select (IntOp.cmpi .slt (x i) 0#32) _ (x i) = x i
  rw [not_neg _ hx]
  exact if_neg (by decide)

variable {a1 a2 : IVec S32x256 32}

theorem rows_apply (ok : Ok a1 a2) (b : Fin 32) (p : Fin 256) (i : Fin 8) : (rows a1 (ix3 b p i)).toNat = (a1 (at2 b p)).toNat + i.val := by
  have hl := ok.l (at2 b p)
  have hi := i.isLt
  have e : ∀ (u v : IVec S32x256x8 32), u (ix3 b p i) = a1 (at2 b p) → v (ix3 b p i) = BitVec.ofNat 32 i.val →
      (addi u v (ix3 b p i)).toNat = (a1 (at2 b p)).toNat + i.val := by
    intro u v hu hv
    show (u (ix3 b p i) + v (ix3 b p i)).toNat = _
    rw [hu, hv, BitVec.toNat_add, BitVec.toNat_ofNat]
    omega
  have e' := e (broadcastInDim S32x256x8 ![0, 1, 2] bcast_S32x256x1_S32x256x8_0_1_2 (broadcastInDim S32x256x1 ![0, 1] bcast_S32x256_S32x256x1_0_1 a1))
      (broadcastInDim S32x256x8 ![0, 1, 2] bcast_S1x1x8_S32x256x8_0_1_2 (broadcastInDim S1x1x8 ![2] bcast_S8_S1x1x8_2 (iotaInDim S8 32 0)))
      (by
        refine (broadcastInDim_apply _ _ _ _ (ix3 b p 0) ?_).trans (broadcastInDim_apply _ _ _ _ (at2 b p) ?_)
        · intro a; match a with | ⟨0, _⟩ => rfl | ⟨1, _⟩ => rfl | ⟨2, _⟩ => rfl
        · intro a; match a with | ⟨0, _⟩ => rfl | ⟨1, _⟩ => rfl)
      (by
        refine (broadcastInDim_apply _ _ _ _ (ix3 0 0 i) ?_).trans ((broadcastInDim_apply _ _ _ _ (ix1 i) ?_).trans rfl)
        · intro a; match a with | ⟨0, _⟩ => rfl | ⟨1, _⟩ => rfl | ⟨2, _⟩ => rfl
        · intro a; match a with | ⟨0, _⟩ => rfl)
  unfold rows
  rw [wrap_apply _ 8192 (by omega) _ _ (by rw [e']; omega), e']

theorem cols_apply (ok : Ok a1 a2) (b : Fin 32) (p : Fin 256) (j : Fin 16) : (cols a2 (ix3 b p j)).toNat = (a2 (at2 b p)).toNat + j.val := by
  have hl := ok.c (at2 b p)
  have hi := j.isLt
  have e : ∀ (u v : IVec S32x256x16 32), u (ix3 b p j) = a2 (at2 b p) → v (ix3 b p j) = BitVec.ofNat 32 j.val →
      (addi u v (ix3 b p j)).toNat = (a2 (at2 b p)).toNat + j.val := by
    intro u v hu hv
    show (u (ix3 b p j) + v (ix3 b p j)).toNat = _
    rw [hu, hv, BitVec.toNat_add, BitVec.toNat_ofNat]
    omega
  have e' := e (broadcastInDim S32x256x16 ![0, 1, 2] bcast_S32x256x1_S32x256x16_0_1_2 (broadcastInDim S32x256x1 ![0, 1] bcast_S32x256_S32x256x1_0_1 a2))
      (broadcastInDim S32x256x16 ![0, 1, 2] bcast_S1x1x16_S32x256x16_0_1_2 (broadcastInDim S1x1x16 ![2] bcast_S16_S1x1x16_2 (iotaInDim S16 32 0)))
      (by
        refine (broadcastInDim_apply _ _ _ _ (ix3 b p 0) ?_).trans (broadcastInDim_apply _ _ _ _ (at2 b p) ?_)
        · intro a; match a with | ⟨0, _⟩ => rfl | ⟨1, _⟩ => rfl | ⟨2, _⟩ => rfl
        · intro a; match a with | ⟨0, _⟩ => rfl | ⟨1, _⟩ => rfl)
      (by
        refine (broadcastInDim_apply _ _ _ _ (ix3 0 0 j) ?_).trans ((broadcastInDim_apply _ _ _ _ (ix1 j) ?_).trans rfl)
        · intro a; match a with | ⟨0, _⟩ => rfl | ⟨1, _⟩ => rfl | ⟨2, _⟩ => rfl
        · intro a; match a with | ⟨0, _⟩ => rfl)
  unfold cols
  rw [wrap_apply _ 128 (by omega) _ _ (by rw [e']; omega), e']

/-- A batch number below its axis. -/
theorem iota_toNat (b : Fin 32) : (BitVec.ofNat 32 b.val).toNat = b.val := by
  have := b.isLt
  rw [BitVec.toNat_ofNat]; omega

theorem ib_apply (b : Fin 32) (p : Fin 256) (i : Fin 8) (j : Fin 16) : (ib (ix4 b p i j)).toNat = b.val := by
  have e : broadcastInDim S32x1x1x1 ![0] bcast_S32_S32x1x1x1_0 (iotaInDim S32 32 0) (ix4 b 0 0 0) = BitVec.ofNat 32 b.val := by
    refine (broadcastInDim_apply _ _ _ _ (ix1 b) ?_).trans rfl
    intro a; match a with | ⟨0, _⟩ => rfl
  unfold ib
  rw [broadcastInDim_apply _ _ _ _ (ix4 b 0 0 0) (by intro a; match a with | ⟨0, _⟩ => rfl | ⟨1, _⟩ => rfl | ⟨2, _⟩ => rfl | ⟨3, _⟩ => rfl),
    neg_apply _ _ _ _ (by rw [e, iota_toNat]; have := b.isLt; omega), e, iota_toNat]

theorem ir_apply (ok : Ok a1 a2) (b : Fin 32) (p : Fin 256) (i : Fin 8) (j : Fin 16) :
    (ir a1 (ix4 b p i j)).toNat = (a1 (at2 b p)).toNat + i.val := by
  have hl := ok.l (at2 b p)
  have hi := i.isLt
  have e : broadcastInDim S32x256x8x1 ![0, 1, 2] bcast_S32x256x8_S32x256x8x1_0_1_2 (rows a1) (ix4 b p i 0) = rows a1 (ix3 b p i) := by
    refine broadcastInDim_apply _ _ _ _ (ix3 b p i) ?_
    intro a; match a with | ⟨0, _⟩ => rfl | ⟨1, _⟩ => rfl | ⟨2, _⟩ => rfl
  unfold ir
  rw [broadcastInDim_apply _ _ _ _ (ix4 b p i 0) (by intro a; match a with | ⟨0, _⟩ => rfl | ⟨1, _⟩ => rfl | ⟨2, _⟩ => rfl | ⟨3, _⟩ => rfl),
    neg_apply _ _ _ _ (by rw [e, rows_apply ok]; omega), e, rows_apply ok]

theorem ic_apply (ok : Ok a1 a2) (b : Fin 32) (p : Fin 256) (i : Fin 8) (j : Fin 16) :
    (ic a2 (ix4 b p i j)).toNat = (a2 (at2 b p)).toNat + j.val := by
  have hl := ok.c (at2 b p)
  have hi := j.isLt
  have e : broadcastInDim S32x256x1x16 ![0, 1, 3] bcast_S32x256x16_S32x256x1x16_0_1_3 (cols a2) (ix4 b p 0 j) = cols a2 (ix3 b p j) := by
    refine broadcastInDim_apply _ _ _ _ (ix3 b p j) ?_
    intro a; match a with | ⟨0, _⟩ => rfl | ⟨1, _⟩ => rfl | ⟨2, _⟩ => rfl
  unfold ic
  rw [broadcastInDim_apply _ _ _ _ (ix4 b p 0 j) (by intro a; match a with | ⟨0, _⟩ => rfl | ⟨1, _⟩ => rfl | ⟨2, _⟩ => rfl | ⟨3, _⟩ => rfl),
    neg_apply _ _ _ _ (by rw [e, cols_apply ok]; omega), e, cols_apply ok]

/-- One more axis of extent one. -/
theorem tail_apply (u : IVec S32x256x8x16 32) (b : Fin 32) (p : Fin 256) (i : Fin 8) (j : Fin 16) :
    broadcastInDim S32x256x8x16x1 ![0, 1, 2, 3] bcast_S32x256x8x16_S32x256x8x16x1_0_1_2_3 u (ix5 b p i j 0) = u (ix4 b p i j) := by
  refine broadcastInDim_apply _ _ _ _ (ix4 b p i j) ?_
  intro a; match a with | ⟨0, _⟩ => rfl | ⟨1, _⟩ => rfl | ⟨2, _⟩ => rfl | ⟨3, _⟩ => rfl

theorem join3 (u v w : IVec S32x256x8x16x1 32) (k : Fin 3) (b : Fin 32) (p : Fin 256) (i : Fin 8) (j : Fin 16) :
    fn_main_v44 (F := Ideal) u v w (ix5 b p i j k) = (![u, v, w] k) (ix5 b p i j 0) := by
  unfold fn_main_v44
  have off : ∀ c : Fin 5, c ≠ 4 → ((ix5 b p i j (0 : Fin 1) : S32x256x8x16x1.Idx) c).val = ((ix5 b p i j k : S32x256x8x16x3.Idx) c).val := by
    intro c hc; match c with | ⟨0, _⟩ => rfl | ⟨1, _⟩ => rfl | ⟨2, _⟩ => rfl | ⟨3, _⟩ => rfl | ⟨4, _⟩ => exact absurd rfl hc
  match k with
  | ⟨0, _⟩ => exact concatenate_apply_piece (t := S32x256x8x16x3) (4 : Fin 5) [⟨S32x256x8x16x1, u⟩, ⟨S32x256x8x16x1, v⟩, ⟨S32x256x8x16x1, w⟩] _ _ 0 (by simp) S32x256x8x16x1 u rfl rfl 0 rfl _ off rfl
  | ⟨1, _⟩ => exact concatenate_apply_piece (t := S32x256x8x16x3) (4 : Fin 5) [⟨S32x256x8x16x1, u⟩, ⟨S32x256x8x16x1, v⟩, ⟨S32x256x8x16x1, w⟩] _ _ 1 (by simp) S32x256x8x16x1 v rfl rfl 1 rfl _ off rfl
  | ⟨2, _⟩ => exact concatenate_apply_piece (t := S32x256x8x16x3) (4 : Fin 5) [⟨S32x256x8x16x1, u⟩, ⟨S32x256x8x16x1, v⟩, ⟨S32x256x8x16x1, w⟩] _ _ 2 (by simp) S32x256x8x16x1 w rfl rfl 2 rfl _ off rfl

/-- The three components of the patch gather's index. -/
theorem ig_apply (k : Fin 3) (b : Fin 32) (p : Fin 256) (i : Fin 8) (j : Fin 16) :
    ig a1 a2 (ix5 b p i j k) = (![ib, ir a1, ic a2] k) (ix4 b p i j) := by
  refine (join3 _ _ _ k b p i j).trans ?_
  match k with
  | ⟨0, _⟩ => exact tail_apply ib b p i j
  | ⟨1, _⟩ => exact tail_apply (ir a1) b p i j
  | ⟨2, _⟩ => exact tail_apply (ic a2) b p i j

theorem join2 (u v : IVec S32x256x8x1 32) (k : Fin 2) (b : Fin 32) (p : Fin 256) (i : Fin 8) :
    fn_main_v61 (F := Ideal) u v (ix4 b p i k) = (![u, v] k) (ix4 b p i 0) := by
  unfold fn_main_v61
  have off : ∀ c : Fin 4, c ≠ 3 → ((ix4 b p i (0 : Fin 1) : S32x256x8x1.Idx) c).val = ((ix4 b p i k : S32x256x8x2.Idx) c).val := by
    intro c hc; match c with | ⟨0, _⟩ => rfl | ⟨1, _⟩ => rfl | ⟨2, _⟩ => rfl | ⟨3, _⟩ => exact absurd rfl hc
  match k with
  | ⟨0, _⟩ => exact concatenate_apply_piece (t := S32x256x8x2) (3 : Fin 4) [⟨S32x256x8x1, u⟩, ⟨S32x256x8x1, v⟩] _ _ 0 (by simp) S32x256x8x1 u rfl rfl 0 rfl _ off rfl
  | ⟨1, _⟩ => exact concatenate_apply_piece (t := S32x256x8x2) (3 : Fin 4) [⟨S32x256x8x1, u⟩, ⟨S32x256x8x1, v⟩] _ _ 1 (by simp) S32x256x8x1 v rfl rfl 1 rfl _ off rfl

/-- The joined block's halves. -/
theorem joinl (u v : FVec Ideal S32x256x8x16 .f32) (b : Fin 32) (p : Fin 256) (i : Fin 8) (j : Fin 16) :
    fn_main_v65 (F := Ideal) u v (ix4 b p i ⟨j.val, by have := j.isLt; omega⟩) = u (ix4 b p i j) := by
  unfold fn_main_v65
  refine concatenate_apply_piece (t := S32x256x8x32) (3 : Fin 4) [⟨S32x256x8x16, u⟩, ⟨S32x256x8x16, v⟩] _ _ 0 (by simp) S32x256x8x16 u rfl rfl 0 rfl _ ?_ (Nat.zero_add _)
  intro c hc; match c with | ⟨0, _⟩ => rfl | ⟨1, _⟩ => rfl | ⟨2, _⟩ => rfl | ⟨3, _⟩ => exact absurd rfl hc

theorem joinr (u v : FVec Ideal S32x256x8x16 .f32) (b : Fin 32) (p : Fin 256) (i : Fin 8) (j : Fin 16) :
    fn_main_v65 (F := Ideal) u v (ix4 b p i ⟨16 + j.val, by have := j.isLt; omega⟩) = v (ix4 b p i j) := by
  unfold fn_main_v65
  refine concatenate_apply_piece (t := S32x256x8x32) (3 : Fin 4) [⟨S32x256x8x16, u⟩, ⟨S32x256x8x16, v⟩] _ _ 1 (by simp) S32x256x8x16 v rfl rfl 16 rfl _ ?_ rfl
  intro c hc; match c with | ⟨0, _⟩ => rfl | ⟨1, _⟩ => rfl | ⟨2, _⟩ => rfl | ⟨3, _⟩ => exact absurd rfl hc

/-- The patch gather, at the operand's index its three words name. -/
theorem gather3_apply {α : Type} (x : S32x8192x128.Idx → α) (idx : IVec S32x256x8x16x3 32) (b : Fin 32) (p : Fin 256) (i : Fin 8) (j : Fin 16)
    (q : S32x8192x128.Idx) (h : ∀ a : Fin 3, (idx (ix5 b p i j a)).toInt.toNat = (q a).val) :
    Host.gather gather_S32x8192x128_S32x256x8x16x3_S32x256x8x16_n_012_n_n_012_4_111 x idx (ix4 b p i j) = x q := by
  set d := gather_S32x8192x128_S32x256x8x16x3_S32x256x8x16_n_012_n_n_012_4_111 with hd
  have all : ∀ a : Fin 3, a ∈ d.startIndexMap := fun a => by fin_cases a <;> decide
  unfold Host.gather
  congr 1
  funext a
  refine Fin.ext ?_
  show d.start _ idx a + d.batchCoord _ a + d.offCoord _ a = _
  rw [GatherDims.batchCoord_eq_zero _ _ _ List.not_mem_nil,
    GatherDims.offCoord_eq_zero _ _ _ (fun hk => ((GatherDims.mem_sKept _ _).mp hk).1 (by fin_cases a <;> decide))]
  simp only [Nat.add_zero]
  unfold GatherDims.start
  rw [dif_pos (all a)]
  have hsi : d.siIdx (ix4 b p i j) ⟨List.idxOf a d.startIndexMap, List.idxOf_lt_length_iff.2 (all a)⟩ = ix5 b p i j a := by
    funext c
    refine Fin.ext ?_
    match c with
    | ⟨0, _⟩ => rfl
    | ⟨1, _⟩ => rfl
    | ⟨2, _⟩ => rfl
    | ⟨3, _⟩ => rfl
    | ⟨4, _⟩ => fin_cases a <;> rfl
  rw [hsi, h a]
  have hq := (q a).isLt
  have hs : d.sliceSizes a = 1 := by fin_cases a <;> rfl
  rw [hs]
  omega

/-- The time gather, likewise. -/
theorem gather2_apply {α : Type} (x : S32x8192.Idx → α) (idx : IVec S32x256x8x2 32) (b : Fin 32) (p : Fin 256) (i : Fin 8)
    (q : S32x8192.Idx) (h : ∀ a : Fin 2, (idx (ix4 b p i a)).toInt.toNat = (q a).val) :
    Host.gather gather_S32x8192_S32x256x8x2_S32x256x8_n_01_n_n_01_3_11 x idx (ix3 b p i) = x q := by
  set d := gather_S32x8192_S32x256x8x2_S32x256x8_n_01_n_n_01_3_11 with hd
  have all : ∀ a : Fin 2, a ∈ d.startIndexMap := fun a => by fin_cases a <;> decide
  unfold Host.gather
  congr 1
  funext a
  refine Fin.ext ?_
  show d.start _ idx a + d.batchCoord _ a + d.offCoord _ a = _
  rw [GatherDims.batchCoord_eq_zero _ _ _ List.not_mem_nil,
    GatherDims.offCoord_eq_zero _ _ _ (fun hk => ((GatherDims.mem_sKept _ _).mp hk).1 (by fin_cases a <;> decide))]
  simp only [Nat.add_zero]
  unfold GatherDims.start
  rw [dif_pos (all a)]
  have hsi : d.siIdx (ix3 b p i) ⟨List.idxOf a d.startIndexMap, List.idxOf_lt_length_iff.2 (all a)⟩ = ix4 b p i a := by
    funext c
    refine Fin.ext ?_
    match c with
    | ⟨0, _⟩ => rfl
    | ⟨1, _⟩ => rfl
    | ⟨2, _⟩ => rfl
    | ⟨3, _⟩ => fin_cases a <;> rfl
  rw [hsi, h a]
  have hq := (q a).isLt
  have hs : d.sliceSizes a = 1 := by fin_cases a <;> rfl
  rw [hs]
  omega

theorem toInt_nat (x : BitVec 32) (hx : x.toNat < 2 ^ 31) : x.toInt.toNat = x.toNat := by
  rw [StableHlo.Predicate.toInt_eq_toNat_of_lt hx]; omega

/-- The row that point `(b, p)`'s patch row `i` is. -/
def rowOf (ok : Ok a1 a2) (b : Fin 32) (p : Fin 256) (i : Fin 8) : Fin 8192 :=
  ⟨(a1 (at2 b p)).toNat + i.val, by have := ok.l (at2 b p); have := i.isLt; omega⟩

/-- The column likewise. -/
def colOf (ok : Ok a1 a2) (b : Fin 32) (p : Fin 256) (j : Fin 16) : Fin 128 :=
  ⟨(a2 (at2 b p)).toNat + j.val, by have := ok.c (at2 b p); have := j.isLt; omega⟩

theorem patch_apply (ok : Ok a1 a2) (a0 : FVec Ideal S32x8192x128 .f32) (b : Fin 32) (p : Fin 256) (i : Fin 8) (j : Fin 16) :
    patch a0 a1 a2 (ix4 b p i j) = a0 (ix3 b (rowOf ok b p i) (colOf ok b p j)) := by
  refine gather3_apply _ _ _ _ _ _ _ fun a => ?_
  have hb := b.isLt
  have hr := (rowOf ok b p i).isLt
  have hc := (colOf ok b p j).isLt
  rw [ig_apply]
  match a with
  | ⟨0, _⟩ =>
    show (ib (ix4 b p i j)).toInt.toNat = b.val
    rw [toInt_nat _ (by rw [ib_apply]; omega), ib_apply]
  | ⟨1, _⟩ =>
    show (ir a1 (ix4 b p i j)).toInt.toNat = (rowOf ok b p i).val
    have e := ir_apply ok b p i j
    rw [toInt_nat _ (by rw [e]; show (rowOf ok b p i).val < _; omega), e]; rfl
  | ⟨2, _⟩ =>
    show (ic a2 (ix4 b p i j)).toInt.toNat = (colOf ok b p j).val
    have e := ic_apply ok b p i j
    rw [toInt_nat _ (by rw [e]; show (colOf ok b p j).val < _; omega), e]; rfl

/-- The time of row `r`. -/
def tm (r : ℕ) : Ideal .f32 := FloatOps.mulf (FloatOps.sitofp .f32 (BitVec.ofNat 32 r)) (FloatOps.ofBits .f32 0x3C23D70A#32)

theorem times_apply (b : Fin 32) (r : Fin 8192) : times (ix2 b r) = tm r.val := by
  unfold times
  refine (broadcastInDim_apply _ _ _ _ (ix2 0 r) ?_).trans ((broadcastInDim_apply _ _ _ _ (ix1 r) ?_).trans rfl)
  · intro a; match a with | ⟨0, _⟩ => rfl | ⟨1, _⟩ => rfl
  · intro a; match a with | ⟨0, _⟩ => rfl

theorem tail3_apply {α : Type} (u : S32x256x8.Idx → α) (b : Fin 32) (p : Fin 256) (i : Fin 8) :
    broadcastInDim S32x256x8x1 ![0, 1, 2] bcast_S32x256x8_S32x256x8x1_0_1_2 u (ix4 b p i 0) = u (ix3 b p i) := by
  refine broadcastInDim_apply _ _ _ _ (ix3 b p i) ?_
  intro a; match a with | ⟨0, _⟩ => rfl | ⟨1, _⟩ => rfl | ⟨2, _⟩ => rfl

theorem time_apply (ok : Ok a1 a2) (b : Fin 32) (p : Fin 256) (i : Fin 8) : time a1 (ix3 b p i) = tm (rowOf ok b p i).val := by
  refine (gather2_apply _ _ _ _ _ (ix2 b (rowOf ok b p i)) fun a => ?_).trans (times_apply _ _)
  have hb := b.isLt
  have hr := (rowOf ok b p i).isLt
  unfold it
  rw [join2]
  match a with
  | ⟨0, _⟩ =>
    have e : broadcastInDim S32x1x1 ![0] bcast_S32_S32x1x1_0 (iotaInDim S32 32 0) (ix3 b 0 0) = BitVec.ofNat 32 b.val := by
      refine (broadcastInDim_apply _ _ _ _ (ix1 b) ?_).trans rfl
      intro a; match a with | ⟨0, _⟩ => rfl
    rw [show ∀ u v : IVec S32x256x8x1 32, (![u, v] ⟨0, by omega⟩ : IVec S32x256x8x1 32) = u from fun _ _ => rfl, tail3_apply,
      broadcastInDim_apply _ _ _ _ (ix3 b 0 0) (by intro a; match a with | ⟨0, _⟩ => rfl | ⟨1, _⟩ => rfl | ⟨2, _⟩ => rfl),
      neg_apply _ _ _ _ (by rw [e, iota_toNat]; omega), e, toInt_nat _ (by rw [iota_toNat]; omega), iota_toNat]
  | ⟨1, _⟩ =>
    have e := rows_apply ok b p i
    have e' : (rows a1 (ix3 b p i)).toNat < 2 ^ 31 := by rw [e]; show (rowOf ok b p i).val < _; omega
    rw [show ∀ u v : IVec S32x256x8x1 32, (![u, v] ⟨1, by omega⟩ : IVec S32x256x8x1 32) = v from fun _ _ => rfl, tail3_apply, neg_apply _ _ _ _ e', toInt_nat _ e', e]
    rfl

/-- The patch half of the block the first layer reads. -/
theorem block_patch (ok : Ok a1 a2) (a0 : FVec Ideal S32x8192x128 .f32) (b : Fin 32) (p : Fin 256) (i : Fin 8) (j : Fin 16) :
    block a0 a1 a2 (ix3 b p ⟨32 * i.val + j.val, by have := i.isLt; have := j.isLt; omega⟩) = a0 (ix3 b (rowOf ok b p i) (colOf ok b p j)) := by
  have hi := i.isLt
  have hj := j.isLt
  unfold block
  rw [shapeCast_apply _ _ _ (ix4 b p i ⟨j.val, by omega⟩) (by
    rw [Shape.rowMajor_val_four, Shape.rowMajor_val_three]
    show ((b.val * 256 + p.val) * 8 + i.val) * 32 + j.val = (b.val * 256 + p.val) * 256 + (32 * i.val + j.val)
    omega)]
  exact (joinl _ _ b p i j).trans (patch_apply ok a0 b p i j)

/-- The time half. -/
theorem block_time (ok : Ok a1 a2) (a0 : FVec Ideal S32x8192x128 .f32) (b : Fin 32) (p : Fin 256) (i : Fin 8) (j : Fin 16) :
    block a0 a1 a2 (ix3 b p ⟨32 * i.val + 16 + j.val, by have := i.isLt; have := j.isLt; omega⟩) = tm (rowOf ok b p i).val := by
  have hi := i.isLt
  have hj := j.isLt
  unfold block
  rw [shapeCast_apply _ _ _ (ix4 b p i ⟨16 + j.val, by omega⟩) (by
    rw [Shape.rowMajor_val_four, Shape.rowMajor_val_three]
    show ((b.val * 256 + p.val) * 8 + i.val) * 32 + (16 + j.val) = (b.val * 256 + p.val) * 256 + (32 * i.val + 16 + j.val)
    omega)]
  refine (joinr _ _ b p i j).trans ?_
  rw [broadcastInDim_apply _ _ _ _ (ix4 b p i 0) (by intro a; match a with | ⟨0, _⟩ => rfl | ⟨1, _⟩ => rfl | ⟨2, _⟩ => rfl | ⟨3, _⟩ => rfl), tail3_apply]
  exact time_apply ok b p i

end Cert.ReferenceIdeal.Stage
-- ==== Proof.RSum.lean ====
/-
  The reference's layers, as sums.
-/
module

public import proofs.«01_k».proof.Proof.RStage
public import Idealize.ShloMosaic.Lib.Pointwise
public import Idealize.ShloMosaic.Lib.Pipeline.Value

@[expose] public section

noncomputable section

namespace Cert.ReferenceIdeal.Stage

open Cert.ReferenceIdeal.Gen Cert.ReferenceIdeal.Value
open Idealize.ShloMosaic hiding ix1 ix2 ix3 ix4 ix5
open Idealize.ShloMosaic.TcCoe
open ValueIdx (ix1 ix2 ix3 ix4 ix5)

theorem lin_apply (u : FVec Ideal S32x256x256 .f32) (a3 : FVec Ideal S64x256 .f32) (a4 : FVec Ideal S64 .f32) (b : Fin 32) (p : Fin 256) (d : Fin 64) :
    lin u a3 a4 (ix3 b p d) = ((∑ k : Fin 256, u (ix3 b p k) * a3 (ix2 d k)) + a4 (ix1 d) : EReal) := by
  unfold lin
  pointwise
  rfl

theorem out_apply (u : FVec Ideal S32x256x64 .f32) (a5 : FVec Ideal S64x64 .f32) (a6 : FVec Ideal S64 .f32) (b : Fin 32) (p : Fin 256) (d : Fin 64) :
    out u a5 a6 (ix3 b p d) = ((∑ k : Fin 64, u (ix3 b p k) * a5 (ix2 d k)) + a6 (ix1 d) : EReal) := by
  unfold out
  pointwise
  rfl

theorem silu_apply (u : FVec Ideal S32x256x64 .f32) (i : S32x256x64.Idx) : silu u i = (u i * Ideal.logistic (u i) : EReal) := by
  unfold silu
  pointwise
  rfl

end Cert.ReferenceIdeal.Stage
-- ==== Proof.Algebraic.lean ====
/-
  The kernel's result is the reference's, over the extended reals: the first layer's sum, regrouped by patch row, with
  each row's time taken out of the sixteen columns that hold it.
-/
module

public import proofs.«01_k».proof.Proof.KVal
public import proofs.«01_k».proof.Proof.IPre
public import proofs.«01_k».proof.Proof.RVal
public import proofs.«01_k».proof.Proof.RSum

@[expose] public section

noncomputable section

namespace Cert.Proof.Algebraic

open Idealize.ShloMosaic hiding ix1 ix2 ix3 ix4 ix5
open Idealize.ShloMosaic.TcCoe
open Idealize.SL.Sem
open ValueIdx (ix1 ix2 ix3 ix4 ix5)
open Cert.Proof.Range (Ok at2)
open Cert.ReferenceIdeal (Stage.rowOf Stage.colOf)
open Cert.Kernel.Main (pnt)

/-! ## Sums -/

/-- A factor that is a nonnegative real goes out of a sum. -/
theorem mul_sum {ι : Type} (t : ℝ) (ht : 0 ≤ t) (s : Finset ι) (f : ι → EReal) : (∑ j ∈ s, (t : EReal) * f j) = (t : EReal) * ∑ j ∈ s, f j := by
  classical
  induction s using Finset.induction_on with
  | empty => simp
  | insert a s ha ih =>
    rw [Finset.sum_insert ha, Finset.sum_insert ha, ih,
      EReal.left_distrib_of_nonneg_of_ne_top (EReal.coe_nonneg.mpr ht) (EReal.coe_ne_top t)]

/-- A sum over `a * b` numbers, by blocks of `b`. -/
theorem sum_blocks {a b : ℕ} (f : Fin (a * b) → EReal) :
    (∑ k, f k) = ∑ i : Fin a, ∑ j : Fin b, f ⟨b * i.val + j.val, by
      have := i.isLt; have := j.isLt
      calc b * i.val + j.val < b * i.val + b := by omega
        _ = b * (i.val + 1) := by ring
        _ ≤ b * a := Nat.mul_le_mul_left _ (by omega)
        _ = a * b := Nat.mul_comm _ _⟩ := by
  rw [← Fintype.sum_prod_type', ← Fintype.sum_equiv finProdFinEquiv (fun q => f (finProdFinEquiv q)) f (fun _ => rfl)]
  refine Finset.sum_congr rfl fun q _ => congrArg f (Fin.ext ?_)
  simp [finProdFinEquiv, Nat.add_comm]

theorem sum256 (f : Fin 256 → EReal) :
    (∑ k, f k) = ∑ i : Fin 8, ((∑ j : Fin 16, f ⟨32 * i.val + j.val, by have := i.isLt; have := j.isLt; omega⟩)
      + ∑ j : Fin 16, f ⟨32 * i.val + 16 + j.val, by have := i.isLt; have := j.isLt; omega⟩) := by
  refine (sum_blocks (a := 8) (b := 32) f).trans (Finset.sum_congr rfl fun i _ => ?_)
  exact Fin.sum_univ_add (a := 16) (b := 16) (fun j : Fin 32 => f ⟨32 * i.val + j.val, by have := i.isLt; have := j.isLt; omega⟩)

theorem sum136 (f : Fin 136 → EReal) :
    (∑ k, f k) = (∑ i : Fin 8, ∑ j : Fin 16, f ⟨16 * i.val + j.val, by have := i.isLt; have := j.isLt; omega⟩)
      + ∑ i : Fin 8, f ⟨128 + i.val, by have := i.isLt; omega⟩ := by
  refine (Fin.sum_univ_add (a := 128) (b := 8) f).trans (congrArg₂ (· + ·) ?_ rfl)
  exact sum_blocks (a := 8) (b := 16) (fun k : Fin 128 => f ⟨k.val, by have := k.isLt; omega⟩)

/-! ## The two programs -/

variable (m : (ℓ : Loc Cert.Kernel.nD Cert.Kernel.τ Cert.Kernel.sig) → Buf (Elt Ideal) ℓ)
variable (hok : ∀ d, Ok (Cert.Kernel.Main.a1 m d) (Cert.Kernel.Main.a2 m d))

open Cert.Kernel.Main (a0 a1 a2 a3 a4 a5 a6 V3 Xm Zm wcat acc) in
include hok in
/-- The first layers agree before their activation. -/
theorem first (d : Dev Cert.Kernel.nD) (b : Fin 32) (p : Fin 256) (e : Fin 64) :
    acc (Cert.Kernel.Tile.OUT (Xm m d) (Zm m d)) (transpose Cert.Kernel.S136x64 [1, 0] (wcat (a3 m d)) Cert.Kernel.Gen.transposes_S64x136_S136x64_1_0)
        (shapeCast Cert.Kernel.S1x64 (a4 m d) Cert.Kernel.Gen.shapeCasts_S64_S1x64) (pnt b p) e
      = Cert.ReferenceIdeal.Stage.lin (Cert.ReferenceIdeal.Stage.block (a0 m d) (a1 m d) (a2 m d)) (a3 m d) (a4 m d) (ix3 b p e) := by
  rw [Cert.ReferenceIdeal.Stage.lin_apply]
  unfold acc
  rw [shapeCast_apply _ _ _ (ix1 e) (by
    rw [Shape.rowMajor_val_one, Shape.rowMajor_val_two]
    show e.val = 0 * 64 + e.val
    omega)]
  refine congrArg (fun v : EReal => v + _) ?_
  rw [sum256, sum136, ← Finset.sum_add_distrib]
  refine Finset.sum_congr rfl fun i _ => ?_
  refine congrArg₂ (fun v w : EReal => v + w) ?_ ?_
  · refine Finset.sum_congr rfl fun j _ => ?_
    rw [Cert.ReferenceIdeal.Stage.block_patch (hok d),
      Cert.Kernel.Main.out_patch m hok d b p i j (Cert.ReferenceIdeal.Stage.rowOf (hok d) b p i) (Cert.ReferenceIdeal.Stage.colOf (hok d) b p j) rfl rfl,
      transpose_apply _ _ _ _ (ix2 e ⟨16 * i.val + j.val, by have := i.isLt; have := j.isLt; omega⟩) (by
        intro a; match a with | ⟨0, _⟩ => rfl | ⟨1, _⟩ => rfl),
      Cert.Kernel.Main.wcat_patch]
  · obtain ⟨t, ht, et⟩ := Cert.Kernel.Main.tm_val (Cert.ReferenceIdeal.Stage.rowOf (hok d) b p i).val (by
      have := (Cert.ReferenceIdeal.Stage.rowOf (hok d) b p i).isLt; omega)
    rw [Cert.Kernel.Main.out_time m hok d b p i (Cert.ReferenceIdeal.Stage.rowOf (hok d) b p i) rfl,
      transpose_apply _ _ _ _ (ix2 e ⟨128 + i.val, by have := i.isLt; omega⟩) (by
        intro a; match a with | ⟨0, _⟩ => rfl | ⟨1, _⟩ => rfl),
      Cert.Kernel.Main.wcat_time, et, ← mul_sum t ht]
    refine Finset.sum_congr rfl fun j _ => ?_
    rw [Cert.ReferenceIdeal.Stage.block_time (hok d)]
    exact congrArg (fun v : EReal => v * _) et.symm

open Cert.Kernel.Main (a0 a1 a2 a3 a4 a5 a6) in
include hok in
/-- The results agree. -/
theorem result (d : Dev Cert.Kernel.nD) :
    Cert.Kernel.Main.V4 m d (Cert.Kernel.Main.dR Cert.Kernel.main_v15)
      = Cert.ReferenceIdeal.Stage.out (Cert.ReferenceIdeal.Stage.silu (Cert.ReferenceIdeal.Stage.lin
          (Cert.ReferenceIdeal.Stage.block (a0 m d) (a1 m d) (a2 m d)) (a3 m d) (a4 m d))) (a5 m d) (a6 m d) := by
  rw [Cert.Kernel.Main.V4_v15]
  show Cert.Kernel.Gen.k1_pay1 _ _ _ _ _ = _
  have e4 := Cert.Kernel.Main.V3_v4 m d
  have e11 := Cert.Kernel.Main.V3_v11 m d
  have e12 := Cert.Kernel.Main.V3_v12 m d
  have e13 := Cert.Kernel.Main.V3_v13 m d
  have e14 := Cert.Kernel.Main.V3_v14 m d
  unfold Cert.Kernel.Tc.toV
  rw [e4, e11, e12, e13, e14]
  funext x
  obtain ⟨b, p, e, rfl⟩ : ∃ (b : Fin 32) (p : Fin 256) (e : Fin 64), x = ix3 b p e := ⟨x 0, x 1, x 2, ValueIdx.eq_ix3 x⟩
  rw [Cert.Kernel.Main.pay_apply, Cert.ReferenceIdeal.Stage.out_apply]
  refine congrArg₂ (fun v w : EReal => v + w) (Finset.sum_congr rfl fun k _ => ?_) ?_
  · rw [first m hok, Cert.ReferenceIdeal.Stage.silu_apply,
      transpose_apply _ _ _ _ (ix2 e k) (by intro a; match a with | ⟨0, _⟩ => rfl | ⟨1, _⟩ => rfl)]
  · refine shapeCast_apply _ _ _ _ ?_
    rw [Shape.rowMajor_val_one, Shape.rowMajor_val_two]
    show e.val = 0 * 64 + e.val
    omega

/-- The two runs give one result. -/
theorem algebraic [Cert.Pre_in_range.Facts] : Cert.algebraic_KernelIdeal_ReferenceIdeal := by
  intro m g m' g' hm hargs
  have hok := Cert.KernelIdeal.ok m hm
  refine ⟨fun c => Cert.Kernel.Main.V4 m c (Cert.Kernel.Main.dR Cert.Kernel.main_v15), ?_, ?_⟩
  · exact Cert.KernelIdeal.of_run ((θ_run (Cert.Kernel.defs (F := Ideal)) (Cert.Kernel.threads (F := Ideal)) ⟨m, fun _ => 0, g⟩).mono
      (fun r h c => ⟨h.1 c _ (Cert.Kernel.Main.mem_R3 _ (by decide) (by decide) (by decide)),
        Cert.Kernel.Main.kept m h c _ (by decide) (by decide) (by decide) (by decide) (by decide),
        Cert.Kernel.Main.kept m h c _ (by decide) (by decide) (by decide) (by decide) (by decide),
        Cert.Kernel.Main.kept m h c _ (by decide) (by decide) (by decide) (by decide) (by decide),
        Cert.Kernel.Main.kept m h c _ (by decide) (by decide) (by decide) (by decide) (by decide),
        Cert.Kernel.Main.kept m h c _ (by decide) (by decide) (by decide) (by decide) (by decide),
        Cert.Kernel.Main.kept m h c _ (by decide) (by decide) (by decide) (by decide) (by decide),
        Cert.Kernel.Main.kept m h c _ (by decide) (by decide) (by decide) (by decide) (by decide)⟩)
      (Cert.Kernel.Main.run m g hok))
  · refine (θ_run (Cert.ReferenceIdeal.defs (F := Ideal)) (onTc (τ := Cert.ReferenceIdeal.τ) (Cert.ReferenceIdeal.main (F := Ideal))) ⟨m', fun _ => 0, g'⟩).mono
      (fun r h c => ⟨(h c).1.trans ?_, (h c).2⟩) (Cert.ReferenceIdeal.Value.run m' g')
    obtain ⟨e0, e1, e2, e3, e4, e5, e6⟩ := hargs c
    refine (Cert.ReferenceIdeal.Stage.res_eq m' c).trans ?_
    rw [e0, e1, e2, e3, e4, e5, e6]
    exact (result m hok c).symm

end Cert.Proof.Algebraic
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.KPre
public import proofs.«01_k».proof.Proof.IPre
public import proofs.«01_k».proof.Proof.RFrame
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.ReferenceIdeal.pre_facts,
    @Cert.Kernel.frame Cert.ReferenceIdeal.pre_facts, @Cert.KernelIdeal.frame Cert.ReferenceIdeal.pre_facts,
    Cert.ReferenceIdeal.frame, fun m g _ => Cert.ReferenceIdeal.frame m g trivial, trivial, @Cert.Proof.Algebraic.algebraic Cert.ReferenceIdeal.pre_facts⟩

end Cert.Proof

end
